-- ==== Defs.lean ====
def Pre_Kernel [hPre_segments_fit : Cert.Pre_segments_fit.Facts] (m : (ℓ : Loc Cert.Kernel.nD Cert.Kernel.τ Cert.Kernel.sig) → Buf (Elt Bits) ℓ) : Prop :=
  ∀ c : Dev Cert.Kernel.nD,
    (Cert.Pre_segments_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).1 = (fun _ => 1#1)
    ∧ (Cert.Pre_segments_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.1 = (fun _ => 1#1)
    ∧ (Cert.Pre_segments_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.1 = (fun _ => 1#1)
    ∧ (Cert.Pre_segments_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))).2.2.2 = (fun _ => 1#1)

def Pre_KernelIdeal [hPre_segments_fit : Cert.Pre_segments_fit.Facts] (m : (ℓ : Loc Cert.KernelIdeal.nD Cert.KernelIdeal.τ Cert.KernelIdeal.sig) → Buf (Elt Ideal) ℓ) : Prop :=
  ∀ c : Dev Cert.KernelIdeal.nD,
    (Cert.Pre_segments_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_segments_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_segments_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_segments_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments_fit [hPre_segments_fit : Cert.Pre_segments_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_segments_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_segments_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_segments_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2 = (fun _ => 1#1)

def quiescent_Kernel [hKernel : Cert.Kernel.Facts] [hPre_segments_fit : Cert.Pre_segments_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] [hPre_segments_fit : Cert.Pre_segments_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_segments_fit [hReferenceIdeal : Cert.ReferenceIdeal.Facts] [hPre_segments_fit : Cert.Pre_segments_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_segments_fit : Cert.Pre_segments_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_segments_fit : Cert.Pre_segments_fit.Facts),
    quiescent_Kernel (hKernel := hKernel) (hPre_segments_fit := hPre_segments_fit)
    ∧ quiescent_KernelIdeal (hKernelIdeal := hKernelIdeal) (hPre_segments_fit := hPre_segments_fit)
    ∧ quiescent_ReferenceIdeal (hReferenceIdeal := hReferenceIdeal)
    ∧ quiescent_ReferenceIdeal_pre_segments_fit (hReferenceIdeal := hReferenceIdeal) (hPre_segments_fit := hPre_segments_fit)
    ∧ preserves_Kernel_KernelIdeal
    ∧ algebraic_KernelIdeal_ReferenceIdeal (hKernelIdeal := hKernelIdeal) (hReferenceIdeal := hReferenceIdeal) (hPre_segments_fit := hPre_segments_fit)
-- ==== Pre_segments_fit.lean ====
abbrev S2048x4x256 : Shape := ⟨3, ![2048, 4, 256]⟩
abbrev S2x32768 : Shape := ⟨2, ![2, 32768]⟩
abbrev S32768x4 : Shape := ⟨2, ![32768, 4]⟩
abbrev S2048x2 : Shape := ⟨2, ![2048, 2]⟩
abbrev S128x512 : Shape := ⟨2, ![128, 512]⟩
abbrev S128 : Shape := ⟨1, ![128]⟩
abbrev S384x128 : Shape := ⟨2, ![384, 128]⟩
abbrev S384 : Shape := ⟨1, ![384]⟩
abbrev S2x128 : Shape := ⟨2, ![2, 128]⟩
abbrev S2 : Shape := ⟨1, ![2]⟩
abbrev S2048x1 : Shape := ⟨2, ![2048, 1]⟩
abbrev S2048 : Shape := ⟨1, ![2048]⟩
abbrev S_ : Shape := ⟨0, ![]⟩
abbrev S1 : Shape := ⟨1, ![1]⟩
abbrev S2047 : Shape := ⟨1, ![2047]⟩
abbrev S1536 : Shape := ⟨1, ![1536]⟩

class Facts : Prop where
  slices_S2048x2_S2048x1_0_1 : S2048x2.Slices ![0, 1] S2048x1
  shapeCasts_S2048x1_S2048 : S2048x1.ShapeCasts S2048
  bcast_S_S2048 : S_.BroadcastsInDim S2048 (![] : Fin 0 → Fin S2048.rank)
  slices_S2048_S1_2047 : S2048.Slices ![2047] S1
  bcast_S_S1 : S_.BroadcastsInDim S1 (![] : Fin 0 → Fin S1.rank)
  slices_S2048_S2047_1 : S2048.Slices ![1] S2047
  slices_S2048_S2047_0 : S2048.Slices ![0] S2047
  slices_S2048_S1536_512 : S2048.Slices ![512] S1536
  slices_S2048_S1536_0 : S2048.Slices ![0] S1536

variable [Facts]

def fn {F : FTy → Type} [FloatOps F] (main_arg0 : FVec F S2048x4x256 .f32) (main_arg1 : IVec S2x32768 32) (main_arg2 : FVec F S32768x4 .f32) (main_arg3 : IVec S2048x2 32) (main_arg4 : FVec F S128x512 .f32) (main_arg5 : FVec F S128 .f32) (main_arg6 : FVec F S128 .f32) (main_arg7 : FVec F S128 .f32) (main_arg8 : FVec F S384x128 .f32) (main_arg9 : FVec F S384x128 .f32) (main_arg10 : FVec F S384 .f32) (main_arg11 : FVec F S384 .f32) (main_arg12 : FVec F S384x128 .f32) (main_arg13 : FVec F S384x128 .f32) (main_arg14 : FVec F S384 .f32) (main_arg15 : FVec F S384 .f32) (main_arg16 : FVec F S2x128 .f32) (main_arg17 : FVec F S2 .f32) : IVec S2048 1 × IVec S1 1 × IVec S2047 1 × IVec S1536 1 :=
  let main_v0 : IVec S2048x1 32 := (extractStridedSlice S2048x1 ![0, 1] · slices_S2048x2_S2048x1_0_1) main_arg3
  let main_v1 : IVec S2048 32 := shapeCast S2048 main_v0 shapeCasts_S2048x1_S2048
  let main_c : IVec S_ 32 := constantI S_ 32 0#32
  let main_v2 : IVec S2048 32 := broadcastInDim S2048 ![] bcast_S_S2048 main_c
  let main_v3 : IVec S2048 1 := cmpi .sge main_v1 main_v2
  let main_v4 : IVec S1 32 := (extractStridedSlice S1 ![2047] · slices_S2048_S1_2047) main_v1
  let main_c_0 : IVec S_ 32 := constantI S_ 32 7#32
  let main_v5 : IVec S1 32 := broadcastInDim S1 ![] bcast_S_S1 main_c_0
  let main_v6 : IVec S1 1 := cmpi .eq main_v4 main_v5
  let main_v7 : IVec S2047 32 := (extractStridedSlice S2047 ![1] · slices_S2048_S2047_1) main_v1
  let main_v8 : IVec S2047 32 := (extractStridedSlice S2047 ![0] · slices_S2048_S2047_0) main_v1
  let main_v9 : IVec S2047 1 := cmpi .sge main_v7 main_v8
  let main_v10 : IVec S1536 32 := (extractStridedSlice S1536 ![512] · slices_S2048_S1536_512) main_v1
  let main_v11 : IVec S1536 32 := (extractStridedSlice S1536 ![0] · slices_S2048_S1536_0) main_v1
  let main_v12 : IVec S1536 1 := cmpi .sgt main_v10 main_v11
  (main_v3, main_v6, main_v9, main_v12)
-- ==== Kernel.lean ====
abbrev S2048x4x256 : Shape := ⟨3, ![2048, 4, 256]⟩
abbrev S2x32768 : Shape := ⟨2, ![2, 32768]⟩
abbrev S32768x4 : Shape := ⟨2, ![32768, 4]⟩
abbrev S2048x2 : Shape := ⟨2, ![2048, 2]⟩
abbrev S128x512 : Shape := ⟨2, ![128, 512]⟩
abbrev S128 : Shape := ⟨1, ![128]⟩
abbrev S384x128 : Shape := ⟨2, ![384, 128]⟩
abbrev S384 : Shape := ⟨1, ![384]⟩
abbrev S2x128 : Shape := ⟨2, ![2, 128]⟩
abbrev S2 : Shape := ⟨1, ![2]⟩
abbrev S1922 : Shape := ⟨1, ![1922]⟩
abbrev S1x1922 : Shape := ⟨2, ![1, 1922]⟩
abbrev S2048x1 : Shape := ⟨2, ![2048, 1]⟩
abbrev S2048 : Shape := ⟨1, ![2048]⟩
abbrev S2560x384 : Shape := ⟨2, ![2560, 384]⟩
abbrev S528x8x384 : Shape := ⟨3, ![528, 8, 384]⟩
abbrev S528x8x128 : Shape := ⟨3, ![528, 8, 128]⟩
abbrev S2576x128 : Shape := ⟨2, ![2576, 128]⟩
abbrev S128x384 : Shape := ⟨2, ![128, 384]⟩
abbrev S1 : Shape := ⟨1, ![1]⟩
abbrev S2048x1x256 : Shape := ⟨3, ![2048, 1, 256]⟩
abbrev S2048x256 : Shape := ⟨2, ![2048, 256]⟩
abbrev S1x128 : Shape := ⟨2, ![1, 128]⟩
abbrev S1x384 : Shape := ⟨2, ![1, 384]⟩
abbrev S1x2 : Shape := ⟨2, ![1, 2]⟩
abbrev S128x256 : Shape := ⟨2, ![128, 256]⟩
abbrev S2048x128 : Shape := ⟨2, ![2048, 128]⟩
abbrev S2048x384 : Shape := ⟨2, ![2048, 384]⟩
abbrev S512x384 : Shape := ⟨2, ![512, 384]⟩
abbrev S520x384 : Shape := ⟨2, ![520, 384]⟩
abbrev S520x1x384 : Shape := ⟨3, ![520, 1, 384]⟩
abbrev S1x1 : Shape := ⟨2, ![1, 1]⟩
abbrev S8x1 : Shape := ⟨2, ![8, 1]⟩
abbrev S8x128 : Shape := ⟨2, ![8, 128]⟩
abbrev S1x8x384 : Shape := ⟨3, ![1, 8, 384]⟩
abbrev S8x384 : Shape := ⟨2, ![8, 384]⟩
abbrev S1x8x128 : Shape := ⟨3, ![1, 8, 128]⟩
abbrev S520x1 : Shape := ⟨2, ![520, 1]⟩
abbrev S520x128 : Shape := ⟨2, ![520, 128]⟩
abbrev S520x1x128 : Shape := ⟨3, ![520, 1, 128]⟩

abbrev nBuf : Space → Nat
  | .hbm => 23
  | .vmem => 16
  | .smem => 1
  | _ => 0

abbrev bufTy : (tb : Table) → Fin (tcTables nBuf tb) → BufTy
  | .hbm, ⟨0, _⟩ => ⟨S2048x4x256, .f32⟩
  | .hbm, ⟨1, _⟩ => ⟨S2x32768, .i32⟩
  | .hbm, ⟨2, _⟩ => ⟨S32768x4, .f32⟩
  | .hbm, ⟨3, _⟩ => ⟨S2048x2, .i32⟩
  | .hbm, ⟨4, _⟩ => ⟨S128x512, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S384x128, .f32⟩
  | .hbm, ⟨9, _⟩ => ⟨S384x128, .f32⟩
  | .hbm, ⟨10, _⟩ => ⟨S384, .f32⟩
  | .hbm, ⟨11, _⟩ => ⟨S384, .f32⟩
  | .hbm, ⟨12, _⟩ => ⟨S384x128, .f32⟩
  | .hbm, ⟨13, _⟩ => ⟨S384x128, .f32⟩
  | .hbm, ⟨14, _⟩ => ⟨S384, .f32⟩
  | .hbm, ⟨15, _⟩ => ⟨S384, .f32⟩
  | .hbm, ⟨16, _⟩ => ⟨S2x128, .f32⟩
  | .hbm, ⟨17, _⟩ => ⟨S2, .f32⟩
  | .hbm, ⟨18, _⟩ => ⟨S1922, .f32⟩
  | .hbm, ⟨19, _⟩ => ⟨S1x1922, .f32⟩
  | .hbm, ⟨20, _⟩ => ⟨S2048x1, .i32⟩
  | .hbm, ⟨21, _⟩ => ⟨S2048, .i32⟩
  | .hbm, ⟨22, _⟩ => ⟨S2048x2, .f32⟩
  | .local _ .vmem, ⟨0, _⟩ => ⟨S2048x4x256, .f32⟩
  | .local _ .vmem, ⟨1, _⟩ => ⟨S1x1922, .f32⟩
  | .local _ .vmem, ⟨2, _⟩ => ⟨S128x512, .f32⟩
  | .local _ .vmem, ⟨3, _⟩ => ⟨S384x128, .f32⟩
  | .local _ .vmem, ⟨4, _⟩ => ⟨S384x128, .f32⟩
  | .local _ .vmem, ⟨5, _⟩ => ⟨S384x128, .f32⟩
  | .local _ .vmem, ⟨6, _⟩ => ⟨S384x128, .f32⟩
  | .local _ .vmem, ⟨7, _⟩ => ⟨S2x128, .f32⟩
  | .local _ .vmem, ⟨8, _⟩ => ⟨S2048x2, .f32⟩
  | .local _ .vmem, ⟨9, _⟩ => ⟨S2560x384, .f32⟩
  | .local _ .vmem, ⟨10, _⟩ => ⟨S528x8x384, .f32⟩
  | .local _ .vmem, ⟨11, _⟩ => ⟨S528x8x128, .f32⟩
  | .local _ .vmem, ⟨12, _⟩ => ⟨S2576x128, .f32⟩
  | .local _ .vmem, ⟨13, _⟩ => ⟨S128x384, .bf16⟩
  | .local _ .vmem, ⟨14, _⟩ => ⟨S128x384, .bf16⟩
  | .local _ .vmem, ⟨15, _⟩ => ⟨S128x384, .bf16⟩
  | .local _ .smem, ⟨0, _⟩ => ⟨S2048, .i32⟩
  | _, _ => ⟨S2048x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

def k0_off1 : Fin 1 → Nat :=
  let c0_i32 : BitVec 32 := 0#32
  let c2048_i32 : BitVec 32 := 2048#32
  let v0 : BitVec 32 := Scalar.addi c0_i32 c2048_i32
  let c1_i32 : BitVec 32 := 1#32
  let v2 : BitVec 32 := Scalar.subi v0 c1_i32
  let v3 : Index := Scalar.indexCast v2
  ![v3.toNat]
def k0_off2 (v4 : BitVec 32) : Fin 1 → Nat :=
  let c0_i32 : BitVec 32 := 0#32
  let c2048_i32 : BitVec 32 := 2048#32
  let v0 : BitVec 32 := Scalar.addi c0_i32 c2048_i32
  let c2048_i32_0 : BitVec 32 := 2048#32
  let v1 : BitVec 1 := Scalar.cmpi .sle v0 c2048_i32_0
  let c1_i32_1 : BitVec 32 := 1#32
  let v5 : BitVec 1 := Scalar.cmpi .slt v4 c1_i32_1
  let v6 : BitVec 1 := Scalar.andi v1 v5
  let c0_i32_2 : BitVec 32 := 0#32
  let v7 : BitVec 32 := Scalar.select v6 v0 c0_i32_2
  let c1024_i32 : BitVec 32 := 1024#32
  let v8 : BitVec 32 := Scalar.addi v7 c1024_i32
  let c1_i32_4 : BitVec 32 := 1#32
  let v10 : BitVec 32 := Scalar.subi v8 c1_i32_4
  let v11 : Index := Scalar.indexCast v10
  ![v11.toNat]

def k0_chk1 (v4 : BitVec 32) : Prop :=
  (∀ a, (k0_off2 v4) a + S1.size a ≤ S2048.size a)
theorem k0_off2_inb : ∀ (v4 : BitVec 32) (k0_hw1 : k0_chk1 v4), ∀ a, (k0_off2 v4) a + S1.size a ≤ S2048.size a := fun v4 k0_hw1 => k0_hw1

def k0_off3 (v4 : BitVec 32) (v12 : BitVec 32) : Fin 1 → Nat :=
  let c0_i32 : BitVec 32 := 0#32
  let c2048_i32 : BitVec 32 := 2048#32
  let v0 : BitVec 32 := Scalar.addi c0_i32 c2048_i32
  let c2048_i32_0 : BitVec 32 := 2048#32
  let v1 : BitVec 1 := Scalar.cmpi .sle v0 c2048_i32_0
  let c1_i32_1 : BitVec 32 := 1#32
  let v5 : BitVec 1 := Scalar.cmpi .slt v4 c1_i32_1
  let v6 : BitVec 1 := Scalar.andi v1 v5
  let c0_i32_2 : BitVec 32 := 0#32
  let v7 : BitVec 32 := Scalar.select v6 v0 c0_i32_2
  let c1024_i32 : BitVec 32 := 1024#32
  let v8 : BitVec 32 := Scalar.addi v7 c1024_i32
  let c2048_i32_3 : BitVec 32 := 2048#32
  let v9 : BitVec 1 := Scalar.cmpi .sle v8 c2048_i32_3
  let c1_i32_5 : BitVec 32 := 1#32
  let v13 : BitVec 1 := Scalar.cmpi .slt v12 c1_i32_5
  let v14 : BitVec 1 := Scalar.andi v9 v13
  let v15 : BitVec 32 := Scalar.select v14 v8 v7
  let c512_i32 : BitVec 32 := 512#32
  let v16 : BitVec 32 := Scalar.addi v15 c512_i32
  let c1_i32_7 : BitVec 32 := 1#32
  let v18 : BitVec 32 := Scalar.subi v16 c1_i32_7
  let v19 : Index := Scalar.indexCast v18
  ![v19.toNat]

def k0_chk2 (v4 : BitVec 32) (v12 : BitVec 32) : Prop :=
  (∀ a, (k0_off3 v4 v12) a + S1.size a ≤ S2048.size a)
theorem k0_off3_inb : ∀ (v4 : BitVec 32) (v12 : BitVec 32) (k0_hw2 : k0_chk2 v4 v12), ∀ a, (k0_off3 v4 v12) a + S1.size a ≤ S2048.size a := fun v4 v12 k0_hw2 => k0_hw2

def k0_off4 (v4 : BitVec 32) (v12 : BitVec 32) (v20 : BitVec 32) : Fin 1 → Nat :=
  let c0_i32 : BitVec 32 := 0#32
  let c2048_i32 : BitVec 32 := 2048#32
  let v0 : BitVec 32 := Scalar.addi c0_i32 c2048_i32
  let c2048_i32_0 : BitVec 32 := 2048#32
  let v1 : BitVec 1 := Scalar.cmpi .sle v0 c2048_i32_0
  let c1_i32_1 : BitVec 32 := 1#32
  let v5 : BitVec 1 := Scalar.cmpi .slt v4 c1_i32_1
  let v6 : BitVec 1 := Scalar.andi v1 v5
  let c0_i32_2 : BitVec 32 := 0#32
  let v7 : BitVec 32 := Scalar.select v6 v0 c0_i32_2
  let c1024_i32 : BitVec 32 := 1024#32
  let v8 : BitVec 32 := Scalar.addi v7 c1024_i32
  let c2048_i32_3 : BitVec 32 := 2048#32
  let v9 : BitVec 1 := Scalar.cmpi .sle v8 c2048_i32_3
  let c1_i32_5 : BitVec 32 := 1#32
  let v13 : BitVec 1 := Scalar.cmpi .slt v12 c1_i32_5
  let v14 : BitVec 1 := Scalar.andi v9 v13
  let v15 : BitVec 32 := Scalar.select v14 v8 v7
  let c512_i32 : BitVec 32 := 512#32
  let v16 : BitVec 32 := Scalar.addi v15 c512_i32
  let c2048_i32_6 : BitVec 32 := 2048#32
  let v17 : BitVec 1 := Scalar.cmpi .sle v16 c2048_i32_6
  let c1_i32_8 : BitVec 32 := 1#32
  let v21 : BitVec 1 := Scalar.cmpi .slt v20 c1_i32_8
  let v22 : BitVec 1 := Scalar.andi v17 v21
  let v23 : BitVec 32 := Scalar.select v22 v16 v15
  let c256_i32 : BitVec 32 := 256#32
  let v24 : BitVec 32 := Scalar.addi v23 c256_i32
  let c1_i32_10 : BitVec 32 := 1#32
  let v26 : BitVec 32 := Scalar.subi v24 c1_i32_10
  let v27 : Index := Scalar.indexCast v26
  ![v27.toNat]

def k0_chk3 (v4 : BitVec 32) (v12 : BitVec 32) (v20 : BitVec 32) : Prop :=
  (∀ a, (k0_off4 v4 v12 v20) a + S1.size a ≤ S2048.size a)
theorem k0_off4_inb : ∀ (v4 : BitVec 32) (v12 : BitVec 32) (v20 : BitVec 32) (k0_hw3 : k0_chk3 v4 v12 v20), ∀ a, (k0_off4 v4 v12 v20) a + S1.size a ≤ S2048.size a := fun v4 v12 v20 k0_hw3 => k0_hw3

def k0_off5 (v4 : BitVec 32) (v12 : BitVec 32) (v20 : BitVec 32) (v28 : BitVec 32) : Fin 1 → Nat :=
  let c0_i32 : BitVec 32 := 0#32
  let c2048_i32 : BitVec 32 := 2048#32
  let v0 : BitVec 32 := Scalar.addi c0_i32 c2048_i32
  let c2048_i32_0 : BitVec 32 := 2048#32
  let v1 : BitVec 1 := Scalar.cmpi .sle v0 c2048_i32_0
  let c1_i32_1 : BitVec 32 := 1#32
  let v5 : BitVec 1 := Scalar.cmpi .slt v4 c1_i32_1
  let v6 : BitVec 1 := Scalar.andi v1 v5
  let c0_i32_2 : BitVec 32 := 0#32
  let v7 : BitVec 32 := Scalar.select v6 v0 c0_i32_2
  let c1024_i32 : BitVec 32 := 1024#32
  let v8 : BitVec 32 := Scalar.addi v7 c1024_i32
  let c2048_i32_3 : BitVec 32 := 2048#32
  let v9 : BitVec 1 := Scalar.cmpi .sle v8 c2048_i32_3
  let c1_i32_5 : BitVec 32 := 1#32
  let v13 : BitVec 1 := Scalar.cmpi .slt v12 c1_i32_5
  let v14 : BitVec 1 := Scalar.andi v9 v13
  let v15 : BitVec 32 := Scalar.select v14 v8 v7
  let c512_i32 : BitVec 32 := 512#32
  let v16 : BitVec 32 := Scalar.addi v15 c512_i32
  let c2048_i32_6 : BitVec 32 := 2048#32
  let v17 : BitVec 1 := Scalar.cmpi .sle v16 c2048_i32_6
  let c1_i32_8 : BitVec 32 := 1#32
  let v21 : BitVec 1 := Scalar.cmpi .slt v20 c1_i32_8
  let v22 : BitVec 1 := Scalar.andi v17 v21
  let v23 : BitVec 32 := Scalar.select v22 v16 v15
  let c256_i32 : BitVec 32 := 256#32
  let v24 : BitVec 32 := Scalar.addi v23 c256_i32
  let c2048_i32_9 : BitVec 32 := 2048#32
  let v25 : BitVec 1 := Scalar.cmpi .sle v24 c2048_i32_9
  let c1_i32_11 : BitVec 32 := 1#32
  let v29 : BitVec 1 := Scalar.cmpi .slt v28 c1_i32_11
  let v30 : BitVec 1 := Scalar.andi v25 v29
  let v31 : BitVec 32 := Scalar.select v30 v24 v23
  let c128_i32 : BitVec 32 := 128#32
  let v32 : BitVec 32 := Scalar.addi v31 c128_i32
  let c1_i32_13 : BitVec 32 := 1#32
  let v34 : BitVec 32 := Scalar.subi v32 c1_i32_13
  let v35 : Index := Scalar.indexCast v34
  ![v35.toNat]

def k0_chk4 (v4 : BitVec 32) (v12 : BitVec 32) (v20 : BitVec 32) (v28 : BitVec 32) : Prop :=
  (∀ a, (k0_off5 v4 v12 v20 v28) a + S1.size a ≤ S2048.size a)
theorem k0_off5_inb : ∀ (v4 : BitVec 32) (v12 : BitVec 32) (v20 : BitVec 32) (v28 : BitVec 32) (k0_hw4 : k0_chk4 v4 v12 v20 v28), ∀ a, (k0_off5 v4 v12 v20 v28) a + S1.size a ≤ S2048.size a := fun v4 v12 v20 v28 k0_hw4 => k0_hw4

def k0_off6 (v4 : BitVec 32) (v12 : BitVec 32) (v20 : BitVec 32) (v28 : BitVec 32) (v36 : BitVec 32) : Fin 1 → Nat :=
  let c0_i32 : BitVec 32 := 0#32
  let c2048_i32 : BitVec 32 := 2048#32
  let v0 : BitVec 32 := Scalar.addi c0_i32 c2048_i32
  let c2048_i32_0 : BitVec 32 := 2048#32
  let v1 : BitVec 1 := Scalar.cmpi .sle v0 c2048_i32_0
  let c1_i32_1 : BitVec 32 := 1#32
  let v5 : BitVec 1 := Scalar.cmpi .slt v4 c1_i32_1
  let v6 : BitVec 1 := Scalar.andi v1 v5
  let c0_i32_2 : BitVec 32 := 0#32
  let v7 : BitVec 32 := Scalar.select v6 v0 c0_i32_2
  let c1024_i32 : BitVec 32 := 1024#32
  let v8 : BitVec 32 := Scalar.addi v7 c1024_i32
  let c2048_i32_3 : BitVec 32 := 2048#32
  let v9 : BitVec 1 := Scalar.cmpi .sle v8 c2048_i32_3
  let c1_i32_5 : BitVec 32 := 1#32
  let v13 : BitVec 1 := Scalar.cmpi .slt v12 c1_i32_5
  let v14 : BitVec 1 := Scalar.andi v9 v13
  let v15 : BitVec 32 := Scalar.select v14 v8 v7
  let c512_i32 : BitVec 32 := 512#32
  let v16 : BitVec 32 := Scalar.addi v15 c512_i32
  let c2048_i32_6 : BitVec 32 := 2048#32
  let v17 : BitVec 1 := Scalar.cmpi .sle v16 c2048_i32_6
  let c1_i32_8 : BitVec 32 := 1#32
  let v21 : BitVec 1 := Scalar.cmpi .slt v20 c1_i32_8
  let v22 : BitVec 1 := Scalar.andi v17 v21
  let v23 : BitVec 32 := Scalar.select v22 v16 v15
  let c256_i32 : BitVec 32 := 256#32
  let v24 : BitVec 32 := Scalar.addi v23 c256_i32
  let c2048_i32_9 : BitVec 32 := 2048#32
  let v25 : BitVec 1 := Scalar.cmpi .sle v24 c2048_i32_9
  let c1_i32_11 : BitVec 32 := 1#32
  let v29 : BitVec 1 := Scalar.cmpi .slt v28 c1_i32_11
  let v30 : BitVec 1 := Scalar.andi v25 v29
  let v31 : BitVec 32 := Scalar.select v30 v24 v23
  let c128_i32 : BitVec 32 := 128#32
  let v32 : BitVec 32 := Scalar.addi v31 c128_i32
  let c2048_i32_12 : BitVec 32 := 2048#32
  let v33 : BitVec 1 := Scalar.cmpi .sle v32 c2048_i32_12
  let c1_i32_14 : BitVec 32 := 1#32
  let v37 : BitVec 1 := Scalar.cmpi .slt v36 c1_i32_14
  let v38 : BitVec 1 := Scalar.andi v33 v37
  let v39 : BitVec 32 := Scalar.select v38 v32 v31
  let c64_i32 : BitVec 32 := 64#32
  let v40 : BitVec 32 := Scalar.addi v39 c64_i32
  let c1_i32_16 : BitVec 32 := 1#32
  let v42 : BitVec 32 := Scalar.subi v40 c1_i32_16
  let v43 : Index := Scalar.indexCast v42
  ![v43.toNat]

def k0_chk5 (v4 : BitVec 32) (v12 : BitVec 32) (v20 : BitVec 32) (v28 : BitVec 32) (v36 : BitVec 32) : Prop :=
  (∀ a, (k0_off6 v4 v12 v20 v28 v36) a + S1.size a ≤ S2048.size a)
theorem k0_off6_inb : ∀ (v4 : BitVec 32) (v12 : BitVec 32) (v20 : BitVec 32) (v28 : BitVec 32) (v36 : BitVec 32) (k0_hw5 : k0_chk5 v4 v12 v20 v28 v36), ∀ a, (k0_off6 v4 v12 v20 v28 v36) a + S1.size a ≤ S2048.size a := fun v4 v12 v20 v28 v36 k0_hw5 => k0_hw5

def k0_off7 (v4 : BitVec 32) (v12 : BitVec 32) (v20 : BitVec 32) (v28 : BitVec 32) (v36 : BitVec 32) (v44 : BitVec 32) : Fin 1 → Nat :=
  let c0_i32 : BitVec 32 := 0#32
  let c2048_i32 : BitVec 32 := 2048#32
  let v0 : BitVec 32 := Scalar.addi c0_i32 c2048_i32
  let c2048_i32_0 : BitVec 32 := 2048#32
  let v1 : BitVec 1 := Scalar.cmpi .sle v0 c2048_i32_0
  let c1_i32_1 : BitVec 32 := 1#32
  let v5 : BitVec 1 := Scalar.cmpi .slt v4 c1_i32_1
  let v6 : BitVec 1 := Scalar.andi v1 v5
  let c0_i32_2 : BitVec 32 := 0#32
  let v7 : BitVec 32 := Scalar.select v6 v0 c0_i32_2
  let c1024_i32 : BitVec 32 := 1024#32
  let v8 : BitVec 32 := Scalar.addi v7 c1024_i32
  let c2048_i32_3 : BitVec 32 := 2048#32
  let v9 : BitVec 1 := Scalar.cmpi .sle v8 c2048_i32_3
  let c1_i32_5 : BitVec 32 := 1#32
  let v13 : BitVec 1 := Scalar.cmpi .slt v12 c1_i32_5
  let v14 : BitVec 1 := Scalar.andi v9 v13
  let v15 : BitVec 32 := Scalar.select v14 v8 v7
  let c512_i32 : BitVec 32 := 512#32
  let v16 : BitVec 32 := Scalar.addi v15 c512_i32
  let c2048_i32_6 : BitVec 32 := 2048#32
  let v17 : BitVec 1 := Scalar.cmpi .sle v16 c2048_i32_6
  let c1_i32_8 : BitVec 32 := 1#32
  let v21 : BitVec 1 := Scalar.cmpi .slt v20 c1_i32_8
  let v22 : BitVec 1 := Scalar.andi v17 v21
  let v23 : BitVec 32 := Scalar.select v22 v16 v15
  let c256_i32 : BitVec 32 := 256#32
  let v24 : BitVec 32 := Scalar.addi v23 c256_i32
  let c2048_i32_9 : BitVec 32 := 2048#32
  let v25 : BitVec 1 := Scalar.cmpi .sle v24 c2048_i32_9
  let c1_i32_11 : BitVec 32 := 1#32
  let v29 : BitVec 1 := Scalar.cmpi .slt v28 c1_i32_11
  let v30 : BitVec 1 := Scalar.andi v25 v29
  let v31 : BitVec 32 := Scalar.select v30 v24 v23
  let c128_i32 : BitVec 32 := 128#32
  let v32 : BitVec 32 := Scalar.addi v31 c128_i32
  let c2048_i32_12 : BitVec 32 := 2048#32
  let v33 : BitVec 1 := Scalar.cmpi .sle v32 c2048_i32_12
  let c1_i32_14 : BitVec 32 := 1#32
  let v37 : BitVec 1 := Scalar.cmpi .slt v36 c1_i32_14
  let v38 : BitVec 1 := Scalar.andi v33 v37
  let v39 : BitVec 32 := Scalar.select v38 v32 v31
  let c64_i32 : BitVec 32 := 64#32
  let v40 : BitVec 32 := Scalar.addi v39 c64_i32
  let c2048_i32_15 : BitVec 32 := 2048#32
  let v41 : BitVec 1 := Scalar.cmpi .sle v40 c2048_i32_15
  let c1_i32_17 : BitVec 32 := 1#32
  let v45 : BitVec 1 := Scalar.cmpi .slt v44 c1_i32_17
  let v46 : BitVec 1 := Scalar.andi v41 v45
  let v47 : BitVec 32 := Scalar.select v46 v40 v39
  let c32_i32 : BitVec 32 := 32#32
  let v48 : BitVec 32 := Scalar.addi v47 c32_i32
  let c1_i32_19 : BitVec 32 := 1#32
  let v50 : BitVec 32 := Scalar.subi v48 c1_i32_19
  let v51 : Index := Scalar.indexCast v50
  ![v51.toNat]

def k0_chk6 (v4 : BitVec 32) (v12 : BitVec 32) (v20 : BitVec 32) (v28 : BitVec 32) (v36 : BitVec 32) (v44 : BitVec 32) : Prop :=
  (∀ a, (k0_off7 v4 v12 v20 v28 v36 v44) a + S1.size a ≤ S2048.size a)
theorem k0_off7_inb : ∀ (v4 : BitVec 32) (v12 : BitVec 32) (v20 : BitVec 32) (v28 : BitVec 32) (v36 : BitVec 32) (v44 : BitVec 32) (k0_hw6 : k0_chk6 v4 v12 v20 v28 v36 v44), ∀ a, (k0_off7 v4 v12 v20 v28 v36 v44) a + S1.size a ≤ S2048.size a := fun v4 v12 v20 v28 v36 v44 k0_hw6 => k0_hw6

def k0_off8 (v4 : BitVec 32) (v12 : BitVec 32) (v20 : BitVec 32) (v28 : BitVec 32) (v36 : BitVec 32) (v44 : BitVec 32) (v52 : BitVec 32) : Fin 1 → Nat :=
  let c0_i32 : BitVec 32 := 0#32
  let c2048_i32 : BitVec 32 := 2048#32
  let v0 : BitVec 32 := Scalar.addi c0_i32 c2048_i32
  let c2048_i32_0 : BitVec 32 := 2048#32
  let v1 : BitVec 1 := Scalar.cmpi .sle v0 c2048_i32_0
  let c1_i32_1 : BitVec 32 := 1#32
  let v5 : BitVec 1 := Scalar.cmpi .slt v4 c1_i32_1
  let v6 : BitVec 1 := Scalar.andi v1 v5
  let c0_i32_2 : BitVec 32 := 0#32
  let v7 : BitVec 32 := Scalar.select v6 v0 c0_i32_2
  let c1024_i32 : BitVec 32 := 1024#32
  let v8 : BitVec 32 := Scalar.addi v7 c1024_i32
  let c2048_i32_3 : BitVec 32 := 2048#32
  let v9 : BitVec 1 := Scalar.cmpi .sle v8 c2048_i32_3
  let c1_i32_5 : BitVec 32 := 1#32
  let v13 : BitVec 1 := Scalar.cmpi .slt v12 c1_i32_5
  let v14 : BitVec 1 := Scalar.andi v9 v13
  let v15 : BitVec 32 := Scalar.select v14 v8 v7
  let c512_i32 : BitVec 32 := 512#32
  let v16 : BitVec 32 := Scalar.addi v15 c512_i32
  let c2048_i32_6 : BitVec 32 := 2048#32
  let v17 : BitVec 1 := Scalar.cmpi .sle v16 c2048_i32_6
  let c1_i32_8 : BitVec 32 := 1#32
  let v21 : BitVec 1 := Scalar.cmpi .slt v20 c1_i32_8
  let v22 : BitVec 1 := Scalar.andi v17 v21
  let v23 : BitVec 32 := Scalar.select v22 v16 v15
  let c256_i32 : BitVec 32 := 256#32
  let v24 : BitVec 32 := Scalar.addi v23 c256_i32
  let c2048_i32_9 : BitVec 32 := 2048#32
  let v25 : BitVec 1 := Scalar.cmpi .sle v24 c2048_i32_9
  let c1_i32_11 : BitVec 32 := 1#32
  let v29 : BitVec 1 := Scalar.cmpi .slt v28 c1_i32_11
  let v30 : BitVec 1 := Scalar.andi v25 v29
  let v31 : BitVec 32 := Scalar.select v30 v24 v23
  let c128_i32 : BitVec 32 := 128#32
  let v32 : BitVec 32 := Scalar.addi v31 c128_i32
  let c2048_i32_12 : BitVec 32 := 2048#32
  let v33 : BitVec 1 := Scalar.cmpi .sle v32 c2048_i32_12
  let c1_i32_14 : BitVec 32 := 1#32
  let v37 : BitVec 1 := Scalar.cmpi .slt v36 c1_i32_14
  let v38 : BitVec 1 := Scalar.andi v33 v37
  let v39 : BitVec 32 := Scalar.select v38 v32 v31
  let c64_i32 : BitVec 32 := 64#32
  let v40 : BitVec 32 := Scalar.addi v39 c64_i32
  let c2048_i32_15 : BitVec 32 := 2048#32
  let v41 : BitVec 1 := Scalar.cmpi .sle v40 c2048_i32_15
  let c1_i32_17 : BitVec 32 := 1#32
  let v45 : BitVec 1 := Scalar.cmpi .slt v44 c1_i32_17
  let v46 : BitVec 1 := Scalar.andi v41 v45
  let v47 : BitVec 32 := Scalar.select v46 v40 v39
  let c32_i32 : BitVec 32 := 32#32
  let v48 : BitVec 32 := Scalar.addi v47 c32_i32
  let c2048_i32_18 : BitVec 32 := 2048#32
  let v49 : BitVec 1 := Scalar.cmpi .sle v48 c2048_i32_18
  let c1_i32_20 : BitVec 32 := 1#32
  let v53 : BitVec 1 := Scalar.cmpi .slt v52 c1_i32_20
  let v54 : BitVec 1 := Scalar.andi v49 v53
  let v55 : BitVec 32 := Scalar.select v54 v48 v47
  let c16_i32 : BitVec 32 := 16#32
  let v56 : BitVec 32 := Scalar.addi v55 c16_i32
  let c1_i32_22 : BitVec 32 := 1#32
  let v58 : BitVec 32 := Scalar.subi v56 c1_i32_22
  let v59 : Index := Scalar.indexCast v58
  ![v59.toNat]

def k0_chk7 (v4 : BitVec 32) (v12 : BitVec 32) (v20 : BitVec 32) (v28 : BitVec 32) (v36 : BitVec 32) (v44 : BitVec 32) (v52 : BitVec 32) : Prop :=
  (∀ a, (k0_off8 v4 v12 v20 v28 v36 v44 v52) a + S1.size a ≤ S2048.size a)
theorem k0_off8_inb : ∀ (v4 : BitVec 32) (v12 : BitVec 32) (v20 : BitVec 32) (v28 : BitVec 32) (v36 : BitVec 32) (v44 : BitVec 32) (v52 : BitVec 32) (k0_hw7 : k0_chk7 v4 v12 v20 v28 v36 v44 v52), ∀ a, (k0_off8 v4 v12 v20 v28 v36 v44 v52) a + S1.size a ≤ S2048.size a := fun v4 v12 v20 v28 v36 v44 v52 k0_hw7 => k0_hw7

def k0_off9 (v4 : BitVec 32) (v12 : BitVec 32) (v20 : BitVec 32) (v28 : BitVec 32) (v36 : BitVec 32) (v44 : BitVec 32) (v52 : BitVec 32) (v60 : BitVec 32) : Fin 1 → Nat :=
  let c0_i32 : BitVec 32 := 0#32
  let c2048_i32 : BitVec 32 := 2048#32
  let v0 : BitVec 32 := Scalar.addi c0_i32 c2048_i32
  let c2048_i32_0 : BitVec 32 := 2048#32
  let v1 : BitVec 1 := Scalar.cmpi .sle v0 c2048_i32_0
  let c1_i32_1 : BitVec 32 := 1#32
  let v5 : BitVec 1 := Scalar.cmpi .slt v4 c1_i32_1
  let v6 : BitVec 1 := Scalar.andi v1 v5
  let c0_i32_2 : BitVec 32 := 0#32
  let v7 : BitVec 32 := Scalar.select v6 v0 c0_i32_2
  let c1024_i32 : BitVec 32 := 1024#32
  let v8 : BitVec 32 := Scalar.addi v7 c1024_i32
  let c2048_i32_3 : BitVec 32 := 2048#32
  let v9 : BitVec 1 := Scalar.cmpi .sle v8 c2048_i32_3
  let c1_i32_5 : BitVec 32 := 1#32
  let v13 : BitVec 1 := Scalar.cmpi .slt v12 c1_i32_5
  let v14 : BitVec 1 := Scalar.andi v9 v13
  let v15 : BitVec 32 := Scalar.select v14 v8 v7
  let c512_i32 : BitVec 32 := 512#32
  let v16 : BitVec 32 := Scalar.addi v15 c512_i32
  let c2048_i32_6 : BitVec 32 := 2048#32
  let v17 : BitVec 1 := Scalar.cmpi .sle v16 c2048_i32_6
  let c1_i32_8 : BitVec 32 := 1#32
  let v21 : BitVec 1 := Scalar.cmpi .slt v20 c1_i32_8
  let v22 : BitVec 1 := Scalar.andi v17 v21
  let v23 : BitVec 32 := Scalar.select v22 v16 v15
  let c256_i32 : BitVec 32 := 256#32
  let v24 : BitVec 32 := Scalar.addi v23 c256_i32
  let c2048_i32_9 : BitVec 32 := 2048#32
  let v25 : BitVec 1 := Scalar.cmpi .sle v24 c2048_i32_9
  let c1_i32_11 : BitVec 32 := 1#32
  let v29 : BitVec 1 := Scalar.cmpi .slt v28 c1_i32_11
  let v30 : BitVec 1 := Scalar.andi v25 v29
  let v31 : BitVec 32 := Scalar.select v30 v24 v23
  let c128_i32 : BitVec 32 := 128#32
  let v32 : BitVec 32 := Scalar.addi v31 c128_i32
  let c2048_i32_12 : BitVec 32 := 2048#32
  let v33 : BitVec 1 := Scalar.cmpi .sle v32 c2048_i32_12
  let c1_i32_14 : BitVec 32 := 1#32
  let v37 : BitVec 1 := Scalar.cmpi .slt v36 c1_i32_14
  let v38 : BitVec 1 := Scalar.andi v33 v37
  let v39 : BitVec 32 := Scalar.select v38 v32 v31
  let c64_i32 : BitVec 32 := 64#32
  let v40 : BitVec 32 := Scalar.addi v39 c64_i32
  let c2048_i32_15 : BitVec 32 := 2048#32
  let v41 : BitVec 1 := Scalar.cmpi .sle v40 c2048_i32_15
  let c1_i32_17 : BitVec 32 := 1#32
  let v45 : BitVec 1 := Scalar.cmpi .slt v44 c1_i32_17
  let v46 : BitVec 1 := Scalar.andi v41 v45
  let v47 : BitVec 32 := Scalar.select v46 v40 v39
  let c32_i32 : BitVec 32 := 32#32
  let v48 : BitVec 32 := Scalar.addi v47 c32_i32
  let c2048_i32_18 : BitVec 32 := 2048#32
  let v49 : BitVec 1 := Scalar.cmpi .sle v48 c2048_i32_18
  let c1_i32_20 : BitVec 32 := 1#32
  let v53 : BitVec 1 := Scalar.cmpi .slt v52 c1_i32_20
  let v54 : BitVec 1 := Scalar.andi v49 v53
  let v55 : BitVec 32 := Scalar.select v54 v48 v47
  let c16_i32 : BitVec 32 := 16#32
  let v56 : BitVec 32 := Scalar.addi v55 c16_i32
  let c2048_i32_21 : BitVec 32 := 2048#32
  let v57 : BitVec 1 := Scalar.cmpi .sle v56 c2048_i32_21
  let c1_i32_23 : BitVec 32 := 1#32
  let v61 : BitVec 1 := Scalar.cmpi .slt v60 c1_i32_23
  let v62 : BitVec 1 := Scalar.andi v57 v61
  let v63 : BitVec 32 := Scalar.select v62 v56 v55
  let c8_i32 : BitVec 32 := 8#32
  let v64 : BitVec 32 := Scalar.addi v63 c8_i32
  let c1_i32_25 : BitVec 32 := 1#32
  let v66 : BitVec 32 := Scalar.subi v64 c1_i32_25
  let v67 : Index := Scalar.indexCast v66
  ![v67.toNat]

def k0_chk8 (v4 : BitVec 32) (v12 : BitVec 32) (v20 : BitVec 32) (v28 : BitVec 32) (v36 : BitVec 32) (v44 : BitVec 32) (v52 : BitVec 32) (v60 : BitVec 32) : Prop :=
  (∀ a, (k0_off9 v4 v12 v20 v28 v36 v44 v52 v60) a + S1.size a ≤ S2048.size a)
theorem k0_off9_inb : ∀ (v4 : BitVec 32) (v12 : BitVec 32) (v20 : BitVec 32) (v28 : BitVec 32) (v36 : BitVec 32) (v44 : BitVec 32) (v52 : BitVec 32) (v60 : BitVec 32) (k0_hw8 : k0_chk8 v4 v12 v20 v28 v36 v44 v52 v60), ∀ a, (k0_off9 v4 v12 v20 v28 v36 v44 v52 v60) a + S1.size a ≤ S2048.size a := fun v4 v12 v20 v28 v36 v44 v52 v60 k0_hw8 => k0_hw8

def k0_off10 (v4 : BitVec 32) (v12 : BitVec 32) (v20 : BitVec 32) (v28 : BitVec 32) (v36 : BitVec 32) (v44 : BitVec 32) (v52 : BitVec 32) (v60 : BitVec 32) (v68 : BitVec 32) : Fin 1 → Nat :=
  let c0_i32 : BitVec 32 := 0#32
  let c2048_i32 : BitVec 32 := 2048#32
  let v0 : BitVec 32 := Scalar.addi c0_i32 c2048_i32
  let c2048_i32_0 : BitVec 32 := 2048#32
  let v1 : BitVec 1 := Scalar.cmpi .sle v0 c2048_i32_0
  let c1_i32_1 : BitVec 32 := 1#32
  let v5 : BitVec 1 := Scalar.cmpi .slt v4 c1_i32_1
  let v6 : BitVec 1 := Scalar.andi v1 v5
  let c0_i32_2 : BitVec 32 := 0#32
  let v7 : BitVec 32 := Scalar.select v6 v0 c0_i32_2
  let c1024_i32 : BitVec 32 := 1024#32
  let v8 : BitVec 32 := Scalar.addi v7 c1024_i32
  let c2048_i32_3 : BitVec 32 := 2048#32
  let v9 : BitVec 1 := Scalar.cmpi .sle v8 c2048_i32_3
  let c1_i32_5 : BitVec 32 := 1#32
  let v13 : BitVec 1 := Scalar.cmpi .slt v12 c1_i32_5
  let v14 : BitVec 1 := Scalar.andi v9 v13
  let v15 : BitVec 32 := Scalar.select v14 v8 v7
  let c512_i32 : BitVec 32 := 512#32
  let v16 : BitVec 32 := Scalar.addi v15 c512_i32
  let c2048_i32_6 : BitVec 32 := 2048#32
  let v17 : BitVec 1 := Scalar.cmpi .sle v16 c2048_i32_6
  let c1_i32_8 : BitVec 32 := 1#32
  let v21 : BitVec 1 := Scalar.cmpi .slt v20 c1_i32_8
  let v22 : BitVec 1 := Scalar.andi v17 v21
  let v23 : BitVec 32 := Scalar.select v22 v16 v15
  let c256_i32 : BitVec 32 := 256#32
  let v24 : BitVec 32 := Scalar.addi v23 c256_i32
  let c2048_i32_9 : BitVec 32 := 2048#32
  let v25 : BitVec 1 := Scalar.cmpi .sle v24 c2048_i32_9
  let c1_i32_11 : BitVec 32 := 1#32
  let v29 : BitVec 1 := Scalar.cmpi .slt v28 c1_i32_11
  let v30 : BitVec 1 := Scalar.andi v25 v29
  let v31 : BitVec 32 := Scalar.select v30 v24 v23
  let c128_i32 : BitVec 32 := 128#32
  let v32 : BitVec 32 := Scalar.addi v31 c128_i32
  let c2048_i32_12 : BitVec 32 := 2048#32
  let v33 : BitVec 1 := Scalar.cmpi .sle v32 c2048_i32_12
  let c1_i32_14 : BitVec 32 := 1#32
  let v37 : BitVec 1 := Scalar.cmpi .slt v36 c1_i32_14
  let v38 : BitVec 1 := Scalar.andi v33 v37
  let v39 : BitVec 32 := Scalar.select v38 v32 v31
  let c64_i32 : BitVec 32 := 64#32
  let v40 : BitVec 32 := Scalar.addi v39 c64_i32
  let c2048_i32_15 : BitVec 32 := 2048#32
  let v41 : BitVec 1 := Scalar.cmpi .sle v40 c2048_i32_15
  let c1_i32_17 : BitVec 32 := 1#32
  let v45 : BitVec 1 := Scalar.cmpi .slt v44 c1_i32_17
  let v46 : BitVec 1 := Scalar.andi v41 v45
  let v47 : BitVec 32 := Scalar.select v46 v40 v39
  let c32_i32 : BitVec 32 := 32#32
  let v48 : BitVec 32 := Scalar.addi v47 c32_i32
  let c2048_i32_18 : BitVec 32 := 2048#32
  let v49 : BitVec 1 := Scalar.cmpi .sle v48 c2048_i32_18
  let c1_i32_20 : BitVec 32 := 1#32
  let v53 : BitVec 1 := Scalar.cmpi .slt v52 c1_i32_20
  let v54 : BitVec 1 := Scalar.andi v49 v53
  let v55 : BitVec 32 := Scalar.select v54 v48 v47
  let c16_i32 : BitVec 32 := 16#32
  let v56 : BitVec 32 := Scalar.addi v55 c16_i32
  let c2048_i32_21 : BitVec 32 := 2048#32
  let v57 : BitVec 1 := Scalar.cmpi .sle v56 c2048_i32_21
  let c1_i32_23 : BitVec 32 := 1#32
  let v61 : BitVec 1 := Scalar.cmpi .slt v60 c1_i32_23
  let v62 : BitVec 1 := Scalar.andi v57 v61
  let v63 : BitVec 32 := Scalar.select v62 v56 v55
  let c8_i32 : BitVec 32 := 8#32
  let v64 : BitVec 32 := Scalar.addi v63 c8_i32
  let c2048_i32_24 : BitVec 32 := 2048#32
  let v65 : BitVec 1 := Scalar.cmpi .sle v64 c2048_i32_24
  let c1_i32_26 : BitVec 32 := 1#32
  let v69 : BitVec 1 := Scalar.cmpi .slt v68 c1_i32_26
  let v70 : BitVec 1 := Scalar.andi v65 v69
  let v71 : BitVec 32 := Scalar.select v70 v64 v63
  let c4_i32 : BitVec 32 := 4#32
  let v72 : BitVec 32 := Scalar.addi v71 c4_i32
  let c1_i32_28 : BitVec 32 := 1#32
  let v74 : BitVec 32 := Scalar.subi v72 c1_i32_28
  let v75 : Index := Scalar.indexCast v74
  ![v75.toNat]

def k0_chk9 (v4 : BitVec 32) (v12 : BitVec 32) (v20 : BitVec 32) (v28 : BitVec 32) (v36 : BitVec 32) (v44 : BitVec 32) (v52 : BitVec 32) (v60 : BitVec 32) (v68 : BitVec 32) : Prop :=
  (∀ a, (k0_off10 v4 v12 v20 v28 v36 v44 v52 v60 v68) a + S1.size a ≤ S2048.size a)
theorem k0_off10_inb : ∀ (v4 : BitVec 32) (v12 : BitVec 32) (v20 : BitVec 32) (v28 : BitVec 32) (v36 : BitVec 32) (v44 : BitVec 32) (v52 : BitVec 32) (v60 : BitVec 32) (v68 : BitVec 32) (k0_hw9 : k0_chk9 v4 v12 v20 v28 v36 v44 v52 v60 v68), ∀ a, (k0_off10 v4 v12 v20 v28 v36 v44 v52 v60 v68) a + S1.size a ≤ S2048.size a := fun v4 v12 v20 v28 v36 v44 v52 v60 v68 k0_hw9 => k0_hw9

def k0_off11 (v4 : BitVec 32) (v12 : BitVec 32) (v20 : BitVec 32) (v28 : BitVec 32) (v36 : BitVec 32) (v44 : BitVec 32) (v52 : BitVec 32) (v60 : BitVec 32) (v68 : BitVec 32) (v76 : BitVec 32) : Fin 1 → Nat :=
  let c0_i32 : BitVec 32 := 0#32
  let c2048_i32 : BitVec 32 := 2048#32
  let v0 : BitVec 32 := Scalar.addi c0_i32 c2048_i32
  let c2048_i32_0 : BitVec 32 := 2048#32
  let v1 : BitVec 1 := Scalar.cmpi .sle v0 c2048_i32_0
  let c1_i32_1 : BitVec 32 := 1#32
  let v5 : BitVec 1 := Scalar.cmpi .slt v4 c1_i32_1
  let v6 : BitVec 1 := Scalar.andi v1 v5
  let c0_i32_2 : BitVec 32 := 0#32
  let v7 : BitVec 32 := Scalar.select v6 v0 c0_i32_2
  let c1024_i32 : BitVec 32 := 1024#32
  let v8 : BitVec 32 := Scalar.addi v7 c1024_i32
  let c2048_i32_3 : BitVec 32 := 2048#32
  let v9 : BitVec 1 := Scalar.cmpi .sle v8 c2048_i32_3
  let c1_i32_5 : BitVec 32 := 1#32
  let v13 : BitVec 1 := Scalar.cmpi .slt v12 c1_i32_5
  let v14 : BitVec 1 := Scalar.andi v9 v13
  let v15 : BitVec 32 := Scalar.select v14 v8 v7
  let c512_i32 : BitVec 32 := 512#32
  let v16 : BitVec 32 := Scalar.addi v15 c512_i32
  let c2048_i32_6 : BitVec 32 := 2048#32
  let v17 : BitVec 1 := Scalar.cmpi .sle v16 c2048_i32_6
  let c1_i32_8 : BitVec 32 := 1#32
  let v21 : BitVec 1 := Scalar.cmpi .slt v20 c1_i32_8
  let v22 : BitVec 1 := Scalar.andi v17 v21
  let v23 : BitVec 32 := Scalar.select v22 v16 v15
  let c256_i32 : BitVec 32 := 256#32
  let v24 : BitVec 32 := Scalar.addi v23 c256_i32
  let c2048_i32_9 : BitVec 32 := 2048#32
  let v25 : BitVec 1 := Scalar.cmpi .sle v24 c2048_i32_9
  let c1_i32_11 : BitVec 32 := 1#32
  let v29 : BitVec 1 := Scalar.cmpi .slt v28 c1_i32_11
  let v30 : BitVec 1 := Scalar.andi v25 v29
  let v31 : BitVec 32 := Scalar.select v30 v24 v23
  let c128_i32 : BitVec 32 := 128#32
  let v32 : BitVec 32 := Scalar.addi v31 c128_i32
  let c2048_i32_12 : BitVec 32 := 2048#32
  let v33 : BitVec 1 := Scalar.cmpi .sle v32 c2048_i32_12
  let c1_i32_14 : BitVec 32 := 1#32
  let v37 : BitVec 1 := Scalar.cmpi .slt v36 c1_i32_14
  let v38 : BitVec 1 := Scalar.andi v33 v37
  let v39 : BitVec 32 := Scalar.select v38 v32 v31
  let c64_i32 : BitVec 32 := 64#32
  let v40 : BitVec 32 := Scalar.addi v39 c64_i32
  let c2048_i32_15 : BitVec 32 := 2048#32
  let v41 : BitVec 1 := Scalar.cmpi .sle v40 c2048_i32_15
  let c1_i32_17 : BitVec 32 := 1#32
  let v45 : BitVec 1 := Scalar.cmpi .slt v44 c1_i32_17
  let v46 : BitVec 1 := Scalar.andi v41 v45
  let v47 : BitVec 32 := Scalar.select v46 v40 v39
  let c32_i32 : BitVec 32 := 32#32
  let v48 : BitVec 32 := Scalar.addi v47 c32_i32
  let c2048_i32_18 : BitVec 32 := 2048#32
  let v49 : BitVec 1 := Scalar.cmpi .sle v48 c2048_i32_18
  let c1_i32_20 : BitVec 32 := 1#32
  let v53 : BitVec 1 := Scalar.cmpi .slt v52 c1_i32_20
  let v54 : BitVec 1 := Scalar.andi v49 v53
  let v55 : BitVec 32 := Scalar.select v54 v48 v47
  let c16_i32 : BitVec 32 := 16#32
  let v56 : BitVec 32 := Scalar.addi v55 c16_i32
  let c2048_i32_21 : BitVec 32 := 2048#32
  let v57 : BitVec 1 := Scalar.cmpi .sle v56 c2048_i32_21
  let c1_i32_23 : BitVec 32 := 1#32
  let v61 : BitVec 1 := Scalar.cmpi .slt v60 c1_i32_23
  let v62 : BitVec 1 := Scalar.andi v57 v61
  let v63 : BitVec 32 := Scalar.select v62 v56 v55
  let c8_i32 : BitVec 32 := 8#32
  let v64 : BitVec 32 := Scalar.addi v63 c8_i32
  let c2048_i32_24 : BitVec 32 := 2048#32
  let v65 : BitVec 1 := Scalar.cmpi .sle v64 c2048_i32_24
  let c1_i32_26 : BitVec 32 := 1#32
  let v69 : BitVec 1 := Scalar.cmpi .slt v68 c1_i32_26
  let v70 : BitVec 1 := Scalar.andi v65 v69
  let v71 : BitVec 32 := Scalar.select v70 v64 v63
  let c4_i32 : BitVec 32 := 4#32
  let v72 : BitVec 32 := Scalar.addi v71 c4_i32
  let c2048_i32_27 : BitVec 32 := 2048#32
  let v73 : BitVec 1 := Scalar.cmpi .sle v72 c2048_i32_27
  let c1_i32_29 : BitVec 32 := 1#32
  let v77 : BitVec 1 := Scalar.cmpi .slt v76 c1_i32_29
  let v78 : BitVec 1 := Scalar.andi v73 v77
  let v79 : BitVec 32 := Scalar.select v78 v72 v71
  let c2_i32 : BitVec 32 := 2#32
  let v80 : BitVec 32 := Scalar.addi v79 c2_i32
  let c1_i32_31 : BitVec 32 := 1#32
  let v82 : BitVec 32 := Scalar.subi v80 c1_i32_31
  let v83 : Index := Scalar.indexCast v82
  ![v83.toNat]

def k0_chk10 (v4 : BitVec 32) (v12 : BitVec 32) (v20 : BitVec 32) (v28 : BitVec 32) (v36 : BitVec 32) (v44 : BitVec 32) (v52 : BitVec 32) (v60 : BitVec 32) (v68 : BitVec 32) (v76 : BitVec 32) : Prop :=
  (∀ a, (k0_off11 v4 v12 v20 v28 v36 v44 v52 v60 v68 v76) a + S1.size a ≤ S2048.size a)
theorem k0_off11_inb : ∀ (v4 : BitVec 32) (v12 : BitVec 32) (v20 : BitVec 32) (v28 : BitVec 32) (v36 : BitVec 32) (v44 : BitVec 32) (v52 : BitVec 32) (v60 : BitVec 32) (v68 : BitVec 32) (v76 : BitVec 32) (k0_hw10 : k0_chk10 v4 v12 v20 v28 v36 v44 v52 v60 v68 v76), ∀ a, (k0_off11 v4 v12 v20 v28 v36 v44 v52 v60 v68 v76) a + S1.size a ≤ S2048.size a := fun v4 v12 v20 v28 v36 v44 v52 v60 v68 v76 k0_hw10 => k0_hw10

def k0_off12 (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) : Fin 1 → Nat :=
  let c0_i32 : BitVec 32 := 0#32
  let c2048_i32 : BitVec 32 := 2048#32
  let v0 : BitVec 32 := Scalar.addi c0_i32 c2048_i32
  let c2048_i32_0 : BitVec 32 := 2048#32
  let v1 : BitVec 1 := Scalar.cmpi .sle v0 c2048_i32_0
  let c1_i32_1 : BitVec 32 := 1#32
  let v5 : BitVec 1 := Scalar.cmpi .slt v4 c1_i32_1
  let v6 : BitVec 1 := Scalar.andi v1 v5
  let c0_i32_2 : BitVec 32 := 0#32
  let v7 : BitVec 32 := Scalar.select v6 v0 c0_i32_2
  let c1024_i32 : BitVec 32 := 1024#32
  let v8 : BitVec 32 := Scalar.addi v7 c1024_i32
  let c2048_i32_3 : BitVec 32 := 2048#32
  let v9 : BitVec 1 := Scalar.cmpi .sle v8 c2048_i32_3
  let c1_i32_5 : BitVec 32 := 1#32
  let v13 : BitVec 1 := Scalar.cmpi .slt v12 c1_i32_5
  let v14 : BitVec 1 := Scalar.andi v9 v13
  let v15 : BitVec 32 := Scalar.select v14 v8 v7
  let c512_i32 : BitVec 32 := 512#32
  let v16 : BitVec 32 := Scalar.addi v15 c512_i32
  let c2048_i32_6 : BitVec 32 := 2048#32
  let v17 : BitVec 1 := Scalar.cmpi .sle v16 c2048_i32_6
  let c1_i32_8 : BitVec 32 := 1#32
  let v21 : BitVec 1 := Scalar.cmpi .slt v20 c1_i32_8
  let v22 : BitVec 1 := Scalar.andi v17 v21
  let v23 : BitVec 32 := Scalar.select v22 v16 v15
  let c256_i32 : BitVec 32 := 256#32
  let v24 : BitVec 32 := Scalar.addi v23 c256_i32
  let c2048_i32_9 : BitVec 32 := 2048#32
  let v25 : BitVec 1 := Scalar.cmpi .sle v24 c2048_i32_9
  let c1_i32_11 : BitVec 32 := 1#32
  let v29 : BitVec 1 := Scalar.cmpi .slt v28 c1_i32_11
  let v30 : BitVec 1 := Scalar.andi v25 v29
  let v31 : BitVec 32 := Scalar.select v30 v24 v23
  let c128_i32 : BitVec 32 := 128#32
  let v32 : BitVec 32 := Scalar.addi v31 c128_i32
  let c2048_i32_12 : BitVec 32 := 2048#32
  let v33 : BitVec 1 := Scalar.cmpi .sle v32 c2048_i32_12
  let c1_i32_14 : BitVec 32 := 1#32
  let v37 : BitVec 1 := Scalar.cmpi .slt v36 c1_i32_14
  let v38 : BitVec 1 := Scalar.andi v33 v37
  let v39 : BitVec 32 := Scalar.select v38 v32 v31
  let c64_i32 : BitVec 32 := 64#32
  let v40 : BitVec 32 := Scalar.addi v39 c64_i32
  let c2048_i32_15 : BitVec 32 := 2048#32
  let v41 : BitVec 1 := Scalar.cmpi .sle v40 c2048_i32_15
  let c1_i32_17 : BitVec 32 := 1#32
  let v45 : BitVec 1 := Scalar.cmpi .slt v44 c1_i32_17
  let v46 : BitVec 1 := Scalar.andi v41 v45
  let v47 : BitVec 32 := Scalar.select v46 v40 v39
  let c32_i32 : BitVec 32 := 32#32
  let v48 : BitVec 32 := Scalar.addi v47 c32_i32
  let c2048_i32_18 : BitVec 32 := 2048#32
  let v49 : BitVec 1 := Scalar.cmpi .sle v48 c2048_i32_18
  let c1_i32_20 : BitVec 32 := 1#32
  let v53 : BitVec 1 := Scalar.cmpi .slt v52 c1_i32_20
  let v54 : BitVec 1 := Scalar.andi v49 v53
  let v55 : BitVec 32 := Scalar.select v54 v48 v47
  let c16_i32 : BitVec 32 := 16#32
  let v56 : BitVec 32 := Scalar.addi v55 c16_i32
  let c2048_i32_21 : BitVec 32 := 2048#32
  let v57 : BitVec 1 := Scalar.cmpi .sle v56 c2048_i32_21
  let c1_i32_23 : BitVec 32 := 1#32
  let v61 : BitVec 1 := Scalar.cmpi .slt v60 c1_i32_23
  let v62 : BitVec 1 := Scalar.andi v57 v61
  let v63 : BitVec 32 := Scalar.select v62 v56 v55
  let c8_i32 : BitVec 32 := 8#32
  let v64 : BitVec 32 := Scalar.addi v63 c8_i32
  let c2048_i32_24 : BitVec 32 := 2048#32
  let v65 : BitVec 1 := Scalar.cmpi .sle v64 c2048_i32_24
  let c1_i32_26 : BitVec 32 := 1#32
  let v69 : BitVec 1 := Scalar.cmpi .slt v68 c1_i32_26
  let v70 : BitVec 1 := Scalar.andi v65 v69
  let v71 : BitVec 32 := Scalar.select v70 v64 v63
  let c4_i32 : BitVec 32 := 4#32
  let v72 : BitVec 32 := Scalar.addi v71 c4_i32
  let c2048_i32_27 : BitVec 32 := 2048#32
  let v73 : BitVec 1 := Scalar.cmpi .sle v72 c2048_i32_27
  let c1_i32_29 : BitVec 32 := 1#32
  let v77 : BitVec 1 := Scalar.cmpi .slt v76 c1_i32_29
  let v78 : BitVec 1 := Scalar.andi v73 v77
  let v79 : BitVec 32 := Scalar.select v78 v72 v71
  let c2_i32 : BitVec 32 := 2#32
  let v80 : BitVec 32 := Scalar.addi v79 c2_i32
  let c2048_i32_30 : BitVec 32 := 2048#32
  let v81 : BitVec 1 := Scalar.cmpi .sle v80 c2048_i32_30
  let c1_i32_32 : BitVec 32 := 1#32
  let v85 : BitVec 1 := Scalar.cmpi .slt v84 c1_i32_32
  let v86 : BitVec 1 := Scalar.andi v81 v85
  let v87 : BitVec 32 := Scalar.select v86 v80 v79
  let c1_i32_33 : BitVec 32 := 1#32
  let v88 : BitVec 32 := Scalar.addi v87 c1_i32_33
  let c1_i32_35 : BitVec 32 := 1#32
  let v90 : BitVec 32 := Scalar.subi v88 c1_i32_35
  let v91 : Index := Scalar.indexCast v90
  ![v91.toNat]

def k0_chk11 (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) : Prop :=
  (∀ a, (k0_off12 v4 v12 v20 v28 v36 v44 v52 v60 v68 v76 v84) a + S1.size a ≤ S2048.size a)
theorem k0_off12_inb : ∀ (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (k0_hw11 : k0_chk11 v4 v12 v20 v28 v36 v44 v52 v60 v68 v76 v84), ∀ a, (k0_off12 v4 v12 v20 v28 v36 v44 v52 v60 v68 v76 v84) a + S1.size a ≤ S2048.size a := fun v4 v12 v20 v28 v36 v44 v52 v60 v68 v76 v84 k0_hw11 => k0_hw11

def k0_off13 : Fin 1 → Nat :=
  let c0_i32_37 : BitVec 32 := 0#32
  let c2048_i32_38 : BitVec 32 := 2048#32
  let v96 : BitVec 32 := Scalar.addi c0_i32_37 c2048_i32_38
  let c1_i32_40 : BitVec 32 := 1#32
  let v98 : BitVec 32 := Scalar.subi v96 c1_i32_40
  let v99 : Index := Scalar.indexCast v98
  ![v99.toNat]
def k0_off14 (v100 : BitVec 32) : Fin 1 → Nat :=
  let c0_i32_37 : BitVec 32 := 0#32
  let c2048_i32_38 : BitVec 32 := 2048#32
  let v96 : BitVec 32 := Scalar.addi c0_i32_37 c2048_i32_38
  let c2048_i32_39 : BitVec 32 := 2048#32
  let v97 : BitVec 1 := Scalar.cmpi .sle v96 c2048_i32_39
  let c2_i32_41 : BitVec 32 := 2#32
  let v101 : BitVec 1 := Scalar.cmpi .slt v100 c2_i32_41
  let v102 : BitVec 1 := Scalar.andi v97 v101
  let c0_i32_42 : BitVec 32 := 0#32
  let v103 : BitVec 32 := Scalar.select v102 v96 c0_i32_42
  let c1024_i32_43 : BitVec 32 := 1024#32
  let v104 : BitVec 32 := Scalar.addi v103 c1024_i32_43
  let c1_i32_45 : BitVec 32 := 1#32
  let v106 : BitVec 32 := Scalar.subi v104 c1_i32_45
  let v107 : Index := Scalar.indexCast v106
  ![v107.toNat]

def k0_chk12 (v100 : BitVec 32) : Prop :=
  (∀ a, (k0_off14 v100) a + S1.size a ≤ S2048.size a)
theorem k0_off14_inb : ∀ (v100 : BitVec 32) (k0_hw12 : k0_chk12 v100), ∀ a, (k0_off14 v100) a + S1.size a ≤ S2048.size a := fun v100 k0_hw12 => k0_hw12

def k0_off15 (v100 : BitVec 32) (v108 : BitVec 32) : Fin 1 → Nat :=
  let c0_i32_37 : BitVec 32 := 0#32
  let c2048_i32_38 : BitVec 32 := 2048#32
  let v96 : BitVec 32 := Scalar.addi c0_i32_37 c2048_i32_38
  let c2048_i32_39 : BitVec 32 := 2048#32
  let v97 : BitVec 1 := Scalar.cmpi .sle v96 c2048_i32_39
  let c2_i32_41 : BitVec 32 := 2#32
  let v101 : BitVec 1 := Scalar.cmpi .slt v100 c2_i32_41
  let v102 : BitVec 1 := Scalar.andi v97 v101
  let c0_i32_42 : BitVec 32 := 0#32
  let v103 : BitVec 32 := Scalar.select v102 v96 c0_i32_42
  let c1024_i32_43 : BitVec 32 := 1024#32
  let v104 : BitVec 32 := Scalar.addi v103 c1024_i32_43
  let c2048_i32_44 : BitVec 32 := 2048#32
  let v105 : BitVec 1 := Scalar.cmpi .sle v104 c2048_i32_44
  let c2_i32_46 : BitVec 32 := 2#32
  let v109 : BitVec 1 := Scalar.cmpi .slt v108 c2_i32_46
  let v110 : BitVec 1 := Scalar.andi v105 v109
  let v111 : BitVec 32 := Scalar.select v110 v104 v103
  let c512_i32_47 : BitVec 32 := 512#32
  let v112 : BitVec 32 := Scalar.addi v111 c512_i32_47
  let c1_i32_49 : BitVec 32 := 1#32
  let v114 : BitVec 32 := Scalar.subi v112 c1_i32_49
  let v115 : Index := Scalar.indexCast v114
  ![v115.toNat]

def k0_chk13 (v100 : BitVec 32) (v108 : BitVec 32) : Prop :=
  (∀ a, (k0_off15 v100 v108) a + S1.size a ≤ S2048.size a)
theorem k0_off15_inb : ∀ (v100 : BitVec 32) (v108 : BitVec 32) (k0_hw13 : k0_chk13 v100 v108), ∀ a, (k0_off15 v100 v108) a + S1.size a ≤ S2048.size a := fun v100 v108 k0_hw13 => k0_hw13

def k0_off16 (v100 : BitVec 32) (v108 : BitVec 32) (v116 : BitVec 32) : Fin 1 → Nat :=
  let c0_i32_37 : BitVec 32 := 0#32
  let c2048_i32_38 : BitVec 32 := 2048#32
  let v96 : BitVec 32 := Scalar.addi c0_i32_37 c2048_i32_38
  let c2048_i32_39 : BitVec 32 := 2048#32
  let v97 : BitVec 1 := Scalar.cmpi .sle v96 c2048_i32_39
  let c2_i32_41 : BitVec 32 := 2#32
  let v101 : BitVec 1 := Scalar.cmpi .slt v100 c2_i32_41
  let v102 : BitVec 1 := Scalar.andi v97 v101
  let c0_i32_42 : BitVec 32 := 0#32
  let v103 : BitVec 32 := Scalar.select v102 v96 c0_i32_42
  let c1024_i32_43 : BitVec 32 := 1024#32
  let v104 : BitVec 32 := Scalar.addi v103 c1024_i32_43
  let c2048_i32_44 : BitVec 32 := 2048#32
  let v105 : BitVec 1 := Scalar.cmpi .sle v104 c2048_i32_44
  let c2_i32_46 : BitVec 32 := 2#32
  let v109 : BitVec 1 := Scalar.cmpi .slt v108 c2_i32_46
  let v110 : BitVec 1 := Scalar.andi v105 v109
  let v111 : BitVec 32 := Scalar.select v110 v104 v103
  let c512_i32_47 : BitVec 32 := 512#32
  let v112 : BitVec 32 := Scalar.addi v111 c512_i32_47
  let c2048_i32_48 : BitVec 32 := 2048#32
  let v113 : BitVec 1 := Scalar.cmpi .sle v112 c2048_i32_48
  let c2_i32_50 : BitVec 32 := 2#32
  let v117 : BitVec 1 := Scalar.cmpi .slt v116 c2_i32_50
  let v118 : BitVec 1 := Scalar.andi v113 v117
  let v119 : BitVec 32 := Scalar.select v118 v112 v111
  let c256_i32_51 : BitVec 32 := 256#32
  let v120 : BitVec 32 := Scalar.addi v119 c256_i32_51
  let c1_i32_53 : BitVec 32 := 1#32
  let v122 : BitVec 32 := Scalar.subi v120 c1_i32_53
  let v123 : Index := Scalar.indexCast v122
  ![v123.toNat]

def k0_chk14 (v100 : BitVec 32) (v108 : BitVec 32) (v116 : BitVec 32) : Prop :=
  (∀ a, (k0_off16 v100 v108 v116) a + S1.size a ≤ S2048.size a)
theorem k0_off16_inb : ∀ (v100 : BitVec 32) (v108 : BitVec 32) (v116 : BitVec 32) (k0_hw14 : k0_chk14 v100 v108 v116), ∀ a, (k0_off16 v100 v108 v116) a + S1.size a ≤ S2048.size a := fun v100 v108 v116 k0_hw14 => k0_hw14

def k0_off17 (v100 : BitVec 32) (v108 : BitVec 32) (v116 : BitVec 32) (v124 : BitVec 32) : Fin 1 → Nat :=
  let c0_i32_37 : BitVec 32 := 0#32
  let c2048_i32_38 : BitVec 32 := 2048#32
  let v96 : BitVec 32 := Scalar.addi c0_i32_37 c2048_i32_38
  let c2048_i32_39 : BitVec 32 := 2048#32
  let v97 : BitVec 1 := Scalar.cmpi .sle v96 c2048_i32_39
  let c2_i32_41 : BitVec 32 := 2#32
  let v101 : BitVec 1 := Scalar.cmpi .slt v100 c2_i32_41
  let v102 : BitVec 1 := Scalar.andi v97 v101
  let c0_i32_42 : BitVec 32 := 0#32
  let v103 : BitVec 32 := Scalar.select v102 v96 c0_i32_42
  let c1024_i32_43 : BitVec 32 := 1024#32
  let v104 : BitVec 32 := Scalar.addi v103 c1024_i32_43
  let c2048_i32_44 : BitVec 32 := 2048#32
  let v105 : BitVec 1 := Scalar.cmpi .sle v104 c2048_i32_44
  let c2_i32_46 : BitVec 32 := 2#32
  let v109 : BitVec 1 := Scalar.cmpi .slt v108 c2_i32_46
  let v110 : BitVec 1 := Scalar.andi v105 v109
  let v111 : BitVec 32 := Scalar.select v110 v104 v103
  let c512_i32_47 : BitVec 32 := 512#32
  let v112 : BitVec 32 := Scalar.addi v111 c512_i32_47
  let c2048_i32_48 : BitVec 32 := 2048#32
  let v113 : BitVec 1 := Scalar.cmpi .sle v112 c2048_i32_48
  let c2_i32_50 : BitVec 32 := 2#32
  let v117 : BitVec 1 := Scalar.cmpi .slt v116 c2_i32_50
  let v118 : BitVec 1 := Scalar.andi v113 v117
  let v119 : BitVec 32 := Scalar.select v118 v112 v111
  let c256_i32_51 : BitVec 32 := 256#32
  let v120 : BitVec 32 := Scalar.addi v119 c256_i32_51
  let c2048_i32_52 : BitVec 32 := 2048#32
  let v121 : BitVec 1 := Scalar.cmpi .sle v120 c2048_i32_52
  let c2_i32_54 : BitVec 32 := 2#32
  let v125 : BitVec 1 := Scalar.cmpi .slt v124 c2_i32_54
  let v126 : BitVec 1 := Scalar.andi v121 v125
  let v127 : BitVec 32 := Scalar.select v126 v120 v119
  let c128_i32_55 : BitVec 32 := 128#32
  let v128 : BitVec 32 := Scalar.addi v127 c128_i32_55
  let c1_i32_57 : BitVec 32 := 1#32
  let v130 : BitVec 32 := Scalar.subi v128 c1_i32_57
  let v131 : Index := Scalar.indexCast v130
  ![v131.toNat]

def k0_chk15 (v100 : BitVec 32) (v108 : BitVec 32) (v116 : BitVec 32) (v124 : BitVec 32) : Prop :=
  (∀ a, (k0_off17 v100 v108 v116 v124) a + S1.size a ≤ S2048.size a)
theorem k0_off17_inb : ∀ (v100 : BitVec 32) (v108 : BitVec 32) (v116 : BitVec 32) (v124 : BitVec 32) (k0_hw15 : k0_chk15 v100 v108 v116 v124), ∀ a, (k0_off17 v100 v108 v116 v124) a + S1.size a ≤ S2048.size a := fun v100 v108 v116 v124 k0_hw15 => k0_hw15

def k0_off18 (v100 : BitVec 32) (v108 : BitVec 32) (v116 : BitVec 32) (v124 : BitVec 32) (v132 : BitVec 32) : Fin 1 → Nat :=
  let c0_i32_37 : BitVec 32 := 0#32
  let c2048_i32_38 : BitVec 32 := 2048#32
  let v96 : BitVec 32 := Scalar.addi c0_i32_37 c2048_i32_38
  let c2048_i32_39 : BitVec 32 := 2048#32
  let v97 : BitVec 1 := Scalar.cmpi .sle v96 c2048_i32_39
  let c2_i32_41 : BitVec 32 := 2#32
  let v101 : BitVec 1 := Scalar.cmpi .slt v100 c2_i32_41
  let v102 : BitVec 1 := Scalar.andi v97 v101
  let c0_i32_42 : BitVec 32 := 0#32
  let v103 : BitVec 32 := Scalar.select v102 v96 c0_i32_42
  let c1024_i32_43 : BitVec 32 := 1024#32
  let v104 : BitVec 32 := Scalar.addi v103 c1024_i32_43
  let c2048_i32_44 : BitVec 32 := 2048#32
  let v105 : BitVec 1 := Scalar.cmpi .sle v104 c2048_i32_44
  let c2_i32_46 : BitVec 32 := 2#32
  let v109 : BitVec 1 := Scalar.cmpi .slt v108 c2_i32_46
  let v110 : BitVec 1 := Scalar.andi v105 v109
  let v111 : BitVec 32 := Scalar.select v110 v104 v103
  let c512_i32_47 : BitVec 32 := 512#32
  let v112 : BitVec 32 := Scalar.addi v111 c512_i32_47
  let c2048_i32_48 : BitVec 32 := 2048#32
  let v113 : BitVec 1 := Scalar.cmpi .sle v112 c2048_i32_48
  let c2_i32_50 : BitVec 32 := 2#32
  let v117 : BitVec 1 := Scalar.cmpi .slt v116 c2_i32_50
  let v118 : BitVec 1 := Scalar.andi v113 v117
  let v119 : BitVec 32 := Scalar.select v118 v112 v111
  let c256_i32_51 : BitVec 32 := 256#32
  let v120 : BitVec 32 := Scalar.addi v119 c256_i32_51
  let c2048_i32_52 : BitVec 32 := 2048#32
  let v121 : BitVec 1 := Scalar.cmpi .sle v120 c2048_i32_52
  let c2_i32_54 : BitVec 32 := 2#32
  let v125 : BitVec 1 := Scalar.cmpi .slt v124 c2_i32_54
  let v126 : BitVec 1 := Scalar.andi v121 v125
  let v127 : BitVec 32 := Scalar.select v126 v120 v119
  let c128_i32_55 : BitVec 32 := 128#32
  let v128 : BitVec 32 := Scalar.addi v127 c128_i32_55
  let c2048_i32_56 : BitVec 32 := 2048#32
  let v129 : BitVec 1 := Scalar.cmpi .sle v128 c2048_i32_56
  let c2_i32_58 : BitVec 32 := 2#32
  let v133 : BitVec 1 := Scalar.cmpi .slt v132 c2_i32_58
  let v134 : BitVec 1 := Scalar.andi v129 v133
  let v135 : BitVec 32 := Scalar.select v134 v128 v127
  let c64_i32_59 : BitVec 32 := 64#32
  let v136 : BitVec 32 := Scalar.addi v135 c64_i32_59
  let c1_i32_61 : BitVec 32 := 1#32
  let v138 : BitVec 32 := Scalar.subi v136 c1_i32_61
  let v139 : Index := Scalar.indexCast v138
  ![v139.toNat]

def k0_chk16 (v100 : BitVec 32) (v108 : BitVec 32) (v116 : BitVec 32) (v124 : BitVec 32) (v132 : BitVec 32) : Prop :=
  (∀ a, (k0_off18 v100 v108 v116 v124 v132) a + S1.size a ≤ S2048.size a)
theorem k0_off18_inb : ∀ (v100 : BitVec 32) (v108 : BitVec 32) (v116 : BitVec 32) (v124 : BitVec 32) (v132 : BitVec 32) (k0_hw16 : k0_chk16 v100 v108 v116 v124 v132), ∀ a, (k0_off18 v100 v108 v116 v124 v132) a + S1.size a ≤ S2048.size a := fun v100 v108 v116 v124 v132 k0_hw16 => k0_hw16

def k0_off19 (v100 : BitVec 32) (v108 : BitVec 32) (v116 : BitVec 32) (v124 : BitVec 32) (v132 : BitVec 32) (v140 : BitVec 32) : Fin 1 → Nat :=
  let c0_i32_37 : BitVec 32 := 0#32
  let c2048_i32_38 : BitVec 32 := 2048#32
  let v96 : BitVec 32 := Scalar.addi c0_i32_37 c2048_i32_38
  let c2048_i32_39 : BitVec 32 := 2048#32
  let v97 : BitVec 1 := Scalar.cmpi .sle v96 c2048_i32_39
  let c2_i32_41 : BitVec 32 := 2#32
  let v101 : BitVec 1 := Scalar.cmpi .slt v100 c2_i32_41
  let v102 : BitVec 1 := Scalar.andi v97 v101
  let c0_i32_42 : BitVec 32 := 0#32
  let v103 : BitVec 32 := Scalar.select v102 v96 c0_i32_42
  let c1024_i32_43 : BitVec 32 := 1024#32
  let v104 : BitVec 32 := Scalar.addi v103 c1024_i32_43
  let c2048_i32_44 : BitVec 32 := 2048#32
  let v105 : BitVec 1 := Scalar.cmpi .sle v104 c2048_i32_44
  let c2_i32_46 : BitVec 32 := 2#32
  let v109 : BitVec 1 := Scalar.cmpi .slt v108 c2_i32_46
  let v110 : BitVec 1 := Scalar.andi v105 v109
  let v111 : BitVec 32 := Scalar.select v110 v104 v103
  let c512_i32_47 : BitVec 32 := 512#32
  let v112 : BitVec 32 := Scalar.addi v111 c512_i32_47
  let c2048_i32_48 : BitVec 32 := 2048#32
  let v113 : BitVec 1 := Scalar.cmpi .sle v112 c2048_i32_48
  let c2_i32_50 : BitVec 32 := 2#32
  let v117 : BitVec 1 := Scalar.cmpi .slt v116 c2_i32_50
  let v118 : BitVec 1 := Scalar.andi v113 v117
  let v119 : BitVec 32 := Scalar.select v118 v112 v111
  let c256_i32_51 : BitVec 32 := 256#32
  let v120 : BitVec 32 := Scalar.addi v119 c256_i32_51
  let c2048_i32_52 : BitVec 32 := 2048#32
  let v121 : BitVec 1 := Scalar.cmpi .sle v120 c2048_i32_52
  let c2_i32_54 : BitVec 32 := 2#32
  let v125 : BitVec 1 := Scalar.cmpi .slt v124 c2_i32_54
  let v126 : BitVec 1 := Scalar.andi v121 v125
  let v127 : BitVec 32 := Scalar.select v126 v120 v119
  let c128_i32_55 : BitVec 32 := 128#32
  let v128 : BitVec 32 := Scalar.addi v127 c128_i32_55
  let c2048_i32_56 : BitVec 32 := 2048#32
  let v129 : BitVec 1 := Scalar.cmpi .sle v128 c2048_i32_56
  let c2_i32_58 : BitVec 32 := 2#32
  let v133 : BitVec 1 := Scalar.cmpi .slt v132 c2_i32_58
  let v134 : BitVec 1 := Scalar.andi v129 v133
  let v135 : BitVec 32 := Scalar.select v134 v128 v127
  let c64_i32_59 : BitVec 32 := 64#32
  let v136 : BitVec 32 := Scalar.addi v135 c64_i32_59
  let c2048_i32_60 : BitVec 32 := 2048#32
  let v137 : BitVec 1 := Scalar.cmpi .sle v136 c2048_i32_60
  let c2_i32_62 : BitVec 32 := 2#32
  let v141 : BitVec 1 := Scalar.cmpi .slt v140 c2_i32_62
  let v142 : BitVec 1 := Scalar.andi v137 v141
  let v143 : BitVec 32 := Scalar.select v142 v136 v135
  let c32_i32_63 : BitVec 32 := 32#32
  let v144 : BitVec 32 := Scalar.addi v143 c32_i32_63
  let c1_i32_65 : BitVec 32 := 1#32
  let v146 : BitVec 32 := Scalar.subi v144 c1_i32_65
  let v147 : Index := Scalar.indexCast v146
  ![v147.toNat]

def k0_chk17 (v100 : BitVec 32) (v108 : BitVec 32) (v116 : BitVec 32) (v124 : BitVec 32) (v132 : BitVec 32) (v140 : BitVec 32) : Prop :=
  (∀ a, (k0_off19 v100 v108 v116 v124 v132 v140) a + S1.size a ≤ S2048.size a)
theorem k0_off19_inb : ∀ (v100 : BitVec 32) (v108 : BitVec 32) (v116 : BitVec 32) (v124 : BitVec 32) (v132 : BitVec 32) (v140 : BitVec 32) (k0_hw17 : k0_chk17 v100 v108 v116 v124 v132 v140), ∀ a, (k0_off19 v100 v108 v116 v124 v132 v140) a + S1.size a ≤ S2048.size a := fun v100 v108 v116 v124 v132 v140 k0_hw17 => k0_hw17

def k0_off20 (v100 : BitVec 32) (v108 : BitVec 32) (v116 : BitVec 32) (v124 : BitVec 32) (v132 : BitVec 32) (v140 : BitVec 32) (v148 : BitVec 32) : Fin 1 → Nat :=
  let c0_i32_37 : BitVec 32 := 0#32
  let c2048_i32_38 : BitVec 32 := 2048#32
  let v96 : BitVec 32 := Scalar.addi c0_i32_37 c2048_i32_38
  let c2048_i32_39 : BitVec 32 := 2048#32
  let v97 : BitVec 1 := Scalar.cmpi .sle v96 c2048_i32_39
  let c2_i32_41 : BitVec 32 := 2#32
  let v101 : BitVec 1 := Scalar.cmpi .slt v100 c2_i32_41
  let v102 : BitVec 1 := Scalar.andi v97 v101
  let c0_i32_42 : BitVec 32 := 0#32
  let v103 : BitVec 32 := Scalar.select v102 v96 c0_i32_42
  let c1024_i32_43 : BitVec 32 := 1024#32
  let v104 : BitVec 32 := Scalar.addi v103 c1024_i32_43
  let c2048_i32_44 : BitVec 32 := 2048#32
  let v105 : BitVec 1 := Scalar.cmpi .sle v104 c2048_i32_44
  let c2_i32_46 : BitVec 32 := 2#32
  let v109 : BitVec 1 := Scalar.cmpi .slt v108 c2_i32_46
  let v110 : BitVec 1 := Scalar.andi v105 v109
  let v111 : BitVec 32 := Scalar.select v110 v104 v103
  let c512_i32_47 : BitVec 32 := 512#32
  let v112 : BitVec 32 := Scalar.addi v111 c512_i32_47
  let c2048_i32_48 : BitVec 32 := 2048#32
  let v113 : BitVec 1 := Scalar.cmpi .sle v112 c2048_i32_48
  let c2_i32_50 : BitVec 32 := 2#32
  let v117 : BitVec 1 := Scalar.cmpi .slt v116 c2_i32_50
  let v118 : BitVec 1 := Scalar.andi v113 v117
  let v119 : BitVec 32 := Scalar.select v118 v112 v111
  let c256_i32_51 : BitVec 32 := 256#32
  let v120 : BitVec 32 := Scalar.addi v119 c256_i32_51
  let c2048_i32_52 : BitVec 32 := 2048#32
  let v121 : BitVec 1 := Scalar.cmpi .sle v120 c2048_i32_52
  let c2_i32_54 : BitVec 32 := 2#32
  let v125 : BitVec 1 := Scalar.cmpi .slt v124 c2_i32_54
  let v126 : BitVec 1 := Scalar.andi v121 v125
  let v127 : BitVec 32 := Scalar.select v126 v120 v119
  let c128_i32_55 : BitVec 32 := 128#32
  let v128 : BitVec 32 := Scalar.addi v127 c128_i32_55
  let c2048_i32_56 : BitVec 32 := 2048#32
  let v129 : BitVec 1 := Scalar.cmpi .sle v128 c2048_i32_56
  let c2_i32_58 : BitVec 32 := 2#32
  let v133 : BitVec 1 := Scalar.cmpi .slt v132 c2_i32_58
  let v134 : BitVec 1 := Scalar.andi v129 v133
  let v135 : BitVec 32 := Scalar.select v134 v128 v127
  let c64_i32_59 : BitVec 32 := 64#32
  let v136 : BitVec 32 := Scalar.addi v135 c64_i32_59
  let c2048_i32_60 : BitVec 32 := 2048#32
  let v137 : BitVec 1 := Scalar.cmpi .sle v136 c2048_i32_60
  let c2_i32_62 : BitVec 32 := 2#32
  let v141 : BitVec 1 := Scalar.cmpi .slt v140 c2_i32_62
  let v142 : BitVec 1 := Scalar.andi v137 v141
  let v143 : BitVec 32 := Scalar.select v142 v136 v135
  let c32_i32_63 : BitVec 32 := 32#32
  let v144 : BitVec 32 := Scalar.addi v143 c32_i32_63
  let c2048_i32_64 : BitVec 32 := 2048#32
  let v145 : BitVec 1 := Scalar.cmpi .sle v144 c2048_i32_64
  let c2_i32_66 : BitVec 32 := 2#32
  let v149 : BitVec 1 := Scalar.cmpi .slt v148 c2_i32_66
  let v150 : BitVec 1 := Scalar.andi v145 v149
  let v151 : BitVec 32 := Scalar.select v150 v144 v143
  let c16_i32_67 : BitVec 32 := 16#32
  let v152 : BitVec 32 := Scalar.addi v151 c16_i32_67
  let c1_i32_69 : BitVec 32 := 1#32
  let v154 : BitVec 32 := Scalar.subi v152 c1_i32_69
  let v155 : Index := Scalar.indexCast v154
  ![v155.toNat]

def k0_chk18 (v100 : BitVec 32) (v108 : BitVec 32) (v116 : BitVec 32) (v124 : BitVec 32) (v132 : BitVec 32) (v140 : BitVec 32) (v148 : BitVec 32) : Prop :=
  (∀ a, (k0_off20 v100 v108 v116 v124 v132 v140 v148) a + S1.size a ≤ S2048.size a)
theorem k0_off20_inb : ∀ (v100 : BitVec 32) (v108 : BitVec 32) (v116 : BitVec 32) (v124 : BitVec 32) (v132 : BitVec 32) (v140 : BitVec 32) (v148 : BitVec 32) (k0_hw18 : k0_chk18 v100 v108 v116 v124 v132 v140 v148), ∀ a, (k0_off20 v100 v108 v116 v124 v132 v140 v148) a + S1.size a ≤ S2048.size a := fun v100 v108 v116 v124 v132 v140 v148 k0_hw18 => k0_hw18

def k0_off21 (v100 : BitVec 32) (v108 : BitVec 32) (v116 : BitVec 32) (v124 : BitVec 32) (v132 : BitVec 32) (v140 : BitVec 32) (v148 : BitVec 32) (v156 : BitVec 32) : Fin 1 → Nat :=
  let c0_i32_37 : BitVec 32 := 0#32
  let c2048_i32_38 : BitVec 32 := 2048#32
  let v96 : BitVec 32 := Scalar.addi c0_i32_37 c2048_i32_38
  let c2048_i32_39 : BitVec 32 := 2048#32
  let v97 : BitVec 1 := Scalar.cmpi .sle v96 c2048_i32_39
  let c2_i32_41 : BitVec 32 := 2#32
  let v101 : BitVec 1 := Scalar.cmpi .slt v100 c2_i32_41
  let v102 : BitVec 1 := Scalar.andi v97 v101
  let c0_i32_42 : BitVec 32 := 0#32
  let v103 : BitVec 32 := Scalar.select v102 v96 c0_i32_42
  let c1024_i32_43 : BitVec 32 := 1024#32
  let v104 : BitVec 32 := Scalar.addi v103 c1024_i32_43
  let c2048_i32_44 : BitVec 32 := 2048#32
  let v105 : BitVec 1 := Scalar.cmpi .sle v104 c2048_i32_44
  let c2_i32_46 : BitVec 32 := 2#32
  let v109 : BitVec 1 := Scalar.cmpi .slt v108 c2_i32_46
  let v110 : BitVec 1 := Scalar.andi v105 v109
  let v111 : BitVec 32 := Scalar.select v110 v104 v103
  let c512_i32_47 : BitVec 32 := 512#32
  let v112 : BitVec 32 := Scalar.addi v111 c512_i32_47
  let c2048_i32_48 : BitVec 32 := 2048#32
  let v113 : BitVec 1 := Scalar.cmpi .sle v112 c2048_i32_48
  let c2_i32_50 : BitVec 32 := 2#32
  let v117 : BitVec 1 := Scalar.cmpi .slt v116 c2_i32_50
  let v118 : BitVec 1 := Scalar.andi v113 v117
  let v119 : BitVec 32 := Scalar.select v118 v112 v111
  let c256_i32_51 : BitVec 32 := 256#32
  let v120 : BitVec 32 := Scalar.addi v119 c256_i32_51
  let c2048_i32_52 : BitVec 32 := 2048#32
  let v121 : BitVec 1 := Scalar.cmpi .sle v120 c2048_i32_52
  let c2_i32_54 : BitVec 32 := 2#32
  let v125 : BitVec 1 := Scalar.cmpi .slt v124 c2_i32_54
  let v126 : BitVec 1 := Scalar.andi v121 v125
  let v127 : BitVec 32 := Scalar.select v126 v120 v119
  let c128_i32_55 : BitVec 32 := 128#32
  let v128 : BitVec 32 := Scalar.addi v127 c128_i32_55
  let c2048_i32_56 : BitVec 32 := 2048#32
  let v129 : BitVec 1 := Scalar.cmpi .sle v128 c2048_i32_56
  let c2_i32_58 : BitVec 32 := 2#32
  let v133 : BitVec 1 := Scalar.cmpi .slt v132 c2_i32_58
  let v134 : BitVec 1 := Scalar.andi v129 v133
  let v135 : BitVec 32 := Scalar.select v134 v128 v127
  let c64_i32_59 : BitVec 32 := 64#32
  let v136 : BitVec 32 := Scalar.addi v135 c64_i32_59
  let c2048_i32_60 : BitVec 32 := 2048#32
  let v137 : BitVec 1 := Scalar.cmpi .sle v136 c2048_i32_60
  let c2_i32_62 : BitVec 32 := 2#32
  let v141 : BitVec 1 := Scalar.cmpi .slt v140 c2_i32_62
  let v142 : BitVec 1 := Scalar.andi v137 v141
  let v143 : BitVec 32 := Scalar.select v142 v136 v135
  let c32_i32_63 : BitVec 32 := 32#32
  let v144 : BitVec 32 := Scalar.addi v143 c32_i32_63
  let c2048_i32_64 : BitVec 32 := 2048#32
  let v145 : BitVec 1 := Scalar.cmpi .sle v144 c2048_i32_64
  let c2_i32_66 : BitVec 32 := 2#32
  let v149 : BitVec 1 := Scalar.cmpi .slt v148 c2_i32_66
  let v150 : BitVec 1 := Scalar.andi v145 v149
  let v151 : BitVec 32 := Scalar.select v150 v144 v143
  let c16_i32_67 : BitVec 32 := 16#32
  let v152 : BitVec 32 := Scalar.addi v151 c16_i32_67
  let c2048_i32_68 : BitVec 32 := 2048#32
  let v153 : BitVec 1 := Scalar.cmpi .sle v152 c2048_i32_68
  let c2_i32_70 : BitVec 32 := 2#32
  let v157 : BitVec 1 := Scalar.cmpi .slt v156 c2_i32_70
  let v158 : BitVec 1 := Scalar.andi v153 v157
  let v159 : BitVec 32 := Scalar.select v158 v152 v151
  let c8_i32_71 : BitVec 32 := 8#32
  let v160 : BitVec 32 := Scalar.addi v159 c8_i32_71
  let c1_i32_73 : BitVec 32 := 1#32
  let v162 : BitVec 32 := Scalar.subi v160 c1_i32_73
  let v163 : Index := Scalar.indexCast v162
  ![v163.toNat]

def k0_chk19 (v100 : BitVec 32) (v108 : BitVec 32) (v116 : BitVec 32) (v124 : BitVec 32) (v132 : BitVec 32) (v140 : BitVec 32) (v148 : BitVec 32) (v156 : BitVec 32) : Prop :=
  (∀ a, (k0_off21 v100 v108 v116 v124 v132 v140 v148 v156) a + S1.size a ≤ S2048.size a)
theorem k0_off21_inb : ∀ (v100 : BitVec 32) (v108 : BitVec 32) (v116 : BitVec 32) (v124 : BitVec 32) (v132 : BitVec 32) (v140 : BitVec 32) (v148 : BitVec 32) (v156 : BitVec 32) (k0_hw19 : k0_chk19 v100 v108 v116 v124 v132 v140 v148 v156), ∀ a, (k0_off21 v100 v108 v116 v124 v132 v140 v148 v156) a + S1.size a ≤ S2048.size a := fun v100 v108 v116 v124 v132 v140 v148 v156 k0_hw19 => k0_hw19

def k0_off22 (v100 : BitVec 32) (v108 : BitVec 32) (v116 : BitVec 32) (v124 : BitVec 32) (v132 : BitVec 32) (v140 : BitVec 32) (v148 : BitVec 32) (v156 : BitVec 32) (v164 : BitVec 32) : Fin 1 → Nat :=
  let c0_i32_37 : BitVec 32 := 0#32
  let c2048_i32_38 : BitVec 32 := 2048#32
  let v96 : BitVec 32 := Scalar.addi c0_i32_37 c2048_i32_38
  let c2048_i32_39 : BitVec 32 := 2048#32
  let v97 : BitVec 1 := Scalar.cmpi .sle v96 c2048_i32_39
  let c2_i32_41 : BitVec 32 := 2#32
  let v101 : BitVec 1 := Scalar.cmpi .slt v100 c2_i32_41
  let v102 : BitVec 1 := Scalar.andi v97 v101
  let c0_i32_42 : BitVec 32 := 0#32
  let v103 : BitVec 32 := Scalar.select v102 v96 c0_i32_42
  let c1024_i32_43 : BitVec 32 := 1024#32
  let v104 : BitVec 32 := Scalar.addi v103 c1024_i32_43
  let c2048_i32_44 : BitVec 32 := 2048#32
  let v105 : BitVec 1 := Scalar.cmpi .sle v104 c2048_i32_44
  let c2_i32_46 : BitVec 32 := 2#32
  let v109 : BitVec 1 := Scalar.cmpi .slt v108 c2_i32_46
  let v110 : BitVec 1 := Scalar.andi v105 v109
  let v111 : BitVec 32 := Scalar.select v110 v104 v103
  let c512_i32_47 : BitVec 32 := 512#32
  let v112 : BitVec 32 := Scalar.addi v111 c512_i32_47
  let c2048_i32_48 : BitVec 32 := 2048#32
  let v113 : BitVec 1 := Scalar.cmpi .sle v112 c2048_i32_48
  let c2_i32_50 : BitVec 32 := 2#32
  let v117 : BitVec 1 := Scalar.cmpi .slt v116 c2_i32_50
  let v118 : BitVec 1 := Scalar.andi v113 v117
  let v119 : BitVec 32 := Scalar.select v118 v112 v111
  let c256_i32_51 : BitVec 32 := 256#32
  let v120 : BitVec 32 := Scalar.addi v119 c256_i32_51
  let c2048_i32_52 : BitVec 32 := 2048#32
  let v121 : BitVec 1 := Scalar.cmpi .sle v120 c2048_i32_52
  let c2_i32_54 : BitVec 32 := 2#32
  let v125 : BitVec 1 := Scalar.cmpi .slt v124 c2_i32_54
  let v126 : BitVec 1 := Scalar.andi v121 v125
  let v127 : BitVec 32 := Scalar.select v126 v120 v119
  let c128_i32_55 : BitVec 32 := 128#32
  let v128 : BitVec 32 := Scalar.addi v127 c128_i32_55
  let c2048_i32_56 : BitVec 32 := 2048#32
  let v129 : BitVec 1 := Scalar.cmpi .sle v128 c2048_i32_56
  let c2_i32_58 : BitVec 32 := 2#32
  let v133 : BitVec 1 := Scalar.cmpi .slt v132 c2_i32_58
  let v134 : BitVec 1 := Scalar.andi v129 v133
  let v135 : BitVec 32 := Scalar.select v134 v128 v127
  let c64_i32_59 : BitVec 32 := 64#32
  let v136 : BitVec 32 := Scalar.addi v135 c64_i32_59
  let c2048_i32_60 : BitVec 32 := 2048#32
  let v137 : BitVec 1 := Scalar.cmpi .sle v136 c2048_i32_60
  let c2_i32_62 : BitVec 32 := 2#32
  let v141 : BitVec 1 := Scalar.cmpi .slt v140 c2_i32_62
  let v142 : BitVec 1 := Scalar.andi v137 v141
  let v143 : BitVec 32 := Scalar.select v142 v136 v135
  let c32_i32_63 : BitVec 32 := 32#32
  let v144 : BitVec 32 := Scalar.addi v143 c32_i32_63
  let c2048_i32_64 : BitVec 32 := 2048#32
  let v145 : BitVec 1 := Scalar.cmpi .sle v144 c2048_i32_64
  let c2_i32_66 : BitVec 32 := 2#32
  let v149 : BitVec 1 := Scalar.cmpi .slt v148 c2_i32_66
  let v150 : BitVec 1 := Scalar.andi v145 v149
  let v151 : BitVec 32 := Scalar.select v150 v144 v143
  let c16_i32_67 : BitVec 32 := 16#32
  let v152 : BitVec 32 := Scalar.addi v151 c16_i32_67
  let c2048_i32_68 : BitVec 32 := 2048#32
  let v153 : BitVec 1 := Scalar.cmpi .sle v152 c2048_i32_68
  let c2_i32_70 : BitVec 32 := 2#32
  let v157 : BitVec 1 := Scalar.cmpi .slt v156 c2_i32_70
  let v158 : BitVec 1 := Scalar.andi v153 v157
  let v159 : BitVec 32 := Scalar.select v158 v152 v151
  let c8_i32_71 : BitVec 32 := 8#32
  let v160 : BitVec 32 := Scalar.addi v159 c8_i32_71
  let c2048_i32_72 : BitVec 32 := 2048#32
  let v161 : BitVec 1 := Scalar.cmpi .sle v160 c2048_i32_72
  let c2_i32_74 : BitVec 32 := 2#32
  let v165 : BitVec 1 := Scalar.cmpi .slt v164 c2_i32_74
  let v166 : BitVec 1 := Scalar.andi v161 v165
  let v167 : BitVec 32 := Scalar.select v166 v160 v159
  let c4_i32_75 : BitVec 32 := 4#32
  let v168 : BitVec 32 := Scalar.addi v167 c4_i32_75
  let c1_i32_77 : BitVec 32 := 1#32
  let v170 : BitVec 32 := Scalar.subi v168 c1_i32_77
  let v171 : Index := Scalar.indexCast v170
  ![v171.toNat]

def k0_chk20 (v100 : BitVec 32) (v108 : BitVec 32) (v116 : BitVec 32) (v124 : BitVec 32) (v132 : BitVec 32) (v140 : BitVec 32) (v148 : BitVec 32) (v156 : BitVec 32) (v164 : BitVec 32) : Prop :=
  (∀ a, (k0_off22 v100 v108 v116 v124 v132 v140 v148 v156 v164) a + S1.size a ≤ S2048.size a)
theorem k0_off22_inb : ∀ (v100 : BitVec 32) (v108 : BitVec 32) (v116 : BitVec 32) (v124 : BitVec 32) (v132 : BitVec 32) (v140 : BitVec 32) (v148 : BitVec 32) (v156 : BitVec 32) (v164 : BitVec 32) (k0_hw20 : k0_chk20 v100 v108 v116 v124 v132 v140 v148 v156 v164), ∀ a, (k0_off22 v100 v108 v116 v124 v132 v140 v148 v156 v164) a + S1.size a ≤ S2048.size a := fun v100 v108 v116 v124 v132 v140 v148 v156 v164 k0_hw20 => k0_hw20

def k0_off23 (v100 : BitVec 32) (v108 : BitVec 32) (v116 : BitVec 32) (v124 : BitVec 32) (v132 : BitVec 32) (v140 : BitVec 32) (v148 : BitVec 32) (v156 : BitVec 32) (v164 : BitVec 32) (v172 : BitVec 32) : Fin 1 → Nat :=
  let c0_i32_37 : BitVec 32 := 0#32
  let c2048_i32_38 : BitVec 32 := 2048#32
  let v96 : BitVec 32 := Scalar.addi c0_i32_37 c2048_i32_38
  let c2048_i32_39 : BitVec 32 := 2048#32
  let v97 : BitVec 1 := Scalar.cmpi .sle v96 c2048_i32_39
  let c2_i32_41 : BitVec 32 := 2#32
  let v101 : BitVec 1 := Scalar.cmpi .slt v100 c2_i32_41
  let v102 : BitVec 1 := Scalar.andi v97 v101
  let c0_i32_42 : BitVec 32 := 0#32
  let v103 : BitVec 32 := Scalar.select v102 v96 c0_i32_42
  let c1024_i32_43 : BitVec 32 := 1024#32
  let v104 : BitVec 32 := Scalar.addi v103 c1024_i32_43
  let c2048_i32_44 : BitVec 32 := 2048#32
  let v105 : BitVec 1 := Scalar.cmpi .sle v104 c2048_i32_44
  let c2_i32_46 : BitVec 32 := 2#32
  let v109 : BitVec 1 := Scalar.cmpi .slt v108 c2_i32_46
  let v110 : BitVec 1 := Scalar.andi v105 v109
  let v111 : BitVec 32 := Scalar.select v110 v104 v103
  let c512_i32_47 : BitVec 32 := 512#32
  let v112 : BitVec 32 := Scalar.addi v111 c512_i32_47
  let c2048_i32_48 : BitVec 32 := 2048#32
  let v113 : BitVec 1 := Scalar.cmpi .sle v112 c2048_i32_48
  let c2_i32_50 : BitVec 32 := 2#32
  let v117 : BitVec 1 := Scalar.cmpi .slt v116 c2_i32_50
  let v118 : BitVec 1 := Scalar.andi v113 v117
  let v119 : BitVec 32 := Scalar.select v118 v112 v111
  let c256_i32_51 : BitVec 32 := 256#32
  let v120 : BitVec 32 := Scalar.addi v119 c256_i32_51
  let c2048_i32_52 : BitVec 32 := 2048#32
  let v121 : BitVec 1 := Scalar.cmpi .sle v120 c2048_i32_52
  let c2_i32_54 : BitVec 32 := 2#32
  let v125 : BitVec 1 := Scalar.cmpi .slt v124 c2_i32_54
  let v126 : BitVec 1 := Scalar.andi v121 v125
  let v127 : BitVec 32 := Scalar.select v126 v120 v119
  let c128_i32_55 : BitVec 32 := 128#32
  let v128 : BitVec 32 := Scalar.addi v127 c128_i32_55
  let c2048_i32_56 : BitVec 32 := 2048#32
  let v129 : BitVec 1 := Scalar.cmpi .sle v128 c2048_i32_56
  let c2_i32_58 : BitVec 32 := 2#32
  let v133 : BitVec 1 := Scalar.cmpi .slt v132 c2_i32_58
  let v134 : BitVec 1 := Scalar.andi v129 v133
  let v135 : BitVec 32 := Scalar.select v134 v128 v127
  let c64_i32_59 : BitVec 32 := 64#32
  let v136 : BitVec 32 := Scalar.addi v135 c64_i32_59
  let c2048_i32_60 : BitVec 32 := 2048#32
  let v137 : BitVec 1 := Scalar.cmpi .sle v136 c2048_i32_60
  let c2_i32_62 : BitVec 32 := 2#32
  let v141 : BitVec 1 := Scalar.cmpi .slt v140 c2_i32_62
  let v142 : BitVec 1 := Scalar.andi v137 v141
  let v143 : BitVec 32 := Scalar.select v142 v136 v135
  let c32_i32_63 : BitVec 32 := 32#32
  let v144 : BitVec 32 := Scalar.addi v143 c32_i32_63
  let c2048_i32_64 : BitVec 32 := 2048#32
  let v145 : BitVec 1 := Scalar.cmpi .sle v144 c2048_i32_64
  let c2_i32_66 : BitVec 32 := 2#32
  let v149 : BitVec 1 := Scalar.cmpi .slt v148 c2_i32_66
  let v150 : BitVec 1 := Scalar.andi v145 v149
  let v151 : BitVec 32 := Scalar.select v150 v144 v143
  let c16_i32_67 : BitVec 32 := 16#32
  let v152 : BitVec 32 := Scalar.addi v151 c16_i32_67
  let c2048_i32_68 : BitVec 32 := 2048#32
  let v153 : BitVec 1 := Scalar.cmpi .sle v152 c2048_i32_68
  let c2_i32_70 : BitVec 32 := 2#32
  let v157 : BitVec 1 := Scalar.cmpi .slt v156 c2_i32_70
  let v158 : BitVec 1 := Scalar.andi v153 v157
  let v159 : BitVec 32 := Scalar.select v158 v152 v151
  let c8_i32_71 : BitVec 32 := 8#32
  let v160 : BitVec 32 := Scalar.addi v159 c8_i32_71
  let c2048_i32_72 : BitVec 32 := 2048#32
  let v161 : BitVec 1 := Scalar.cmpi .sle v160 c2048_i32_72
  let c2_i32_74 : BitVec 32 := 2#32
  let v165 : BitVec 1 := Scalar.cmpi .slt v164 c2_i32_74
  let v166 : BitVec 1 := Scalar.andi v161 v165
  let v167 : BitVec 32 := Scalar.select v166 v160 v159
  let c4_i32_75 : BitVec 32 := 4#32
  let v168 : BitVec 32 := Scalar.addi v167 c4_i32_75
  let c2048_i32_76 : BitVec 32 := 2048#32
  let v169 : BitVec 1 := Scalar.cmpi .sle v168 c2048_i32_76
  let c2_i32_78 : BitVec 32 := 2#32
  let v173 : BitVec 1 := Scalar.cmpi .slt v172 c2_i32_78
  let v174 : BitVec 1 := Scalar.andi v169 v173
  let v175 : BitVec 32 := Scalar.select v174 v168 v167
  let c2_i32_79 : BitVec 32 := 2#32
  let v176 : BitVec 32 := Scalar.addi v175 c2_i32_79
  let c1_i32_81 : BitVec 32 := 1#32
  let v178 : BitVec 32 := Scalar.subi v176 c1_i32_81
  let v179 : Index := Scalar.indexCast v178
  ![v179.toNat]

def k0_chk21 (v100 : BitVec 32) (v108 : BitVec 32) (v116 : BitVec 32) (v124 : BitVec 32) (v132 : BitVec 32) (v140 : BitVec 32) (v148 : BitVec 32) (v156 : BitVec 32) (v164 : BitVec 32) (v172 : BitVec 32) : Prop :=
  (∀ a, (k0_off23 v100 v108 v116 v124 v132 v140 v148 v156 v164 v172) a + S1.size a ≤ S2048.size a)
theorem k0_off23_inb : ∀ (v100 : BitVec 32) (v108 : BitVec 32) (v116 : BitVec 32) (v124 : BitVec 32) (v132 : BitVec 32) (v140 : BitVec 32) (v148 : BitVec 32) (v156 : BitVec 32) (v164 : BitVec 32) (v172 : BitVec 32) (k0_hw21 : k0_chk21 v100 v108 v116 v124 v132 v140 v148 v156 v164 v172), ∀ a, (k0_off23 v100 v108 v116 v124 v132 v140 v148 v156 v164 v172) a + S1.size a ≤ S2048.size a := fun v100 v108 v116 v124 v132 v140 v148 v156 v164 v172 k0_hw21 => k0_hw21

def k0_off24 (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) : Fin 1 → Nat :=
  let c0_i32_37 : BitVec 32 := 0#32
  let c2048_i32_38 : BitVec 32 := 2048#32
  let v96 : BitVec 32 := Scalar.addi c0_i32_37 c2048_i32_38
  let c2048_i32_39 : BitVec 32 := 2048#32
  let v97 : BitVec 1 := Scalar.cmpi .sle v96 c2048_i32_39
  let c2_i32_41 : BitVec 32 := 2#32
  let v101 : BitVec 1 := Scalar.cmpi .slt v100 c2_i32_41
  let v102 : BitVec 1 := Scalar.andi v97 v101
  let c0_i32_42 : BitVec 32 := 0#32
  let v103 : BitVec 32 := Scalar.select v102 v96 c0_i32_42
  let c1024_i32_43 : BitVec 32 := 1024#32
  let v104 : BitVec 32 := Scalar.addi v103 c1024_i32_43
  let c2048_i32_44 : BitVec 32 := 2048#32
  let v105 : BitVec 1 := Scalar.cmpi .sle v104 c2048_i32_44
  let c2_i32_46 : BitVec 32 := 2#32
  let v109 : BitVec 1 := Scalar.cmpi .slt v108 c2_i32_46
  let v110 : BitVec 1 := Scalar.andi v105 v109
  let v111 : BitVec 32 := Scalar.select v110 v104 v103
  let c512_i32_47 : BitVec 32 := 512#32
  let v112 : BitVec 32 := Scalar.addi v111 c512_i32_47
  let c2048_i32_48 : BitVec 32 := 2048#32
  let v113 : BitVec 1 := Scalar.cmpi .sle v112 c2048_i32_48
  let c2_i32_50 : BitVec 32 := 2#32
  let v117 : BitVec 1 := Scalar.cmpi .slt v116 c2_i32_50
  let v118 : BitVec 1 := Scalar.andi v113 v117
  let v119 : BitVec 32 := Scalar.select v118 v112 v111
  let c256_i32_51 : BitVec 32 := 256#32
  let v120 : BitVec 32 := Scalar.addi v119 c256_i32_51
  let c2048_i32_52 : BitVec 32 := 2048#32
  let v121 : BitVec 1 := Scalar.cmpi .sle v120 c2048_i32_52
  let c2_i32_54 : BitVec 32 := 2#32
  let v125 : BitVec 1 := Scalar.cmpi .slt v124 c2_i32_54
  let v126 : BitVec 1 := Scalar.andi v121 v125
  let v127 : BitVec 32 := Scalar.select v126 v120 v119
  let c128_i32_55 : BitVec 32 := 128#32
  let v128 : BitVec 32 := Scalar.addi v127 c128_i32_55
  let c2048_i32_56 : BitVec 32 := 2048#32
  let v129 : BitVec 1 := Scalar.cmpi .sle v128 c2048_i32_56
  let c2_i32_58 : BitVec 32 := 2#32
  let v133 : BitVec 1 := Scalar.cmpi .slt v132 c2_i32_58
  let v134 : BitVec 1 := Scalar.andi v129 v133
  let v135 : BitVec 32 := Scalar.select v134 v128 v127
  let c64_i32_59 : BitVec 32 := 64#32
  let v136 : BitVec 32 := Scalar.addi v135 c64_i32_59
  let c2048_i32_60 : BitVec 32 := 2048#32
  let v137 : BitVec 1 := Scalar.cmpi .sle v136 c2048_i32_60
  let c2_i32_62 : BitVec 32 := 2#32
  let v141 : BitVec 1 := Scalar.cmpi .slt v140 c2_i32_62
  let v142 : BitVec 1 := Scalar.andi v137 v141
  let v143 : BitVec 32 := Scalar.select v142 v136 v135
  let c32_i32_63 : BitVec 32 := 32#32
  let v144 : BitVec 32 := Scalar.addi v143 c32_i32_63
  let c2048_i32_64 : BitVec 32 := 2048#32
  let v145 : BitVec 1 := Scalar.cmpi .sle v144 c2048_i32_64
  let c2_i32_66 : BitVec 32 := 2#32
  let v149 : BitVec 1 := Scalar.cmpi .slt v148 c2_i32_66
  let v150 : BitVec 1 := Scalar.andi v145 v149
  let v151 : BitVec 32 := Scalar.select v150 v144 v143
  let c16_i32_67 : BitVec 32 := 16#32
  let v152 : BitVec 32 := Scalar.addi v151 c16_i32_67
  let c2048_i32_68 : BitVec 32 := 2048#32
  let v153 : BitVec 1 := Scalar.cmpi .sle v152 c2048_i32_68
  let c2_i32_70 : BitVec 32 := 2#32
  let v157 : BitVec 1 := Scalar.cmpi .slt v156 c2_i32_70
  let v158 : BitVec 1 := Scalar.andi v153 v157
  let v159 : BitVec 32 := Scalar.select v158 v152 v151
  let c8_i32_71 : BitVec 32 := 8#32
  let v160 : BitVec 32 := Scalar.addi v159 c8_i32_71
  let c2048_i32_72 : BitVec 32 := 2048#32
  let v161 : BitVec 1 := Scalar.cmpi .sle v160 c2048_i32_72
  let c2_i32_74 : BitVec 32 := 2#32
  let v165 : BitVec 1 := Scalar.cmpi .slt v164 c2_i32_74
  let v166 : BitVec 1 := Scalar.andi v161 v165
  let v167 : BitVec 32 := Scalar.select v166 v160 v159
  let c4_i32_75 : BitVec 32 := 4#32
  let v168 : BitVec 32 := Scalar.addi v167 c4_i32_75
  let c2048_i32_76 : BitVec 32 := 2048#32
  let v169 : BitVec 1 := Scalar.cmpi .sle v168 c2048_i32_76
  let c2_i32_78 : BitVec 32 := 2#32
  let v173 : BitVec 1 := Scalar.cmpi .slt v172 c2_i32_78
  let v174 : BitVec 1 := Scalar.andi v169 v173
  let v175 : BitVec 32 := Scalar.select v174 v168 v167
  let c2_i32_79 : BitVec 32 := 2#32
  let v176 : BitVec 32 := Scalar.addi v175 c2_i32_79
  let c2048_i32_80 : BitVec 32 := 2048#32
  let v177 : BitVec 1 := Scalar.cmpi .sle v176 c2048_i32_80
  let c2_i32_82 : BitVec 32 := 2#32
  let v181 : BitVec 1 := Scalar.cmpi .slt v180 c2_i32_82
  let v182 : BitVec 1 := Scalar.andi v177 v181
  let v183 : BitVec 32 := Scalar.select v182 v176 v175
  let c1_i32_83 : BitVec 32 := 1#32
  let v184 : BitVec 32 := Scalar.addi v183 c1_i32_83
  let c1_i32_85 : BitVec 32 := 1#32
  let v186 : BitVec 32 := Scalar.subi v184 c1_i32_85
  let v187 : Index := Scalar.indexCast v186
  ![v187.toNat]

def k0_chk22 (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) : Prop :=
  (∀ a, (k0_off24 v100 v108 v116 v124 v132 v140 v148 v156 v164 v172 v180) a + S1.size a ≤ S2048.size a)
theorem k0_off24_inb : ∀ (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (k0_hw22 : k0_chk22 v100 v108 v116 v124 v132 v140 v148 v156 v164 v172 v180), ∀ a, (k0_off24 v100 v108 v116 v124 v132 v140 v148 v156 v164 v172 v180) a + S1.size a ≤ S2048.size a := fun v100 v108 v116 v124 v132 v140 v148 v156 v164 v172 v180 k0_hw22 => k0_hw22

def k0_off25 : Fin 1 → Nat :=
  let c0_i32_87 : BitVec 32 := 0#32
  let c2048_i32_88 : BitVec 32 := 2048#32
  let v192 : BitVec 32 := Scalar.addi c0_i32_87 c2048_i32_88
  let c1_i32_90 : BitVec 32 := 1#32
  let v194 : BitVec 32 := Scalar.subi v192 c1_i32_90
  let v195 : Index := Scalar.indexCast v194
  ![v195.toNat]
def k0_off26 (v196 : BitVec 32) : Fin 1 → Nat :=
  let c0_i32_87 : BitVec 32 := 0#32
  let c2048_i32_88 : BitVec 32 := 2048#32
  let v192 : BitVec 32 := Scalar.addi c0_i32_87 c2048_i32_88
  let c2048_i32_89 : BitVec 32 := 2048#32
  let v193 : BitVec 1 := Scalar.cmpi .sle v192 c2048_i32_89
  let c3_i32 : BitVec 32 := 3#32
  let v197 : BitVec 1 := Scalar.cmpi .slt v196 c3_i32
  let v198 : BitVec 1 := Scalar.andi v193 v197
  let c0_i32_91 : BitVec 32 := 0#32
  let v199 : BitVec 32 := Scalar.select v198 v192 c0_i32_91
  let c1024_i32_92 : BitVec 32 := 1024#32
  let v200 : BitVec 32 := Scalar.addi v199 c1024_i32_92
  let c1_i32_94 : BitVec 32 := 1#32
  let v202 : BitVec 32 := Scalar.subi v200 c1_i32_94
  let v203 : Index := Scalar.indexCast v202
  ![v203.toNat]

def k0_chk23 (v196 : BitVec 32) : Prop :=
  (∀ a, (k0_off26 v196) a + S1.size a ≤ S2048.size a)
theorem k0_off26_inb : ∀ (v196 : BitVec 32) (k0_hw23 : k0_chk23 v196), ∀ a, (k0_off26 v196) a + S1.size a ≤ S2048.size a := fun v196 k0_hw23 => k0_hw23

def k0_off27 (v196 : BitVec 32) (v204 : BitVec 32) : Fin 1 → Nat :=
  let c0_i32_87 : BitVec 32 := 0#32
  let c2048_i32_88 : BitVec 32 := 2048#32
  let v192 : BitVec 32 := Scalar.addi c0_i32_87 c2048_i32_88
  let c2048_i32_89 : BitVec 32 := 2048#32
  let v193 : BitVec 1 := Scalar.cmpi .sle v192 c2048_i32_89
  let c3_i32 : BitVec 32 := 3#32
  let v197 : BitVec 1 := Scalar.cmpi .slt v196 c3_i32
  let v198 : BitVec 1 := Scalar.andi v193 v197
  let c0_i32_91 : BitVec 32 := 0#32
  let v199 : BitVec 32 := Scalar.select v198 v192 c0_i32_91
  let c1024_i32_92 : BitVec 32 := 1024#32
  let v200 : BitVec 32 := Scalar.addi v199 c1024_i32_92
  let c2048_i32_93 : BitVec 32 := 2048#32
  let v201 : BitVec 1 := Scalar.cmpi .sle v200 c2048_i32_93
  let c3_i32_95 : BitVec 32 := 3#32
  let v205 : BitVec 1 := Scalar.cmpi .slt v204 c3_i32_95
  let v206 : BitVec 1 := Scalar.andi v201 v205
  let v207 : BitVec 32 := Scalar.select v206 v200 v199
  let c512_i32_96 : BitVec 32 := 512#32
  let v208 : BitVec 32 := Scalar.addi v207 c512_i32_96
  let c1_i32_98 : BitVec 32 := 1#32
  let v210 : BitVec 32 := Scalar.subi v208 c1_i32_98
  let v211 : Index := Scalar.indexCast v210
  ![v211.toNat]

def k0_chk24 (v196 : BitVec 32) (v204 : BitVec 32) : Prop :=
  (∀ a, (k0_off27 v196 v204) a + S1.size a ≤ S2048.size a)
theorem k0_off27_inb : ∀ (v196 : BitVec 32) (v204 : BitVec 32) (k0_hw24 : k0_chk24 v196 v204), ∀ a, (k0_off27 v196 v204) a + S1.size a ≤ S2048.size a := fun v196 v204 k0_hw24 => k0_hw24

def k0_off28 (v196 : BitVec 32) (v204 : BitVec 32) (v212 : BitVec 32) : Fin 1 → Nat :=
  let c0_i32_87 : BitVec 32 := 0#32
  let c2048_i32_88 : BitVec 32 := 2048#32
  let v192 : BitVec 32 := Scalar.addi c0_i32_87 c2048_i32_88
  let c2048_i32_89 : BitVec 32 := 2048#32
  let v193 : BitVec 1 := Scalar.cmpi .sle v192 c2048_i32_89
  let c3_i32 : BitVec 32 := 3#32
  let v197 : BitVec 1 := Scalar.cmpi .slt v196 c3_i32
  let v198 : BitVec 1 := Scalar.andi v193 v197
  let c0_i32_91 : BitVec 32 := 0#32
  let v199 : BitVec 32 := Scalar.select v198 v192 c0_i32_91
  let c1024_i32_92 : BitVec 32 := 1024#32
  let v200 : BitVec 32 := Scalar.addi v199 c1024_i32_92
  let c2048_i32_93 : BitVec 32 := 2048#32
  let v201 : BitVec 1 := Scalar.cmpi .sle v200 c2048_i32_93
  let c3_i32_95 : BitVec 32 := 3#32
  let v205 : BitVec 1 := Scalar.cmpi .slt v204 c3_i32_95
  let v206 : BitVec 1 := Scalar.andi v201 v205
  let v207 : BitVec 32 := Scalar.select v206 v200 v199
  let c512_i32_96 : BitVec 32 := 512#32
  let v208 : BitVec 32 := Scalar.addi v207 c512_i32_96
  let c2048_i32_97 : BitVec 32 := 2048#32
  let v209 : BitVec 1 := Scalar.cmpi .sle v208 c2048_i32_97
  let c3_i32_99 : BitVec 32 := 3#32
  let v213 : BitVec 1 := Scalar.cmpi .slt v212 c3_i32_99
  let v214 : BitVec 1 := Scalar.andi v209 v213
  let v215 : BitVec 32 := Scalar.select v214 v208 v207
  let c256_i32_100 : BitVec 32 := 256#32
  let v216 : BitVec 32 := Scalar.addi v215 c256_i32_100
  let c1_i32_102 : BitVec 32 := 1#32
  let v218 : BitVec 32 := Scalar.subi v216 c1_i32_102
  let v219 : Index := Scalar.indexCast v218
  ![v219.toNat]

def k0_chk25 (v196 : BitVec 32) (v204 : BitVec 32) (v212 : BitVec 32) : Prop :=
  (∀ a, (k0_off28 v196 v204 v212) a + S1.size a ≤ S2048.size a)
theorem k0_off28_inb : ∀ (v196 : BitVec 32) (v204 : BitVec 32) (v212 : BitVec 32) (k0_hw25 : k0_chk25 v196 v204 v212), ∀ a, (k0_off28 v196 v204 v212) a + S1.size a ≤ S2048.size a := fun v196 v204 v212 k0_hw25 => k0_hw25

def k0_off29 (v196 : BitVec 32) (v204 : BitVec 32) (v212 : BitVec 32) (v220 : BitVec 32) : Fin 1 → Nat :=
  let c0_i32_87 : BitVec 32 := 0#32
  let c2048_i32_88 : BitVec 32 := 2048#32
  let v192 : BitVec 32 := Scalar.addi c0_i32_87 c2048_i32_88
  let c2048_i32_89 : BitVec 32 := 2048#32
  let v193 : BitVec 1 := Scalar.cmpi .sle v192 c2048_i32_89
  let c3_i32 : BitVec 32 := 3#32
  let v197 : BitVec 1 := Scalar.cmpi .slt v196 c3_i32
  let v198 : BitVec 1 := Scalar.andi v193 v197
  let c0_i32_91 : BitVec 32 := 0#32
  let v199 : BitVec 32 := Scalar.select v198 v192 c0_i32_91
  let c1024_i32_92 : BitVec 32 := 1024#32
  let v200 : BitVec 32 := Scalar.addi v199 c1024_i32_92
  let c2048_i32_93 : BitVec 32 := 2048#32
  let v201 : BitVec 1 := Scalar.cmpi .sle v200 c2048_i32_93
  let c3_i32_95 : BitVec 32 := 3#32
  let v205 : BitVec 1 := Scalar.cmpi .slt v204 c3_i32_95
  let v206 : BitVec 1 := Scalar.andi v201 v205
  let v207 : BitVec 32 := Scalar.select v206 v200 v199
  let c512_i32_96 : BitVec 32 := 512#32
  let v208 : BitVec 32 := Scalar.addi v207 c512_i32_96
  let c2048_i32_97 : BitVec 32 := 2048#32
  let v209 : BitVec 1 := Scalar.cmpi .sle v208 c2048_i32_97
  let c3_i32_99 : BitVec 32 := 3#32
  let v213 : BitVec 1 := Scalar.cmpi .slt v212 c3_i32_99
  let v214 : BitVec 1 := Scalar.andi v209 v213
  let v215 : BitVec 32 := Scalar.select v214 v208 v207
  let c256_i32_100 : BitVec 32 := 256#32
  let v216 : BitVec 32 := Scalar.addi v215 c256_i32_100
  let c2048_i32_101 : BitVec 32 := 2048#32
  let v217 : BitVec 1 := Scalar.cmpi .sle v216 c2048_i32_101
  let c3_i32_103 : BitVec 32 := 3#32
  let v221 : BitVec 1 := Scalar.cmpi .slt v220 c3_i32_103
  let v222 : BitVec 1 := Scalar.andi v217 v221
  let v223 : BitVec 32 := Scalar.select v222 v216 v215
  let c128_i32_104 : BitVec 32 := 128#32
  let v224 : BitVec 32 := Scalar.addi v223 c128_i32_104
  let c1_i32_106 : BitVec 32 := 1#32
  let v226 : BitVec 32 := Scalar.subi v224 c1_i32_106
  let v227 : Index := Scalar.indexCast v226
  ![v227.toNat]

def k0_chk26 (v196 : BitVec 32) (v204 : BitVec 32) (v212 : BitVec 32) (v220 : BitVec 32) : Prop :=
  (∀ a, (k0_off29 v196 v204 v212 v220) a + S1.size a ≤ S2048.size a)
theorem k0_off29_inb : ∀ (v196 : BitVec 32) (v204 : BitVec 32) (v212 : BitVec 32) (v220 : BitVec 32) (k0_hw26 : k0_chk26 v196 v204 v212 v220), ∀ a, (k0_off29 v196 v204 v212 v220) a + S1.size a ≤ S2048.size a := fun v196 v204 v212 v220 k0_hw26 => k0_hw26

def k0_off30 (v196 : BitVec 32) (v204 : BitVec 32) (v212 : BitVec 32) (v220 : BitVec 32) (v228 : BitVec 32) : Fin 1 → Nat :=
  let c0_i32_87 : BitVec 32 := 0#32
  let c2048_i32_88 : BitVec 32 := 2048#32
  let v192 : BitVec 32 := Scalar.addi c0_i32_87 c2048_i32_88
  let c2048_i32_89 : BitVec 32 := 2048#32
  let v193 : BitVec 1 := Scalar.cmpi .sle v192 c2048_i32_89
  let c3_i32 : BitVec 32 := 3#32
  let v197 : BitVec 1 := Scalar.cmpi .slt v196 c3_i32
  let v198 : BitVec 1 := Scalar.andi v193 v197
  let c0_i32_91 : BitVec 32 := 0#32
  let v199 : BitVec 32 := Scalar.select v198 v192 c0_i32_91
  let c1024_i32_92 : BitVec 32 := 1024#32
  let v200 : BitVec 32 := Scalar.addi v199 c1024_i32_92
  let c2048_i32_93 : BitVec 32 := 2048#32
  let v201 : BitVec 1 := Scalar.cmpi .sle v200 c2048_i32_93
  let c3_i32_95 : BitVec 32 := 3#32
  let v205 : BitVec 1 := Scalar.cmpi .slt v204 c3_i32_95
  let v206 : BitVec 1 := Scalar.andi v201 v205
  let v207 : BitVec 32 := Scalar.select v206 v200 v199
  let c512_i32_96 : BitVec 32 := 512#32
  let v208 : BitVec 32 := Scalar.addi v207 c512_i32_96
  let c2048_i32_97 : BitVec 32 := 2048#32
  let v209 : BitVec 1 := Scalar.cmpi .sle v208 c2048_i32_97
  let c3_i32_99 : BitVec 32 := 3#32
  let v213 : BitVec 1 := Scalar.cmpi .slt v212 c3_i32_99
  let v214 : BitVec 1 := Scalar.andi v209 v213
  let v215 : BitVec 32 := Scalar.select v214 v208 v207
  let c256_i32_100 : BitVec 32 := 256#32
  let v216 : BitVec 32 := Scalar.addi v215 c256_i32_100
  let c2048_i32_101 : BitVec 32 := 2048#32
  let v217 : BitVec 1 := Scalar.cmpi .sle v216 c2048_i32_101
  let c3_i32_103 : BitVec 32 := 3#32
  let v221 : BitVec 1 := Scalar.cmpi .slt v220 c3_i32_103
  let v222 : BitVec 1 := Scalar.andi v217 v221
  let v223 : BitVec 32 := Scalar.select v222 v216 v215
  let c128_i32_104 : BitVec 32 := 128#32
  let v224 : BitVec 32 := Scalar.addi v223 c128_i32_104
  let c2048_i32_105 : BitVec 32 := 2048#32
  let v225 : BitVec 1 := Scalar.cmpi .sle v224 c2048_i32_105
  let c3_i32_107 : BitVec 32 := 3#32
  let v229 : BitVec 1 := Scalar.cmpi .slt v228 c3_i32_107
  let v230 : BitVec 1 := Scalar.andi v225 v229
  let v231 : BitVec 32 := Scalar.select v230 v224 v223
  let c64_i32_108 : BitVec 32 := 64#32
  let v232 : BitVec 32 := Scalar.addi v231 c64_i32_108
  let c1_i32_110 : BitVec 32 := 1#32
  let v234 : BitVec 32 := Scalar.subi v232 c1_i32_110
  let v235 : Index := Scalar.indexCast v234
  ![v235.toNat]

def k0_chk27 (v196 : BitVec 32) (v204 : BitVec 32) (v212 : BitVec 32) (v220 : BitVec 32) (v228 : BitVec 32) : Prop :=
  (∀ a, (k0_off30 v196 v204 v212 v220 v228) a + S1.size a ≤ S2048.size a)
theorem k0_off30_inb : ∀ (v196 : BitVec 32) (v204 : BitVec 32) (v212 : BitVec 32) (v220 : BitVec 32) (v228 : BitVec 32) (k0_hw27 : k0_chk27 v196 v204 v212 v220 v228), ∀ a, (k0_off30 v196 v204 v212 v220 v228) a + S1.size a ≤ S2048.size a := fun v196 v204 v212 v220 v228 k0_hw27 => k0_hw27

def k0_off31 (v196 : BitVec 32) (v204 : BitVec 32) (v212 : BitVec 32) (v220 : BitVec 32) (v228 : BitVec 32) (v236 : BitVec 32) : Fin 1 → Nat :=
  let c0_i32_87 : BitVec 32 := 0#32
  let c2048_i32_88 : BitVec 32 := 2048#32
  let v192 : BitVec 32 := Scalar.addi c0_i32_87 c2048_i32_88
  let c2048_i32_89 : BitVec 32 := 2048#32
  let v193 : BitVec 1 := Scalar.cmpi .sle v192 c2048_i32_89
  let c3_i32 : BitVec 32 := 3#32
  let v197 : BitVec 1 := Scalar.cmpi .slt v196 c3_i32
  let v198 : BitVec 1 := Scalar.andi v193 v197
  let c0_i32_91 : BitVec 32 := 0#32
  let v199 : BitVec 32 := Scalar.select v198 v192 c0_i32_91
  let c1024_i32_92 : BitVec 32 := 1024#32
  let v200 : BitVec 32 := Scalar.addi v199 c1024_i32_92
  let c2048_i32_93 : BitVec 32 := 2048#32
  let v201 : BitVec 1 := Scalar.cmpi .sle v200 c2048_i32_93
  let c3_i32_95 : BitVec 32 := 3#32
  let v205 : BitVec 1 := Scalar.cmpi .slt v204 c3_i32_95
  let v206 : BitVec 1 := Scalar.andi v201 v205
  let v207 : BitVec 32 := Scalar.select v206 v200 v199
  let c512_i32_96 : BitVec 32 := 512#32
  let v208 : BitVec 32 := Scalar.addi v207 c512_i32_96
  let c2048_i32_97 : BitVec 32 := 2048#32
  let v209 : BitVec 1 := Scalar.cmpi .sle v208 c2048_i32_97
  let c3_i32_99 : BitVec 32 := 3#32
  let v213 : BitVec 1 := Scalar.cmpi .slt v212 c3_i32_99
  let v214 : BitVec 1 := Scalar.andi v209 v213
  let v215 : BitVec 32 := Scalar.select v214 v208 v207
  let c256_i32_100 : BitVec 32 := 256#32
  let v216 : BitVec 32 := Scalar.addi v215 c256_i32_100
  let c2048_i32_101 : BitVec 32 := 2048#32
  let v217 : BitVec 1 := Scalar.cmpi .sle v216 c2048_i32_101
  let c3_i32_103 : BitVec 32 := 3#32
  let v221 : BitVec 1 := Scalar.cmpi .slt v220 c3_i32_103
  let v222 : BitVec 1 := Scalar.andi v217 v221
  let v223 : BitVec 32 := Scalar.select v222 v216 v215
  let c128_i32_104 : BitVec 32 := 128#32
  let v224 : BitVec 32 := Scalar.addi v223 c128_i32_104
  let c2048_i32_105 : BitVec 32 := 2048#32
  let v225 : BitVec 1 := Scalar.cmpi .sle v224 c2048_i32_105
  let c3_i32_107 : BitVec 32 := 3#32
  let v229 : BitVec 1 := Scalar.cmpi .slt v228 c3_i32_107
  let v230 : BitVec 1 := Scalar.andi v225 v229
  let v231 : BitVec 32 := Scalar.select v230 v224 v223
  let c64_i32_108 : BitVec 32 := 64#32
  let v232 : BitVec 32 := Scalar.addi v231 c64_i32_108
  let c2048_i32_109 : BitVec 32 := 2048#32
  let v233 : BitVec 1 := Scalar.cmpi .sle v232 c2048_i32_109
  let c3_i32_111 : BitVec 32 := 3#32
  let v237 : BitVec 1 := Scalar.cmpi .slt v236 c3_i32_111
  let v238 : BitVec 1 := Scalar.andi v233 v237
  let v239 : BitVec 32 := Scalar.select v238 v232 v231
  let c32_i32_112 : BitVec 32 := 32#32
  let v240 : BitVec 32 := Scalar.addi v239 c32_i32_112
  let c1_i32_114 : BitVec 32 := 1#32
  let v242 : BitVec 32 := Scalar.subi v240 c1_i32_114
  let v243 : Index := Scalar.indexCast v242
  ![v243.toNat]

def k0_chk28 (v196 : BitVec 32) (v204 : BitVec 32) (v212 : BitVec 32) (v220 : BitVec 32) (v228 : BitVec 32) (v236 : BitVec 32) : Prop :=
  (∀ a, (k0_off31 v196 v204 v212 v220 v228 v236) a + S1.size a ≤ S2048.size a)
theorem k0_off31_inb : ∀ (v196 : BitVec 32) (v204 : BitVec 32) (v212 : BitVec 32) (v220 : BitVec 32) (v228 : BitVec 32) (v236 : BitVec 32) (k0_hw28 : k0_chk28 v196 v204 v212 v220 v228 v236), ∀ a, (k0_off31 v196 v204 v212 v220 v228 v236) a + S1.size a ≤ S2048.size a := fun v196 v204 v212 v220 v228 v236 k0_hw28 => k0_hw28

def k0_off32 (v196 : BitVec 32) (v204 : BitVec 32) (v212 : BitVec 32) (v220 : BitVec 32) (v228 : BitVec 32) (v236 : BitVec 32) (v244 : BitVec 32) : Fin 1 → Nat :=
  let c0_i32_87 : BitVec 32 := 0#32
  let c2048_i32_88 : BitVec 32 := 2048#32
  let v192 : BitVec 32 := Scalar.addi c0_i32_87 c2048_i32_88
  let c2048_i32_89 : BitVec 32 := 2048#32
  let v193 : BitVec 1 := Scalar.cmpi .sle v192 c2048_i32_89
  let c3_i32 : BitVec 32 := 3#32
  let v197 : BitVec 1 := Scalar.cmpi .slt v196 c3_i32
  let v198 : BitVec 1 := Scalar.andi v193 v197
  let c0_i32_91 : BitVec 32 := 0#32
  let v199 : BitVec 32 := Scalar.select v198 v192 c0_i32_91
  let c1024_i32_92 : BitVec 32 := 1024#32
  let v200 : BitVec 32 := Scalar.addi v199 c1024_i32_92
  let c2048_i32_93 : BitVec 32 := 2048#32
  let v201 : BitVec 1 := Scalar.cmpi .sle v200 c2048_i32_93
  let c3_i32_95 : BitVec 32 := 3#32
  let v205 : BitVec 1 := Scalar.cmpi .slt v204 c3_i32_95
  let v206 : BitVec 1 := Scalar.andi v201 v205
  let v207 : BitVec 32 := Scalar.select v206 v200 v199
  let c512_i32_96 : BitVec 32 := 512#32
  let v208 : BitVec 32 := Scalar.addi v207 c512_i32_96
  let c2048_i32_97 : BitVec 32 := 2048#32
  let v209 : BitVec 1 := Scalar.cmpi .sle v208 c2048_i32_97
  let c3_i32_99 : BitVec 32 := 3#32
  let v213 : BitVec 1 := Scalar.cmpi .slt v212 c3_i32_99
  let v214 : BitVec 1 := Scalar.andi v209 v213
  let v215 : BitVec 32 := Scalar.select v214 v208 v207
  let c256_i32_100 : BitVec 32 := 256#32
  let v216 : BitVec 32 := Scalar.addi v215 c256_i32_100
  let c2048_i32_101 : BitVec 32 := 2048#32
  let v217 : BitVec 1 := Scalar.cmpi .sle v216 c2048_i32_101
  let c3_i32_103 : BitVec 32 := 3#32
  let v221 : BitVec 1 := Scalar.cmpi .slt v220 c3_i32_103
  let v222 : BitVec 1 := Scalar.andi v217 v221
  let v223 : BitVec 32 := Scalar.select v222 v216 v215
  let c128_i32_104 : BitVec 32 := 128#32
  let v224 : BitVec 32 := Scalar.addi v223 c128_i32_104
  let c2048_i32_105 : BitVec 32 := 2048#32
  let v225 : BitVec 1 := Scalar.cmpi .sle v224 c2048_i32_105
  let c3_i32_107 : BitVec 32 := 3#32
  let v229 : BitVec 1 := Scalar.cmpi .slt v228 c3_i32_107
  let v230 : BitVec 1 := Scalar.andi v225 v229
  let v231 : BitVec 32 := Scalar.select v230 v224 v223
  let c64_i32_108 : BitVec 32 := 64#32
  let v232 : BitVec 32 := Scalar.addi v231 c64_i32_108
  let c2048_i32_109 : BitVec 32 := 2048#32
  let v233 : BitVec 1 := Scalar.cmpi .sle v232 c2048_i32_109
  let c3_i32_111 : BitVec 32 := 3#32
  let v237 : BitVec 1 := Scalar.cmpi .slt v236 c3_i32_111
  let v238 : BitVec 1 := Scalar.andi v233 v237
  let v239 : BitVec 32 := Scalar.select v238 v232 v231
  let c32_i32_112 : BitVec 32 := 32#32
  let v240 : BitVec 32 := Scalar.addi v239 c32_i32_112
  let c2048_i32_113 : BitVec 32 := 2048#32
  let v241 : BitVec 1 := Scalar.cmpi .sle v240 c2048_i32_113
  let c3_i32_115 : BitVec 32 := 3#32
  let v245 : BitVec 1 := Scalar.cmpi .slt v244 c3_i32_115
  let v246 : BitVec 1 := Scalar.andi v241 v245
  let v247 : BitVec 32 := Scalar.select v246 v240 v239
  let c16_i32_116 : BitVec 32 := 16#32
  let v248 : BitVec 32 := Scalar.addi v247 c16_i32_116
  let c1_i32_118 : BitVec 32 := 1#32
  let v250 : BitVec 32 := Scalar.subi v248 c1_i32_118
  let v251 : Index := Scalar.indexCast v250
  ![v251.toNat]

def k0_chk29 (v196 : BitVec 32) (v204 : BitVec 32) (v212 : BitVec 32) (v220 : BitVec 32) (v228 : BitVec 32) (v236 : BitVec 32) (v244 : BitVec 32) : Prop :=
  (∀ a, (k0_off32 v196 v204 v212 v220 v228 v236 v244) a + S1.size a ≤ S2048.size a)
theorem k0_off32_inb : ∀ (v196 : BitVec 32) (v204 : BitVec 32) (v212 : BitVec 32) (v220 : BitVec 32) (v228 : BitVec 32) (v236 : BitVec 32) (v244 : BitVec 32) (k0_hw29 : k0_chk29 v196 v204 v212 v220 v228 v236 v244), ∀ a, (k0_off32 v196 v204 v212 v220 v228 v236 v244) a + S1.size a ≤ S2048.size a := fun v196 v204 v212 v220 v228 v236 v244 k0_hw29 => k0_hw29

def k0_off33 (v196 : BitVec 32) (v204 : BitVec 32) (v212 : BitVec 32) (v220 : BitVec 32) (v228 : BitVec 32) (v236 : BitVec 32) (v244 : BitVec 32) (v252 : BitVec 32) : Fin 1 → Nat :=
  let c0_i32_87 : BitVec 32 := 0#32
  let c2048_i32_88 : BitVec 32 := 2048#32
  let v192 : BitVec 32 := Scalar.addi c0_i32_87 c2048_i32_88
  let c2048_i32_89 : BitVec 32 := 2048#32
  let v193 : BitVec 1 := Scalar.cmpi .sle v192 c2048_i32_89
  let c3_i32 : BitVec 32 := 3#32
  let v197 : BitVec 1 := Scalar.cmpi .slt v196 c3_i32
  let v198 : BitVec 1 := Scalar.andi v193 v197
  let c0_i32_91 : BitVec 32 := 0#32
  let v199 : BitVec 32 := Scalar.select v198 v192 c0_i32_91
  let c1024_i32_92 : BitVec 32 := 1024#32
  let v200 : BitVec 32 := Scalar.addi v199 c1024_i32_92
  let c2048_i32_93 : BitVec 32 := 2048#32
  let v201 : BitVec 1 := Scalar.cmpi .sle v200 c2048_i32_93
  let c3_i32_95 : BitVec 32 := 3#32
  let v205 : BitVec 1 := Scalar.cmpi .slt v204 c3_i32_95
  let v206 : BitVec 1 := Scalar.andi v201 v205
  let v207 : BitVec 32 := Scalar.select v206 v200 v199
  let c512_i32_96 : BitVec 32 := 512#32
  let v208 : BitVec 32 := Scalar.addi v207 c512_i32_96
  let c2048_i32_97 : BitVec 32 := 2048#32
  let v209 : BitVec 1 := Scalar.cmpi .sle v208 c2048_i32_97
  let c3_i32_99 : BitVec 32 := 3#32
  let v213 : BitVec 1 := Scalar.cmpi .slt v212 c3_i32_99
  let v214 : BitVec 1 := Scalar.andi v209 v213
  let v215 : BitVec 32 := Scalar.select v214 v208 v207
  let c256_i32_100 : BitVec 32 := 256#32
  let v216 : BitVec 32 := Scalar.addi v215 c256_i32_100
  let c2048_i32_101 : BitVec 32 := 2048#32
  let v217 : BitVec 1 := Scalar.cmpi .sle v216 c2048_i32_101
  let c3_i32_103 : BitVec 32 := 3#32
  let v221 : BitVec 1 := Scalar.cmpi .slt v220 c3_i32_103
  let v222 : BitVec 1 := Scalar.andi v217 v221
  let v223 : BitVec 32 := Scalar.select v222 v216 v215
  let c128_i32_104 : BitVec 32 := 128#32
  let v224 : BitVec 32 := Scalar.addi v223 c128_i32_104
  let c2048_i32_105 : BitVec 32 := 2048#32
  let v225 : BitVec 1 := Scalar.cmpi .sle v224 c2048_i32_105
  let c3_i32_107 : BitVec 32 := 3#32
  let v229 : BitVec 1 := Scalar.cmpi .slt v228 c3_i32_107
  let v230 : BitVec 1 := Scalar.andi v225 v229
  let v231 : BitVec 32 := Scalar.select v230 v224 v223
  let c64_i32_108 : BitVec 32 := 64#32
  let v232 : BitVec 32 := Scalar.addi v231 c64_i32_108
  let c2048_i32_109 : BitVec 32 := 2048#32
  let v233 : BitVec 1 := Scalar.cmpi .sle v232 c2048_i32_109
  let c3_i32_111 : BitVec 32 := 3#32
  let v237 : BitVec 1 := Scalar.cmpi .slt v236 c3_i32_111
  let v238 : BitVec 1 := Scalar.andi v233 v237
  let v239 : BitVec 32 := Scalar.select v238 v232 v231
  let c32_i32_112 : BitVec 32 := 32#32
  let v240 : BitVec 32 := Scalar.addi v239 c32_i32_112
  let c2048_i32_113 : BitVec 32 := 2048#32
  let v241 : BitVec 1 := Scalar.cmpi .sle v240 c2048_i32_113
  let c3_i32_115 : BitVec 32 := 3#32
  let v245 : BitVec 1 := Scalar.cmpi .slt v244 c3_i32_115
  let v246 : BitVec 1 := Scalar.andi v241 v245
  let v247 : BitVec 32 := Scalar.select v246 v240 v239
  let c16_i32_116 : BitVec 32 := 16#32
  let v248 : BitVec 32 := Scalar.addi v247 c16_i32_116
  let c2048_i32_117 : BitVec 32 := 2048#32
  let v249 : BitVec 1 := Scalar.cmpi .sle v248 c2048_i32_117
  let c3_i32_119 : BitVec 32 := 3#32
  let v253 : BitVec 1 := Scalar.cmpi .slt v252 c3_i32_119
  let v254 : BitVec 1 := Scalar.andi v249 v253
  let v255 : BitVec 32 := Scalar.select v254 v248 v247
  let c8_i32_120 : BitVec 32 := 8#32
  let v256 : BitVec 32 := Scalar.addi v255 c8_i32_120
  let c1_i32_122 : BitVec 32 := 1#32
  let v258 : BitVec 32 := Scalar.subi v256 c1_i32_122
  let v259 : Index := Scalar.indexCast v258
  ![v259.toNat]

def k0_chk30 (v196 : BitVec 32) (v204 : BitVec 32) (v212 : BitVec 32) (v220 : BitVec 32) (v228 : BitVec 32) (v236 : BitVec 32) (v244 : BitVec 32) (v252 : BitVec 32) : Prop :=
  (∀ a, (k0_off33 v196 v204 v212 v220 v228 v236 v244 v252) a + S1.size a ≤ S2048.size a)
theorem k0_off33_inb : ∀ (v196 : BitVec 32) (v204 : BitVec 32) (v212 : BitVec 32) (v220 : BitVec 32) (v228 : BitVec 32) (v236 : BitVec 32) (v244 : BitVec 32) (v252 : BitVec 32) (k0_hw30 : k0_chk30 v196 v204 v212 v220 v228 v236 v244 v252), ∀ a, (k0_off33 v196 v204 v212 v220 v228 v236 v244 v252) a + S1.size a ≤ S2048.size a := fun v196 v204 v212 v220 v228 v236 v244 v252 k0_hw30 => k0_hw30

def k0_off34 (v196 : BitVec 32) (v204 : BitVec 32) (v212 : BitVec 32) (v220 : BitVec 32) (v228 : BitVec 32) (v236 : BitVec 32) (v244 : BitVec 32) (v252 : BitVec 32) (v260 : BitVec 32) : Fin 1 → Nat :=
  let c0_i32_87 : BitVec 32 := 0#32
  let c2048_i32_88 : BitVec 32 := 2048#32
  let v192 : BitVec 32 := Scalar.addi c0_i32_87 c2048_i32_88
  let c2048_i32_89 : BitVec 32 := 2048#32
  let v193 : BitVec 1 := Scalar.cmpi .sle v192 c2048_i32_89
  let c3_i32 : BitVec 32 := 3#32
  let v197 : BitVec 1 := Scalar.cmpi .slt v196 c3_i32
  let v198 : BitVec 1 := Scalar.andi v193 v197
  let c0_i32_91 : BitVec 32 := 0#32
  let v199 : BitVec 32 := Scalar.select v198 v192 c0_i32_91
  let c1024_i32_92 : BitVec 32 := 1024#32
  let v200 : BitVec 32 := Scalar.addi v199 c1024_i32_92
  let c2048_i32_93 : BitVec 32 := 2048#32
  let v201 : BitVec 1 := Scalar.cmpi .sle v200 c2048_i32_93
  let c3_i32_95 : BitVec 32 := 3#32
  let v205 : BitVec 1 := Scalar.cmpi .slt v204 c3_i32_95
  let v206 : BitVec 1 := Scalar.andi v201 v205
  let v207 : BitVec 32 := Scalar.select v206 v200 v199
  let c512_i32_96 : BitVec 32 := 512#32
  let v208 : BitVec 32 := Scalar.addi v207 c512_i32_96
  let c2048_i32_97 : BitVec 32 := 2048#32
  let v209 : BitVec 1 := Scalar.cmpi .sle v208 c2048_i32_97
  let c3_i32_99 : BitVec 32 := 3#32
  let v213 : BitVec 1 := Scalar.cmpi .slt v212 c3_i32_99
  let v214 : BitVec 1 := Scalar.andi v209 v213
  let v215 : BitVec 32 := Scalar.select v214 v208 v207
  let c256_i32_100 : BitVec 32 := 256#32
  let v216 : BitVec 32 := Scalar.addi v215 c256_i32_100
  let c2048_i32_101 : BitVec 32 := 2048#32
  let v217 : BitVec 1 := Scalar.cmpi .sle v216 c2048_i32_101
  let c3_i32_103 : BitVec 32 := 3#32
  let v221 : BitVec 1 := Scalar.cmpi .slt v220 c3_i32_103
  let v222 : BitVec 1 := Scalar.andi v217 v221
  let v223 : BitVec 32 := Scalar.select v222 v216 v215
  let c128_i32_104 : BitVec 32 := 128#32
  let v224 : BitVec 32 := Scalar.addi v223 c128_i32_104
  let c2048_i32_105 : BitVec 32 := 2048#32
  let v225 : BitVec 1 := Scalar.cmpi .sle v224 c2048_i32_105
  let c3_i32_107 : BitVec 32 := 3#32
  let v229 : BitVec 1 := Scalar.cmpi .slt v228 c3_i32_107
  let v230 : BitVec 1 := Scalar.andi v225 v229
  let v231 : BitVec 32 := Scalar.select v230 v224 v223
  let c64_i32_108 : BitVec 32 := 64#32
  let v232 : BitVec 32 := Scalar.addi v231 c64_i32_108
  let c2048_i32_109 : BitVec 32 := 2048#32
  let v233 : BitVec 1 := Scalar.cmpi .sle v232 c2048_i32_109
  let c3_i32_111 : BitVec 32 := 3#32
  let v237 : BitVec 1 := Scalar.cmpi .slt v236 c3_i32_111
  let v238 : BitVec 1 := Scalar.andi v233 v237
  let v239 : BitVec 32 := Scalar.select v238 v232 v231
  let c32_i32_112 : BitVec 32 := 32#32
  let v240 : BitVec 32 := Scalar.addi v239 c32_i32_112
  let c2048_i32_113 : BitVec 32 := 2048#32
  let v241 : BitVec 1 := Scalar.cmpi .sle v240 c2048_i32_113
  let c3_i32_115 : BitVec 32 := 3#32
  let v245 : BitVec 1 := Scalar.cmpi .slt v244 c3_i32_115
  let v246 : BitVec 1 := Scalar.andi v241 v245
  let v247 : BitVec 32 := Scalar.select v246 v240 v239
  let c16_i32_116 : BitVec 32 := 16#32
  let v248 : BitVec 32 := Scalar.addi v247 c16_i32_116
  let c2048_i32_117 : BitVec 32 := 2048#32
  let v249 : BitVec 1 := Scalar.cmpi .sle v248 c2048_i32_117
  let c3_i32_119 : BitVec 32 := 3#32
  let v253 : BitVec 1 := Scalar.cmpi .slt v252 c3_i32_119
  let v254 : BitVec 1 := Scalar.andi v249 v253
  let v255 : BitVec 32 := Scalar.select v254 v248 v247
  let c8_i32_120 : BitVec 32 := 8#32
  let v256 : BitVec 32 := Scalar.addi v255 c8_i32_120
  let c2048_i32_121 : BitVec 32 := 2048#32
  let v257 : BitVec 1 := Scalar.cmpi .sle v256 c2048_i32_121
  let c3_i32_123 : BitVec 32 := 3#32
  let v261 : BitVec 1 := Scalar.cmpi .slt v260 c3_i32_123
  let v262 : BitVec 1 := Scalar.andi v257 v261
  let v263 : BitVec 32 := Scalar.select v262 v256 v255
  let c4_i32_124 : BitVec 32 := 4#32
  let v264 : BitVec 32 := Scalar.addi v263 c4_i32_124
  let c1_i32_126 : BitVec 32 := 1#32
  let v266 : BitVec 32 := Scalar.subi v264 c1_i32_126
  let v267 : Index := Scalar.indexCast v266
  ![v267.toNat]

def k0_chk31 (v196 : BitVec 32) (v204 : BitVec 32) (v212 : BitVec 32) (v220 : BitVec 32) (v228 : BitVec 32) (v236 : BitVec 32) (v244 : BitVec 32) (v252 : BitVec 32) (v260 : BitVec 32) : Prop :=
  (∀ a, (k0_off34 v196 v204 v212 v220 v228 v236 v244 v252 v260) a + S1.size a ≤ S2048.size a)
theorem k0_off34_inb : ∀ (v196 : BitVec 32) (v204 : BitVec 32) (v212 : BitVec 32) (v220 : BitVec 32) (v228 : BitVec 32) (v236 : BitVec 32) (v244 : BitVec 32) (v252 : BitVec 32) (v260 : BitVec 32) (k0_hw31 : k0_chk31 v196 v204 v212 v220 v228 v236 v244 v252 v260), ∀ a, (k0_off34 v196 v204 v212 v220 v228 v236 v244 v252 v260) a + S1.size a ≤ S2048.size a := fun v196 v204 v212 v220 v228 v236 v244 v252 v260 k0_hw31 => k0_hw31

def k0_off35 (v196 : BitVec 32) (v204 : BitVec 32) (v212 : BitVec 32) (v220 : BitVec 32) (v228 : BitVec 32) (v236 : BitVec 32) (v244 : BitVec 32) (v252 : BitVec 32) (v260 : BitVec 32) (v268 : BitVec 32) : Fin 1 → Nat :=
  let c0_i32_87 : BitVec 32 := 0#32
  let c2048_i32_88 : BitVec 32 := 2048#32
  let v192 : BitVec 32 := Scalar.addi c0_i32_87 c2048_i32_88
  let c2048_i32_89 : BitVec 32 := 2048#32
  let v193 : BitVec 1 := Scalar.cmpi .sle v192 c2048_i32_89
  let c3_i32 : BitVec 32 := 3#32
  let v197 : BitVec 1 := Scalar.cmpi .slt v196 c3_i32
  let v198 : BitVec 1 := Scalar.andi v193 v197
  let c0_i32_91 : BitVec 32 := 0#32
  let v199 : BitVec 32 := Scalar.select v198 v192 c0_i32_91
  let c1024_i32_92 : BitVec 32 := 1024#32
  let v200 : BitVec 32 := Scalar.addi v199 c1024_i32_92
  let c2048_i32_93 : BitVec 32 := 2048#32
  let v201 : BitVec 1 := Scalar.cmpi .sle v200 c2048_i32_93
  let c3_i32_95 : BitVec 32 := 3#32
  let v205 : BitVec 1 := Scalar.cmpi .slt v204 c3_i32_95
  let v206 : BitVec 1 := Scalar.andi v201 v205
  let v207 : BitVec 32 := Scalar.select v206 v200 v199
  let c512_i32_96 : BitVec 32 := 512#32
  let v208 : BitVec 32 := Scalar.addi v207 c512_i32_96
  let c2048_i32_97 : BitVec 32 := 2048#32
  let v209 : BitVec 1 := Scalar.cmpi .sle v208 c2048_i32_97
  let c3_i32_99 : BitVec 32 := 3#32
  let v213 : BitVec 1 := Scalar.cmpi .slt v212 c3_i32_99
  let v214 : BitVec 1 := Scalar.andi v209 v213
  let v215 : BitVec 32 := Scalar.select v214 v208 v207
  let c256_i32_100 : BitVec 32 := 256#32
  let v216 : BitVec 32 := Scalar.addi v215 c256_i32_100
  let c2048_i32_101 : BitVec 32 := 2048#32
  let v217 : BitVec 1 := Scalar.cmpi .sle v216 c2048_i32_101
  let c3_i32_103 : BitVec 32 := 3#32
  let v221 : BitVec 1 := Scalar.cmpi .slt v220 c3_i32_103
  let v222 : BitVec 1 := Scalar.andi v217 v221
  let v223 : BitVec 32 := Scalar.select v222 v216 v215
  let c128_i32_104 : BitVec 32 := 128#32
  let v224 : BitVec 32 := Scalar.addi v223 c128_i32_104
  let c2048_i32_105 : BitVec 32 := 2048#32
  let v225 : BitVec 1 := Scalar.cmpi .sle v224 c2048_i32_105
  let c3_i32_107 : BitVec 32 := 3#32
  let v229 : BitVec 1 := Scalar.cmpi .slt v228 c3_i32_107
  let v230 : BitVec 1 := Scalar.andi v225 v229
  let v231 : BitVec 32 := Scalar.select v230 v224 v223
  let c64_i32_108 : BitVec 32 := 64#32
  let v232 : BitVec 32 := Scalar.addi v231 c64_i32_108
  let c2048_i32_109 : BitVec 32 := 2048#32
  let v233 : BitVec 1 := Scalar.cmpi .sle v232 c2048_i32_109
  let c3_i32_111 : BitVec 32 := 3#32
  let v237 : BitVec 1 := Scalar.cmpi .slt v236 c3_i32_111
  let v238 : BitVec 1 := Scalar.andi v233 v237
  let v239 : BitVec 32 := Scalar.select v238 v232 v231
  let c32_i32_112 : BitVec 32 := 32#32
  let v240 : BitVec 32 := Scalar.addi v239 c32_i32_112
  let c2048_i32_113 : BitVec 32 := 2048#32
  let v241 : BitVec 1 := Scalar.cmpi .sle v240 c2048_i32_113
  let c3_i32_115 : BitVec 32 := 3#32
  let v245 : BitVec 1 := Scalar.cmpi .slt v244 c3_i32_115
  let v246 : BitVec 1 := Scalar.andi v241 v245
  let v247 : BitVec 32 := Scalar.select v246 v240 v239
  let c16_i32_116 : BitVec 32 := 16#32
  let v248 : BitVec 32 := Scalar.addi v247 c16_i32_116
  let c2048_i32_117 : BitVec 32 := 2048#32
  let v249 : BitVec 1 := Scalar.cmpi .sle v248 c2048_i32_117
  let c3_i32_119 : BitVec 32 := 3#32
  let v253 : BitVec 1 := Scalar.cmpi .slt v252 c3_i32_119
  let v254 : BitVec 1 := Scalar.andi v249 v253
  let v255 : BitVec 32 := Scalar.select v254 v248 v247
  let c8_i32_120 : BitVec 32 := 8#32
  let v256 : BitVec 32 := Scalar.addi v255 c8_i32_120
  let c2048_i32_121 : BitVec 32 := 2048#32
  let v257 : BitVec 1 := Scalar.cmpi .sle v256 c2048_i32_121
  let c3_i32_123 : BitVec 32 := 3#32
  let v261 : BitVec 1 := Scalar.cmpi .slt v260 c3_i32_123
  let v262 : BitVec 1 := Scalar.andi v257 v261
  let v263 : BitVec 32 := Scalar.select v262 v256 v255
  let c4_i32_124 : BitVec 32 := 4#32
  let v264 : BitVec 32 := Scalar.addi v263 c4_i32_124
  let c2048_i32_125 : BitVec 32 := 2048#32
  let v265 : BitVec 1 := Scalar.cmpi .sle v264 c2048_i32_125
  let c3_i32_127 : BitVec 32 := 3#32
  let v269 : BitVec 1 := Scalar.cmpi .slt v268 c3_i32_127
  let v270 : BitVec 1 := Scalar.andi v265 v269
  let v271 : BitVec 32 := Scalar.select v270 v264 v263
  let c2_i32_128 : BitVec 32 := 2#32
  let v272 : BitVec 32 := Scalar.addi v271 c2_i32_128
  let c1_i32_130 : BitVec 32 := 1#32
  let v274 : BitVec 32 := Scalar.subi v272 c1_i32_130
  let v275 : Index := Scalar.indexCast v274
  ![v275.toNat]

def k0_chk32 (v196 : BitVec 32) (v204 : BitVec 32) (v212 : BitVec 32) (v220 : BitVec 32) (v228 : BitVec 32) (v236 : BitVec 32) (v244 : BitVec 32) (v252 : BitVec 32) (v260 : BitVec 32) (v268 : BitVec 32) : Prop :=
  (∀ a, (k0_off35 v196 v204 v212 v220 v228 v236 v244 v252 v260 v268) a + S1.size a ≤ S2048.size a)
theorem k0_off35_inb : ∀ (v196 : BitVec 32) (v204 : BitVec 32) (v212 : BitVec 32) (v220 : BitVec 32) (v228 : BitVec 32) (v236 : BitVec 32) (v244 : BitVec 32) (v252 : BitVec 32) (v260 : BitVec 32) (v268 : BitVec 32) (k0_hw32 : k0_chk32 v196 v204 v212 v220 v228 v236 v244 v252 v260 v268), ∀ a, (k0_off35 v196 v204 v212 v220 v228 v236 v244 v252 v260 v268) a + S1.size a ≤ S2048.size a := fun v196 v204 v212 v220 v228 v236 v244 v252 v260 v268 k0_hw32 => k0_hw32

def k0_off36 (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) : Fin 1 → Nat :=
  let c0_i32_87 : BitVec 32 := 0#32
  let c2048_i32_88 : BitVec 32 := 2048#32
  let v192 : BitVec 32 := Scalar.addi c0_i32_87 c2048_i32_88
  let c2048_i32_89 : BitVec 32 := 2048#32
  let v193 : BitVec 1 := Scalar.cmpi .sle v192 c2048_i32_89
  let c3_i32 : BitVec 32 := 3#32
  let v197 : BitVec 1 := Scalar.cmpi .slt v196 c3_i32
  let v198 : BitVec 1 := Scalar.andi v193 v197
  let c0_i32_91 : BitVec 32 := 0#32
  let v199 : BitVec 32 := Scalar.select v198 v192 c0_i32_91
  let c1024_i32_92 : BitVec 32 := 1024#32
  let v200 : BitVec 32 := Scalar.addi v199 c1024_i32_92
  let c2048_i32_93 : BitVec 32 := 2048#32
  let v201 : BitVec 1 := Scalar.cmpi .sle v200 c2048_i32_93
  let c3_i32_95 : BitVec 32 := 3#32
  let v205 : BitVec 1 := Scalar.cmpi .slt v204 c3_i32_95
  let v206 : BitVec 1 := Scalar.andi v201 v205
  let v207 : BitVec 32 := Scalar.select v206 v200 v199
  let c512_i32_96 : BitVec 32 := 512#32
  let v208 : BitVec 32 := Scalar.addi v207 c512_i32_96
  let c2048_i32_97 : BitVec 32 := 2048#32
  let v209 : BitVec 1 := Scalar.cmpi .sle v208 c2048_i32_97
  let c3_i32_99 : BitVec 32 := 3#32
  let v213 : BitVec 1 := Scalar.cmpi .slt v212 c3_i32_99
  let v214 : BitVec 1 := Scalar.andi v209 v213
  let v215 : BitVec 32 := Scalar.select v214 v208 v207
  let c256_i32_100 : BitVec 32 := 256#32
  let v216 : BitVec 32 := Scalar.addi v215 c256_i32_100
  let c2048_i32_101 : BitVec 32 := 2048#32
  let v217 : BitVec 1 := Scalar.cmpi .sle v216 c2048_i32_101
  let c3_i32_103 : BitVec 32 := 3#32
  let v221 : BitVec 1 := Scalar.cmpi .slt v220 c3_i32_103
  let v222 : BitVec 1 := Scalar.andi v217 v221
  let v223 : BitVec 32 := Scalar.select v222 v216 v215
  let c128_i32_104 : BitVec 32 := 128#32
  let v224 : BitVec 32 := Scalar.addi v223 c128_i32_104
  let c2048_i32_105 : BitVec 32 := 2048#32
  let v225 : BitVec 1 := Scalar.cmpi .sle v224 c2048_i32_105
  let c3_i32_107 : BitVec 32 := 3#32
  let v229 : BitVec 1 := Scalar.cmpi .slt v228 c3_i32_107
  let v230 : BitVec 1 := Scalar.andi v225 v229
  let v231 : BitVec 32 := Scalar.select v230 v224 v223
  let c64_i32_108 : BitVec 32 := 64#32
  let v232 : BitVec 32 := Scalar.addi v231 c64_i32_108
  let c2048_i32_109 : BitVec 32 := 2048#32
  let v233 : BitVec 1 := Scalar.cmpi .sle v232 c2048_i32_109
  let c3_i32_111 : BitVec 32 := 3#32
  let v237 : BitVec 1 := Scalar.cmpi .slt v236 c3_i32_111
  let v238 : BitVec 1 := Scalar.andi v233 v237
  let v239 : BitVec 32 := Scalar.select v238 v232 v231
  let c32_i32_112 : BitVec 32 := 32#32
  let v240 : BitVec 32 := Scalar.addi v239 c32_i32_112
  let c2048_i32_113 : BitVec 32 := 2048#32
  let v241 : BitVec 1 := Scalar.cmpi .sle v240 c2048_i32_113
  let c3_i32_115 : BitVec 32 := 3#32
  let v245 : BitVec 1 := Scalar.cmpi .slt v244 c3_i32_115
  let v246 : BitVec 1 := Scalar.andi v241 v245
  let v247 : BitVec 32 := Scalar.select v246 v240 v239
  let c16_i32_116 : BitVec 32 := 16#32
  let v248 : BitVec 32 := Scalar.addi v247 c16_i32_116
  let c2048_i32_117 : BitVec 32 := 2048#32
  let v249 : BitVec 1 := Scalar.cmpi .sle v248 c2048_i32_117
  let c3_i32_119 : BitVec 32 := 3#32
  let v253 : BitVec 1 := Scalar.cmpi .slt v252 c3_i32_119
  let v254 : BitVec 1 := Scalar.andi v249 v253
  let v255 : BitVec 32 := Scalar.select v254 v248 v247
  let c8_i32_120 : BitVec 32 := 8#32
  let v256 : BitVec 32 := Scalar.addi v255 c8_i32_120
  let c2048_i32_121 : BitVec 32 := 2048#32
  let v257 : BitVec 1 := Scalar.cmpi .sle v256 c2048_i32_121
  let c3_i32_123 : BitVec 32 := 3#32
  let v261 : BitVec 1 := Scalar.cmpi .slt v260 c3_i32_123
  let v262 : BitVec 1 := Scalar.andi v257 v261
  let v263 : BitVec 32 := Scalar.select v262 v256 v255
  let c4_i32_124 : BitVec 32 := 4#32
  let v264 : BitVec 32 := Scalar.addi v263 c4_i32_124
  let c2048_i32_125 : BitVec 32 := 2048#32
  let v265 : BitVec 1 := Scalar.cmpi .sle v264 c2048_i32_125
  let c3_i32_127 : BitVec 32 := 3#32
  let v269 : BitVec 1 := Scalar.cmpi .slt v268 c3_i32_127
  let v270 : BitVec 1 := Scalar.andi v265 v269
  let v271 : BitVec 32 := Scalar.select v270 v264 v263
  let c2_i32_128 : BitVec 32 := 2#32
  let v272 : BitVec 32 := Scalar.addi v271 c2_i32_128
  let c2048_i32_129 : BitVec 32 := 2048#32
  let v273 : BitVec 1 := Scalar.cmpi .sle v272 c2048_i32_129
  let c3_i32_131 : BitVec 32 := 3#32
  let v277 : BitVec 1 := Scalar.cmpi .slt v276 c3_i32_131
  let v278 : BitVec 1 := Scalar.andi v273 v277
  let v279 : BitVec 32 := Scalar.select v278 v272 v271
  let c1_i32_132 : BitVec 32 := 1#32
  let v280 : BitVec 32 := Scalar.addi v279 c1_i32_132
  let c1_i32_134 : BitVec 32 := 1#32
  let v282 : BitVec 32 := Scalar.subi v280 c1_i32_134
  let v283 : Index := Scalar.indexCast v282
  ![v283.toNat]

def k0_chk33 (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) : Prop :=
  (∀ a, (k0_off36 v196 v204 v212 v220 v228 v236 v244 v252 v260 v268 v276) a + S1.size a ≤ S2048.size a)
theorem k0_off36_inb : ∀ (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (k0_hw33 : k0_chk33 v196 v204 v212 v220 v228 v236 v244 v252 v260 v268 v276), ∀ a, (k0_off36 v196 v204 v212 v220 v228 v236 v244 v252 v260 v268 v276) a + S1.size a ≤ S2048.size a := fun v196 v204 v212 v220 v228 v236 v244 v252 v260 v268 v276 k0_hw33 => k0_hw33

def k0_off37 : Fin 1 → Nat :=
  let c0_i32_136 : BitVec 32 := 0#32
  let c2048_i32_137 : BitVec 32 := 2048#32
  let v288 : BitVec 32 := Scalar.addi c0_i32_136 c2048_i32_137
  let c1_i32_139 : BitVec 32 := 1#32
  let v290 : BitVec 32 := Scalar.subi v288 c1_i32_139
  let v291 : Index := Scalar.indexCast v290
  ![v291.toNat]
def k0_off38 (v292 : BitVec 32) : Fin 1 → Nat :=
  let c0_i32_136 : BitVec 32 := 0#32
  let c2048_i32_137 : BitVec 32 := 2048#32
  let v288 : BitVec 32 := Scalar.addi c0_i32_136 c2048_i32_137
  let c2048_i32_138 : BitVec 32 := 2048#32
  let v289 : BitVec 1 := Scalar.cmpi .sle v288 c2048_i32_138
  let c4_i32_140 : BitVec 32 := 4#32
  let v293 : BitVec 1 := Scalar.cmpi .slt v292 c4_i32_140
  let v294 : BitVec 1 := Scalar.andi v289 v293
  let c0_i32_141 : BitVec 32 := 0#32
  let v295 : BitVec 32 := Scalar.select v294 v288 c0_i32_141
  let c1024_i32_142 : BitVec 32 := 1024#32
  let v296 : BitVec 32 := Scalar.addi v295 c1024_i32_142
  let c1_i32_144 : BitVec 32 := 1#32
  let v298 : BitVec 32 := Scalar.subi v296 c1_i32_144
  let v299 : Index := Scalar.indexCast v298
  ![v299.toNat]

def k0_chk34 (v292 : BitVec 32) : Prop :=
  (∀ a, (k0_off38 v292) a + S1.size a ≤ S2048.size a)
theorem k0_off38_inb : ∀ (v292 : BitVec 32) (k0_hw34 : k0_chk34 v292), ∀ a, (k0_off38 v292) a + S1.size a ≤ S2048.size a := fun v292 k0_hw34 => k0_hw34

def k0_off39 (v292 : BitVec 32) (v300 : BitVec 32) : Fin 1 → Nat :=
  let c0_i32_136 : BitVec 32 := 0#32
  let c2048_i32_137 : BitVec 32 := 2048#32
  let v288 : BitVec 32 := Scalar.addi c0_i32_136 c2048_i32_137
  let c2048_i32_138 : BitVec 32 := 2048#32
  let v289 : BitVec 1 := Scalar.cmpi .sle v288 c2048_i32_138
  let c4_i32_140 : BitVec 32 := 4#32
  let v293 : BitVec 1 := Scalar.cmpi .slt v292 c4_i32_140
  let v294 : BitVec 1 := Scalar.andi v289 v293
  let c0_i32_141 : BitVec 32 := 0#32
  let v295 : BitVec 32 := Scalar.select v294 v288 c0_i32_141
  let c1024_i32_142 : BitVec 32 := 1024#32
  let v296 : BitVec 32 := Scalar.addi v295 c1024_i32_142
  let c2048_i32_143 : BitVec 32 := 2048#32
  let v297 : BitVec 1 := Scalar.cmpi .sle v296 c2048_i32_143
  let c4_i32_145 : BitVec 32 := 4#32
  let v301 : BitVec 1 := Scalar.cmpi .slt v300 c4_i32_145
  let v302 : BitVec 1 := Scalar.andi v297 v301
  let v303 : BitVec 32 := Scalar.select v302 v296 v295
  let c512_i32_146 : BitVec 32 := 512#32
  let v304 : BitVec 32 := Scalar.addi v303 c512_i32_146
  let c1_i32_148 : BitVec 32 := 1#32
  let v306 : BitVec 32 := Scalar.subi v304 c1_i32_148
  let v307 : Index := Scalar.indexCast v306
  ![v307.toNat]

def k0_chk35 (v292 : BitVec 32) (v300 : BitVec 32) : Prop :=
  (∀ a, (k0_off39 v292 v300) a + S1.size a ≤ S2048.size a)
theorem k0_off39_inb : ∀ (v292 : BitVec 32) (v300 : BitVec 32) (k0_hw35 : k0_chk35 v292 v300), ∀ a, (k0_off39 v292 v300) a + S1.size a ≤ S2048.size a := fun v292 v300 k0_hw35 => k0_hw35

def k0_off40 (v292 : BitVec 32) (v300 : BitVec 32) (v308 : BitVec 32) : Fin 1 → Nat :=
  let c0_i32_136 : BitVec 32 := 0#32
  let c2048_i32_137 : BitVec 32 := 2048#32
  let v288 : BitVec 32 := Scalar.addi c0_i32_136 c2048_i32_137
  let c2048_i32_138 : BitVec 32 := 2048#32
  let v289 : BitVec 1 := Scalar.cmpi .sle v288 c2048_i32_138
  let c4_i32_140 : BitVec 32 := 4#32
  let v293 : BitVec 1 := Scalar.cmpi .slt v292 c4_i32_140
  let v294 : BitVec 1 := Scalar.andi v289 v293
  let c0_i32_141 : BitVec 32 := 0#32
  let v295 : BitVec 32 := Scalar.select v294 v288 c0_i32_141
  let c1024_i32_142 : BitVec 32 := 1024#32
  let v296 : BitVec 32 := Scalar.addi v295 c1024_i32_142
  let c2048_i32_143 : BitVec 32 := 2048#32
  let v297 : BitVec 1 := Scalar.cmpi .sle v296 c2048_i32_143
  let c4_i32_145 : BitVec 32 := 4#32
  let v301 : BitVec 1 := Scalar.cmpi .slt v300 c4_i32_145
  let v302 : BitVec 1 := Scalar.andi v297 v301
  let v303 : BitVec 32 := Scalar.select v302 v296 v295
  let c512_i32_146 : BitVec 32 := 512#32
  let v304 : BitVec 32 := Scalar.addi v303 c512_i32_146
  let c2048_i32_147 : BitVec 32 := 2048#32
  let v305 : BitVec 1 := Scalar.cmpi .sle v304 c2048_i32_147
  let c4_i32_149 : BitVec 32 := 4#32
  let v309 : BitVec 1 := Scalar.cmpi .slt v308 c4_i32_149
  let v310 : BitVec 1 := Scalar.andi v305 v309
  let v311 : BitVec 32 := Scalar.select v310 v304 v303
  let c256_i32_150 : BitVec 32 := 256#32
  let v312 : BitVec 32 := Scalar.addi v311 c256_i32_150
  let c1_i32_152 : BitVec 32 := 1#32
  let v314 : BitVec 32 := Scalar.subi v312 c1_i32_152
  let v315 : Index := Scalar.indexCast v314
  ![v315.toNat]

def k0_chk36 (v292 : BitVec 32) (v300 : BitVec 32) (v308 : BitVec 32) : Prop :=
  (∀ a, (k0_off40 v292 v300 v308) a + S1.size a ≤ S2048.size a)
theorem k0_off40_inb : ∀ (v292 : BitVec 32) (v300 : BitVec 32) (v308 : BitVec 32) (k0_hw36 : k0_chk36 v292 v300 v308), ∀ a, (k0_off40 v292 v300 v308) a + S1.size a ≤ S2048.size a := fun v292 v300 v308 k0_hw36 => k0_hw36

def k0_off41 (v292 : BitVec 32) (v300 : BitVec 32) (v308 : BitVec 32) (v316 : BitVec 32) : Fin 1 → Nat :=
  let c0_i32_136 : BitVec 32 := 0#32
  let c2048_i32_137 : BitVec 32 := 2048#32
  let v288 : BitVec 32 := Scalar.addi c0_i32_136 c2048_i32_137
  let c2048_i32_138 : BitVec 32 := 2048#32
  let v289 : BitVec 1 := Scalar.cmpi .sle v288 c2048_i32_138
  let c4_i32_140 : BitVec 32 := 4#32
  let v293 : BitVec 1 := Scalar.cmpi .slt v292 c4_i32_140
  let v294 : BitVec 1 := Scalar.andi v289 v293
  let c0_i32_141 : BitVec 32 := 0#32
  let v295 : BitVec 32 := Scalar.select v294 v288 c0_i32_141
  let c1024_i32_142 : BitVec 32 := 1024#32
  let v296 : BitVec 32 := Scalar.addi v295 c1024_i32_142
  let c2048_i32_143 : BitVec 32 := 2048#32
  let v297 : BitVec 1 := Scalar.cmpi .sle v296 c2048_i32_143
  let c4_i32_145 : BitVec 32 := 4#32
  let v301 : BitVec 1 := Scalar.cmpi .slt v300 c4_i32_145
  let v302 : BitVec 1 := Scalar.andi v297 v301
  let v303 : BitVec 32 := Scalar.select v302 v296 v295
  let c512_i32_146 : BitVec 32 := 512#32
  let v304 : BitVec 32 := Scalar.addi v303 c512_i32_146
  let c2048_i32_147 : BitVec 32 := 2048#32
  let v305 : BitVec 1 := Scalar.cmpi .sle v304 c2048_i32_147
  let c4_i32_149 : BitVec 32 := 4#32
  let v309 : BitVec 1 := Scalar.cmpi .slt v308 c4_i32_149
  let v310 : BitVec 1 := Scalar.andi v305 v309
  let v311 : BitVec 32 := Scalar.select v310 v304 v303
  let c256_i32_150 : BitVec 32 := 256#32
  let v312 : BitVec 32 := Scalar.addi v311 c256_i32_150
  let c2048_i32_151 : BitVec 32 := 2048#32
  let v313 : BitVec 1 := Scalar.cmpi .sle v312 c2048_i32_151
  let c4_i32_153 : BitVec 32 := 4#32
  let v317 : BitVec 1 := Scalar.cmpi .slt v316 c4_i32_153
  let v318 : BitVec 1 := Scalar.andi v313 v317
  let v319 : BitVec 32 := Scalar.select v318 v312 v311
  let c128_i32_154 : BitVec 32 := 128#32
  let v320 : BitVec 32 := Scalar.addi v319 c128_i32_154
  let c1_i32_156 : BitVec 32 := 1#32
  let v322 : BitVec 32 := Scalar.subi v320 c1_i32_156
  let v323 : Index := Scalar.indexCast v322
  ![v323.toNat]

def k0_chk37 (v292 : BitVec 32) (v300 : BitVec 32) (v308 : BitVec 32) (v316 : BitVec 32) : Prop :=
  (∀ a, (k0_off41 v292 v300 v308 v316) a + S1.size a ≤ S2048.size a)
theorem k0_off41_inb : ∀ (v292 : BitVec 32) (v300 : BitVec 32) (v308 : BitVec 32) (v316 : BitVec 32) (k0_hw37 : k0_chk37 v292 v300 v308 v316), ∀ a, (k0_off41 v292 v300 v308 v316) a + S1.size a ≤ S2048.size a := fun v292 v300 v308 v316 k0_hw37 => k0_hw37

def k0_off42 (v292 : BitVec 32) (v300 : BitVec 32) (v308 : BitVec 32) (v316 : BitVec 32) (v324 : BitVec 32) : Fin 1 → Nat :=
  let c0_i32_136 : BitVec 32 := 0#32
  let c2048_i32_137 : BitVec 32 := 2048#32
  let v288 : BitVec 32 := Scalar.addi c0_i32_136 c2048_i32_137
  let c2048_i32_138 : BitVec 32 := 2048#32
  let v289 : BitVec 1 := Scalar.cmpi .sle v288 c2048_i32_138
  let c4_i32_140 : BitVec 32 := 4#32
  let v293 : BitVec 1 := Scalar.cmpi .slt v292 c4_i32_140
  let v294 : BitVec 1 := Scalar.andi v289 v293
  let c0_i32_141 : BitVec 32 := 0#32
  let v295 : BitVec 32 := Scalar.select v294 v288 c0_i32_141
  let c1024_i32_142 : BitVec 32 := 1024#32
  let v296 : BitVec 32 := Scalar.addi v295 c1024_i32_142
  let c2048_i32_143 : BitVec 32 := 2048#32
  let v297 : BitVec 1 := Scalar.cmpi .sle v296 c2048_i32_143
  let c4_i32_145 : BitVec 32 := 4#32
  let v301 : BitVec 1 := Scalar.cmpi .slt v300 c4_i32_145
  let v302 : BitVec 1 := Scalar.andi v297 v301
  let v303 : BitVec 32 := Scalar.select v302 v296 v295
  let c512_i32_146 : BitVec 32 := 512#32
  let v304 : BitVec 32 := Scalar.addi v303 c512_i32_146
  let c2048_i32_147 : BitVec 32 := 2048#32
  let v305 : BitVec 1 := Scalar.cmpi .sle v304 c2048_i32_147
  let c4_i32_149 : BitVec 32 := 4#32
  let v309 : BitVec 1 := Scalar.cmpi .slt v308 c4_i32_149
  let v310 : BitVec 1 := Scalar.andi v305 v309
  let v311 : BitVec 32 := Scalar.select v310 v304 v303
  let c256_i32_150 : BitVec 32 := 256#32
  let v312 : BitVec 32 := Scalar.addi v311 c256_i32_150
  let c2048_i32_151 : BitVec 32 := 2048#32
  let v313 : BitVec 1 := Scalar.cmpi .sle v312 c2048_i32_151
  let c4_i32_153 : BitVec 32 := 4#32
  let v317 : BitVec 1 := Scalar.cmpi .slt v316 c4_i32_153
  let v318 : BitVec 1 := Scalar.andi v313 v317
  let v319 : BitVec 32 := Scalar.select v318 v312 v311
  let c128_i32_154 : BitVec 32 := 128#32
  let v320 : BitVec 32 := Scalar.addi v319 c128_i32_154
  let c2048_i32_155 : BitVec 32 := 2048#32
  let v321 : BitVec 1 := Scalar.cmpi .sle v320 c2048_i32_155
  let c4_i32_157 : BitVec 32 := 4#32
  let v325 : BitVec 1 := Scalar.cmpi .slt v324 c4_i32_157
  let v326 : BitVec 1 := Scalar.andi v321 v325
  let v327 : BitVec 32 := Scalar.select v326 v320 v319
  let c64_i32_158 : BitVec 32 := 64#32
  let v328 : BitVec 32 := Scalar.addi v327 c64_i32_158
  let c1_i32_160 : BitVec 32 := 1#32
  let v330 : BitVec 32 := Scalar.subi v328 c1_i32_160
  let v331 : Index := Scalar.indexCast v330
  ![v331.toNat]

def k0_chk38 (v292 : BitVec 32) (v300 : BitVec 32) (v308 : BitVec 32) (v316 : BitVec 32) (v324 : BitVec 32) : Prop :=
  (∀ a, (k0_off42 v292 v300 v308 v316 v324) a + S1.size a ≤ S2048.size a)
theorem k0_off42_inb : ∀ (v292 : BitVec 32) (v300 : BitVec 32) (v308 : BitVec 32) (v316 : BitVec 32) (v324 : BitVec 32) (k0_hw38 : k0_chk38 v292 v300 v308 v316 v324), ∀ a, (k0_off42 v292 v300 v308 v316 v324) a + S1.size a ≤ S2048.size a := fun v292 v300 v308 v316 v324 k0_hw38 => k0_hw38

def k0_off43 (v292 : BitVec 32) (v300 : BitVec 32) (v308 : BitVec 32) (v316 : BitVec 32) (v324 : BitVec 32) (v332 : BitVec 32) : Fin 1 → Nat :=
  let c0_i32_136 : BitVec 32 := 0#32
  let c2048_i32_137 : BitVec 32 := 2048#32
  let v288 : BitVec 32 := Scalar.addi c0_i32_136 c2048_i32_137
  let c2048_i32_138 : BitVec 32 := 2048#32
  let v289 : BitVec 1 := Scalar.cmpi .sle v288 c2048_i32_138
  let c4_i32_140 : BitVec 32 := 4#32
  let v293 : BitVec 1 := Scalar.cmpi .slt v292 c4_i32_140
  let v294 : BitVec 1 := Scalar.andi v289 v293
  let c0_i32_141 : BitVec 32 := 0#32
  let v295 : BitVec 32 := Scalar.select v294 v288 c0_i32_141
  let c1024_i32_142 : BitVec 32 := 1024#32
  let v296 : BitVec 32 := Scalar.addi v295 c1024_i32_142
  let c2048_i32_143 : BitVec 32 := 2048#32
  let v297 : BitVec 1 := Scalar.cmpi .sle v296 c2048_i32_143
  let c4_i32_145 : BitVec 32 := 4#32
  let v301 : BitVec 1 := Scalar.cmpi .slt v300 c4_i32_145
  let v302 : BitVec 1 := Scalar.andi v297 v301
  let v303 : BitVec 32 := Scalar.select v302 v296 v295
  let c512_i32_146 : BitVec 32 := 512#32
  let v304 : BitVec 32 := Scalar.addi v303 c512_i32_146
  let c2048_i32_147 : BitVec 32 := 2048#32
  let v305 : BitVec 1 := Scalar.cmpi .sle v304 c2048_i32_147
  let c4_i32_149 : BitVec 32 := 4#32
  let v309 : BitVec 1 := Scalar.cmpi .slt v308 c4_i32_149
  let v310 : BitVec 1 := Scalar.andi v305 v309
  let v311 : BitVec 32 := Scalar.select v310 v304 v303
  let c256_i32_150 : BitVec 32 := 256#32
  let v312 : BitVec 32 := Scalar.addi v311 c256_i32_150
  let c2048_i32_151 : BitVec 32 := 2048#32
  let v313 : BitVec 1 := Scalar.cmpi .sle v312 c2048_i32_151
  let c4_i32_153 : BitVec 32 := 4#32
  let v317 : BitVec 1 := Scalar.cmpi .slt v316 c4_i32_153
  let v318 : BitVec 1 := Scalar.andi v313 v317
  let v319 : BitVec 32 := Scalar.select v318 v312 v311
  let c128_i32_154 : BitVec 32 := 128#32
  let v320 : BitVec 32 := Scalar.addi v319 c128_i32_154
  let c2048_i32_155 : BitVec 32 := 2048#32
  let v321 : BitVec 1 := Scalar.cmpi .sle v320 c2048_i32_155
  let c4_i32_157 : BitVec 32 := 4#32
  let v325 : BitVec 1 := Scalar.cmpi .slt v324 c4_i32_157
  let v326 : BitVec 1 := Scalar.andi v321 v325
  let v327 : BitVec 32 := Scalar.select v326 v320 v319
  let c64_i32_158 : BitVec 32 := 64#32
  let v328 : BitVec 32 := Scalar.addi v327 c64_i32_158
  let c2048_i32_159 : BitVec 32 := 2048#32
  let v329 : BitVec 1 := Scalar.cmpi .sle v328 c2048_i32_159
  let c4_i32_161 : BitVec 32 := 4#32
  let v333 : BitVec 1 := Scalar.cmpi .slt v332 c4_i32_161
  let v334 : BitVec 1 := Scalar.andi v329 v333
  let v335 : BitVec 32 := Scalar.select v334 v328 v327
  let c32_i32_162 : BitVec 32 := 32#32
  let v336 : BitVec 32 := Scalar.addi v335 c32_i32_162
  let c1_i32_164 : BitVec 32 := 1#32
  let v338 : BitVec 32 := Scalar.subi v336 c1_i32_164
  let v339 : Index := Scalar.indexCast v338
  ![v339.toNat]

def k0_chk39 (v292 : BitVec 32) (v300 : BitVec 32) (v308 : BitVec 32) (v316 : BitVec 32) (v324 : BitVec 32) (v332 : BitVec 32) : Prop :=
  (∀ a, (k0_off43 v292 v300 v308 v316 v324 v332) a + S1.size a ≤ S2048.size a)
theorem k0_off43_inb : ∀ (v292 : BitVec 32) (v300 : BitVec 32) (v308 : BitVec 32) (v316 : BitVec 32) (v324 : BitVec 32) (v332 : BitVec 32) (k0_hw39 : k0_chk39 v292 v300 v308 v316 v324 v332), ∀ a, (k0_off43 v292 v300 v308 v316 v324 v332) a + S1.size a ≤ S2048.size a := fun v292 v300 v308 v316 v324 v332 k0_hw39 => k0_hw39

def k0_off44 (v292 : BitVec 32) (v300 : BitVec 32) (v308 : BitVec 32) (v316 : BitVec 32) (v324 : BitVec 32) (v332 : BitVec 32) (v340 : BitVec 32) : Fin 1 → Nat :=
  let c0_i32_136 : BitVec 32 := 0#32
  let c2048_i32_137 : BitVec 32 := 2048#32
  let v288 : BitVec 32 := Scalar.addi c0_i32_136 c2048_i32_137
  let c2048_i32_138 : BitVec 32 := 2048#32
  let v289 : BitVec 1 := Scalar.cmpi .sle v288 c2048_i32_138
  let c4_i32_140 : BitVec 32 := 4#32
  let v293 : BitVec 1 := Scalar.cmpi .slt v292 c4_i32_140
  let v294 : BitVec 1 := Scalar.andi v289 v293
  let c0_i32_141 : BitVec 32 := 0#32
  let v295 : BitVec 32 := Scalar.select v294 v288 c0_i32_141
  let c1024_i32_142 : BitVec 32 := 1024#32
  let v296 : BitVec 32 := Scalar.addi v295 c1024_i32_142
  let c2048_i32_143 : BitVec 32 := 2048#32
  let v297 : BitVec 1 := Scalar.cmpi .sle v296 c2048_i32_143
  let c4_i32_145 : BitVec 32 := 4#32
  let v301 : BitVec 1 := Scalar.cmpi .slt v300 c4_i32_145
  let v302 : BitVec 1 := Scalar.andi v297 v301
  let v303 : BitVec 32 := Scalar.select v302 v296 v295
  let c512_i32_146 : BitVec 32 := 512#32
  let v304 : BitVec 32 := Scalar.addi v303 c512_i32_146
  let c2048_i32_147 : BitVec 32 := 2048#32
  let v305 : BitVec 1 := Scalar.cmpi .sle v304 c2048_i32_147
  let c4_i32_149 : BitVec 32 := 4#32
  let v309 : BitVec 1 := Scalar.cmpi .slt v308 c4_i32_149
  let v310 : BitVec 1 := Scalar.andi v305 v309
  let v311 : BitVec 32 := Scalar.select v310 v304 v303
  let c256_i32_150 : BitVec 32 := 256#32
  let v312 : BitVec 32 := Scalar.addi v311 c256_i32_150
  let c2048_i32_151 : BitVec 32 := 2048#32
  let v313 : BitVec 1 := Scalar.cmpi .sle v312 c2048_i32_151
  let c4_i32_153 : BitVec 32 := 4#32
  let v317 : BitVec 1 := Scalar.cmpi .slt v316 c4_i32_153
  let v318 : BitVec 1 := Scalar.andi v313 v317
  let v319 : BitVec 32 := Scalar.select v318 v312 v311
  let c128_i32_154 : BitVec 32 := 128#32
  let v320 : BitVec 32 := Scalar.addi v319 c128_i32_154
  let c2048_i32_155 : BitVec 32 := 2048#32
  let v321 : BitVec 1 := Scalar.cmpi .sle v320 c2048_i32_155
  let c4_i32_157 : BitVec 32 := 4#32
  let v325 : BitVec 1 := Scalar.cmpi .slt v324 c4_i32_157
  let v326 : BitVec 1 := Scalar.andi v321 v325
  let v327 : BitVec 32 := Scalar.select v326 v320 v319
  let c64_i32_158 : BitVec 32 := 64#32
  let v328 : BitVec 32 := Scalar.addi v327 c64_i32_158
  let c2048_i32_159 : BitVec 32 := 2048#32
  let v329 : BitVec 1 := Scalar.cmpi .sle v328 c2048_i32_159
  let c4_i32_161 : BitVec 32 := 4#32
  let v333 : BitVec 1 := Scalar.cmpi .slt v332 c4_i32_161
  let v334 : BitVec 1 := Scalar.andi v329 v333
  let v335 : BitVec 32 := Scalar.select v334 v328 v327
  let c32_i32_162 : BitVec 32 := 32#32
  let v336 : BitVec 32 := Scalar.addi v335 c32_i32_162
  let c2048_i32_163 : BitVec 32 := 2048#32
  let v337 : BitVec 1 := Scalar.cmpi .sle v336 c2048_i32_163
  let c4_i32_165 : BitVec 32 := 4#32
  let v341 : BitVec 1 := Scalar.cmpi .slt v340 c4_i32_165
  let v342 : BitVec 1 := Scalar.andi v337 v341
  let v343 : BitVec 32 := Scalar.select v342 v336 v335
  let c16_i32_166 : BitVec 32 := 16#32
  let v344 : BitVec 32 := Scalar.addi v343 c16_i32_166
  let c1_i32_168 : BitVec 32 := 1#32
  let v346 : BitVec 32 := Scalar.subi v344 c1_i32_168
  let v347 : Index := Scalar.indexCast v346
  ![v347.toNat]

def k0_chk40 (v292 : BitVec 32) (v300 : BitVec 32) (v308 : BitVec 32) (v316 : BitVec 32) (v324 : BitVec 32) (v332 : BitVec 32) (v340 : BitVec 32) : Prop :=
  (∀ a, (k0_off44 v292 v300 v308 v316 v324 v332 v340) a + S1.size a ≤ S2048.size a)
theorem k0_off44_inb : ∀ (v292 : BitVec 32) (v300 : BitVec 32) (v308 : BitVec 32) (v316 : BitVec 32) (v324 : BitVec 32) (v332 : BitVec 32) (v340 : BitVec 32) (k0_hw40 : k0_chk40 v292 v300 v308 v316 v324 v332 v340), ∀ a, (k0_off44 v292 v300 v308 v316 v324 v332 v340) a + S1.size a ≤ S2048.size a := fun v292 v300 v308 v316 v324 v332 v340 k0_hw40 => k0_hw40

def k0_off45 (v292 : BitVec 32) (v300 : BitVec 32) (v308 : BitVec 32) (v316 : BitVec 32) (v324 : BitVec 32) (v332 : BitVec 32) (v340 : BitVec 32) (v348 : BitVec 32) : Fin 1 → Nat :=
  let c0_i32_136 : BitVec 32 := 0#32
  let c2048_i32_137 : BitVec 32 := 2048#32
  let v288 : BitVec 32 := Scalar.addi c0_i32_136 c2048_i32_137
  let c2048_i32_138 : BitVec 32 := 2048#32
  let v289 : BitVec 1 := Scalar.cmpi .sle v288 c2048_i32_138
  let c4_i32_140 : BitVec 32 := 4#32
  let v293 : BitVec 1 := Scalar.cmpi .slt v292 c4_i32_140
  let v294 : BitVec 1 := Scalar.andi v289 v293
  let c0_i32_141 : BitVec 32 := 0#32
  let v295 : BitVec 32 := Scalar.select v294 v288 c0_i32_141
  let c1024_i32_142 : BitVec 32 := 1024#32
  let v296 : BitVec 32 := Scalar.addi v295 c1024_i32_142
  let c2048_i32_143 : BitVec 32 := 2048#32
  let v297 : BitVec 1 := Scalar.cmpi .sle v296 c2048_i32_143
  let c4_i32_145 : BitVec 32 := 4#32
  let v301 : BitVec 1 := Scalar.cmpi .slt v300 c4_i32_145
  let v302 : BitVec 1 := Scalar.andi v297 v301
  let v303 : BitVec 32 := Scalar.select v302 v296 v295
  let c512_i32_146 : BitVec 32 := 512#32
  let v304 : BitVec 32 := Scalar.addi v303 c512_i32_146
  let c2048_i32_147 : BitVec 32 := 2048#32
  let v305 : BitVec 1 := Scalar.cmpi .sle v304 c2048_i32_147
  let c4_i32_149 : BitVec 32 := 4#32
  let v309 : BitVec 1 := Scalar.cmpi .slt v308 c4_i32_149
  let v310 : BitVec 1 := Scalar.andi v305 v309
  let v311 : BitVec 32 := Scalar.select v310 v304 v303
  let c256_i32_150 : BitVec 32 := 256#32
  let v312 : BitVec 32 := Scalar.addi v311 c256_i32_150
  let c2048_i32_151 : BitVec 32 := 2048#32
  let v313 : BitVec 1 := Scalar.cmpi .sle v312 c2048_i32_151
  let c4_i32_153 : BitVec 32 := 4#32
  let v317 : BitVec 1 := Scalar.cmpi .slt v316 c4_i32_153
  let v318 : BitVec 1 := Scalar.andi v313 v317
  let v319 : BitVec 32 := Scalar.select v318 v312 v311
  let c128_i32_154 : BitVec 32 := 128#32
  let v320 : BitVec 32 := Scalar.addi v319 c128_i32_154
  let c2048_i32_155 : BitVec 32 := 2048#32
  let v321 : BitVec 1 := Scalar.cmpi .sle v320 c2048_i32_155
  let c4_i32_157 : BitVec 32 := 4#32
  let v325 : BitVec 1 := Scalar.cmpi .slt v324 c4_i32_157
  let v326 : BitVec 1 := Scalar.andi v321 v325
  let v327 : BitVec 32 := Scalar.select v326 v320 v319
  let c64_i32_158 : BitVec 32 := 64#32
  let v328 : BitVec 32 := Scalar.addi v327 c64_i32_158
  let c2048_i32_159 : BitVec 32 := 2048#32
  let v329 : BitVec 1 := Scalar.cmpi .sle v328 c2048_i32_159
  let c4_i32_161 : BitVec 32 := 4#32
  let v333 : BitVec 1 := Scalar.cmpi .slt v332 c4_i32_161
  let v334 : BitVec 1 := Scalar.andi v329 v333
  let v335 : BitVec 32 := Scalar.select v334 v328 v327
  let c32_i32_162 : BitVec 32 := 32#32
  let v336 : BitVec 32 := Scalar.addi v335 c32_i32_162
  let c2048_i32_163 : BitVec 32 := 2048#32
  let v337 : BitVec 1 := Scalar.cmpi .sle v336 c2048_i32_163
  let c4_i32_165 : BitVec 32 := 4#32
  let v341 : BitVec 1 := Scalar.cmpi .slt v340 c4_i32_165
  let v342 : BitVec 1 := Scalar.andi v337 v341
  let v343 : BitVec 32 := Scalar.select v342 v336 v335
  let c16_i32_166 : BitVec 32 := 16#32
  let v344 : BitVec 32 := Scalar.addi v343 c16_i32_166
  let c2048_i32_167 : BitVec 32 := 2048#32
  let v345 : BitVec 1 := Scalar.cmpi .sle v344 c2048_i32_167
  let c4_i32_169 : BitVec 32 := 4#32
  let v349 : BitVec 1 := Scalar.cmpi .slt v348 c4_i32_169
  let v350 : BitVec 1 := Scalar.andi v345 v349
  let v351 : BitVec 32 := Scalar.select v350 v344 v343
  let c8_i32_170 : BitVec 32 := 8#32
  let v352 : BitVec 32 := Scalar.addi v351 c8_i32_170
  let c1_i32_172 : BitVec 32 := 1#32
  let v354 : BitVec 32 := Scalar.subi v352 c1_i32_172
  let v355 : Index := Scalar.indexCast v354
  ![v355.toNat]

def k0_chk41 (v292 : BitVec 32) (v300 : BitVec 32) (v308 : BitVec 32) (v316 : BitVec 32) (v324 : BitVec 32) (v332 : BitVec 32) (v340 : BitVec 32) (v348 : BitVec 32) : Prop :=
  (∀ a, (k0_off45 v292 v300 v308 v316 v324 v332 v340 v348) a + S1.size a ≤ S2048.size a)
theorem k0_off45_inb : ∀ (v292 : BitVec 32) (v300 : BitVec 32) (v308 : BitVec 32) (v316 : BitVec 32) (v324 : BitVec 32) (v332 : BitVec 32) (v340 : BitVec 32) (v348 : BitVec 32) (k0_hw41 : k0_chk41 v292 v300 v308 v316 v324 v332 v340 v348), ∀ a, (k0_off45 v292 v300 v308 v316 v324 v332 v340 v348) a + S1.size a ≤ S2048.size a := fun v292 v300 v308 v316 v324 v332 v340 v348 k0_hw41 => k0_hw41

def k0_off46 (v292 : BitVec 32) (v300 : BitVec 32) (v308 : BitVec 32) (v316 : BitVec 32) (v324 : BitVec 32) (v332 : BitVec 32) (v340 : BitVec 32) (v348 : BitVec 32) (v356 : BitVec 32) : Fin 1 → Nat :=
  let c0_i32_136 : BitVec 32 := 0#32
  let c2048_i32_137 : BitVec 32 := 2048#32
  let v288 : BitVec 32 := Scalar.addi c0_i32_136 c2048_i32_137
  let c2048_i32_138 : BitVec 32 := 2048#32
  let v289 : BitVec 1 := Scalar.cmpi .sle v288 c2048_i32_138
  let c4_i32_140 : BitVec 32 := 4#32
  let v293 : BitVec 1 := Scalar.cmpi .slt v292 c4_i32_140
  let v294 : BitVec 1 := Scalar.andi v289 v293
  let c0_i32_141 : BitVec 32 := 0#32
  let v295 : BitVec 32 := Scalar.select v294 v288 c0_i32_141
  let c1024_i32_142 : BitVec 32 := 1024#32
  let v296 : BitVec 32 := Scalar.addi v295 c1024_i32_142
  let c2048_i32_143 : BitVec 32 := 2048#32
  let v297 : BitVec 1 := Scalar.cmpi .sle v296 c2048_i32_143
  let c4_i32_145 : BitVec 32 := 4#32
  let v301 : BitVec 1 := Scalar.cmpi .slt v300 c4_i32_145
  let v302 : BitVec 1 := Scalar.andi v297 v301
  let v303 : BitVec 32 := Scalar.select v302 v296 v295
  let c512_i32_146 : BitVec 32 := 512#32
  let v304 : BitVec 32 := Scalar.addi v303 c512_i32_146
  let c2048_i32_147 : BitVec 32 := 2048#32
  let v305 : BitVec 1 := Scalar.cmpi .sle v304 c2048_i32_147
  let c4_i32_149 : BitVec 32 := 4#32
  let v309 : BitVec 1 := Scalar.cmpi .slt v308 c4_i32_149
  let v310 : BitVec 1 := Scalar.andi v305 v309
  let v311 : BitVec 32 := Scalar.select v310 v304 v303
  let c256_i32_150 : BitVec 32 := 256#32
  let v312 : BitVec 32 := Scalar.addi v311 c256_i32_150
  let c2048_i32_151 : BitVec 32 := 2048#32
  let v313 : BitVec 1 := Scalar.cmpi .sle v312 c2048_i32_151
  let c4_i32_153 : BitVec 32 := 4#32
  let v317 : BitVec 1 := Scalar.cmpi .slt v316 c4_i32_153
  let v318 : BitVec 1 := Scalar.andi v313 v317
  let v319 : BitVec 32 := Scalar.select v318 v312 v311
  let c128_i32_154 : BitVec 32 := 128#32
  let v320 : BitVec 32 := Scalar.addi v319 c128_i32_154
  let c2048_i32_155 : BitVec 32 := 2048#32
  let v321 : BitVec 1 := Scalar.cmpi .sle v320 c2048_i32_155
  let c4_i32_157 : BitVec 32 := 4#32
  let v325 : BitVec 1 := Scalar.cmpi .slt v324 c4_i32_157
  let v326 : BitVec 1 := Scalar.andi v321 v325
  let v327 : BitVec 32 := Scalar.select v326 v320 v319
  let c64_i32_158 : BitVec 32 := 64#32
  let v328 : BitVec 32 := Scalar.addi v327 c64_i32_158
  let c2048_i32_159 : BitVec 32 := 2048#32
  let v329 : BitVec 1 := Scalar.cmpi .sle v328 c2048_i32_159
  let c4_i32_161 : BitVec 32 := 4#32
  let v333 : BitVec 1 := Scalar.cmpi .slt v332 c4_i32_161
  let v334 : BitVec 1 := Scalar.andi v329 v333
  let v335 : BitVec 32 := Scalar.select v334 v328 v327
  let c32_i32_162 : BitVec 32 := 32#32
  let v336 : BitVec 32 := Scalar.addi v335 c32_i32_162
  let c2048_i32_163 : BitVec 32 := 2048#32
  let v337 : BitVec 1 := Scalar.cmpi .sle v336 c2048_i32_163
  let c4_i32_165 : BitVec 32 := 4#32
  let v341 : BitVec 1 := Scalar.cmpi .slt v340 c4_i32_165
  let v342 : BitVec 1 := Scalar.andi v337 v341
  let v343 : BitVec 32 := Scalar.select v342 v336 v335
  let c16_i32_166 : BitVec 32 := 16#32
  let v344 : BitVec 32 := Scalar.addi v343 c16_i32_166
  let c2048_i32_167 : BitVec 32 := 2048#32
  let v345 : BitVec 1 := Scalar.cmpi .sle v344 c2048_i32_167
  let c4_i32_169 : BitVec 32 := 4#32
  let v349 : BitVec 1 := Scalar.cmpi .slt v348 c4_i32_169
  let v350 : BitVec 1 := Scalar.andi v345 v349
  let v351 : BitVec 32 := Scalar.select v350 v344 v343
  let c8_i32_170 : BitVec 32 := 8#32
  let v352 : BitVec 32 := Scalar.addi v351 c8_i32_170
  let c2048_i32_171 : BitVec 32 := 2048#32
  let v353 : BitVec 1 := Scalar.cmpi .sle v352 c2048_i32_171
  let c4_i32_173 : BitVec 32 := 4#32
  let v357 : BitVec 1 := Scalar.cmpi .slt v356 c4_i32_173
  let v358 : BitVec 1 := Scalar.andi v353 v357
  let v359 : BitVec 32 := Scalar.select v358 v352 v351
  let c4_i32_174 : BitVec 32 := 4#32
  let v360 : BitVec 32 := Scalar.addi v359 c4_i32_174
  let c1_i32_176 : BitVec 32 := 1#32
  let v362 : BitVec 32 := Scalar.subi v360 c1_i32_176
  let v363 : Index := Scalar.indexCast v362
  ![v363.toNat]

def k0_chk42 (v292 : BitVec 32) (v300 : BitVec 32) (v308 : BitVec 32) (v316 : BitVec 32) (v324 : BitVec 32) (v332 : BitVec 32) (v340 : BitVec 32) (v348 : BitVec 32) (v356 : BitVec 32) : Prop :=
  (∀ a, (k0_off46 v292 v300 v308 v316 v324 v332 v340 v348 v356) a + S1.size a ≤ S2048.size a)
theorem k0_off46_inb : ∀ (v292 : BitVec 32) (v300 : BitVec 32) (v308 : BitVec 32) (v316 : BitVec 32) (v324 : BitVec 32) (v332 : BitVec 32) (v340 : BitVec 32) (v348 : BitVec 32) (v356 : BitVec 32) (k0_hw42 : k0_chk42 v292 v300 v308 v316 v324 v332 v340 v348 v356), ∀ a, (k0_off46 v292 v300 v308 v316 v324 v332 v340 v348 v356) a + S1.size a ≤ S2048.size a := fun v292 v300 v308 v316 v324 v332 v340 v348 v356 k0_hw42 => k0_hw42

def k0_off47 (v292 : BitVec 32) (v300 : BitVec 32) (v308 : BitVec 32) (v316 : BitVec 32) (v324 : BitVec 32) (v332 : BitVec 32) (v340 : BitVec 32) (v348 : BitVec 32) (v356 : BitVec 32) (v364 : BitVec 32) : Fin 1 → Nat :=
  let c0_i32_136 : BitVec 32 := 0#32
  let c2048_i32_137 : BitVec 32 := 2048#32
  let v288 : BitVec 32 := Scalar.addi c0_i32_136 c2048_i32_137
  let c2048_i32_138 : BitVec 32 := 2048#32
  let v289 : BitVec 1 := Scalar.cmpi .sle v288 c2048_i32_138
  let c4_i32_140 : BitVec 32 := 4#32
  let v293 : BitVec 1 := Scalar.cmpi .slt v292 c4_i32_140
  let v294 : BitVec 1 := Scalar.andi v289 v293
  let c0_i32_141 : BitVec 32 := 0#32
  let v295 : BitVec 32 := Scalar.select v294 v288 c0_i32_141
  let c1024_i32_142 : BitVec 32 := 1024#32
  let v296 : BitVec 32 := Scalar.addi v295 c1024_i32_142
  let c2048_i32_143 : BitVec 32 := 2048#32
  let v297 : BitVec 1 := Scalar.cmpi .sle v296 c2048_i32_143
  let c4_i32_145 : BitVec 32 := 4#32
  let v301 : BitVec 1 := Scalar.cmpi .slt v300 c4_i32_145
  let v302 : BitVec 1 := Scalar.andi v297 v301
  let v303 : BitVec 32 := Scalar.select v302 v296 v295
  let c512_i32_146 : BitVec 32 := 512#32
  let v304 : BitVec 32 := Scalar.addi v303 c512_i32_146
  let c2048_i32_147 : BitVec 32 := 2048#32
  let v305 : BitVec 1 := Scalar.cmpi .sle v304 c2048_i32_147
  let c4_i32_149 : BitVec 32 := 4#32
  let v309 : BitVec 1 := Scalar.cmpi .slt v308 c4_i32_149
  let v310 : BitVec 1 := Scalar.andi v305 v309
  let v311 : BitVec 32 := Scalar.select v310 v304 v303
  let c256_i32_150 : BitVec 32 := 256#32
  let v312 : BitVec 32 := Scalar.addi v311 c256_i32_150
  let c2048_i32_151 : BitVec 32 := 2048#32
  let v313 : BitVec 1 := Scalar.cmpi .sle v312 c2048_i32_151
  let c4_i32_153 : BitVec 32 := 4#32
  let v317 : BitVec 1 := Scalar.cmpi .slt v316 c4_i32_153
  let v318 : BitVec 1 := Scalar.andi v313 v317
  let v319 : BitVec 32 := Scalar.select v318 v312 v311
  let c128_i32_154 : BitVec 32 := 128#32
  let v320 : BitVec 32 := Scalar.addi v319 c128_i32_154
  let c2048_i32_155 : BitVec 32 := 2048#32
  let v321 : BitVec 1 := Scalar.cmpi .sle v320 c2048_i32_155
  let c4_i32_157 : BitVec 32 := 4#32
  let v325 : BitVec 1 := Scalar.cmpi .slt v324 c4_i32_157
  let v326 : BitVec 1 := Scalar.andi v321 v325
  let v327 : BitVec 32 := Scalar.select v326 v320 v319
  let c64_i32_158 : BitVec 32 := 64#32
  let v328 : BitVec 32 := Scalar.addi v327 c64_i32_158
  let c2048_i32_159 : BitVec 32 := 2048#32
  let v329 : BitVec 1 := Scalar.cmpi .sle v328 c2048_i32_159
  let c4_i32_161 : BitVec 32 := 4#32
  let v333 : BitVec 1 := Scalar.cmpi .slt v332 c4_i32_161
  let v334 : BitVec 1 := Scalar.andi v329 v333
  let v335 : BitVec 32 := Scalar.select v334 v328 v327
  let c32_i32_162 : BitVec 32 := 32#32
  let v336 : BitVec 32 := Scalar.addi v335 c32_i32_162
  let c2048_i32_163 : BitVec 32 := 2048#32
  let v337 : BitVec 1 := Scalar.cmpi .sle v336 c2048_i32_163
  let c4_i32_165 : BitVec 32 := 4#32
  let v341 : BitVec 1 := Scalar.cmpi .slt v340 c4_i32_165
  let v342 : BitVec 1 := Scalar.andi v337 v341
  let v343 : BitVec 32 := Scalar.select v342 v336 v335
  let c16_i32_166 : BitVec 32 := 16#32
  let v344 : BitVec 32 := Scalar.addi v343 c16_i32_166
  let c2048_i32_167 : BitVec 32 := 2048#32
  let v345 : BitVec 1 := Scalar.cmpi .sle v344 c2048_i32_167
  let c4_i32_169 : BitVec 32 := 4#32
  let v349 : BitVec 1 := Scalar.cmpi .slt v348 c4_i32_169
  let v350 : BitVec 1 := Scalar.andi v345 v349
  let v351 : BitVec 32 := Scalar.select v350 v344 v343
  let c8_i32_170 : BitVec 32 := 8#32
  let v352 : BitVec 32 := Scalar.addi v351 c8_i32_170
  let c2048_i32_171 : BitVec 32 := 2048#32
  let v353 : BitVec 1 := Scalar.cmpi .sle v352 c2048_i32_171
  let c4_i32_173 : BitVec 32 := 4#32
  let v357 : BitVec 1 := Scalar.cmpi .slt v356 c4_i32_173
  let v358 : BitVec 1 := Scalar.andi v353 v357
  let v359 : BitVec 32 := Scalar.select v358 v352 v351
  let c4_i32_174 : BitVec 32 := 4#32
  let v360 : BitVec 32 := Scalar.addi v359 c4_i32_174
  let c2048_i32_175 : BitVec 32 := 2048#32
  let v361 : BitVec 1 := Scalar.cmpi .sle v360 c2048_i32_175
  let c4_i32_177 : BitVec 32 := 4#32
  let v365 : BitVec 1 := Scalar.cmpi .slt v364 c4_i32_177
  let v366 : BitVec 1 := Scalar.andi v361 v365
  let v367 : BitVec 32 := Scalar.select v366 v360 v359
  let c2_i32_178 : BitVec 32 := 2#32
  let v368 : BitVec 32 := Scalar.addi v367 c2_i32_178
  let c1_i32_180 : BitVec 32 := 1#32
  let v370 : BitVec 32 := Scalar.subi v368 c1_i32_180
  let v371 : Index := Scalar.indexCast v370
  ![v371.toNat]

def k0_chk43 (v292 : BitVec 32) (v300 : BitVec 32) (v308 : BitVec 32) (v316 : BitVec 32) (v324 : BitVec 32) (v332 : BitVec 32) (v340 : BitVec 32) (v348 : BitVec 32) (v356 : BitVec 32) (v364 : BitVec 32) : Prop :=
  (∀ a, (k0_off47 v292 v300 v308 v316 v324 v332 v340 v348 v356 v364) a + S1.size a ≤ S2048.size a)
theorem k0_off47_inb : ∀ (v292 : BitVec 32) (v300 : BitVec 32) (v308 : BitVec 32) (v316 : BitVec 32) (v324 : BitVec 32) (v332 : BitVec 32) (v340 : BitVec 32) (v348 : BitVec 32) (v356 : BitVec 32) (v364 : BitVec 32) (k0_hw43 : k0_chk43 v292 v300 v308 v316 v324 v332 v340 v348 v356 v364), ∀ a, (k0_off47 v292 v300 v308 v316 v324 v332 v340 v348 v356 v364) a + S1.size a ≤ S2048.size a := fun v292 v300 v308 v316 v324 v332 v340 v348 v356 v364 k0_hw43 => k0_hw43

def k0_off48 (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) : Fin 1 → Nat :=
  let c0_i32_136 : BitVec 32 := 0#32
  let c2048_i32_137 : BitVec 32 := 2048#32
  let v288 : BitVec 32 := Scalar.addi c0_i32_136 c2048_i32_137
  let c2048_i32_138 : BitVec 32 := 2048#32
  let v289 : BitVec 1 := Scalar.cmpi .sle v288 c2048_i32_138
  let c4_i32_140 : BitVec 32 := 4#32
  let v293 : BitVec 1 := Scalar.cmpi .slt v292 c4_i32_140
  let v294 : BitVec 1 := Scalar.andi v289 v293
  let c0_i32_141 : BitVec 32 := 0#32
  let v295 : BitVec 32 := Scalar.select v294 v288 c0_i32_141
  let c1024_i32_142 : BitVec 32 := 1024#32
  let v296 : BitVec 32 := Scalar.addi v295 c1024_i32_142
  let c2048_i32_143 : BitVec 32 := 2048#32
  let v297 : BitVec 1 := Scalar.cmpi .sle v296 c2048_i32_143
  let c4_i32_145 : BitVec 32 := 4#32
  let v301 : BitVec 1 := Scalar.cmpi .slt v300 c4_i32_145
  let v302 : BitVec 1 := Scalar.andi v297 v301
  let v303 : BitVec 32 := Scalar.select v302 v296 v295
  let c512_i32_146 : BitVec 32 := 512#32
  let v304 : BitVec 32 := Scalar.addi v303 c512_i32_146
  let c2048_i32_147 : BitVec 32 := 2048#32
  let v305 : BitVec 1 := Scalar.cmpi .sle v304 c2048_i32_147
  let c4_i32_149 : BitVec 32 := 4#32
  let v309 : BitVec 1 := Scalar.cmpi .slt v308 c4_i32_149
  let v310 : BitVec 1 := Scalar.andi v305 v309
  let v311 : BitVec 32 := Scalar.select v310 v304 v303
  let c256_i32_150 : BitVec 32 := 256#32
  let v312 : BitVec 32 := Scalar.addi v311 c256_i32_150
  let c2048_i32_151 : BitVec 32 := 2048#32
  let v313 : BitVec 1 := Scalar.cmpi .sle v312 c2048_i32_151
  let c4_i32_153 : BitVec 32 := 4#32
  let v317 : BitVec 1 := Scalar.cmpi .slt v316 c4_i32_153
  let v318 : BitVec 1 := Scalar.andi v313 v317
  let v319 : BitVec 32 := Scalar.select v318 v312 v311
  let c128_i32_154 : BitVec 32 := 128#32
  let v320 : BitVec 32 := Scalar.addi v319 c128_i32_154
  let c2048_i32_155 : BitVec 32 := 2048#32
  let v321 : BitVec 1 := Scalar.cmpi .sle v320 c2048_i32_155
  let c4_i32_157 : BitVec 32 := 4#32
  let v325 : BitVec 1 := Scalar.cmpi .slt v324 c4_i32_157
  let v326 : BitVec 1 := Scalar.andi v321 v325
  let v327 : BitVec 32 := Scalar.select v326 v320 v319
  let c64_i32_158 : BitVec 32 := 64#32
  let v328 : BitVec 32 := Scalar.addi v327 c64_i32_158
  let c2048_i32_159 : BitVec 32 := 2048#32
  let v329 : BitVec 1 := Scalar.cmpi .sle v328 c2048_i32_159
  let c4_i32_161 : BitVec 32 := 4#32
  let v333 : BitVec 1 := Scalar.cmpi .slt v332 c4_i32_161
  let v334 : BitVec 1 := Scalar.andi v329 v333
  let v335 : BitVec 32 := Scalar.select v334 v328 v327
  let c32_i32_162 : BitVec 32 := 32#32
  let v336 : BitVec 32 := Scalar.addi v335 c32_i32_162
  let c2048_i32_163 : BitVec 32 := 2048#32
  let v337 : BitVec 1 := Scalar.cmpi .sle v336 c2048_i32_163
  let c4_i32_165 : BitVec 32 := 4#32
  let v341 : BitVec 1 := Scalar.cmpi .slt v340 c4_i32_165
  let v342 : BitVec 1 := Scalar.andi v337 v341
  let v343 : BitVec 32 := Scalar.select v342 v336 v335
  let c16_i32_166 : BitVec 32 := 16#32
  let v344 : BitVec 32 := Scalar.addi v343 c16_i32_166
  let c2048_i32_167 : BitVec 32 := 2048#32
  let v345 : BitVec 1 := Scalar.cmpi .sle v344 c2048_i32_167
  let c4_i32_169 : BitVec 32 := 4#32
  let v349 : BitVec 1 := Scalar.cmpi .slt v348 c4_i32_169
  let v350 : BitVec 1 := Scalar.andi v345 v349
  let v351 : BitVec 32 := Scalar.select v350 v344 v343
  let c8_i32_170 : BitVec 32 := 8#32
  let v352 : BitVec 32 := Scalar.addi v351 c8_i32_170
  let c2048_i32_171 : BitVec 32 := 2048#32
  let v353 : BitVec 1 := Scalar.cmpi .sle v352 c2048_i32_171
  let c4_i32_173 : BitVec 32 := 4#32
  let v357 : BitVec 1 := Scalar.cmpi .slt v356 c4_i32_173
  let v358 : BitVec 1 := Scalar.andi v353 v357
  let v359 : BitVec 32 := Scalar.select v358 v352 v351
  let c4_i32_174 : BitVec 32 := 4#32
  let v360 : BitVec 32 := Scalar.addi v359 c4_i32_174
  let c2048_i32_175 : BitVec 32 := 2048#32
  let v361 : BitVec 1 := Scalar.cmpi .sle v360 c2048_i32_175
  let c4_i32_177 : BitVec 32 := 4#32
  let v365 : BitVec 1 := Scalar.cmpi .slt v364 c4_i32_177
  let v366 : BitVec 1 := Scalar.andi v361 v365
  let v367 : BitVec 32 := Scalar.select v366 v360 v359
  let c2_i32_178 : BitVec 32 := 2#32
  let v368 : BitVec 32 := Scalar.addi v367 c2_i32_178
  let c2048_i32_179 : BitVec 32 := 2048#32
  let v369 : BitVec 1 := Scalar.cmpi .sle v368 c2048_i32_179
  let c4_i32_181 : BitVec 32 := 4#32
  let v373 : BitVec 1 := Scalar.cmpi .slt v372 c4_i32_181
  let v374 : BitVec 1 := Scalar.andi v369 v373
  let v375 : BitVec 32 := Scalar.select v374 v368 v367
  let c1_i32_182 : BitVec 32 := 1#32
  let v376 : BitVec 32 := Scalar.addi v375 c1_i32_182
  let c1_i32_184 : BitVec 32 := 1#32
  let v378 : BitVec 32 := Scalar.subi v376 c1_i32_184
  let v379 : Index := Scalar.indexCast v378
  ![v379.toNat]

def k0_chk44 (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) : Prop :=
  (∀ a, (k0_off48 v292 v300 v308 v316 v324 v332 v340 v348 v356 v364 v372) a + S1.size a ≤ S2048.size a)
theorem k0_off48_inb : ∀ (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (k0_hw44 : k0_chk44 v292 v300 v308 v316 v324 v332 v340 v348 v356 v364 v372), ∀ a, (k0_off48 v292 v300 v308 v316 v324 v332 v340 v348 v356 v364 v372) a + S1.size a ≤ S2048.size a := fun v292 v300 v308 v316 v324 v332 v340 v348 v356 v364 v372 k0_hw44 => k0_hw44

def k0_off49 : Fin 1 → Nat :=
  let c0_i32_186 : BitVec 32 := 0#32
  let c2048_i32_187 : BitVec 32 := 2048#32
  let v384 : BitVec 32 := Scalar.addi c0_i32_186 c2048_i32_187
  let c1_i32_189 : BitVec 32 := 1#32
  let v386 : BitVec 32 := Scalar.subi v384 c1_i32_189
  let v387 : Index := Scalar.indexCast v386
  ![v387.toNat]
def k0_off50 (v388 : BitVec 32) : Fin 1 → Nat :=
  let c0_i32_186 : BitVec 32 := 0#32
  let c2048_i32_187 : BitVec 32 := 2048#32
  let v384 : BitVec 32 := Scalar.addi c0_i32_186 c2048_i32_187
  let c2048_i32_188 : BitVec 32 := 2048#32
  let v385 : BitVec 1 := Scalar.cmpi .sle v384 c2048_i32_188
  let c5_i32 : BitVec 32 := 5#32
  let v389 : BitVec 1 := Scalar.cmpi .slt v388 c5_i32
  let v390 : BitVec 1 := Scalar.andi v385 v389
  let c0_i32_190 : BitVec 32 := 0#32
  let v391 : BitVec 32 := Scalar.select v390 v384 c0_i32_190
  let c1024_i32_191 : BitVec 32 := 1024#32
  let v392 : BitVec 32 := Scalar.addi v391 c1024_i32_191
  let c1_i32_193 : BitVec 32 := 1#32
  let v394 : BitVec 32 := Scalar.subi v392 c1_i32_193
  let v395 : Index := Scalar.indexCast v394
  ![v395.toNat]

def k0_chk45 (v388 : BitVec 32) : Prop :=
  (∀ a, (k0_off50 v388) a + S1.size a ≤ S2048.size a)
theorem k0_off50_inb : ∀ (v388 : BitVec 32) (k0_hw45 : k0_chk45 v388), ∀ a, (k0_off50 v388) a + S1.size a ≤ S2048.size a := fun v388 k0_hw45 => k0_hw45

def k0_off51 (v388 : BitVec 32) (v396 : BitVec 32) : Fin 1 → Nat :=
  let c0_i32_186 : BitVec 32 := 0#32
  let c2048_i32_187 : BitVec 32 := 2048#32
  let v384 : BitVec 32 := Scalar.addi c0_i32_186 c2048_i32_187
  let c2048_i32_188 : BitVec 32 := 2048#32
  let v385 : BitVec 1 := Scalar.cmpi .sle v384 c2048_i32_188
  let c5_i32 : BitVec 32 := 5#32
  let v389 : BitVec 1 := Scalar.cmpi .slt v388 c5_i32
  let v390 : BitVec 1 := Scalar.andi v385 v389
  let c0_i32_190 : BitVec 32 := 0#32
  let v391 : BitVec 32 := Scalar.select v390 v384 c0_i32_190
  let c1024_i32_191 : BitVec 32 := 1024#32
  let v392 : BitVec 32 := Scalar.addi v391 c1024_i32_191
  let c2048_i32_192 : BitVec 32 := 2048#32
  let v393 : BitVec 1 := Scalar.cmpi .sle v392 c2048_i32_192
  let c5_i32_194 : BitVec 32 := 5#32
  let v397 : BitVec 1 := Scalar.cmpi .slt v396 c5_i32_194
  let v398 : BitVec 1 := Scalar.andi v393 v397
  let v399 : BitVec 32 := Scalar.select v398 v392 v391
  let c512_i32_195 : BitVec 32 := 512#32
  let v400 : BitVec 32 := Scalar.addi v399 c512_i32_195
  let c1_i32_197 : BitVec 32 := 1#32
  let v402 : BitVec 32 := Scalar.subi v400 c1_i32_197
  let v403 : Index := Scalar.indexCast v402
  ![v403.toNat]

def k0_chk46 (v388 : BitVec 32) (v396 : BitVec 32) : Prop :=
  (∀ a, (k0_off51 v388 v396) a + S1.size a ≤ S2048.size a)
theorem k0_off51_inb : ∀ (v388 : BitVec 32) (v396 : BitVec 32) (k0_hw46 : k0_chk46 v388 v396), ∀ a, (k0_off51 v388 v396) a + S1.size a ≤ S2048.size a := fun v388 v396 k0_hw46 => k0_hw46

def k0_off52 (v388 : BitVec 32) (v396 : BitVec 32) (v404 : BitVec 32) : Fin 1 → Nat :=
  let c0_i32_186 : BitVec 32 := 0#32
  let c2048_i32_187 : BitVec 32 := 2048#32
  let v384 : BitVec 32 := Scalar.addi c0_i32_186 c2048_i32_187
  let c2048_i32_188 : BitVec 32 := 2048#32
  let v385 : BitVec 1 := Scalar.cmpi .sle v384 c2048_i32_188
  let c5_i32 : BitVec 32 := 5#32
  let v389 : BitVec 1 := Scalar.cmpi .slt v388 c5_i32
  let v390 : BitVec 1 := Scalar.andi v385 v389
  let c0_i32_190 : BitVec 32 := 0#32
  let v391 : BitVec 32 := Scalar.select v390 v384 c0_i32_190
  let c1024_i32_191 : BitVec 32 := 1024#32
  let v392 : BitVec 32 := Scalar.addi v391 c1024_i32_191
  let c2048_i32_192 : BitVec 32 := 2048#32
  let v393 : BitVec 1 := Scalar.cmpi .sle v392 c2048_i32_192
  let c5_i32_194 : BitVec 32 := 5#32
  let v397 : BitVec 1 := Scalar.cmpi .slt v396 c5_i32_194
  let v398 : BitVec 1 := Scalar.andi v393 v397
  let v399 : BitVec 32 := Scalar.select v398 v392 v391
  let c512_i32_195 : BitVec 32 := 512#32
  let v400 : BitVec 32 := Scalar.addi v399 c512_i32_195
  let c2048_i32_196 : BitVec 32 := 2048#32
  let v401 : BitVec 1 := Scalar.cmpi .sle v400 c2048_i32_196
  let c5_i32_198 : BitVec 32 := 5#32
  let v405 : BitVec 1 := Scalar.cmpi .slt v404 c5_i32_198
  let v406 : BitVec 1 := Scalar.andi v401 v405
  let v407 : BitVec 32 := Scalar.select v406 v400 v399
  let c256_i32_199 : BitVec 32 := 256#32
  let v408 : BitVec 32 := Scalar.addi v407 c256_i32_199
  let c1_i32_201 : BitVec 32 := 1#32
  let v410 : BitVec 32 := Scalar.subi v408 c1_i32_201
  let v411 : Index := Scalar.indexCast v410
  ![v411.toNat]

def k0_chk47 (v388 : BitVec 32) (v396 : BitVec 32) (v404 : BitVec 32) : Prop :=
  (∀ a, (k0_off52 v388 v396 v404) a + S1.size a ≤ S2048.size a)
theorem k0_off52_inb : ∀ (v388 : BitVec 32) (v396 : BitVec 32) (v404 : BitVec 32) (k0_hw47 : k0_chk47 v388 v396 v404), ∀ a, (k0_off52 v388 v396 v404) a + S1.size a ≤ S2048.size a := fun v388 v396 v404 k0_hw47 => k0_hw47

def k0_off53 (v388 : BitVec 32) (v396 : BitVec 32) (v404 : BitVec 32) (v412 : BitVec 32) : Fin 1 → Nat :=
  let c0_i32_186 : BitVec 32 := 0#32
  let c2048_i32_187 : BitVec 32 := 2048#32
  let v384 : BitVec 32 := Scalar.addi c0_i32_186 c2048_i32_187
  let c2048_i32_188 : BitVec 32 := 2048#32
  let v385 : BitVec 1 := Scalar.cmpi .sle v384 c2048_i32_188
  let c5_i32 : BitVec 32 := 5#32
  let v389 : BitVec 1 := Scalar.cmpi .slt v388 c5_i32
  let v390 : BitVec 1 := Scalar.andi v385 v389
  let c0_i32_190 : BitVec 32 := 0#32
  let v391 : BitVec 32 := Scalar.select v390 v384 c0_i32_190
  let c1024_i32_191 : BitVec 32 := 1024#32
  let v392 : BitVec 32 := Scalar.addi v391 c1024_i32_191
  let c2048_i32_192 : BitVec 32 := 2048#32
  let v393 : BitVec 1 := Scalar.cmpi .sle v392 c2048_i32_192
  let c5_i32_194 : BitVec 32 := 5#32
  let v397 : BitVec 1 := Scalar.cmpi .slt v396 c5_i32_194
  let v398 : BitVec 1 := Scalar.andi v393 v397
  let v399 : BitVec 32 := Scalar.select v398 v392 v391
  let c512_i32_195 : BitVec 32 := 512#32
  let v400 : BitVec 32 := Scalar.addi v399 c512_i32_195
  let c2048_i32_196 : BitVec 32 := 2048#32
  let v401 : BitVec 1 := Scalar.cmpi .sle v400 c2048_i32_196
  let c5_i32_198 : BitVec 32 := 5#32
  let v405 : BitVec 1 := Scalar.cmpi .slt v404 c5_i32_198
  let v406 : BitVec 1 := Scalar.andi v401 v405
  let v407 : BitVec 32 := Scalar.select v406 v400 v399
  let c256_i32_199 : BitVec 32 := 256#32
  let v408 : BitVec 32 := Scalar.addi v407 c256_i32_199
  let c2048_i32_200 : BitVec 32 := 2048#32
  let v409 : BitVec 1 := Scalar.cmpi .sle v408 c2048_i32_200
  let c5_i32_202 : BitVec 32 := 5#32
  let v413 : BitVec 1 := Scalar.cmpi .slt v412 c5_i32_202
  let v414 : BitVec 1 := Scalar.andi v409 v413
  let v415 : BitVec 32 := Scalar.select v414 v408 v407
  let c128_i32_203 : BitVec 32 := 128#32
  let v416 : BitVec 32 := Scalar.addi v415 c128_i32_203
  let c1_i32_205 : BitVec 32 := 1#32
  let v418 : BitVec 32 := Scalar.subi v416 c1_i32_205
  let v419 : Index := Scalar.indexCast v418
  ![v419.toNat]

def k0_chk48 (v388 : BitVec 32) (v396 : BitVec 32) (v404 : BitVec 32) (v412 : BitVec 32) : Prop :=
  (∀ a, (k0_off53 v388 v396 v404 v412) a + S1.size a ≤ S2048.size a)
theorem k0_off53_inb : ∀ (v388 : BitVec 32) (v396 : BitVec 32) (v404 : BitVec 32) (v412 : BitVec 32) (k0_hw48 : k0_chk48 v388 v396 v404 v412), ∀ a, (k0_off53 v388 v396 v404 v412) a + S1.size a ≤ S2048.size a := fun v388 v396 v404 v412 k0_hw48 => k0_hw48

def k0_off54 (v388 : BitVec 32) (v396 : BitVec 32) (v404 : BitVec 32) (v412 : BitVec 32) (v420 : BitVec 32) : Fin 1 → Nat :=
  let c0_i32_186 : BitVec 32 := 0#32
  let c2048_i32_187 : BitVec 32 := 2048#32
  let v384 : BitVec 32 := Scalar.addi c0_i32_186 c2048_i32_187
  let c2048_i32_188 : BitVec 32 := 2048#32
  let v385 : BitVec 1 := Scalar.cmpi .sle v384 c2048_i32_188
  let c5_i32 : BitVec 32 := 5#32
  let v389 : BitVec 1 := Scalar.cmpi .slt v388 c5_i32
  let v390 : BitVec 1 := Scalar.andi v385 v389
  let c0_i32_190 : BitVec 32 := 0#32
  let v391 : BitVec 32 := Scalar.select v390 v384 c0_i32_190
  let c1024_i32_191 : BitVec 32 := 1024#32
  let v392 : BitVec 32 := Scalar.addi v391 c1024_i32_191
  let c2048_i32_192 : BitVec 32 := 2048#32
  let v393 : BitVec 1 := Scalar.cmpi .sle v392 c2048_i32_192
  let c5_i32_194 : BitVec 32 := 5#32
  let v397 : BitVec 1 := Scalar.cmpi .slt v396 c5_i32_194
  let v398 : BitVec 1 := Scalar.andi v393 v397
  let v399 : BitVec 32 := Scalar.select v398 v392 v391
  let c512_i32_195 : BitVec 32 := 512#32
  let v400 : BitVec 32 := Scalar.addi v399 c512_i32_195
  let c2048_i32_196 : BitVec 32 := 2048#32
  let v401 : BitVec 1 := Scalar.cmpi .sle v400 c2048_i32_196
  let c5_i32_198 : BitVec 32 := 5#32
  let v405 : BitVec 1 := Scalar.cmpi .slt v404 c5_i32_198
  let v406 : BitVec 1 := Scalar.andi v401 v405
  let v407 : BitVec 32 := Scalar.select v406 v400 v399
  let c256_i32_199 : BitVec 32 := 256#32
  let v408 : BitVec 32 := Scalar.addi v407 c256_i32_199
  let c2048_i32_200 : BitVec 32 := 2048#32
  let v409 : BitVec 1 := Scalar.cmpi .sle v408 c2048_i32_200
  let c5_i32_202 : BitVec 32 := 5#32
  let v413 : BitVec 1 := Scalar.cmpi .slt v412 c5_i32_202
  let v414 : BitVec 1 := Scalar.andi v409 v413
  let v415 : BitVec 32 := Scalar.select v414 v408 v407
  let c128_i32_203 : BitVec 32 := 128#32
  let v416 : BitVec 32 := Scalar.addi v415 c128_i32_203
  let c2048_i32_204 : BitVec 32 := 2048#32
  let v417 : BitVec 1 := Scalar.cmpi .sle v416 c2048_i32_204
  let c5_i32_206 : BitVec 32 := 5#32
  let v421 : BitVec 1 := Scalar.cmpi .slt v420 c5_i32_206
  let v422 : BitVec 1 := Scalar.andi v417 v421
  let v423 : BitVec 32 := Scalar.select v422 v416 v415
  let c64_i32_207 : BitVec 32 := 64#32
  let v424 : BitVec 32 := Scalar.addi v423 c64_i32_207
  let c1_i32_209 : BitVec 32 := 1#32
  let v426 : BitVec 32 := Scalar.subi v424 c1_i32_209
  let v427 : Index := Scalar.indexCast v426
  ![v427.toNat]

def k0_chk49 (v388 : BitVec 32) (v396 : BitVec 32) (v404 : BitVec 32) (v412 : BitVec 32) (v420 : BitVec 32) : Prop :=
  (∀ a, (k0_off54 v388 v396 v404 v412 v420) a + S1.size a ≤ S2048.size a)
theorem k0_off54_inb : ∀ (v388 : BitVec 32) (v396 : BitVec 32) (v404 : BitVec 32) (v412 : BitVec 32) (v420 : BitVec 32) (k0_hw49 : k0_chk49 v388 v396 v404 v412 v420), ∀ a, (k0_off54 v388 v396 v404 v412 v420) a + S1.size a ≤ S2048.size a := fun v388 v396 v404 v412 v420 k0_hw49 => k0_hw49

def k0_off55 (v388 : BitVec 32) (v396 : BitVec 32) (v404 : BitVec 32) (v412 : BitVec 32) (v420 : BitVec 32) (v428 : BitVec 32) : Fin 1 → Nat :=
  let c0_i32_186 : BitVec 32 := 0#32
  let c2048_i32_187 : BitVec 32 := 2048#32
  let v384 : BitVec 32 := Scalar.addi c0_i32_186 c2048_i32_187
  let c2048_i32_188 : BitVec 32 := 2048#32
  let v385 : BitVec 1 := Scalar.cmpi .sle v384 c2048_i32_188
  let c5_i32 : BitVec 32 := 5#32
  let v389 : BitVec 1 := Scalar.cmpi .slt v388 c5_i32
  let v390 : BitVec 1 := Scalar.andi v385 v389
  let c0_i32_190 : BitVec 32 := 0#32
  let v391 : BitVec 32 := Scalar.select v390 v384 c0_i32_190
  let c1024_i32_191 : BitVec 32 := 1024#32
  let v392 : BitVec 32 := Scalar.addi v391 c1024_i32_191
  let c2048_i32_192 : BitVec 32 := 2048#32
  let v393 : BitVec 1 := Scalar.cmpi .sle v392 c2048_i32_192
  let c5_i32_194 : BitVec 32 := 5#32
  let v397 : BitVec 1 := Scalar.cmpi .slt v396 c5_i32_194
  let v398 : BitVec 1 := Scalar.andi v393 v397
  let v399 : BitVec 32 := Scalar.select v398 v392 v391
  let c512_i32_195 : BitVec 32 := 512#32
  let v400 : BitVec 32 := Scalar.addi v399 c512_i32_195
  let c2048_i32_196 : BitVec 32 := 2048#32
  let v401 : BitVec 1 := Scalar.cmpi .sle v400 c2048_i32_196
  let c5_i32_198 : BitVec 32 := 5#32
  let v405 : BitVec 1 := Scalar.cmpi .slt v404 c5_i32_198
  let v406 : BitVec 1 := Scalar.andi v401 v405
  let v407 : BitVec 32 := Scalar.select v406 v400 v399
  let c256_i32_199 : BitVec 32 := 256#32
  let v408 : BitVec 32 := Scalar.addi v407 c256_i32_199
  let c2048_i32_200 : BitVec 32 := 2048#32
  let v409 : BitVec 1 := Scalar.cmpi .sle v408 c2048_i32_200
  let c5_i32_202 : BitVec 32 := 5#32
  let v413 : BitVec 1 := Scalar.cmpi .slt v412 c5_i32_202
  let v414 : BitVec 1 := Scalar.andi v409 v413
  let v415 : BitVec 32 := Scalar.select v414 v408 v407
  let c128_i32_203 : BitVec 32 := 128#32
  let v416 : BitVec 32 := Scalar.addi v415 c128_i32_203
  let c2048_i32_204 : BitVec 32 := 2048#32
  let v417 : BitVec 1 := Scalar.cmpi .sle v416 c2048_i32_204
  let c5_i32_206 : BitVec 32 := 5#32
  let v421 : BitVec 1 := Scalar.cmpi .slt v420 c5_i32_206
  let v422 : BitVec 1 := Scalar.andi v417 v421
  let v423 : BitVec 32 := Scalar.select v422 v416 v415
  let c64_i32_207 : BitVec 32 := 64#32
  let v424 : BitVec 32 := Scalar.addi v423 c64_i32_207
  let c2048_i32_208 : BitVec 32 := 2048#32
  let v425 : BitVec 1 := Scalar.cmpi .sle v424 c2048_i32_208
  let c5_i32_210 : BitVec 32 := 5#32
  let v429 : BitVec 1 := Scalar.cmpi .slt v428 c5_i32_210
  let v430 : BitVec 1 := Scalar.andi v425 v429
  let v431 : BitVec 32 := Scalar.select v430 v424 v423
  let c32_i32_211 : BitVec 32 := 32#32
  let v432 : BitVec 32 := Scalar.addi v431 c32_i32_211
  let c1_i32_213 : BitVec 32 := 1#32
  let v434 : BitVec 32 := Scalar.subi v432 c1_i32_213
  let v435 : Index := Scalar.indexCast v434
  ![v435.toNat]

def k0_chk50 (v388 : BitVec 32) (v396 : BitVec 32) (v404 : BitVec 32) (v412 : BitVec 32) (v420 : BitVec 32) (v428 : BitVec 32) : Prop :=
  (∀ a, (k0_off55 v388 v396 v404 v412 v420 v428) a + S1.size a ≤ S2048.size a)
theorem k0_off55_inb : ∀ (v388 : BitVec 32) (v396 : BitVec 32) (v404 : BitVec 32) (v412 : BitVec 32) (v420 : BitVec 32) (v428 : BitVec 32) (k0_hw50 : k0_chk50 v388 v396 v404 v412 v420 v428), ∀ a, (k0_off55 v388 v396 v404 v412 v420 v428) a + S1.size a ≤ S2048.size a := fun v388 v396 v404 v412 v420 v428 k0_hw50 => k0_hw50

def k0_off56 (v388 : BitVec 32) (v396 : BitVec 32) (v404 : BitVec 32) (v412 : BitVec 32) (v420 : BitVec 32) (v428 : BitVec 32) (v436 : BitVec 32) : Fin 1 → Nat :=
  let c0_i32_186 : BitVec 32 := 0#32
  let c2048_i32_187 : BitVec 32 := 2048#32
  let v384 : BitVec 32 := Scalar.addi c0_i32_186 c2048_i32_187
  let c2048_i32_188 : BitVec 32 := 2048#32
  let v385 : BitVec 1 := Scalar.cmpi .sle v384 c2048_i32_188
  let c5_i32 : BitVec 32 := 5#32
  let v389 : BitVec 1 := Scalar.cmpi .slt v388 c5_i32
  let v390 : BitVec 1 := Scalar.andi v385 v389
  let c0_i32_190 : BitVec 32 := 0#32
  let v391 : BitVec 32 := Scalar.select v390 v384 c0_i32_190
  let c1024_i32_191 : BitVec 32 := 1024#32
  let v392 : BitVec 32 := Scalar.addi v391 c1024_i32_191
  let c2048_i32_192 : BitVec 32 := 2048#32
  let v393 : BitVec 1 := Scalar.cmpi .sle v392 c2048_i32_192
  let c5_i32_194 : BitVec 32 := 5#32
  let v397 : BitVec 1 := Scalar.cmpi .slt v396 c5_i32_194
  let v398 : BitVec 1 := Scalar.andi v393 v397
  let v399 : BitVec 32 := Scalar.select v398 v392 v391
  let c512_i32_195 : BitVec 32 := 512#32
  let v400 : BitVec 32 := Scalar.addi v399 c512_i32_195
  let c2048_i32_196 : BitVec 32 := 2048#32
  let v401 : BitVec 1 := Scalar.cmpi .sle v400 c2048_i32_196
  let c5_i32_198 : BitVec 32 := 5#32
  let v405 : BitVec 1 := Scalar.cmpi .slt v404 c5_i32_198
  let v406 : BitVec 1 := Scalar.andi v401 v405
  let v407 : BitVec 32 := Scalar.select v406 v400 v399
  let c256_i32_199 : BitVec 32 := 256#32
  let v408 : BitVec 32 := Scalar.addi v407 c256_i32_199
  let c2048_i32_200 : BitVec 32 := 2048#32
  let v409 : BitVec 1 := Scalar.cmpi .sle v408 c2048_i32_200
  let c5_i32_202 : BitVec 32 := 5#32
  let v413 : BitVec 1 := Scalar.cmpi .slt v412 c5_i32_202
  let v414 : BitVec 1 := Scalar.andi v409 v413
  let v415 : BitVec 32 := Scalar.select v414 v408 v407
  let c128_i32_203 : BitVec 32 := 128#32
  let v416 : BitVec 32 := Scalar.addi v415 c128_i32_203
  let c2048_i32_204 : BitVec 32 := 2048#32
  let v417 : BitVec 1 := Scalar.cmpi .sle v416 c2048_i32_204
  let c5_i32_206 : BitVec 32 := 5#32
  let v421 : BitVec 1 := Scalar.cmpi .slt v420 c5_i32_206
  let v422 : BitVec 1 := Scalar.andi v417 v421
  let v423 : BitVec 32 := Scalar.select v422 v416 v415
  let c64_i32_207 : BitVec 32 := 64#32
  let v424 : BitVec 32 := Scalar.addi v423 c64_i32_207
  let c2048_i32_208 : BitVec 32 := 2048#32
  let v425 : BitVec 1 := Scalar.cmpi .sle v424 c2048_i32_208
  let c5_i32_210 : BitVec 32 := 5#32
  let v429 : BitVec 1 := Scalar.cmpi .slt v428 c5_i32_210
  let v430 : BitVec 1 := Scalar.andi v425 v429
  let v431 : BitVec 32 := Scalar.select v430 v424 v423
  let c32_i32_211 : BitVec 32 := 32#32
  let v432 : BitVec 32 := Scalar.addi v431 c32_i32_211
  let c2048_i32_212 : BitVec 32 := 2048#32
  let v433 : BitVec 1 := Scalar.cmpi .sle v432 c2048_i32_212
  let c5_i32_214 : BitVec 32 := 5#32
  let v437 : BitVec 1 := Scalar.cmpi .slt v436 c5_i32_214
  let v438 : BitVec 1 := Scalar.andi v433 v437
  let v439 : BitVec 32 := Scalar.select v438 v432 v431
  let c16_i32_215 : BitVec 32 := 16#32
  let v440 : BitVec 32 := Scalar.addi v439 c16_i32_215
  let c1_i32_217 : BitVec 32 := 1#32
  let v442 : BitVec 32 := Scalar.subi v440 c1_i32_217
  let v443 : Index := Scalar.indexCast v442
  ![v443.toNat]

def k0_chk51 (v388 : BitVec 32) (v396 : BitVec 32) (v404 : BitVec 32) (v412 : BitVec 32) (v420 : BitVec 32) (v428 : BitVec 32) (v436 : BitVec 32) : Prop :=
  (∀ a, (k0_off56 v388 v396 v404 v412 v420 v428 v436) a + S1.size a ≤ S2048.size a)
theorem k0_off56_inb : ∀ (v388 : BitVec 32) (v396 : BitVec 32) (v404 : BitVec 32) (v412 : BitVec 32) (v420 : BitVec 32) (v428 : BitVec 32) (v436 : BitVec 32) (k0_hw51 : k0_chk51 v388 v396 v404 v412 v420 v428 v436), ∀ a, (k0_off56 v388 v396 v404 v412 v420 v428 v436) a + S1.size a ≤ S2048.size a := fun v388 v396 v404 v412 v420 v428 v436 k0_hw51 => k0_hw51

def k0_off57 (v388 : BitVec 32) (v396 : BitVec 32) (v404 : BitVec 32) (v412 : BitVec 32) (v420 : BitVec 32) (v428 : BitVec 32) (v436 : BitVec 32) (v444 : BitVec 32) : Fin 1 → Nat :=
  let c0_i32_186 : BitVec 32 := 0#32
  let c2048_i32_187 : BitVec 32 := 2048#32
  let v384 : BitVec 32 := Scalar.addi c0_i32_186 c2048_i32_187
  let c2048_i32_188 : BitVec 32 := 2048#32
  let v385 : BitVec 1 := Scalar.cmpi .sle v384 c2048_i32_188
  let c5_i32 : BitVec 32 := 5#32
  let v389 : BitVec 1 := Scalar.cmpi .slt v388 c5_i32
  let v390 : BitVec 1 := Scalar.andi v385 v389
  let c0_i32_190 : BitVec 32 := 0#32
  let v391 : BitVec 32 := Scalar.select v390 v384 c0_i32_190
  let c1024_i32_191 : BitVec 32 := 1024#32
  let v392 : BitVec 32 := Scalar.addi v391 c1024_i32_191
  let c2048_i32_192 : BitVec 32 := 2048#32
  let v393 : BitVec 1 := Scalar.cmpi .sle v392 c2048_i32_192
  let c5_i32_194 : BitVec 32 := 5#32
  let v397 : BitVec 1 := Scalar.cmpi .slt v396 c5_i32_194
  let v398 : BitVec 1 := Scalar.andi v393 v397
  let v399 : BitVec 32 := Scalar.select v398 v392 v391
  let c512_i32_195 : BitVec 32 := 512#32
  let v400 : BitVec 32 := Scalar.addi v399 c512_i32_195
  let c2048_i32_196 : BitVec 32 := 2048#32
  let v401 : BitVec 1 := Scalar.cmpi .sle v400 c2048_i32_196
  let c5_i32_198 : BitVec 32 := 5#32
  let v405 : BitVec 1 := Scalar.cmpi .slt v404 c5_i32_198
  let v406 : BitVec 1 := Scalar.andi v401 v405
  let v407 : BitVec 32 := Scalar.select v406 v400 v399
  let c256_i32_199 : BitVec 32 := 256#32
  let v408 : BitVec 32 := Scalar.addi v407 c256_i32_199
  let c2048_i32_200 : BitVec 32 := 2048#32
  let v409 : BitVec 1 := Scalar.cmpi .sle v408 c2048_i32_200
  let c5_i32_202 : BitVec 32 := 5#32
  let v413 : BitVec 1 := Scalar.cmpi .slt v412 c5_i32_202
  let v414 : BitVec 1 := Scalar.andi v409 v413
  let v415 : BitVec 32 := Scalar.select v414 v408 v407
  let c128_i32_203 : BitVec 32 := 128#32
  let v416 : BitVec 32 := Scalar.addi v415 c128_i32_203
  let c2048_i32_204 : BitVec 32 := 2048#32
  let v417 : BitVec 1 := Scalar.cmpi .sle v416 c2048_i32_204
  let c5_i32_206 : BitVec 32 := 5#32
  let v421 : BitVec 1 := Scalar.cmpi .slt v420 c5_i32_206
  let v422 : BitVec 1 := Scalar.andi v417 v421
  let v423 : BitVec 32 := Scalar.select v422 v416 v415
  let c64_i32_207 : BitVec 32 := 64#32
  let v424 : BitVec 32 := Scalar.addi v423 c64_i32_207
  let c2048_i32_208 : BitVec 32 := 2048#32
  let v425 : BitVec 1 := Scalar.cmpi .sle v424 c2048_i32_208
  let c5_i32_210 : BitVec 32 := 5#32
  let v429 : BitVec 1 := Scalar.cmpi .slt v428 c5_i32_210
  let v430 : BitVec 1 := Scalar.andi v425 v429
  let v431 : BitVec 32 := Scalar.select v430 v424 v423
  let c32_i32_211 : BitVec 32 := 32#32
  let v432 : BitVec 32 := Scalar.addi v431 c32_i32_211
  let c2048_i32_212 : BitVec 32 := 2048#32
  let v433 : BitVec 1 := Scalar.cmpi .sle v432 c2048_i32_212
  let c5_i32_214 : BitVec 32 := 5#32
  let v437 : BitVec 1 := Scalar.cmpi .slt v436 c5_i32_214
  let v438 : BitVec 1 := Scalar.andi v433 v437
  let v439 : BitVec 32 := Scalar.select v438 v432 v431
  let c16_i32_215 : BitVec 32 := 16#32
  let v440 : BitVec 32 := Scalar.addi v439 c16_i32_215
  let c2048_i32_216 : BitVec 32 := 2048#32
  let v441 : BitVec 1 := Scalar.cmpi .sle v440 c2048_i32_216
  let c5_i32_218 : BitVec 32 := 5#32
  let v445 : BitVec 1 := Scalar.cmpi .slt v444 c5_i32_218
  let v446 : BitVec 1 := Scalar.andi v441 v445
  let v447 : BitVec 32 := Scalar.select v446 v440 v439
  let c8_i32_219 : BitVec 32 := 8#32
  let v448 : BitVec 32 := Scalar.addi v447 c8_i32_219
  let c1_i32_221 : BitVec 32 := 1#32
  let v450 : BitVec 32 := Scalar.subi v448 c1_i32_221
  let v451 : Index := Scalar.indexCast v450
  ![v451.toNat]

def k0_chk52 (v388 : BitVec 32) (v396 : BitVec 32) (v404 : BitVec 32) (v412 : BitVec 32) (v420 : BitVec 32) (v428 : BitVec 32) (v436 : BitVec 32) (v444 : BitVec 32) : Prop :=
  (∀ a, (k0_off57 v388 v396 v404 v412 v420 v428 v436 v444) a + S1.size a ≤ S2048.size a)
theorem k0_off57_inb : ∀ (v388 : BitVec 32) (v396 : BitVec 32) (v404 : BitVec 32) (v412 : BitVec 32) (v420 : BitVec 32) (v428 : BitVec 32) (v436 : BitVec 32) (v444 : BitVec 32) (k0_hw52 : k0_chk52 v388 v396 v404 v412 v420 v428 v436 v444), ∀ a, (k0_off57 v388 v396 v404 v412 v420 v428 v436 v444) a + S1.size a ≤ S2048.size a := fun v388 v396 v404 v412 v420 v428 v436 v444 k0_hw52 => k0_hw52

def k0_off58 (v388 : BitVec 32) (v396 : BitVec 32) (v404 : BitVec 32) (v412 : BitVec 32) (v420 : BitVec 32) (v428 : BitVec 32) (v436 : BitVec 32) (v444 : BitVec 32) (v452 : BitVec 32) : Fin 1 → Nat :=
  let c0_i32_186 : BitVec 32 := 0#32
  let c2048_i32_187 : BitVec 32 := 2048#32
  let v384 : BitVec 32 := Scalar.addi c0_i32_186 c2048_i32_187
  let c2048_i32_188 : BitVec 32 := 2048#32
  let v385 : BitVec 1 := Scalar.cmpi .sle v384 c2048_i32_188
  let c5_i32 : BitVec 32 := 5#32
  let v389 : BitVec 1 := Scalar.cmpi .slt v388 c5_i32
  let v390 : BitVec 1 := Scalar.andi v385 v389
  let c0_i32_190 : BitVec 32 := 0#32
  let v391 : BitVec 32 := Scalar.select v390 v384 c0_i32_190
  let c1024_i32_191 : BitVec 32 := 1024#32
  let v392 : BitVec 32 := Scalar.addi v391 c1024_i32_191
  let c2048_i32_192 : BitVec 32 := 2048#32
  let v393 : BitVec 1 := Scalar.cmpi .sle v392 c2048_i32_192
  let c5_i32_194 : BitVec 32 := 5#32
  let v397 : BitVec 1 := Scalar.cmpi .slt v396 c5_i32_194
  let v398 : BitVec 1 := Scalar.andi v393 v397
  let v399 : BitVec 32 := Scalar.select v398 v392 v391
  let c512_i32_195 : BitVec 32 := 512#32
  let v400 : BitVec 32 := Scalar.addi v399 c512_i32_195
  let c2048_i32_196 : BitVec 32 := 2048#32
  let v401 : BitVec 1 := Scalar.cmpi .sle v400 c2048_i32_196
  let c5_i32_198 : BitVec 32 := 5#32
  let v405 : BitVec 1 := Scalar.cmpi .slt v404 c5_i32_198
  let v406 : BitVec 1 := Scalar.andi v401 v405
  let v407 : BitVec 32 := Scalar.select v406 v400 v399
  let c256_i32_199 : BitVec 32 := 256#32
  let v408 : BitVec 32 := Scalar.addi v407 c256_i32_199
  let c2048_i32_200 : BitVec 32 := 2048#32
  let v409 : BitVec 1 := Scalar.cmpi .sle v408 c2048_i32_200
  let c5_i32_202 : BitVec 32 := 5#32
  let v413 : BitVec 1 := Scalar.cmpi .slt v412 c5_i32_202
  let v414 : BitVec 1 := Scalar.andi v409 v413
  let v415 : BitVec 32 := Scalar.select v414 v408 v407
  let c128_i32_203 : BitVec 32 := 128#32
  let v416 : BitVec 32 := Scalar.addi v415 c128_i32_203
  let c2048_i32_204 : BitVec 32 := 2048#32
  let v417 : BitVec 1 := Scalar.cmpi .sle v416 c2048_i32_204
  let c5_i32_206 : BitVec 32 := 5#32
  let v421 : BitVec 1 := Scalar.cmpi .slt v420 c5_i32_206
  let v422 : BitVec 1 := Scalar.andi v417 v421
  let v423 : BitVec 32 := Scalar.select v422 v416 v415
  let c64_i32_207 : BitVec 32 := 64#32
  let v424 : BitVec 32 := Scalar.addi v423 c64_i32_207
  let c2048_i32_208 : BitVec 32 := 2048#32
  let v425 : BitVec 1 := Scalar.cmpi .sle v424 c2048_i32_208
  let c5_i32_210 : BitVec 32 := 5#32
  let v429 : BitVec 1 := Scalar.cmpi .slt v428 c5_i32_210
  let v430 : BitVec 1 := Scalar.andi v425 v429
  let v431 : BitVec 32 := Scalar.select v430 v424 v423
  let c32_i32_211 : BitVec 32 := 32#32
  let v432 : BitVec 32 := Scalar.addi v431 c32_i32_211
  let c2048_i32_212 : BitVec 32 := 2048#32
  let v433 : BitVec 1 := Scalar.cmpi .sle v432 c2048_i32_212
  let c5_i32_214 : BitVec 32 := 5#32
  let v437 : BitVec 1 := Scalar.cmpi .slt v436 c5_i32_214
  let v438 : BitVec 1 := Scalar.andi v433 v437
  let v439 : BitVec 32 := Scalar.select v438 v432 v431
  let c16_i32_215 : BitVec 32 := 16#32
  let v440 : BitVec 32 := Scalar.addi v439 c16_i32_215
  let c2048_i32_216 : BitVec 32 := 2048#32
  let v441 : BitVec 1 := Scalar.cmpi .sle v440 c2048_i32_216
  let c5_i32_218 : BitVec 32 := 5#32
  let v445 : BitVec 1 := Scalar.cmpi .slt v444 c5_i32_218
  let v446 : BitVec 1 := Scalar.andi v441 v445
  let v447 : BitVec 32 := Scalar.select v446 v440 v439
  let c8_i32_219 : BitVec 32 := 8#32
  let v448 : BitVec 32 := Scalar.addi v447 c8_i32_219
  let c2048_i32_220 : BitVec 32 := 2048#32
  let v449 : BitVec 1 := Scalar.cmpi .sle v448 c2048_i32_220
  let c5_i32_222 : BitVec 32 := 5#32
  let v453 : BitVec 1 := Scalar.cmpi .slt v452 c5_i32_222
  let v454 : BitVec 1 := Scalar.andi v449 v453
  let v455 : BitVec 32 := Scalar.select v454 v448 v447
  let c4_i32_223 : BitVec 32 := 4#32
  let v456 : BitVec 32 := Scalar.addi v455 c4_i32_223
  let c1_i32_225 : BitVec 32 := 1#32
  let v458 : BitVec 32 := Scalar.subi v456 c1_i32_225
  let v459 : Index := Scalar.indexCast v458
  ![v459.toNat]

def k0_chk53 (v388 : BitVec 32) (v396 : BitVec 32) (v404 : BitVec 32) (v412 : BitVec 32) (v420 : BitVec 32) (v428 : BitVec 32) (v436 : BitVec 32) (v444 : BitVec 32) (v452 : BitVec 32) : Prop :=
  (∀ a, (k0_off58 v388 v396 v404 v412 v420 v428 v436 v444 v452) a + S1.size a ≤ S2048.size a)
theorem k0_off58_inb : ∀ (v388 : BitVec 32) (v396 : BitVec 32) (v404 : BitVec 32) (v412 : BitVec 32) (v420 : BitVec 32) (v428 : BitVec 32) (v436 : BitVec 32) (v444 : BitVec 32) (v452 : BitVec 32) (k0_hw53 : k0_chk53 v388 v396 v404 v412 v420 v428 v436 v444 v452), ∀ a, (k0_off58 v388 v396 v404 v412 v420 v428 v436 v444 v452) a + S1.size a ≤ S2048.size a := fun v388 v396 v404 v412 v420 v428 v436 v444 v452 k0_hw53 => k0_hw53

def k0_off59 (v388 : BitVec 32) (v396 : BitVec 32) (v404 : BitVec 32) (v412 : BitVec 32) (v420 : BitVec 32) (v428 : BitVec 32) (v436 : BitVec 32) (v444 : BitVec 32) (v452 : BitVec 32) (v460 : BitVec 32) : Fin 1 → Nat :=
  let c0_i32_186 : BitVec 32 := 0#32
  let c2048_i32_187 : BitVec 32 := 2048#32
  let v384 : BitVec 32 := Scalar.addi c0_i32_186 c2048_i32_187
  let c2048_i32_188 : BitVec 32 := 2048#32
  let v385 : BitVec 1 := Scalar.cmpi .sle v384 c2048_i32_188
  let c5_i32 : BitVec 32 := 5#32
  let v389 : BitVec 1 := Scalar.cmpi .slt v388 c5_i32
  let v390 : BitVec 1 := Scalar.andi v385 v389
  let c0_i32_190 : BitVec 32 := 0#32
  let v391 : BitVec 32 := Scalar.select v390 v384 c0_i32_190
  let c1024_i32_191 : BitVec 32 := 1024#32
  let v392 : BitVec 32 := Scalar.addi v391 c1024_i32_191
  let c2048_i32_192 : BitVec 32 := 2048#32
  let v393 : BitVec 1 := Scalar.cmpi .sle v392 c2048_i32_192
  let c5_i32_194 : BitVec 32 := 5#32
  let v397 : BitVec 1 := Scalar.cmpi .slt v396 c5_i32_194
  let v398 : BitVec 1 := Scalar.andi v393 v397
  let v399 : BitVec 32 := Scalar.select v398 v392 v391
  let c512_i32_195 : BitVec 32 := 512#32
  let v400 : BitVec 32 := Scalar.addi v399 c512_i32_195
  let c2048_i32_196 : BitVec 32 := 2048#32
  let v401 : BitVec 1 := Scalar.cmpi .sle v400 c2048_i32_196
  let c5_i32_198 : BitVec 32 := 5#32
  let v405 : BitVec 1 := Scalar.cmpi .slt v404 c5_i32_198
  let v406 : BitVec 1 := Scalar.andi v401 v405
  let v407 : BitVec 32 := Scalar.select v406 v400 v399
  let c256_i32_199 : BitVec 32 := 256#32
  let v408 : BitVec 32 := Scalar.addi v407 c256_i32_199
  let c2048_i32_200 : BitVec 32 := 2048#32
  let v409 : BitVec 1 := Scalar.cmpi .sle v408 c2048_i32_200
  let c5_i32_202 : BitVec 32 := 5#32
  let v413 : BitVec 1 := Scalar.cmpi .slt v412 c5_i32_202
  let v414 : BitVec 1 := Scalar.andi v409 v413
  let v415 : BitVec 32 := Scalar.select v414 v408 v407
  let c128_i32_203 : BitVec 32 := 128#32
  let v416 : BitVec 32 := Scalar.addi v415 c128_i32_203
  let c2048_i32_204 : BitVec 32 := 2048#32
  let v417 : BitVec 1 := Scalar.cmpi .sle v416 c2048_i32_204
  let c5_i32_206 : BitVec 32 := 5#32
  let v421 : BitVec 1 := Scalar.cmpi .slt v420 c5_i32_206
  let v422 : BitVec 1 := Scalar.andi v417 v421
  let v423 : BitVec 32 := Scalar.select v422 v416 v415
  let c64_i32_207 : BitVec 32 := 64#32
  let v424 : BitVec 32 := Scalar.addi v423 c64_i32_207
  let c2048_i32_208 : BitVec 32 := 2048#32
  let v425 : BitVec 1 := Scalar.cmpi .sle v424 c2048_i32_208
  let c5_i32_210 : BitVec 32 := 5#32
  let v429 : BitVec 1 := Scalar.cmpi .slt v428 c5_i32_210
  let v430 : BitVec 1 := Scalar.andi v425 v429
  let v431 : BitVec 32 := Scalar.select v430 v424 v423
  let c32_i32_211 : BitVec 32 := 32#32
  let v432 : BitVec 32 := Scalar.addi v431 c32_i32_211
  let c2048_i32_212 : BitVec 32 := 2048#32
  let v433 : BitVec 1 := Scalar.cmpi .sle v432 c2048_i32_212
  let c5_i32_214 : BitVec 32 := 5#32
  let v437 : BitVec 1 := Scalar.cmpi .slt v436 c5_i32_214
  let v438 : BitVec 1 := Scalar.andi v433 v437
  let v439 : BitVec 32 := Scalar.select v438 v432 v431
  let c16_i32_215 : BitVec 32 := 16#32
  let v440 : BitVec 32 := Scalar.addi v439 c16_i32_215
  let c2048_i32_216 : BitVec 32 := 2048#32
  let v441 : BitVec 1 := Scalar.cmpi .sle v440 c2048_i32_216
  let c5_i32_218 : BitVec 32 := 5#32
  let v445 : BitVec 1 := Scalar.cmpi .slt v444 c5_i32_218
  let v446 : BitVec 1 := Scalar.andi v441 v445
  let v447 : BitVec 32 := Scalar.select v446 v440 v439
  let c8_i32_219 : BitVec 32 := 8#32
  let v448 : BitVec 32 := Scalar.addi v447 c8_i32_219
  let c2048_i32_220 : BitVec 32 := 2048#32
  let v449 : BitVec 1 := Scalar.cmpi .sle v448 c2048_i32_220
  let c5_i32_222 : BitVec 32 := 5#32
  let v453 : BitVec 1 := Scalar.cmpi .slt v452 c5_i32_222
  let v454 : BitVec 1 := Scalar.andi v449 v453
  let v455 : BitVec 32 := Scalar.select v454 v448 v447
  let c4_i32_223 : BitVec 32 := 4#32
  let v456 : BitVec 32 := Scalar.addi v455 c4_i32_223
  let c2048_i32_224 : BitVec 32 := 2048#32
  let v457 : BitVec 1 := Scalar.cmpi .sle v456 c2048_i32_224
  let c5_i32_226 : BitVec 32 := 5#32
  let v461 : BitVec 1 := Scalar.cmpi .slt v460 c5_i32_226
  let v462 : BitVec 1 := Scalar.andi v457 v461
  let v463 : BitVec 32 := Scalar.select v462 v456 v455
  let c2_i32_227 : BitVec 32 := 2#32
  let v464 : BitVec 32 := Scalar.addi v463 c2_i32_227
  let c1_i32_229 : BitVec 32 := 1#32
  let v466 : BitVec 32 := Scalar.subi v464 c1_i32_229
  let v467 : Index := Scalar.indexCast v466
  ![v467.toNat]

def k0_chk54 (v388 : BitVec 32) (v396 : BitVec 32) (v404 : BitVec 32) (v412 : BitVec 32) (v420 : BitVec 32) (v428 : BitVec 32) (v436 : BitVec 32) (v444 : BitVec 32) (v452 : BitVec 32) (v460 : BitVec 32) : Prop :=
  (∀ a, (k0_off59 v388 v396 v404 v412 v420 v428 v436 v444 v452 v460) a + S1.size a ≤ S2048.size a)
theorem k0_off59_inb : ∀ (v388 : BitVec 32) (v396 : BitVec 32) (v404 : BitVec 32) (v412 : BitVec 32) (v420 : BitVec 32) (v428 : BitVec 32) (v436 : BitVec 32) (v444 : BitVec 32) (v452 : BitVec 32) (v460 : BitVec 32) (k0_hw54 : k0_chk54 v388 v396 v404 v412 v420 v428 v436 v444 v452 v460), ∀ a, (k0_off59 v388 v396 v404 v412 v420 v428 v436 v444 v452 v460) a + S1.size a ≤ S2048.size a := fun v388 v396 v404 v412 v420 v428 v436 v444 v452 v460 k0_hw54 => k0_hw54

def k0_off60 (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) : Fin 1 → Nat :=
  let c0_i32_186 : BitVec 32 := 0#32
  let c2048_i32_187 : BitVec 32 := 2048#32
  let v384 : BitVec 32 := Scalar.addi c0_i32_186 c2048_i32_187
  let c2048_i32_188 : BitVec 32 := 2048#32
  let v385 : BitVec 1 := Scalar.cmpi .sle v384 c2048_i32_188
  let c5_i32 : BitVec 32 := 5#32
  let v389 : BitVec 1 := Scalar.cmpi .slt v388 c5_i32
  let v390 : BitVec 1 := Scalar.andi v385 v389
  let c0_i32_190 : BitVec 32 := 0#32
  let v391 : BitVec 32 := Scalar.select v390 v384 c0_i32_190
  let c1024_i32_191 : BitVec 32 := 1024#32
  let v392 : BitVec 32 := Scalar.addi v391 c1024_i32_191
  let c2048_i32_192 : BitVec 32 := 2048#32
  let v393 : BitVec 1 := Scalar.cmpi .sle v392 c2048_i32_192
  let c5_i32_194 : BitVec 32 := 5#32
  let v397 : BitVec 1 := Scalar.cmpi .slt v396 c5_i32_194
  let v398 : BitVec 1 := Scalar.andi v393 v397
  let v399 : BitVec 32 := Scalar.select v398 v392 v391
  let c512_i32_195 : BitVec 32 := 512#32
  let v400 : BitVec 32 := Scalar.addi v399 c512_i32_195
  let c2048_i32_196 : BitVec 32 := 2048#32
  let v401 : BitVec 1 := Scalar.cmpi .sle v400 c2048_i32_196
  let c5_i32_198 : BitVec 32 := 5#32
  let v405 : BitVec 1 := Scalar.cmpi .slt v404 c5_i32_198
  let v406 : BitVec 1 := Scalar.andi v401 v405
  let v407 : BitVec 32 := Scalar.select v406 v400 v399
  let c256_i32_199 : BitVec 32 := 256#32
  let v408 : BitVec 32 := Scalar.addi v407 c256_i32_199
  let c2048_i32_200 : BitVec 32 := 2048#32
  let v409 : BitVec 1 := Scalar.cmpi .sle v408 c2048_i32_200
  let c5_i32_202 : BitVec 32 := 5#32
  let v413 : BitVec 1 := Scalar.cmpi .slt v412 c5_i32_202
  let v414 : BitVec 1 := Scalar.andi v409 v413
  let v415 : BitVec 32 := Scalar.select v414 v408 v407
  let c128_i32_203 : BitVec 32 := 128#32
  let v416 : BitVec 32 := Scalar.addi v415 c128_i32_203
  let c2048_i32_204 : BitVec 32 := 2048#32
  let v417 : BitVec 1 := Scalar.cmpi .sle v416 c2048_i32_204
  let c5_i32_206 : BitVec 32 := 5#32
  let v421 : BitVec 1 := Scalar.cmpi .slt v420 c5_i32_206
  let v422 : BitVec 1 := Scalar.andi v417 v421
  let v423 : BitVec 32 := Scalar.select v422 v416 v415
  let c64_i32_207 : BitVec 32 := 64#32
  let v424 : BitVec 32 := Scalar.addi v423 c64_i32_207
  let c2048_i32_208 : BitVec 32 := 2048#32
  let v425 : BitVec 1 := Scalar.cmpi .sle v424 c2048_i32_208
  let c5_i32_210 : BitVec 32 := 5#32
  let v429 : BitVec 1 := Scalar.cmpi .slt v428 c5_i32_210
  let v430 : BitVec 1 := Scalar.andi v425 v429
  let v431 : BitVec 32 := Scalar.select v430 v424 v423
  let c32_i32_211 : BitVec 32 := 32#32
  let v432 : BitVec 32 := Scalar.addi v431 c32_i32_211
  let c2048_i32_212 : BitVec 32 := 2048#32
  let v433 : BitVec 1 := Scalar.cmpi .sle v432 c2048_i32_212
  let c5_i32_214 : BitVec 32 := 5#32
  let v437 : BitVec 1 := Scalar.cmpi .slt v436 c5_i32_214
  let v438 : BitVec 1 := Scalar.andi v433 v437
  let v439 : BitVec 32 := Scalar.select v438 v432 v431
  let c16_i32_215 : BitVec 32 := 16#32
  let v440 : BitVec 32 := Scalar.addi v439 c16_i32_215
  let c2048_i32_216 : BitVec 32 := 2048#32
  let v441 : BitVec 1 := Scalar.cmpi .sle v440 c2048_i32_216
  let c5_i32_218 : BitVec 32 := 5#32
  let v445 : BitVec 1 := Scalar.cmpi .slt v444 c5_i32_218
  let v446 : BitVec 1 := Scalar.andi v441 v445
  let v447 : BitVec 32 := Scalar.select v446 v440 v439
  let c8_i32_219 : BitVec 32 := 8#32
  let v448 : BitVec 32 := Scalar.addi v447 c8_i32_219
  let c2048_i32_220 : BitVec 32 := 2048#32
  let v449 : BitVec 1 := Scalar.cmpi .sle v448 c2048_i32_220
  let c5_i32_222 : BitVec 32 := 5#32
  let v453 : BitVec 1 := Scalar.cmpi .slt v452 c5_i32_222
  let v454 : BitVec 1 := Scalar.andi v449 v453
  let v455 : BitVec 32 := Scalar.select v454 v448 v447
  let c4_i32_223 : BitVec 32 := 4#32
  let v456 : BitVec 32 := Scalar.addi v455 c4_i32_223
  let c2048_i32_224 : BitVec 32 := 2048#32
  let v457 : BitVec 1 := Scalar.cmpi .sle v456 c2048_i32_224
  let c5_i32_226 : BitVec 32 := 5#32
  let v461 : BitVec 1 := Scalar.cmpi .slt v460 c5_i32_226
  let v462 : BitVec 1 := Scalar.andi v457 v461
  let v463 : BitVec 32 := Scalar.select v462 v456 v455
  let c2_i32_227 : BitVec 32 := 2#32
  let v464 : BitVec 32 := Scalar.addi v463 c2_i32_227
  let c2048_i32_228 : BitVec 32 := 2048#32
  let v465 : BitVec 1 := Scalar.cmpi .sle v464 c2048_i32_228
  let c5_i32_230 : BitVec 32 := 5#32
  let v469 : BitVec 1 := Scalar.cmpi .slt v468 c5_i32_230
  let v470 : BitVec 1 := Scalar.andi v465 v469
  let v471 : BitVec 32 := Scalar.select v470 v464 v463
  let c1_i32_231 : BitVec 32 := 1#32
  let v472 : BitVec 32 := Scalar.addi v471 c1_i32_231
  let c1_i32_233 : BitVec 32 := 1#32
  let v474 : BitVec 32 := Scalar.subi v472 c1_i32_233
  let v475 : Index := Scalar.indexCast v474
  ![v475.toNat]

def k0_chk55 (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) : Prop :=
  (∀ a, (k0_off60 v388 v396 v404 v412 v420 v428 v436 v444 v452 v460 v468) a + S1.size a ≤ S2048.size a)
theorem k0_off60_inb : ∀ (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (k0_hw55 : k0_chk55 v388 v396 v404 v412 v420 v428 v436 v444 v452 v460 v468), ∀ a, (k0_off60 v388 v396 v404 v412 v420 v428 v436 v444 v452 v460 v468) a + S1.size a ≤ S2048.size a := fun v388 v396 v404 v412 v420 v428 v436 v444 v452 v460 v468 k0_hw55 => k0_hw55

def k0_off61 : Fin 1 → Nat :=
  let c0_i32_235 : BitVec 32 := 0#32
  let c2048_i32_236 : BitVec 32 := 2048#32
  let v480 : BitVec 32 := Scalar.addi c0_i32_235 c2048_i32_236
  let c1_i32_238 : BitVec 32 := 1#32
  let v482 : BitVec 32 := Scalar.subi v480 c1_i32_238
  let v483 : Index := Scalar.indexCast v482
  ![v483.toNat]
def k0_off62 (v484 : BitVec 32) : Fin 1 → Nat :=
  let c0_i32_235 : BitVec 32 := 0#32
  let c2048_i32_236 : BitVec 32 := 2048#32
  let v480 : BitVec 32 := Scalar.addi c0_i32_235 c2048_i32_236
  let c2048_i32_237 : BitVec 32 := 2048#32
  let v481 : BitVec 1 := Scalar.cmpi .sle v480 c2048_i32_237
  let c6_i32 : BitVec 32 := 6#32
  let v485 : BitVec 1 := Scalar.cmpi .slt v484 c6_i32
  let v486 : BitVec 1 := Scalar.andi v481 v485
  let c0_i32_239 : BitVec 32 := 0#32
  let v487 : BitVec 32 := Scalar.select v486 v480 c0_i32_239
  let c1024_i32_240 : BitVec 32 := 1024#32
  let v488 : BitVec 32 := Scalar.addi v487 c1024_i32_240
  let c1_i32_242 : BitVec 32 := 1#32
  let v490 : BitVec 32 := Scalar.subi v488 c1_i32_242
  let v491 : Index := Scalar.indexCast v490
  ![v491.toNat]

def k0_chk56 (v484 : BitVec 32) : Prop :=
  (∀ a, (k0_off62 v484) a + S1.size a ≤ S2048.size a)
theorem k0_off62_inb : ∀ (v484 : BitVec 32) (k0_hw56 : k0_chk56 v484), ∀ a, (k0_off62 v484) a + S1.size a ≤ S2048.size a := fun v484 k0_hw56 => k0_hw56

def k0_off63 (v484 : BitVec 32) (v492 : BitVec 32) : Fin 1 → Nat :=
  let c0_i32_235 : BitVec 32 := 0#32
  let c2048_i32_236 : BitVec 32 := 2048#32
  let v480 : BitVec 32 := Scalar.addi c0_i32_235 c2048_i32_236
  let c2048_i32_237 : BitVec 32 := 2048#32
  let v481 : BitVec 1 := Scalar.cmpi .sle v480 c2048_i32_237
  let c6_i32 : BitVec 32 := 6#32
  let v485 : BitVec 1 := Scalar.cmpi .slt v484 c6_i32
  let v486 : BitVec 1 := Scalar.andi v481 v485
  let c0_i32_239 : BitVec 32 := 0#32
  let v487 : BitVec 32 := Scalar.select v486 v480 c0_i32_239
  let c1024_i32_240 : BitVec 32 := 1024#32
  let v488 : BitVec 32 := Scalar.addi v487 c1024_i32_240
  let c2048_i32_241 : BitVec 32 := 2048#32
  let v489 : BitVec 1 := Scalar.cmpi .sle v488 c2048_i32_241
  let c6_i32_243 : BitVec 32 := 6#32
  let v493 : BitVec 1 := Scalar.cmpi .slt v492 c6_i32_243
  let v494 : BitVec 1 := Scalar.andi v489 v493
  let v495 : BitVec 32 := Scalar.select v494 v488 v487
  let c512_i32_244 : BitVec 32 := 512#32
  let v496 : BitVec 32 := Scalar.addi v495 c512_i32_244
  let c1_i32_246 : BitVec 32 := 1#32
  let v498 : BitVec 32 := Scalar.subi v496 c1_i32_246
  let v499 : Index := Scalar.indexCast v498
  ![v499.toNat]

def k0_chk57 (v484 : BitVec 32) (v492 : BitVec 32) : Prop :=
  (∀ a, (k0_off63 v484 v492) a + S1.size a ≤ S2048.size a)
theorem k0_off63_inb : ∀ (v484 : BitVec 32) (v492 : BitVec 32) (k0_hw57 : k0_chk57 v484 v492), ∀ a, (k0_off63 v484 v492) a + S1.size a ≤ S2048.size a := fun v484 v492 k0_hw57 => k0_hw57

def k0_off64 (v484 : BitVec 32) (v492 : BitVec 32) (v500 : BitVec 32) : Fin 1 → Nat :=
  let c0_i32_235 : BitVec 32 := 0#32
  let c2048_i32_236 : BitVec 32 := 2048#32
  let v480 : BitVec 32 := Scalar.addi c0_i32_235 c2048_i32_236
  let c2048_i32_237 : BitVec 32 := 2048#32
  let v481 : BitVec 1 := Scalar.cmpi .sle v480 c2048_i32_237
  let c6_i32 : BitVec 32 := 6#32
  let v485 : BitVec 1 := Scalar.cmpi .slt v484 c6_i32
  let v486 : BitVec 1 := Scalar.andi v481 v485
  let c0_i32_239 : BitVec 32 := 0#32
  let v487 : BitVec 32 := Scalar.select v486 v480 c0_i32_239
  let c1024_i32_240 : BitVec 32 := 1024#32
  let v488 : BitVec 32 := Scalar.addi v487 c1024_i32_240
  let c2048_i32_241 : BitVec 32 := 2048#32
  let v489 : BitVec 1 := Scalar.cmpi .sle v488 c2048_i32_241
  let c6_i32_243 : BitVec 32 := 6#32
  let v493 : BitVec 1 := Scalar.cmpi .slt v492 c6_i32_243
  let v494 : BitVec 1 := Scalar.andi v489 v493
  let v495 : BitVec 32 := Scalar.select v494 v488 v487
  let c512_i32_244 : BitVec 32 := 512#32
  let v496 : BitVec 32 := Scalar.addi v495 c512_i32_244
  let c2048_i32_245 : BitVec 32 := 2048#32
  let v497 : BitVec 1 := Scalar.cmpi .sle v496 c2048_i32_245
  let c6_i32_247 : BitVec 32 := 6#32
  let v501 : BitVec 1 := Scalar.cmpi .slt v500 c6_i32_247
  let v502 : BitVec 1 := Scalar.andi v497 v501
  let v503 : BitVec 32 := Scalar.select v502 v496 v495
  let c256_i32_248 : BitVec 32 := 256#32
  let v504 : BitVec 32 := Scalar.addi v503 c256_i32_248
  let c1_i32_250 : BitVec 32 := 1#32
  let v506 : BitVec 32 := Scalar.subi v504 c1_i32_250
  let v507 : Index := Scalar.indexCast v506
  ![v507.toNat]

def k0_chk58 (v484 : BitVec 32) (v492 : BitVec 32) (v500 : BitVec 32) : Prop :=
  (∀ a, (k0_off64 v484 v492 v500) a + S1.size a ≤ S2048.size a)
theorem k0_off64_inb : ∀ (v484 : BitVec 32) (v492 : BitVec 32) (v500 : BitVec 32) (k0_hw58 : k0_chk58 v484 v492 v500), ∀ a, (k0_off64 v484 v492 v500) a + S1.size a ≤ S2048.size a := fun v484 v492 v500 k0_hw58 => k0_hw58

def k0_off65 (v484 : BitVec 32) (v492 : BitVec 32) (v500 : BitVec 32) (v508 : BitVec 32) : Fin 1 → Nat :=
  let c0_i32_235 : BitVec 32 := 0#32
  let c2048_i32_236 : BitVec 32 := 2048#32
  let v480 : BitVec 32 := Scalar.addi c0_i32_235 c2048_i32_236
  let c2048_i32_237 : BitVec 32 := 2048#32
  let v481 : BitVec 1 := Scalar.cmpi .sle v480 c2048_i32_237
  let c6_i32 : BitVec 32 := 6#32
  let v485 : BitVec 1 := Scalar.cmpi .slt v484 c6_i32
  let v486 : BitVec 1 := Scalar.andi v481 v485
  let c0_i32_239 : BitVec 32 := 0#32
  let v487 : BitVec 32 := Scalar.select v486 v480 c0_i32_239
  let c1024_i32_240 : BitVec 32 := 1024#32
  let v488 : BitVec 32 := Scalar.addi v487 c1024_i32_240
  let c2048_i32_241 : BitVec 32 := 2048#32
  let v489 : BitVec 1 := Scalar.cmpi .sle v488 c2048_i32_241
  let c6_i32_243 : BitVec 32 := 6#32
  let v493 : BitVec 1 := Scalar.cmpi .slt v492 c6_i32_243
  let v494 : BitVec 1 := Scalar.andi v489 v493
  let v495 : BitVec 32 := Scalar.select v494 v488 v487
  let c512_i32_244 : BitVec 32 := 512#32
  let v496 : BitVec 32 := Scalar.addi v495 c512_i32_244
  let c2048_i32_245 : BitVec 32 := 2048#32
  let v497 : BitVec 1 := Scalar.cmpi .sle v496 c2048_i32_245
  let c6_i32_247 : BitVec 32 := 6#32
  let v501 : BitVec 1 := Scalar.cmpi .slt v500 c6_i32_247
  let v502 : BitVec 1 := Scalar.andi v497 v501
  let v503 : BitVec 32 := Scalar.select v502 v496 v495
  let c256_i32_248 : BitVec 32 := 256#32
  let v504 : BitVec 32 := Scalar.addi v503 c256_i32_248
  let c2048_i32_249 : BitVec 32 := 2048#32
  let v505 : BitVec 1 := Scalar.cmpi .sle v504 c2048_i32_249
  let c6_i32_251 : BitVec 32 := 6#32
  let v509 : BitVec 1 := Scalar.cmpi .slt v508 c6_i32_251
  let v510 : BitVec 1 := Scalar.andi v505 v509
  let v511 : BitVec 32 := Scalar.select v510 v504 v503
  let c128_i32_252 : BitVec 32 := 128#32
  let v512 : BitVec 32 := Scalar.addi v511 c128_i32_252
  let c1_i32_254 : BitVec 32 := 1#32
  let v514 : BitVec 32 := Scalar.subi v512 c1_i32_254
  let v515 : Index := Scalar.indexCast v514
  ![v515.toNat]

def k0_chk59 (v484 : BitVec 32) (v492 : BitVec 32) (v500 : BitVec 32) (v508 : BitVec 32) : Prop :=
  (∀ a, (k0_off65 v484 v492 v500 v508) a + S1.size a ≤ S2048.size a)
theorem k0_off65_inb : ∀ (v484 : BitVec 32) (v492 : BitVec 32) (v500 : BitVec 32) (v508 : BitVec 32) (k0_hw59 : k0_chk59 v484 v492 v500 v508), ∀ a, (k0_off65 v484 v492 v500 v508) a + S1.size a ≤ S2048.size a := fun v484 v492 v500 v508 k0_hw59 => k0_hw59

def k0_off66 (v484 : BitVec 32) (v492 : BitVec 32) (v500 : BitVec 32) (v508 : BitVec 32) (v516 : BitVec 32) : Fin 1 → Nat :=
  let c0_i32_235 : BitVec 32 := 0#32
  let c2048_i32_236 : BitVec 32 := 2048#32
  let v480 : BitVec 32 := Scalar.addi c0_i32_235 c2048_i32_236
  let c2048_i32_237 : BitVec 32 := 2048#32
  let v481 : BitVec 1 := Scalar.cmpi .sle v480 c2048_i32_237
  let c6_i32 : BitVec 32 := 6#32
  let v485 : BitVec 1 := Scalar.cmpi .slt v484 c6_i32
  let v486 : BitVec 1 := Scalar.andi v481 v485
  let c0_i32_239 : BitVec 32 := 0#32
  let v487 : BitVec 32 := Scalar.select v486 v480 c0_i32_239
  let c1024_i32_240 : BitVec 32 := 1024#32
  let v488 : BitVec 32 := Scalar.addi v487 c1024_i32_240
  let c2048_i32_241 : BitVec 32 := 2048#32
  let v489 : BitVec 1 := Scalar.cmpi .sle v488 c2048_i32_241
  let c6_i32_243 : BitVec 32 := 6#32
  let v493 : BitVec 1 := Scalar.cmpi .slt v492 c6_i32_243
  let v494 : BitVec 1 := Scalar.andi v489 v493
  let v495 : BitVec 32 := Scalar.select v494 v488 v487
  let c512_i32_244 : BitVec 32 := 512#32
  let v496 : BitVec 32 := Scalar.addi v495 c512_i32_244
  let c2048_i32_245 : BitVec 32 := 2048#32
  let v497 : BitVec 1 := Scalar.cmpi .sle v496 c2048_i32_245
  let c6_i32_247 : BitVec 32 := 6#32
  let v501 : BitVec 1 := Scalar.cmpi .slt v500 c6_i32_247
  let v502 : BitVec 1 := Scalar.andi v497 v501
  let v503 : BitVec 32 := Scalar.select v502 v496 v495
  let c256_i32_248 : BitVec 32 := 256#32
  let v504 : BitVec 32 := Scalar.addi v503 c256_i32_248
  let c2048_i32_249 : BitVec 32 := 2048#32
  let v505 : BitVec 1 := Scalar.cmpi .sle v504 c2048_i32_249
  let c6_i32_251 : BitVec 32 := 6#32
  let v509 : BitVec 1 := Scalar.cmpi .slt v508 c6_i32_251
  let v510 : BitVec 1 := Scalar.andi v505 v509
  let v511 : BitVec 32 := Scalar.select v510 v504 v503
  let c128_i32_252 : BitVec 32 := 128#32
  let v512 : BitVec 32 := Scalar.addi v511 c128_i32_252
  let c2048_i32_253 : BitVec 32 := 2048#32
  let v513 : BitVec 1 := Scalar.cmpi .sle v512 c2048_i32_253
  let c6_i32_255 : BitVec 32 := 6#32
  let v517 : BitVec 1 := Scalar.cmpi .slt v516 c6_i32_255
  let v518 : BitVec 1 := Scalar.andi v513 v517
  let v519 : BitVec 32 := Scalar.select v518 v512 v511
  let c64_i32_256 : BitVec 32 := 64#32
  let v520 : BitVec 32 := Scalar.addi v519 c64_i32_256
  let c1_i32_258 : BitVec 32 := 1#32
  let v522 : BitVec 32 := Scalar.subi v520 c1_i32_258
  let v523 : Index := Scalar.indexCast v522
  ![v523.toNat]

def k0_chk60 (v484 : BitVec 32) (v492 : BitVec 32) (v500 : BitVec 32) (v508 : BitVec 32) (v516 : BitVec 32) : Prop :=
  (∀ a, (k0_off66 v484 v492 v500 v508 v516) a + S1.size a ≤ S2048.size a)
theorem k0_off66_inb : ∀ (v484 : BitVec 32) (v492 : BitVec 32) (v500 : BitVec 32) (v508 : BitVec 32) (v516 : BitVec 32) (k0_hw60 : k0_chk60 v484 v492 v500 v508 v516), ∀ a, (k0_off66 v484 v492 v500 v508 v516) a + S1.size a ≤ S2048.size a := fun v484 v492 v500 v508 v516 k0_hw60 => k0_hw60

def k0_off67 (v484 : BitVec 32) (v492 : BitVec 32) (v500 : BitVec 32) (v508 : BitVec 32) (v516 : BitVec 32) (v524 : BitVec 32) : Fin 1 → Nat :=
  let c0_i32_235 : BitVec 32 := 0#32
  let c2048_i32_236 : BitVec 32 := 2048#32
  let v480 : BitVec 32 := Scalar.addi c0_i32_235 c2048_i32_236
  let c2048_i32_237 : BitVec 32 := 2048#32
  let v481 : BitVec 1 := Scalar.cmpi .sle v480 c2048_i32_237
  let c6_i32 : BitVec 32 := 6#32
  let v485 : BitVec 1 := Scalar.cmpi .slt v484 c6_i32
  let v486 : BitVec 1 := Scalar.andi v481 v485
  let c0_i32_239 : BitVec 32 := 0#32
  let v487 : BitVec 32 := Scalar.select v486 v480 c0_i32_239
  let c1024_i32_240 : BitVec 32 := 1024#32
  let v488 : BitVec 32 := Scalar.addi v487 c1024_i32_240
  let c2048_i32_241 : BitVec 32 := 2048#32
  let v489 : BitVec 1 := Scalar.cmpi .sle v488 c2048_i32_241
  let c6_i32_243 : BitVec 32 := 6#32
  let v493 : BitVec 1 := Scalar.cmpi .slt v492 c6_i32_243
  let v494 : BitVec 1 := Scalar.andi v489 v493
  let v495 : BitVec 32 := Scalar.select v494 v488 v487
  let c512_i32_244 : BitVec 32 := 512#32
  let v496 : BitVec 32 := Scalar.addi v495 c512_i32_244
  let c2048_i32_245 : BitVec 32 := 2048#32
  let v497 : BitVec 1 := Scalar.cmpi .sle v496 c2048_i32_245
  let c6_i32_247 : BitVec 32 := 6#32
  let v501 : BitVec 1 := Scalar.cmpi .slt v500 c6_i32_247
  let v502 : BitVec 1 := Scalar.andi v497 v501
  let v503 : BitVec 32 := Scalar.select v502 v496 v495
  let c256_i32_248 : BitVec 32 := 256#32
  let v504 : BitVec 32 := Scalar.addi v503 c256_i32_248
  let c2048_i32_249 : BitVec 32 := 2048#32
  let v505 : BitVec 1 := Scalar.cmpi .sle v504 c2048_i32_249
  let c6_i32_251 : BitVec 32 := 6#32
  let v509 : BitVec 1 := Scalar.cmpi .slt v508 c6_i32_251
  let v510 : BitVec 1 := Scalar.andi v505 v509
  let v511 : BitVec 32 := Scalar.select v510 v504 v503
  let c128_i32_252 : BitVec 32 := 128#32
  let v512 : BitVec 32 := Scalar.addi v511 c128_i32_252
  let c2048_i32_253 : BitVec 32 := 2048#32
  let v513 : BitVec 1 := Scalar.cmpi .sle v512 c2048_i32_253
  let c6_i32_255 : BitVec 32 := 6#32
  let v517 : BitVec 1 := Scalar.cmpi .slt v516 c6_i32_255
  let v518 : BitVec 1 := Scalar.andi v513 v517
  let v519 : BitVec 32 := Scalar.select v518 v512 v511
  let c64_i32_256 : BitVec 32 := 64#32
  let v520 : BitVec 32 := Scalar.addi v519 c64_i32_256
  let c2048_i32_257 : BitVec 32 := 2048#32
  let v521 : BitVec 1 := Scalar.cmpi .sle v520 c2048_i32_257
  let c6_i32_259 : BitVec 32 := 6#32
  let v525 : BitVec 1 := Scalar.cmpi .slt v524 c6_i32_259
  let v526 : BitVec 1 := Scalar.andi v521 v525
  let v527 : BitVec 32 := Scalar.select v526 v520 v519
  let c32_i32_260 : BitVec 32 := 32#32
  let v528 : BitVec 32 := Scalar.addi v527 c32_i32_260
  let c1_i32_262 : BitVec 32 := 1#32
  let v530 : BitVec 32 := Scalar.subi v528 c1_i32_262
  let v531 : Index := Scalar.indexCast v530
  ![v531.toNat]

def k0_chk61 (v484 : BitVec 32) (v492 : BitVec 32) (v500 : BitVec 32) (v508 : BitVec 32) (v516 : BitVec 32) (v524 : BitVec 32) : Prop :=
  (∀ a, (k0_off67 v484 v492 v500 v508 v516 v524) a + S1.size a ≤ S2048.size a)
theorem k0_off67_inb : ∀ (v484 : BitVec 32) (v492 : BitVec 32) (v500 : BitVec 32) (v508 : BitVec 32) (v516 : BitVec 32) (v524 : BitVec 32) (k0_hw61 : k0_chk61 v484 v492 v500 v508 v516 v524), ∀ a, (k0_off67 v484 v492 v500 v508 v516 v524) a + S1.size a ≤ S2048.size a := fun v484 v492 v500 v508 v516 v524 k0_hw61 => k0_hw61

def k0_off68 (v484 : BitVec 32) (v492 : BitVec 32) (v500 : BitVec 32) (v508 : BitVec 32) (v516 : BitVec 32) (v524 : BitVec 32) (v532 : BitVec 32) : Fin 1 → Nat :=
  let c0_i32_235 : BitVec 32 := 0#32
  let c2048_i32_236 : BitVec 32 := 2048#32
  let v480 : BitVec 32 := Scalar.addi c0_i32_235 c2048_i32_236
  let c2048_i32_237 : BitVec 32 := 2048#32
  let v481 : BitVec 1 := Scalar.cmpi .sle v480 c2048_i32_237
  let c6_i32 : BitVec 32 := 6#32
  let v485 : BitVec 1 := Scalar.cmpi .slt v484 c6_i32
  let v486 : BitVec 1 := Scalar.andi v481 v485
  let c0_i32_239 : BitVec 32 := 0#32
  let v487 : BitVec 32 := Scalar.select v486 v480 c0_i32_239
  let c1024_i32_240 : BitVec 32 := 1024#32
  let v488 : BitVec 32 := Scalar.addi v487 c1024_i32_240
  let c2048_i32_241 : BitVec 32 := 2048#32
  let v489 : BitVec 1 := Scalar.cmpi .sle v488 c2048_i32_241
  let c6_i32_243 : BitVec 32 := 6#32
  let v493 : BitVec 1 := Scalar.cmpi .slt v492 c6_i32_243
  let v494 : BitVec 1 := Scalar.andi v489 v493
  let v495 : BitVec 32 := Scalar.select v494 v488 v487
  let c512_i32_244 : BitVec 32 := 512#32
  let v496 : BitVec 32 := Scalar.addi v495 c512_i32_244
  let c2048_i32_245 : BitVec 32 := 2048#32
  let v497 : BitVec 1 := Scalar.cmpi .sle v496 c2048_i32_245
  let c6_i32_247 : BitVec 32 := 6#32
  let v501 : BitVec 1 := Scalar.cmpi .slt v500 c6_i32_247
  let v502 : BitVec 1 := Scalar.andi v497 v501
  let v503 : BitVec 32 := Scalar.select v502 v496 v495
  let c256_i32_248 : BitVec 32 := 256#32
  let v504 : BitVec 32 := Scalar.addi v503 c256_i32_248
  let c2048_i32_249 : BitVec 32 := 2048#32
  let v505 : BitVec 1 := Scalar.cmpi .sle v504 c2048_i32_249
  let c6_i32_251 : BitVec 32 := 6#32
  let v509 : BitVec 1 := Scalar.cmpi .slt v508 c6_i32_251
  let v510 : BitVec 1 := Scalar.andi v505 v509
  let v511 : BitVec 32 := Scalar.select v510 v504 v503
  let c128_i32_252 : BitVec 32 := 128#32
  let v512 : BitVec 32 := Scalar.addi v511 c128_i32_252
  let c2048_i32_253 : BitVec 32 := 2048#32
  let v513 : BitVec 1 := Scalar.cmpi .sle v512 c2048_i32_253
  let c6_i32_255 : BitVec 32 := 6#32
  let v517 : BitVec 1 := Scalar.cmpi .slt v516 c6_i32_255
  let v518 : BitVec 1 := Scalar.andi v513 v517
  let v519 : BitVec 32 := Scalar.select v518 v512 v511
  let c64_i32_256 : BitVec 32 := 64#32
  let v520 : BitVec 32 := Scalar.addi v519 c64_i32_256
  let c2048_i32_257 : BitVec 32 := 2048#32
  let v521 : BitVec 1 := Scalar.cmpi .sle v520 c2048_i32_257
  let c6_i32_259 : BitVec 32 := 6#32
  let v525 : BitVec 1 := Scalar.cmpi .slt v524 c6_i32_259
  let v526 : BitVec 1 := Scalar.andi v521 v525
  let v527 : BitVec 32 := Scalar.select v526 v520 v519
  let c32_i32_260 : BitVec 32 := 32#32
  let v528 : BitVec 32 := Scalar.addi v527 c32_i32_260
  let c2048_i32_261 : BitVec 32 := 2048#32
  let v529 : BitVec 1 := Scalar.cmpi .sle v528 c2048_i32_261
  let c6_i32_263 : BitVec 32 := 6#32
  let v533 : BitVec 1 := Scalar.cmpi .slt v532 c6_i32_263
  let v534 : BitVec 1 := Scalar.andi v529 v533
  let v535 : BitVec 32 := Scalar.select v534 v528 v527
  let c16_i32_264 : BitVec 32 := 16#32
  let v536 : BitVec 32 := Scalar.addi v535 c16_i32_264
  let c1_i32_266 : BitVec 32 := 1#32
  let v538 : BitVec 32 := Scalar.subi v536 c1_i32_266
  let v539 : Index := Scalar.indexCast v538
  ![v539.toNat]

def k0_chk62 (v484 : BitVec 32) (v492 : BitVec 32) (v500 : BitVec 32) (v508 : BitVec 32) (v516 : BitVec 32) (v524 : BitVec 32) (v532 : BitVec 32) : Prop :=
  (∀ a, (k0_off68 v484 v492 v500 v508 v516 v524 v532) a + S1.size a ≤ S2048.size a)
theorem k0_off68_inb : ∀ (v484 : BitVec 32) (v492 : BitVec 32) (v500 : BitVec 32) (v508 : BitVec 32) (v516 : BitVec 32) (v524 : BitVec 32) (v532 : BitVec 32) (k0_hw62 : k0_chk62 v484 v492 v500 v508 v516 v524 v532), ∀ a, (k0_off68 v484 v492 v500 v508 v516 v524 v532) a + S1.size a ≤ S2048.size a := fun v484 v492 v500 v508 v516 v524 v532 k0_hw62 => k0_hw62

def k0_off69 (v484 : BitVec 32) (v492 : BitVec 32) (v500 : BitVec 32) (v508 : BitVec 32) (v516 : BitVec 32) (v524 : BitVec 32) (v532 : BitVec 32) (v540 : BitVec 32) : Fin 1 → Nat :=
  let c0_i32_235 : BitVec 32 := 0#32
  let c2048_i32_236 : BitVec 32 := 2048#32
  let v480 : BitVec 32 := Scalar.addi c0_i32_235 c2048_i32_236
  let c2048_i32_237 : BitVec 32 := 2048#32
  let v481 : BitVec 1 := Scalar.cmpi .sle v480 c2048_i32_237
  let c6_i32 : BitVec 32 := 6#32
  let v485 : BitVec 1 := Scalar.cmpi .slt v484 c6_i32
  let v486 : BitVec 1 := Scalar.andi v481 v485
  let c0_i32_239 : BitVec 32 := 0#32
  let v487 : BitVec 32 := Scalar.select v486 v480 c0_i32_239
  let c1024_i32_240 : BitVec 32 := 1024#32
  let v488 : BitVec 32 := Scalar.addi v487 c1024_i32_240
  let c2048_i32_241 : BitVec 32 := 2048#32
  let v489 : BitVec 1 := Scalar.cmpi .sle v488 c2048_i32_241
  let c6_i32_243 : BitVec 32 := 6#32
  let v493 : BitVec 1 := Scalar.cmpi .slt v492 c6_i32_243
  let v494 : BitVec 1 := Scalar.andi v489 v493
  let v495 : BitVec 32 := Scalar.select v494 v488 v487
  let c512_i32_244 : BitVec 32 := 512#32
  let v496 : BitVec 32 := Scalar.addi v495 c512_i32_244
  let c2048_i32_245 : BitVec 32 := 2048#32
  let v497 : BitVec 1 := Scalar.cmpi .sle v496 c2048_i32_245
  let c6_i32_247 : BitVec 32 := 6#32
  let v501 : BitVec 1 := Scalar.cmpi .slt v500 c6_i32_247
  let v502 : BitVec 1 := Scalar.andi v497 v501
  let v503 : BitVec 32 := Scalar.select v502 v496 v495
  let c256_i32_248 : BitVec 32 := 256#32
  let v504 : BitVec 32 := Scalar.addi v503 c256_i32_248
  let c2048_i32_249 : BitVec 32 := 2048#32
  let v505 : BitVec 1 := Scalar.cmpi .sle v504 c2048_i32_249
  let c6_i32_251 : BitVec 32 := 6#32
  let v509 : BitVec 1 := Scalar.cmpi .slt v508 c6_i32_251
  let v510 : BitVec 1 := Scalar.andi v505 v509
  let v511 : BitVec 32 := Scalar.select v510 v504 v503
  let c128_i32_252 : BitVec 32 := 128#32
  let v512 : BitVec 32 := Scalar.addi v511 c128_i32_252
  let c2048_i32_253 : BitVec 32 := 2048#32
  let v513 : BitVec 1 := Scalar.cmpi .sle v512 c2048_i32_253
  let c6_i32_255 : BitVec 32 := 6#32
  let v517 : BitVec 1 := Scalar.cmpi .slt v516 c6_i32_255
  let v518 : BitVec 1 := Scalar.andi v513 v517
  let v519 : BitVec 32 := Scalar.select v518 v512 v511
  let c64_i32_256 : BitVec 32 := 64#32
  let v520 : BitVec 32 := Scalar.addi v519 c64_i32_256
  let c2048_i32_257 : BitVec 32 := 2048#32
  let v521 : BitVec 1 := Scalar.cmpi .sle v520 c2048_i32_257
  let c6_i32_259 : BitVec 32 := 6#32
  let v525 : BitVec 1 := Scalar.cmpi .slt v524 c6_i32_259
  let v526 : BitVec 1 := Scalar.andi v521 v525
  let v527 : BitVec 32 := Scalar.select v526 v520 v519
  let c32_i32_260 : BitVec 32 := 32#32
  let v528 : BitVec 32 := Scalar.addi v527 c32_i32_260
  let c2048_i32_261 : BitVec 32 := 2048#32
  let v529 : BitVec 1 := Scalar.cmpi .sle v528 c2048_i32_261
  let c6_i32_263 : BitVec 32 := 6#32
  let v533 : BitVec 1 := Scalar.cmpi .slt v532 c6_i32_263
  let v534 : BitVec 1 := Scalar.andi v529 v533
  let v535 : BitVec 32 := Scalar.select v534 v528 v527
  let c16_i32_264 : BitVec 32 := 16#32
  let v536 : BitVec 32 := Scalar.addi v535 c16_i32_264
  let c2048_i32_265 : BitVec 32 := 2048#32
  let v537 : BitVec 1 := Scalar.cmpi .sle v536 c2048_i32_265
  let c6_i32_267 : BitVec 32 := 6#32
  let v541 : BitVec 1 := Scalar.cmpi .slt v540 c6_i32_267
  let v542 : BitVec 1 := Scalar.andi v537 v541
  let v543 : BitVec 32 := Scalar.select v542 v536 v535
  let c8_i32_268 : BitVec 32 := 8#32
  let v544 : BitVec 32 := Scalar.addi v543 c8_i32_268
  let c1_i32_270 : BitVec 32 := 1#32
  let v546 : BitVec 32 := Scalar.subi v544 c1_i32_270
  let v547 : Index := Scalar.indexCast v546
  ![v547.toNat]

def k0_chk63 (v484 : BitVec 32) (v492 : BitVec 32) (v500 : BitVec 32) (v508 : BitVec 32) (v516 : BitVec 32) (v524 : BitVec 32) (v532 : BitVec 32) (v540 : BitVec 32) : Prop :=
  (∀ a, (k0_off69 v484 v492 v500 v508 v516 v524 v532 v540) a + S1.size a ≤ S2048.size a)
theorem k0_off69_inb : ∀ (v484 : BitVec 32) (v492 : BitVec 32) (v500 : BitVec 32) (v508 : BitVec 32) (v516 : BitVec 32) (v524 : BitVec 32) (v532 : BitVec 32) (v540 : BitVec 32) (k0_hw63 : k0_chk63 v484 v492 v500 v508 v516 v524 v532 v540), ∀ a, (k0_off69 v484 v492 v500 v508 v516 v524 v532 v540) a + S1.size a ≤ S2048.size a := fun v484 v492 v500 v508 v516 v524 v532 v540 k0_hw63 => k0_hw63

def k0_off70 (v484 : BitVec 32) (v492 : BitVec 32) (v500 : BitVec 32) (v508 : BitVec 32) (v516 : BitVec 32) (v524 : BitVec 32) (v532 : BitVec 32) (v540 : BitVec 32) (v548 : BitVec 32) : Fin 1 → Nat :=
  let c0_i32_235 : BitVec 32 := 0#32
  let c2048_i32_236 : BitVec 32 := 2048#32
  let v480 : BitVec 32 := Scalar.addi c0_i32_235 c2048_i32_236
  let c2048_i32_237 : BitVec 32 := 2048#32
  let v481 : BitVec 1 := Scalar.cmpi .sle v480 c2048_i32_237
  let c6_i32 : BitVec 32 := 6#32
  let v485 : BitVec 1 := Scalar.cmpi .slt v484 c6_i32
  let v486 : BitVec 1 := Scalar.andi v481 v485
  let c0_i32_239 : BitVec 32 := 0#32
  let v487 : BitVec 32 := Scalar.select v486 v480 c0_i32_239
  let c1024_i32_240 : BitVec 32 := 1024#32
  let v488 : BitVec 32 := Scalar.addi v487 c1024_i32_240
  let c2048_i32_241 : BitVec 32 := 2048#32
  let v489 : BitVec 1 := Scalar.cmpi .sle v488 c2048_i32_241
  let c6_i32_243 : BitVec 32 := 6#32
  let v493 : BitVec 1 := Scalar.cmpi .slt v492 c6_i32_243
  let v494 : BitVec 1 := Scalar.andi v489 v493
  let v495 : BitVec 32 := Scalar.select v494 v488 v487
  let c512_i32_244 : BitVec 32 := 512#32
  let v496 : BitVec 32 := Scalar.addi v495 c512_i32_244
  let c2048_i32_245 : BitVec 32 := 2048#32
  let v497 : BitVec 1 := Scalar.cmpi .sle v496 c2048_i32_245
  let c6_i32_247 : BitVec 32 := 6#32
  let v501 : BitVec 1 := Scalar.cmpi .slt v500 c6_i32_247
  let v502 : BitVec 1 := Scalar.andi v497 v501
  let v503 : BitVec 32 := Scalar.select v502 v496 v495
  let c256_i32_248 : BitVec 32 := 256#32
  let v504 : BitVec 32 := Scalar.addi v503 c256_i32_248
  let c2048_i32_249 : BitVec 32 := 2048#32
  let v505 : BitVec 1 := Scalar.cmpi .sle v504 c2048_i32_249
  let c6_i32_251 : BitVec 32 := 6#32
  let v509 : BitVec 1 := Scalar.cmpi .slt v508 c6_i32_251
  let v510 : BitVec 1 := Scalar.andi v505 v509
  let v511 : BitVec 32 := Scalar.select v510 v504 v503
  let c128_i32_252 : BitVec 32 := 128#32
  let v512 : BitVec 32 := Scalar.addi v511 c128_i32_252
  let c2048_i32_253 : BitVec 32 := 2048#32
  let v513 : BitVec 1 := Scalar.cmpi .sle v512 c2048_i32_253
  let c6_i32_255 : BitVec 32 := 6#32
  let v517 : BitVec 1 := Scalar.cmpi .slt v516 c6_i32_255
  let v518 : BitVec 1 := Scalar.andi v513 v517
  let v519 : BitVec 32 := Scalar.select v518 v512 v511
  let c64_i32_256 : BitVec 32 := 64#32
  let v520 : BitVec 32 := Scalar.addi v519 c64_i32_256
  let c2048_i32_257 : BitVec 32 := 2048#32
  let v521 : BitVec 1 := Scalar.cmpi .sle v520 c2048_i32_257
  let c6_i32_259 : BitVec 32 := 6#32
  let v525 : BitVec 1 := Scalar.cmpi .slt v524 c6_i32_259
  let v526 : BitVec 1 := Scalar.andi v521 v525
  let v527 : BitVec 32 := Scalar.select v526 v520 v519
  let c32_i32_260 : BitVec 32 := 32#32
  let v528 : BitVec 32 := Scalar.addi v527 c32_i32_260
  let c2048_i32_261 : BitVec 32 := 2048#32
  let v529 : BitVec 1 := Scalar.cmpi .sle v528 c2048_i32_261
  let c6_i32_263 : BitVec 32 := 6#32
  let v533 : BitVec 1 := Scalar.cmpi .slt v532 c6_i32_263
  let v534 : BitVec 1 := Scalar.andi v529 v533
  let v535 : BitVec 32 := Scalar.select v534 v528 v527
  let c16_i32_264 : BitVec 32 := 16#32
  let v536 : BitVec 32 := Scalar.addi v535 c16_i32_264
  let c2048_i32_265 : BitVec 32 := 2048#32
  let v537 : BitVec 1 := Scalar.cmpi .sle v536 c2048_i32_265
  let c6_i32_267 : BitVec 32 := 6#32
  let v541 : BitVec 1 := Scalar.cmpi .slt v540 c6_i32_267
  let v542 : BitVec 1 := Scalar.andi v537 v541
  let v543 : BitVec 32 := Scalar.select v542 v536 v535
  let c8_i32_268 : BitVec 32 := 8#32
  let v544 : BitVec 32 := Scalar.addi v543 c8_i32_268
  let c2048_i32_269 : BitVec 32 := 2048#32
  let v545 : BitVec 1 := Scalar.cmpi .sle v544 c2048_i32_269
  let c6_i32_271 : BitVec 32 := 6#32
  let v549 : BitVec 1 := Scalar.cmpi .slt v548 c6_i32_271
  let v550 : BitVec 1 := Scalar.andi v545 v549
  let v551 : BitVec 32 := Scalar.select v550 v544 v543
  let c4_i32_272 : BitVec 32 := 4#32
  let v552 : BitVec 32 := Scalar.addi v551 c4_i32_272
  let c1_i32_274 : BitVec 32 := 1#32
  let v554 : BitVec 32 := Scalar.subi v552 c1_i32_274
  let v555 : Index := Scalar.indexCast v554
  ![v555.toNat]

def k0_chk64 (v484 : BitVec 32) (v492 : BitVec 32) (v500 : BitVec 32) (v508 : BitVec 32) (v516 : BitVec 32) (v524 : BitVec 32) (v532 : BitVec 32) (v540 : BitVec 32) (v548 : BitVec 32) : Prop :=
  (∀ a, (k0_off70 v484 v492 v500 v508 v516 v524 v532 v540 v548) a + S1.size a ≤ S2048.size a)
theorem k0_off70_inb : ∀ (v484 : BitVec 32) (v492 : BitVec 32) (v500 : BitVec 32) (v508 : BitVec 32) (v516 : BitVec 32) (v524 : BitVec 32) (v532 : BitVec 32) (v540 : BitVec 32) (v548 : BitVec 32) (k0_hw64 : k0_chk64 v484 v492 v500 v508 v516 v524 v532 v540 v548), ∀ a, (k0_off70 v484 v492 v500 v508 v516 v524 v532 v540 v548) a + S1.size a ≤ S2048.size a := fun v484 v492 v500 v508 v516 v524 v532 v540 v548 k0_hw64 => k0_hw64

def k0_off71 (v484 : BitVec 32) (v492 : BitVec 32) (v500 : BitVec 32) (v508 : BitVec 32) (v516 : BitVec 32) (v524 : BitVec 32) (v532 : BitVec 32) (v540 : BitVec 32) (v548 : BitVec 32) (v556 : BitVec 32) : Fin 1 → Nat :=
  let c0_i32_235 : BitVec 32 := 0#32
  let c2048_i32_236 : BitVec 32 := 2048#32
  let v480 : BitVec 32 := Scalar.addi c0_i32_235 c2048_i32_236
  let c2048_i32_237 : BitVec 32 := 2048#32
  let v481 : BitVec 1 := Scalar.cmpi .sle v480 c2048_i32_237
  let c6_i32 : BitVec 32 := 6#32
  let v485 : BitVec 1 := Scalar.cmpi .slt v484 c6_i32
  let v486 : BitVec 1 := Scalar.andi v481 v485
  let c0_i32_239 : BitVec 32 := 0#32
  let v487 : BitVec 32 := Scalar.select v486 v480 c0_i32_239
  let c1024_i32_240 : BitVec 32 := 1024#32
  let v488 : BitVec 32 := Scalar.addi v487 c1024_i32_240
  let c2048_i32_241 : BitVec 32 := 2048#32
  let v489 : BitVec 1 := Scalar.cmpi .sle v488 c2048_i32_241
  let c6_i32_243 : BitVec 32 := 6#32
  let v493 : BitVec 1 := Scalar.cmpi .slt v492 c6_i32_243
  let v494 : BitVec 1 := Scalar.andi v489 v493
  let v495 : BitVec 32 := Scalar.select v494 v488 v487
  let c512_i32_244 : BitVec 32 := 512#32
  let v496 : BitVec 32 := Scalar.addi v495 c512_i32_244
  let c2048_i32_245 : BitVec 32 := 2048#32
  let v497 : BitVec 1 := Scalar.cmpi .sle v496 c2048_i32_245
  let c6_i32_247 : BitVec 32 := 6#32
  let v501 : BitVec 1 := Scalar.cmpi .slt v500 c6_i32_247
  let v502 : BitVec 1 := Scalar.andi v497 v501
  let v503 : BitVec 32 := Scalar.select v502 v496 v495
  let c256_i32_248 : BitVec 32 := 256#32
  let v504 : BitVec 32 := Scalar.addi v503 c256_i32_248
  let c2048_i32_249 : BitVec 32 := 2048#32
  let v505 : BitVec 1 := Scalar.cmpi .sle v504 c2048_i32_249
  let c6_i32_251 : BitVec 32 := 6#32
  let v509 : BitVec 1 := Scalar.cmpi .slt v508 c6_i32_251
  let v510 : BitVec 1 := Scalar.andi v505 v509
  let v511 : BitVec 32 := Scalar.select v510 v504 v503
  let c128_i32_252 : BitVec 32 := 128#32
  let v512 : BitVec 32 := Scalar.addi v511 c128_i32_252
  let c2048_i32_253 : BitVec 32 := 2048#32
  let v513 : BitVec 1 := Scalar.cmpi .sle v512 c2048_i32_253
  let c6_i32_255 : BitVec 32 := 6#32
  let v517 : BitVec 1 := Scalar.cmpi .slt v516 c6_i32_255
  let v518 : BitVec 1 := Scalar.andi v513 v517
  let v519 : BitVec 32 := Scalar.select v518 v512 v511
  let c64_i32_256 : BitVec 32 := 64#32
  let v520 : BitVec 32 := Scalar.addi v519 c64_i32_256
  let c2048_i32_257 : BitVec 32 := 2048#32
  let v521 : BitVec 1 := Scalar.cmpi .sle v520 c2048_i32_257
  let c6_i32_259 : BitVec 32 := 6#32
  let v525 : BitVec 1 := Scalar.cmpi .slt v524 c6_i32_259
  let v526 : BitVec 1 := Scalar.andi v521 v525
  let v527 : BitVec 32 := Scalar.select v526 v520 v519
  let c32_i32_260 : BitVec 32 := 32#32
  let v528 : BitVec 32 := Scalar.addi v527 c32_i32_260
  let c2048_i32_261 : BitVec 32 := 2048#32
  let v529 : BitVec 1 := Scalar.cmpi .sle v528 c2048_i32_261
  let c6_i32_263 : BitVec 32 := 6#32
  let v533 : BitVec 1 := Scalar.cmpi .slt v532 c6_i32_263
  let v534 : BitVec 1 := Scalar.andi v529 v533
  let v535 : BitVec 32 := Scalar.select v534 v528 v527
  let c16_i32_264 : BitVec 32 := 16#32
  let v536 : BitVec 32 := Scalar.addi v535 c16_i32_264
  let c2048_i32_265 : BitVec 32 := 2048#32
  let v537 : BitVec 1 := Scalar.cmpi .sle v536 c2048_i32_265
  let c6_i32_267 : BitVec 32 := 6#32
  let v541 : BitVec 1 := Scalar.cmpi .slt v540 c6_i32_267
  let v542 : BitVec 1 := Scalar.andi v537 v541
  let v543 : BitVec 32 := Scalar.select v542 v536 v535
  let c8_i32_268 : BitVec 32 := 8#32
  let v544 : BitVec 32 := Scalar.addi v543 c8_i32_268
  let c2048_i32_269 : BitVec 32 := 2048#32
  let v545 : BitVec 1 := Scalar.cmpi .sle v544 c2048_i32_269
  let c6_i32_271 : BitVec 32 := 6#32
  let v549 : BitVec 1 := Scalar.cmpi .slt v548 c6_i32_271
  let v550 : BitVec 1 := Scalar.andi v545 v549
  let v551 : BitVec 32 := Scalar.select v550 v544 v543
  let c4_i32_272 : BitVec 32 := 4#32
  let v552 : BitVec 32 := Scalar.addi v551 c4_i32_272
  let c2048_i32_273 : BitVec 32 := 2048#32
  let v553 : BitVec 1 := Scalar.cmpi .sle v552 c2048_i32_273
  let c6_i32_275 : BitVec 32 := 6#32
  let v557 : BitVec 1 := Scalar.cmpi .slt v556 c6_i32_275
  let v558 : BitVec 1 := Scalar.andi v553 v557
  let v559 : BitVec 32 := Scalar.select v558 v552 v551
  let c2_i32_276 : BitVec 32 := 2#32
  let v560 : BitVec 32 := Scalar.addi v559 c2_i32_276
  let c1_i32_278 : BitVec 32 := 1#32
  let v562 : BitVec 32 := Scalar.subi v560 c1_i32_278
  let v563 : Index := Scalar.indexCast v562
  ![v563.toNat]

def k0_chk65 (v484 : BitVec 32) (v492 : BitVec 32) (v500 : BitVec 32) (v508 : BitVec 32) (v516 : BitVec 32) (v524 : BitVec 32) (v532 : BitVec 32) (v540 : BitVec 32) (v548 : BitVec 32) (v556 : BitVec 32) : Prop :=
  (∀ a, (k0_off71 v484 v492 v500 v508 v516 v524 v532 v540 v548 v556) a + S1.size a ≤ S2048.size a)
theorem k0_off71_inb : ∀ (v484 : BitVec 32) (v492 : BitVec 32) (v500 : BitVec 32) (v508 : BitVec 32) (v516 : BitVec 32) (v524 : BitVec 32) (v532 : BitVec 32) (v540 : BitVec 32) (v548 : BitVec 32) (v556 : BitVec 32) (k0_hw65 : k0_chk65 v484 v492 v500 v508 v516 v524 v532 v540 v548 v556), ∀ a, (k0_off71 v484 v492 v500 v508 v516 v524 v532 v540 v548 v556) a + S1.size a ≤ S2048.size a := fun v484 v492 v500 v508 v516 v524 v532 v540 v548 v556 k0_hw65 => k0_hw65

def k0_off72 (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) : Fin 1 → Nat :=
  let c0_i32_235 : BitVec 32 := 0#32
  let c2048_i32_236 : BitVec 32 := 2048#32
  let v480 : BitVec 32 := Scalar.addi c0_i32_235 c2048_i32_236
  let c2048_i32_237 : BitVec 32 := 2048#32
  let v481 : BitVec 1 := Scalar.cmpi .sle v480 c2048_i32_237
  let c6_i32 : BitVec 32 := 6#32
  let v485 : BitVec 1 := Scalar.cmpi .slt v484 c6_i32
  let v486 : BitVec 1 := Scalar.andi v481 v485
  let c0_i32_239 : BitVec 32 := 0#32
  let v487 : BitVec 32 := Scalar.select v486 v480 c0_i32_239
  let c1024_i32_240 : BitVec 32 := 1024#32
  let v488 : BitVec 32 := Scalar.addi v487 c1024_i32_240
  let c2048_i32_241 : BitVec 32 := 2048#32
  let v489 : BitVec 1 := Scalar.cmpi .sle v488 c2048_i32_241
  let c6_i32_243 : BitVec 32 := 6#32
  let v493 : BitVec 1 := Scalar.cmpi .slt v492 c6_i32_243
  let v494 : BitVec 1 := Scalar.andi v489 v493
  let v495 : BitVec 32 := Scalar.select v494 v488 v487
  let c512_i32_244 : BitVec 32 := 512#32
  let v496 : BitVec 32 := Scalar.addi v495 c512_i32_244
  let c2048_i32_245 : BitVec 32 := 2048#32
  let v497 : BitVec 1 := Scalar.cmpi .sle v496 c2048_i32_245
  let c6_i32_247 : BitVec 32 := 6#32
  let v501 : BitVec 1 := Scalar.cmpi .slt v500 c6_i32_247
  let v502 : BitVec 1 := Scalar.andi v497 v501
  let v503 : BitVec 32 := Scalar.select v502 v496 v495
  let c256_i32_248 : BitVec 32 := 256#32
  let v504 : BitVec 32 := Scalar.addi v503 c256_i32_248
  let c2048_i32_249 : BitVec 32 := 2048#32
  let v505 : BitVec 1 := Scalar.cmpi .sle v504 c2048_i32_249
  let c6_i32_251 : BitVec 32 := 6#32
  let v509 : BitVec 1 := Scalar.cmpi .slt v508 c6_i32_251
  let v510 : BitVec 1 := Scalar.andi v505 v509
  let v511 : BitVec 32 := Scalar.select v510 v504 v503
  let c128_i32_252 : BitVec 32 := 128#32
  let v512 : BitVec 32 := Scalar.addi v511 c128_i32_252
  let c2048_i32_253 : BitVec 32 := 2048#32
  let v513 : BitVec 1 := Scalar.cmpi .sle v512 c2048_i32_253
  let c6_i32_255 : BitVec 32 := 6#32
  let v517 : BitVec 1 := Scalar.cmpi .slt v516 c6_i32_255
  let v518 : BitVec 1 := Scalar.andi v513 v517
  let v519 : BitVec 32 := Scalar.select v518 v512 v511
  let c64_i32_256 : BitVec 32 := 64#32
  let v520 : BitVec 32 := Scalar.addi v519 c64_i32_256
  let c2048_i32_257 : BitVec 32 := 2048#32
  let v521 : BitVec 1 := Scalar.cmpi .sle v520 c2048_i32_257
  let c6_i32_259 : BitVec 32 := 6#32
  let v525 : BitVec 1 := Scalar.cmpi .slt v524 c6_i32_259
  let v526 : BitVec 1 := Scalar.andi v521 v525
  let v527 : BitVec 32 := Scalar.select v526 v520 v519
  let c32_i32_260 : BitVec 32 := 32#32
  let v528 : BitVec 32 := Scalar.addi v527 c32_i32_260
  let c2048_i32_261 : BitVec 32 := 2048#32
  let v529 : BitVec 1 := Scalar.cmpi .sle v528 c2048_i32_261
  let c6_i32_263 : BitVec 32 := 6#32
  let v533 : BitVec 1 := Scalar.cmpi .slt v532 c6_i32_263
  let v534 : BitVec 1 := Scalar.andi v529 v533
  let v535 : BitVec 32 := Scalar.select v534 v528 v527
  let c16_i32_264 : BitVec 32 := 16#32
  let v536 : BitVec 32 := Scalar.addi v535 c16_i32_264
  let c2048_i32_265 : BitVec 32 := 2048#32
  let v537 : BitVec 1 := Scalar.cmpi .sle v536 c2048_i32_265
  let c6_i32_267 : BitVec 32 := 6#32
  let v541 : BitVec 1 := Scalar.cmpi .slt v540 c6_i32_267
  let v542 : BitVec 1 := Scalar.andi v537 v541
  let v543 : BitVec 32 := Scalar.select v542 v536 v535
  let c8_i32_268 : BitVec 32 := 8#32
  let v544 : BitVec 32 := Scalar.addi v543 c8_i32_268
  let c2048_i32_269 : BitVec 32 := 2048#32
  let v545 : BitVec 1 := Scalar.cmpi .sle v544 c2048_i32_269
  let c6_i32_271 : BitVec 32 := 6#32
  let v549 : BitVec 1 := Scalar.cmpi .slt v548 c6_i32_271
  let v550 : BitVec 1 := Scalar.andi v545 v549
  let v551 : BitVec 32 := Scalar.select v550 v544 v543
  let c4_i32_272 : BitVec 32 := 4#32
  let v552 : BitVec 32 := Scalar.addi v551 c4_i32_272
  let c2048_i32_273 : BitVec 32 := 2048#32
  let v553 : BitVec 1 := Scalar.cmpi .sle v552 c2048_i32_273
  let c6_i32_275 : BitVec 32 := 6#32
  let v557 : BitVec 1 := Scalar.cmpi .slt v556 c6_i32_275
  let v558 : BitVec 1 := Scalar.andi v553 v557
  let v559 : BitVec 32 := Scalar.select v558 v552 v551
  let c2_i32_276 : BitVec 32 := 2#32
  let v560 : BitVec 32 := Scalar.addi v559 c2_i32_276
  let c2048_i32_277 : BitVec 32 := 2048#32
  let v561 : BitVec 1 := Scalar.cmpi .sle v560 c2048_i32_277
  let c6_i32_279 : BitVec 32 := 6#32
  let v565 : BitVec 1 := Scalar.cmpi .slt v564 c6_i32_279
  let v566 : BitVec 1 := Scalar.andi v561 v565
  let v567 : BitVec 32 := Scalar.select v566 v560 v559
  let c1_i32_280 : BitVec 32 := 1#32
  let v568 : BitVec 32 := Scalar.addi v567 c1_i32_280
  let c1_i32_282 : BitVec 32 := 1#32
  let v570 : BitVec 32 := Scalar.subi v568 c1_i32_282
  let v571 : Index := Scalar.indexCast v570
  ![v571.toNat]

def k0_chk66 (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) : Prop :=
  (∀ a, (k0_off72 v484 v492 v500 v508 v516 v524 v532 v540 v548 v556 v564) a + S1.size a ≤ S2048.size a)
theorem k0_off72_inb : ∀ (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (k0_hw66 : k0_chk66 v484 v492 v500 v508 v516 v524 v532 v540 v548 v556 v564), ∀ a, (k0_off72 v484 v492 v500 v508 v516 v524 v532 v540 v548 v556 v564) a + S1.size a ≤ S2048.size a := fun v484 v492 v500 v508 v516 v524 v532 v540 v548 v556 v564 k0_hw66 => k0_hw66

def k0_off73 : Fin 1 → Nat :=
  let c0_i32_284 : BitVec 32 := 0#32
  let c2048_i32_285 : BitVec 32 := 2048#32
  let v576 : BitVec 32 := Scalar.addi c0_i32_284 c2048_i32_285
  let c1_i32_287 : BitVec 32 := 1#32
  let v578 : BitVec 32 := Scalar.subi v576 c1_i32_287
  let v579 : Index := Scalar.indexCast v578
  ![v579.toNat]
def k0_off74 (v580 : BitVec 32) : Fin 1 → Nat :=
  let c0_i32_284 : BitVec 32 := 0#32
  let c2048_i32_285 : BitVec 32 := 2048#32
  let v576 : BitVec 32 := Scalar.addi c0_i32_284 c2048_i32_285
  let c2048_i32_286 : BitVec 32 := 2048#32
  let v577 : BitVec 1 := Scalar.cmpi .sle v576 c2048_i32_286
  let c7_i32 : BitVec 32 := 7#32
  let v581 : BitVec 1 := Scalar.cmpi .slt v580 c7_i32
  let v582 : BitVec 1 := Scalar.andi v577 v581
  let c0_i32_288 : BitVec 32 := 0#32
  let v583 : BitVec 32 := Scalar.select v582 v576 c0_i32_288
  let c1024_i32_289 : BitVec 32 := 1024#32
  let v584 : BitVec 32 := Scalar.addi v583 c1024_i32_289
  let c1_i32_291 : BitVec 32 := 1#32
  let v586 : BitVec 32 := Scalar.subi v584 c1_i32_291
  let v587 : Index := Scalar.indexCast v586
  ![v587.toNat]

def k0_chk67 (v580 : BitVec 32) : Prop :=
  (∀ a, (k0_off74 v580) a + S1.size a ≤ S2048.size a)
theorem k0_off74_inb : ∀ (v580 : BitVec 32) (k0_hw67 : k0_chk67 v580), ∀ a, (k0_off74 v580) a + S1.size a ≤ S2048.size a := fun v580 k0_hw67 => k0_hw67

def k0_off75 (v580 : BitVec 32) (v588 : BitVec 32) : Fin 1 → Nat :=
  let c0_i32_284 : BitVec 32 := 0#32
  let c2048_i32_285 : BitVec 32 := 2048#32
  let v576 : BitVec 32 := Scalar.addi c0_i32_284 c2048_i32_285
  let c2048_i32_286 : BitVec 32 := 2048#32
  let v577 : BitVec 1 := Scalar.cmpi .sle v576 c2048_i32_286
  let c7_i32 : BitVec 32 := 7#32
  let v581 : BitVec 1 := Scalar.cmpi .slt v580 c7_i32
  let v582 : BitVec 1 := Scalar.andi v577 v581
  let c0_i32_288 : BitVec 32 := 0#32
  let v583 : BitVec 32 := Scalar.select v582 v576 c0_i32_288
  let c1024_i32_289 : BitVec 32 := 1024#32
  let v584 : BitVec 32 := Scalar.addi v583 c1024_i32_289
  let c2048_i32_290 : BitVec 32 := 2048#32
  let v585 : BitVec 1 := Scalar.cmpi .sle v584 c2048_i32_290
  let c7_i32_292 : BitVec 32 := 7#32
  let v589 : BitVec 1 := Scalar.cmpi .slt v588 c7_i32_292
  let v590 : BitVec 1 := Scalar.andi v585 v589
  let v591 : BitVec 32 := Scalar.select v590 v584 v583
  let c512_i32_293 : BitVec 32 := 512#32
  let v592 : BitVec 32 := Scalar.addi v591 c512_i32_293
  let c1_i32_295 : BitVec 32 := 1#32
  let v594 : BitVec 32 := Scalar.subi v592 c1_i32_295
  let v595 : Index := Scalar.indexCast v594
  ![v595.toNat]

def k0_chk68 (v580 : BitVec 32) (v588 : BitVec 32) : Prop :=
  (∀ a, (k0_off75 v580 v588) a + S1.size a ≤ S2048.size a)
theorem k0_off75_inb : ∀ (v580 : BitVec 32) (v588 : BitVec 32) (k0_hw68 : k0_chk68 v580 v588), ∀ a, (k0_off75 v580 v588) a + S1.size a ≤ S2048.size a := fun v580 v588 k0_hw68 => k0_hw68

def k0_off76 (v580 : BitVec 32) (v588 : BitVec 32) (v596 : BitVec 32) : Fin 1 → Nat :=
  let c0_i32_284 : BitVec 32 := 0#32
  let c2048_i32_285 : BitVec 32 := 2048#32
  let v576 : BitVec 32 := Scalar.addi c0_i32_284 c2048_i32_285
  let c2048_i32_286 : BitVec 32 := 2048#32
  let v577 : BitVec 1 := Scalar.cmpi .sle v576 c2048_i32_286
  let c7_i32 : BitVec 32 := 7#32
  let v581 : BitVec 1 := Scalar.cmpi .slt v580 c7_i32
  let v582 : BitVec 1 := Scalar.andi v577 v581
  let c0_i32_288 : BitVec 32 := 0#32
  let v583 : BitVec 32 := Scalar.select v582 v576 c0_i32_288
  let c1024_i32_289 : BitVec 32 := 1024#32
  let v584 : BitVec 32 := Scalar.addi v583 c1024_i32_289
  let c2048_i32_290 : BitVec 32 := 2048#32
  let v585 : BitVec 1 := Scalar.cmpi .sle v584 c2048_i32_290
  let c7_i32_292 : BitVec 32 := 7#32
  let v589 : BitVec 1 := Scalar.cmpi .slt v588 c7_i32_292
  let v590 : BitVec 1 := Scalar.andi v585 v589
  let v591 : BitVec 32 := Scalar.select v590 v584 v583
  let c512_i32_293 : BitVec 32 := 512#32
  let v592 : BitVec 32 := Scalar.addi v591 c512_i32_293
  let c2048_i32_294 : BitVec 32 := 2048#32
  let v593 : BitVec 1 := Scalar.cmpi .sle v592 c2048_i32_294
  let c7_i32_296 : BitVec 32 := 7#32
  let v597 : BitVec 1 := Scalar.cmpi .slt v596 c7_i32_296
  let v598 : BitVec 1 := Scalar.andi v593 v597
  let v599 : BitVec 32 := Scalar.select v598 v592 v591
  let c256_i32_297 : BitVec 32 := 256#32
  let v600 : BitVec 32 := Scalar.addi v599 c256_i32_297
  let c1_i32_299 : BitVec 32 := 1#32
  let v602 : BitVec 32 := Scalar.subi v600 c1_i32_299
  let v603 : Index := Scalar.indexCast v602
  ![v603.toNat]

def k0_chk69 (v580 : BitVec 32) (v588 : BitVec 32) (v596 : BitVec 32) : Prop :=
  (∀ a, (k0_off76 v580 v588 v596) a + S1.size a ≤ S2048.size a)
theorem k0_off76_inb : ∀ (v580 : BitVec 32) (v588 : BitVec 32) (v596 : BitVec 32) (k0_hw69 : k0_chk69 v580 v588 v596), ∀ a, (k0_off76 v580 v588 v596) a + S1.size a ≤ S2048.size a := fun v580 v588 v596 k0_hw69 => k0_hw69

def k0_off77 (v580 : BitVec 32) (v588 : BitVec 32) (v596 : BitVec 32) (v604 : BitVec 32) : Fin 1 → Nat :=
  let c0_i32_284 : BitVec 32 := 0#32
  let c2048_i32_285 : BitVec 32 := 2048#32
  let v576 : BitVec 32 := Scalar.addi c0_i32_284 c2048_i32_285
  let c2048_i32_286 : BitVec 32 := 2048#32
  let v577 : BitVec 1 := Scalar.cmpi .sle v576 c2048_i32_286
  let c7_i32 : BitVec 32 := 7#32
  let v581 : BitVec 1 := Scalar.cmpi .slt v580 c7_i32
  let v582 : BitVec 1 := Scalar.andi v577 v581
  let c0_i32_288 : BitVec 32 := 0#32
  let v583 : BitVec 32 := Scalar.select v582 v576 c0_i32_288
  let c1024_i32_289 : BitVec 32 := 1024#32
  let v584 : BitVec 32 := Scalar.addi v583 c1024_i32_289
  let c2048_i32_290 : BitVec 32 := 2048#32
  let v585 : BitVec 1 := Scalar.cmpi .sle v584 c2048_i32_290
  let c7_i32_292 : BitVec 32 := 7#32
  let v589 : BitVec 1 := Scalar.cmpi .slt v588 c7_i32_292
  let v590 : BitVec 1 := Scalar.andi v585 v589
  let v591 : BitVec 32 := Scalar.select v590 v584 v583
  let c512_i32_293 : BitVec 32 := 512#32
  let v592 : BitVec 32 := Scalar.addi v591 c512_i32_293
  let c2048_i32_294 : BitVec 32 := 2048#32
  let v593 : BitVec 1 := Scalar.cmpi .sle v592 c2048_i32_294
  let c7_i32_296 : BitVec 32 := 7#32
  let v597 : BitVec 1 := Scalar.cmpi .slt v596 c7_i32_296
  let v598 : BitVec 1 := Scalar.andi v593 v597
  let v599 : BitVec 32 := Scalar.select v598 v592 v591
  let c256_i32_297 : BitVec 32 := 256#32
  let v600 : BitVec 32 := Scalar.addi v599 c256_i32_297
  let c2048_i32_298 : BitVec 32 := 2048#32
  let v601 : BitVec 1 := Scalar.cmpi .sle v600 c2048_i32_298
  let c7_i32_300 : BitVec 32 := 7#32
  let v605 : BitVec 1 := Scalar.cmpi .slt v604 c7_i32_300
  let v606 : BitVec 1 := Scalar.andi v601 v605
  let v607 : BitVec 32 := Scalar.select v606 v600 v599
  let c128_i32_301 : BitVec 32 := 128#32
  let v608 : BitVec 32 := Scalar.addi v607 c128_i32_301
  let c1_i32_303 : BitVec 32 := 1#32
  let v610 : BitVec 32 := Scalar.subi v608 c1_i32_303
  let v611 : Index := Scalar.indexCast v610
  ![v611.toNat]

def k0_chk70 (v580 : BitVec 32) (v588 : BitVec 32) (v596 : BitVec 32) (v604 : BitVec 32) : Prop :=
  (∀ a, (k0_off77 v580 v588 v596 v604) a + S1.size a ≤ S2048.size a)
theorem k0_off77_inb : ∀ (v580 : BitVec 32) (v588 : BitVec 32) (v596 : BitVec 32) (v604 : BitVec 32) (k0_hw70 : k0_chk70 v580 v588 v596 v604), ∀ a, (k0_off77 v580 v588 v596 v604) a + S1.size a ≤ S2048.size a := fun v580 v588 v596 v604 k0_hw70 => k0_hw70

def k0_off78 (v580 : BitVec 32) (v588 : BitVec 32) (v596 : BitVec 32) (v604 : BitVec 32) (v612 : BitVec 32) : Fin 1 → Nat :=
  let c0_i32_284 : BitVec 32 := 0#32
  let c2048_i32_285 : BitVec 32 := 2048#32
  let v576 : BitVec 32 := Scalar.addi c0_i32_284 c2048_i32_285
  let c2048_i32_286 : BitVec 32 := 2048#32
  let v577 : BitVec 1 := Scalar.cmpi .sle v576 c2048_i32_286
  let c7_i32 : BitVec 32 := 7#32
  let v581 : BitVec 1 := Scalar.cmpi .slt v580 c7_i32
  let v582 : BitVec 1 := Scalar.andi v577 v581
  let c0_i32_288 : BitVec 32 := 0#32
  let v583 : BitVec 32 := Scalar.select v582 v576 c0_i32_288
  let c1024_i32_289 : BitVec 32 := 1024#32
  let v584 : BitVec 32 := Scalar.addi v583 c1024_i32_289
  let c2048_i32_290 : BitVec 32 := 2048#32
  let v585 : BitVec 1 := Scalar.cmpi .sle v584 c2048_i32_290
  let c7_i32_292 : BitVec 32 := 7#32
  let v589 : BitVec 1 := Scalar.cmpi .slt v588 c7_i32_292
  let v590 : BitVec 1 := Scalar.andi v585 v589
  let v591 : BitVec 32 := Scalar.select v590 v584 v583
  let c512_i32_293 : BitVec 32 := 512#32
  let v592 : BitVec 32 := Scalar.addi v591 c512_i32_293
  let c2048_i32_294 : BitVec 32 := 2048#32
  let v593 : BitVec 1 := Scalar.cmpi .sle v592 c2048_i32_294
  let c7_i32_296 : BitVec 32 := 7#32
  let v597 : BitVec 1 := Scalar.cmpi .slt v596 c7_i32_296
  let v598 : BitVec 1 := Scalar.andi v593 v597
  let v599 : BitVec 32 := Scalar.select v598 v592 v591
  let c256_i32_297 : BitVec 32 := 256#32
  let v600 : BitVec 32 := Scalar.addi v599 c256_i32_297
  let c2048_i32_298 : BitVec 32 := 2048#32
  let v601 : BitVec 1 := Scalar.cmpi .sle v600 c2048_i32_298
  let c7_i32_300 : BitVec 32 := 7#32
  let v605 : BitVec 1 := Scalar.cmpi .slt v604 c7_i32_300
  let v606 : BitVec 1 := Scalar.andi v601 v605
  let v607 : BitVec 32 := Scalar.select v606 v600 v599
  let c128_i32_301 : BitVec 32 := 128#32
  let v608 : BitVec 32 := Scalar.addi v607 c128_i32_301
  let c2048_i32_302 : BitVec 32 := 2048#32
  let v609 : BitVec 1 := Scalar.cmpi .sle v608 c2048_i32_302
  let c7_i32_304 : BitVec 32 := 7#32
  let v613 : BitVec 1 := Scalar.cmpi .slt v612 c7_i32_304
  let v614 : BitVec 1 := Scalar.andi v609 v613
  let v615 : BitVec 32 := Scalar.select v614 v608 v607
  let c64_i32_305 : BitVec 32 := 64#32
  let v616 : BitVec 32 := Scalar.addi v615 c64_i32_305
  let c1_i32_307 : BitVec 32 := 1#32
  let v618 : BitVec 32 := Scalar.subi v616 c1_i32_307
  let v619 : Index := Scalar.indexCast v618
  ![v619.toNat]

def k0_chk71 (v580 : BitVec 32) (v588 : BitVec 32) (v596 : BitVec 32) (v604 : BitVec 32) (v612 : BitVec 32) : Prop :=
  (∀ a, (k0_off78 v580 v588 v596 v604 v612) a + S1.size a ≤ S2048.size a)
theorem k0_off78_inb : ∀ (v580 : BitVec 32) (v588 : BitVec 32) (v596 : BitVec 32) (v604 : BitVec 32) (v612 : BitVec 32) (k0_hw71 : k0_chk71 v580 v588 v596 v604 v612), ∀ a, (k0_off78 v580 v588 v596 v604 v612) a + S1.size a ≤ S2048.size a := fun v580 v588 v596 v604 v612 k0_hw71 => k0_hw71

def k0_off79 (v580 : BitVec 32) (v588 : BitVec 32) (v596 : BitVec 32) (v604 : BitVec 32) (v612 : BitVec 32) (v620 : BitVec 32) : Fin 1 → Nat :=
  let c0_i32_284 : BitVec 32 := 0#32
  let c2048_i32_285 : BitVec 32 := 2048#32
  let v576 : BitVec 32 := Scalar.addi c0_i32_284 c2048_i32_285
  let c2048_i32_286 : BitVec 32 := 2048#32
  let v577 : BitVec 1 := Scalar.cmpi .sle v576 c2048_i32_286
  let c7_i32 : BitVec 32 := 7#32
  let v581 : BitVec 1 := Scalar.cmpi .slt v580 c7_i32
  let v582 : BitVec 1 := Scalar.andi v577 v581
  let c0_i32_288 : BitVec 32 := 0#32
  let v583 : BitVec 32 := Scalar.select v582 v576 c0_i32_288
  let c1024_i32_289 : BitVec 32 := 1024#32
  let v584 : BitVec 32 := Scalar.addi v583 c1024_i32_289
  let c2048_i32_290 : BitVec 32 := 2048#32
  let v585 : BitVec 1 := Scalar.cmpi .sle v584 c2048_i32_290
  let c7_i32_292 : BitVec 32 := 7#32
  let v589 : BitVec 1 := Scalar.cmpi .slt v588 c7_i32_292
  let v590 : BitVec 1 := Scalar.andi v585 v589
  let v591 : BitVec 32 := Scalar.select v590 v584 v583
  let c512_i32_293 : BitVec 32 := 512#32
  let v592 : BitVec 32 := Scalar.addi v591 c512_i32_293
  let c2048_i32_294 : BitVec 32 := 2048#32
  let v593 : BitVec 1 := Scalar.cmpi .sle v592 c2048_i32_294
  let c7_i32_296 : BitVec 32 := 7#32
  let v597 : BitVec 1 := Scalar.cmpi .slt v596 c7_i32_296
  let v598 : BitVec 1 := Scalar.andi v593 v597
  let v599 : BitVec 32 := Scalar.select v598 v592 v591
  let c256_i32_297 : BitVec 32 := 256#32
  let v600 : BitVec 32 := Scalar.addi v599 c256_i32_297
  let c2048_i32_298 : BitVec 32 := 2048#32
  let v601 : BitVec 1 := Scalar.cmpi .sle v600 c2048_i32_298
  let c7_i32_300 : BitVec 32 := 7#32
  let v605 : BitVec 1 := Scalar.cmpi .slt v604 c7_i32_300
  let v606 : BitVec 1 := Scalar.andi v601 v605
  let v607 : BitVec 32 := Scalar.select v606 v600 v599
  let c128_i32_301 : BitVec 32 := 128#32
  let v608 : BitVec 32 := Scalar.addi v607 c128_i32_301
  let c2048_i32_302 : BitVec 32 := 2048#32
  let v609 : BitVec 1 := Scalar.cmpi .sle v608 c2048_i32_302
  let c7_i32_304 : BitVec 32 := 7#32
  let v613 : BitVec 1 := Scalar.cmpi .slt v612 c7_i32_304
  let v614 : BitVec 1 := Scalar.andi v609 v613
  let v615 : BitVec 32 := Scalar.select v614 v608 v607
  let c64_i32_305 : BitVec 32 := 64#32
  let v616 : BitVec 32 := Scalar.addi v615 c64_i32_305
  let c2048_i32_306 : BitVec 32 := 2048#32
  let v617 : BitVec 1 := Scalar.cmpi .sle v616 c2048_i32_306
  let c7_i32_308 : BitVec 32 := 7#32
  let v621 : BitVec 1 := Scalar.cmpi .slt v620 c7_i32_308
  let v622 : BitVec 1 := Scalar.andi v617 v621
  let v623 : BitVec 32 := Scalar.select v622 v616 v615
  let c32_i32_309 : BitVec 32 := 32#32
  let v624 : BitVec 32 := Scalar.addi v623 c32_i32_309
  let c1_i32_311 : BitVec 32 := 1#32
  let v626 : BitVec 32 := Scalar.subi v624 c1_i32_311
  let v627 : Index := Scalar.indexCast v626
  ![v627.toNat]

def k0_chk72 (v580 : BitVec 32) (v588 : BitVec 32) (v596 : BitVec 32) (v604 : BitVec 32) (v612 : BitVec 32) (v620 : BitVec 32) : Prop :=
  (∀ a, (k0_off79 v580 v588 v596 v604 v612 v620) a + S1.size a ≤ S2048.size a)
theorem k0_off79_inb : ∀ (v580 : BitVec 32) (v588 : BitVec 32) (v596 : BitVec 32) (v604 : BitVec 32) (v612 : BitVec 32) (v620 : BitVec 32) (k0_hw72 : k0_chk72 v580 v588 v596 v604 v612 v620), ∀ a, (k0_off79 v580 v588 v596 v604 v612 v620) a + S1.size a ≤ S2048.size a := fun v580 v588 v596 v604 v612 v620 k0_hw72 => k0_hw72

def k0_off80 (v580 : BitVec 32) (v588 : BitVec 32) (v596 : BitVec 32) (v604 : BitVec 32) (v612 : BitVec 32) (v620 : BitVec 32) (v628 : BitVec 32) : Fin 1 → Nat :=
  let c0_i32_284 : BitVec 32 := 0#32
  let c2048_i32_285 : BitVec 32 := 2048#32
  let v576 : BitVec 32 := Scalar.addi c0_i32_284 c2048_i32_285
  let c2048_i32_286 : BitVec 32 := 2048#32
  let v577 : BitVec 1 := Scalar.cmpi .sle v576 c2048_i32_286
  let c7_i32 : BitVec 32 := 7#32
  let v581 : BitVec 1 := Scalar.cmpi .slt v580 c7_i32
  let v582 : BitVec 1 := Scalar.andi v577 v581
  let c0_i32_288 : BitVec 32 := 0#32
  let v583 : BitVec 32 := Scalar.select v582 v576 c0_i32_288
  let c1024_i32_289 : BitVec 32 := 1024#32
  let v584 : BitVec 32 := Scalar.addi v583 c1024_i32_289
  let c2048_i32_290 : BitVec 32 := 2048#32
  let v585 : BitVec 1 := Scalar.cmpi .sle v584 c2048_i32_290
  let c7_i32_292 : BitVec 32 := 7#32
  let v589 : BitVec 1 := Scalar.cmpi .slt v588 c7_i32_292
  let v590 : BitVec 1 := Scalar.andi v585 v589
  let v591 : BitVec 32 := Scalar.select v590 v584 v583
  let c512_i32_293 : BitVec 32 := 512#32
  let v592 : BitVec 32 := Scalar.addi v591 c512_i32_293
  let c2048_i32_294 : BitVec 32 := 2048#32
  let v593 : BitVec 1 := Scalar.cmpi .sle v592 c2048_i32_294
  let c7_i32_296 : BitVec 32 := 7#32
  let v597 : BitVec 1 := Scalar.cmpi .slt v596 c7_i32_296
  let v598 : BitVec 1 := Scalar.andi v593 v597
  let v599 : BitVec 32 := Scalar.select v598 v592 v591
  let c256_i32_297 : BitVec 32 := 256#32
  let v600 : BitVec 32 := Scalar.addi v599 c256_i32_297
  let c2048_i32_298 : BitVec 32 := 2048#32
  let v601 : BitVec 1 := Scalar.cmpi .sle v600 c2048_i32_298
  let c7_i32_300 : BitVec 32 := 7#32
  let v605 : BitVec 1 := Scalar.cmpi .slt v604 c7_i32_300
  let v606 : BitVec 1 := Scalar.andi v601 v605
  let v607 : BitVec 32 := Scalar.select v606 v600 v599
  let c128_i32_301 : BitVec 32 := 128#32
  let v608 : BitVec 32 := Scalar.addi v607 c128_i32_301
  let c2048_i32_302 : BitVec 32 := 2048#32
  let v609 : BitVec 1 := Scalar.cmpi .sle v608 c2048_i32_302
  let c7_i32_304 : BitVec 32 := 7#32
  let v613 : BitVec 1 := Scalar.cmpi .slt v612 c7_i32_304
  let v614 : BitVec 1 := Scalar.andi v609 v613
  let v615 : BitVec 32 := Scalar.select v614 v608 v607
  let c64_i32_305 : BitVec 32 := 64#32
  let v616 : BitVec 32 := Scalar.addi v615 c64_i32_305
  let c2048_i32_306 : BitVec 32 := 2048#32
  let v617 : BitVec 1 := Scalar.cmpi .sle v616 c2048_i32_306
  let c7_i32_308 : BitVec 32 := 7#32
  let v621 : BitVec 1 := Scalar.cmpi .slt v620 c7_i32_308
  let v622 : BitVec 1 := Scalar.andi v617 v621
  let v623 : BitVec 32 := Scalar.select v622 v616 v615
  let c32_i32_309 : BitVec 32 := 32#32
  let v624 : BitVec 32 := Scalar.addi v623 c32_i32_309
  let c2048_i32_310 : BitVec 32 := 2048#32
  let v625 : BitVec 1 := Scalar.cmpi .sle v624 c2048_i32_310
  let c7_i32_312 : BitVec 32 := 7#32
  let v629 : BitVec 1 := Scalar.cmpi .slt v628 c7_i32_312
  let v630 : BitVec 1 := Scalar.andi v625 v629
  let v631 : BitVec 32 := Scalar.select v630 v624 v623
  let c16_i32_313 : BitVec 32 := 16#32
  let v632 : BitVec 32 := Scalar.addi v631 c16_i32_313
  let c1_i32_315 : BitVec 32 := 1#32
  let v634 : BitVec 32 := Scalar.subi v632 c1_i32_315
  let v635 : Index := Scalar.indexCast v634
  ![v635.toNat]

def k0_chk73 (v580 : BitVec 32) (v588 : BitVec 32) (v596 : BitVec 32) (v604 : BitVec 32) (v612 : BitVec 32) (v620 : BitVec 32) (v628 : BitVec 32) : Prop :=
  (∀ a, (k0_off80 v580 v588 v596 v604 v612 v620 v628) a + S1.size a ≤ S2048.size a)
theorem k0_off80_inb : ∀ (v580 : BitVec 32) (v588 : BitVec 32) (v596 : BitVec 32) (v604 : BitVec 32) (v612 : BitVec 32) (v620 : BitVec 32) (v628 : BitVec 32) (k0_hw73 : k0_chk73 v580 v588 v596 v604 v612 v620 v628), ∀ a, (k0_off80 v580 v588 v596 v604 v612 v620 v628) a + S1.size a ≤ S2048.size a := fun v580 v588 v596 v604 v612 v620 v628 k0_hw73 => k0_hw73

def k0_off81 (v580 : BitVec 32) (v588 : BitVec 32) (v596 : BitVec 32) (v604 : BitVec 32) (v612 : BitVec 32) (v620 : BitVec 32) (v628 : BitVec 32) (v636 : BitVec 32) : Fin 1 → Nat :=
  let c0_i32_284 : BitVec 32 := 0#32
  let c2048_i32_285 : BitVec 32 := 2048#32
  let v576 : BitVec 32 := Scalar.addi c0_i32_284 c2048_i32_285
  let c2048_i32_286 : BitVec 32 := 2048#32
  let v577 : BitVec 1 := Scalar.cmpi .sle v576 c2048_i32_286
  let c7_i32 : BitVec 32 := 7#32
  let v581 : BitVec 1 := Scalar.cmpi .slt v580 c7_i32
  let v582 : BitVec 1 := Scalar.andi v577 v581
  let c0_i32_288 : BitVec 32 := 0#32
  let v583 : BitVec 32 := Scalar.select v582 v576 c0_i32_288
  let c1024_i32_289 : BitVec 32 := 1024#32
  let v584 : BitVec 32 := Scalar.addi v583 c1024_i32_289
  let c2048_i32_290 : BitVec 32 := 2048#32
  let v585 : BitVec 1 := Scalar.cmpi .sle v584 c2048_i32_290
  let c7_i32_292 : BitVec 32 := 7#32
  let v589 : BitVec 1 := Scalar.cmpi .slt v588 c7_i32_292
  let v590 : BitVec 1 := Scalar.andi v585 v589
  let v591 : BitVec 32 := Scalar.select v590 v584 v583
  let c512_i32_293 : BitVec 32 := 512#32
  let v592 : BitVec 32 := Scalar.addi v591 c512_i32_293
  let c2048_i32_294 : BitVec 32 := 2048#32
  let v593 : BitVec 1 := Scalar.cmpi .sle v592 c2048_i32_294
  let c7_i32_296 : BitVec 32 := 7#32
  let v597 : BitVec 1 := Scalar.cmpi .slt v596 c7_i32_296
  let v598 : BitVec 1 := Scalar.andi v593 v597
  let v599 : BitVec 32 := Scalar.select v598 v592 v591
  let c256_i32_297 : BitVec 32 := 256#32
  let v600 : BitVec 32 := Scalar.addi v599 c256_i32_297
  let c2048_i32_298 : BitVec 32 := 2048#32
  let v601 : BitVec 1 := Scalar.cmpi .sle v600 c2048_i32_298
  let c7_i32_300 : BitVec 32 := 7#32
  let v605 : BitVec 1 := Scalar.cmpi .slt v604 c7_i32_300
  let v606 : BitVec 1 := Scalar.andi v601 v605
  let v607 : BitVec 32 := Scalar.select v606 v600 v599
  let c128_i32_301 : BitVec 32 := 128#32
  let v608 : BitVec 32 := Scalar.addi v607 c128_i32_301
  let c2048_i32_302 : BitVec 32 := 2048#32
  let v609 : BitVec 1 := Scalar.cmpi .sle v608 c2048_i32_302
  let c7_i32_304 : BitVec 32 := 7#32
  let v613 : BitVec 1 := Scalar.cmpi .slt v612 c7_i32_304
  let v614 : BitVec 1 := Scalar.andi v609 v613
  let v615 : BitVec 32 := Scalar.select v614 v608 v607
  let c64_i32_305 : BitVec 32 := 64#32
  let v616 : BitVec 32 := Scalar.addi v615 c64_i32_305
  let c2048_i32_306 : BitVec 32 := 2048#32
  let v617 : BitVec 1 := Scalar.cmpi .sle v616 c2048_i32_306
  let c7_i32_308 : BitVec 32 := 7#32
  let v621 : BitVec 1 := Scalar.cmpi .slt v620 c7_i32_308
  let v622 : BitVec 1 := Scalar.andi v617 v621
  let v623 : BitVec 32 := Scalar.select v622 v616 v615
  let c32_i32_309 : BitVec 32 := 32#32
  let v624 : BitVec 32 := Scalar.addi v623 c32_i32_309
  let c2048_i32_310 : BitVec 32 := 2048#32
  let v625 : BitVec 1 := Scalar.cmpi .sle v624 c2048_i32_310
  let c7_i32_312 : BitVec 32 := 7#32
  let v629 : BitVec 1 := Scalar.cmpi .slt v628 c7_i32_312
  let v630 : BitVec 1 := Scalar.andi v625 v629
  let v631 : BitVec 32 := Scalar.select v630 v624 v623
  let c16_i32_313 : BitVec 32 := 16#32
  let v632 : BitVec 32 := Scalar.addi v631 c16_i32_313
  let c2048_i32_314 : BitVec 32 := 2048#32
  let v633 : BitVec 1 := Scalar.cmpi .sle v632 c2048_i32_314
  let c7_i32_316 : BitVec 32 := 7#32
  let v637 : BitVec 1 := Scalar.cmpi .slt v636 c7_i32_316
  let v638 : BitVec 1 := Scalar.andi v633 v637
  let v639 : BitVec 32 := Scalar.select v638 v632 v631
  let c8_i32_317 : BitVec 32 := 8#32
  let v640 : BitVec 32 := Scalar.addi v639 c8_i32_317
  let c1_i32_319 : BitVec 32 := 1#32
  let v642 : BitVec 32 := Scalar.subi v640 c1_i32_319
  let v643 : Index := Scalar.indexCast v642
  ![v643.toNat]

def k0_chk74 (v580 : BitVec 32) (v588 : BitVec 32) (v596 : BitVec 32) (v604 : BitVec 32) (v612 : BitVec 32) (v620 : BitVec 32) (v628 : BitVec 32) (v636 : BitVec 32) : Prop :=
  (∀ a, (k0_off81 v580 v588 v596 v604 v612 v620 v628 v636) a + S1.size a ≤ S2048.size a)
theorem k0_off81_inb : ∀ (v580 : BitVec 32) (v588 : BitVec 32) (v596 : BitVec 32) (v604 : BitVec 32) (v612 : BitVec 32) (v620 : BitVec 32) (v628 : BitVec 32) (v636 : BitVec 32) (k0_hw74 : k0_chk74 v580 v588 v596 v604 v612 v620 v628 v636), ∀ a, (k0_off81 v580 v588 v596 v604 v612 v620 v628 v636) a + S1.size a ≤ S2048.size a := fun v580 v588 v596 v604 v612 v620 v628 v636 k0_hw74 => k0_hw74

def k0_off82 (v580 : BitVec 32) (v588 : BitVec 32) (v596 : BitVec 32) (v604 : BitVec 32) (v612 : BitVec 32) (v620 : BitVec 32) (v628 : BitVec 32) (v636 : BitVec 32) (v644 : BitVec 32) : Fin 1 → Nat :=
  let c0_i32_284 : BitVec 32 := 0#32
  let c2048_i32_285 : BitVec 32 := 2048#32
  let v576 : BitVec 32 := Scalar.addi c0_i32_284 c2048_i32_285
  let c2048_i32_286 : BitVec 32 := 2048#32
  let v577 : BitVec 1 := Scalar.cmpi .sle v576 c2048_i32_286
  let c7_i32 : BitVec 32 := 7#32
  let v581 : BitVec 1 := Scalar.cmpi .slt v580 c7_i32
  let v582 : BitVec 1 := Scalar.andi v577 v581
  let c0_i32_288 : BitVec 32 := 0#32
  let v583 : BitVec 32 := Scalar.select v582 v576 c0_i32_288
  let c1024_i32_289 : BitVec 32 := 1024#32
  let v584 : BitVec 32 := Scalar.addi v583 c1024_i32_289
  let c2048_i32_290 : BitVec 32 := 2048#32
  let v585 : BitVec 1 := Scalar.cmpi .sle v584 c2048_i32_290
  let c7_i32_292 : BitVec 32 := 7#32
  let v589 : BitVec 1 := Scalar.cmpi .slt v588 c7_i32_292
  let v590 : BitVec 1 := Scalar.andi v585 v589
  let v591 : BitVec 32 := Scalar.select v590 v584 v583
  let c512_i32_293 : BitVec 32 := 512#32
  let v592 : BitVec 32 := Scalar.addi v591 c512_i32_293
  let c2048_i32_294 : BitVec 32 := 2048#32
  let v593 : BitVec 1 := Scalar.cmpi .sle v592 c2048_i32_294
  let c7_i32_296 : BitVec 32 := 7#32
  let v597 : BitVec 1 := Scalar.cmpi .slt v596 c7_i32_296
  let v598 : BitVec 1 := Scalar.andi v593 v597
  let v599 : BitVec 32 := Scalar.select v598 v592 v591
  let c256_i32_297 : BitVec 32 := 256#32
  let v600 : BitVec 32 := Scalar.addi v599 c256_i32_297
  let c2048_i32_298 : BitVec 32 := 2048#32
  let v601 : BitVec 1 := Scalar.cmpi .sle v600 c2048_i32_298
  let c7_i32_300 : BitVec 32 := 7#32
  let v605 : BitVec 1 := Scalar.cmpi .slt v604 c7_i32_300
  let v606 : BitVec 1 := Scalar.andi v601 v605
  let v607 : BitVec 32 := Scalar.select v606 v600 v599
  let c128_i32_301 : BitVec 32 := 128#32
  let v608 : BitVec 32 := Scalar.addi v607 c128_i32_301
  let c2048_i32_302 : BitVec 32 := 2048#32
  let v609 : BitVec 1 := Scalar.cmpi .sle v608 c2048_i32_302
  let c7_i32_304 : BitVec 32 := 7#32
  let v613 : BitVec 1 := Scalar.cmpi .slt v612 c7_i32_304
  let v614 : BitVec 1 := Scalar.andi v609 v613
  let v615 : BitVec 32 := Scalar.select v614 v608 v607
  let c64_i32_305 : BitVec 32 := 64#32
  let v616 : BitVec 32 := Scalar.addi v615 c64_i32_305
  let c2048_i32_306 : BitVec 32 := 2048#32
  let v617 : BitVec 1 := Scalar.cmpi .sle v616 c2048_i32_306
  let c7_i32_308 : BitVec 32 := 7#32
  let v621 : BitVec 1 := Scalar.cmpi .slt v620 c7_i32_308
  let v622 : BitVec 1 := Scalar.andi v617 v621
  let v623 : BitVec 32 := Scalar.select v622 v616 v615
  let c32_i32_309 : BitVec 32 := 32#32
  let v624 : BitVec 32 := Scalar.addi v623 c32_i32_309
  let c2048_i32_310 : BitVec 32 := 2048#32
  let v625 : BitVec 1 := Scalar.cmpi .sle v624 c2048_i32_310
  let c7_i32_312 : BitVec 32 := 7#32
  let v629 : BitVec 1 := Scalar.cmpi .slt v628 c7_i32_312
  let v630 : BitVec 1 := Scalar.andi v625 v629
  let v631 : BitVec 32 := Scalar.select v630 v624 v623
  let c16_i32_313 : BitVec 32 := 16#32
  let v632 : BitVec 32 := Scalar.addi v631 c16_i32_313
  let c2048_i32_314 : BitVec 32 := 2048#32
  let v633 : BitVec 1 := Scalar.cmpi .sle v632 c2048_i32_314
  let c7_i32_316 : BitVec 32 := 7#32
  let v637 : BitVec 1 := Scalar.cmpi .slt v636 c7_i32_316
  let v638 : BitVec 1 := Scalar.andi v633 v637
  let v639 : BitVec 32 := Scalar.select v638 v632 v631
  let c8_i32_317 : BitVec 32 := 8#32
  let v640 : BitVec 32 := Scalar.addi v639 c8_i32_317
  let c2048_i32_318 : BitVec 32 := 2048#32
  let v641 : BitVec 1 := Scalar.cmpi .sle v640 c2048_i32_318
  let c7_i32_320 : BitVec 32 := 7#32
  let v645 : BitVec 1 := Scalar.cmpi .slt v644 c7_i32_320
  let v646 : BitVec 1 := Scalar.andi v641 v645
  let v647 : BitVec 32 := Scalar.select v646 v640 v639
  let c4_i32_321 : BitVec 32 := 4#32
  let v648 : BitVec 32 := Scalar.addi v647 c4_i32_321
  let c1_i32_323 : BitVec 32 := 1#32
  let v650 : BitVec 32 := Scalar.subi v648 c1_i32_323
  let v651 : Index := Scalar.indexCast v650
  ![v651.toNat]

def k0_chk75 (v580 : BitVec 32) (v588 : BitVec 32) (v596 : BitVec 32) (v604 : BitVec 32) (v612 : BitVec 32) (v620 : BitVec 32) (v628 : BitVec 32) (v636 : BitVec 32) (v644 : BitVec 32) : Prop :=
  (∀ a, (k0_off82 v580 v588 v596 v604 v612 v620 v628 v636 v644) a + S1.size a ≤ S2048.size a)
theorem k0_off82_inb : ∀ (v580 : BitVec 32) (v588 : BitVec 32) (v596 : BitVec 32) (v604 : BitVec 32) (v612 : BitVec 32) (v620 : BitVec 32) (v628 : BitVec 32) (v636 : BitVec 32) (v644 : BitVec 32) (k0_hw75 : k0_chk75 v580 v588 v596 v604 v612 v620 v628 v636 v644), ∀ a, (k0_off82 v580 v588 v596 v604 v612 v620 v628 v636 v644) a + S1.size a ≤ S2048.size a := fun v580 v588 v596 v604 v612 v620 v628 v636 v644 k0_hw75 => k0_hw75

def k0_off83 (v580 : BitVec 32) (v588 : BitVec 32) (v596 : BitVec 32) (v604 : BitVec 32) (v612 : BitVec 32) (v620 : BitVec 32) (v628 : BitVec 32) (v636 : BitVec 32) (v644 : BitVec 32) (v652 : BitVec 32) : Fin 1 → Nat :=
  let c0_i32_284 : BitVec 32 := 0#32
  let c2048_i32_285 : BitVec 32 := 2048#32
  let v576 : BitVec 32 := Scalar.addi c0_i32_284 c2048_i32_285
  let c2048_i32_286 : BitVec 32 := 2048#32
  let v577 : BitVec 1 := Scalar.cmpi .sle v576 c2048_i32_286
  let c7_i32 : BitVec 32 := 7#32
  let v581 : BitVec 1 := Scalar.cmpi .slt v580 c7_i32
  let v582 : BitVec 1 := Scalar.andi v577 v581
  let c0_i32_288 : BitVec 32 := 0#32
  let v583 : BitVec 32 := Scalar.select v582 v576 c0_i32_288
  let c1024_i32_289 : BitVec 32 := 1024#32
  let v584 : BitVec 32 := Scalar.addi v583 c1024_i32_289
  let c2048_i32_290 : BitVec 32 := 2048#32
  let v585 : BitVec 1 := Scalar.cmpi .sle v584 c2048_i32_290
  let c7_i32_292 : BitVec 32 := 7#32
  let v589 : BitVec 1 := Scalar.cmpi .slt v588 c7_i32_292
  let v590 : BitVec 1 := Scalar.andi v585 v589
  let v591 : BitVec 32 := Scalar.select v590 v584 v583
  let c512_i32_293 : BitVec 32 := 512#32
  let v592 : BitVec 32 := Scalar.addi v591 c512_i32_293
  let c2048_i32_294 : BitVec 32 := 2048#32
  let v593 : BitVec 1 := Scalar.cmpi .sle v592 c2048_i32_294
  let c7_i32_296 : BitVec 32 := 7#32
  let v597 : BitVec 1 := Scalar.cmpi .slt v596 c7_i32_296
  let v598 : BitVec 1 := Scalar.andi v593 v597
  let v599 : BitVec 32 := Scalar.select v598 v592 v591
  let c256_i32_297 : BitVec 32 := 256#32
  let v600 : BitVec 32 := Scalar.addi v599 c256_i32_297
  let c2048_i32_298 : BitVec 32 := 2048#32
  let v601 : BitVec 1 := Scalar.cmpi .sle v600 c2048_i32_298
  let c7_i32_300 : BitVec 32 := 7#32
  let v605 : BitVec 1 := Scalar.cmpi .slt v604 c7_i32_300
  let v606 : BitVec 1 := Scalar.andi v601 v605
  let v607 : BitVec 32 := Scalar.select v606 v600 v599
  let c128_i32_301 : BitVec 32 := 128#32
  let v608 : BitVec 32 := Scalar.addi v607 c128_i32_301
  let c2048_i32_302 : BitVec 32 := 2048#32
  let v609 : BitVec 1 := Scalar.cmpi .sle v608 c2048_i32_302
  let c7_i32_304 : BitVec 32 := 7#32
  let v613 : BitVec 1 := Scalar.cmpi .slt v612 c7_i32_304
  let v614 : BitVec 1 := Scalar.andi v609 v613
  let v615 : BitVec 32 := Scalar.select v614 v608 v607
  let c64_i32_305 : BitVec 32 := 64#32
  let v616 : BitVec 32 := Scalar.addi v615 c64_i32_305
  let c2048_i32_306 : BitVec 32 := 2048#32
  let v617 : BitVec 1 := Scalar.cmpi .sle v616 c2048_i32_306
  let c7_i32_308 : BitVec 32 := 7#32
  let v621 : BitVec 1 := Scalar.cmpi .slt v620 c7_i32_308
  let v622 : BitVec 1 := Scalar.andi v617 v621
  let v623 : BitVec 32 := Scalar.select v622 v616 v615
  let c32_i32_309 : BitVec 32 := 32#32
  let v624 : BitVec 32 := Scalar.addi v623 c32_i32_309
  let c2048_i32_310 : BitVec 32 := 2048#32
  let v625 : BitVec 1 := Scalar.cmpi .sle v624 c2048_i32_310
  let c7_i32_312 : BitVec 32 := 7#32
  let v629 : BitVec 1 := Scalar.cmpi .slt v628 c7_i32_312
  let v630 : BitVec 1 := Scalar.andi v625 v629
  let v631 : BitVec 32 := Scalar.select v630 v624 v623
  let c16_i32_313 : BitVec 32 := 16#32
  let v632 : BitVec 32 := Scalar.addi v631 c16_i32_313
  let c2048_i32_314 : BitVec 32 := 2048#32
  let v633 : BitVec 1 := Scalar.cmpi .sle v632 c2048_i32_314
  let c7_i32_316 : BitVec 32 := 7#32
  let v637 : BitVec 1 := Scalar.cmpi .slt v636 c7_i32_316
  let v638 : BitVec 1 := Scalar.andi v633 v637
  let v639 : BitVec 32 := Scalar.select v638 v632 v631
  let c8_i32_317 : BitVec 32 := 8#32
  let v640 : BitVec 32 := Scalar.addi v639 c8_i32_317
  let c2048_i32_318 : BitVec 32 := 2048#32
  let v641 : BitVec 1 := Scalar.cmpi .sle v640 c2048_i32_318
  let c7_i32_320 : BitVec 32 := 7#32
  let v645 : BitVec 1 := Scalar.cmpi .slt v644 c7_i32_320
  let v646 : BitVec 1 := Scalar.andi v641 v645
  let v647 : BitVec 32 := Scalar.select v646 v640 v639
  let c4_i32_321 : BitVec 32 := 4#32
  let v648 : BitVec 32 := Scalar.addi v647 c4_i32_321
  let c2048_i32_322 : BitVec 32 := 2048#32
  let v649 : BitVec 1 := Scalar.cmpi .sle v648 c2048_i32_322
  let c7_i32_324 : BitVec 32 := 7#32
  let v653 : BitVec 1 := Scalar.cmpi .slt v652 c7_i32_324
  let v654 : BitVec 1 := Scalar.andi v649 v653
  let v655 : BitVec 32 := Scalar.select v654 v648 v647
  let c2_i32_325 : BitVec 32 := 2#32
  let v656 : BitVec 32 := Scalar.addi v655 c2_i32_325
  let c1_i32_327 : BitVec 32 := 1#32
  let v658 : BitVec 32 := Scalar.subi v656 c1_i32_327
  let v659 : Index := Scalar.indexCast v658
  ![v659.toNat]

def k0_chk76 (v580 : BitVec 32) (v588 : BitVec 32) (v596 : BitVec 32) (v604 : BitVec 32) (v612 : BitVec 32) (v620 : BitVec 32) (v628 : BitVec 32) (v636 : BitVec 32) (v644 : BitVec 32) (v652 : BitVec 32) : Prop :=
  (∀ a, (k0_off83 v580 v588 v596 v604 v612 v620 v628 v636 v644 v652) a + S1.size a ≤ S2048.size a)
theorem k0_off83_inb : ∀ (v580 : BitVec 32) (v588 : BitVec 32) (v596 : BitVec 32) (v604 : BitVec 32) (v612 : BitVec 32) (v620 : BitVec 32) (v628 : BitVec 32) (v636 : BitVec 32) (v644 : BitVec 32) (v652 : BitVec 32) (k0_hw76 : k0_chk76 v580 v588 v596 v604 v612 v620 v628 v636 v644 v652), ∀ a, (k0_off83 v580 v588 v596 v604 v612 v620 v628 v636 v644 v652) a + S1.size a ≤ S2048.size a := fun v580 v588 v596 v604 v612 v620 v628 v636 v644 v652 k0_hw76 => k0_hw76

def k0_off84 (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) : Fin 1 → Nat :=
  let c0_i32_284 : BitVec 32 := 0#32
  let c2048_i32_285 : BitVec 32 := 2048#32
  let v576 : BitVec 32 := Scalar.addi c0_i32_284 c2048_i32_285
  let c2048_i32_286 : BitVec 32 := 2048#32
  let v577 : BitVec 1 := Scalar.cmpi .sle v576 c2048_i32_286
  let c7_i32 : BitVec 32 := 7#32
  let v581 : BitVec 1 := Scalar.cmpi .slt v580 c7_i32
  let v582 : BitVec 1 := Scalar.andi v577 v581
  let c0_i32_288 : BitVec 32 := 0#32
  let v583 : BitVec 32 := Scalar.select v582 v576 c0_i32_288
  let c1024_i32_289 : BitVec 32 := 1024#32
  let v584 : BitVec 32 := Scalar.addi v583 c1024_i32_289
  let c2048_i32_290 : BitVec 32 := 2048#32
  let v585 : BitVec 1 := Scalar.cmpi .sle v584 c2048_i32_290
  let c7_i32_292 : BitVec 32 := 7#32
  let v589 : BitVec 1 := Scalar.cmpi .slt v588 c7_i32_292
  let v590 : BitVec 1 := Scalar.andi v585 v589
  let v591 : BitVec 32 := Scalar.select v590 v584 v583
  let c512_i32_293 : BitVec 32 := 512#32
  let v592 : BitVec 32 := Scalar.addi v591 c512_i32_293
  let c2048_i32_294 : BitVec 32 := 2048#32
  let v593 : BitVec 1 := Scalar.cmpi .sle v592 c2048_i32_294
  let c7_i32_296 : BitVec 32 := 7#32
  let v597 : BitVec 1 := Scalar.cmpi .slt v596 c7_i32_296
  let v598 : BitVec 1 := Scalar.andi v593 v597
  let v599 : BitVec 32 := Scalar.select v598 v592 v591
  let c256_i32_297 : BitVec 32 := 256#32
  let v600 : BitVec 32 := Scalar.addi v599 c256_i32_297
  let c2048_i32_298 : BitVec 32 := 2048#32
  let v601 : BitVec 1 := Scalar.cmpi .sle v600 c2048_i32_298
  let c7_i32_300 : BitVec 32 := 7#32
  let v605 : BitVec 1 := Scalar.cmpi .slt v604 c7_i32_300
  let v606 : BitVec 1 := Scalar.andi v601 v605
  let v607 : BitVec 32 := Scalar.select v606 v600 v599
  let c128_i32_301 : BitVec 32 := 128#32
  let v608 : BitVec 32 := Scalar.addi v607 c128_i32_301
  let c2048_i32_302 : BitVec 32 := 2048#32
  let v609 : BitVec 1 := Scalar.cmpi .sle v608 c2048_i32_302
  let c7_i32_304 : BitVec 32 := 7#32
  let v613 : BitVec 1 := Scalar.cmpi .slt v612 c7_i32_304
  let v614 : BitVec 1 := Scalar.andi v609 v613
  let v615 : BitVec 32 := Scalar.select v614 v608 v607
  let c64_i32_305 : BitVec 32 := 64#32
  let v616 : BitVec 32 := Scalar.addi v615 c64_i32_305
  let c2048_i32_306 : BitVec 32 := 2048#32
  let v617 : BitVec 1 := Scalar.cmpi .sle v616 c2048_i32_306
  let c7_i32_308 : BitVec 32 := 7#32
  let v621 : BitVec 1 := Scalar.cmpi .slt v620 c7_i32_308
  let v622 : BitVec 1 := Scalar.andi v617 v621
  let v623 : BitVec 32 := Scalar.select v622 v616 v615
  let c32_i32_309 : BitVec 32 := 32#32
  let v624 : BitVec 32 := Scalar.addi v623 c32_i32_309
  let c2048_i32_310 : BitVec 32 := 2048#32
  let v625 : BitVec 1 := Scalar.cmpi .sle v624 c2048_i32_310
  let c7_i32_312 : BitVec 32 := 7#32
  let v629 : BitVec 1 := Scalar.cmpi .slt v628 c7_i32_312
  let v630 : BitVec 1 := Scalar.andi v625 v629
  let v631 : BitVec 32 := Scalar.select v630 v624 v623
  let c16_i32_313 : BitVec 32 := 16#32
  let v632 : BitVec 32 := Scalar.addi v631 c16_i32_313
  let c2048_i32_314 : BitVec 32 := 2048#32
  let v633 : BitVec 1 := Scalar.cmpi .sle v632 c2048_i32_314
  let c7_i32_316 : BitVec 32 := 7#32
  let v637 : BitVec 1 := Scalar.cmpi .slt v636 c7_i32_316
  let v638 : BitVec 1 := Scalar.andi v633 v637
  let v639 : BitVec 32 := Scalar.select v638 v632 v631
  let c8_i32_317 : BitVec 32 := 8#32
  let v640 : BitVec 32 := Scalar.addi v639 c8_i32_317
  let c2048_i32_318 : BitVec 32 := 2048#32
  let v641 : BitVec 1 := Scalar.cmpi .sle v640 c2048_i32_318
  let c7_i32_320 : BitVec 32 := 7#32
  let v645 : BitVec 1 := Scalar.cmpi .slt v644 c7_i32_320
  let v646 : BitVec 1 := Scalar.andi v641 v645
  let v647 : BitVec 32 := Scalar.select v646 v640 v639
  let c4_i32_321 : BitVec 32 := 4#32
  let v648 : BitVec 32 := Scalar.addi v647 c4_i32_321
  let c2048_i32_322 : BitVec 32 := 2048#32
  let v649 : BitVec 1 := Scalar.cmpi .sle v648 c2048_i32_322
  let c7_i32_324 : BitVec 32 := 7#32
  let v653 : BitVec 1 := Scalar.cmpi .slt v652 c7_i32_324
  let v654 : BitVec 1 := Scalar.andi v649 v653
  let v655 : BitVec 32 := Scalar.select v654 v648 v647
  let c2_i32_325 : BitVec 32 := 2#32
  let v656 : BitVec 32 := Scalar.addi v655 c2_i32_325
  let c2048_i32_326 : BitVec 32 := 2048#32
  let v657 : BitVec 1 := Scalar.cmpi .sle v656 c2048_i32_326
  let c7_i32_328 : BitVec 32 := 7#32
  let v661 : BitVec 1 := Scalar.cmpi .slt v660 c7_i32_328
  let v662 : BitVec 1 := Scalar.andi v657 v661
  let v663 : BitVec 32 := Scalar.select v662 v656 v655
  let c1_i32_329 : BitVec 32 := 1#32
  let v664 : BitVec 32 := Scalar.addi v663 c1_i32_329
  let c1_i32_331 : BitVec 32 := 1#32
  let v666 : BitVec 32 := Scalar.subi v664 c1_i32_331
  let v667 : Index := Scalar.indexCast v666
  ![v667.toNat]

def k0_chk77 (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) : Prop :=
  (∀ a, (k0_off84 v580 v588 v596 v604 v612 v620 v628 v636 v644 v652 v660) a + S1.size a ≤ S2048.size a)
theorem k0_off84_inb : ∀ (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (k0_hw77 : k0_chk77 v580 v588 v596 v604 v612 v620 v628 v636 v644 v652 v660), ∀ a, (k0_off84 v580 v588 v596 v604 v612 v620 v628 v636 v644 v652 v660) a + S1.size a ≤ S2048.size a := fun v580 v588 v596 v604 v612 v620 v628 v636 v644 v652 v660 k0_hw77 => k0_hw77

def k0_off85 : Fin 2 → Nat :=
  let c0_i32_335 : BitVec 32 := 0#32
  let c0_i32_337 : BitVec 32 := 0#32
  let v681 : BitVec 1 := Scalar.cmpi .sgt c0_i32_335 c0_i32_337
  let v682 : BitVec 32 := Scalar.extui v681
  let c0_i32_338 : BitVec 32 := 0#32
  let v683 : BitVec 1 := Scalar.cmpi .slt c0_i32_335 c0_i32_338
  let v684 : BitVec 32 := Scalar.extui v683
  let v685 : BitVec 32 := Scalar.subi v682 v684
  let c8_i32_336 : BitVec 32 := 8#32
  let c0_i32_339 : BitVec 32 := 0#32
  let v686 : BitVec 1 := Scalar.cmpi .sgt c8_i32_336 c0_i32_339
  let v687 : BitVec 32 := Scalar.extui v686
  let c0_i32_340 : BitVec 32 := 0#32
  let v688 : BitVec 1 := Scalar.cmpi .slt c8_i32_336 c0_i32_340
  let v689 : BitVec 32 := Scalar.extui v688
  let v690 : BitVec 32 := Scalar.subi v687 v689
  let v691 : BitVec 1 := Scalar.cmpi .ne v685 v690
  let v692 : BitVec 32 := Scalar.remsi c0_i32_335 c8_i32_336
  let c0_i32_341 : BitVec 32 := 0#32
  let v693 : BitVec 1 := Scalar.cmpi .ne v692 c0_i32_341
  let v694 : BitVec 1 := Scalar.andi v691 v693
  let v680 : BitVec 32 := Scalar.divsi c0_i32_335 c8_i32_336
  let c1_i32_342 : BitVec 32 := 1#32
  let v695 : BitVec 32 := Scalar.subi v680 c1_i32_342
  let v696 : BitVec 32 := Scalar.select v694 v695 v680
  let c8_i32_449 : BitVec 32 := 8#32
  let v919 : BitVec 32 := Scalar.muli v696 c8_i32_449
  let v920 : Index := Scalar.indexCast v919
  let c0_450 : Index := 0#32
  ![v920.toNat, 0]
def k0_off86 (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) : Fin 2 → Nat :=
  let c0_i32 : BitVec 32 := 0#32
  let c2048_i32 : BitVec 32 := 2048#32
  let v0 : BitVec 32 := Scalar.addi c0_i32 c2048_i32
  let c2048_i32_0 : BitVec 32 := 2048#32
  let v1 : BitVec 1 := Scalar.cmpi .sle v0 c2048_i32_0
  let c1_i32_1 : BitVec 32 := 1#32
  let v5 : BitVec 1 := Scalar.cmpi .slt v4 c1_i32_1
  let v6 : BitVec 1 := Scalar.andi v1 v5
  let c0_i32_2 : BitVec 32 := 0#32
  let v7 : BitVec 32 := Scalar.select v6 v0 c0_i32_2
  let c1024_i32 : BitVec 32 := 1024#32
  let v8 : BitVec 32 := Scalar.addi v7 c1024_i32
  let c2048_i32_3 : BitVec 32 := 2048#32
  let v9 : BitVec 1 := Scalar.cmpi .sle v8 c2048_i32_3
  let c1_i32_5 : BitVec 32 := 1#32
  let v13 : BitVec 1 := Scalar.cmpi .slt v12 c1_i32_5
  let v14 : BitVec 1 := Scalar.andi v9 v13
  let v15 : BitVec 32 := Scalar.select v14 v8 v7
  let c512_i32 : BitVec 32 := 512#32
  let v16 : BitVec 32 := Scalar.addi v15 c512_i32
  let c2048_i32_6 : BitVec 32 := 2048#32
  let v17 : BitVec 1 := Scalar.cmpi .sle v16 c2048_i32_6
  let c1_i32_8 : BitVec 32 := 1#32
  let v21 : BitVec 1 := Scalar.cmpi .slt v20 c1_i32_8
  let v22 : BitVec 1 := Scalar.andi v17 v21
  let v23 : BitVec 32 := Scalar.select v22 v16 v15
  let c256_i32 : BitVec 32 := 256#32
  let v24 : BitVec 32 := Scalar.addi v23 c256_i32
  let c2048_i32_9 : BitVec 32 := 2048#32
  let v25 : BitVec 1 := Scalar.cmpi .sle v24 c2048_i32_9
  let c1_i32_11 : BitVec 32 := 1#32
  let v29 : BitVec 1 := Scalar.cmpi .slt v28 c1_i32_11
  let v30 : BitVec 1 := Scalar.andi v25 v29
  let v31 : BitVec 32 := Scalar.select v30 v24 v23
  let c128_i32 : BitVec 32 := 128#32
  let v32 : BitVec 32 := Scalar.addi v31 c128_i32
  let c2048_i32_12 : BitVec 32 := 2048#32
  let v33 : BitVec 1 := Scalar.cmpi .sle v32 c2048_i32_12
  let c1_i32_14 : BitVec 32 := 1#32
  let v37 : BitVec 1 := Scalar.cmpi .slt v36 c1_i32_14
  let v38 : BitVec 1 := Scalar.andi v33 v37
  let v39 : BitVec 32 := Scalar.select v38 v32 v31
  let c64_i32 : BitVec 32 := 64#32
  let v40 : BitVec 32 := Scalar.addi v39 c64_i32
  let c2048_i32_15 : BitVec 32 := 2048#32
  let v41 : BitVec 1 := Scalar.cmpi .sle v40 c2048_i32_15
  let c1_i32_17 : BitVec 32 := 1#32
  let v45 : BitVec 1 := Scalar.cmpi .slt v44 c1_i32_17
  let v46 : BitVec 1 := Scalar.andi v41 v45
  let v47 : BitVec 32 := Scalar.select v46 v40 v39
  let c32_i32 : BitVec 32 := 32#32
  let v48 : BitVec 32 := Scalar.addi v47 c32_i32
  let c2048_i32_18 : BitVec 32 := 2048#32
  let v49 : BitVec 1 := Scalar.cmpi .sle v48 c2048_i32_18
  let c1_i32_20 : BitVec 32 := 1#32
  let v53 : BitVec 1 := Scalar.cmpi .slt v52 c1_i32_20
  let v54 : BitVec 1 := Scalar.andi v49 v53
  let v55 : BitVec 32 := Scalar.select v54 v48 v47
  let c16_i32 : BitVec 32 := 16#32
  let v56 : BitVec 32 := Scalar.addi v55 c16_i32
  let c2048_i32_21 : BitVec 32 := 2048#32
  let v57 : BitVec 1 := Scalar.cmpi .sle v56 c2048_i32_21
  let c1_i32_23 : BitVec 32 := 1#32
  let v61 : BitVec 1 := Scalar.cmpi .slt v60 c1_i32_23
  let v62 : BitVec 1 := Scalar.andi v57 v61
  let v63 : BitVec 32 := Scalar.select v62 v56 v55
  let c8_i32 : BitVec 32 := 8#32
  let v64 : BitVec 32 := Scalar.addi v63 c8_i32
  let c2048_i32_24 : BitVec 32 := 2048#32
  let v65 : BitVec 1 := Scalar.cmpi .sle v64 c2048_i32_24
  let c1_i32_26 : BitVec 32 := 1#32
  let v69 : BitVec 1 := Scalar.cmpi .slt v68 c1_i32_26
  let v70 : BitVec 1 := Scalar.andi v65 v69
  let v71 : BitVec 32 := Scalar.select v70 v64 v63
  let c4_i32 : BitVec 32 := 4#32
  let v72 : BitVec 32 := Scalar.addi v71 c4_i32
  let c2048_i32_27 : BitVec 32 := 2048#32
  let v73 : BitVec 1 := Scalar.cmpi .sle v72 c2048_i32_27
  let c1_i32_29 : BitVec 32 := 1#32
  let v77 : BitVec 1 := Scalar.cmpi .slt v76 c1_i32_29
  let v78 : BitVec 1 := Scalar.andi v73 v77
  let v79 : BitVec 32 := Scalar.select v78 v72 v71
  let c2_i32 : BitVec 32 := 2#32
  let v80 : BitVec 32 := Scalar.addi v79 c2_i32
  let c2048_i32_30 : BitVec 32 := 2048#32
  let v81 : BitVec 1 := Scalar.cmpi .sle v80 c2048_i32_30
  let c1_i32_32 : BitVec 32 := 1#32
  let v85 : BitVec 1 := Scalar.cmpi .slt v84 c1_i32_32
  let v86 : BitVec 1 := Scalar.andi v81 v85
  let v87 : BitVec 32 := Scalar.select v86 v80 v79
  let c1_i32_33 : BitVec 32 := 1#32
  let v88 : BitVec 32 := Scalar.addi v87 c1_i32_33
  let c2048_i32_34 : BitVec 32 := 2048#32
  let v89 : BitVec 1 := Scalar.cmpi .sle v88 c2048_i32_34
  let c1_i32_36 : BitVec 32 := 1#32
  let v93 : BitVec 1 := Scalar.cmpi .slt v92 c1_i32_36
  let v94 : BitVec 1 := Scalar.andi v89 v93
  let v95 : BitVec 32 := Scalar.select v94 v88 v87
  let c0_i32_344 : BitVec 32 := 0#32
  let v698 : BitVec 1 := Scalar.cmpi .sgt v95 c0_i32_344
  let v699 : BitVec 32 := Scalar.extui v698
  let c0_i32_345 : BitVec 32 := 0#32
  let v700 : BitVec 1 := Scalar.cmpi .slt v95 c0_i32_345
  let v701 : BitVec 32 := Scalar.extui v700
  let v702 : BitVec 32 := Scalar.subi v699 v701
  let c8_i32_343 : BitVec 32 := 8#32
  let c0_i32_346 : BitVec 32 := 0#32
  let v703 : BitVec 1 := Scalar.cmpi .sgt c8_i32_343 c0_i32_346
  let v704 : BitVec 32 := Scalar.extui v703
  let c0_i32_347 : BitVec 32 := 0#32
  let v705 : BitVec 1 := Scalar.cmpi .slt c8_i32_343 c0_i32_347
  let v706 : BitVec 32 := Scalar.extui v705
  let v707 : BitVec 32 := Scalar.subi v704 v706
  let v708 : BitVec 1 := Scalar.cmpi .ne v702 v707
  let v709 : BitVec 32 := Scalar.remsi v95 c8_i32_343
  let c0_i32_348 : BitVec 32 := 0#32
  let v710 : BitVec 1 := Scalar.cmpi .ne v709 c0_i32_348
  let v711 : BitVec 1 := Scalar.andi v708 v710
  let v697 : BitVec 32 := Scalar.divsi v95 c8_i32_343
  let c1_i32_349 : BitVec 32 := 1#32
  let v712 : BitVec 32 := Scalar.subi v697 c1_i32_349
  let v713 : BitVec 32 := Scalar.select v711 v712 v697
  let c8_i32_454 : BitVec 32 := 8#32
  let v925 : BitVec 32 := Scalar.muli v713 c8_i32_454
  let v926 : Index := Scalar.indexCast v925
  let c0_455 : Index := 0#32
  ![v926.toNat, 0]

def k0_off87 (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) : Fin 2 → Nat :=
  let c0_i32_37 : BitVec 32 := 0#32
  let c2048_i32_38 : BitVec 32 := 2048#32
  let v96 : BitVec 32 := Scalar.addi c0_i32_37 c2048_i32_38
  let c2048_i32_39 : BitVec 32 := 2048#32
  let v97 : BitVec 1 := Scalar.cmpi .sle v96 c2048_i32_39
  let c2_i32_41 : BitVec 32 := 2#32
  let v101 : BitVec 1 := Scalar.cmpi .slt v100 c2_i32_41
  let v102 : BitVec 1 := Scalar.andi v97 v101
  let c0_i32_42 : BitVec 32 := 0#32
  let v103 : BitVec 32 := Scalar.select v102 v96 c0_i32_42
  let c1024_i32_43 : BitVec 32 := 1024#32
  let v104 : BitVec 32 := Scalar.addi v103 c1024_i32_43
  let c2048_i32_44 : BitVec 32 := 2048#32
  let v105 : BitVec 1 := Scalar.cmpi .sle v104 c2048_i32_44
  let c2_i32_46 : BitVec 32 := 2#32
  let v109 : BitVec 1 := Scalar.cmpi .slt v108 c2_i32_46
  let v110 : BitVec 1 := Scalar.andi v105 v109
  let v111 : BitVec 32 := Scalar.select v110 v104 v103
  let c512_i32_47 : BitVec 32 := 512#32
  let v112 : BitVec 32 := Scalar.addi v111 c512_i32_47
  let c2048_i32_48 : BitVec 32 := 2048#32
  let v113 : BitVec 1 := Scalar.cmpi .sle v112 c2048_i32_48
  let c2_i32_50 : BitVec 32 := 2#32
  let v117 : BitVec 1 := Scalar.cmpi .slt v116 c2_i32_50
  let v118 : BitVec 1 := Scalar.andi v113 v117
  let v119 : BitVec 32 := Scalar.select v118 v112 v111
  let c256_i32_51 : BitVec 32 := 256#32
  let v120 : BitVec 32 := Scalar.addi v119 c256_i32_51
  let c2048_i32_52 : BitVec 32 := 2048#32
  let v121 : BitVec 1 := Scalar.cmpi .sle v120 c2048_i32_52
  let c2_i32_54 : BitVec 32 := 2#32
  let v125 : BitVec 1 := Scalar.cmpi .slt v124 c2_i32_54
  let v126 : BitVec 1 := Scalar.andi v121 v125
  let v127 : BitVec 32 := Scalar.select v126 v120 v119
  let c128_i32_55 : BitVec 32 := 128#32
  let v128 : BitVec 32 := Scalar.addi v127 c128_i32_55
  let c2048_i32_56 : BitVec 32 := 2048#32
  let v129 : BitVec 1 := Scalar.cmpi .sle v128 c2048_i32_56
  let c2_i32_58 : BitVec 32 := 2#32
  let v133 : BitVec 1 := Scalar.cmpi .slt v132 c2_i32_58
  let v134 : BitVec 1 := Scalar.andi v129 v133
  let v135 : BitVec 32 := Scalar.select v134 v128 v127
  let c64_i32_59 : BitVec 32 := 64#32
  let v136 : BitVec 32 := Scalar.addi v135 c64_i32_59
  let c2048_i32_60 : BitVec 32 := 2048#32
  let v137 : BitVec 1 := Scalar.cmpi .sle v136 c2048_i32_60
  let c2_i32_62 : BitVec 32 := 2#32
  let v141 : BitVec 1 := Scalar.cmpi .slt v140 c2_i32_62
  let v142 : BitVec 1 := Scalar.andi v137 v141
  let v143 : BitVec 32 := Scalar.select v142 v136 v135
  let c32_i32_63 : BitVec 32 := 32#32
  let v144 : BitVec 32 := Scalar.addi v143 c32_i32_63
  let c2048_i32_64 : BitVec 32 := 2048#32
  let v145 : BitVec 1 := Scalar.cmpi .sle v144 c2048_i32_64
  let c2_i32_66 : BitVec 32 := 2#32
  let v149 : BitVec 1 := Scalar.cmpi .slt v148 c2_i32_66
  let v150 : BitVec 1 := Scalar.andi v145 v149
  let v151 : BitVec 32 := Scalar.select v150 v144 v143
  let c16_i32_67 : BitVec 32 := 16#32
  let v152 : BitVec 32 := Scalar.addi v151 c16_i32_67
  let c2048_i32_68 : BitVec 32 := 2048#32
  let v153 : BitVec 1 := Scalar.cmpi .sle v152 c2048_i32_68
  let c2_i32_70 : BitVec 32 := 2#32
  let v157 : BitVec 1 := Scalar.cmpi .slt v156 c2_i32_70
  let v158 : BitVec 1 := Scalar.andi v153 v157
  let v159 : BitVec 32 := Scalar.select v158 v152 v151
  let c8_i32_71 : BitVec 32 := 8#32
  let v160 : BitVec 32 := Scalar.addi v159 c8_i32_71
  let c2048_i32_72 : BitVec 32 := 2048#32
  let v161 : BitVec 1 := Scalar.cmpi .sle v160 c2048_i32_72
  let c2_i32_74 : BitVec 32 := 2#32
  let v165 : BitVec 1 := Scalar.cmpi .slt v164 c2_i32_74
  let v166 : BitVec 1 := Scalar.andi v161 v165
  let v167 : BitVec 32 := Scalar.select v166 v160 v159
  let c4_i32_75 : BitVec 32 := 4#32
  let v168 : BitVec 32 := Scalar.addi v167 c4_i32_75
  let c2048_i32_76 : BitVec 32 := 2048#32
  let v169 : BitVec 1 := Scalar.cmpi .sle v168 c2048_i32_76
  let c2_i32_78 : BitVec 32 := 2#32
  let v173 : BitVec 1 := Scalar.cmpi .slt v172 c2_i32_78
  let v174 : BitVec 1 := Scalar.andi v169 v173
  let v175 : BitVec 32 := Scalar.select v174 v168 v167
  let c2_i32_79 : BitVec 32 := 2#32
  let v176 : BitVec 32 := Scalar.addi v175 c2_i32_79
  let c2048_i32_80 : BitVec 32 := 2048#32
  let v177 : BitVec 1 := Scalar.cmpi .sle v176 c2048_i32_80
  let c2_i32_82 : BitVec 32 := 2#32
  let v181 : BitVec 1 := Scalar.cmpi .slt v180 c2_i32_82
  let v182 : BitVec 1 := Scalar.andi v177 v181
  let v183 : BitVec 32 := Scalar.select v182 v176 v175
  let c1_i32_83 : BitVec 32 := 1#32
  let v184 : BitVec 32 := Scalar.addi v183 c1_i32_83
  let c2048_i32_84 : BitVec 32 := 2048#32
  let v185 : BitVec 1 := Scalar.cmpi .sle v184 c2048_i32_84
  let c2_i32_86 : BitVec 32 := 2#32
  let v189 : BitVec 1 := Scalar.cmpi .slt v188 c2_i32_86
  let v190 : BitVec 1 := Scalar.andi v185 v189
  let v191 : BitVec 32 := Scalar.select v190 v184 v183
  let c0_i32_351 : BitVec 32 := 0#32
  let v715 : BitVec 1 := Scalar.cmpi .sgt v191 c0_i32_351
  let v716 : BitVec 32 := Scalar.extui v715
  let c0_i32_352 : BitVec 32 := 0#32
  let v717 : BitVec 1 := Scalar.cmpi .slt v191 c0_i32_352
  let v718 : BitVec 32 := Scalar.extui v717
  let v719 : BitVec 32 := Scalar.subi v716 v718
  let c8_i32_350 : BitVec 32 := 8#32
  let c0_i32_353 : BitVec 32 := 0#32
  let v720 : BitVec 1 := Scalar.cmpi .sgt c8_i32_350 c0_i32_353
  let v721 : BitVec 32 := Scalar.extui v720
  let c0_i32_354 : BitVec 32 := 0#32
  let v722 : BitVec 1 := Scalar.cmpi .slt c8_i32_350 c0_i32_354
  let v723 : BitVec 32 := Scalar.extui v722
  let v724 : BitVec 32 := Scalar.subi v721 v723
  let v725 : BitVec 1 := Scalar.cmpi .ne v719 v724
  let v726 : BitVec 32 := Scalar.remsi v191 c8_i32_350
  let c0_i32_355 : BitVec 32 := 0#32
  let v727 : BitVec 1 := Scalar.cmpi .ne v726 c0_i32_355
  let v728 : BitVec 1 := Scalar.andi v725 v727
  let v714 : BitVec 32 := Scalar.divsi v191 c8_i32_350
  let c1_i32_356 : BitVec 32 := 1#32
  let v729 : BitVec 32 := Scalar.subi v714 c1_i32_356
  let v730 : BitVec 32 := Scalar.select v728 v729 v714
  let c8_i32_459 : BitVec 32 := 8#32
  let v931 : BitVec 32 := Scalar.muli v730 c8_i32_459
  let v932 : Index := Scalar.indexCast v931
  let c0_460 : Index := 0#32
  ![v932.toNat, 0]

def k0_off88 (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) : Fin 2 → Nat :=
  let c0_i32_87 : BitVec 32 := 0#32
  let c2048_i32_88 : BitVec 32 := 2048#32
  let v192 : BitVec 32 := Scalar.addi c0_i32_87 c2048_i32_88
  let c2048_i32_89 : BitVec 32 := 2048#32
  let v193 : BitVec 1 := Scalar.cmpi .sle v192 c2048_i32_89
  let c3_i32 : BitVec 32 := 3#32
  let v197 : BitVec 1 := Scalar.cmpi .slt v196 c3_i32
  let v198 : BitVec 1 := Scalar.andi v193 v197
  let c0_i32_91 : BitVec 32 := 0#32
  let v199 : BitVec 32 := Scalar.select v198 v192 c0_i32_91
  let c1024_i32_92 : BitVec 32 := 1024#32
  let v200 : BitVec 32 := Scalar.addi v199 c1024_i32_92
  let c2048_i32_93 : BitVec 32 := 2048#32
  let v201 : BitVec 1 := Scalar.cmpi .sle v200 c2048_i32_93
  let c3_i32_95 : BitVec 32 := 3#32
  let v205 : BitVec 1 := Scalar.cmpi .slt v204 c3_i32_95
  let v206 : BitVec 1 := Scalar.andi v201 v205
  let v207 : BitVec 32 := Scalar.select v206 v200 v199
  let c512_i32_96 : BitVec 32 := 512#32
  let v208 : BitVec 32 := Scalar.addi v207 c512_i32_96
  let c2048_i32_97 : BitVec 32 := 2048#32
  let v209 : BitVec 1 := Scalar.cmpi .sle v208 c2048_i32_97
  let c3_i32_99 : BitVec 32 := 3#32
  let v213 : BitVec 1 := Scalar.cmpi .slt v212 c3_i32_99
  let v214 : BitVec 1 := Scalar.andi v209 v213
  let v215 : BitVec 32 := Scalar.select v214 v208 v207
  let c256_i32_100 : BitVec 32 := 256#32
  let v216 : BitVec 32 := Scalar.addi v215 c256_i32_100
  let c2048_i32_101 : BitVec 32 := 2048#32
  let v217 : BitVec 1 := Scalar.cmpi .sle v216 c2048_i32_101
  let c3_i32_103 : BitVec 32 := 3#32
  let v221 : BitVec 1 := Scalar.cmpi .slt v220 c3_i32_103
  let v222 : BitVec 1 := Scalar.andi v217 v221
  let v223 : BitVec 32 := Scalar.select v222 v216 v215
  let c128_i32_104 : BitVec 32 := 128#32
  let v224 : BitVec 32 := Scalar.addi v223 c128_i32_104
  let c2048_i32_105 : BitVec 32 := 2048#32
  let v225 : BitVec 1 := Scalar.cmpi .sle v224 c2048_i32_105
  let c3_i32_107 : BitVec 32 := 3#32
  let v229 : BitVec 1 := Scalar.cmpi .slt v228 c3_i32_107
  let v230 : BitVec 1 := Scalar.andi v225 v229
  let v231 : BitVec 32 := Scalar.select v230 v224 v223
  let c64_i32_108 : BitVec 32 := 64#32
  let v232 : BitVec 32 := Scalar.addi v231 c64_i32_108
  let c2048_i32_109 : BitVec 32 := 2048#32
  let v233 : BitVec 1 := Scalar.cmpi .sle v232 c2048_i32_109
  let c3_i32_111 : BitVec 32 := 3#32
  let v237 : BitVec 1 := Scalar.cmpi .slt v236 c3_i32_111
  let v238 : BitVec 1 := Scalar.andi v233 v237
  let v239 : BitVec 32 := Scalar.select v238 v232 v231
  let c32_i32_112 : BitVec 32 := 32#32
  let v240 : BitVec 32 := Scalar.addi v239 c32_i32_112
  let c2048_i32_113 : BitVec 32 := 2048#32
  let v241 : BitVec 1 := Scalar.cmpi .sle v240 c2048_i32_113
  let c3_i32_115 : BitVec 32 := 3#32
  let v245 : BitVec 1 := Scalar.cmpi .slt v244 c3_i32_115
  let v246 : BitVec 1 := Scalar.andi v241 v245
  let v247 : BitVec 32 := Scalar.select v246 v240 v239
  let c16_i32_116 : BitVec 32 := 16#32
  let v248 : BitVec 32 := Scalar.addi v247 c16_i32_116
  let c2048_i32_117 : BitVec 32 := 2048#32
  let v249 : BitVec 1 := Scalar.cmpi .sle v248 c2048_i32_117
  let c3_i32_119 : BitVec 32 := 3#32
  let v253 : BitVec 1 := Scalar.cmpi .slt v252 c3_i32_119
  let v254 : BitVec 1 := Scalar.andi v249 v253
  let v255 : BitVec 32 := Scalar.select v254 v248 v247
  let c8_i32_120 : BitVec 32 := 8#32
  let v256 : BitVec 32 := Scalar.addi v255 c8_i32_120
  let c2048_i32_121 : BitVec 32 := 2048#32
  let v257 : BitVec 1 := Scalar.cmpi .sle v256 c2048_i32_121
  let c3_i32_123 : BitVec 32 := 3#32
  let v261 : BitVec 1 := Scalar.cmpi .slt v260 c3_i32_123
  let v262 : BitVec 1 := Scalar.andi v257 v261
  let v263 : BitVec 32 := Scalar.select v262 v256 v255
  let c4_i32_124 : BitVec 32 := 4#32
  let v264 : BitVec 32 := Scalar.addi v263 c4_i32_124
  let c2048_i32_125 : BitVec 32 := 2048#32
  let v265 : BitVec 1 := Scalar.cmpi .sle v264 c2048_i32_125
  let c3_i32_127 : BitVec 32 := 3#32
  let v269 : BitVec 1 := Scalar.cmpi .slt v268 c3_i32_127
  let v270 : BitVec 1 := Scalar.andi v265 v269
  let v271 : BitVec 32 := Scalar.select v270 v264 v263
  let c2_i32_128 : BitVec 32 := 2#32
  let v272 : BitVec 32 := Scalar.addi v271 c2_i32_128
  let c2048_i32_129 : BitVec 32 := 2048#32
  let v273 : BitVec 1 := Scalar.cmpi .sle v272 c2048_i32_129
  let c3_i32_131 : BitVec 32 := 3#32
  let v277 : BitVec 1 := Scalar.cmpi .slt v276 c3_i32_131
  let v278 : BitVec 1 := Scalar.andi v273 v277
  let v279 : BitVec 32 := Scalar.select v278 v272 v271
  let c1_i32_132 : BitVec 32 := 1#32
  let v280 : BitVec 32 := Scalar.addi v279 c1_i32_132
  let c2048_i32_133 : BitVec 32 := 2048#32
  let v281 : BitVec 1 := Scalar.cmpi .sle v280 c2048_i32_133
  let c3_i32_135 : BitVec 32 := 3#32
  let v285 : BitVec 1 := Scalar.cmpi .slt v284 c3_i32_135
  let v286 : BitVec 1 := Scalar.andi v281 v285
  let v287 : BitVec 32 := Scalar.select v286 v280 v279
  let c0_i32_358 : BitVec 32 := 0#32
  let v732 : BitVec 1 := Scalar.cmpi .sgt v287 c0_i32_358
  let v733 : BitVec 32 := Scalar.extui v732
  let c0_i32_359 : BitVec 32 := 0#32
  let v734 : BitVec 1 := Scalar.cmpi .slt v287 c0_i32_359
  let v735 : BitVec 32 := Scalar.extui v734
  let v736 : BitVec 32 := Scalar.subi v733 v735
  let c8_i32_357 : BitVec 32 := 8#32
  let c0_i32_360 : BitVec 32 := 0#32
  let v737 : BitVec 1 := Scalar.cmpi .sgt c8_i32_357 c0_i32_360
  let v738 : BitVec 32 := Scalar.extui v737
  let c0_i32_361 : BitVec 32 := 0#32
  let v739 : BitVec 1 := Scalar.cmpi .slt c8_i32_357 c0_i32_361
  let v740 : BitVec 32 := Scalar.extui v739
  let v741 : BitVec 32 := Scalar.subi v738 v740
  let v742 : BitVec 1 := Scalar.cmpi .ne v736 v741
  let v743 : BitVec 32 := Scalar.remsi v287 c8_i32_357
  let c0_i32_362 : BitVec 32 := 0#32
  let v744 : BitVec 1 := Scalar.cmpi .ne v743 c0_i32_362
  let v745 : BitVec 1 := Scalar.andi v742 v744
  let v731 : BitVec 32 := Scalar.divsi v287 c8_i32_357
  let c1_i32_363 : BitVec 32 := 1#32
  let v746 : BitVec 32 := Scalar.subi v731 c1_i32_363
  let v747 : BitVec 32 := Scalar.select v745 v746 v731
  let c8_i32_464 : BitVec 32 := 8#32
  let v937 : BitVec 32 := Scalar.muli v747 c8_i32_464
  let v938 : Index := Scalar.indexCast v937
  let c0_465 : Index := 0#32
  ![v938.toNat, 0]

def k0_off89 (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) : Fin 2 → Nat :=
  let c0_i32_136 : BitVec 32 := 0#32
  let c2048_i32_137 : BitVec 32 := 2048#32
  let v288 : BitVec 32 := Scalar.addi c0_i32_136 c2048_i32_137
  let c2048_i32_138 : BitVec 32 := 2048#32
  let v289 : BitVec 1 := Scalar.cmpi .sle v288 c2048_i32_138
  let c4_i32_140 : BitVec 32 := 4#32
  let v293 : BitVec 1 := Scalar.cmpi .slt v292 c4_i32_140
  let v294 : BitVec 1 := Scalar.andi v289 v293
  let c0_i32_141 : BitVec 32 := 0#32
  let v295 : BitVec 32 := Scalar.select v294 v288 c0_i32_141
  let c1024_i32_142 : BitVec 32 := 1024#32
  let v296 : BitVec 32 := Scalar.addi v295 c1024_i32_142
  let c2048_i32_143 : BitVec 32 := 2048#32
  let v297 : BitVec 1 := Scalar.cmpi .sle v296 c2048_i32_143
  let c4_i32_145 : BitVec 32 := 4#32
  let v301 : BitVec 1 := Scalar.cmpi .slt v300 c4_i32_145
  let v302 : BitVec 1 := Scalar.andi v297 v301
  let v303 : BitVec 32 := Scalar.select v302 v296 v295
  let c512_i32_146 : BitVec 32 := 512#32
  let v304 : BitVec 32 := Scalar.addi v303 c512_i32_146
  let c2048_i32_147 : BitVec 32 := 2048#32
  let v305 : BitVec 1 := Scalar.cmpi .sle v304 c2048_i32_147
  let c4_i32_149 : BitVec 32 := 4#32
  let v309 : BitVec 1 := Scalar.cmpi .slt v308 c4_i32_149
  let v310 : BitVec 1 := Scalar.andi v305 v309
  let v311 : BitVec 32 := Scalar.select v310 v304 v303
  let c256_i32_150 : BitVec 32 := 256#32
  let v312 : BitVec 32 := Scalar.addi v311 c256_i32_150
  let c2048_i32_151 : BitVec 32 := 2048#32
  let v313 : BitVec 1 := Scalar.cmpi .sle v312 c2048_i32_151
  let c4_i32_153 : BitVec 32 := 4#32
  let v317 : BitVec 1 := Scalar.cmpi .slt v316 c4_i32_153
  let v318 : BitVec 1 := Scalar.andi v313 v317
  let v319 : BitVec 32 := Scalar.select v318 v312 v311
  let c128_i32_154 : BitVec 32 := 128#32
  let v320 : BitVec 32 := Scalar.addi v319 c128_i32_154
  let c2048_i32_155 : BitVec 32 := 2048#32
  let v321 : BitVec 1 := Scalar.cmpi .sle v320 c2048_i32_155
  let c4_i32_157 : BitVec 32 := 4#32
  let v325 : BitVec 1 := Scalar.cmpi .slt v324 c4_i32_157
  let v326 : BitVec 1 := Scalar.andi v321 v325
  let v327 : BitVec 32 := Scalar.select v326 v320 v319
  let c64_i32_158 : BitVec 32 := 64#32
  let v328 : BitVec 32 := Scalar.addi v327 c64_i32_158
  let c2048_i32_159 : BitVec 32 := 2048#32
  let v329 : BitVec 1 := Scalar.cmpi .sle v328 c2048_i32_159
  let c4_i32_161 : BitVec 32 := 4#32
  let v333 : BitVec 1 := Scalar.cmpi .slt v332 c4_i32_161
  let v334 : BitVec 1 := Scalar.andi v329 v333
  let v335 : BitVec 32 := Scalar.select v334 v328 v327
  let c32_i32_162 : BitVec 32 := 32#32
  let v336 : BitVec 32 := Scalar.addi v335 c32_i32_162
  let c2048_i32_163 : BitVec 32 := 2048#32
  let v337 : BitVec 1 := Scalar.cmpi .sle v336 c2048_i32_163
  let c4_i32_165 : BitVec 32 := 4#32
  let v341 : BitVec 1 := Scalar.cmpi .slt v340 c4_i32_165
  let v342 : BitVec 1 := Scalar.andi v337 v341
  let v343 : BitVec 32 := Scalar.select v342 v336 v335
  let c16_i32_166 : BitVec 32 := 16#32
  let v344 : BitVec 32 := Scalar.addi v343 c16_i32_166
  let c2048_i32_167 : BitVec 32 := 2048#32
  let v345 : BitVec 1 := Scalar.cmpi .sle v344 c2048_i32_167
  let c4_i32_169 : BitVec 32 := 4#32
  let v349 : BitVec 1 := Scalar.cmpi .slt v348 c4_i32_169
  let v350 : BitVec 1 := Scalar.andi v345 v349
  let v351 : BitVec 32 := Scalar.select v350 v344 v343
  let c8_i32_170 : BitVec 32 := 8#32
  let v352 : BitVec 32 := Scalar.addi v351 c8_i32_170
  let c2048_i32_171 : BitVec 32 := 2048#32
  let v353 : BitVec 1 := Scalar.cmpi .sle v352 c2048_i32_171
  let c4_i32_173 : BitVec 32 := 4#32
  let v357 : BitVec 1 := Scalar.cmpi .slt v356 c4_i32_173
  let v358 : BitVec 1 := Scalar.andi v353 v357
  let v359 : BitVec 32 := Scalar.select v358 v352 v351
  let c4_i32_174 : BitVec 32 := 4#32
  let v360 : BitVec 32 := Scalar.addi v359 c4_i32_174
  let c2048_i32_175 : BitVec 32 := 2048#32
  let v361 : BitVec 1 := Scalar.cmpi .sle v360 c2048_i32_175
  let c4_i32_177 : BitVec 32 := 4#32
  let v365 : BitVec 1 := Scalar.cmpi .slt v364 c4_i32_177
  let v366 : BitVec 1 := Scalar.andi v361 v365
  let v367 : BitVec 32 := Scalar.select v366 v360 v359
  let c2_i32_178 : BitVec 32 := 2#32
  let v368 : BitVec 32 := Scalar.addi v367 c2_i32_178
  let c2048_i32_179 : BitVec 32 := 2048#32
  let v369 : BitVec 1 := Scalar.cmpi .sle v368 c2048_i32_179
  let c4_i32_181 : BitVec 32 := 4#32
  let v373 : BitVec 1 := Scalar.cmpi .slt v372 c4_i32_181
  let v374 : BitVec 1 := Scalar.andi v369 v373
  let v375 : BitVec 32 := Scalar.select v374 v368 v367
  let c1_i32_182 : BitVec 32 := 1#32
  let v376 : BitVec 32 := Scalar.addi v375 c1_i32_182
  let c2048_i32_183 : BitVec 32 := 2048#32
  let v377 : BitVec 1 := Scalar.cmpi .sle v376 c2048_i32_183
  let c4_i32_185 : BitVec 32 := 4#32
  let v381 : BitVec 1 := Scalar.cmpi .slt v380 c4_i32_185
  let v382 : BitVec 1 := Scalar.andi v377 v381
  let v383 : BitVec 32 := Scalar.select v382 v376 v375
  let c0_i32_365 : BitVec 32 := 0#32
  let v749 : BitVec 1 := Scalar.cmpi .sgt v383 c0_i32_365
  let v750 : BitVec 32 := Scalar.extui v749
  let c0_i32_366 : BitVec 32 := 0#32
  let v751 : BitVec 1 := Scalar.cmpi .slt v383 c0_i32_366
  let v752 : BitVec 32 := Scalar.extui v751
  let v753 : BitVec 32 := Scalar.subi v750 v752
  let c8_i32_364 : BitVec 32 := 8#32
  let c0_i32_367 : BitVec 32 := 0#32
  let v754 : BitVec 1 := Scalar.cmpi .sgt c8_i32_364 c0_i32_367
  let v755 : BitVec 32 := Scalar.extui v754
  let c0_i32_368 : BitVec 32 := 0#32
  let v756 : BitVec 1 := Scalar.cmpi .slt c8_i32_364 c0_i32_368
  let v757 : BitVec 32 := Scalar.extui v756
  let v758 : BitVec 32 := Scalar.subi v755 v757
  let v759 : BitVec 1 := Scalar.cmpi .ne v753 v758
  let v760 : BitVec 32 := Scalar.remsi v383 c8_i32_364
  let c0_i32_369 : BitVec 32 := 0#32
  let v761 : BitVec 1 := Scalar.cmpi .ne v760 c0_i32_369
  let v762 : BitVec 1 := Scalar.andi v759 v761
  let v748 : BitVec 32 := Scalar.divsi v383 c8_i32_364
  let c1_i32_370 : BitVec 32 := 1#32
  let v763 : BitVec 32 := Scalar.subi v748 c1_i32_370
  let v764 : BitVec 32 := Scalar.select v762 v763 v748
  let c8_i32_469 : BitVec 32 := 8#32
  let v943 : BitVec 32 := Scalar.muli v764 c8_i32_469
  let v944 : Index := Scalar.indexCast v943
  let c0_470 : Index := 0#32
  ![v944.toNat, 0]

def k0_off90 (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) : Fin 2 → Nat :=
  let c0_i32_186 : BitVec 32 := 0#32
  let c2048_i32_187 : BitVec 32 := 2048#32
  let v384 : BitVec 32 := Scalar.addi c0_i32_186 c2048_i32_187
  let c2048_i32_188 : BitVec 32 := 2048#32
  let v385 : BitVec 1 := Scalar.cmpi .sle v384 c2048_i32_188
  let c5_i32 : BitVec 32 := 5#32
  let v389 : BitVec 1 := Scalar.cmpi .slt v388 c5_i32
  let v390 : BitVec 1 := Scalar.andi v385 v389
  let c0_i32_190 : BitVec 32 := 0#32
  let v391 : BitVec 32 := Scalar.select v390 v384 c0_i32_190
  let c1024_i32_191 : BitVec 32 := 1024#32
  let v392 : BitVec 32 := Scalar.addi v391 c1024_i32_191
  let c2048_i32_192 : BitVec 32 := 2048#32
  let v393 : BitVec 1 := Scalar.cmpi .sle v392 c2048_i32_192
  let c5_i32_194 : BitVec 32 := 5#32
  let v397 : BitVec 1 := Scalar.cmpi .slt v396 c5_i32_194
  let v398 : BitVec 1 := Scalar.andi v393 v397
  let v399 : BitVec 32 := Scalar.select v398 v392 v391
  let c512_i32_195 : BitVec 32 := 512#32
  let v400 : BitVec 32 := Scalar.addi v399 c512_i32_195
  let c2048_i32_196 : BitVec 32 := 2048#32
  let v401 : BitVec 1 := Scalar.cmpi .sle v400 c2048_i32_196
  let c5_i32_198 : BitVec 32 := 5#32
  let v405 : BitVec 1 := Scalar.cmpi .slt v404 c5_i32_198
  let v406 : BitVec 1 := Scalar.andi v401 v405
  let v407 : BitVec 32 := Scalar.select v406 v400 v399
  let c256_i32_199 : BitVec 32 := 256#32
  let v408 : BitVec 32 := Scalar.addi v407 c256_i32_199
  let c2048_i32_200 : BitVec 32 := 2048#32
  let v409 : BitVec 1 := Scalar.cmpi .sle v408 c2048_i32_200
  let c5_i32_202 : BitVec 32 := 5#32
  let v413 : BitVec 1 := Scalar.cmpi .slt v412 c5_i32_202
  let v414 : BitVec 1 := Scalar.andi v409 v413
  let v415 : BitVec 32 := Scalar.select v414 v408 v407
  let c128_i32_203 : BitVec 32 := 128#32
  let v416 : BitVec 32 := Scalar.addi v415 c128_i32_203
  let c2048_i32_204 : BitVec 32 := 2048#32
  let v417 : BitVec 1 := Scalar.cmpi .sle v416 c2048_i32_204
  let c5_i32_206 : BitVec 32 := 5#32
  let v421 : BitVec 1 := Scalar.cmpi .slt v420 c5_i32_206
  let v422 : BitVec 1 := Scalar.andi v417 v421
  let v423 : BitVec 32 := Scalar.select v422 v416 v415
  let c64_i32_207 : BitVec 32 := 64#32
  let v424 : BitVec 32 := Scalar.addi v423 c64_i32_207
  let c2048_i32_208 : BitVec 32 := 2048#32
  let v425 : BitVec 1 := Scalar.cmpi .sle v424 c2048_i32_208
  let c5_i32_210 : BitVec 32 := 5#32
  let v429 : BitVec 1 := Scalar.cmpi .slt v428 c5_i32_210
  let v430 : BitVec 1 := Scalar.andi v425 v429
  let v431 : BitVec 32 := Scalar.select v430 v424 v423
  let c32_i32_211 : BitVec 32 := 32#32
  let v432 : BitVec 32 := Scalar.addi v431 c32_i32_211
  let c2048_i32_212 : BitVec 32 := 2048#32
  let v433 : BitVec 1 := Scalar.cmpi .sle v432 c2048_i32_212
  let c5_i32_214 : BitVec 32 := 5#32
  let v437 : BitVec 1 := Scalar.cmpi .slt v436 c5_i32_214
  let v438 : BitVec 1 := Scalar.andi v433 v437
  let v439 : BitVec 32 := Scalar.select v438 v432 v431
  let c16_i32_215 : BitVec 32 := 16#32
  let v440 : BitVec 32 := Scalar.addi v439 c16_i32_215
  let c2048_i32_216 : BitVec 32 := 2048#32
  let v441 : BitVec 1 := Scalar.cmpi .sle v440 c2048_i32_216
  let c5_i32_218 : BitVec 32 := 5#32
  let v445 : BitVec 1 := Scalar.cmpi .slt v444 c5_i32_218
  let v446 : BitVec 1 := Scalar.andi v441 v445
  let v447 : BitVec 32 := Scalar.select v446 v440 v439
  let c8_i32_219 : BitVec 32 := 8#32
  let v448 : BitVec 32 := Scalar.addi v447 c8_i32_219
  let c2048_i32_220 : BitVec 32 := 2048#32
  let v449 : BitVec 1 := Scalar.cmpi .sle v448 c2048_i32_220
  let c5_i32_222 : BitVec 32 := 5#32
  let v453 : BitVec 1 := Scalar.cmpi .slt v452 c5_i32_222
  let v454 : BitVec 1 := Scalar.andi v449 v453
  let v455 : BitVec 32 := Scalar.select v454 v448 v447
  let c4_i32_223 : BitVec 32 := 4#32
  let v456 : BitVec 32 := Scalar.addi v455 c4_i32_223
  let c2048_i32_224 : BitVec 32 := 2048#32
  let v457 : BitVec 1 := Scalar.cmpi .sle v456 c2048_i32_224
  let c5_i32_226 : BitVec 32 := 5#32
  let v461 : BitVec 1 := Scalar.cmpi .slt v460 c5_i32_226
  let v462 : BitVec 1 := Scalar.andi v457 v461
  let v463 : BitVec 32 := Scalar.select v462 v456 v455
  let c2_i32_227 : BitVec 32 := 2#32
  let v464 : BitVec 32 := Scalar.addi v463 c2_i32_227
  let c2048_i32_228 : BitVec 32 := 2048#32
  let v465 : BitVec 1 := Scalar.cmpi .sle v464 c2048_i32_228
  let c5_i32_230 : BitVec 32 := 5#32
  let v469 : BitVec 1 := Scalar.cmpi .slt v468 c5_i32_230
  let v470 : BitVec 1 := Scalar.andi v465 v469
  let v471 : BitVec 32 := Scalar.select v470 v464 v463
  let c1_i32_231 : BitVec 32 := 1#32
  let v472 : BitVec 32 := Scalar.addi v471 c1_i32_231
  let c2048_i32_232 : BitVec 32 := 2048#32
  let v473 : BitVec 1 := Scalar.cmpi .sle v472 c2048_i32_232
  let c5_i32_234 : BitVec 32 := 5#32
  let v477 : BitVec 1 := Scalar.cmpi .slt v476 c5_i32_234
  let v478 : BitVec 1 := Scalar.andi v473 v477
  let v479 : BitVec 32 := Scalar.select v478 v472 v471
  let c0_i32_372 : BitVec 32 := 0#32
  let v766 : BitVec 1 := Scalar.cmpi .sgt v479 c0_i32_372
  let v767 : BitVec 32 := Scalar.extui v766
  let c0_i32_373 : BitVec 32 := 0#32
  let v768 : BitVec 1 := Scalar.cmpi .slt v479 c0_i32_373
  let v769 : BitVec 32 := Scalar.extui v768
  let v770 : BitVec 32 := Scalar.subi v767 v769
  let c8_i32_371 : BitVec 32 := 8#32
  let c0_i32_374 : BitVec 32 := 0#32
  let v771 : BitVec 1 := Scalar.cmpi .sgt c8_i32_371 c0_i32_374
  let v772 : BitVec 32 := Scalar.extui v771
  let c0_i32_375 : BitVec 32 := 0#32
  let v773 : BitVec 1 := Scalar.cmpi .slt c8_i32_371 c0_i32_375
  let v774 : BitVec 32 := Scalar.extui v773
  let v775 : BitVec 32 := Scalar.subi v772 v774
  let v776 : BitVec 1 := Scalar.cmpi .ne v770 v775
  let v777 : BitVec 32 := Scalar.remsi v479 c8_i32_371
  let c0_i32_376 : BitVec 32 := 0#32
  let v778 : BitVec 1 := Scalar.cmpi .ne v777 c0_i32_376
  let v779 : BitVec 1 := Scalar.andi v776 v778
  let v765 : BitVec 32 := Scalar.divsi v479 c8_i32_371
  let c1_i32_377 : BitVec 32 := 1#32
  let v780 : BitVec 32 := Scalar.subi v765 c1_i32_377
  let v781 : BitVec 32 := Scalar.select v779 v780 v765
  let c8_i32_473 : BitVec 32 := 8#32
  let v949 : BitVec 32 := Scalar.muli v781 c8_i32_473
  let v950 : Index := Scalar.indexCast v949
  let c0_474 : Index := 0#32
  ![v950.toNat, 0]

def k0_off91 (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) : Fin 2 → Nat :=
  let c0_i32_235 : BitVec 32 := 0#32
  let c2048_i32_236 : BitVec 32 := 2048#32
  let v480 : BitVec 32 := Scalar.addi c0_i32_235 c2048_i32_236
  let c2048_i32_237 : BitVec 32 := 2048#32
  let v481 : BitVec 1 := Scalar.cmpi .sle v480 c2048_i32_237
  let c6_i32 : BitVec 32 := 6#32
  let v485 : BitVec 1 := Scalar.cmpi .slt v484 c6_i32
  let v486 : BitVec 1 := Scalar.andi v481 v485
  let c0_i32_239 : BitVec 32 := 0#32
  let v487 : BitVec 32 := Scalar.select v486 v480 c0_i32_239
  let c1024_i32_240 : BitVec 32 := 1024#32
  let v488 : BitVec 32 := Scalar.addi v487 c1024_i32_240
  let c2048_i32_241 : BitVec 32 := 2048#32
  let v489 : BitVec 1 := Scalar.cmpi .sle v488 c2048_i32_241
  let c6_i32_243 : BitVec 32 := 6#32
  let v493 : BitVec 1 := Scalar.cmpi .slt v492 c6_i32_243
  let v494 : BitVec 1 := Scalar.andi v489 v493
  let v495 : BitVec 32 := Scalar.select v494 v488 v487
  let c512_i32_244 : BitVec 32 := 512#32
  let v496 : BitVec 32 := Scalar.addi v495 c512_i32_244
  let c2048_i32_245 : BitVec 32 := 2048#32
  let v497 : BitVec 1 := Scalar.cmpi .sle v496 c2048_i32_245
  let c6_i32_247 : BitVec 32 := 6#32
  let v501 : BitVec 1 := Scalar.cmpi .slt v500 c6_i32_247
  let v502 : BitVec 1 := Scalar.andi v497 v501
  let v503 : BitVec 32 := Scalar.select v502 v496 v495
  let c256_i32_248 : BitVec 32 := 256#32
  let v504 : BitVec 32 := Scalar.addi v503 c256_i32_248
  let c2048_i32_249 : BitVec 32 := 2048#32
  let v505 : BitVec 1 := Scalar.cmpi .sle v504 c2048_i32_249
  let c6_i32_251 : BitVec 32 := 6#32
  let v509 : BitVec 1 := Scalar.cmpi .slt v508 c6_i32_251
  let v510 : BitVec 1 := Scalar.andi v505 v509
  let v511 : BitVec 32 := Scalar.select v510 v504 v503
  let c128_i32_252 : BitVec 32 := 128#32
  let v512 : BitVec 32 := Scalar.addi v511 c128_i32_252
  let c2048_i32_253 : BitVec 32 := 2048#32
  let v513 : BitVec 1 := Scalar.cmpi .sle v512 c2048_i32_253
  let c6_i32_255 : BitVec 32 := 6#32
  let v517 : BitVec 1 := Scalar.cmpi .slt v516 c6_i32_255
  let v518 : BitVec 1 := Scalar.andi v513 v517
  let v519 : BitVec 32 := Scalar.select v518 v512 v511
  let c64_i32_256 : BitVec 32 := 64#32
  let v520 : BitVec 32 := Scalar.addi v519 c64_i32_256
  let c2048_i32_257 : BitVec 32 := 2048#32
  let v521 : BitVec 1 := Scalar.cmpi .sle v520 c2048_i32_257
  let c6_i32_259 : BitVec 32 := 6#32
  let v525 : BitVec 1 := Scalar.cmpi .slt v524 c6_i32_259
  let v526 : BitVec 1 := Scalar.andi v521 v525
  let v527 : BitVec 32 := Scalar.select v526 v520 v519
  let c32_i32_260 : BitVec 32 := 32#32
  let v528 : BitVec 32 := Scalar.addi v527 c32_i32_260
  let c2048_i32_261 : BitVec 32 := 2048#32
  let v529 : BitVec 1 := Scalar.cmpi .sle v528 c2048_i32_261
  let c6_i32_263 : BitVec 32 := 6#32
  let v533 : BitVec 1 := Scalar.cmpi .slt v532 c6_i32_263
  let v534 : BitVec 1 := Scalar.andi v529 v533
  let v535 : BitVec 32 := Scalar.select v534 v528 v527
  let c16_i32_264 : BitVec 32 := 16#32
  let v536 : BitVec 32 := Scalar.addi v535 c16_i32_264
  let c2048_i32_265 : BitVec 32 := 2048#32
  let v537 : BitVec 1 := Scalar.cmpi .sle v536 c2048_i32_265
  let c6_i32_267 : BitVec 32 := 6#32
  let v541 : BitVec 1 := Scalar.cmpi .slt v540 c6_i32_267
  let v542 : BitVec 1 := Scalar.andi v537 v541
  let v543 : BitVec 32 := Scalar.select v542 v536 v535
  let c8_i32_268 : BitVec 32 := 8#32
  let v544 : BitVec 32 := Scalar.addi v543 c8_i32_268
  let c2048_i32_269 : BitVec 32 := 2048#32
  let v545 : BitVec 1 := Scalar.cmpi .sle v544 c2048_i32_269
  let c6_i32_271 : BitVec 32 := 6#32
  let v549 : BitVec 1 := Scalar.cmpi .slt v548 c6_i32_271
  let v550 : BitVec 1 := Scalar.andi v545 v549
  let v551 : BitVec 32 := Scalar.select v550 v544 v543
  let c4_i32_272 : BitVec 32 := 4#32
  let v552 : BitVec 32 := Scalar.addi v551 c4_i32_272
  let c2048_i32_273 : BitVec 32 := 2048#32
  let v553 : BitVec 1 := Scalar.cmpi .sle v552 c2048_i32_273
  let c6_i32_275 : BitVec 32 := 6#32
  let v557 : BitVec 1 := Scalar.cmpi .slt v556 c6_i32_275
  let v558 : BitVec 1 := Scalar.andi v553 v557
  let v559 : BitVec 32 := Scalar.select v558 v552 v551
  let c2_i32_276 : BitVec 32 := 2#32
  let v560 : BitVec 32 := Scalar.addi v559 c2_i32_276
  let c2048_i32_277 : BitVec 32 := 2048#32
  let v561 : BitVec 1 := Scalar.cmpi .sle v560 c2048_i32_277
  let c6_i32_279 : BitVec 32 := 6#32
  let v565 : BitVec 1 := Scalar.cmpi .slt v564 c6_i32_279
  let v566 : BitVec 1 := Scalar.andi v561 v565
  let v567 : BitVec 32 := Scalar.select v566 v560 v559
  let c1_i32_280 : BitVec 32 := 1#32
  let v568 : BitVec 32 := Scalar.addi v567 c1_i32_280
  let c2048_i32_281 : BitVec 32 := 2048#32
  let v569 : BitVec 1 := Scalar.cmpi .sle v568 c2048_i32_281
  let c6_i32_283 : BitVec 32 := 6#32
  let v573 : BitVec 1 := Scalar.cmpi .slt v572 c6_i32_283
  let v574 : BitVec 1 := Scalar.andi v569 v573
  let v575 : BitVec 32 := Scalar.select v574 v568 v567
  let c0_i32_379 : BitVec 32 := 0#32
  let v783 : BitVec 1 := Scalar.cmpi .sgt v575 c0_i32_379
  let v784 : BitVec 32 := Scalar.extui v783
  let c0_i32_380 : BitVec 32 := 0#32
  let v785 : BitVec 1 := Scalar.cmpi .slt v575 c0_i32_380
  let v786 : BitVec 32 := Scalar.extui v785
  let v787 : BitVec 32 := Scalar.subi v784 v786
  let c8_i32_378 : BitVec 32 := 8#32
  let c0_i32_381 : BitVec 32 := 0#32
  let v788 : BitVec 1 := Scalar.cmpi .sgt c8_i32_378 c0_i32_381
  let v789 : BitVec 32 := Scalar.extui v788
  let c0_i32_382 : BitVec 32 := 0#32
  let v790 : BitVec 1 := Scalar.cmpi .slt c8_i32_378 c0_i32_382
  let v791 : BitVec 32 := Scalar.extui v790
  let v792 : BitVec 32 := Scalar.subi v789 v791
  let v793 : BitVec 1 := Scalar.cmpi .ne v787 v792
  let v794 : BitVec 32 := Scalar.remsi v575 c8_i32_378
  let c0_i32_383 : BitVec 32 := 0#32
  let v795 : BitVec 1 := Scalar.cmpi .ne v794 c0_i32_383
  let v796 : BitVec 1 := Scalar.andi v793 v795
  let v782 : BitVec 32 := Scalar.divsi v575 c8_i32_378
  let c1_i32_384 : BitVec 32 := 1#32
  let v797 : BitVec 32 := Scalar.subi v782 c1_i32_384
  let v798 : BitVec 32 := Scalar.select v796 v797 v782
  let c8_i32_477 : BitVec 32 := 8#32
  let v955 : BitVec 32 := Scalar.muli v798 c8_i32_477
  let v956 : Index := Scalar.indexCast v955
  let c0_478 : Index := 0#32
  ![v956.toNat, 0]

def k0_off92 (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) : Fin 2 → Nat :=
  let c0_i32_284 : BitVec 32 := 0#32
  let c2048_i32_285 : BitVec 32 := 2048#32
  let v576 : BitVec 32 := Scalar.addi c0_i32_284 c2048_i32_285
  let c2048_i32_286 : BitVec 32 := 2048#32
  let v577 : BitVec 1 := Scalar.cmpi .sle v576 c2048_i32_286
  let c7_i32 : BitVec 32 := 7#32
  let v581 : BitVec 1 := Scalar.cmpi .slt v580 c7_i32
  let v582 : BitVec 1 := Scalar.andi v577 v581
  let c0_i32_288 : BitVec 32 := 0#32
  let v583 : BitVec 32 := Scalar.select v582 v576 c0_i32_288
  let c1024_i32_289 : BitVec 32 := 1024#32
  let v584 : BitVec 32 := Scalar.addi v583 c1024_i32_289
  let c2048_i32_290 : BitVec 32 := 2048#32
  let v585 : BitVec 1 := Scalar.cmpi .sle v584 c2048_i32_290
  let c7_i32_292 : BitVec 32 := 7#32
  let v589 : BitVec 1 := Scalar.cmpi .slt v588 c7_i32_292
  let v590 : BitVec 1 := Scalar.andi v585 v589
  let v591 : BitVec 32 := Scalar.select v590 v584 v583
  let c512_i32_293 : BitVec 32 := 512#32
  let v592 : BitVec 32 := Scalar.addi v591 c512_i32_293
  let c2048_i32_294 : BitVec 32 := 2048#32
  let v593 : BitVec 1 := Scalar.cmpi .sle v592 c2048_i32_294
  let c7_i32_296 : BitVec 32 := 7#32
  let v597 : BitVec 1 := Scalar.cmpi .slt v596 c7_i32_296
  let v598 : BitVec 1 := Scalar.andi v593 v597
  let v599 : BitVec 32 := Scalar.select v598 v592 v591
  let c256_i32_297 : BitVec 32 := 256#32
  let v600 : BitVec 32 := Scalar.addi v599 c256_i32_297
  let c2048_i32_298 : BitVec 32 := 2048#32
  let v601 : BitVec 1 := Scalar.cmpi .sle v600 c2048_i32_298
  let c7_i32_300 : BitVec 32 := 7#32
  let v605 : BitVec 1 := Scalar.cmpi .slt v604 c7_i32_300
  let v606 : BitVec 1 := Scalar.andi v601 v605
  let v607 : BitVec 32 := Scalar.select v606 v600 v599
  let c128_i32_301 : BitVec 32 := 128#32
  let v608 : BitVec 32 := Scalar.addi v607 c128_i32_301
  let c2048_i32_302 : BitVec 32 := 2048#32
  let v609 : BitVec 1 := Scalar.cmpi .sle v608 c2048_i32_302
  let c7_i32_304 : BitVec 32 := 7#32
  let v613 : BitVec 1 := Scalar.cmpi .slt v612 c7_i32_304
  let v614 : BitVec 1 := Scalar.andi v609 v613
  let v615 : BitVec 32 := Scalar.select v614 v608 v607
  let c64_i32_305 : BitVec 32 := 64#32
  let v616 : BitVec 32 := Scalar.addi v615 c64_i32_305
  let c2048_i32_306 : BitVec 32 := 2048#32
  let v617 : BitVec 1 := Scalar.cmpi .sle v616 c2048_i32_306
  let c7_i32_308 : BitVec 32 := 7#32
  let v621 : BitVec 1 := Scalar.cmpi .slt v620 c7_i32_308
  let v622 : BitVec 1 := Scalar.andi v617 v621
  let v623 : BitVec 32 := Scalar.select v622 v616 v615
  let c32_i32_309 : BitVec 32 := 32#32
  let v624 : BitVec 32 := Scalar.addi v623 c32_i32_309
  let c2048_i32_310 : BitVec 32 := 2048#32
  let v625 : BitVec 1 := Scalar.cmpi .sle v624 c2048_i32_310
  let c7_i32_312 : BitVec 32 := 7#32
  let v629 : BitVec 1 := Scalar.cmpi .slt v628 c7_i32_312
  let v630 : BitVec 1 := Scalar.andi v625 v629
  let v631 : BitVec 32 := Scalar.select v630 v624 v623
  let c16_i32_313 : BitVec 32 := 16#32
  let v632 : BitVec 32 := Scalar.addi v631 c16_i32_313
  let c2048_i32_314 : BitVec 32 := 2048#32
  let v633 : BitVec 1 := Scalar.cmpi .sle v632 c2048_i32_314
  let c7_i32_316 : BitVec 32 := 7#32
  let v637 : BitVec 1 := Scalar.cmpi .slt v636 c7_i32_316
  let v638 : BitVec 1 := Scalar.andi v633 v637
  let v639 : BitVec 32 := Scalar.select v638 v632 v631
  let c8_i32_317 : BitVec 32 := 8#32
  let v640 : BitVec 32 := Scalar.addi v639 c8_i32_317
  let c2048_i32_318 : BitVec 32 := 2048#32
  let v641 : BitVec 1 := Scalar.cmpi .sle v640 c2048_i32_318
  let c7_i32_320 : BitVec 32 := 7#32
  let v645 : BitVec 1 := Scalar.cmpi .slt v644 c7_i32_320
  let v646 : BitVec 1 := Scalar.andi v641 v645
  let v647 : BitVec 32 := Scalar.select v646 v640 v639
  let c4_i32_321 : BitVec 32 := 4#32
  let v648 : BitVec 32 := Scalar.addi v647 c4_i32_321
  let c2048_i32_322 : BitVec 32 := 2048#32
  let v649 : BitVec 1 := Scalar.cmpi .sle v648 c2048_i32_322
  let c7_i32_324 : BitVec 32 := 7#32
  let v653 : BitVec 1 := Scalar.cmpi .slt v652 c7_i32_324
  let v654 : BitVec 1 := Scalar.andi v649 v653
  let v655 : BitVec 32 := Scalar.select v654 v648 v647
  let c2_i32_325 : BitVec 32 := 2#32
  let v656 : BitVec 32 := Scalar.addi v655 c2_i32_325
  let c2048_i32_326 : BitVec 32 := 2048#32
  let v657 : BitVec 1 := Scalar.cmpi .sle v656 c2048_i32_326
  let c7_i32_328 : BitVec 32 := 7#32
  let v661 : BitVec 1 := Scalar.cmpi .slt v660 c7_i32_328
  let v662 : BitVec 1 := Scalar.andi v657 v661
  let v663 : BitVec 32 := Scalar.select v662 v656 v655
  let c1_i32_329 : BitVec 32 := 1#32
  let v664 : BitVec 32 := Scalar.addi v663 c1_i32_329
  let c2048_i32_330 : BitVec 32 := 2048#32
  let v665 : BitVec 1 := Scalar.cmpi .sle v664 c2048_i32_330
  let c7_i32_332 : BitVec 32 := 7#32
  let v669 : BitVec 1 := Scalar.cmpi .slt v668 c7_i32_332
  let v670 : BitVec 1 := Scalar.andi v665 v669
  let v671 : BitVec 32 := Scalar.select v670 v664 v663
  let c0_i32_386 : BitVec 32 := 0#32
  let v800 : BitVec 1 := Scalar.cmpi .sgt v671 c0_i32_386
  let v801 : BitVec 32 := Scalar.extui v800
  let c0_i32_387 : BitVec 32 := 0#32
  let v802 : BitVec 1 := Scalar.cmpi .slt v671 c0_i32_387
  let v803 : BitVec 32 := Scalar.extui v802
  let v804 : BitVec 32 := Scalar.subi v801 v803
  let c8_i32_385 : BitVec 32 := 8#32
  let c0_i32_388 : BitVec 32 := 0#32
  let v805 : BitVec 1 := Scalar.cmpi .sgt c8_i32_385 c0_i32_388
  let v806 : BitVec 32 := Scalar.extui v805
  let c0_i32_389 : BitVec 32 := 0#32
  let v807 : BitVec 1 := Scalar.cmpi .slt c8_i32_385 c0_i32_389
  let v808 : BitVec 32 := Scalar.extui v807
  let v809 : BitVec 32 := Scalar.subi v806 v808
  let v810 : BitVec 1 := Scalar.cmpi .ne v804 v809
  let v811 : BitVec 32 := Scalar.remsi v671 c8_i32_385
  let c0_i32_390 : BitVec 32 := 0#32
  let v812 : BitVec 1 := Scalar.cmpi .ne v811 c0_i32_390
  let v813 : BitVec 1 := Scalar.andi v810 v812
  let v799 : BitVec 32 := Scalar.divsi v671 c8_i32_385
  let c1_i32_391 : BitVec 32 := 1#32
  let v814 : BitVec 32 := Scalar.subi v799 c1_i32_391
  let v815 : BitVec 32 := Scalar.select v813 v814 v799
  let c8_i32_481 : BitVec 32 := 8#32
  let v961 : BitVec 32 := Scalar.muli v815 c8_i32_481
  let v962 : Index := Scalar.indexCast v961
  let c0_482 : Index := 0#32
  ![v962.toNat, 0]

@[reducible] def k0_t1_loop (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) : Scf.Loop 32 :=
  let c0_i32_494 : BitVec 32 := 0#32
  let c0_i32 : BitVec 32 := 0#32
  let c2048_i32 : BitVec 32 := 2048#32
  let v0 : BitVec 32 := Scalar.addi c0_i32 c2048_i32
  let c2048_i32_0 : BitVec 32 := 2048#32
  let v1 : BitVec 1 := Scalar.cmpi .sle v0 c2048_i32_0
  let c1_i32_1 : BitVec 32 := 1#32
  let v5 : BitVec 1 := Scalar.cmpi .slt v4 c1_i32_1
  let v6 : BitVec 1 := Scalar.andi v1 v5
  let c0_i32_2 : BitVec 32 := 0#32
  let v7 : BitVec 32 := Scalar.select v6 v0 c0_i32_2
  let c1024_i32 : BitVec 32 := 1024#32
  let v8 : BitVec 32 := Scalar.addi v7 c1024_i32
  let c2048_i32_3 : BitVec 32 := 2048#32
  let v9 : BitVec 1 := Scalar.cmpi .sle v8 c2048_i32_3
  let c1_i32_5 : BitVec 32 := 1#32
  let v13 : BitVec 1 := Scalar.cmpi .slt v12 c1_i32_5
  let v14 : BitVec 1 := Scalar.andi v9 v13
  let v15 : BitVec 32 := Scalar.select v14 v8 v7
  let c512_i32 : BitVec 32 := 512#32
  let v16 : BitVec 32 := Scalar.addi v15 c512_i32
  let c2048_i32_6 : BitVec 32 := 2048#32
  let v17 : BitVec 1 := Scalar.cmpi .sle v16 c2048_i32_6
  let c1_i32_8 : BitVec 32 := 1#32
  let v21 : BitVec 1 := Scalar.cmpi .slt v20 c1_i32_8
  let v22 : BitVec 1 := Scalar.andi v17 v21
  let v23 : BitVec 32 := Scalar.select v22 v16 v15
  let c256_i32 : BitVec 32 := 256#32
  let v24 : BitVec 32 := Scalar.addi v23 c256_i32
  let c2048_i32_9 : BitVec 32 := 2048#32
  let v25 : BitVec 1 := Scalar.cmpi .sle v24 c2048_i32_9
  let c1_i32_11 : BitVec 32 := 1#32
  let v29 : BitVec 1 := Scalar.cmpi .slt v28 c1_i32_11
  let v30 : BitVec 1 := Scalar.andi v25 v29
  let v31 : BitVec 32 := Scalar.select v30 v24 v23
  let c128_i32 : BitVec 32 := 128#32
  let v32 : BitVec 32 := Scalar.addi v31 c128_i32
  let c2048_i32_12 : BitVec 32 := 2048#32
  let v33 : BitVec 1 := Scalar.cmpi .sle v32 c2048_i32_12
  let c1_i32_14 : BitVec 32 := 1#32
  let v37 : BitVec 1 := Scalar.cmpi .slt v36 c1_i32_14
  let v38 : BitVec 1 := Scalar.andi v33 v37
  let v39 : BitVec 32 := Scalar.select v38 v32 v31
  let c64_i32 : BitVec 32 := 64#32
  let v40 : BitVec 32 := Scalar.addi v39 c64_i32
  let c2048_i32_15 : BitVec 32 := 2048#32
  let v41 : BitVec 1 := Scalar.cmpi .sle v40 c2048_i32_15
  let c1_i32_17 : BitVec 32 := 1#32
  let v45 : BitVec 1 := Scalar.cmpi .slt v44 c1_i32_17
  let v46 : BitVec 1 := Scalar.andi v41 v45
  let v47 : BitVec 32 := Scalar.select v46 v40 v39
  let c32_i32 : BitVec 32 := 32#32
  let v48 : BitVec 32 := Scalar.addi v47 c32_i32
  let c2048_i32_18 : BitVec 32 := 2048#32
  let v49 : BitVec 1 := Scalar.cmpi .sle v48 c2048_i32_18
  let c1_i32_20 : BitVec 32 := 1#32
  let v53 : BitVec 1 := Scalar.cmpi .slt v52 c1_i32_20
  let v54 : BitVec 1 := Scalar.andi v49 v53
  let v55 : BitVec 32 := Scalar.select v54 v48 v47
  let c16_i32 : BitVec 32 := 16#32
  let v56 : BitVec 32 := Scalar.addi v55 c16_i32
  let c2048_i32_21 : BitVec 32 := 2048#32
  let v57 : BitVec 1 := Scalar.cmpi .sle v56 c2048_i32_21
  let c1_i32_23 : BitVec 32 := 1#32
  let v61 : BitVec 1 := Scalar.cmpi .slt v60 c1_i32_23
  let v62 : BitVec 1 := Scalar.andi v57 v61
  let v63 : BitVec 32 := Scalar.select v62 v56 v55
  let c8_i32 : BitVec 32 := 8#32
  let v64 : BitVec 32 := Scalar.addi v63 c8_i32
  let c2048_i32_24 : BitVec 32 := 2048#32
  let v65 : BitVec 1 := Scalar.cmpi .sle v64 c2048_i32_24
  let c1_i32_26 : BitVec 32 := 1#32
  let v69 : BitVec 1 := Scalar.cmpi .slt v68 c1_i32_26
  let v70 : BitVec 1 := Scalar.andi v65 v69
  let v71 : BitVec 32 := Scalar.select v70 v64 v63
  let c4_i32 : BitVec 32 := 4#32
  let v72 : BitVec 32 := Scalar.addi v71 c4_i32
  let c2048_i32_27 : BitVec 32 := 2048#32
  let v73 : BitVec 1 := Scalar.cmpi .sle v72 c2048_i32_27
  let c1_i32_29 : BitVec 32 := 1#32
  let v77 : BitVec 1 := Scalar.cmpi .slt v76 c1_i32_29
  let v78 : BitVec 1 := Scalar.andi v73 v77
  let v79 : BitVec 32 := Scalar.select v78 v72 v71
  let c2_i32 : BitVec 32 := 2#32
  let v80 : BitVec 32 := Scalar.addi v79 c2_i32
  let c2048_i32_30 : BitVec 32 := 2048#32
  let v81 : BitVec 1 := Scalar.cmpi .sle v80 c2048_i32_30
  let c1_i32_32 : BitVec 32 := 1#32
  let v85 : BitVec 1 := Scalar.cmpi .slt v84 c1_i32_32
  let v86 : BitVec 1 := Scalar.andi v81 v85
  let v87 : BitVec 32 := Scalar.select v86 v80 v79
  let c1_i32_33 : BitVec 32 := 1#32
  let v88 : BitVec 32 := Scalar.addi v87 c1_i32_33
  let c2048_i32_34 : BitVec 32 := 2048#32
  let v89 : BitVec 1 := Scalar.cmpi .sle v88 c2048_i32_34
  let c1_i32_36 : BitVec 32 := 1#32
  let v93 : BitVec 1 := Scalar.cmpi .slt v92 c1_i32_36
  let v94 : BitVec 1 := Scalar.andi v89 v93
  let v95 : BitVec 32 := Scalar.select v94 v88 v87
  let c0_i32_333 : BitVec 32 := 0#32
  let v672 : BitVec 32 := Scalar.subi v95 c0_i32_333
  let c0_i32_393 : BitVec 32 := 0#32
  let c0_i32_335 : BitVec 32 := 0#32
  let c0_i32_337 : BitVec 32 := 0#32
  let v681 : BitVec 1 := Scalar.cmpi .sgt c0_i32_335 c0_i32_337
  let v682 : BitVec 32 := Scalar.extui v681
  let c0_i32_338 : BitVec 32 := 0#32
  let v683 : BitVec 1 := Scalar.cmpi .slt c0_i32_335 c0_i32_338
  let v684 : BitVec 32 := Scalar.extui v683
  let v685 : BitVec 32 := Scalar.subi v682 v684
  let c8_i32_336 : BitVec 32 := 8#32
  let c0_i32_339 : BitVec 32 := 0#32
  let v686 : BitVec 1 := Scalar.cmpi .sgt c8_i32_336 c0_i32_339
  let v687 : BitVec 32 := Scalar.extui v686
  let c0_i32_340 : BitVec 32 := 0#32
  let v688 : BitVec 1 := Scalar.cmpi .slt c8_i32_336 c0_i32_340
  let v689 : BitVec 32 := Scalar.extui v688
  let v690 : BitVec 32 := Scalar.subi v687 v689
  let v691 : BitVec 1 := Scalar.cmpi .ne v685 v690
  let v692 : BitVec 32 := Scalar.remsi c0_i32_335 c8_i32_336
  let c0_i32_341 : BitVec 32 := 0#32
  let v693 : BitVec 1 := Scalar.cmpi .ne v692 c0_i32_341
  let v694 : BitVec 1 := Scalar.andi v691 v693
  let v680 : BitVec 32 := Scalar.divsi c0_i32_335 c8_i32_336
  let c1_i32_342 : BitVec 32 := 1#32
  let v695 : BitVec 32 := Scalar.subi v680 c1_i32_342
  let v696 : BitVec 32 := Scalar.select v694 v695 v680
  let c8_i32_392 : BitVec 32 := 8#32
  let v816 : BitVec 32 := Scalar.muli v696 c8_i32_392
  let v817 : BitVec 32 := Scalar.subi c0_i32_393 v816
  let v967 : BitVec 32 := Scalar.addi v672 v817
  let c0_i32_37 : BitVec 32 := 0#32
  let c2048_i32_38 : BitVec 32 := 2048#32
  let v96 : BitVec 32 := Scalar.addi c0_i32_37 c2048_i32_38
  let c2048_i32_39 : BitVec 32 := 2048#32
  let v97 : BitVec 1 := Scalar.cmpi .sle v96 c2048_i32_39
  let c2_i32_41 : BitVec 32 := 2#32
  let v101 : BitVec 1 := Scalar.cmpi .slt v100 c2_i32_41
  let v102 : BitVec 1 := Scalar.andi v97 v101
  let c0_i32_42 : BitVec 32 := 0#32
  let v103 : BitVec 32 := Scalar.select v102 v96 c0_i32_42
  let c1024_i32_43 : BitVec 32 := 1024#32
  let v104 : BitVec 32 := Scalar.addi v103 c1024_i32_43
  let c2048_i32_44 : BitVec 32 := 2048#32
  let v105 : BitVec 1 := Scalar.cmpi .sle v104 c2048_i32_44
  let c2_i32_46 : BitVec 32 := 2#32
  let v109 : BitVec 1 := Scalar.cmpi .slt v108 c2_i32_46
  let v110 : BitVec 1 := Scalar.andi v105 v109
  let v111 : BitVec 32 := Scalar.select v110 v104 v103
  let c512_i32_47 : BitVec 32 := 512#32
  let v112 : BitVec 32 := Scalar.addi v111 c512_i32_47
  let c2048_i32_48 : BitVec 32 := 2048#32
  let v113 : BitVec 1 := Scalar.cmpi .sle v112 c2048_i32_48
  let c2_i32_50 : BitVec 32 := 2#32
  let v117 : BitVec 1 := Scalar.cmpi .slt v116 c2_i32_50
  let v118 : BitVec 1 := Scalar.andi v113 v117
  let v119 : BitVec 32 := Scalar.select v118 v112 v111
  let c256_i32_51 : BitVec 32 := 256#32
  let v120 : BitVec 32 := Scalar.addi v119 c256_i32_51
  let c2048_i32_52 : BitVec 32 := 2048#32
  let v121 : BitVec 1 := Scalar.cmpi .sle v120 c2048_i32_52
  let c2_i32_54 : BitVec 32 := 2#32
  let v125 : BitVec 1 := Scalar.cmpi .slt v124 c2_i32_54
  let v126 : BitVec 1 := Scalar.andi v121 v125
  let v127 : BitVec 32 := Scalar.select v126 v120 v119
  let c128_i32_55 : BitVec 32 := 128#32
  let v128 : BitVec 32 := Scalar.addi v127 c128_i32_55
  let c2048_i32_56 : BitVec 32 := 2048#32
  let v129 : BitVec 1 := Scalar.cmpi .sle v128 c2048_i32_56
  let c2_i32_58 : BitVec 32 := 2#32
  let v133 : BitVec 1 := Scalar.cmpi .slt v132 c2_i32_58
  let v134 : BitVec 1 := Scalar.andi v129 v133
  let v135 : BitVec 32 := Scalar.select v134 v128 v127
  let c64_i32_59 : BitVec 32 := 64#32
  let v136 : BitVec 32 := Scalar.addi v135 c64_i32_59
  let c2048_i32_60 : BitVec 32 := 2048#32
  let v137 : BitVec 1 := Scalar.cmpi .sle v136 c2048_i32_60
  let c2_i32_62 : BitVec 32 := 2#32
  let v141 : BitVec 1 := Scalar.cmpi .slt v140 c2_i32_62
  let v142 : BitVec 1 := Scalar.andi v137 v141
  let v143 : BitVec 32 := Scalar.select v142 v136 v135
  let c32_i32_63 : BitVec 32 := 32#32
  let v144 : BitVec 32 := Scalar.addi v143 c32_i32_63
  let c2048_i32_64 : BitVec 32 := 2048#32
  let v145 : BitVec 1 := Scalar.cmpi .sle v144 c2048_i32_64
  let c2_i32_66 : BitVec 32 := 2#32
  let v149 : BitVec 1 := Scalar.cmpi .slt v148 c2_i32_66
  let v150 : BitVec 1 := Scalar.andi v145 v149
  let v151 : BitVec 32 := Scalar.select v150 v144 v143
  let c16_i32_67 : BitVec 32 := 16#32
  let v152 : BitVec 32 := Scalar.addi v151 c16_i32_67
  let c2048_i32_68 : BitVec 32 := 2048#32
  let v153 : BitVec 1 := Scalar.cmpi .sle v152 c2048_i32_68
  let c2_i32_70 : BitVec 32 := 2#32
  let v157 : BitVec 1 := Scalar.cmpi .slt v156 c2_i32_70
  let v158 : BitVec 1 := Scalar.andi v153 v157
  let v159 : BitVec 32 := Scalar.select v158 v152 v151
  let c8_i32_71 : BitVec 32 := 8#32
  let v160 : BitVec 32 := Scalar.addi v159 c8_i32_71
  let c2048_i32_72 : BitVec 32 := 2048#32
  let v161 : BitVec 1 := Scalar.cmpi .sle v160 c2048_i32_72
  let c2_i32_74 : BitVec 32 := 2#32
  let v165 : BitVec 1 := Scalar.cmpi .slt v164 c2_i32_74
  let v166 : BitVec 1 := Scalar.andi v161 v165
  let v167 : BitVec 32 := Scalar.select v166 v160 v159
  let c4_i32_75 : BitVec 32 := 4#32
  let v168 : BitVec 32 := Scalar.addi v167 c4_i32_75
  let c2048_i32_76 : BitVec 32 := 2048#32
  let v169 : BitVec 1 := Scalar.cmpi .sle v168 c2048_i32_76
  let c2_i32_78 : BitVec 32 := 2#32
  let v173 : BitVec 1 := Scalar.cmpi .slt v172 c2_i32_78
  let v174 : BitVec 1 := Scalar.andi v169 v173
  let v175 : BitVec 32 := Scalar.select v174 v168 v167
  let c2_i32_79 : BitVec 32 := 2#32
  let v176 : BitVec 32 := Scalar.addi v175 c2_i32_79
  let c2048_i32_80 : BitVec 32 := 2048#32
  let v177 : BitVec 1 := Scalar.cmpi .sle v176 c2048_i32_80
  let c2_i32_82 : BitVec 32 := 2#32
  let v181 : BitVec 1 := Scalar.cmpi .slt v180 c2_i32_82
  let v182 : BitVec 1 := Scalar.andi v177 v181
  let v183 : BitVec 32 := Scalar.select v182 v176 v175
  let c1_i32_83 : BitVec 32 := 1#32
  let v184 : BitVec 32 := Scalar.addi v183 c1_i32_83
  let c2048_i32_84 : BitVec 32 := 2048#32
  let v185 : BitVec 1 := Scalar.cmpi .sle v184 c2048_i32_84
  let c2_i32_86 : BitVec 32 := 2#32
  let v189 : BitVec 1 := Scalar.cmpi .slt v188 c2_i32_86
  let v190 : BitVec 1 := Scalar.andi v185 v189
  let v191 : BitVec 32 := Scalar.select v190 v184 v183
  let v673 : BitVec 32 := Scalar.subi v191 v95
  let c0_i32_344 : BitVec 32 := 0#32
  let v698 : BitVec 1 := Scalar.cmpi .sgt v95 c0_i32_344
  let v699 : BitVec 32 := Scalar.extui v698
  let c0_i32_345 : BitVec 32 := 0#32
  let v700 : BitVec 1 := Scalar.cmpi .slt v95 c0_i32_345
  let v701 : BitVec 32 := Scalar.extui v700
  let v702 : BitVec 32 := Scalar.subi v699 v701
  let c8_i32_343 : BitVec 32 := 8#32
  let c0_i32_346 : BitVec 32 := 0#32
  let v703 : BitVec 1 := Scalar.cmpi .sgt c8_i32_343 c0_i32_346
  let v704 : BitVec 32 := Scalar.extui v703
  let c0_i32_347 : BitVec 32 := 0#32
  let v705 : BitVec 1 := Scalar.cmpi .slt c8_i32_343 c0_i32_347
  let v706 : BitVec 32 := Scalar.extui v705
  let v707 : BitVec 32 := Scalar.subi v704 v706
  let v708 : BitVec 1 := Scalar.cmpi .ne v702 v707
  let v709 : BitVec 32 := Scalar.remsi v95 c8_i32_343
  let c0_i32_348 : BitVec 32 := 0#32
  let v710 : BitVec 1 := Scalar.cmpi .ne v709 c0_i32_348
  let v711 : BitVec 1 := Scalar.andi v708 v710
  let v697 : BitVec 32 := Scalar.divsi v95 c8_i32_343
  let c1_i32_349 : BitVec 32 := 1#32
  let v712 : BitVec 32 := Scalar.subi v697 c1_i32_349
  let v713 : BitVec 32 := Scalar.select v711 v712 v697
  let c8_i32_394 : BitVec 32 := 8#32
  let v818 : BitVec 32 := Scalar.muli v713 c8_i32_394
  let v819 : BitVec 32 := Scalar.subi v95 v818
  let v968 : BitVec 32 := Scalar.addi v673 v819
  let v969 : BitVec 32 := Scalar.maxsi v967 v968
  let c0_i32_87 : BitVec 32 := 0#32
  let c2048_i32_88 : BitVec 32 := 2048#32
  let v192 : BitVec 32 := Scalar.addi c0_i32_87 c2048_i32_88
  let c2048_i32_89 : BitVec 32 := 2048#32
  let v193 : BitVec 1 := Scalar.cmpi .sle v192 c2048_i32_89
  let c3_i32 : BitVec 32 := 3#32
  let v197 : BitVec 1 := Scalar.cmpi .slt v196 c3_i32
  let v198 : BitVec 1 := Scalar.andi v193 v197
  let c0_i32_91 : BitVec 32 := 0#32
  let v199 : BitVec 32 := Scalar.select v198 v192 c0_i32_91
  let c1024_i32_92 : BitVec 32 := 1024#32
  let v200 : BitVec 32 := Scalar.addi v199 c1024_i32_92
  let c2048_i32_93 : BitVec 32 := 2048#32
  let v201 : BitVec 1 := Scalar.cmpi .sle v200 c2048_i32_93
  let c3_i32_95 : BitVec 32 := 3#32
  let v205 : BitVec 1 := Scalar.cmpi .slt v204 c3_i32_95
  let v206 : BitVec 1 := Scalar.andi v201 v205
  let v207 : BitVec 32 := Scalar.select v206 v200 v199
  let c512_i32_96 : BitVec 32 := 512#32
  let v208 : BitVec 32 := Scalar.addi v207 c512_i32_96
  let c2048_i32_97 : BitVec 32 := 2048#32
  let v209 : BitVec 1 := Scalar.cmpi .sle v208 c2048_i32_97
  let c3_i32_99 : BitVec 32 := 3#32
  let v213 : BitVec 1 := Scalar.cmpi .slt v212 c3_i32_99
  let v214 : BitVec 1 := Scalar.andi v209 v213
  let v215 : BitVec 32 := Scalar.select v214 v208 v207
  let c256_i32_100 : BitVec 32 := 256#32
  let v216 : BitVec 32 := Scalar.addi v215 c256_i32_100
  let c2048_i32_101 : BitVec 32 := 2048#32
  let v217 : BitVec 1 := Scalar.cmpi .sle v216 c2048_i32_101
  let c3_i32_103 : BitVec 32 := 3#32
  let v221 : BitVec 1 := Scalar.cmpi .slt v220 c3_i32_103
  let v222 : BitVec 1 := Scalar.andi v217 v221
  let v223 : BitVec 32 := Scalar.select v222 v216 v215
  let c128_i32_104 : BitVec 32 := 128#32
  let v224 : BitVec 32 := Scalar.addi v223 c128_i32_104
  let c2048_i32_105 : BitVec 32 := 2048#32
  let v225 : BitVec 1 := Scalar.cmpi .sle v224 c2048_i32_105
  let c3_i32_107 : BitVec 32 := 3#32
  let v229 : BitVec 1 := Scalar.cmpi .slt v228 c3_i32_107
  let v230 : BitVec 1 := Scalar.andi v225 v229
  let v231 : BitVec 32 := Scalar.select v230 v224 v223
  let c64_i32_108 : BitVec 32 := 64#32
  let v232 : BitVec 32 := Scalar.addi v231 c64_i32_108
  let c2048_i32_109 : BitVec 32 := 2048#32
  let v233 : BitVec 1 := Scalar.cmpi .sle v232 c2048_i32_109
  let c3_i32_111 : BitVec 32 := 3#32
  let v237 : BitVec 1 := Scalar.cmpi .slt v236 c3_i32_111
  let v238 : BitVec 1 := Scalar.andi v233 v237
  let v239 : BitVec 32 := Scalar.select v238 v232 v231
  let c32_i32_112 : BitVec 32 := 32#32
  let v240 : BitVec 32 := Scalar.addi v239 c32_i32_112
  let c2048_i32_113 : BitVec 32 := 2048#32
  let v241 : BitVec 1 := Scalar.cmpi .sle v240 c2048_i32_113
  let c3_i32_115 : BitVec 32 := 3#32
  let v245 : BitVec 1 := Scalar.cmpi .slt v244 c3_i32_115
  let v246 : BitVec 1 := Scalar.andi v241 v245
  let v247 : BitVec 32 := Scalar.select v246 v240 v239
  let c16_i32_116 : BitVec 32 := 16#32
  let v248 : BitVec 32 := Scalar.addi v247 c16_i32_116
  let c2048_i32_117 : BitVec 32 := 2048#32
  let v249 : BitVec 1 := Scalar.cmpi .sle v248 c2048_i32_117
  let c3_i32_119 : BitVec 32 := 3#32
  let v253 : BitVec 1 := Scalar.cmpi .slt v252 c3_i32_119
  let v254 : BitVec 1 := Scalar.andi v249 v253
  let v255 : BitVec 32 := Scalar.select v254 v248 v247
  let c8_i32_120 : BitVec 32 := 8#32
  let v256 : BitVec 32 := Scalar.addi v255 c8_i32_120
  let c2048_i32_121 : BitVec 32 := 2048#32
  let v257 : BitVec 1 := Scalar.cmpi .sle v256 c2048_i32_121
  let c3_i32_123 : BitVec 32 := 3#32
  let v261 : BitVec 1 := Scalar.cmpi .slt v260 c3_i32_123
  let v262 : BitVec 1 := Scalar.andi v257 v261
  let v263 : BitVec 32 := Scalar.select v262 v256 v255
  let c4_i32_124 : BitVec 32 := 4#32
  let v264 : BitVec 32 := Scalar.addi v263 c4_i32_124
  let c2048_i32_125 : BitVec 32 := 2048#32
  let v265 : BitVec 1 := Scalar.cmpi .sle v264 c2048_i32_125
  let c3_i32_127 : BitVec 32 := 3#32
  let v269 : BitVec 1 := Scalar.cmpi .slt v268 c3_i32_127
  let v270 : BitVec 1 := Scalar.andi v265 v269
  let v271 : BitVec 32 := Scalar.select v270 v264 v263
  let c2_i32_128 : BitVec 32 := 2#32
  let v272 : BitVec 32 := Scalar.addi v271 c2_i32_128
  let c2048_i32_129 : BitVec 32 := 2048#32
  let v273 : BitVec 1 := Scalar.cmpi .sle v272 c2048_i32_129
  let c3_i32_131 : BitVec 32 := 3#32
  let v277 : BitVec 1 := Scalar.cmpi .slt v276 c3_i32_131
  let v278 : BitVec 1 := Scalar.andi v273 v277
  let v279 : BitVec 32 := Scalar.select v278 v272 v271
  let c1_i32_132 : BitVec 32 := 1#32
  let v280 : BitVec 32 := Scalar.addi v279 c1_i32_132
  let c2048_i32_133 : BitVec 32 := 2048#32
  let v281 : BitVec 1 := Scalar.cmpi .sle v280 c2048_i32_133
  let c3_i32_135 : BitVec 32 := 3#32
  let v285 : BitVec 1 := Scalar.cmpi .slt v284 c3_i32_135
  let v286 : BitVec 1 := Scalar.andi v281 v285
  let v287 : BitVec 32 := Scalar.select v286 v280 v279
  let v674 : BitVec 32 := Scalar.subi v287 v191
  let c0_i32_351 : BitVec 32 := 0#32
  let v715 : BitVec 1 := Scalar.cmpi .sgt v191 c0_i32_351
  let v716 : BitVec 32 := Scalar.extui v715
  let c0_i32_352 : BitVec 32 := 0#32
  let v717 : BitVec 1 := Scalar.cmpi .slt v191 c0_i32_352
  let v718 : BitVec 32 := Scalar.extui v717
  let v719 : BitVec 32 := Scalar.subi v716 v718
  let c8_i32_350 : BitVec 32 := 8#32
  let c0_i32_353 : BitVec 32 := 0#32
  let v720 : BitVec 1 := Scalar.cmpi .sgt c8_i32_350 c0_i32_353
  let v721 : BitVec 32 := Scalar.extui v720
  let c0_i32_354 : BitVec 32 := 0#32
  let v722 : BitVec 1 := Scalar.cmpi .slt c8_i32_350 c0_i32_354
  let v723 : BitVec 32 := Scalar.extui v722
  let v724 : BitVec 32 := Scalar.subi v721 v723
  let v725 : BitVec 1 := Scalar.cmpi .ne v719 v724
  let v726 : BitVec 32 := Scalar.remsi v191 c8_i32_350
  let c0_i32_355 : BitVec 32 := 0#32
  let v727 : BitVec 1 := Scalar.cmpi .ne v726 c0_i32_355
  let v728 : BitVec 1 := Scalar.andi v725 v727
  let v714 : BitVec 32 := Scalar.divsi v191 c8_i32_350
  let c1_i32_356 : BitVec 32 := 1#32
  let v729 : BitVec 32 := Scalar.subi v714 c1_i32_356
  let v730 : BitVec 32 := Scalar.select v728 v729 v714
  let c8_i32_395 : BitVec 32 := 8#32
  let v820 : BitVec 32 := Scalar.muli v730 c8_i32_395
  let v821 : BitVec 32 := Scalar.subi v191 v820
  let v970 : BitVec 32 := Scalar.addi v674 v821
  let v971 : BitVec 32 := Scalar.maxsi v969 v970
  let c0_i32_136 : BitVec 32 := 0#32
  let c2048_i32_137 : BitVec 32 := 2048#32
  let v288 : BitVec 32 := Scalar.addi c0_i32_136 c2048_i32_137
  let c2048_i32_138 : BitVec 32 := 2048#32
  let v289 : BitVec 1 := Scalar.cmpi .sle v288 c2048_i32_138
  let c4_i32_140 : BitVec 32 := 4#32
  let v293 : BitVec 1 := Scalar.cmpi .slt v292 c4_i32_140
  let v294 : BitVec 1 := Scalar.andi v289 v293
  let c0_i32_141 : BitVec 32 := 0#32
  let v295 : BitVec 32 := Scalar.select v294 v288 c0_i32_141
  let c1024_i32_142 : BitVec 32 := 1024#32
  let v296 : BitVec 32 := Scalar.addi v295 c1024_i32_142
  let c2048_i32_143 : BitVec 32 := 2048#32
  let v297 : BitVec 1 := Scalar.cmpi .sle v296 c2048_i32_143
  let c4_i32_145 : BitVec 32 := 4#32
  let v301 : BitVec 1 := Scalar.cmpi .slt v300 c4_i32_145
  let v302 : BitVec 1 := Scalar.andi v297 v301
  let v303 : BitVec 32 := Scalar.select v302 v296 v295
  let c512_i32_146 : BitVec 32 := 512#32
  let v304 : BitVec 32 := Scalar.addi v303 c512_i32_146
  let c2048_i32_147 : BitVec 32 := 2048#32
  let v305 : BitVec 1 := Scalar.cmpi .sle v304 c2048_i32_147
  let c4_i32_149 : BitVec 32 := 4#32
  let v309 : BitVec 1 := Scalar.cmpi .slt v308 c4_i32_149
  let v310 : BitVec 1 := Scalar.andi v305 v309
  let v311 : BitVec 32 := Scalar.select v310 v304 v303
  let c256_i32_150 : BitVec 32 := 256#32
  let v312 : BitVec 32 := Scalar.addi v311 c256_i32_150
  let c2048_i32_151 : BitVec 32 := 2048#32
  let v313 : BitVec 1 := Scalar.cmpi .sle v312 c2048_i32_151
  let c4_i32_153 : BitVec 32 := 4#32
  let v317 : BitVec 1 := Scalar.cmpi .slt v316 c4_i32_153
  let v318 : BitVec 1 := Scalar.andi v313 v317
  let v319 : BitVec 32 := Scalar.select v318 v312 v311
  let c128_i32_154 : BitVec 32 := 128#32
  let v320 : BitVec 32 := Scalar.addi v319 c128_i32_154
  let c2048_i32_155 : BitVec 32 := 2048#32
  let v321 : BitVec 1 := Scalar.cmpi .sle v320 c2048_i32_155
  let c4_i32_157 : BitVec 32 := 4#32
  let v325 : BitVec 1 := Scalar.cmpi .slt v324 c4_i32_157
  let v326 : BitVec 1 := Scalar.andi v321 v325
  let v327 : BitVec 32 := Scalar.select v326 v320 v319
  let c64_i32_158 : BitVec 32 := 64#32
  let v328 : BitVec 32 := Scalar.addi v327 c64_i32_158
  let c2048_i32_159 : BitVec 32 := 2048#32
  let v329 : BitVec 1 := Scalar.cmpi .sle v328 c2048_i32_159
  let c4_i32_161 : BitVec 32 := 4#32
  let v333 : BitVec 1 := Scalar.cmpi .slt v332 c4_i32_161
  let v334 : BitVec 1 := Scalar.andi v329 v333
  let v335 : BitVec 32 := Scalar.select v334 v328 v327
  let c32_i32_162 : BitVec 32 := 32#32
  let v336 : BitVec 32 := Scalar.addi v335 c32_i32_162
  let c2048_i32_163 : BitVec 32 := 2048#32
  let v337 : BitVec 1 := Scalar.cmpi .sle v336 c2048_i32_163
  let c4_i32_165 : BitVec 32 := 4#32
  let v341 : BitVec 1 := Scalar.cmpi .slt v340 c4_i32_165
  let v342 : BitVec 1 := Scalar.andi v337 v341
  let v343 : BitVec 32 := Scalar.select v342 v336 v335
  let c16_i32_166 : BitVec 32 := 16#32
  let v344 : BitVec 32 := Scalar.addi v343 c16_i32_166
  let c2048_i32_167 : BitVec 32 := 2048#32
  let v345 : BitVec 1 := Scalar.cmpi .sle v344 c2048_i32_167
  let c4_i32_169 : BitVec 32 := 4#32
  let v349 : BitVec 1 := Scalar.cmpi .slt v348 c4_i32_169
  let v350 : BitVec 1 := Scalar.andi v345 v349
  let v351 : BitVec 32 := Scalar.select v350 v344 v343
  let c8_i32_170 : BitVec 32 := 8#32
  let v352 : BitVec 32 := Scalar.addi v351 c8_i32_170
  let c2048_i32_171 : BitVec 32 := 2048#32
  let v353 : BitVec 1 := Scalar.cmpi .sle v352 c2048_i32_171
  let c4_i32_173 : BitVec 32 := 4#32
  let v357 : BitVec 1 := Scalar.cmpi .slt v356 c4_i32_173
  let v358 : BitVec 1 := Scalar.andi v353 v357
  let v359 : BitVec 32 := Scalar.select v358 v352 v351
  let c4_i32_174 : BitVec 32 := 4#32
  let v360 : BitVec 32 := Scalar.addi v359 c4_i32_174
  let c2048_i32_175 : BitVec 32 := 2048#32
  let v361 : BitVec 1 := Scalar.cmpi .sle v360 c2048_i32_175
  let c4_i32_177 : BitVec 32 := 4#32
  let v365 : BitVec 1 := Scalar.cmpi .slt v364 c4_i32_177
  let v366 : BitVec 1 := Scalar.andi v361 v365
  let v367 : BitVec 32 := Scalar.select v366 v360 v359
  let c2_i32_178 : BitVec 32 := 2#32
  let v368 : BitVec 32 := Scalar.addi v367 c2_i32_178
  let c2048_i32_179 : BitVec 32 := 2048#32
  let v369 : BitVec 1 := Scalar.cmpi .sle v368 c2048_i32_179
  let c4_i32_181 : BitVec 32 := 4#32
  let v373 : BitVec 1 := Scalar.cmpi .slt v372 c4_i32_181
  let v374 : BitVec 1 := Scalar.andi v369 v373
  let v375 : BitVec 32 := Scalar.select v374 v368 v367
  let c1_i32_182 : BitVec 32 := 1#32
  let v376 : BitVec 32 := Scalar.addi v375 c1_i32_182
  let c2048_i32_183 : BitVec 32 := 2048#32
  let v377 : BitVec 1 := Scalar.cmpi .sle v376 c2048_i32_183
  let c4_i32_185 : BitVec 32 := 4#32
  let v381 : BitVec 1 := Scalar.cmpi .slt v380 c4_i32_185
  let v382 : BitVec 1 := Scalar.andi v377 v381
  let v383 : BitVec 32 := Scalar.select v382 v376 v375
  let v675 : BitVec 32 := Scalar.subi v383 v287
  let c0_i32_358 : BitVec 32 := 0#32
  let v732 : BitVec 1 := Scalar.cmpi .sgt v287 c0_i32_358
  let v733 : BitVec 32 := Scalar.extui v732
  let c0_i32_359 : BitVec 32 := 0#32
  let v734 : BitVec 1 := Scalar.cmpi .slt v287 c0_i32_359
  let v735 : BitVec 32 := Scalar.extui v734
  let v736 : BitVec 32 := Scalar.subi v733 v735
  let c8_i32_357 : BitVec 32 := 8#32
  let c0_i32_360 : BitVec 32 := 0#32
  let v737 : BitVec 1 := Scalar.cmpi .sgt c8_i32_357 c0_i32_360
  let v738 : BitVec 32 := Scalar.extui v737
  let c0_i32_361 : BitVec 32 := 0#32
  let v739 : BitVec 1 := Scalar.cmpi .slt c8_i32_357 c0_i32_361
  let v740 : BitVec 32 := Scalar.extui v739
  let v741 : BitVec 32 := Scalar.subi v738 v740
  let v742 : BitVec 1 := Scalar.cmpi .ne v736 v741
  let v743 : BitVec 32 := Scalar.remsi v287 c8_i32_357
  let c0_i32_362 : BitVec 32 := 0#32
  let v744 : BitVec 1 := Scalar.cmpi .ne v743 c0_i32_362
  let v745 : BitVec 1 := Scalar.andi v742 v744
  let v731 : BitVec 32 := Scalar.divsi v287 c8_i32_357
  let c1_i32_363 : BitVec 32 := 1#32
  let v746 : BitVec 32 := Scalar.subi v731 c1_i32_363
  let v747 : BitVec 32 := Scalar.select v745 v746 v731
  let c8_i32_396 : BitVec 32 := 8#32
  let v822 : BitVec 32 := Scalar.muli v747 c8_i32_396
  let v823 : BitVec 32 := Scalar.subi v287 v822
  let v972 : BitVec 32 := Scalar.addi v675 v823
  let v973 : BitVec 32 := Scalar.maxsi v971 v972
  let c0_i32_186 : BitVec 32 := 0#32
  let c2048_i32_187 : BitVec 32 := 2048#32
  let v384 : BitVec 32 := Scalar.addi c0_i32_186 c2048_i32_187
  let c2048_i32_188 : BitVec 32 := 2048#32
  let v385 : BitVec 1 := Scalar.cmpi .sle v384 c2048_i32_188
  let c5_i32 : BitVec 32 := 5#32
  let v389 : BitVec 1 := Scalar.cmpi .slt v388 c5_i32
  let v390 : BitVec 1 := Scalar.andi v385 v389
  let c0_i32_190 : BitVec 32 := 0#32
  let v391 : BitVec 32 := Scalar.select v390 v384 c0_i32_190
  let c1024_i32_191 : BitVec 32 := 1024#32
  let v392 : BitVec 32 := Scalar.addi v391 c1024_i32_191
  let c2048_i32_192 : BitVec 32 := 2048#32
  let v393 : BitVec 1 := Scalar.cmpi .sle v392 c2048_i32_192
  let c5_i32_194 : BitVec 32 := 5#32
  let v397 : BitVec 1 := Scalar.cmpi .slt v396 c5_i32_194
  let v398 : BitVec 1 := Scalar.andi v393 v397
  let v399 : BitVec 32 := Scalar.select v398 v392 v391
  let c512_i32_195 : BitVec 32 := 512#32
  let v400 : BitVec 32 := Scalar.addi v399 c512_i32_195
  let c2048_i32_196 : BitVec 32 := 2048#32
  let v401 : BitVec 1 := Scalar.cmpi .sle v400 c2048_i32_196
  let c5_i32_198 : BitVec 32 := 5#32
  let v405 : BitVec 1 := Scalar.cmpi .slt v404 c5_i32_198
  let v406 : BitVec 1 := Scalar.andi v401 v405
  let v407 : BitVec 32 := Scalar.select v406 v400 v399
  let c256_i32_199 : BitVec 32 := 256#32
  let v408 : BitVec 32 := Scalar.addi v407 c256_i32_199
  let c2048_i32_200 : BitVec 32 := 2048#32
  let v409 : BitVec 1 := Scalar.cmpi .sle v408 c2048_i32_200
  let c5_i32_202 : BitVec 32 := 5#32
  let v413 : BitVec 1 := Scalar.cmpi .slt v412 c5_i32_202
  let v414 : BitVec 1 := Scalar.andi v409 v413
  let v415 : BitVec 32 := Scalar.select v414 v408 v407
  let c128_i32_203 : BitVec 32 := 128#32
  let v416 : BitVec 32 := Scalar.addi v415 c128_i32_203
  let c2048_i32_204 : BitVec 32 := 2048#32
  let v417 : BitVec 1 := Scalar.cmpi .sle v416 c2048_i32_204
  let c5_i32_206 : BitVec 32 := 5#32
  let v421 : BitVec 1 := Scalar.cmpi .slt v420 c5_i32_206
  let v422 : BitVec 1 := Scalar.andi v417 v421
  let v423 : BitVec 32 := Scalar.select v422 v416 v415
  let c64_i32_207 : BitVec 32 := 64#32
  let v424 : BitVec 32 := Scalar.addi v423 c64_i32_207
  let c2048_i32_208 : BitVec 32 := 2048#32
  let v425 : BitVec 1 := Scalar.cmpi .sle v424 c2048_i32_208
  let c5_i32_210 : BitVec 32 := 5#32
  let v429 : BitVec 1 := Scalar.cmpi .slt v428 c5_i32_210
  let v430 : BitVec 1 := Scalar.andi v425 v429
  let v431 : BitVec 32 := Scalar.select v430 v424 v423
  let c32_i32_211 : BitVec 32 := 32#32
  let v432 : BitVec 32 := Scalar.addi v431 c32_i32_211
  let c2048_i32_212 : BitVec 32 := 2048#32
  let v433 : BitVec 1 := Scalar.cmpi .sle v432 c2048_i32_212
  let c5_i32_214 : BitVec 32 := 5#32
  let v437 : BitVec 1 := Scalar.cmpi .slt v436 c5_i32_214
  let v438 : BitVec 1 := Scalar.andi v433 v437
  let v439 : BitVec 32 := Scalar.select v438 v432 v431
  let c16_i32_215 : BitVec 32 := 16#32
  let v440 : BitVec 32 := Scalar.addi v439 c16_i32_215
  let c2048_i32_216 : BitVec 32 := 2048#32
  let v441 : BitVec 1 := Scalar.cmpi .sle v440 c2048_i32_216
  let c5_i32_218 : BitVec 32 := 5#32
  let v445 : BitVec 1 := Scalar.cmpi .slt v444 c5_i32_218
  let v446 : BitVec 1 := Scalar.andi v441 v445
  let v447 : BitVec 32 := Scalar.select v446 v440 v439
  let c8_i32_219 : BitVec 32 := 8#32
  let v448 : BitVec 32 := Scalar.addi v447 c8_i32_219
  let c2048_i32_220 : BitVec 32 := 2048#32
  let v449 : BitVec 1 := Scalar.cmpi .sle v448 c2048_i32_220
  let c5_i32_222 : BitVec 32 := 5#32
  let v453 : BitVec 1 := Scalar.cmpi .slt v452 c5_i32_222
  let v454 : BitVec 1 := Scalar.andi v449 v453
  let v455 : BitVec 32 := Scalar.select v454 v448 v447
  let c4_i32_223 : BitVec 32 := 4#32
  let v456 : BitVec 32 := Scalar.addi v455 c4_i32_223
  let c2048_i32_224 : BitVec 32 := 2048#32
  let v457 : BitVec 1 := Scalar.cmpi .sle v456 c2048_i32_224
  let c5_i32_226 : BitVec 32 := 5#32
  let v461 : BitVec 1 := Scalar.cmpi .slt v460 c5_i32_226
  let v462 : BitVec 1 := Scalar.andi v457 v461
  let v463 : BitVec 32 := Scalar.select v462 v456 v455
  let c2_i32_227 : BitVec 32 := 2#32
  let v464 : BitVec 32 := Scalar.addi v463 c2_i32_227
  let c2048_i32_228 : BitVec 32 := 2048#32
  let v465 : BitVec 1 := Scalar.cmpi .sle v464 c2048_i32_228
  let c5_i32_230 : BitVec 32 := 5#32
  let v469 : BitVec 1 := Scalar.cmpi .slt v468 c5_i32_230
  let v470 : BitVec 1 := Scalar.andi v465 v469
  let v471 : BitVec 32 := Scalar.select v470 v464 v463
  let c1_i32_231 : BitVec 32 := 1#32
  let v472 : BitVec 32 := Scalar.addi v471 c1_i32_231
  let c2048_i32_232 : BitVec 32 := 2048#32
  let v473 : BitVec 1 := Scalar.cmpi .sle v472 c2048_i32_232
  let c5_i32_234 : BitVec 32 := 5#32
  let v477 : BitVec 1 := Scalar.cmpi .slt v476 c5_i32_234
  let v478 : BitVec 1 := Scalar.andi v473 v477
  let v479 : BitVec 32 := Scalar.select v478 v472 v471
  let v676 : BitVec 32 := Scalar.subi v479 v383
  let c0_i32_365 : BitVec 32 := 0#32
  let v749 : BitVec 1 := Scalar.cmpi .sgt v383 c0_i32_365
  let v750 : BitVec 32 := Scalar.extui v749
  let c0_i32_366 : BitVec 32 := 0#32
  let v751 : BitVec 1 := Scalar.cmpi .slt v383 c0_i32_366
  let v752 : BitVec 32 := Scalar.extui v751
  let v753 : BitVec 32 := Scalar.subi v750 v752
  let c8_i32_364 : BitVec 32 := 8#32
  let c0_i32_367 : BitVec 32 := 0#32
  let v754 : BitVec 1 := Scalar.cmpi .sgt c8_i32_364 c0_i32_367
  let v755 : BitVec 32 := Scalar.extui v754
  let c0_i32_368 : BitVec 32 := 0#32
  let v756 : BitVec 1 := Scalar.cmpi .slt c8_i32_364 c0_i32_368
  let v757 : BitVec 32 := Scalar.extui v756
  let v758 : BitVec 32 := Scalar.subi v755 v757
  let v759 : BitVec 1 := Scalar.cmpi .ne v753 v758
  let v760 : BitVec 32 := Scalar.remsi v383 c8_i32_364
  let c0_i32_369 : BitVec 32 := 0#32
  let v761 : BitVec 1 := Scalar.cmpi .ne v760 c0_i32_369
  let v762 : BitVec 1 := Scalar.andi v759 v761
  let v748 : BitVec 32 := Scalar.divsi v383 c8_i32_364
  let c1_i32_370 : BitVec 32 := 1#32
  let v763 : BitVec 32 := Scalar.subi v748 c1_i32_370
  let v764 : BitVec 32 := Scalar.select v762 v763 v748
  let c8_i32_397 : BitVec 32 := 8#32
  let v824 : BitVec 32 := Scalar.muli v764 c8_i32_397
  let v825 : BitVec 32 := Scalar.subi v383 v824
  let v974 : BitVec 32 := Scalar.addi v676 v825
  let v975 : BitVec 32 := Scalar.maxsi v973 v974
  let c0_i32_235 : BitVec 32 := 0#32
  let c2048_i32_236 : BitVec 32 := 2048#32
  let v480 : BitVec 32 := Scalar.addi c0_i32_235 c2048_i32_236
  let c2048_i32_237 : BitVec 32 := 2048#32
  let v481 : BitVec 1 := Scalar.cmpi .sle v480 c2048_i32_237
  let c6_i32 : BitVec 32 := 6#32
  let v485 : BitVec 1 := Scalar.cmpi .slt v484 c6_i32
  let v486 : BitVec 1 := Scalar.andi v481 v485
  let c0_i32_239 : BitVec 32 := 0#32
  let v487 : BitVec 32 := Scalar.select v486 v480 c0_i32_239
  let c1024_i32_240 : BitVec 32 := 1024#32
  let v488 : BitVec 32 := Scalar.addi v487 c1024_i32_240
  let c2048_i32_241 : BitVec 32 := 2048#32
  let v489 : BitVec 1 := Scalar.cmpi .sle v488 c2048_i32_241
  let c6_i32_243 : BitVec 32 := 6#32
  let v493 : BitVec 1 := Scalar.cmpi .slt v492 c6_i32_243
  let v494 : BitVec 1 := Scalar.andi v489 v493
  let v495 : BitVec 32 := Scalar.select v494 v488 v487
  let c512_i32_244 : BitVec 32 := 512#32
  let v496 : BitVec 32 := Scalar.addi v495 c512_i32_244
  let c2048_i32_245 : BitVec 32 := 2048#32
  let v497 : BitVec 1 := Scalar.cmpi .sle v496 c2048_i32_245
  let c6_i32_247 : BitVec 32 := 6#32
  let v501 : BitVec 1 := Scalar.cmpi .slt v500 c6_i32_247
  let v502 : BitVec 1 := Scalar.andi v497 v501
  let v503 : BitVec 32 := Scalar.select v502 v496 v495
  let c256_i32_248 : BitVec 32 := 256#32
  let v504 : BitVec 32 := Scalar.addi v503 c256_i32_248
  let c2048_i32_249 : BitVec 32 := 2048#32
  let v505 : BitVec 1 := Scalar.cmpi .sle v504 c2048_i32_249
  let c6_i32_251 : BitVec 32 := 6#32
  let v509 : BitVec 1 := Scalar.cmpi .slt v508 c6_i32_251
  let v510 : BitVec 1 := Scalar.andi v505 v509
  let v511 : BitVec 32 := Scalar.select v510 v504 v503
  let c128_i32_252 : BitVec 32 := 128#32
  let v512 : BitVec 32 := Scalar.addi v511 c128_i32_252
  let c2048_i32_253 : BitVec 32 := 2048#32
  let v513 : BitVec 1 := Scalar.cmpi .sle v512 c2048_i32_253
  let c6_i32_255 : BitVec 32 := 6#32
  let v517 : BitVec 1 := Scalar.cmpi .slt v516 c6_i32_255
  let v518 : BitVec 1 := Scalar.andi v513 v517
  let v519 : BitVec 32 := Scalar.select v518 v512 v511
  let c64_i32_256 : BitVec 32 := 64#32
  let v520 : BitVec 32 := Scalar.addi v519 c64_i32_256
  let c2048_i32_257 : BitVec 32 := 2048#32
  let v521 : BitVec 1 := Scalar.cmpi .sle v520 c2048_i32_257
  let c6_i32_259 : BitVec 32 := 6#32
  let v525 : BitVec 1 := Scalar.cmpi .slt v524 c6_i32_259
  let v526 : BitVec 1 := Scalar.andi v521 v525
  let v527 : BitVec 32 := Scalar.select v526 v520 v519
  let c32_i32_260 : BitVec 32 := 32#32
  let v528 : BitVec 32 := Scalar.addi v527 c32_i32_260
  let c2048_i32_261 : BitVec 32 := 2048#32
  let v529 : BitVec 1 := Scalar.cmpi .sle v528 c2048_i32_261
  let c6_i32_263 : BitVec 32 := 6#32
  let v533 : BitVec 1 := Scalar.cmpi .slt v532 c6_i32_263
  let v534 : BitVec 1 := Scalar.andi v529 v533
  let v535 : BitVec 32 := Scalar.select v534 v528 v527
  let c16_i32_264 : BitVec 32 := 16#32
  let v536 : BitVec 32 := Scalar.addi v535 c16_i32_264
  let c2048_i32_265 : BitVec 32 := 2048#32
  let v537 : BitVec 1 := Scalar.cmpi .sle v536 c2048_i32_265
  let c6_i32_267 : BitVec 32 := 6#32
  let v541 : BitVec 1 := Scalar.cmpi .slt v540 c6_i32_267
  let v542 : BitVec 1 := Scalar.andi v537 v541
  let v543 : BitVec 32 := Scalar.select v542 v536 v535
  let c8_i32_268 : BitVec 32 := 8#32
  let v544 : BitVec 32 := Scalar.addi v543 c8_i32_268
  let c2048_i32_269 : BitVec 32 := 2048#32
  let v545 : BitVec 1 := Scalar.cmpi .sle v544 c2048_i32_269
  let c6_i32_271 : BitVec 32 := 6#32
  let v549 : BitVec 1 := Scalar.cmpi .slt v548 c6_i32_271
  let v550 : BitVec 1 := Scalar.andi v545 v549
  let v551 : BitVec 32 := Scalar.select v550 v544 v543
  let c4_i32_272 : BitVec 32 := 4#32
  let v552 : BitVec 32 := Scalar.addi v551 c4_i32_272
  let c2048_i32_273 : BitVec 32 := 2048#32
  let v553 : BitVec 1 := Scalar.cmpi .sle v552 c2048_i32_273
  let c6_i32_275 : BitVec 32 := 6#32
  let v557 : BitVec 1 := Scalar.cmpi .slt v556 c6_i32_275
  let v558 : BitVec 1 := Scalar.andi v553 v557
  let v559 : BitVec 32 := Scalar.select v558 v552 v551
  let c2_i32_276 : BitVec 32 := 2#32
  let v560 : BitVec 32 := Scalar.addi v559 c2_i32_276
  let c2048_i32_277 : BitVec 32 := 2048#32
  let v561 : BitVec 1 := Scalar.cmpi .sle v560 c2048_i32_277
  let c6_i32_279 : BitVec 32 := 6#32
  let v565 : BitVec 1 := Scalar.cmpi .slt v564 c6_i32_279
  let v566 : BitVec 1 := Scalar.andi v561 v565
  let v567 : BitVec 32 := Scalar.select v566 v560 v559
  let c1_i32_280 : BitVec 32 := 1#32
  let v568 : BitVec 32 := Scalar.addi v567 c1_i32_280
  let c2048_i32_281 : BitVec 32 := 2048#32
  let v569 : BitVec 1 := Scalar.cmpi .sle v568 c2048_i32_281
  let c6_i32_283 : BitVec 32 := 6#32
  let v573 : BitVec 1 := Scalar.cmpi .slt v572 c6_i32_283
  let v574 : BitVec 1 := Scalar.andi v569 v573
  let v575 : BitVec 32 := Scalar.select v574 v568 v567
  let v677 : BitVec 32 := Scalar.subi v575 v479
  let c0_i32_372 : BitVec 32 := 0#32
  let v766 : BitVec 1 := Scalar.cmpi .sgt v479 c0_i32_372
  let v767 : BitVec 32 := Scalar.extui v766
  let c0_i32_373 : BitVec 32 := 0#32
  let v768 : BitVec 1 := Scalar.cmpi .slt v479 c0_i32_373
  let v769 : BitVec 32 := Scalar.extui v768
  let v770 : BitVec 32 := Scalar.subi v767 v769
  let c8_i32_371 : BitVec 32 := 8#32
  let c0_i32_374 : BitVec 32 := 0#32
  let v771 : BitVec 1 := Scalar.cmpi .sgt c8_i32_371 c0_i32_374
  let v772 : BitVec 32 := Scalar.extui v771
  let c0_i32_375 : BitVec 32 := 0#32
  let v773 : BitVec 1 := Scalar.cmpi .slt c8_i32_371 c0_i32_375
  let v774 : BitVec 32 := Scalar.extui v773
  let v775 : BitVec 32 := Scalar.subi v772 v774
  let v776 : BitVec 1 := Scalar.cmpi .ne v770 v775
  let v777 : BitVec 32 := Scalar.remsi v479 c8_i32_371
  let c0_i32_376 : BitVec 32 := 0#32
  let v778 : BitVec 1 := Scalar.cmpi .ne v777 c0_i32_376
  let v779 : BitVec 1 := Scalar.andi v776 v778
  let v765 : BitVec 32 := Scalar.divsi v479 c8_i32_371
  let c1_i32_377 : BitVec 32 := 1#32
  let v780 : BitVec 32 := Scalar.subi v765 c1_i32_377
  let v781 : BitVec 32 := Scalar.select v779 v780 v765
  let c8_i32_398 : BitVec 32 := 8#32
  let v826 : BitVec 32 := Scalar.muli v781 c8_i32_398
  let v827 : BitVec 32 := Scalar.subi v479 v826
  let v976 : BitVec 32 := Scalar.addi v677 v827
  let v977 : BitVec 32 := Scalar.maxsi v975 v976
  let c0_i32_284 : BitVec 32 := 0#32
  let c2048_i32_285 : BitVec 32 := 2048#32
  let v576 : BitVec 32 := Scalar.addi c0_i32_284 c2048_i32_285
  let c2048_i32_286 : BitVec 32 := 2048#32
  let v577 : BitVec 1 := Scalar.cmpi .sle v576 c2048_i32_286
  let c7_i32 : BitVec 32 := 7#32
  let v581 : BitVec 1 := Scalar.cmpi .slt v580 c7_i32
  let v582 : BitVec 1 := Scalar.andi v577 v581
  let c0_i32_288 : BitVec 32 := 0#32
  let v583 : BitVec 32 := Scalar.select v582 v576 c0_i32_288
  let c1024_i32_289 : BitVec 32 := 1024#32
  let v584 : BitVec 32 := Scalar.addi v583 c1024_i32_289
  let c2048_i32_290 : BitVec 32 := 2048#32
  let v585 : BitVec 1 := Scalar.cmpi .sle v584 c2048_i32_290
  let c7_i32_292 : BitVec 32 := 7#32
  let v589 : BitVec 1 := Scalar.cmpi .slt v588 c7_i32_292
  let v590 : BitVec 1 := Scalar.andi v585 v589
  let v591 : BitVec 32 := Scalar.select v590 v584 v583
  let c512_i32_293 : BitVec 32 := 512#32
  let v592 : BitVec 32 := Scalar.addi v591 c512_i32_293
  let c2048_i32_294 : BitVec 32 := 2048#32
  let v593 : BitVec 1 := Scalar.cmpi .sle v592 c2048_i32_294
  let c7_i32_296 : BitVec 32 := 7#32
  let v597 : BitVec 1 := Scalar.cmpi .slt v596 c7_i32_296
  let v598 : BitVec 1 := Scalar.andi v593 v597
  let v599 : BitVec 32 := Scalar.select v598 v592 v591
  let c256_i32_297 : BitVec 32 := 256#32
  let v600 : BitVec 32 := Scalar.addi v599 c256_i32_297
  let c2048_i32_298 : BitVec 32 := 2048#32
  let v601 : BitVec 1 := Scalar.cmpi .sle v600 c2048_i32_298
  let c7_i32_300 : BitVec 32 := 7#32
  let v605 : BitVec 1 := Scalar.cmpi .slt v604 c7_i32_300
  let v606 : BitVec 1 := Scalar.andi v601 v605
  let v607 : BitVec 32 := Scalar.select v606 v600 v599
  let c128_i32_301 : BitVec 32 := 128#32
  let v608 : BitVec 32 := Scalar.addi v607 c128_i32_301
  let c2048_i32_302 : BitVec 32 := 2048#32
  let v609 : BitVec 1 := Scalar.cmpi .sle v608 c2048_i32_302
  let c7_i32_304 : BitVec 32 := 7#32
  let v613 : BitVec 1 := Scalar.cmpi .slt v612 c7_i32_304
  let v614 : BitVec 1 := Scalar.andi v609 v613
  let v615 : BitVec 32 := Scalar.select v614 v608 v607
  let c64_i32_305 : BitVec 32 := 64#32
  let v616 : BitVec 32 := Scalar.addi v615 c64_i32_305
  let c2048_i32_306 : BitVec 32 := 2048#32
  let v617 : BitVec 1 := Scalar.cmpi .sle v616 c2048_i32_306
  let c7_i32_308 : BitVec 32 := 7#32
  let v621 : BitVec 1 := Scalar.cmpi .slt v620 c7_i32_308
  let v622 : BitVec 1 := Scalar.andi v617 v621
  let v623 : BitVec 32 := Scalar.select v622 v616 v615
  let c32_i32_309 : BitVec 32 := 32#32
  let v624 : BitVec 32 := Scalar.addi v623 c32_i32_309
  let c2048_i32_310 : BitVec 32 := 2048#32
  let v625 : BitVec 1 := Scalar.cmpi .sle v624 c2048_i32_310
  let c7_i32_312 : BitVec 32 := 7#32
  let v629 : BitVec 1 := Scalar.cmpi .slt v628 c7_i32_312
  let v630 : BitVec 1 := Scalar.andi v625 v629
  let v631 : BitVec 32 := Scalar.select v630 v624 v623
  let c16_i32_313 : BitVec 32 := 16#32
  let v632 : BitVec 32 := Scalar.addi v631 c16_i32_313
  let c2048_i32_314 : BitVec 32 := 2048#32
  let v633 : BitVec 1 := Scalar.cmpi .sle v632 c2048_i32_314
  let c7_i32_316 : BitVec 32 := 7#32
  let v637 : BitVec 1 := Scalar.cmpi .slt v636 c7_i32_316
  let v638 : BitVec 1 := Scalar.andi v633 v637
  let v639 : BitVec 32 := Scalar.select v638 v632 v631
  let c8_i32_317 : BitVec 32 := 8#32
  let v640 : BitVec 32 := Scalar.addi v639 c8_i32_317
  let c2048_i32_318 : BitVec 32 := 2048#32
  let v641 : BitVec 1 := Scalar.cmpi .sle v640 c2048_i32_318
  let c7_i32_320 : BitVec 32 := 7#32
  let v645 : BitVec 1 := Scalar.cmpi .slt v644 c7_i32_320
  let v646 : BitVec 1 := Scalar.andi v641 v645
  let v647 : BitVec 32 := Scalar.select v646 v640 v639
  let c4_i32_321 : BitVec 32 := 4#32
  let v648 : BitVec 32 := Scalar.addi v647 c4_i32_321
  let c2048_i32_322 : BitVec 32 := 2048#32
  let v649 : BitVec 1 := Scalar.cmpi .sle v648 c2048_i32_322
  let c7_i32_324 : BitVec 32 := 7#32
  let v653 : BitVec 1 := Scalar.cmpi .slt v652 c7_i32_324
  let v654 : BitVec 1 := Scalar.andi v649 v653
  let v655 : BitVec 32 := Scalar.select v654 v648 v647
  let c2_i32_325 : BitVec 32 := 2#32
  let v656 : BitVec 32 := Scalar.addi v655 c2_i32_325
  let c2048_i32_326 : BitVec 32 := 2048#32
  let v657 : BitVec 1 := Scalar.cmpi .sle v656 c2048_i32_326
  let c7_i32_328 : BitVec 32 := 7#32
  let v661 : BitVec 1 := Scalar.cmpi .slt v660 c7_i32_328
  let v662 : BitVec 1 := Scalar.andi v657 v661
  let v663 : BitVec 32 := Scalar.select v662 v656 v655
  let c1_i32_329 : BitVec 32 := 1#32
  let v664 : BitVec 32 := Scalar.addi v663 c1_i32_329
  let c2048_i32_330 : BitVec 32 := 2048#32
  let v665 : BitVec 1 := Scalar.cmpi .sle v664 c2048_i32_330
  let c7_i32_332 : BitVec 32 := 7#32
  let v669 : BitVec 1 := Scalar.cmpi .slt v668 c7_i32_332
  let v670 : BitVec 1 := Scalar.andi v665 v669
  let v671 : BitVec 32 := Scalar.select v670 v664 v663
  let v678 : BitVec 32 := Scalar.subi v671 v575
  let c0_i32_379 : BitVec 32 := 0#32
  let v783 : BitVec 1 := Scalar.cmpi .sgt v575 c0_i32_379
  let v784 : BitVec 32 := Scalar.extui v783
  let c0_i32_380 : BitVec 32 := 0#32
  let v785 : BitVec 1 := Scalar.cmpi .slt v575 c0_i32_380
  let v786 : BitVec 32 := Scalar.extui v785
  let v787 : BitVec 32 := Scalar.subi v784 v786
  let c8_i32_378 : BitVec 32 := 8#32
  let c0_i32_381 : BitVec 32 := 0#32
  let v788 : BitVec 1 := Scalar.cmpi .sgt c8_i32_378 c0_i32_381
  let v789 : BitVec 32 := Scalar.extui v788
  let c0_i32_382 : BitVec 32 := 0#32
  let v790 : BitVec 1 := Scalar.cmpi .slt c8_i32_378 c0_i32_382
  let v791 : BitVec 32 := Scalar.extui v790
  let v792 : BitVec 32 := Scalar.subi v789 v791
  let v793 : BitVec 1 := Scalar.cmpi .ne v787 v792
  let v794 : BitVec 32 := Scalar.remsi v575 c8_i32_378
  let c0_i32_383 : BitVec 32 := 0#32
  let v795 : BitVec 1 := Scalar.cmpi .ne v794 c0_i32_383
  let v796 : BitVec 1 := Scalar.andi v793 v795
  let v782 : BitVec 32 := Scalar.divsi v575 c8_i32_378
  let c1_i32_384 : BitVec 32 := 1#32
  let v797 : BitVec 32 := Scalar.subi v782 c1_i32_384
  let v798 : BitVec 32 := Scalar.select v796 v797 v782
  let c8_i32_399 : BitVec 32 := 8#32
  let v828 : BitVec 32 := Scalar.muli v798 c8_i32_399
  let v829 : BitVec 32 := Scalar.subi v575 v828
  let v978 : BitVec 32 := Scalar.addi v678 v829
  let v979 : BitVec 32 := Scalar.maxsi v977 v978
  let c2048_i32_334 : BitVec 32 := 2048#32
  let v679 : BitVec 32 := Scalar.subi c2048_i32_334 v671
  let c0_i32_386 : BitVec 32 := 0#32
  let v800 : BitVec 1 := Scalar.cmpi .sgt v671 c0_i32_386
  let v801 : BitVec 32 := Scalar.extui v800
  let c0_i32_387 : BitVec 32 := 0#32
  let v802 : BitVec 1 := Scalar.cmpi .slt v671 c0_i32_387
  let v803 : BitVec 32 := Scalar.extui v802
  let v804 : BitVec 32 := Scalar.subi v801 v803
  let c8_i32_385 : BitVec 32 := 8#32
  let c0_i32_388 : BitVec 32 := 0#32
  let v805 : BitVec 1 := Scalar.cmpi .sgt c8_i32_385 c0_i32_388
  let v806 : BitVec 32 := Scalar.extui v805
  let c0_i32_389 : BitVec 32 := 0#32
  let v807 : BitVec 1 := Scalar.cmpi .slt c8_i32_385 c0_i32_389
  let v808 : BitVec 32 := Scalar.extui v807
  let v809 : BitVec 32 := Scalar.subi v806 v808
  let v810 : BitVec 1 := Scalar.cmpi .ne v804 v809
  let v811 : BitVec 32 := Scalar.remsi v671 c8_i32_385
  let c0_i32_390 : BitVec 32 := 0#32
  let v812 : BitVec 1 := Scalar.cmpi .ne v811 c0_i32_390
  let v813 : BitVec 1 := Scalar.andi v810 v812
  let v799 : BitVec 32 := Scalar.divsi v671 c8_i32_385
  let c1_i32_391 : BitVec 32 := 1#32
  let v814 : BitVec 32 := Scalar.subi v799 c1_i32_391
  let v815 : BitVec 32 := Scalar.select v813 v814 v799
  let c8_i32_400 : BitVec 32 := 8#32
  let v830 : BitVec 32 := Scalar.muli v815 c8_i32_400
  let v831 : BitVec 32 := Scalar.subi v671 v830
  let v980 : BitVec 32 := Scalar.addi v679 v831
  let v981 : BitVec 32 := Scalar.maxsi v979 v980
  let c4_i32_486 : BitVec 32 := 4#32
  let v992 : BitVec 32 := Scalar.addi v981 c4_i32_486
  let c0_i32_488 : BitVec 32 := 0#32
  let v994 : BitVec 1 := Scalar.cmpi .sgt v992 c0_i32_488
  let v995 : BitVec 32 := Scalar.extui v994
  let c0_i32_489 : BitVec 32 := 0#32
  let v996 : BitVec 1 := Scalar.cmpi .slt v992 c0_i32_489
  let v997 : BitVec 32 := Scalar.extui v996
  let v998 : BitVec 32 := Scalar.subi v995 v997
  let c4_i32_487 : BitVec 32 := 4#32
  let c0_i32_490 : BitVec 32 := 0#32
  let v999 : BitVec 1 := Scalar.cmpi .sgt c4_i32_487 c0_i32_490
  let v1000 : BitVec 32 := Scalar.extui v999
  let c0_i32_491 : BitVec 32 := 0#32
  let v1001 : BitVec 1 := Scalar.cmpi .slt c4_i32_487 c0_i32_491
  let v1002 : BitVec 32 := Scalar.extui v1001
  let v1003 : BitVec 32 := Scalar.subi v1000 v1002
  let v1004 : BitVec 1 := Scalar.cmpi .ne v998 v1003
  let v1005 : BitVec 32 := Scalar.remsi v992 c4_i32_487
  let c0_i32_492 : BitVec 32 := 0#32
  let v1006 : BitVec 1 := Scalar.cmpi .ne v1005 c0_i32_492
  let v1007 : BitVec 1 := Scalar.andi v1004 v1006
  let v993 : BitVec 32 := Scalar.divsi v992 c4_i32_487
  let c1_i32_493 : BitVec 32 := 1#32
  let v1008 : BitVec 32 := Scalar.subi v993 c1_i32_493
  let v1009 : BitVec 32 := Scalar.select v1007 v1008 v993
  let v1010 : BitVec 32 := Scalar.subi v1009 c0_i32_494
  let c1_i32_495 : BitVec 32 := 1#32
  let v1012 : BitVec 32 := Scalar.divsi v1010 c1_i32_495
  let v1013 : BitVec 32 := Scalar.muli v1012 c1_i32_495
  let v1014 : BitVec 32 := Scalar.addi c0_i32_494 v1013
  let c1_i32_496 : BitVec 32 := 1#32
  ⟨c0_i32_494, v1014, c1_i32_496⟩
def k0_off93 (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) (k0_t1 : Fin (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips) (c0_i32_562 : BitVec 32) : Fin 3 → Nat :=
  let c4_i32_561 : BitVec 32 := 4#32
  let c0_i32_494 : BitVec 32 := 0#32
  let c1_i32_496 : BitVec 32 := 1#32
  let arg17 : BitVec 32 := Scf.iv c0_i32_494 c1_i32_496 k0_t1
  let v1176 : BitVec 32 := Scalar.muli c4_i32_561 arg17
  let v1177 : BitVec 32 := Scalar.addi v1176 c0_i32_562
  let v1180 : Index := Scalar.indexCast v1177
  let c0_563 : Index := 0#32
  let c0_564 : Index := 0#32
  ![v1180.toNat, 0, 0]
def k0_off94 (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) (k0_t1 : Fin (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips) (c0_i32_562 : BitVec 32) : Fin 3 → Nat :=
  let c4_i32_561 : BitVec 32 := 4#32
  let c0_i32_494 : BitVec 32 := 0#32
  let c1_i32_496 : BitVec 32 := 1#32
  let arg17 : BitVec 32 := Scf.iv c0_i32_494 c1_i32_496 k0_t1
  let v1176 : BitVec 32 := Scalar.muli c4_i32_561 arg17
  let v1177 : BitVec 32 := Scalar.addi v1176 c0_i32_562
  let c1_i32_579 : BitVec 32 := 1#32
  let v1246 : BitVec 32 := Scalar.subi v1177 c1_i32_579
  let c0_i32_580 : BitVec 32 := 0#32
  let v1247 : BitVec 32 := Scalar.maxsi v1246 c0_i32_580
  let v1248 : Index := Scalar.indexCast v1247
  let c0_581 : Index := 0#32
  let c0_582 : Index := 0#32
  ![v1248.toNat, 0, 0]
@[reducible] def k0_t2_loop (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) : Scf.Loop 32 :=
  let c0_i32_494 : BitVec 32 := 0#32
  let c0_i32 : BitVec 32 := 0#32
  let c2048_i32 : BitVec 32 := 2048#32
  let v0 : BitVec 32 := Scalar.addi c0_i32 c2048_i32
  let c2048_i32_0 : BitVec 32 := 2048#32
  let v1 : BitVec 1 := Scalar.cmpi .sle v0 c2048_i32_0
  let c1_i32_1 : BitVec 32 := 1#32
  let v5 : BitVec 1 := Scalar.cmpi .slt v4 c1_i32_1
  let v6 : BitVec 1 := Scalar.andi v1 v5
  let c0_i32_2 : BitVec 32 := 0#32
  let v7 : BitVec 32 := Scalar.select v6 v0 c0_i32_2
  let c1024_i32 : BitVec 32 := 1024#32
  let v8 : BitVec 32 := Scalar.addi v7 c1024_i32
  let c2048_i32_3 : BitVec 32 := 2048#32
  let v9 : BitVec 1 := Scalar.cmpi .sle v8 c2048_i32_3
  let c1_i32_5 : BitVec 32 := 1#32
  let v13 : BitVec 1 := Scalar.cmpi .slt v12 c1_i32_5
  let v14 : BitVec 1 := Scalar.andi v9 v13
  let v15 : BitVec 32 := Scalar.select v14 v8 v7
  let c512_i32 : BitVec 32 := 512#32
  let v16 : BitVec 32 := Scalar.addi v15 c512_i32
  let c2048_i32_6 : BitVec 32 := 2048#32
  let v17 : BitVec 1 := Scalar.cmpi .sle v16 c2048_i32_6
  let c1_i32_8 : BitVec 32 := 1#32
  let v21 : BitVec 1 := Scalar.cmpi .slt v20 c1_i32_8
  let v22 : BitVec 1 := Scalar.andi v17 v21
  let v23 : BitVec 32 := Scalar.select v22 v16 v15
  let c256_i32 : BitVec 32 := 256#32
  let v24 : BitVec 32 := Scalar.addi v23 c256_i32
  let c2048_i32_9 : BitVec 32 := 2048#32
  let v25 : BitVec 1 := Scalar.cmpi .sle v24 c2048_i32_9
  let c1_i32_11 : BitVec 32 := 1#32
  let v29 : BitVec 1 := Scalar.cmpi .slt v28 c1_i32_11
  let v30 : BitVec 1 := Scalar.andi v25 v29
  let v31 : BitVec 32 := Scalar.select v30 v24 v23
  let c128_i32 : BitVec 32 := 128#32
  let v32 : BitVec 32 := Scalar.addi v31 c128_i32
  let c2048_i32_12 : BitVec 32 := 2048#32
  let v33 : BitVec 1 := Scalar.cmpi .sle v32 c2048_i32_12
  let c1_i32_14 : BitVec 32 := 1#32
  let v37 : BitVec 1 := Scalar.cmpi .slt v36 c1_i32_14
  let v38 : BitVec 1 := Scalar.andi v33 v37
  let v39 : BitVec 32 := Scalar.select v38 v32 v31
  let c64_i32 : BitVec 32 := 64#32
  let v40 : BitVec 32 := Scalar.addi v39 c64_i32
  let c2048_i32_15 : BitVec 32 := 2048#32
  let v41 : BitVec 1 := Scalar.cmpi .sle v40 c2048_i32_15
  let c1_i32_17 : BitVec 32 := 1#32
  let v45 : BitVec 1 := Scalar.cmpi .slt v44 c1_i32_17
  let v46 : BitVec 1 := Scalar.andi v41 v45
  let v47 : BitVec 32 := Scalar.select v46 v40 v39
  let c32_i32 : BitVec 32 := 32#32
  let v48 : BitVec 32 := Scalar.addi v47 c32_i32
  let c2048_i32_18 : BitVec 32 := 2048#32
  let v49 : BitVec 1 := Scalar.cmpi .sle v48 c2048_i32_18
  let c1_i32_20 : BitVec 32 := 1#32
  let v53 : BitVec 1 := Scalar.cmpi .slt v52 c1_i32_20
  let v54 : BitVec 1 := Scalar.andi v49 v53
  let v55 : BitVec 32 := Scalar.select v54 v48 v47
  let c16_i32 : BitVec 32 := 16#32
  let v56 : BitVec 32 := Scalar.addi v55 c16_i32
  let c2048_i32_21 : BitVec 32 := 2048#32
  let v57 : BitVec 1 := Scalar.cmpi .sle v56 c2048_i32_21
  let c1_i32_23 : BitVec 32 := 1#32
  let v61 : BitVec 1 := Scalar.cmpi .slt v60 c1_i32_23
  let v62 : BitVec 1 := Scalar.andi v57 v61
  let v63 : BitVec 32 := Scalar.select v62 v56 v55
  let c8_i32 : BitVec 32 := 8#32
  let v64 : BitVec 32 := Scalar.addi v63 c8_i32
  let c2048_i32_24 : BitVec 32 := 2048#32
  let v65 : BitVec 1 := Scalar.cmpi .sle v64 c2048_i32_24
  let c1_i32_26 : BitVec 32 := 1#32
  let v69 : BitVec 1 := Scalar.cmpi .slt v68 c1_i32_26
  let v70 : BitVec 1 := Scalar.andi v65 v69
  let v71 : BitVec 32 := Scalar.select v70 v64 v63
  let c4_i32 : BitVec 32 := 4#32
  let v72 : BitVec 32 := Scalar.addi v71 c4_i32
  let c2048_i32_27 : BitVec 32 := 2048#32
  let v73 : BitVec 1 := Scalar.cmpi .sle v72 c2048_i32_27
  let c1_i32_29 : BitVec 32 := 1#32
  let v77 : BitVec 1 := Scalar.cmpi .slt v76 c1_i32_29
  let v78 : BitVec 1 := Scalar.andi v73 v77
  let v79 : BitVec 32 := Scalar.select v78 v72 v71
  let c2_i32 : BitVec 32 := 2#32
  let v80 : BitVec 32 := Scalar.addi v79 c2_i32
  let c2048_i32_30 : BitVec 32 := 2048#32
  let v81 : BitVec 1 := Scalar.cmpi .sle v80 c2048_i32_30
  let c1_i32_32 : BitVec 32 := 1#32
  let v85 : BitVec 1 := Scalar.cmpi .slt v84 c1_i32_32
  let v86 : BitVec 1 := Scalar.andi v81 v85
  let v87 : BitVec 32 := Scalar.select v86 v80 v79
  let c1_i32_33 : BitVec 32 := 1#32
  let v88 : BitVec 32 := Scalar.addi v87 c1_i32_33
  let c2048_i32_34 : BitVec 32 := 2048#32
  let v89 : BitVec 1 := Scalar.cmpi .sle v88 c2048_i32_34
  let c1_i32_36 : BitVec 32 := 1#32
  let v93 : BitVec 1 := Scalar.cmpi .slt v92 c1_i32_36
  let v94 : BitVec 1 := Scalar.andi v89 v93
  let v95 : BitVec 32 := Scalar.select v94 v88 v87
  let c0_i32_333 : BitVec 32 := 0#32
  let v672 : BitVec 32 := Scalar.subi v95 c0_i32_333
  let c0_i32_393 : BitVec 32 := 0#32
  let c0_i32_335 : BitVec 32 := 0#32
  let c0_i32_337 : BitVec 32 := 0#32
  let v681 : BitVec 1 := Scalar.cmpi .sgt c0_i32_335 c0_i32_337
  let v682 : BitVec 32 := Scalar.extui v681
  let c0_i32_338 : BitVec 32 := 0#32
  let v683 : BitVec 1 := Scalar.cmpi .slt c0_i32_335 c0_i32_338
  let v684 : BitVec 32 := Scalar.extui v683
  let v685 : BitVec 32 := Scalar.subi v682 v684
  let c8_i32_336 : BitVec 32 := 8#32
  let c0_i32_339 : BitVec 32 := 0#32
  let v686 : BitVec 1 := Scalar.cmpi .sgt c8_i32_336 c0_i32_339
  let v687 : BitVec 32 := Scalar.extui v686
  let c0_i32_340 : BitVec 32 := 0#32
  let v688 : BitVec 1 := Scalar.cmpi .slt c8_i32_336 c0_i32_340
  let v689 : BitVec 32 := Scalar.extui v688
  let v690 : BitVec 32 := Scalar.subi v687 v689
  let v691 : BitVec 1 := Scalar.cmpi .ne v685 v690
  let v692 : BitVec 32 := Scalar.remsi c0_i32_335 c8_i32_336
  let c0_i32_341 : BitVec 32 := 0#32
  let v693 : BitVec 1 := Scalar.cmpi .ne v692 c0_i32_341
  let v694 : BitVec 1 := Scalar.andi v691 v693
  let v680 : BitVec 32 := Scalar.divsi c0_i32_335 c8_i32_336
  let c1_i32_342 : BitVec 32 := 1#32
  let v695 : BitVec 32 := Scalar.subi v680 c1_i32_342
  let v696 : BitVec 32 := Scalar.select v694 v695 v680
  let c8_i32_392 : BitVec 32 := 8#32
  let v816 : BitVec 32 := Scalar.muli v696 c8_i32_392
  let v817 : BitVec 32 := Scalar.subi c0_i32_393 v816
  let v967 : BitVec 32 := Scalar.addi v672 v817
  let c0_i32_37 : BitVec 32 := 0#32
  let c2048_i32_38 : BitVec 32 := 2048#32
  let v96 : BitVec 32 := Scalar.addi c0_i32_37 c2048_i32_38
  let c2048_i32_39 : BitVec 32 := 2048#32
  let v97 : BitVec 1 := Scalar.cmpi .sle v96 c2048_i32_39
  let c2_i32_41 : BitVec 32 := 2#32
  let v101 : BitVec 1 := Scalar.cmpi .slt v100 c2_i32_41
  let v102 : BitVec 1 := Scalar.andi v97 v101
  let c0_i32_42 : BitVec 32 := 0#32
  let v103 : BitVec 32 := Scalar.select v102 v96 c0_i32_42
  let c1024_i32_43 : BitVec 32 := 1024#32
  let v104 : BitVec 32 := Scalar.addi v103 c1024_i32_43
  let c2048_i32_44 : BitVec 32 := 2048#32
  let v105 : BitVec 1 := Scalar.cmpi .sle v104 c2048_i32_44
  let c2_i32_46 : BitVec 32 := 2#32
  let v109 : BitVec 1 := Scalar.cmpi .slt v108 c2_i32_46
  let v110 : BitVec 1 := Scalar.andi v105 v109
  let v111 : BitVec 32 := Scalar.select v110 v104 v103
  let c512_i32_47 : BitVec 32 := 512#32
  let v112 : BitVec 32 := Scalar.addi v111 c512_i32_47
  let c2048_i32_48 : BitVec 32 := 2048#32
  let v113 : BitVec 1 := Scalar.cmpi .sle v112 c2048_i32_48
  let c2_i32_50 : BitVec 32 := 2#32
  let v117 : BitVec 1 := Scalar.cmpi .slt v116 c2_i32_50
  let v118 : BitVec 1 := Scalar.andi v113 v117
  let v119 : BitVec 32 := Scalar.select v118 v112 v111
  let c256_i32_51 : BitVec 32 := 256#32
  let v120 : BitVec 32 := Scalar.addi v119 c256_i32_51
  let c2048_i32_52 : BitVec 32 := 2048#32
  let v121 : BitVec 1 := Scalar.cmpi .sle v120 c2048_i32_52
  let c2_i32_54 : BitVec 32 := 2#32
  let v125 : BitVec 1 := Scalar.cmpi .slt v124 c2_i32_54
  let v126 : BitVec 1 := Scalar.andi v121 v125
  let v127 : BitVec 32 := Scalar.select v126 v120 v119
  let c128_i32_55 : BitVec 32 := 128#32
  let v128 : BitVec 32 := Scalar.addi v127 c128_i32_55
  let c2048_i32_56 : BitVec 32 := 2048#32
  let v129 : BitVec 1 := Scalar.cmpi .sle v128 c2048_i32_56
  let c2_i32_58 : BitVec 32 := 2#32
  let v133 : BitVec 1 := Scalar.cmpi .slt v132 c2_i32_58
  let v134 : BitVec 1 := Scalar.andi v129 v133
  let v135 : BitVec 32 := Scalar.select v134 v128 v127
  let c64_i32_59 : BitVec 32 := 64#32
  let v136 : BitVec 32 := Scalar.addi v135 c64_i32_59
  let c2048_i32_60 : BitVec 32 := 2048#32
  let v137 : BitVec 1 := Scalar.cmpi .sle v136 c2048_i32_60
  let c2_i32_62 : BitVec 32 := 2#32
  let v141 : BitVec 1 := Scalar.cmpi .slt v140 c2_i32_62
  let v142 : BitVec 1 := Scalar.andi v137 v141
  let v143 : BitVec 32 := Scalar.select v142 v136 v135
  let c32_i32_63 : BitVec 32 := 32#32
  let v144 : BitVec 32 := Scalar.addi v143 c32_i32_63
  let c2048_i32_64 : BitVec 32 := 2048#32
  let v145 : BitVec 1 := Scalar.cmpi .sle v144 c2048_i32_64
  let c2_i32_66 : BitVec 32 := 2#32
  let v149 : BitVec 1 := Scalar.cmpi .slt v148 c2_i32_66
  let v150 : BitVec 1 := Scalar.andi v145 v149
  let v151 : BitVec 32 := Scalar.select v150 v144 v143
  let c16_i32_67 : BitVec 32 := 16#32
  let v152 : BitVec 32 := Scalar.addi v151 c16_i32_67
  let c2048_i32_68 : BitVec 32 := 2048#32
  let v153 : BitVec 1 := Scalar.cmpi .sle v152 c2048_i32_68
  let c2_i32_70 : BitVec 32 := 2#32
  let v157 : BitVec 1 := Scalar.cmpi .slt v156 c2_i32_70
  let v158 : BitVec 1 := Scalar.andi v153 v157
  let v159 : BitVec 32 := Scalar.select v158 v152 v151
  let c8_i32_71 : BitVec 32 := 8#32
  let v160 : BitVec 32 := Scalar.addi v159 c8_i32_71
  let c2048_i32_72 : BitVec 32 := 2048#32
  let v161 : BitVec 1 := Scalar.cmpi .sle v160 c2048_i32_72
  let c2_i32_74 : BitVec 32 := 2#32
  let v165 : BitVec 1 := Scalar.cmpi .slt v164 c2_i32_74
  let v166 : BitVec 1 := Scalar.andi v161 v165
  let v167 : BitVec 32 := Scalar.select v166 v160 v159
  let c4_i32_75 : BitVec 32 := 4#32
  let v168 : BitVec 32 := Scalar.addi v167 c4_i32_75
  let c2048_i32_76 : BitVec 32 := 2048#32
  let v169 : BitVec 1 := Scalar.cmpi .sle v168 c2048_i32_76
  let c2_i32_78 : BitVec 32 := 2#32
  let v173 : BitVec 1 := Scalar.cmpi .slt v172 c2_i32_78
  let v174 : BitVec 1 := Scalar.andi v169 v173
  let v175 : BitVec 32 := Scalar.select v174 v168 v167
  let c2_i32_79 : BitVec 32 := 2#32
  let v176 : BitVec 32 := Scalar.addi v175 c2_i32_79
  let c2048_i32_80 : BitVec 32 := 2048#32
  let v177 : BitVec 1 := Scalar.cmpi .sle v176 c2048_i32_80
  let c2_i32_82 : BitVec 32 := 2#32
  let v181 : BitVec 1 := Scalar.cmpi .slt v180 c2_i32_82
  let v182 : BitVec 1 := Scalar.andi v177 v181
  let v183 : BitVec 32 := Scalar.select v182 v176 v175
  let c1_i32_83 : BitVec 32 := 1#32
  let v184 : BitVec 32 := Scalar.addi v183 c1_i32_83
  let c2048_i32_84 : BitVec 32 := 2048#32
  let v185 : BitVec 1 := Scalar.cmpi .sle v184 c2048_i32_84
  let c2_i32_86 : BitVec 32 := 2#32
  let v189 : BitVec 1 := Scalar.cmpi .slt v188 c2_i32_86
  let v190 : BitVec 1 := Scalar.andi v185 v189
  let v191 : BitVec 32 := Scalar.select v190 v184 v183
  let v673 : BitVec 32 := Scalar.subi v191 v95
  let c0_i32_344 : BitVec 32 := 0#32
  let v698 : BitVec 1 := Scalar.cmpi .sgt v95 c0_i32_344
  let v699 : BitVec 32 := Scalar.extui v698
  let c0_i32_345 : BitVec 32 := 0#32
  let v700 : BitVec 1 := Scalar.cmpi .slt v95 c0_i32_345
  let v701 : BitVec 32 := Scalar.extui v700
  let v702 : BitVec 32 := Scalar.subi v699 v701
  let c8_i32_343 : BitVec 32 := 8#32
  let c0_i32_346 : BitVec 32 := 0#32
  let v703 : BitVec 1 := Scalar.cmpi .sgt c8_i32_343 c0_i32_346
  let v704 : BitVec 32 := Scalar.extui v703
  let c0_i32_347 : BitVec 32 := 0#32
  let v705 : BitVec 1 := Scalar.cmpi .slt c8_i32_343 c0_i32_347
  let v706 : BitVec 32 := Scalar.extui v705
  let v707 : BitVec 32 := Scalar.subi v704 v706
  let v708 : BitVec 1 := Scalar.cmpi .ne v702 v707
  let v709 : BitVec 32 := Scalar.remsi v95 c8_i32_343
  let c0_i32_348 : BitVec 32 := 0#32
  let v710 : BitVec 1 := Scalar.cmpi .ne v709 c0_i32_348
  let v711 : BitVec 1 := Scalar.andi v708 v710
  let v697 : BitVec 32 := Scalar.divsi v95 c8_i32_343
  let c1_i32_349 : BitVec 32 := 1#32
  let v712 : BitVec 32 := Scalar.subi v697 c1_i32_349
  let v713 : BitVec 32 := Scalar.select v711 v712 v697
  let c8_i32_394 : BitVec 32 := 8#32
  let v818 : BitVec 32 := Scalar.muli v713 c8_i32_394
  let v819 : BitVec 32 := Scalar.subi v95 v818
  let v968 : BitVec 32 := Scalar.addi v673 v819
  let v969 : BitVec 32 := Scalar.maxsi v967 v968
  let c0_i32_87 : BitVec 32 := 0#32
  let c2048_i32_88 : BitVec 32 := 2048#32
  let v192 : BitVec 32 := Scalar.addi c0_i32_87 c2048_i32_88
  let c2048_i32_89 : BitVec 32 := 2048#32
  let v193 : BitVec 1 := Scalar.cmpi .sle v192 c2048_i32_89
  let c3_i32 : BitVec 32 := 3#32
  let v197 : BitVec 1 := Scalar.cmpi .slt v196 c3_i32
  let v198 : BitVec 1 := Scalar.andi v193 v197
  let c0_i32_91 : BitVec 32 := 0#32
  let v199 : BitVec 32 := Scalar.select v198 v192 c0_i32_91
  let c1024_i32_92 : BitVec 32 := 1024#32
  let v200 : BitVec 32 := Scalar.addi v199 c1024_i32_92
  let c2048_i32_93 : BitVec 32 := 2048#32
  let v201 : BitVec 1 := Scalar.cmpi .sle v200 c2048_i32_93
  let c3_i32_95 : BitVec 32 := 3#32
  let v205 : BitVec 1 := Scalar.cmpi .slt v204 c3_i32_95
  let v206 : BitVec 1 := Scalar.andi v201 v205
  let v207 : BitVec 32 := Scalar.select v206 v200 v199
  let c512_i32_96 : BitVec 32 := 512#32
  let v208 : BitVec 32 := Scalar.addi v207 c512_i32_96
  let c2048_i32_97 : BitVec 32 := 2048#32
  let v209 : BitVec 1 := Scalar.cmpi .sle v208 c2048_i32_97
  let c3_i32_99 : BitVec 32 := 3#32
  let v213 : BitVec 1 := Scalar.cmpi .slt v212 c3_i32_99
  let v214 : BitVec 1 := Scalar.andi v209 v213
  let v215 : BitVec 32 := Scalar.select v214 v208 v207
  let c256_i32_100 : BitVec 32 := 256#32
  let v216 : BitVec 32 := Scalar.addi v215 c256_i32_100
  let c2048_i32_101 : BitVec 32 := 2048#32
  let v217 : BitVec 1 := Scalar.cmpi .sle v216 c2048_i32_101
  let c3_i32_103 : BitVec 32 := 3#32
  let v221 : BitVec 1 := Scalar.cmpi .slt v220 c3_i32_103
  let v222 : BitVec 1 := Scalar.andi v217 v221
  let v223 : BitVec 32 := Scalar.select v222 v216 v215
  let c128_i32_104 : BitVec 32 := 128#32
  let v224 : BitVec 32 := Scalar.addi v223 c128_i32_104
  let c2048_i32_105 : BitVec 32 := 2048#32
  let v225 : BitVec 1 := Scalar.cmpi .sle v224 c2048_i32_105
  let c3_i32_107 : BitVec 32 := 3#32
  let v229 : BitVec 1 := Scalar.cmpi .slt v228 c3_i32_107
  let v230 : BitVec 1 := Scalar.andi v225 v229
  let v231 : BitVec 32 := Scalar.select v230 v224 v223
  let c64_i32_108 : BitVec 32 := 64#32
  let v232 : BitVec 32 := Scalar.addi v231 c64_i32_108
  let c2048_i32_109 : BitVec 32 := 2048#32
  let v233 : BitVec 1 := Scalar.cmpi .sle v232 c2048_i32_109
  let c3_i32_111 : BitVec 32 := 3#32
  let v237 : BitVec 1 := Scalar.cmpi .slt v236 c3_i32_111
  let v238 : BitVec 1 := Scalar.andi v233 v237
  let v239 : BitVec 32 := Scalar.select v238 v232 v231
  let c32_i32_112 : BitVec 32 := 32#32
  let v240 : BitVec 32 := Scalar.addi v239 c32_i32_112
  let c2048_i32_113 : BitVec 32 := 2048#32
  let v241 : BitVec 1 := Scalar.cmpi .sle v240 c2048_i32_113
  let c3_i32_115 : BitVec 32 := 3#32
  let v245 : BitVec 1 := Scalar.cmpi .slt v244 c3_i32_115
  let v246 : BitVec 1 := Scalar.andi v241 v245
  let v247 : BitVec 32 := Scalar.select v246 v240 v239
  let c16_i32_116 : BitVec 32 := 16#32
  let v248 : BitVec 32 := Scalar.addi v247 c16_i32_116
  let c2048_i32_117 : BitVec 32 := 2048#32
  let v249 : BitVec 1 := Scalar.cmpi .sle v248 c2048_i32_117
  let c3_i32_119 : BitVec 32 := 3#32
  let v253 : BitVec 1 := Scalar.cmpi .slt v252 c3_i32_119
  let v254 : BitVec 1 := Scalar.andi v249 v253
  let v255 : BitVec 32 := Scalar.select v254 v248 v247
  let c8_i32_120 : BitVec 32 := 8#32
  let v256 : BitVec 32 := Scalar.addi v255 c8_i32_120
  let c2048_i32_121 : BitVec 32 := 2048#32
  let v257 : BitVec 1 := Scalar.cmpi .sle v256 c2048_i32_121
  let c3_i32_123 : BitVec 32 := 3#32
  let v261 : BitVec 1 := Scalar.cmpi .slt v260 c3_i32_123
  let v262 : BitVec 1 := Scalar.andi v257 v261
  let v263 : BitVec 32 := Scalar.select v262 v256 v255
  let c4_i32_124 : BitVec 32 := 4#32
  let v264 : BitVec 32 := Scalar.addi v263 c4_i32_124
  let c2048_i32_125 : BitVec 32 := 2048#32
  let v265 : BitVec 1 := Scalar.cmpi .sle v264 c2048_i32_125
  let c3_i32_127 : BitVec 32 := 3#32
  let v269 : BitVec 1 := Scalar.cmpi .slt v268 c3_i32_127
  let v270 : BitVec 1 := Scalar.andi v265 v269
  let v271 : BitVec 32 := Scalar.select v270 v264 v263
  let c2_i32_128 : BitVec 32 := 2#32
  let v272 : BitVec 32 := Scalar.addi v271 c2_i32_128
  let c2048_i32_129 : BitVec 32 := 2048#32
  let v273 : BitVec 1 := Scalar.cmpi .sle v272 c2048_i32_129
  let c3_i32_131 : BitVec 32 := 3#32
  let v277 : BitVec 1 := Scalar.cmpi .slt v276 c3_i32_131
  let v278 : BitVec 1 := Scalar.andi v273 v277
  let v279 : BitVec 32 := Scalar.select v278 v272 v271
  let c1_i32_132 : BitVec 32 := 1#32
  let v280 : BitVec 32 := Scalar.addi v279 c1_i32_132
  let c2048_i32_133 : BitVec 32 := 2048#32
  let v281 : BitVec 1 := Scalar.cmpi .sle v280 c2048_i32_133
  let c3_i32_135 : BitVec 32 := 3#32
  let v285 : BitVec 1 := Scalar.cmpi .slt v284 c3_i32_135
  let v286 : BitVec 1 := Scalar.andi v281 v285
  let v287 : BitVec 32 := Scalar.select v286 v280 v279
  let v674 : BitVec 32 := Scalar.subi v287 v191
  let c0_i32_351 : BitVec 32 := 0#32
  let v715 : BitVec 1 := Scalar.cmpi .sgt v191 c0_i32_351
  let v716 : BitVec 32 := Scalar.extui v715
  let c0_i32_352 : BitVec 32 := 0#32
  let v717 : BitVec 1 := Scalar.cmpi .slt v191 c0_i32_352
  let v718 : BitVec 32 := Scalar.extui v717
  let v719 : BitVec 32 := Scalar.subi v716 v718
  let c8_i32_350 : BitVec 32 := 8#32
  let c0_i32_353 : BitVec 32 := 0#32
  let v720 : BitVec 1 := Scalar.cmpi .sgt c8_i32_350 c0_i32_353
  let v721 : BitVec 32 := Scalar.extui v720
  let c0_i32_354 : BitVec 32 := 0#32
  let v722 : BitVec 1 := Scalar.cmpi .slt c8_i32_350 c0_i32_354
  let v723 : BitVec 32 := Scalar.extui v722
  let v724 : BitVec 32 := Scalar.subi v721 v723
  let v725 : BitVec 1 := Scalar.cmpi .ne v719 v724
  let v726 : BitVec 32 := Scalar.remsi v191 c8_i32_350
  let c0_i32_355 : BitVec 32 := 0#32
  let v727 : BitVec 1 := Scalar.cmpi .ne v726 c0_i32_355
  let v728 : BitVec 1 := Scalar.andi v725 v727
  let v714 : BitVec 32 := Scalar.divsi v191 c8_i32_350
  let c1_i32_356 : BitVec 32 := 1#32
  let v729 : BitVec 32 := Scalar.subi v714 c1_i32_356
  let v730 : BitVec 32 := Scalar.select v728 v729 v714
  let c8_i32_395 : BitVec 32 := 8#32
  let v820 : BitVec 32 := Scalar.muli v730 c8_i32_395
  let v821 : BitVec 32 := Scalar.subi v191 v820
  let v970 : BitVec 32 := Scalar.addi v674 v821
  let v971 : BitVec 32 := Scalar.maxsi v969 v970
  let c0_i32_136 : BitVec 32 := 0#32
  let c2048_i32_137 : BitVec 32 := 2048#32
  let v288 : BitVec 32 := Scalar.addi c0_i32_136 c2048_i32_137
  let c2048_i32_138 : BitVec 32 := 2048#32
  let v289 : BitVec 1 := Scalar.cmpi .sle v288 c2048_i32_138
  let c4_i32_140 : BitVec 32 := 4#32
  let v293 : BitVec 1 := Scalar.cmpi .slt v292 c4_i32_140
  let v294 : BitVec 1 := Scalar.andi v289 v293
  let c0_i32_141 : BitVec 32 := 0#32
  let v295 : BitVec 32 := Scalar.select v294 v288 c0_i32_141
  let c1024_i32_142 : BitVec 32 := 1024#32
  let v296 : BitVec 32 := Scalar.addi v295 c1024_i32_142
  let c2048_i32_143 : BitVec 32 := 2048#32
  let v297 : BitVec 1 := Scalar.cmpi .sle v296 c2048_i32_143
  let c4_i32_145 : BitVec 32 := 4#32
  let v301 : BitVec 1 := Scalar.cmpi .slt v300 c4_i32_145
  let v302 : BitVec 1 := Scalar.andi v297 v301
  let v303 : BitVec 32 := Scalar.select v302 v296 v295
  let c512_i32_146 : BitVec 32 := 512#32
  let v304 : BitVec 32 := Scalar.addi v303 c512_i32_146
  let c2048_i32_147 : BitVec 32 := 2048#32
  let v305 : BitVec 1 := Scalar.cmpi .sle v304 c2048_i32_147
  let c4_i32_149 : BitVec 32 := 4#32
  let v309 : BitVec 1 := Scalar.cmpi .slt v308 c4_i32_149
  let v310 : BitVec 1 := Scalar.andi v305 v309
  let v311 : BitVec 32 := Scalar.select v310 v304 v303
  let c256_i32_150 : BitVec 32 := 256#32
  let v312 : BitVec 32 := Scalar.addi v311 c256_i32_150
  let c2048_i32_151 : BitVec 32 := 2048#32
  let v313 : BitVec 1 := Scalar.cmpi .sle v312 c2048_i32_151
  let c4_i32_153 : BitVec 32 := 4#32
  let v317 : BitVec 1 := Scalar.cmpi .slt v316 c4_i32_153
  let v318 : BitVec 1 := Scalar.andi v313 v317
  let v319 : BitVec 32 := Scalar.select v318 v312 v311
  let c128_i32_154 : BitVec 32 := 128#32
  let v320 : BitVec 32 := Scalar.addi v319 c128_i32_154
  let c2048_i32_155 : BitVec 32 := 2048#32
  let v321 : BitVec 1 := Scalar.cmpi .sle v320 c2048_i32_155
  let c4_i32_157 : BitVec 32 := 4#32
  let v325 : BitVec 1 := Scalar.cmpi .slt v324 c4_i32_157
  let v326 : BitVec 1 := Scalar.andi v321 v325
  let v327 : BitVec 32 := Scalar.select v326 v320 v319
  let c64_i32_158 : BitVec 32 := 64#32
  let v328 : BitVec 32 := Scalar.addi v327 c64_i32_158
  let c2048_i32_159 : BitVec 32 := 2048#32
  let v329 : BitVec 1 := Scalar.cmpi .sle v328 c2048_i32_159
  let c4_i32_161 : BitVec 32 := 4#32
  let v333 : BitVec 1 := Scalar.cmpi .slt v332 c4_i32_161
  let v334 : BitVec 1 := Scalar.andi v329 v333
  let v335 : BitVec 32 := Scalar.select v334 v328 v327
  let c32_i32_162 : BitVec 32 := 32#32
  let v336 : BitVec 32 := Scalar.addi v335 c32_i32_162
  let c2048_i32_163 : BitVec 32 := 2048#32
  let v337 : BitVec 1 := Scalar.cmpi .sle v336 c2048_i32_163
  let c4_i32_165 : BitVec 32 := 4#32
  let v341 : BitVec 1 := Scalar.cmpi .slt v340 c4_i32_165
  let v342 : BitVec 1 := Scalar.andi v337 v341
  let v343 : BitVec 32 := Scalar.select v342 v336 v335
  let c16_i32_166 : BitVec 32 := 16#32
  let v344 : BitVec 32 := Scalar.addi v343 c16_i32_166
  let c2048_i32_167 : BitVec 32 := 2048#32
  let v345 : BitVec 1 := Scalar.cmpi .sle v344 c2048_i32_167
  let c4_i32_169 : BitVec 32 := 4#32
  let v349 : BitVec 1 := Scalar.cmpi .slt v348 c4_i32_169
  let v350 : BitVec 1 := Scalar.andi v345 v349
  let v351 : BitVec 32 := Scalar.select v350 v344 v343
  let c8_i32_170 : BitVec 32 := 8#32
  let v352 : BitVec 32 := Scalar.addi v351 c8_i32_170
  let c2048_i32_171 : BitVec 32 := 2048#32
  let v353 : BitVec 1 := Scalar.cmpi .sle v352 c2048_i32_171
  let c4_i32_173 : BitVec 32 := 4#32
  let v357 : BitVec 1 := Scalar.cmpi .slt v356 c4_i32_173
  let v358 : BitVec 1 := Scalar.andi v353 v357
  let v359 : BitVec 32 := Scalar.select v358 v352 v351
  let c4_i32_174 : BitVec 32 := 4#32
  let v360 : BitVec 32 := Scalar.addi v359 c4_i32_174
  let c2048_i32_175 : BitVec 32 := 2048#32
  let v361 : BitVec 1 := Scalar.cmpi .sle v360 c2048_i32_175
  let c4_i32_177 : BitVec 32 := 4#32
  let v365 : BitVec 1 := Scalar.cmpi .slt v364 c4_i32_177
  let v366 : BitVec 1 := Scalar.andi v361 v365
  let v367 : BitVec 32 := Scalar.select v366 v360 v359
  let c2_i32_178 : BitVec 32 := 2#32
  let v368 : BitVec 32 := Scalar.addi v367 c2_i32_178
  let c2048_i32_179 : BitVec 32 := 2048#32
  let v369 : BitVec 1 := Scalar.cmpi .sle v368 c2048_i32_179
  let c4_i32_181 : BitVec 32 := 4#32
  let v373 : BitVec 1 := Scalar.cmpi .slt v372 c4_i32_181
  let v374 : BitVec 1 := Scalar.andi v369 v373
  let v375 : BitVec 32 := Scalar.select v374 v368 v367
  let c1_i32_182 : BitVec 32 := 1#32
  let v376 : BitVec 32 := Scalar.addi v375 c1_i32_182
  let c2048_i32_183 : BitVec 32 := 2048#32
  let v377 : BitVec 1 := Scalar.cmpi .sle v376 c2048_i32_183
  let c4_i32_185 : BitVec 32 := 4#32
  let v381 : BitVec 1 := Scalar.cmpi .slt v380 c4_i32_185
  let v382 : BitVec 1 := Scalar.andi v377 v381
  let v383 : BitVec 32 := Scalar.select v382 v376 v375
  let v675 : BitVec 32 := Scalar.subi v383 v287
  let c0_i32_358 : BitVec 32 := 0#32
  let v732 : BitVec 1 := Scalar.cmpi .sgt v287 c0_i32_358
  let v733 : BitVec 32 := Scalar.extui v732
  let c0_i32_359 : BitVec 32 := 0#32
  let v734 : BitVec 1 := Scalar.cmpi .slt v287 c0_i32_359
  let v735 : BitVec 32 := Scalar.extui v734
  let v736 : BitVec 32 := Scalar.subi v733 v735
  let c8_i32_357 : BitVec 32 := 8#32
  let c0_i32_360 : BitVec 32 := 0#32
  let v737 : BitVec 1 := Scalar.cmpi .sgt c8_i32_357 c0_i32_360
  let v738 : BitVec 32 := Scalar.extui v737
  let c0_i32_361 : BitVec 32 := 0#32
  let v739 : BitVec 1 := Scalar.cmpi .slt c8_i32_357 c0_i32_361
  let v740 : BitVec 32 := Scalar.extui v739
  let v741 : BitVec 32 := Scalar.subi v738 v740
  let v742 : BitVec 1 := Scalar.cmpi .ne v736 v741
  let v743 : BitVec 32 := Scalar.remsi v287 c8_i32_357
  let c0_i32_362 : BitVec 32 := 0#32
  let v744 : BitVec 1 := Scalar.cmpi .ne v743 c0_i32_362
  let v745 : BitVec 1 := Scalar.andi v742 v744
  let v731 : BitVec 32 := Scalar.divsi v287 c8_i32_357
  let c1_i32_363 : BitVec 32 := 1#32
  let v746 : BitVec 32 := Scalar.subi v731 c1_i32_363
  let v747 : BitVec 32 := Scalar.select v745 v746 v731
  let c8_i32_396 : BitVec 32 := 8#32
  let v822 : BitVec 32 := Scalar.muli v747 c8_i32_396
  let v823 : BitVec 32 := Scalar.subi v287 v822
  let v972 : BitVec 32 := Scalar.addi v675 v823
  let v973 : BitVec 32 := Scalar.maxsi v971 v972
  let c0_i32_186 : BitVec 32 := 0#32
  let c2048_i32_187 : BitVec 32 := 2048#32
  let v384 : BitVec 32 := Scalar.addi c0_i32_186 c2048_i32_187
  let c2048_i32_188 : BitVec 32 := 2048#32
  let v385 : BitVec 1 := Scalar.cmpi .sle v384 c2048_i32_188
  let c5_i32 : BitVec 32 := 5#32
  let v389 : BitVec 1 := Scalar.cmpi .slt v388 c5_i32
  let v390 : BitVec 1 := Scalar.andi v385 v389
  let c0_i32_190 : BitVec 32 := 0#32
  let v391 : BitVec 32 := Scalar.select v390 v384 c0_i32_190
  let c1024_i32_191 : BitVec 32 := 1024#32
  let v392 : BitVec 32 := Scalar.addi v391 c1024_i32_191
  let c2048_i32_192 : BitVec 32 := 2048#32
  let v393 : BitVec 1 := Scalar.cmpi .sle v392 c2048_i32_192
  let c5_i32_194 : BitVec 32 := 5#32
  let v397 : BitVec 1 := Scalar.cmpi .slt v396 c5_i32_194
  let v398 : BitVec 1 := Scalar.andi v393 v397
  let v399 : BitVec 32 := Scalar.select v398 v392 v391
  let c512_i32_195 : BitVec 32 := 512#32
  let v400 : BitVec 32 := Scalar.addi v399 c512_i32_195
  let c2048_i32_196 : BitVec 32 := 2048#32
  let v401 : BitVec 1 := Scalar.cmpi .sle v400 c2048_i32_196
  let c5_i32_198 : BitVec 32 := 5#32
  let v405 : BitVec 1 := Scalar.cmpi .slt v404 c5_i32_198
  let v406 : BitVec 1 := Scalar.andi v401 v405
  let v407 : BitVec 32 := Scalar.select v406 v400 v399
  let c256_i32_199 : BitVec 32 := 256#32
  let v408 : BitVec 32 := Scalar.addi v407 c256_i32_199
  let c2048_i32_200 : BitVec 32 := 2048#32
  let v409 : BitVec 1 := Scalar.cmpi .sle v408 c2048_i32_200
  let c5_i32_202 : BitVec 32 := 5#32
  let v413 : BitVec 1 := Scalar.cmpi .slt v412 c5_i32_202
  let v414 : BitVec 1 := Scalar.andi v409 v413
  let v415 : BitVec 32 := Scalar.select v414 v408 v407
  let c128_i32_203 : BitVec 32 := 128#32
  let v416 : BitVec 32 := Scalar.addi v415 c128_i32_203
  let c2048_i32_204 : BitVec 32 := 2048#32
  let v417 : BitVec 1 := Scalar.cmpi .sle v416 c2048_i32_204
  let c5_i32_206 : BitVec 32 := 5#32
  let v421 : BitVec 1 := Scalar.cmpi .slt v420 c5_i32_206
  let v422 : BitVec 1 := Scalar.andi v417 v421
  let v423 : BitVec 32 := Scalar.select v422 v416 v415
  let c64_i32_207 : BitVec 32 := 64#32
  let v424 : BitVec 32 := Scalar.addi v423 c64_i32_207
  let c2048_i32_208 : BitVec 32 := 2048#32
  let v425 : BitVec 1 := Scalar.cmpi .sle v424 c2048_i32_208
  let c5_i32_210 : BitVec 32 := 5#32
  let v429 : BitVec 1 := Scalar.cmpi .slt v428 c5_i32_210
  let v430 : BitVec 1 := Scalar.andi v425 v429
  let v431 : BitVec 32 := Scalar.select v430 v424 v423
  let c32_i32_211 : BitVec 32 := 32#32
  let v432 : BitVec 32 := Scalar.addi v431 c32_i32_211
  let c2048_i32_212 : BitVec 32 := 2048#32
  let v433 : BitVec 1 := Scalar.cmpi .sle v432 c2048_i32_212
  let c5_i32_214 : BitVec 32 := 5#32
  let v437 : BitVec 1 := Scalar.cmpi .slt v436 c5_i32_214
  let v438 : BitVec 1 := Scalar.andi v433 v437
  let v439 : BitVec 32 := Scalar.select v438 v432 v431
  let c16_i32_215 : BitVec 32 := 16#32
  let v440 : BitVec 32 := Scalar.addi v439 c16_i32_215
  let c2048_i32_216 : BitVec 32 := 2048#32
  let v441 : BitVec 1 := Scalar.cmpi .sle v440 c2048_i32_216
  let c5_i32_218 : BitVec 32 := 5#32
  let v445 : BitVec 1 := Scalar.cmpi .slt v444 c5_i32_218
  let v446 : BitVec 1 := Scalar.andi v441 v445
  let v447 : BitVec 32 := Scalar.select v446 v440 v439
  let c8_i32_219 : BitVec 32 := 8#32
  let v448 : BitVec 32 := Scalar.addi v447 c8_i32_219
  let c2048_i32_220 : BitVec 32 := 2048#32
  let v449 : BitVec 1 := Scalar.cmpi .sle v448 c2048_i32_220
  let c5_i32_222 : BitVec 32 := 5#32
  let v453 : BitVec 1 := Scalar.cmpi .slt v452 c5_i32_222
  let v454 : BitVec 1 := Scalar.andi v449 v453
  let v455 : BitVec 32 := Scalar.select v454 v448 v447
  let c4_i32_223 : BitVec 32 := 4#32
  let v456 : BitVec 32 := Scalar.addi v455 c4_i32_223
  let c2048_i32_224 : BitVec 32 := 2048#32
  let v457 : BitVec 1 := Scalar.cmpi .sle v456 c2048_i32_224
  let c5_i32_226 : BitVec 32 := 5#32
  let v461 : BitVec 1 := Scalar.cmpi .slt v460 c5_i32_226
  let v462 : BitVec 1 := Scalar.andi v457 v461
  let v463 : BitVec 32 := Scalar.select v462 v456 v455
  let c2_i32_227 : BitVec 32 := 2#32
  let v464 : BitVec 32 := Scalar.addi v463 c2_i32_227
  let c2048_i32_228 : BitVec 32 := 2048#32
  let v465 : BitVec 1 := Scalar.cmpi .sle v464 c2048_i32_228
  let c5_i32_230 : BitVec 32 := 5#32
  let v469 : BitVec 1 := Scalar.cmpi .slt v468 c5_i32_230
  let v470 : BitVec 1 := Scalar.andi v465 v469
  let v471 : BitVec 32 := Scalar.select v470 v464 v463
  let c1_i32_231 : BitVec 32 := 1#32
  let v472 : BitVec 32 := Scalar.addi v471 c1_i32_231
  let c2048_i32_232 : BitVec 32 := 2048#32
  let v473 : BitVec 1 := Scalar.cmpi .sle v472 c2048_i32_232
  let c5_i32_234 : BitVec 32 := 5#32
  let v477 : BitVec 1 := Scalar.cmpi .slt v476 c5_i32_234
  let v478 : BitVec 1 := Scalar.andi v473 v477
  let v479 : BitVec 32 := Scalar.select v478 v472 v471
  let v676 : BitVec 32 := Scalar.subi v479 v383
  let c0_i32_365 : BitVec 32 := 0#32
  let v749 : BitVec 1 := Scalar.cmpi .sgt v383 c0_i32_365
  let v750 : BitVec 32 := Scalar.extui v749
  let c0_i32_366 : BitVec 32 := 0#32
  let v751 : BitVec 1 := Scalar.cmpi .slt v383 c0_i32_366
  let v752 : BitVec 32 := Scalar.extui v751
  let v753 : BitVec 32 := Scalar.subi v750 v752
  let c8_i32_364 : BitVec 32 := 8#32
  let c0_i32_367 : BitVec 32 := 0#32
  let v754 : BitVec 1 := Scalar.cmpi .sgt c8_i32_364 c0_i32_367
  let v755 : BitVec 32 := Scalar.extui v754
  let c0_i32_368 : BitVec 32 := 0#32
  let v756 : BitVec 1 := Scalar.cmpi .slt c8_i32_364 c0_i32_368
  let v757 : BitVec 32 := Scalar.extui v756
  let v758 : BitVec 32 := Scalar.subi v755 v757
  let v759 : BitVec 1 := Scalar.cmpi .ne v753 v758
  let v760 : BitVec 32 := Scalar.remsi v383 c8_i32_364
  let c0_i32_369 : BitVec 32 := 0#32
  let v761 : BitVec 1 := Scalar.cmpi .ne v760 c0_i32_369
  let v762 : BitVec 1 := Scalar.andi v759 v761
  let v748 : BitVec 32 := Scalar.divsi v383 c8_i32_364
  let c1_i32_370 : BitVec 32 := 1#32
  let v763 : BitVec 32 := Scalar.subi v748 c1_i32_370
  let v764 : BitVec 32 := Scalar.select v762 v763 v748
  let c8_i32_397 : BitVec 32 := 8#32
  let v824 : BitVec 32 := Scalar.muli v764 c8_i32_397
  let v825 : BitVec 32 := Scalar.subi v383 v824
  let v974 : BitVec 32 := Scalar.addi v676 v825
  let v975 : BitVec 32 := Scalar.maxsi v973 v974
  let c0_i32_235 : BitVec 32 := 0#32
  let c2048_i32_236 : BitVec 32 := 2048#32
  let v480 : BitVec 32 := Scalar.addi c0_i32_235 c2048_i32_236
  let c2048_i32_237 : BitVec 32 := 2048#32
  let v481 : BitVec 1 := Scalar.cmpi .sle v480 c2048_i32_237
  let c6_i32 : BitVec 32 := 6#32
  let v485 : BitVec 1 := Scalar.cmpi .slt v484 c6_i32
  let v486 : BitVec 1 := Scalar.andi v481 v485
  let c0_i32_239 : BitVec 32 := 0#32
  let v487 : BitVec 32 := Scalar.select v486 v480 c0_i32_239
  let c1024_i32_240 : BitVec 32 := 1024#32
  let v488 : BitVec 32 := Scalar.addi v487 c1024_i32_240
  let c2048_i32_241 : BitVec 32 := 2048#32
  let v489 : BitVec 1 := Scalar.cmpi .sle v488 c2048_i32_241
  let c6_i32_243 : BitVec 32 := 6#32
  let v493 : BitVec 1 := Scalar.cmpi .slt v492 c6_i32_243
  let v494 : BitVec 1 := Scalar.andi v489 v493
  let v495 : BitVec 32 := Scalar.select v494 v488 v487
  let c512_i32_244 : BitVec 32 := 512#32
  let v496 : BitVec 32 := Scalar.addi v495 c512_i32_244
  let c2048_i32_245 : BitVec 32 := 2048#32
  let v497 : BitVec 1 := Scalar.cmpi .sle v496 c2048_i32_245
  let c6_i32_247 : BitVec 32 := 6#32
  let v501 : BitVec 1 := Scalar.cmpi .slt v500 c6_i32_247
  let v502 : BitVec 1 := Scalar.andi v497 v501
  let v503 : BitVec 32 := Scalar.select v502 v496 v495
  let c256_i32_248 : BitVec 32 := 256#32
  let v504 : BitVec 32 := Scalar.addi v503 c256_i32_248
  let c2048_i32_249 : BitVec 32 := 2048#32
  let v505 : BitVec 1 := Scalar.cmpi .sle v504 c2048_i32_249
  let c6_i32_251 : BitVec 32 := 6#32
  let v509 : BitVec 1 := Scalar.cmpi .slt v508 c6_i32_251
  let v510 : BitVec 1 := Scalar.andi v505 v509
  let v511 : BitVec 32 := Scalar.select v510 v504 v503
  let c128_i32_252 : BitVec 32 := 128#32
  let v512 : BitVec 32 := Scalar.addi v511 c128_i32_252
  let c2048_i32_253 : BitVec 32 := 2048#32
  let v513 : BitVec 1 := Scalar.cmpi .sle v512 c2048_i32_253
  let c6_i32_255 : BitVec 32 := 6#32
  let v517 : BitVec 1 := Scalar.cmpi .slt v516 c6_i32_255
  let v518 : BitVec 1 := Scalar.andi v513 v517
  let v519 : BitVec 32 := Scalar.select v518 v512 v511
  let c64_i32_256 : BitVec 32 := 64#32
  let v520 : BitVec 32 := Scalar.addi v519 c64_i32_256
  let c2048_i32_257 : BitVec 32 := 2048#32
  let v521 : BitVec 1 := Scalar.cmpi .sle v520 c2048_i32_257
  let c6_i32_259 : BitVec 32 := 6#32
  let v525 : BitVec 1 := Scalar.cmpi .slt v524 c6_i32_259
  let v526 : BitVec 1 := Scalar.andi v521 v525
  let v527 : BitVec 32 := Scalar.select v526 v520 v519
  let c32_i32_260 : BitVec 32 := 32#32
  let v528 : BitVec 32 := Scalar.addi v527 c32_i32_260
  let c2048_i32_261 : BitVec 32 := 2048#32
  let v529 : BitVec 1 := Scalar.cmpi .sle v528 c2048_i32_261
  let c6_i32_263 : BitVec 32 := 6#32
  let v533 : BitVec 1 := Scalar.cmpi .slt v532 c6_i32_263
  let v534 : BitVec 1 := Scalar.andi v529 v533
  let v535 : BitVec 32 := Scalar.select v534 v528 v527
  let c16_i32_264 : BitVec 32 := 16#32
  let v536 : BitVec 32 := Scalar.addi v535 c16_i32_264
  let c2048_i32_265 : BitVec 32 := 2048#32
  let v537 : BitVec 1 := Scalar.cmpi .sle v536 c2048_i32_265
  let c6_i32_267 : BitVec 32 := 6#32
  let v541 : BitVec 1 := Scalar.cmpi .slt v540 c6_i32_267
  let v542 : BitVec 1 := Scalar.andi v537 v541
  let v543 : BitVec 32 := Scalar.select v542 v536 v535
  let c8_i32_268 : BitVec 32 := 8#32
  let v544 : BitVec 32 := Scalar.addi v543 c8_i32_268
  let c2048_i32_269 : BitVec 32 := 2048#32
  let v545 : BitVec 1 := Scalar.cmpi .sle v544 c2048_i32_269
  let c6_i32_271 : BitVec 32 := 6#32
  let v549 : BitVec 1 := Scalar.cmpi .slt v548 c6_i32_271
  let v550 : BitVec 1 := Scalar.andi v545 v549
  let v551 : BitVec 32 := Scalar.select v550 v544 v543
  let c4_i32_272 : BitVec 32 := 4#32
  let v552 : BitVec 32 := Scalar.addi v551 c4_i32_272
  let c2048_i32_273 : BitVec 32 := 2048#32
  let v553 : BitVec 1 := Scalar.cmpi .sle v552 c2048_i32_273
  let c6_i32_275 : BitVec 32 := 6#32
  let v557 : BitVec 1 := Scalar.cmpi .slt v556 c6_i32_275
  let v558 : BitVec 1 := Scalar.andi v553 v557
  let v559 : BitVec 32 := Scalar.select v558 v552 v551
  let c2_i32_276 : BitVec 32 := 2#32
  let v560 : BitVec 32 := Scalar.addi v559 c2_i32_276
  let c2048_i32_277 : BitVec 32 := 2048#32
  let v561 : BitVec 1 := Scalar.cmpi .sle v560 c2048_i32_277
  let c6_i32_279 : BitVec 32 := 6#32
  let v565 : BitVec 1 := Scalar.cmpi .slt v564 c6_i32_279
  let v566 : BitVec 1 := Scalar.andi v561 v565
  let v567 : BitVec 32 := Scalar.select v566 v560 v559
  let c1_i32_280 : BitVec 32 := 1#32
  let v568 : BitVec 32 := Scalar.addi v567 c1_i32_280
  let c2048_i32_281 : BitVec 32 := 2048#32
  let v569 : BitVec 1 := Scalar.cmpi .sle v568 c2048_i32_281
  let c6_i32_283 : BitVec 32 := 6#32
  let v573 : BitVec 1 := Scalar.cmpi .slt v572 c6_i32_283
  let v574 : BitVec 1 := Scalar.andi v569 v573
  let v575 : BitVec 32 := Scalar.select v574 v568 v567
  let v677 : BitVec 32 := Scalar.subi v575 v479
  let c0_i32_372 : BitVec 32 := 0#32
  let v766 : BitVec 1 := Scalar.cmpi .sgt v479 c0_i32_372
  let v767 : BitVec 32 := Scalar.extui v766
  let c0_i32_373 : BitVec 32 := 0#32
  let v768 : BitVec 1 := Scalar.cmpi .slt v479 c0_i32_373
  let v769 : BitVec 32 := Scalar.extui v768
  let v770 : BitVec 32 := Scalar.subi v767 v769
  let c8_i32_371 : BitVec 32 := 8#32
  let c0_i32_374 : BitVec 32 := 0#32
  let v771 : BitVec 1 := Scalar.cmpi .sgt c8_i32_371 c0_i32_374
  let v772 : BitVec 32 := Scalar.extui v771
  let c0_i32_375 : BitVec 32 := 0#32
  let v773 : BitVec 1 := Scalar.cmpi .slt c8_i32_371 c0_i32_375
  let v774 : BitVec 32 := Scalar.extui v773
  let v775 : BitVec 32 := Scalar.subi v772 v774
  let v776 : BitVec 1 := Scalar.cmpi .ne v770 v775
  let v777 : BitVec 32 := Scalar.remsi v479 c8_i32_371
  let c0_i32_376 : BitVec 32 := 0#32
  let v778 : BitVec 1 := Scalar.cmpi .ne v777 c0_i32_376
  let v779 : BitVec 1 := Scalar.andi v776 v778
  let v765 : BitVec 32 := Scalar.divsi v479 c8_i32_371
  let c1_i32_377 : BitVec 32 := 1#32
  let v780 : BitVec 32 := Scalar.subi v765 c1_i32_377
  let v781 : BitVec 32 := Scalar.select v779 v780 v765
  let c8_i32_398 : BitVec 32 := 8#32
  let v826 : BitVec 32 := Scalar.muli v781 c8_i32_398
  let v827 : BitVec 32 := Scalar.subi v479 v826
  let v976 : BitVec 32 := Scalar.addi v677 v827
  let v977 : BitVec 32 := Scalar.maxsi v975 v976
  let c0_i32_284 : BitVec 32 := 0#32
  let c2048_i32_285 : BitVec 32 := 2048#32
  let v576 : BitVec 32 := Scalar.addi c0_i32_284 c2048_i32_285
  let c2048_i32_286 : BitVec 32 := 2048#32
  let v577 : BitVec 1 := Scalar.cmpi .sle v576 c2048_i32_286
  let c7_i32 : BitVec 32 := 7#32
  let v581 : BitVec 1 := Scalar.cmpi .slt v580 c7_i32
  let v582 : BitVec 1 := Scalar.andi v577 v581
  let c0_i32_288 : BitVec 32 := 0#32
  let v583 : BitVec 32 := Scalar.select v582 v576 c0_i32_288
  let c1024_i32_289 : BitVec 32 := 1024#32
  let v584 : BitVec 32 := Scalar.addi v583 c1024_i32_289
  let c2048_i32_290 : BitVec 32 := 2048#32
  let v585 : BitVec 1 := Scalar.cmpi .sle v584 c2048_i32_290
  let c7_i32_292 : BitVec 32 := 7#32
  let v589 : BitVec 1 := Scalar.cmpi .slt v588 c7_i32_292
  let v590 : BitVec 1 := Scalar.andi v585 v589
  let v591 : BitVec 32 := Scalar.select v590 v584 v583
  let c512_i32_293 : BitVec 32 := 512#32
  let v592 : BitVec 32 := Scalar.addi v591 c512_i32_293
  let c2048_i32_294 : BitVec 32 := 2048#32
  let v593 : BitVec 1 := Scalar.cmpi .sle v592 c2048_i32_294
  let c7_i32_296 : BitVec 32 := 7#32
  let v597 : BitVec 1 := Scalar.cmpi .slt v596 c7_i32_296
  let v598 : BitVec 1 := Scalar.andi v593 v597
  let v599 : BitVec 32 := Scalar.select v598 v592 v591
  let c256_i32_297 : BitVec 32 := 256#32
  let v600 : BitVec 32 := Scalar.addi v599 c256_i32_297
  let c2048_i32_298 : BitVec 32 := 2048#32
  let v601 : BitVec 1 := Scalar.cmpi .sle v600 c2048_i32_298
  let c7_i32_300 : BitVec 32 := 7#32
  let v605 : BitVec 1 := Scalar.cmpi .slt v604 c7_i32_300
  let v606 : BitVec 1 := Scalar.andi v601 v605
  let v607 : BitVec 32 := Scalar.select v606 v600 v599
  let c128_i32_301 : BitVec 32 := 128#32
  let v608 : BitVec 32 := Scalar.addi v607 c128_i32_301
  let c2048_i32_302 : BitVec 32 := 2048#32
  let v609 : BitVec 1 := Scalar.cmpi .sle v608 c2048_i32_302
  let c7_i32_304 : BitVec 32 := 7#32
  let v613 : BitVec 1 := Scalar.cmpi .slt v612 c7_i32_304
  let v614 : BitVec 1 := Scalar.andi v609 v613
  let v615 : BitVec 32 := Scalar.select v614 v608 v607
  let c64_i32_305 : BitVec 32 := 64#32
  let v616 : BitVec 32 := Scalar.addi v615 c64_i32_305
  let c2048_i32_306 : BitVec 32 := 2048#32
  let v617 : BitVec 1 := Scalar.cmpi .sle v616 c2048_i32_306
  let c7_i32_308 : BitVec 32 := 7#32
  let v621 : BitVec 1 := Scalar.cmpi .slt v620 c7_i32_308
  let v622 : BitVec 1 := Scalar.andi v617 v621
  let v623 : BitVec 32 := Scalar.select v622 v616 v615
  let c32_i32_309 : BitVec 32 := 32#32
  let v624 : BitVec 32 := Scalar.addi v623 c32_i32_309
  let c2048_i32_310 : BitVec 32 := 2048#32
  let v625 : BitVec 1 := Scalar.cmpi .sle v624 c2048_i32_310
  let c7_i32_312 : BitVec 32 := 7#32
  let v629 : BitVec 1 := Scalar.cmpi .slt v628 c7_i32_312
  let v630 : BitVec 1 := Scalar.andi v625 v629
  let v631 : BitVec 32 := Scalar.select v630 v624 v623
  let c16_i32_313 : BitVec 32 := 16#32
  let v632 : BitVec 32 := Scalar.addi v631 c16_i32_313
  let c2048_i32_314 : BitVec 32 := 2048#32
  let v633 : BitVec 1 := Scalar.cmpi .sle v632 c2048_i32_314
  let c7_i32_316 : BitVec 32 := 7#32
  let v637 : BitVec 1 := Scalar.cmpi .slt v636 c7_i32_316
  let v638 : BitVec 1 := Scalar.andi v633 v637
  let v639 : BitVec 32 := Scalar.select v638 v632 v631
  let c8_i32_317 : BitVec 32 := 8#32
  let v640 : BitVec 32 := Scalar.addi v639 c8_i32_317
  let c2048_i32_318 : BitVec 32 := 2048#32
  let v641 : BitVec 1 := Scalar.cmpi .sle v640 c2048_i32_318
  let c7_i32_320 : BitVec 32 := 7#32
  let v645 : BitVec 1 := Scalar.cmpi .slt v644 c7_i32_320
  let v646 : BitVec 1 := Scalar.andi v641 v645
  let v647 : BitVec 32 := Scalar.select v646 v640 v639
  let c4_i32_321 : BitVec 32 := 4#32
  let v648 : BitVec 32 := Scalar.addi v647 c4_i32_321
  let c2048_i32_322 : BitVec 32 := 2048#32
  let v649 : BitVec 1 := Scalar.cmpi .sle v648 c2048_i32_322
  let c7_i32_324 : BitVec 32 := 7#32
  let v653 : BitVec 1 := Scalar.cmpi .slt v652 c7_i32_324
  let v654 : BitVec 1 := Scalar.andi v649 v653
  let v655 : BitVec 32 := Scalar.select v654 v648 v647
  let c2_i32_325 : BitVec 32 := 2#32
  let v656 : BitVec 32 := Scalar.addi v655 c2_i32_325
  let c2048_i32_326 : BitVec 32 := 2048#32
  let v657 : BitVec 1 := Scalar.cmpi .sle v656 c2048_i32_326
  let c7_i32_328 : BitVec 32 := 7#32
  let v661 : BitVec 1 := Scalar.cmpi .slt v660 c7_i32_328
  let v662 : BitVec 1 := Scalar.andi v657 v661
  let v663 : BitVec 32 := Scalar.select v662 v656 v655
  let c1_i32_329 : BitVec 32 := 1#32
  let v664 : BitVec 32 := Scalar.addi v663 c1_i32_329
  let c2048_i32_330 : BitVec 32 := 2048#32
  let v665 : BitVec 1 := Scalar.cmpi .sle v664 c2048_i32_330
  let c7_i32_332 : BitVec 32 := 7#32
  let v669 : BitVec 1 := Scalar.cmpi .slt v668 c7_i32_332
  let v670 : BitVec 1 := Scalar.andi v665 v669
  let v671 : BitVec 32 := Scalar.select v670 v664 v663
  let v678 : BitVec 32 := Scalar.subi v671 v575
  let c0_i32_379 : BitVec 32 := 0#32
  let v783 : BitVec 1 := Scalar.cmpi .sgt v575 c0_i32_379
  let v784 : BitVec 32 := Scalar.extui v783
  let c0_i32_380 : BitVec 32 := 0#32
  let v785 : BitVec 1 := Scalar.cmpi .slt v575 c0_i32_380
  let v786 : BitVec 32 := Scalar.extui v785
  let v787 : BitVec 32 := Scalar.subi v784 v786
  let c8_i32_378 : BitVec 32 := 8#32
  let c0_i32_381 : BitVec 32 := 0#32
  let v788 : BitVec 1 := Scalar.cmpi .sgt c8_i32_378 c0_i32_381
  let v789 : BitVec 32 := Scalar.extui v788
  let c0_i32_382 : BitVec 32 := 0#32
  let v790 : BitVec 1 := Scalar.cmpi .slt c8_i32_378 c0_i32_382
  let v791 : BitVec 32 := Scalar.extui v790
  let v792 : BitVec 32 := Scalar.subi v789 v791
  let v793 : BitVec 1 := Scalar.cmpi .ne v787 v792
  let v794 : BitVec 32 := Scalar.remsi v575 c8_i32_378
  let c0_i32_383 : BitVec 32 := 0#32
  let v795 : BitVec 1 := Scalar.cmpi .ne v794 c0_i32_383
  let v796 : BitVec 1 := Scalar.andi v793 v795
  let v782 : BitVec 32 := Scalar.divsi v575 c8_i32_378
  let c1_i32_384 : BitVec 32 := 1#32
  let v797 : BitVec 32 := Scalar.subi v782 c1_i32_384
  let v798 : BitVec 32 := Scalar.select v796 v797 v782
  let c8_i32_399 : BitVec 32 := 8#32
  let v828 : BitVec 32 := Scalar.muli v798 c8_i32_399
  let v829 : BitVec 32 := Scalar.subi v575 v828
  let v978 : BitVec 32 := Scalar.addi v678 v829
  let v979 : BitVec 32 := Scalar.maxsi v977 v978
  let c2048_i32_334 : BitVec 32 := 2048#32
  let v679 : BitVec 32 := Scalar.subi c2048_i32_334 v671
  let c0_i32_386 : BitVec 32 := 0#32
  let v800 : BitVec 1 := Scalar.cmpi .sgt v671 c0_i32_386
  let v801 : BitVec 32 := Scalar.extui v800
  let c0_i32_387 : BitVec 32 := 0#32
  let v802 : BitVec 1 := Scalar.cmpi .slt v671 c0_i32_387
  let v803 : BitVec 32 := Scalar.extui v802
  let v804 : BitVec 32 := Scalar.subi v801 v803
  let c8_i32_385 : BitVec 32 := 8#32
  let c0_i32_388 : BitVec 32 := 0#32
  let v805 : BitVec 1 := Scalar.cmpi .sgt c8_i32_385 c0_i32_388
  let v806 : BitVec 32 := Scalar.extui v805
  let c0_i32_389 : BitVec 32 := 0#32
  let v807 : BitVec 1 := Scalar.cmpi .slt c8_i32_385 c0_i32_389
  let v808 : BitVec 32 := Scalar.extui v807
  let v809 : BitVec 32 := Scalar.subi v806 v808
  let v810 : BitVec 1 := Scalar.cmpi .ne v804 v809
  let v811 : BitVec 32 := Scalar.remsi v671 c8_i32_385
  let c0_i32_390 : BitVec 32 := 0#32
  let v812 : BitVec 1 := Scalar.cmpi .ne v811 c0_i32_390
  let v813 : BitVec 1 := Scalar.andi v810 v812
  let v799 : BitVec 32 := Scalar.divsi v671 c8_i32_385
  let c1_i32_391 : BitVec 32 := 1#32
  let v814 : BitVec 32 := Scalar.subi v799 c1_i32_391
  let v815 : BitVec 32 := Scalar.select v813 v814 v799
  let c8_i32_400 : BitVec 32 := 8#32
  let v830 : BitVec 32 := Scalar.muli v815 c8_i32_400
  let v831 : BitVec 32 := Scalar.subi v671 v830
  let v980 : BitVec 32 := Scalar.addi v679 v831
  let v981 : BitVec 32 := Scalar.maxsi v979 v980
  let c4_i32_486 : BitVec 32 := 4#32
  let v992 : BitVec 32 := Scalar.addi v981 c4_i32_486
  let c0_i32_488 : BitVec 32 := 0#32
  let v994 : BitVec 1 := Scalar.cmpi .sgt v992 c0_i32_488
  let v995 : BitVec 32 := Scalar.extui v994
  let c0_i32_489 : BitVec 32 := 0#32
  let v996 : BitVec 1 := Scalar.cmpi .slt v992 c0_i32_489
  let v997 : BitVec 32 := Scalar.extui v996
  let v998 : BitVec 32 := Scalar.subi v995 v997
  let c4_i32_487 : BitVec 32 := 4#32
  let c0_i32_490 : BitVec 32 := 0#32
  let v999 : BitVec 1 := Scalar.cmpi .sgt c4_i32_487 c0_i32_490
  let v1000 : BitVec 32 := Scalar.extui v999
  let c0_i32_491 : BitVec 32 := 0#32
  let v1001 : BitVec 1 := Scalar.cmpi .slt c4_i32_487 c0_i32_491
  let v1002 : BitVec 32 := Scalar.extui v1001
  let v1003 : BitVec 32 := Scalar.subi v1000 v1002
  let v1004 : BitVec 1 := Scalar.cmpi .ne v998 v1003
  let v1005 : BitVec 32 := Scalar.remsi v992 c4_i32_487
  let c0_i32_492 : BitVec 32 := 0#32
  let v1006 : BitVec 1 := Scalar.cmpi .ne v1005 c0_i32_492
  let v1007 : BitVec 1 := Scalar.andi v1004 v1006
  let v993 : BitVec 32 := Scalar.divsi v992 c4_i32_487
  let c1_i32_493 : BitVec 32 := 1#32
  let v1008 : BitVec 32 := Scalar.subi v993 c1_i32_493
  let v1009 : BitVec 32 := Scalar.select v1007 v1008 v993
  let v1010 : BitVec 32 := Scalar.subi v1009 c0_i32_494
  let c1_i32_495 : BitVec 32 := 1#32
  let v1012 : BitVec 32 := Scalar.divsi v1010 c1_i32_495
  let v1013 : BitVec 32 := Scalar.muli v1012 c1_i32_495
  let v1014 : BitVec 32 := Scalar.addi c0_i32_494 v1013
  let v1011 : BitVec 32 := Scalar.addi c0_i32_494 v1010
  let c1_i32_497 : BitVec 32 := 1#32
  ⟨v1014, v1011, c1_i32_497⟩
def k0_off95 (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) (k0_t2 : Fin (k0_t2_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips) (c0_i32_562 : BitVec 32) : Fin 3 → Nat :=
  let c4_i32_561 : BitVec 32 := 4#32
  let c0_i32_494 : BitVec 32 := 0#32
  let c0_i32 : BitVec 32 := 0#32
  let c2048_i32 : BitVec 32 := 2048#32
  let v0 : BitVec 32 := Scalar.addi c0_i32 c2048_i32
  let c2048_i32_0 : BitVec 32 := 2048#32
  let v1 : BitVec 1 := Scalar.cmpi .sle v0 c2048_i32_0
  let c1_i32_1 : BitVec 32 := 1#32
  let v5 : BitVec 1 := Scalar.cmpi .slt v4 c1_i32_1
  let v6 : BitVec 1 := Scalar.andi v1 v5
  let c0_i32_2 : BitVec 32 := 0#32
  let v7 : BitVec 32 := Scalar.select v6 v0 c0_i32_2
  let c1024_i32 : BitVec 32 := 1024#32
  let v8 : BitVec 32 := Scalar.addi v7 c1024_i32
  let c2048_i32_3 : BitVec 32 := 2048#32
  let v9 : BitVec 1 := Scalar.cmpi .sle v8 c2048_i32_3
  let c1_i32_5 : BitVec 32 := 1#32
  let v13 : BitVec 1 := Scalar.cmpi .slt v12 c1_i32_5
  let v14 : BitVec 1 := Scalar.andi v9 v13
  let v15 : BitVec 32 := Scalar.select v14 v8 v7
  let c512_i32 : BitVec 32 := 512#32
  let v16 : BitVec 32 := Scalar.addi v15 c512_i32
  let c2048_i32_6 : BitVec 32 := 2048#32
  let v17 : BitVec 1 := Scalar.cmpi .sle v16 c2048_i32_6
  let c1_i32_8 : BitVec 32 := 1#32
  let v21 : BitVec 1 := Scalar.cmpi .slt v20 c1_i32_8
  let v22 : BitVec 1 := Scalar.andi v17 v21
  let v23 : BitVec 32 := Scalar.select v22 v16 v15
  let c256_i32 : BitVec 32 := 256#32
  let v24 : BitVec 32 := Scalar.addi v23 c256_i32
  let c2048_i32_9 : BitVec 32 := 2048#32
  let v25 : BitVec 1 := Scalar.cmpi .sle v24 c2048_i32_9
  let c1_i32_11 : BitVec 32 := 1#32
  let v29 : BitVec 1 := Scalar.cmpi .slt v28 c1_i32_11
  let v30 : BitVec 1 := Scalar.andi v25 v29
  let v31 : BitVec 32 := Scalar.select v30 v24 v23
  let c128_i32 : BitVec 32 := 128#32
  let v32 : BitVec 32 := Scalar.addi v31 c128_i32
  let c2048_i32_12 : BitVec 32 := 2048#32
  let v33 : BitVec 1 := Scalar.cmpi .sle v32 c2048_i32_12
  let c1_i32_14 : BitVec 32 := 1#32
  let v37 : BitVec 1 := Scalar.cmpi .slt v36 c1_i32_14
  let v38 : BitVec 1 := Scalar.andi v33 v37
  let v39 : BitVec 32 := Scalar.select v38 v32 v31
  let c64_i32 : BitVec 32 := 64#32
  let v40 : BitVec 32 := Scalar.addi v39 c64_i32
  let c2048_i32_15 : BitVec 32 := 2048#32
  let v41 : BitVec 1 := Scalar.cmpi .sle v40 c2048_i32_15
  let c1_i32_17 : BitVec 32 := 1#32
  let v45 : BitVec 1 := Scalar.cmpi .slt v44 c1_i32_17
  let v46 : BitVec 1 := Scalar.andi v41 v45
  let v47 : BitVec 32 := Scalar.select v46 v40 v39
  let c32_i32 : BitVec 32 := 32#32
  let v48 : BitVec 32 := Scalar.addi v47 c32_i32
  let c2048_i32_18 : BitVec 32 := 2048#32
  let v49 : BitVec 1 := Scalar.cmpi .sle v48 c2048_i32_18
  let c1_i32_20 : BitVec 32 := 1#32
  let v53 : BitVec 1 := Scalar.cmpi .slt v52 c1_i32_20
  let v54 : BitVec 1 := Scalar.andi v49 v53
  let v55 : BitVec 32 := Scalar.select v54 v48 v47
  let c16_i32 : BitVec 32 := 16#32
  let v56 : BitVec 32 := Scalar.addi v55 c16_i32
  let c2048_i32_21 : BitVec 32 := 2048#32
  let v57 : BitVec 1 := Scalar.cmpi .sle v56 c2048_i32_21
  let c1_i32_23 : BitVec 32 := 1#32
  let v61 : BitVec 1 := Scalar.cmpi .slt v60 c1_i32_23
  let v62 : BitVec 1 := Scalar.andi v57 v61
  let v63 : BitVec 32 := Scalar.select v62 v56 v55
  let c8_i32 : BitVec 32 := 8#32
  let v64 : BitVec 32 := Scalar.addi v63 c8_i32
  let c2048_i32_24 : BitVec 32 := 2048#32
  let v65 : BitVec 1 := Scalar.cmpi .sle v64 c2048_i32_24
  let c1_i32_26 : BitVec 32 := 1#32
  let v69 : BitVec 1 := Scalar.cmpi .slt v68 c1_i32_26
  let v70 : BitVec 1 := Scalar.andi v65 v69
  let v71 : BitVec 32 := Scalar.select v70 v64 v63
  let c4_i32 : BitVec 32 := 4#32
  let v72 : BitVec 32 := Scalar.addi v71 c4_i32
  let c2048_i32_27 : BitVec 32 := 2048#32
  let v73 : BitVec 1 := Scalar.cmpi .sle v72 c2048_i32_27
  let c1_i32_29 : BitVec 32 := 1#32
  let v77 : BitVec 1 := Scalar.cmpi .slt v76 c1_i32_29
  let v78 : BitVec 1 := Scalar.andi v73 v77
  let v79 : BitVec 32 := Scalar.select v78 v72 v71
  let c2_i32 : BitVec 32 := 2#32
  let v80 : BitVec 32 := Scalar.addi v79 c2_i32
  let c2048_i32_30 : BitVec 32 := 2048#32
  let v81 : BitVec 1 := Scalar.cmpi .sle v80 c2048_i32_30
  let c1_i32_32 : BitVec 32 := 1#32
  let v85 : BitVec 1 := Scalar.cmpi .slt v84 c1_i32_32
  let v86 : BitVec 1 := Scalar.andi v81 v85
  let v87 : BitVec 32 := Scalar.select v86 v80 v79
  let c1_i32_33 : BitVec 32 := 1#32
  let v88 : BitVec 32 := Scalar.addi v87 c1_i32_33
  let c2048_i32_34 : BitVec 32 := 2048#32
  let v89 : BitVec 1 := Scalar.cmpi .sle v88 c2048_i32_34
  let c1_i32_36 : BitVec 32 := 1#32
  let v93 : BitVec 1 := Scalar.cmpi .slt v92 c1_i32_36
  let v94 : BitVec 1 := Scalar.andi v89 v93
  let v95 : BitVec 32 := Scalar.select v94 v88 v87
  let c0_i32_333 : BitVec 32 := 0#32
  let v672 : BitVec 32 := Scalar.subi v95 c0_i32_333
  let c0_i32_393 : BitVec 32 := 0#32
  let c0_i32_335 : BitVec 32 := 0#32
  let c0_i32_337 : BitVec 32 := 0#32
  let v681 : BitVec 1 := Scalar.cmpi .sgt c0_i32_335 c0_i32_337
  let v682 : BitVec 32 := Scalar.extui v681
  let c0_i32_338 : BitVec 32 := 0#32
  let v683 : BitVec 1 := Scalar.cmpi .slt c0_i32_335 c0_i32_338
  let v684 : BitVec 32 := Scalar.extui v683
  let v685 : BitVec 32 := Scalar.subi v682 v684
  let c8_i32_336 : BitVec 32 := 8#32
  let c0_i32_339 : BitVec 32 := 0#32
  let v686 : BitVec 1 := Scalar.cmpi .sgt c8_i32_336 c0_i32_339
  let v687 : BitVec 32 := Scalar.extui v686
  let c0_i32_340 : BitVec 32 := 0#32
  let v688 : BitVec 1 := Scalar.cmpi .slt c8_i32_336 c0_i32_340
  let v689 : BitVec 32 := Scalar.extui v688
  let v690 : BitVec 32 := Scalar.subi v687 v689
  let v691 : BitVec 1 := Scalar.cmpi .ne v685 v690
  let v692 : BitVec 32 := Scalar.remsi c0_i32_335 c8_i32_336
  let c0_i32_341 : BitVec 32 := 0#32
  let v693 : BitVec 1 := Scalar.cmpi .ne v692 c0_i32_341
  let v694 : BitVec 1 := Scalar.andi v691 v693
  let v680 : BitVec 32 := Scalar.divsi c0_i32_335 c8_i32_336
  let c1_i32_342 : BitVec 32 := 1#32
  let v695 : BitVec 32 := Scalar.subi v680 c1_i32_342
  let v696 : BitVec 32 := Scalar.select v694 v695 v680
  let c8_i32_392 : BitVec 32 := 8#32
  let v816 : BitVec 32 := Scalar.muli v696 c8_i32_392
  let v817 : BitVec 32 := Scalar.subi c0_i32_393 v816
  let v967 : BitVec 32 := Scalar.addi v672 v817
  let c0_i32_37 : BitVec 32 := 0#32
  let c2048_i32_38 : BitVec 32 := 2048#32
  let v96 : BitVec 32 := Scalar.addi c0_i32_37 c2048_i32_38
  let c2048_i32_39 : BitVec 32 := 2048#32
  let v97 : BitVec 1 := Scalar.cmpi .sle v96 c2048_i32_39
  let c2_i32_41 : BitVec 32 := 2#32
  let v101 : BitVec 1 := Scalar.cmpi .slt v100 c2_i32_41
  let v102 : BitVec 1 := Scalar.andi v97 v101
  let c0_i32_42 : BitVec 32 := 0#32
  let v103 : BitVec 32 := Scalar.select v102 v96 c0_i32_42
  let c1024_i32_43 : BitVec 32 := 1024#32
  let v104 : BitVec 32 := Scalar.addi v103 c1024_i32_43
  let c2048_i32_44 : BitVec 32 := 2048#32
  let v105 : BitVec 1 := Scalar.cmpi .sle v104 c2048_i32_44
  let c2_i32_46 : BitVec 32 := 2#32
  let v109 : BitVec 1 := Scalar.cmpi .slt v108 c2_i32_46
  let v110 : BitVec 1 := Scalar.andi v105 v109
  let v111 : BitVec 32 := Scalar.select v110 v104 v103
  let c512_i32_47 : BitVec 32 := 512#32
  let v112 : BitVec 32 := Scalar.addi v111 c512_i32_47
  let c2048_i32_48 : BitVec 32 := 2048#32
  let v113 : BitVec 1 := Scalar.cmpi .sle v112 c2048_i32_48
  let c2_i32_50 : BitVec 32 := 2#32
  let v117 : BitVec 1 := Scalar.cmpi .slt v116 c2_i32_50
  let v118 : BitVec 1 := Scalar.andi v113 v117
  let v119 : BitVec 32 := Scalar.select v118 v112 v111
  let c256_i32_51 : BitVec 32 := 256#32
  let v120 : BitVec 32 := Scalar.addi v119 c256_i32_51
  let c2048_i32_52 : BitVec 32 := 2048#32
  let v121 : BitVec 1 := Scalar.cmpi .sle v120 c2048_i32_52
  let c2_i32_54 : BitVec 32 := 2#32
  let v125 : BitVec 1 := Scalar.cmpi .slt v124 c2_i32_54
  let v126 : BitVec 1 := Scalar.andi v121 v125
  let v127 : BitVec 32 := Scalar.select v126 v120 v119
  let c128_i32_55 : BitVec 32 := 128#32
  let v128 : BitVec 32 := Scalar.addi v127 c128_i32_55
  let c2048_i32_56 : BitVec 32 := 2048#32
  let v129 : BitVec 1 := Scalar.cmpi .sle v128 c2048_i32_56
  let c2_i32_58 : BitVec 32 := 2#32
  let v133 : BitVec 1 := Scalar.cmpi .slt v132 c2_i32_58
  let v134 : BitVec 1 := Scalar.andi v129 v133
  let v135 : BitVec 32 := Scalar.select v134 v128 v127
  let c64_i32_59 : BitVec 32 := 64#32
  let v136 : BitVec 32 := Scalar.addi v135 c64_i32_59
  let c2048_i32_60 : BitVec 32 := 2048#32
  let v137 : BitVec 1 := Scalar.cmpi .sle v136 c2048_i32_60
  let c2_i32_62 : BitVec 32 := 2#32
  let v141 : BitVec 1 := Scalar.cmpi .slt v140 c2_i32_62
  let v142 : BitVec 1 := Scalar.andi v137 v141
  let v143 : BitVec 32 := Scalar.select v142 v136 v135
  let c32_i32_63 : BitVec 32 := 32#32
  let v144 : BitVec 32 := Scalar.addi v143 c32_i32_63
  let c2048_i32_64 : BitVec 32 := 2048#32
  let v145 : BitVec 1 := Scalar.cmpi .sle v144 c2048_i32_64
  let c2_i32_66 : BitVec 32 := 2#32
  let v149 : BitVec 1 := Scalar.cmpi .slt v148 c2_i32_66
  let v150 : BitVec 1 := Scalar.andi v145 v149
  let v151 : BitVec 32 := Scalar.select v150 v144 v143
  let c16_i32_67 : BitVec 32 := 16#32
  let v152 : BitVec 32 := Scalar.addi v151 c16_i32_67
  let c2048_i32_68 : BitVec 32 := 2048#32
  let v153 : BitVec 1 := Scalar.cmpi .sle v152 c2048_i32_68
  let c2_i32_70 : BitVec 32 := 2#32
  let v157 : BitVec 1 := Scalar.cmpi .slt v156 c2_i32_70
  let v158 : BitVec 1 := Scalar.andi v153 v157
  let v159 : BitVec 32 := Scalar.select v158 v152 v151
  let c8_i32_71 : BitVec 32 := 8#32
  let v160 : BitVec 32 := Scalar.addi v159 c8_i32_71
  let c2048_i32_72 : BitVec 32 := 2048#32
  let v161 : BitVec 1 := Scalar.cmpi .sle v160 c2048_i32_72
  let c2_i32_74 : BitVec 32 := 2#32
  let v165 : BitVec 1 := Scalar.cmpi .slt v164 c2_i32_74
  let v166 : BitVec 1 := Scalar.andi v161 v165
  let v167 : BitVec 32 := Scalar.select v166 v160 v159
  let c4_i32_75 : BitVec 32 := 4#32
  let v168 : BitVec 32 := Scalar.addi v167 c4_i32_75
  let c2048_i32_76 : BitVec 32 := 2048#32
  let v169 : BitVec 1 := Scalar.cmpi .sle v168 c2048_i32_76
  let c2_i32_78 : BitVec 32 := 2#32
  let v173 : BitVec 1 := Scalar.cmpi .slt v172 c2_i32_78
  let v174 : BitVec 1 := Scalar.andi v169 v173
  let v175 : BitVec 32 := Scalar.select v174 v168 v167
  let c2_i32_79 : BitVec 32 := 2#32
  let v176 : BitVec 32 := Scalar.addi v175 c2_i32_79
  let c2048_i32_80 : BitVec 32 := 2048#32
  let v177 : BitVec 1 := Scalar.cmpi .sle v176 c2048_i32_80
  let c2_i32_82 : BitVec 32 := 2#32
  let v181 : BitVec 1 := Scalar.cmpi .slt v180 c2_i32_82
  let v182 : BitVec 1 := Scalar.andi v177 v181
  let v183 : BitVec 32 := Scalar.select v182 v176 v175
  let c1_i32_83 : BitVec 32 := 1#32
  let v184 : BitVec 32 := Scalar.addi v183 c1_i32_83
  let c2048_i32_84 : BitVec 32 := 2048#32
  let v185 : BitVec 1 := Scalar.cmpi .sle v184 c2048_i32_84
  let c2_i32_86 : BitVec 32 := 2#32
  let v189 : BitVec 1 := Scalar.cmpi .slt v188 c2_i32_86
  let v190 : BitVec 1 := Scalar.andi v185 v189
  let v191 : BitVec 32 := Scalar.select v190 v184 v183
  let v673 : BitVec 32 := Scalar.subi v191 v95
  let c0_i32_344 : BitVec 32 := 0#32
  let v698 : BitVec 1 := Scalar.cmpi .sgt v95 c0_i32_344
  let v699 : BitVec 32 := Scalar.extui v698
  let c0_i32_345 : BitVec 32 := 0#32
  let v700 : BitVec 1 := Scalar.cmpi .slt v95 c0_i32_345
  let v701 : BitVec 32 := Scalar.extui v700
  let v702 : BitVec 32 := Scalar.subi v699 v701
  let c8_i32_343 : BitVec 32 := 8#32
  let c0_i32_346 : BitVec 32 := 0#32
  let v703 : BitVec 1 := Scalar.cmpi .sgt c8_i32_343 c0_i32_346
  let v704 : BitVec 32 := Scalar.extui v703
  let c0_i32_347 : BitVec 32 := 0#32
  let v705 : BitVec 1 := Scalar.cmpi .slt c8_i32_343 c0_i32_347
  let v706 : BitVec 32 := Scalar.extui v705
  let v707 : BitVec 32 := Scalar.subi v704 v706
  let v708 : BitVec 1 := Scalar.cmpi .ne v702 v707
  let v709 : BitVec 32 := Scalar.remsi v95 c8_i32_343
  let c0_i32_348 : BitVec 32 := 0#32
  let v710 : BitVec 1 := Scalar.cmpi .ne v709 c0_i32_348
  let v711 : BitVec 1 := Scalar.andi v708 v710
  let v697 : BitVec 32 := Scalar.divsi v95 c8_i32_343
  let c1_i32_349 : BitVec 32 := 1#32
  let v712 : BitVec 32 := Scalar.subi v697 c1_i32_349
  let v713 : BitVec 32 := Scalar.select v711 v712 v697
  let c8_i32_394 : BitVec 32 := 8#32
  let v818 : BitVec 32 := Scalar.muli v713 c8_i32_394
  let v819 : BitVec 32 := Scalar.subi v95 v818
  let v968 : BitVec 32 := Scalar.addi v673 v819
  let v969 : BitVec 32 := Scalar.maxsi v967 v968
  let c0_i32_87 : BitVec 32 := 0#32
  let c2048_i32_88 : BitVec 32 := 2048#32
  let v192 : BitVec 32 := Scalar.addi c0_i32_87 c2048_i32_88
  let c2048_i32_89 : BitVec 32 := 2048#32
  let v193 : BitVec 1 := Scalar.cmpi .sle v192 c2048_i32_89
  let c3_i32 : BitVec 32 := 3#32
  let v197 : BitVec 1 := Scalar.cmpi .slt v196 c3_i32
  let v198 : BitVec 1 := Scalar.andi v193 v197
  let c0_i32_91 : BitVec 32 := 0#32
  let v199 : BitVec 32 := Scalar.select v198 v192 c0_i32_91
  let c1024_i32_92 : BitVec 32 := 1024#32
  let v200 : BitVec 32 := Scalar.addi v199 c1024_i32_92
  let c2048_i32_93 : BitVec 32 := 2048#32
  let v201 : BitVec 1 := Scalar.cmpi .sle v200 c2048_i32_93
  let c3_i32_95 : BitVec 32 := 3#32
  let v205 : BitVec 1 := Scalar.cmpi .slt v204 c3_i32_95
  let v206 : BitVec 1 := Scalar.andi v201 v205
  let v207 : BitVec 32 := Scalar.select v206 v200 v199
  let c512_i32_96 : BitVec 32 := 512#32
  let v208 : BitVec 32 := Scalar.addi v207 c512_i32_96
  let c2048_i32_97 : BitVec 32 := 2048#32
  let v209 : BitVec 1 := Scalar.cmpi .sle v208 c2048_i32_97
  let c3_i32_99 : BitVec 32 := 3#32
  let v213 : BitVec 1 := Scalar.cmpi .slt v212 c3_i32_99
  let v214 : BitVec 1 := Scalar.andi v209 v213
  let v215 : BitVec 32 := Scalar.select v214 v208 v207
  let c256_i32_100 : BitVec 32 := 256#32
  let v216 : BitVec 32 := Scalar.addi v215 c256_i32_100
  let c2048_i32_101 : BitVec 32 := 2048#32
  let v217 : BitVec 1 := Scalar.cmpi .sle v216 c2048_i32_101
  let c3_i32_103 : BitVec 32 := 3#32
  let v221 : BitVec 1 := Scalar.cmpi .slt v220 c3_i32_103
  let v222 : BitVec 1 := Scalar.andi v217 v221
  let v223 : BitVec 32 := Scalar.select v222 v216 v215
  let c128_i32_104 : BitVec 32 := 128#32
  let v224 : BitVec 32 := Scalar.addi v223 c128_i32_104
  let c2048_i32_105 : BitVec 32 := 2048#32
  let v225 : BitVec 1 := Scalar.cmpi .sle v224 c2048_i32_105
  let c3_i32_107 : BitVec 32 := 3#32
  let v229 : BitVec 1 := Scalar.cmpi .slt v228 c3_i32_107
  let v230 : BitVec 1 := Scalar.andi v225 v229
  let v231 : BitVec 32 := Scalar.select v230 v224 v223
  let c64_i32_108 : BitVec 32 := 64#32
  let v232 : BitVec 32 := Scalar.addi v231 c64_i32_108
  let c2048_i32_109 : BitVec 32 := 2048#32
  let v233 : BitVec 1 := Scalar.cmpi .sle v232 c2048_i32_109
  let c3_i32_111 : BitVec 32 := 3#32
  let v237 : BitVec 1 := Scalar.cmpi .slt v236 c3_i32_111
  let v238 : BitVec 1 := Scalar.andi v233 v237
  let v239 : BitVec 32 := Scalar.select v238 v232 v231
  let c32_i32_112 : BitVec 32 := 32#32
  let v240 : BitVec 32 := Scalar.addi v239 c32_i32_112
  let c2048_i32_113 : BitVec 32 := 2048#32
  let v241 : BitVec 1 := Scalar.cmpi .sle v240 c2048_i32_113
  let c3_i32_115 : BitVec 32 := 3#32
  let v245 : BitVec 1 := Scalar.cmpi .slt v244 c3_i32_115
  let v246 : BitVec 1 := Scalar.andi v241 v245
  let v247 : BitVec 32 := Scalar.select v246 v240 v239
  let c16_i32_116 : BitVec 32 := 16#32
  let v248 : BitVec 32 := Scalar.addi v247 c16_i32_116
  let c2048_i32_117 : BitVec 32 := 2048#32
  let v249 : BitVec 1 := Scalar.cmpi .sle v248 c2048_i32_117
  let c3_i32_119 : BitVec 32 := 3#32
  let v253 : BitVec 1 := Scalar.cmpi .slt v252 c3_i32_119
  let v254 : BitVec 1 := Scalar.andi v249 v253
  let v255 : BitVec 32 := Scalar.select v254 v248 v247
  let c8_i32_120 : BitVec 32 := 8#32
  let v256 : BitVec 32 := Scalar.addi v255 c8_i32_120
  let c2048_i32_121 : BitVec 32 := 2048#32
  let v257 : BitVec 1 := Scalar.cmpi .sle v256 c2048_i32_121
  let c3_i32_123 : BitVec 32 := 3#32
  let v261 : BitVec 1 := Scalar.cmpi .slt v260 c3_i32_123
  let v262 : BitVec 1 := Scalar.andi v257 v261
  let v263 : BitVec 32 := Scalar.select v262 v256 v255
  let c4_i32_124 : BitVec 32 := 4#32
  let v264 : BitVec 32 := Scalar.addi v263 c4_i32_124
  let c2048_i32_125 : BitVec 32 := 2048#32
  let v265 : BitVec 1 := Scalar.cmpi .sle v264 c2048_i32_125
  let c3_i32_127 : BitVec 32 := 3#32
  let v269 : BitVec 1 := Scalar.cmpi .slt v268 c3_i32_127
  let v270 : BitVec 1 := Scalar.andi v265 v269
  let v271 : BitVec 32 := Scalar.select v270 v264 v263
  let c2_i32_128 : BitVec 32 := 2#32
  let v272 : BitVec 32 := Scalar.addi v271 c2_i32_128
  let c2048_i32_129 : BitVec 32 := 2048#32
  let v273 : BitVec 1 := Scalar.cmpi .sle v272 c2048_i32_129
  let c3_i32_131 : BitVec 32 := 3#32
  let v277 : BitVec 1 := Scalar.cmpi .slt v276 c3_i32_131
  let v278 : BitVec 1 := Scalar.andi v273 v277
  let v279 : BitVec 32 := Scalar.select v278 v272 v271
  let c1_i32_132 : BitVec 32 := 1#32
  let v280 : BitVec 32 := Scalar.addi v279 c1_i32_132
  let c2048_i32_133 : BitVec 32 := 2048#32
  let v281 : BitVec 1 := Scalar.cmpi .sle v280 c2048_i32_133
  let c3_i32_135 : BitVec 32 := 3#32
  let v285 : BitVec 1 := Scalar.cmpi .slt v284 c3_i32_135
  let v286 : BitVec 1 := Scalar.andi v281 v285
  let v287 : BitVec 32 := Scalar.select v286 v280 v279
  let v674 : BitVec 32 := Scalar.subi v287 v191
  let c0_i32_351 : BitVec 32 := 0#32
  let v715 : BitVec 1 := Scalar.cmpi .sgt v191 c0_i32_351
  let v716 : BitVec 32 := Scalar.extui v715
  let c0_i32_352 : BitVec 32 := 0#32
  let v717 : BitVec 1 := Scalar.cmpi .slt v191 c0_i32_352
  let v718 : BitVec 32 := Scalar.extui v717
  let v719 : BitVec 32 := Scalar.subi v716 v718
  let c8_i32_350 : BitVec 32 := 8#32
  let c0_i32_353 : BitVec 32 := 0#32
  let v720 : BitVec 1 := Scalar.cmpi .sgt c8_i32_350 c0_i32_353
  let v721 : BitVec 32 := Scalar.extui v720
  let c0_i32_354 : BitVec 32 := 0#32
  let v722 : BitVec 1 := Scalar.cmpi .slt c8_i32_350 c0_i32_354
  let v723 : BitVec 32 := Scalar.extui v722
  let v724 : BitVec 32 := Scalar.subi v721 v723
  let v725 : BitVec 1 := Scalar.cmpi .ne v719 v724
  let v726 : BitVec 32 := Scalar.remsi v191 c8_i32_350
  let c0_i32_355 : BitVec 32 := 0#32
  let v727 : BitVec 1 := Scalar.cmpi .ne v726 c0_i32_355
  let v728 : BitVec 1 := Scalar.andi v725 v727
  let v714 : BitVec 32 := Scalar.divsi v191 c8_i32_350
  let c1_i32_356 : BitVec 32 := 1#32
  let v729 : BitVec 32 := Scalar.subi v714 c1_i32_356
  let v730 : BitVec 32 := Scalar.select v728 v729 v714
  let c8_i32_395 : BitVec 32 := 8#32
  let v820 : BitVec 32 := Scalar.muli v730 c8_i32_395
  let v821 : BitVec 32 := Scalar.subi v191 v820
  let v970 : BitVec 32 := Scalar.addi v674 v821
  let v971 : BitVec 32 := Scalar.maxsi v969 v970
  let c0_i32_136 : BitVec 32 := 0#32
  let c2048_i32_137 : BitVec 32 := 2048#32
  let v288 : BitVec 32 := Scalar.addi c0_i32_136 c2048_i32_137
  let c2048_i32_138 : BitVec 32 := 2048#32
  let v289 : BitVec 1 := Scalar.cmpi .sle v288 c2048_i32_138
  let c4_i32_140 : BitVec 32 := 4#32
  let v293 : BitVec 1 := Scalar.cmpi .slt v292 c4_i32_140
  let v294 : BitVec 1 := Scalar.andi v289 v293
  let c0_i32_141 : BitVec 32 := 0#32
  let v295 : BitVec 32 := Scalar.select v294 v288 c0_i32_141
  let c1024_i32_142 : BitVec 32 := 1024#32
  let v296 : BitVec 32 := Scalar.addi v295 c1024_i32_142
  let c2048_i32_143 : BitVec 32 := 2048#32
  let v297 : BitVec 1 := Scalar.cmpi .sle v296 c2048_i32_143
  let c4_i32_145 : BitVec 32 := 4#32
  let v301 : BitVec 1 := Scalar.cmpi .slt v300 c4_i32_145
  let v302 : BitVec 1 := Scalar.andi v297 v301
  let v303 : BitVec 32 := Scalar.select v302 v296 v295
  let c512_i32_146 : BitVec 32 := 512#32
  let v304 : BitVec 32 := Scalar.addi v303 c512_i32_146
  let c2048_i32_147 : BitVec 32 := 2048#32
  let v305 : BitVec 1 := Scalar.cmpi .sle v304 c2048_i32_147
  let c4_i32_149 : BitVec 32 := 4#32
  let v309 : BitVec 1 := Scalar.cmpi .slt v308 c4_i32_149
  let v310 : BitVec 1 := Scalar.andi v305 v309
  let v311 : BitVec 32 := Scalar.select v310 v304 v303
  let c256_i32_150 : BitVec 32 := 256#32
  let v312 : BitVec 32 := Scalar.addi v311 c256_i32_150
  let c2048_i32_151 : BitVec 32 := 2048#32
  let v313 : BitVec 1 := Scalar.cmpi .sle v312 c2048_i32_151
  let c4_i32_153 : BitVec 32 := 4#32
  let v317 : BitVec 1 := Scalar.cmpi .slt v316 c4_i32_153
  let v318 : BitVec 1 := Scalar.andi v313 v317
  let v319 : BitVec 32 := Scalar.select v318 v312 v311
  let c128_i32_154 : BitVec 32 := 128#32
  let v320 : BitVec 32 := Scalar.addi v319 c128_i32_154
  let c2048_i32_155 : BitVec 32 := 2048#32
  let v321 : BitVec 1 := Scalar.cmpi .sle v320 c2048_i32_155
  let c4_i32_157 : BitVec 32 := 4#32
  let v325 : BitVec 1 := Scalar.cmpi .slt v324 c4_i32_157
  let v326 : BitVec 1 := Scalar.andi v321 v325
  let v327 : BitVec 32 := Scalar.select v326 v320 v319
  let c64_i32_158 : BitVec 32 := 64#32
  let v328 : BitVec 32 := Scalar.addi v327 c64_i32_158
  let c2048_i32_159 : BitVec 32 := 2048#32
  let v329 : BitVec 1 := Scalar.cmpi .sle v328 c2048_i32_159
  let c4_i32_161 : BitVec 32 := 4#32
  let v333 : BitVec 1 := Scalar.cmpi .slt v332 c4_i32_161
  let v334 : BitVec 1 := Scalar.andi v329 v333
  let v335 : BitVec 32 := Scalar.select v334 v328 v327
  let c32_i32_162 : BitVec 32 := 32#32
  let v336 : BitVec 32 := Scalar.addi v335 c32_i32_162
  let c2048_i32_163 : BitVec 32 := 2048#32
  let v337 : BitVec 1 := Scalar.cmpi .sle v336 c2048_i32_163
  let c4_i32_165 : BitVec 32 := 4#32
  let v341 : BitVec 1 := Scalar.cmpi .slt v340 c4_i32_165
  let v342 : BitVec 1 := Scalar.andi v337 v341
  let v343 : BitVec 32 := Scalar.select v342 v336 v335
  let c16_i32_166 : BitVec 32 := 16#32
  let v344 : BitVec 32 := Scalar.addi v343 c16_i32_166
  let c2048_i32_167 : BitVec 32 := 2048#32
  let v345 : BitVec 1 := Scalar.cmpi .sle v344 c2048_i32_167
  let c4_i32_169 : BitVec 32 := 4#32
  let v349 : BitVec 1 := Scalar.cmpi .slt v348 c4_i32_169
  let v350 : BitVec 1 := Scalar.andi v345 v349
  let v351 : BitVec 32 := Scalar.select v350 v344 v343
  let c8_i32_170 : BitVec 32 := 8#32
  let v352 : BitVec 32 := Scalar.addi v351 c8_i32_170
  let c2048_i32_171 : BitVec 32 := 2048#32
  let v353 : BitVec 1 := Scalar.cmpi .sle v352 c2048_i32_171
  let c4_i32_173 : BitVec 32 := 4#32
  let v357 : BitVec 1 := Scalar.cmpi .slt v356 c4_i32_173
  let v358 : BitVec 1 := Scalar.andi v353 v357
  let v359 : BitVec 32 := Scalar.select v358 v352 v351
  let c4_i32_174 : BitVec 32 := 4#32
  let v360 : BitVec 32 := Scalar.addi v359 c4_i32_174
  let c2048_i32_175 : BitVec 32 := 2048#32
  let v361 : BitVec 1 := Scalar.cmpi .sle v360 c2048_i32_175
  let c4_i32_177 : BitVec 32 := 4#32
  let v365 : BitVec 1 := Scalar.cmpi .slt v364 c4_i32_177
  let v366 : BitVec 1 := Scalar.andi v361 v365
  let v367 : BitVec 32 := Scalar.select v366 v360 v359
  let c2_i32_178 : BitVec 32 := 2#32
  let v368 : BitVec 32 := Scalar.addi v367 c2_i32_178
  let c2048_i32_179 : BitVec 32 := 2048#32
  let v369 : BitVec 1 := Scalar.cmpi .sle v368 c2048_i32_179
  let c4_i32_181 : BitVec 32 := 4#32
  let v373 : BitVec 1 := Scalar.cmpi .slt v372 c4_i32_181
  let v374 : BitVec 1 := Scalar.andi v369 v373
  let v375 : BitVec 32 := Scalar.select v374 v368 v367
  let c1_i32_182 : BitVec 32 := 1#32
  let v376 : BitVec 32 := Scalar.addi v375 c1_i32_182
  let c2048_i32_183 : BitVec 32 := 2048#32
  let v377 : BitVec 1 := Scalar.cmpi .sle v376 c2048_i32_183
  let c4_i32_185 : BitVec 32 := 4#32
  let v381 : BitVec 1 := Scalar.cmpi .slt v380 c4_i32_185
  let v382 : BitVec 1 := Scalar.andi v377 v381
  let v383 : BitVec 32 := Scalar.select v382 v376 v375
  let v675 : BitVec 32 := Scalar.subi v383 v287
  let c0_i32_358 : BitVec 32 := 0#32
  let v732 : BitVec 1 := Scalar.cmpi .sgt v287 c0_i32_358
  let v733 : BitVec 32 := Scalar.extui v732
  let c0_i32_359 : BitVec 32 := 0#32
  let v734 : BitVec 1 := Scalar.cmpi .slt v287 c0_i32_359
  let v735 : BitVec 32 := Scalar.extui v734
  let v736 : BitVec 32 := Scalar.subi v733 v735
  let c8_i32_357 : BitVec 32 := 8#32
  let c0_i32_360 : BitVec 32 := 0#32
  let v737 : BitVec 1 := Scalar.cmpi .sgt c8_i32_357 c0_i32_360
  let v738 : BitVec 32 := Scalar.extui v737
  let c0_i32_361 : BitVec 32 := 0#32
  let v739 : BitVec 1 := Scalar.cmpi .slt c8_i32_357 c0_i32_361
  let v740 : BitVec 32 := Scalar.extui v739
  let v741 : BitVec 32 := Scalar.subi v738 v740
  let v742 : BitVec 1 := Scalar.cmpi .ne v736 v741
  let v743 : BitVec 32 := Scalar.remsi v287 c8_i32_357
  let c0_i32_362 : BitVec 32 := 0#32
  let v744 : BitVec 1 := Scalar.cmpi .ne v743 c0_i32_362
  let v745 : BitVec 1 := Scalar.andi v742 v744
  let v731 : BitVec 32 := Scalar.divsi v287 c8_i32_357
  let c1_i32_363 : BitVec 32 := 1#32
  let v746 : BitVec 32 := Scalar.subi v731 c1_i32_363
  let v747 : BitVec 32 := Scalar.select v745 v746 v731
  let c8_i32_396 : BitVec 32 := 8#32
  let v822 : BitVec 32 := Scalar.muli v747 c8_i32_396
  let v823 : BitVec 32 := Scalar.subi v287 v822
  let v972 : BitVec 32 := Scalar.addi v675 v823
  let v973 : BitVec 32 := Scalar.maxsi v971 v972
  let c0_i32_186 : BitVec 32 := 0#32
  let c2048_i32_187 : BitVec 32 := 2048#32
  let v384 : BitVec 32 := Scalar.addi c0_i32_186 c2048_i32_187
  let c2048_i32_188 : BitVec 32 := 2048#32
  let v385 : BitVec 1 := Scalar.cmpi .sle v384 c2048_i32_188
  let c5_i32 : BitVec 32 := 5#32
  let v389 : BitVec 1 := Scalar.cmpi .slt v388 c5_i32
  let v390 : BitVec 1 := Scalar.andi v385 v389
  let c0_i32_190 : BitVec 32 := 0#32
  let v391 : BitVec 32 := Scalar.select v390 v384 c0_i32_190
  let c1024_i32_191 : BitVec 32 := 1024#32
  let v392 : BitVec 32 := Scalar.addi v391 c1024_i32_191
  let c2048_i32_192 : BitVec 32 := 2048#32
  let v393 : BitVec 1 := Scalar.cmpi .sle v392 c2048_i32_192
  let c5_i32_194 : BitVec 32 := 5#32
  let v397 : BitVec 1 := Scalar.cmpi .slt v396 c5_i32_194
  let v398 : BitVec 1 := Scalar.andi v393 v397
  let v399 : BitVec 32 := Scalar.select v398 v392 v391
  let c512_i32_195 : BitVec 32 := 512#32
  let v400 : BitVec 32 := Scalar.addi v399 c512_i32_195
  let c2048_i32_196 : BitVec 32 := 2048#32
  let v401 : BitVec 1 := Scalar.cmpi .sle v400 c2048_i32_196
  let c5_i32_198 : BitVec 32 := 5#32
  let v405 : BitVec 1 := Scalar.cmpi .slt v404 c5_i32_198
  let v406 : BitVec 1 := Scalar.andi v401 v405
  let v407 : BitVec 32 := Scalar.select v406 v400 v399
  let c256_i32_199 : BitVec 32 := 256#32
  let v408 : BitVec 32 := Scalar.addi v407 c256_i32_199
  let c2048_i32_200 : BitVec 32 := 2048#32
  let v409 : BitVec 1 := Scalar.cmpi .sle v408 c2048_i32_200
  let c5_i32_202 : BitVec 32 := 5#32
  let v413 : BitVec 1 := Scalar.cmpi .slt v412 c5_i32_202
  let v414 : BitVec 1 := Scalar.andi v409 v413
  let v415 : BitVec 32 := Scalar.select v414 v408 v407
  let c128_i32_203 : BitVec 32 := 128#32
  let v416 : BitVec 32 := Scalar.addi v415 c128_i32_203
  let c2048_i32_204 : BitVec 32 := 2048#32
  let v417 : BitVec 1 := Scalar.cmpi .sle v416 c2048_i32_204
  let c5_i32_206 : BitVec 32 := 5#32
  let v421 : BitVec 1 := Scalar.cmpi .slt v420 c5_i32_206
  let v422 : BitVec 1 := Scalar.andi v417 v421
  let v423 : BitVec 32 := Scalar.select v422 v416 v415
  let c64_i32_207 : BitVec 32 := 64#32
  let v424 : BitVec 32 := Scalar.addi v423 c64_i32_207
  let c2048_i32_208 : BitVec 32 := 2048#32
  let v425 : BitVec 1 := Scalar.cmpi .sle v424 c2048_i32_208
  let c5_i32_210 : BitVec 32 := 5#32
  let v429 : BitVec 1 := Scalar.cmpi .slt v428 c5_i32_210
  let v430 : BitVec 1 := Scalar.andi v425 v429
  let v431 : BitVec 32 := Scalar.select v430 v424 v423
  let c32_i32_211 : BitVec 32 := 32#32
  let v432 : BitVec 32 := Scalar.addi v431 c32_i32_211
  let c2048_i32_212 : BitVec 32 := 2048#32
  let v433 : BitVec 1 := Scalar.cmpi .sle v432 c2048_i32_212
  let c5_i32_214 : BitVec 32 := 5#32
  let v437 : BitVec 1 := Scalar.cmpi .slt v436 c5_i32_214
  let v438 : BitVec 1 := Scalar.andi v433 v437
  let v439 : BitVec 32 := Scalar.select v438 v432 v431
  let c16_i32_215 : BitVec 32 := 16#32
  let v440 : BitVec 32 := Scalar.addi v439 c16_i32_215
  let c2048_i32_216 : BitVec 32 := 2048#32
  let v441 : BitVec 1 := Scalar.cmpi .sle v440 c2048_i32_216
  let c5_i32_218 : BitVec 32 := 5#32
  let v445 : BitVec 1 := Scalar.cmpi .slt v444 c5_i32_218
  let v446 : BitVec 1 := Scalar.andi v441 v445
  let v447 : BitVec 32 := Scalar.select v446 v440 v439
  let c8_i32_219 : BitVec 32 := 8#32
  let v448 : BitVec 32 := Scalar.addi v447 c8_i32_219
  let c2048_i32_220 : BitVec 32 := 2048#32
  let v449 : BitVec 1 := Scalar.cmpi .sle v448 c2048_i32_220
  let c5_i32_222 : BitVec 32 := 5#32
  let v453 : BitVec 1 := Scalar.cmpi .slt v452 c5_i32_222
  let v454 : BitVec 1 := Scalar.andi v449 v453
  let v455 : BitVec 32 := Scalar.select v454 v448 v447
  let c4_i32_223 : BitVec 32 := 4#32
  let v456 : BitVec 32 := Scalar.addi v455 c4_i32_223
  let c2048_i32_224 : BitVec 32 := 2048#32
  let v457 : BitVec 1 := Scalar.cmpi .sle v456 c2048_i32_224
  let c5_i32_226 : BitVec 32 := 5#32
  let v461 : BitVec 1 := Scalar.cmpi .slt v460 c5_i32_226
  let v462 : BitVec 1 := Scalar.andi v457 v461
  let v463 : BitVec 32 := Scalar.select v462 v456 v455
  let c2_i32_227 : BitVec 32 := 2#32
  let v464 : BitVec 32 := Scalar.addi v463 c2_i32_227
  let c2048_i32_228 : BitVec 32 := 2048#32
  let v465 : BitVec 1 := Scalar.cmpi .sle v464 c2048_i32_228
  let c5_i32_230 : BitVec 32 := 5#32
  let v469 : BitVec 1 := Scalar.cmpi .slt v468 c5_i32_230
  let v470 : BitVec 1 := Scalar.andi v465 v469
  let v471 : BitVec 32 := Scalar.select v470 v464 v463
  let c1_i32_231 : BitVec 32 := 1#32
  let v472 : BitVec 32 := Scalar.addi v471 c1_i32_231
  let c2048_i32_232 : BitVec 32 := 2048#32
  let v473 : BitVec 1 := Scalar.cmpi .sle v472 c2048_i32_232
  let c5_i32_234 : BitVec 32 := 5#32
  let v477 : BitVec 1 := Scalar.cmpi .slt v476 c5_i32_234
  let v478 : BitVec 1 := Scalar.andi v473 v477
  let v479 : BitVec 32 := Scalar.select v478 v472 v471
  let v676 : BitVec 32 := Scalar.subi v479 v383
  let c0_i32_365 : BitVec 32 := 0#32
  let v749 : BitVec 1 := Scalar.cmpi .sgt v383 c0_i32_365
  let v750 : BitVec 32 := Scalar.extui v749
  let c0_i32_366 : BitVec 32 := 0#32
  let v751 : BitVec 1 := Scalar.cmpi .slt v383 c0_i32_366
  let v752 : BitVec 32 := Scalar.extui v751
  let v753 : BitVec 32 := Scalar.subi v750 v752
  let c8_i32_364 : BitVec 32 := 8#32
  let c0_i32_367 : BitVec 32 := 0#32
  let v754 : BitVec 1 := Scalar.cmpi .sgt c8_i32_364 c0_i32_367
  let v755 : BitVec 32 := Scalar.extui v754
  let c0_i32_368 : BitVec 32 := 0#32
  let v756 : BitVec 1 := Scalar.cmpi .slt c8_i32_364 c0_i32_368
  let v757 : BitVec 32 := Scalar.extui v756
  let v758 : BitVec 32 := Scalar.subi v755 v757
  let v759 : BitVec 1 := Scalar.cmpi .ne v753 v758
  let v760 : BitVec 32 := Scalar.remsi v383 c8_i32_364
  let c0_i32_369 : BitVec 32 := 0#32
  let v761 : BitVec 1 := Scalar.cmpi .ne v760 c0_i32_369
  let v762 : BitVec 1 := Scalar.andi v759 v761
  let v748 : BitVec 32 := Scalar.divsi v383 c8_i32_364
  let c1_i32_370 : BitVec 32 := 1#32
  let v763 : BitVec 32 := Scalar.subi v748 c1_i32_370
  let v764 : BitVec 32 := Scalar.select v762 v763 v748
  let c8_i32_397 : BitVec 32 := 8#32
  let v824 : BitVec 32 := Scalar.muli v764 c8_i32_397
  let v825 : BitVec 32 := Scalar.subi v383 v824
  let v974 : BitVec 32 := Scalar.addi v676 v825
  let v975 : BitVec 32 := Scalar.maxsi v973 v974
  let c0_i32_235 : BitVec 32 := 0#32
  let c2048_i32_236 : BitVec 32 := 2048#32
  let v480 : BitVec 32 := Scalar.addi c0_i32_235 c2048_i32_236
  let c2048_i32_237 : BitVec 32 := 2048#32
  let v481 : BitVec 1 := Scalar.cmpi .sle v480 c2048_i32_237
  let c6_i32 : BitVec 32 := 6#32
  let v485 : BitVec 1 := Scalar.cmpi .slt v484 c6_i32
  let v486 : BitVec 1 := Scalar.andi v481 v485
  let c0_i32_239 : BitVec 32 := 0#32
  let v487 : BitVec 32 := Scalar.select v486 v480 c0_i32_239
  let c1024_i32_240 : BitVec 32 := 1024#32
  let v488 : BitVec 32 := Scalar.addi v487 c1024_i32_240
  let c2048_i32_241 : BitVec 32 := 2048#32
  let v489 : BitVec 1 := Scalar.cmpi .sle v488 c2048_i32_241
  let c6_i32_243 : BitVec 32 := 6#32
  let v493 : BitVec 1 := Scalar.cmpi .slt v492 c6_i32_243
  let v494 : BitVec 1 := Scalar.andi v489 v493
  let v495 : BitVec 32 := Scalar.select v494 v488 v487
  let c512_i32_244 : BitVec 32 := 512#32
  let v496 : BitVec 32 := Scalar.addi v495 c512_i32_244
  let c2048_i32_245 : BitVec 32 := 2048#32
  let v497 : BitVec 1 := Scalar.cmpi .sle v496 c2048_i32_245
  let c6_i32_247 : BitVec 32 := 6#32
  let v501 : BitVec 1 := Scalar.cmpi .slt v500 c6_i32_247
  let v502 : BitVec 1 := Scalar.andi v497 v501
  let v503 : BitVec 32 := Scalar.select v502 v496 v495
  let c256_i32_248 : BitVec 32 := 256#32
  let v504 : BitVec 32 := Scalar.addi v503 c256_i32_248
  let c2048_i32_249 : BitVec 32 := 2048#32
  let v505 : BitVec 1 := Scalar.cmpi .sle v504 c2048_i32_249
  let c6_i32_251 : BitVec 32 := 6#32
  let v509 : BitVec 1 := Scalar.cmpi .slt v508 c6_i32_251
  let v510 : BitVec 1 := Scalar.andi v505 v509
  let v511 : BitVec 32 := Scalar.select v510 v504 v503
  let c128_i32_252 : BitVec 32 := 128#32
  let v512 : BitVec 32 := Scalar.addi v511 c128_i32_252
  let c2048_i32_253 : BitVec 32 := 2048#32
  let v513 : BitVec 1 := Scalar.cmpi .sle v512 c2048_i32_253
  let c6_i32_255 : BitVec 32 := 6#32
  let v517 : BitVec 1 := Scalar.cmpi .slt v516 c6_i32_255
  let v518 : BitVec 1 := Scalar.andi v513 v517
  let v519 : BitVec 32 := Scalar.select v518 v512 v511
  let c64_i32_256 : BitVec 32 := 64#32
  let v520 : BitVec 32 := Scalar.addi v519 c64_i32_256
  let c2048_i32_257 : BitVec 32 := 2048#32
  let v521 : BitVec 1 := Scalar.cmpi .sle v520 c2048_i32_257
  let c6_i32_259 : BitVec 32 := 6#32
  let v525 : BitVec 1 := Scalar.cmpi .slt v524 c6_i32_259
  let v526 : BitVec 1 := Scalar.andi v521 v525
  let v527 : BitVec 32 := Scalar.select v526 v520 v519
  let c32_i32_260 : BitVec 32 := 32#32
  let v528 : BitVec 32 := Scalar.addi v527 c32_i32_260
  let c2048_i32_261 : BitVec 32 := 2048#32
  let v529 : BitVec 1 := Scalar.cmpi .sle v528 c2048_i32_261
  let c6_i32_263 : BitVec 32 := 6#32
  let v533 : BitVec 1 := Scalar.cmpi .slt v532 c6_i32_263
  let v534 : BitVec 1 := Scalar.andi v529 v533
  let v535 : BitVec 32 := Scalar.select v534 v528 v527
  let c16_i32_264 : BitVec 32 := 16#32
  let v536 : BitVec 32 := Scalar.addi v535 c16_i32_264
  let c2048_i32_265 : BitVec 32 := 2048#32
  let v537 : BitVec 1 := Scalar.cmpi .sle v536 c2048_i32_265
  let c6_i32_267 : BitVec 32 := 6#32
  let v541 : BitVec 1 := Scalar.cmpi .slt v540 c6_i32_267
  let v542 : BitVec 1 := Scalar.andi v537 v541
  let v543 : BitVec 32 := Scalar.select v542 v536 v535
  let c8_i32_268 : BitVec 32 := 8#32
  let v544 : BitVec 32 := Scalar.addi v543 c8_i32_268
  let c2048_i32_269 : BitVec 32 := 2048#32
  let v545 : BitVec 1 := Scalar.cmpi .sle v544 c2048_i32_269
  let c6_i32_271 : BitVec 32 := 6#32
  let v549 : BitVec 1 := Scalar.cmpi .slt v548 c6_i32_271
  let v550 : BitVec 1 := Scalar.andi v545 v549
  let v551 : BitVec 32 := Scalar.select v550 v544 v543
  let c4_i32_272 : BitVec 32 := 4#32
  let v552 : BitVec 32 := Scalar.addi v551 c4_i32_272
  let c2048_i32_273 : BitVec 32 := 2048#32
  let v553 : BitVec 1 := Scalar.cmpi .sle v552 c2048_i32_273
  let c6_i32_275 : BitVec 32 := 6#32
  let v557 : BitVec 1 := Scalar.cmpi .slt v556 c6_i32_275
  let v558 : BitVec 1 := Scalar.andi v553 v557
  let v559 : BitVec 32 := Scalar.select v558 v552 v551
  let c2_i32_276 : BitVec 32 := 2#32
  let v560 : BitVec 32 := Scalar.addi v559 c2_i32_276
  let c2048_i32_277 : BitVec 32 := 2048#32
  let v561 : BitVec 1 := Scalar.cmpi .sle v560 c2048_i32_277
  let c6_i32_279 : BitVec 32 := 6#32
  let v565 : BitVec 1 := Scalar.cmpi .slt v564 c6_i32_279
  let v566 : BitVec 1 := Scalar.andi v561 v565
  let v567 : BitVec 32 := Scalar.select v566 v560 v559
  let c1_i32_280 : BitVec 32 := 1#32
  let v568 : BitVec 32 := Scalar.addi v567 c1_i32_280
  let c2048_i32_281 : BitVec 32 := 2048#32
  let v569 : BitVec 1 := Scalar.cmpi .sle v568 c2048_i32_281
  let c6_i32_283 : BitVec 32 := 6#32
  let v573 : BitVec 1 := Scalar.cmpi .slt v572 c6_i32_283
  let v574 : BitVec 1 := Scalar.andi v569 v573
  let v575 : BitVec 32 := Scalar.select v574 v568 v567
  let v677 : BitVec 32 := Scalar.subi v575 v479
  let c0_i32_372 : BitVec 32 := 0#32
  let v766 : BitVec 1 := Scalar.cmpi .sgt v479 c0_i32_372
  let v767 : BitVec 32 := Scalar.extui v766
  let c0_i32_373 : BitVec 32 := 0#32
  let v768 : BitVec 1 := Scalar.cmpi .slt v479 c0_i32_373
  let v769 : BitVec 32 := Scalar.extui v768
  let v770 : BitVec 32 := Scalar.subi v767 v769
  let c8_i32_371 : BitVec 32 := 8#32
  let c0_i32_374 : BitVec 32 := 0#32
  let v771 : BitVec 1 := Scalar.cmpi .sgt c8_i32_371 c0_i32_374
  let v772 : BitVec 32 := Scalar.extui v771
  let c0_i32_375 : BitVec 32 := 0#32
  let v773 : BitVec 1 := Scalar.cmpi .slt c8_i32_371 c0_i32_375
  let v774 : BitVec 32 := Scalar.extui v773
  let v775 : BitVec 32 := Scalar.subi v772 v774
  let v776 : BitVec 1 := Scalar.cmpi .ne v770 v775
  let v777 : BitVec 32 := Scalar.remsi v479 c8_i32_371
  let c0_i32_376 : BitVec 32 := 0#32
  let v778 : BitVec 1 := Scalar.cmpi .ne v777 c0_i32_376
  let v779 : BitVec 1 := Scalar.andi v776 v778
  let v765 : BitVec 32 := Scalar.divsi v479 c8_i32_371
  let c1_i32_377 : BitVec 32 := 1#32
  let v780 : BitVec 32 := Scalar.subi v765 c1_i32_377
  let v781 : BitVec 32 := Scalar.select v779 v780 v765
  let c8_i32_398 : BitVec 32 := 8#32
  let v826 : BitVec 32 := Scalar.muli v781 c8_i32_398
  let v827 : BitVec 32 := Scalar.subi v479 v826
  let v976 : BitVec 32 := Scalar.addi v677 v827
  let v977 : BitVec 32 := Scalar.maxsi v975 v976
  let c0_i32_284 : BitVec 32 := 0#32
  let c2048_i32_285 : BitVec 32 := 2048#32
  let v576 : BitVec 32 := Scalar.addi c0_i32_284 c2048_i32_285
  let c2048_i32_286 : BitVec 32 := 2048#32
  let v577 : BitVec 1 := Scalar.cmpi .sle v576 c2048_i32_286
  let c7_i32 : BitVec 32 := 7#32
  let v581 : BitVec 1 := Scalar.cmpi .slt v580 c7_i32
  let v582 : BitVec 1 := Scalar.andi v577 v581
  let c0_i32_288 : BitVec 32 := 0#32
  let v583 : BitVec 32 := Scalar.select v582 v576 c0_i32_288
  let c1024_i32_289 : BitVec 32 := 1024#32
  let v584 : BitVec 32 := Scalar.addi v583 c1024_i32_289
  let c2048_i32_290 : BitVec 32 := 2048#32
  let v585 : BitVec 1 := Scalar.cmpi .sle v584 c2048_i32_290
  let c7_i32_292 : BitVec 32 := 7#32
  let v589 : BitVec 1 := Scalar.cmpi .slt v588 c7_i32_292
  let v590 : BitVec 1 := Scalar.andi v585 v589
  let v591 : BitVec 32 := Scalar.select v590 v584 v583
  let c512_i32_293 : BitVec 32 := 512#32
  let v592 : BitVec 32 := Scalar.addi v591 c512_i32_293
  let c2048_i32_294 : BitVec 32 := 2048#32
  let v593 : BitVec 1 := Scalar.cmpi .sle v592 c2048_i32_294
  let c7_i32_296 : BitVec 32 := 7#32
  let v597 : BitVec 1 := Scalar.cmpi .slt v596 c7_i32_296
  let v598 : BitVec 1 := Scalar.andi v593 v597
  let v599 : BitVec 32 := Scalar.select v598 v592 v591
  let c256_i32_297 : BitVec 32 := 256#32
  let v600 : BitVec 32 := Scalar.addi v599 c256_i32_297
  let c2048_i32_298 : BitVec 32 := 2048#32
  let v601 : BitVec 1 := Scalar.cmpi .sle v600 c2048_i32_298
  let c7_i32_300 : BitVec 32 := 7#32
  let v605 : BitVec 1 := Scalar.cmpi .slt v604 c7_i32_300
  let v606 : BitVec 1 := Scalar.andi v601 v605
  let v607 : BitVec 32 := Scalar.select v606 v600 v599
  let c128_i32_301 : BitVec 32 := 128#32
  let v608 : BitVec 32 := Scalar.addi v607 c128_i32_301
  let c2048_i32_302 : BitVec 32 := 2048#32
  let v609 : BitVec 1 := Scalar.cmpi .sle v608 c2048_i32_302
  let c7_i32_304 : BitVec 32 := 7#32
  let v613 : BitVec 1 := Scalar.cmpi .slt v612 c7_i32_304
  let v614 : BitVec 1 := Scalar.andi v609 v613
  let v615 : BitVec 32 := Scalar.select v614 v608 v607
  let c64_i32_305 : BitVec 32 := 64#32
  let v616 : BitVec 32 := Scalar.addi v615 c64_i32_305
  let c2048_i32_306 : BitVec 32 := 2048#32
  let v617 : BitVec 1 := Scalar.cmpi .sle v616 c2048_i32_306
  let c7_i32_308 : BitVec 32 := 7#32
  let v621 : BitVec 1 := Scalar.cmpi .slt v620 c7_i32_308
  let v622 : BitVec 1 := Scalar.andi v617 v621
  let v623 : BitVec 32 := Scalar.select v622 v616 v615
  let c32_i32_309 : BitVec 32 := 32#32
  let v624 : BitVec 32 := Scalar.addi v623 c32_i32_309
  let c2048_i32_310 : BitVec 32 := 2048#32
  let v625 : BitVec 1 := Scalar.cmpi .sle v624 c2048_i32_310
  let c7_i32_312 : BitVec 32 := 7#32
  let v629 : BitVec 1 := Scalar.cmpi .slt v628 c7_i32_312
  let v630 : BitVec 1 := Scalar.andi v625 v629
  let v631 : BitVec 32 := Scalar.select v630 v624 v623
  let c16_i32_313 : BitVec 32 := 16#32
  let v632 : BitVec 32 := Scalar.addi v631 c16_i32_313
  let c2048_i32_314 : BitVec 32 := 2048#32
  let v633 : BitVec 1 := Scalar.cmpi .sle v632 c2048_i32_314
  let c7_i32_316 : BitVec 32 := 7#32
  let v637 : BitVec 1 := Scalar.cmpi .slt v636 c7_i32_316
  let v638 : BitVec 1 := Scalar.andi v633 v637
  let v639 : BitVec 32 := Scalar.select v638 v632 v631
  let c8_i32_317 : BitVec 32 := 8#32
  let v640 : BitVec 32 := Scalar.addi v639 c8_i32_317
  let c2048_i32_318 : BitVec 32 := 2048#32
  let v641 : BitVec 1 := Scalar.cmpi .sle v640 c2048_i32_318
  let c7_i32_320 : BitVec 32 := 7#32
  let v645 : BitVec 1 := Scalar.cmpi .slt v644 c7_i32_320
  let v646 : BitVec 1 := Scalar.andi v641 v645
  let v647 : BitVec 32 := Scalar.select v646 v640 v639
  let c4_i32_321 : BitVec 32 := 4#32
  let v648 : BitVec 32 := Scalar.addi v647 c4_i32_321
  let c2048_i32_322 : BitVec 32 := 2048#32
  let v649 : BitVec 1 := Scalar.cmpi .sle v648 c2048_i32_322
  let c7_i32_324 : BitVec 32 := 7#32
  let v653 : BitVec 1 := Scalar.cmpi .slt v652 c7_i32_324
  let v654 : BitVec 1 := Scalar.andi v649 v653
  let v655 : BitVec 32 := Scalar.select v654 v648 v647
  let c2_i32_325 : BitVec 32 := 2#32
  let v656 : BitVec 32 := Scalar.addi v655 c2_i32_325
  let c2048_i32_326 : BitVec 32 := 2048#32
  let v657 : BitVec 1 := Scalar.cmpi .sle v656 c2048_i32_326
  let c7_i32_328 : BitVec 32 := 7#32
  let v661 : BitVec 1 := Scalar.cmpi .slt v660 c7_i32_328
  let v662 : BitVec 1 := Scalar.andi v657 v661
  let v663 : BitVec 32 := Scalar.select v662 v656 v655
  let c1_i32_329 : BitVec 32 := 1#32
  let v664 : BitVec 32 := Scalar.addi v663 c1_i32_329
  let c2048_i32_330 : BitVec 32 := 2048#32
  let v665 : BitVec 1 := Scalar.cmpi .sle v664 c2048_i32_330
  let c7_i32_332 : BitVec 32 := 7#32
  let v669 : BitVec 1 := Scalar.cmpi .slt v668 c7_i32_332
  let v670 : BitVec 1 := Scalar.andi v665 v669
  let v671 : BitVec 32 := Scalar.select v670 v664 v663
  let v678 : BitVec 32 := Scalar.subi v671 v575
  let c0_i32_379 : BitVec 32 := 0#32
  let v783 : BitVec 1 := Scalar.cmpi .sgt v575 c0_i32_379
  let v784 : BitVec 32 := Scalar.extui v783
  let c0_i32_380 : BitVec 32 := 0#32
  let v785 : BitVec 1 := Scalar.cmpi .slt v575 c0_i32_380
  let v786 : BitVec 32 := Scalar.extui v785
  let v787 : BitVec 32 := Scalar.subi v784 v786
  let c8_i32_378 : BitVec 32 := 8#32
  let c0_i32_381 : BitVec 32 := 0#32
  let v788 : BitVec 1 := Scalar.cmpi .sgt c8_i32_378 c0_i32_381
  let v789 : BitVec 32 := Scalar.extui v788
  let c0_i32_382 : BitVec 32 := 0#32
  let v790 : BitVec 1 := Scalar.cmpi .slt c8_i32_378 c0_i32_382
  let v791 : BitVec 32 := Scalar.extui v790
  let v792 : BitVec 32 := Scalar.subi v789 v791
  let v793 : BitVec 1 := Scalar.cmpi .ne v787 v792
  let v794 : BitVec 32 := Scalar.remsi v575 c8_i32_378
  let c0_i32_383 : BitVec 32 := 0#32
  let v795 : BitVec 1 := Scalar.cmpi .ne v794 c0_i32_383
  let v796 : BitVec 1 := Scalar.andi v793 v795
  let v782 : BitVec 32 := Scalar.divsi v575 c8_i32_378
  let c1_i32_384 : BitVec 32 := 1#32
  let v797 : BitVec 32 := Scalar.subi v782 c1_i32_384
  let v798 : BitVec 32 := Scalar.select v796 v797 v782
  let c8_i32_399 : BitVec 32 := 8#32
  let v828 : BitVec 32 := Scalar.muli v798 c8_i32_399
  let v829 : BitVec 32 := Scalar.subi v575 v828
  let v978 : BitVec 32 := Scalar.addi v678 v829
  let v979 : BitVec 32 := Scalar.maxsi v977 v978
  let c2048_i32_334 : BitVec 32 := 2048#32
  let v679 : BitVec 32 := Scalar.subi c2048_i32_334 v671
  let c0_i32_386 : BitVec 32 := 0#32
  let v800 : BitVec 1 := Scalar.cmpi .sgt v671 c0_i32_386
  let v801 : BitVec 32 := Scalar.extui v800
  let c0_i32_387 : BitVec 32 := 0#32
  let v802 : BitVec 1 := Scalar.cmpi .slt v671 c0_i32_387
  let v803 : BitVec 32 := Scalar.extui v802
  let v804 : BitVec 32 := Scalar.subi v801 v803
  let c8_i32_385 : BitVec 32 := 8#32
  let c0_i32_388 : BitVec 32 := 0#32
  let v805 : BitVec 1 := Scalar.cmpi .sgt c8_i32_385 c0_i32_388
  let v806 : BitVec 32 := Scalar.extui v805
  let c0_i32_389 : BitVec 32 := 0#32
  let v807 : BitVec 1 := Scalar.cmpi .slt c8_i32_385 c0_i32_389
  let v808 : BitVec 32 := Scalar.extui v807
  let v809 : BitVec 32 := Scalar.subi v806 v808
  let v810 : BitVec 1 := Scalar.cmpi .ne v804 v809
  let v811 : BitVec 32 := Scalar.remsi v671 c8_i32_385
  let c0_i32_390 : BitVec 32 := 0#32
  let v812 : BitVec 1 := Scalar.cmpi .ne v811 c0_i32_390
  let v813 : BitVec 1 := Scalar.andi v810 v812
  let v799 : BitVec 32 := Scalar.divsi v671 c8_i32_385
  let c1_i32_391 : BitVec 32 := 1#32
  let v814 : BitVec 32 := Scalar.subi v799 c1_i32_391
  let v815 : BitVec 32 := Scalar.select v813 v814 v799
  let c8_i32_400 : BitVec 32 := 8#32
  let v830 : BitVec 32 := Scalar.muli v815 c8_i32_400
  let v831 : BitVec 32 := Scalar.subi v671 v830
  let v980 : BitVec 32 := Scalar.addi v679 v831
  let v981 : BitVec 32 := Scalar.maxsi v979 v980
  let c4_i32_486 : BitVec 32 := 4#32
  let v992 : BitVec 32 := Scalar.addi v981 c4_i32_486
  let c0_i32_488 : BitVec 32 := 0#32
  let v994 : BitVec 1 := Scalar.cmpi .sgt v992 c0_i32_488
  let v995 : BitVec 32 := Scalar.extui v994
  let c0_i32_489 : BitVec 32 := 0#32
  let v996 : BitVec 1 := Scalar.cmpi .slt v992 c0_i32_489
  let v997 : BitVec 32 := Scalar.extui v996
  let v998 : BitVec 32 := Scalar.subi v995 v997
  let c4_i32_487 : BitVec 32 := 4#32
  let c0_i32_490 : BitVec 32 := 0#32
  let v999 : BitVec 1 := Scalar.cmpi .sgt c4_i32_487 c0_i32_490
  let v1000 : BitVec 32 := Scalar.extui v999
  let c0_i32_491 : BitVec 32 := 0#32
  let v1001 : BitVec 1 := Scalar.cmpi .slt c4_i32_487 c0_i32_491
  let v1002 : BitVec 32 := Scalar.extui v1001
  let v1003 : BitVec 32 := Scalar.subi v1000 v1002
  let v1004 : BitVec 1 := Scalar.cmpi .ne v998 v1003
  let v1005 : BitVec 32 := Scalar.remsi v992 c4_i32_487
  let c0_i32_492 : BitVec 32 := 0#32
  let v1006 : BitVec 1 := Scalar.cmpi .ne v1005 c0_i32_492
  let v1007 : BitVec 1 := Scalar.andi v1004 v1006
  let v993 : BitVec 32 := Scalar.divsi v992 c4_i32_487
  let c1_i32_493 : BitVec 32 := 1#32
  let v1008 : BitVec 32 := Scalar.subi v993 c1_i32_493
  let v1009 : BitVec 32 := Scalar.select v1007 v1008 v993
  let v1010 : BitVec 32 := Scalar.subi v1009 c0_i32_494
  let c1_i32_495 : BitVec 32 := 1#32
  let v1012 : BitVec 32 := Scalar.divsi v1010 c1_i32_495
  let v1013 : BitVec 32 := Scalar.muli v1012 c1_i32_495
  let v1014 : BitVec 32 := Scalar.addi c0_i32_494 v1013
  let c1_i32_497 : BitVec 32 := 1#32
  let arg17 : BitVec 32 := Scf.iv v1014 c1_i32_497 k0_t2
  let v1176 : BitVec 32 := Scalar.muli c4_i32_561 arg17
  let v1177 : BitVec 32 := Scalar.addi v1176 c0_i32_562
  let v1180 : Index := Scalar.indexCast v1177
  let c0_563 : Index := 0#32
  let c0_564 : Index := 0#32
  ![v1180.toNat, 0, 0]
def k0_off96 (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) (k0_t2 : Fin (k0_t2_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips) (c0_i32_562 : BitVec 32) : Fin 3 → Nat :=
  let c4_i32_561 : BitVec 32 := 4#32
  let c0_i32_494 : BitVec 32 := 0#32
  let c0_i32 : BitVec 32 := 0#32
  let c2048_i32 : BitVec 32 := 2048#32
  let v0 : BitVec 32 := Scalar.addi c0_i32 c2048_i32
  let c2048_i32_0 : BitVec 32 := 2048#32
  let v1 : BitVec 1 := Scalar.cmpi .sle v0 c2048_i32_0
  let c1_i32_1 : BitVec 32 := 1#32
  let v5 : BitVec 1 := Scalar.cmpi .slt v4 c1_i32_1
  let v6 : BitVec 1 := Scalar.andi v1 v5
  let c0_i32_2 : BitVec 32 := 0#32
  let v7 : BitVec 32 := Scalar.select v6 v0 c0_i32_2
  let c1024_i32 : BitVec 32 := 1024#32
  let v8 : BitVec 32 := Scalar.addi v7 c1024_i32
  let c2048_i32_3 : BitVec 32 := 2048#32
  let v9 : BitVec 1 := Scalar.cmpi .sle v8 c2048_i32_3
  let c1_i32_5 : BitVec 32 := 1#32
  let v13 : BitVec 1 := Scalar.cmpi .slt v12 c1_i32_5
  let v14 : BitVec 1 := Scalar.andi v9 v13
  let v15 : BitVec 32 := Scalar.select v14 v8 v7
  let c512_i32 : BitVec 32 := 512#32
  let v16 : BitVec 32 := Scalar.addi v15 c512_i32
  let c2048_i32_6 : BitVec 32 := 2048#32
  let v17 : BitVec 1 := Scalar.cmpi .sle v16 c2048_i32_6
  let c1_i32_8 : BitVec 32 := 1#32
  let v21 : BitVec 1 := Scalar.cmpi .slt v20 c1_i32_8
  let v22 : BitVec 1 := Scalar.andi v17 v21
  let v23 : BitVec 32 := Scalar.select v22 v16 v15
  let c256_i32 : BitVec 32 := 256#32
  let v24 : BitVec 32 := Scalar.addi v23 c256_i32
  let c2048_i32_9 : BitVec 32 := 2048#32
  let v25 : BitVec 1 := Scalar.cmpi .sle v24 c2048_i32_9
  let c1_i32_11 : BitVec 32 := 1#32
  let v29 : BitVec 1 := Scalar.cmpi .slt v28 c1_i32_11
  let v30 : BitVec 1 := Scalar.andi v25 v29
  let v31 : BitVec 32 := Scalar.select v30 v24 v23
  let c128_i32 : BitVec 32 := 128#32
  let v32 : BitVec 32 := Scalar.addi v31 c128_i32
  let c2048_i32_12 : BitVec 32 := 2048#32
  let v33 : BitVec 1 := Scalar.cmpi .sle v32 c2048_i32_12
  let c1_i32_14 : BitVec 32 := 1#32
  let v37 : BitVec 1 := Scalar.cmpi .slt v36 c1_i32_14
  let v38 : BitVec 1 := Scalar.andi v33 v37
  let v39 : BitVec 32 := Scalar.select v38 v32 v31
  let c64_i32 : BitVec 32 := 64#32
  let v40 : BitVec 32 := Scalar.addi v39 c64_i32
  let c2048_i32_15 : BitVec 32 := 2048#32
  let v41 : BitVec 1 := Scalar.cmpi .sle v40 c2048_i32_15
  let c1_i32_17 : BitVec 32 := 1#32
  let v45 : BitVec 1 := Scalar.cmpi .slt v44 c1_i32_17
  let v46 : BitVec 1 := Scalar.andi v41 v45
  let v47 : BitVec 32 := Scalar.select v46 v40 v39
  let c32_i32 : BitVec 32 := 32#32
  let v48 : BitVec 32 := Scalar.addi v47 c32_i32
  let c2048_i32_18 : BitVec 32 := 2048#32
  let v49 : BitVec 1 := Scalar.cmpi .sle v48 c2048_i32_18
  let c1_i32_20 : BitVec 32 := 1#32
  let v53 : BitVec 1 := Scalar.cmpi .slt v52 c1_i32_20
  let v54 : BitVec 1 := Scalar.andi v49 v53
  let v55 : BitVec 32 := Scalar.select v54 v48 v47
  let c16_i32 : BitVec 32 := 16#32
  let v56 : BitVec 32 := Scalar.addi v55 c16_i32
  let c2048_i32_21 : BitVec 32 := 2048#32
  let v57 : BitVec 1 := Scalar.cmpi .sle v56 c2048_i32_21
  let c1_i32_23 : BitVec 32 := 1#32
  let v61 : BitVec 1 := Scalar.cmpi .slt v60 c1_i32_23
  let v62 : BitVec 1 := Scalar.andi v57 v61
  let v63 : BitVec 32 := Scalar.select v62 v56 v55
  let c8_i32 : BitVec 32 := 8#32
  let v64 : BitVec 32 := Scalar.addi v63 c8_i32
  let c2048_i32_24 : BitVec 32 := 2048#32
  let v65 : BitVec 1 := Scalar.cmpi .sle v64 c2048_i32_24
  let c1_i32_26 : BitVec 32 := 1#32
  let v69 : BitVec 1 := Scalar.cmpi .slt v68 c1_i32_26
  let v70 : BitVec 1 := Scalar.andi v65 v69
  let v71 : BitVec 32 := Scalar.select v70 v64 v63
  let c4_i32 : BitVec 32 := 4#32
  let v72 : BitVec 32 := Scalar.addi v71 c4_i32
  let c2048_i32_27 : BitVec 32 := 2048#32
  let v73 : BitVec 1 := Scalar.cmpi .sle v72 c2048_i32_27
  let c1_i32_29 : BitVec 32 := 1#32
  let v77 : BitVec 1 := Scalar.cmpi .slt v76 c1_i32_29
  let v78 : BitVec 1 := Scalar.andi v73 v77
  let v79 : BitVec 32 := Scalar.select v78 v72 v71
  let c2_i32 : BitVec 32 := 2#32
  let v80 : BitVec 32 := Scalar.addi v79 c2_i32
  let c2048_i32_30 : BitVec 32 := 2048#32
  let v81 : BitVec 1 := Scalar.cmpi .sle v80 c2048_i32_30
  let c1_i32_32 : BitVec 32 := 1#32
  let v85 : BitVec 1 := Scalar.cmpi .slt v84 c1_i32_32
  let v86 : BitVec 1 := Scalar.andi v81 v85
  let v87 : BitVec 32 := Scalar.select v86 v80 v79
  let c1_i32_33 : BitVec 32 := 1#32
  let v88 : BitVec 32 := Scalar.addi v87 c1_i32_33
  let c2048_i32_34 : BitVec 32 := 2048#32
  let v89 : BitVec 1 := Scalar.cmpi .sle v88 c2048_i32_34
  let c1_i32_36 : BitVec 32 := 1#32
  let v93 : BitVec 1 := Scalar.cmpi .slt v92 c1_i32_36
  let v94 : BitVec 1 := Scalar.andi v89 v93
  let v95 : BitVec 32 := Scalar.select v94 v88 v87
  let c0_i32_333 : BitVec 32 := 0#32
  let v672 : BitVec 32 := Scalar.subi v95 c0_i32_333
  let c0_i32_393 : BitVec 32 := 0#32
  let c0_i32_335 : BitVec 32 := 0#32
  let c0_i32_337 : BitVec 32 := 0#32
  let v681 : BitVec 1 := Scalar.cmpi .sgt c0_i32_335 c0_i32_337
  let v682 : BitVec 32 := Scalar.extui v681
  let c0_i32_338 : BitVec 32 := 0#32
  let v683 : BitVec 1 := Scalar.cmpi .slt c0_i32_335 c0_i32_338
  let v684 : BitVec 32 := Scalar.extui v683
  let v685 : BitVec 32 := Scalar.subi v682 v684
  let c8_i32_336 : BitVec 32 := 8#32
  let c0_i32_339 : BitVec 32 := 0#32
  let v686 : BitVec 1 := Scalar.cmpi .sgt c8_i32_336 c0_i32_339
  let v687 : BitVec 32 := Scalar.extui v686
  let c0_i32_340 : BitVec 32 := 0#32
  let v688 : BitVec 1 := Scalar.cmpi .slt c8_i32_336 c0_i32_340
  let v689 : BitVec 32 := Scalar.extui v688
  let v690 : BitVec 32 := Scalar.subi v687 v689
  let v691 : BitVec 1 := Scalar.cmpi .ne v685 v690
  let v692 : BitVec 32 := Scalar.remsi c0_i32_335 c8_i32_336
  let c0_i32_341 : BitVec 32 := 0#32
  let v693 : BitVec 1 := Scalar.cmpi .ne v692 c0_i32_341
  let v694 : BitVec 1 := Scalar.andi v691 v693
  let v680 : BitVec 32 := Scalar.divsi c0_i32_335 c8_i32_336
  let c1_i32_342 : BitVec 32 := 1#32
  let v695 : BitVec 32 := Scalar.subi v680 c1_i32_342
  let v696 : BitVec 32 := Scalar.select v694 v695 v680
  let c8_i32_392 : BitVec 32 := 8#32
  let v816 : BitVec 32 := Scalar.muli v696 c8_i32_392
  let v817 : BitVec 32 := Scalar.subi c0_i32_393 v816
  let v967 : BitVec 32 := Scalar.addi v672 v817
  let c0_i32_37 : BitVec 32 := 0#32
  let c2048_i32_38 : BitVec 32 := 2048#32
  let v96 : BitVec 32 := Scalar.addi c0_i32_37 c2048_i32_38
  let c2048_i32_39 : BitVec 32 := 2048#32
  let v97 : BitVec 1 := Scalar.cmpi .sle v96 c2048_i32_39
  let c2_i32_41 : BitVec 32 := 2#32
  let v101 : BitVec 1 := Scalar.cmpi .slt v100 c2_i32_41
  let v102 : BitVec 1 := Scalar.andi v97 v101
  let c0_i32_42 : BitVec 32 := 0#32
  let v103 : BitVec 32 := Scalar.select v102 v96 c0_i32_42
  let c1024_i32_43 : BitVec 32 := 1024#32
  let v104 : BitVec 32 := Scalar.addi v103 c1024_i32_43
  let c2048_i32_44 : BitVec 32 := 2048#32
  let v105 : BitVec 1 := Scalar.cmpi .sle v104 c2048_i32_44
  let c2_i32_46 : BitVec 32 := 2#32
  let v109 : BitVec 1 := Scalar.cmpi .slt v108 c2_i32_46
  let v110 : BitVec 1 := Scalar.andi v105 v109
  let v111 : BitVec 32 := Scalar.select v110 v104 v103
  let c512_i32_47 : BitVec 32 := 512#32
  let v112 : BitVec 32 := Scalar.addi v111 c512_i32_47
  let c2048_i32_48 : BitVec 32 := 2048#32
  let v113 : BitVec 1 := Scalar.cmpi .sle v112 c2048_i32_48
  let c2_i32_50 : BitVec 32 := 2#32
  let v117 : BitVec 1 := Scalar.cmpi .slt v116 c2_i32_50
  let v118 : BitVec 1 := Scalar.andi v113 v117
  let v119 : BitVec 32 := Scalar.select v118 v112 v111
  let c256_i32_51 : BitVec 32 := 256#32
  let v120 : BitVec 32 := Scalar.addi v119 c256_i32_51
  let c2048_i32_52 : BitVec 32 := 2048#32
  let v121 : BitVec 1 := Scalar.cmpi .sle v120 c2048_i32_52
  let c2_i32_54 : BitVec 32 := 2#32
  let v125 : BitVec 1 := Scalar.cmpi .slt v124 c2_i32_54
  let v126 : BitVec 1 := Scalar.andi v121 v125
  let v127 : BitVec 32 := Scalar.select v126 v120 v119
  let c128_i32_55 : BitVec 32 := 128#32
  let v128 : BitVec 32 := Scalar.addi v127 c128_i32_55
  let c2048_i32_56 : BitVec 32 := 2048#32
  let v129 : BitVec 1 := Scalar.cmpi .sle v128 c2048_i32_56
  let c2_i32_58 : BitVec 32 := 2#32
  let v133 : BitVec 1 := Scalar.cmpi .slt v132 c2_i32_58
  let v134 : BitVec 1 := Scalar.andi v129 v133
  let v135 : BitVec 32 := Scalar.select v134 v128 v127
  let c64_i32_59 : BitVec 32 := 64#32
  let v136 : BitVec 32 := Scalar.addi v135 c64_i32_59
  let c2048_i32_60 : BitVec 32 := 2048#32
  let v137 : BitVec 1 := Scalar.cmpi .sle v136 c2048_i32_60
  let c2_i32_62 : BitVec 32 := 2#32
  let v141 : BitVec 1 := Scalar.cmpi .slt v140 c2_i32_62
  let v142 : BitVec 1 := Scalar.andi v137 v141
  let v143 : BitVec 32 := Scalar.select v142 v136 v135
  let c32_i32_63 : BitVec 32 := 32#32
  let v144 : BitVec 32 := Scalar.addi v143 c32_i32_63
  let c2048_i32_64 : BitVec 32 := 2048#32
  let v145 : BitVec 1 := Scalar.cmpi .sle v144 c2048_i32_64
  let c2_i32_66 : BitVec 32 := 2#32
  let v149 : BitVec 1 := Scalar.cmpi .slt v148 c2_i32_66
  let v150 : BitVec 1 := Scalar.andi v145 v149
  let v151 : BitVec 32 := Scalar.select v150 v144 v143
  let c16_i32_67 : BitVec 32 := 16#32
  let v152 : BitVec 32 := Scalar.addi v151 c16_i32_67
  let c2048_i32_68 : BitVec 32 := 2048#32
  let v153 : BitVec 1 := Scalar.cmpi .sle v152 c2048_i32_68
  let c2_i32_70 : BitVec 32 := 2#32
  let v157 : BitVec 1 := Scalar.cmpi .slt v156 c2_i32_70
  let v158 : BitVec 1 := Scalar.andi v153 v157
  let v159 : BitVec 32 := Scalar.select v158 v152 v151
  let c8_i32_71 : BitVec 32 := 8#32
  let v160 : BitVec 32 := Scalar.addi v159 c8_i32_71
  let c2048_i32_72 : BitVec 32 := 2048#32
  let v161 : BitVec 1 := Scalar.cmpi .sle v160 c2048_i32_72
  let c2_i32_74 : BitVec 32 := 2#32
  let v165 : BitVec 1 := Scalar.cmpi .slt v164 c2_i32_74
  let v166 : BitVec 1 := Scalar.andi v161 v165
  let v167 : BitVec 32 := Scalar.select v166 v160 v159
  let c4_i32_75 : BitVec 32 := 4#32
  let v168 : BitVec 32 := Scalar.addi v167 c4_i32_75
  let c2048_i32_76 : BitVec 32 := 2048#32
  let v169 : BitVec 1 := Scalar.cmpi .sle v168 c2048_i32_76
  let c2_i32_78 : BitVec 32 := 2#32
  let v173 : BitVec 1 := Scalar.cmpi .slt v172 c2_i32_78
  let v174 : BitVec 1 := Scalar.andi v169 v173
  let v175 : BitVec 32 := Scalar.select v174 v168 v167
  let c2_i32_79 : BitVec 32 := 2#32
  let v176 : BitVec 32 := Scalar.addi v175 c2_i32_79
  let c2048_i32_80 : BitVec 32 := 2048#32
  let v177 : BitVec 1 := Scalar.cmpi .sle v176 c2048_i32_80
  let c2_i32_82 : BitVec 32 := 2#32
  let v181 : BitVec 1 := Scalar.cmpi .slt v180 c2_i32_82
  let v182 : BitVec 1 := Scalar.andi v177 v181
  let v183 : BitVec 32 := Scalar.select v182 v176 v175
  let c1_i32_83 : BitVec 32 := 1#32
  let v184 : BitVec 32 := Scalar.addi v183 c1_i32_83
  let c2048_i32_84 : BitVec 32 := 2048#32
  let v185 : BitVec 1 := Scalar.cmpi .sle v184 c2048_i32_84
  let c2_i32_86 : BitVec 32 := 2#32
  let v189 : BitVec 1 := Scalar.cmpi .slt v188 c2_i32_86
  let v190 : BitVec 1 := Scalar.andi v185 v189
  let v191 : BitVec 32 := Scalar.select v190 v184 v183
  let v673 : BitVec 32 := Scalar.subi v191 v95
  let c0_i32_344 : BitVec 32 := 0#32
  let v698 : BitVec 1 := Scalar.cmpi .sgt v95 c0_i32_344
  let v699 : BitVec 32 := Scalar.extui v698
  let c0_i32_345 : BitVec 32 := 0#32
  let v700 : BitVec 1 := Scalar.cmpi .slt v95 c0_i32_345
  let v701 : BitVec 32 := Scalar.extui v700
  let v702 : BitVec 32 := Scalar.subi v699 v701
  let c8_i32_343 : BitVec 32 := 8#32
  let c0_i32_346 : BitVec 32 := 0#32
  let v703 : BitVec 1 := Scalar.cmpi .sgt c8_i32_343 c0_i32_346
  let v704 : BitVec 32 := Scalar.extui v703
  let c0_i32_347 : BitVec 32 := 0#32
  let v705 : BitVec 1 := Scalar.cmpi .slt c8_i32_343 c0_i32_347
  let v706 : BitVec 32 := Scalar.extui v705
  let v707 : BitVec 32 := Scalar.subi v704 v706
  let v708 : BitVec 1 := Scalar.cmpi .ne v702 v707
  let v709 : BitVec 32 := Scalar.remsi v95 c8_i32_343
  let c0_i32_348 : BitVec 32 := 0#32
  let v710 : BitVec 1 := Scalar.cmpi .ne v709 c0_i32_348
  let v711 : BitVec 1 := Scalar.andi v708 v710
  let v697 : BitVec 32 := Scalar.divsi v95 c8_i32_343
  let c1_i32_349 : BitVec 32 := 1#32
  let v712 : BitVec 32 := Scalar.subi v697 c1_i32_349
  let v713 : BitVec 32 := Scalar.select v711 v712 v697
  let c8_i32_394 : BitVec 32 := 8#32
  let v818 : BitVec 32 := Scalar.muli v713 c8_i32_394
  let v819 : BitVec 32 := Scalar.subi v95 v818
  let v968 : BitVec 32 := Scalar.addi v673 v819
  let v969 : BitVec 32 := Scalar.maxsi v967 v968
  let c0_i32_87 : BitVec 32 := 0#32
  let c2048_i32_88 : BitVec 32 := 2048#32
  let v192 : BitVec 32 := Scalar.addi c0_i32_87 c2048_i32_88
  let c2048_i32_89 : BitVec 32 := 2048#32
  let v193 : BitVec 1 := Scalar.cmpi .sle v192 c2048_i32_89
  let c3_i32 : BitVec 32 := 3#32
  let v197 : BitVec 1 := Scalar.cmpi .slt v196 c3_i32
  let v198 : BitVec 1 := Scalar.andi v193 v197
  let c0_i32_91 : BitVec 32 := 0#32
  let v199 : BitVec 32 := Scalar.select v198 v192 c0_i32_91
  let c1024_i32_92 : BitVec 32 := 1024#32
  let v200 : BitVec 32 := Scalar.addi v199 c1024_i32_92
  let c2048_i32_93 : BitVec 32 := 2048#32
  let v201 : BitVec 1 := Scalar.cmpi .sle v200 c2048_i32_93
  let c3_i32_95 : BitVec 32 := 3#32
  let v205 : BitVec 1 := Scalar.cmpi .slt v204 c3_i32_95
  let v206 : BitVec 1 := Scalar.andi v201 v205
  let v207 : BitVec 32 := Scalar.select v206 v200 v199
  let c512_i32_96 : BitVec 32 := 512#32
  let v208 : BitVec 32 := Scalar.addi v207 c512_i32_96
  let c2048_i32_97 : BitVec 32 := 2048#32
  let v209 : BitVec 1 := Scalar.cmpi .sle v208 c2048_i32_97
  let c3_i32_99 : BitVec 32 := 3#32
  let v213 : BitVec 1 := Scalar.cmpi .slt v212 c3_i32_99
  let v214 : BitVec 1 := Scalar.andi v209 v213
  let v215 : BitVec 32 := Scalar.select v214 v208 v207
  let c256_i32_100 : BitVec 32 := 256#32
  let v216 : BitVec 32 := Scalar.addi v215 c256_i32_100
  let c2048_i32_101 : BitVec 32 := 2048#32
  let v217 : BitVec 1 := Scalar.cmpi .sle v216 c2048_i32_101
  let c3_i32_103 : BitVec 32 := 3#32
  let v221 : BitVec 1 := Scalar.cmpi .slt v220 c3_i32_103
  let v222 : BitVec 1 := Scalar.andi v217 v221
  let v223 : BitVec 32 := Scalar.select v222 v216 v215
  let c128_i32_104 : BitVec 32 := 128#32
  let v224 : BitVec 32 := Scalar.addi v223 c128_i32_104
  let c2048_i32_105 : BitVec 32 := 2048#32
  let v225 : BitVec 1 := Scalar.cmpi .sle v224 c2048_i32_105
  let c3_i32_107 : BitVec 32 := 3#32
  let v229 : BitVec 1 := Scalar.cmpi .slt v228 c3_i32_107
  let v230 : BitVec 1 := Scalar.andi v225 v229
  let v231 : BitVec 32 := Scalar.select v230 v224 v223
  let c64_i32_108 : BitVec 32 := 64#32
  let v232 : BitVec 32 := Scalar.addi v231 c64_i32_108
  let c2048_i32_109 : BitVec 32 := 2048#32
  let v233 : BitVec 1 := Scalar.cmpi .sle v232 c2048_i32_109
  let c3_i32_111 : BitVec 32 := 3#32
  let v237 : BitVec 1 := Scalar.cmpi .slt v236 c3_i32_111
  let v238 : BitVec 1 := Scalar.andi v233 v237
  let v239 : BitVec 32 := Scalar.select v238 v232 v231
  let c32_i32_112 : BitVec 32 := 32#32
  let v240 : BitVec 32 := Scalar.addi v239 c32_i32_112
  let c2048_i32_113 : BitVec 32 := 2048#32
  let v241 : BitVec 1 := Scalar.cmpi .sle v240 c2048_i32_113
  let c3_i32_115 : BitVec 32 := 3#32
  let v245 : BitVec 1 := Scalar.cmpi .slt v244 c3_i32_115
  let v246 : BitVec 1 := Scalar.andi v241 v245
  let v247 : BitVec 32 := Scalar.select v246 v240 v239
  let c16_i32_116 : BitVec 32 := 16#32
  let v248 : BitVec 32 := Scalar.addi v247 c16_i32_116
  let c2048_i32_117 : BitVec 32 := 2048#32
  let v249 : BitVec 1 := Scalar.cmpi .sle v248 c2048_i32_117
  let c3_i32_119 : BitVec 32 := 3#32
  let v253 : BitVec 1 := Scalar.cmpi .slt v252 c3_i32_119
  let v254 : BitVec 1 := Scalar.andi v249 v253
  let v255 : BitVec 32 := Scalar.select v254 v248 v247
  let c8_i32_120 : BitVec 32 := 8#32
  let v256 : BitVec 32 := Scalar.addi v255 c8_i32_120
  let c2048_i32_121 : BitVec 32 := 2048#32
  let v257 : BitVec 1 := Scalar.cmpi .sle v256 c2048_i32_121
  let c3_i32_123 : BitVec 32 := 3#32
  let v261 : BitVec 1 := Scalar.cmpi .slt v260 c3_i32_123
  let v262 : BitVec 1 := Scalar.andi v257 v261
  let v263 : BitVec 32 := Scalar.select v262 v256 v255
  let c4_i32_124 : BitVec 32 := 4#32
  let v264 : BitVec 32 := Scalar.addi v263 c4_i32_124
  let c2048_i32_125 : BitVec 32 := 2048#32
  let v265 : BitVec 1 := Scalar.cmpi .sle v264 c2048_i32_125
  let c3_i32_127 : BitVec 32 := 3#32
  let v269 : BitVec 1 := Scalar.cmpi .slt v268 c3_i32_127
  let v270 : BitVec 1 := Scalar.andi v265 v269
  let v271 : BitVec 32 := Scalar.select v270 v264 v263
  let c2_i32_128 : BitVec 32 := 2#32
  let v272 : BitVec 32 := Scalar.addi v271 c2_i32_128
  let c2048_i32_129 : BitVec 32 := 2048#32
  let v273 : BitVec 1 := Scalar.cmpi .sle v272 c2048_i32_129
  let c3_i32_131 : BitVec 32 := 3#32
  let v277 : BitVec 1 := Scalar.cmpi .slt v276 c3_i32_131
  let v278 : BitVec 1 := Scalar.andi v273 v277
  let v279 : BitVec 32 := Scalar.select v278 v272 v271
  let c1_i32_132 : BitVec 32 := 1#32
  let v280 : BitVec 32 := Scalar.addi v279 c1_i32_132
  let c2048_i32_133 : BitVec 32 := 2048#32
  let v281 : BitVec 1 := Scalar.cmpi .sle v280 c2048_i32_133
  let c3_i32_135 : BitVec 32 := 3#32
  let v285 : BitVec 1 := Scalar.cmpi .slt v284 c3_i32_135
  let v286 : BitVec 1 := Scalar.andi v281 v285
  let v287 : BitVec 32 := Scalar.select v286 v280 v279
  let v674 : BitVec 32 := Scalar.subi v287 v191
  let c0_i32_351 : BitVec 32 := 0#32
  let v715 : BitVec 1 := Scalar.cmpi .sgt v191 c0_i32_351
  let v716 : BitVec 32 := Scalar.extui v715
  let c0_i32_352 : BitVec 32 := 0#32
  let v717 : BitVec 1 := Scalar.cmpi .slt v191 c0_i32_352
  let v718 : BitVec 32 := Scalar.extui v717
  let v719 : BitVec 32 := Scalar.subi v716 v718
  let c8_i32_350 : BitVec 32 := 8#32
  let c0_i32_353 : BitVec 32 := 0#32
  let v720 : BitVec 1 := Scalar.cmpi .sgt c8_i32_350 c0_i32_353
  let v721 : BitVec 32 := Scalar.extui v720
  let c0_i32_354 : BitVec 32 := 0#32
  let v722 : BitVec 1 := Scalar.cmpi .slt c8_i32_350 c0_i32_354
  let v723 : BitVec 32 := Scalar.extui v722
  let v724 : BitVec 32 := Scalar.subi v721 v723
  let v725 : BitVec 1 := Scalar.cmpi .ne v719 v724
  let v726 : BitVec 32 := Scalar.remsi v191 c8_i32_350
  let c0_i32_355 : BitVec 32 := 0#32
  let v727 : BitVec 1 := Scalar.cmpi .ne v726 c0_i32_355
  let v728 : BitVec 1 := Scalar.andi v725 v727
  let v714 : BitVec 32 := Scalar.divsi v191 c8_i32_350
  let c1_i32_356 : BitVec 32 := 1#32
  let v729 : BitVec 32 := Scalar.subi v714 c1_i32_356
  let v730 : BitVec 32 := Scalar.select v728 v729 v714
  let c8_i32_395 : BitVec 32 := 8#32
  let v820 : BitVec 32 := Scalar.muli v730 c8_i32_395
  let v821 : BitVec 32 := Scalar.subi v191 v820
  let v970 : BitVec 32 := Scalar.addi v674 v821
  let v971 : BitVec 32 := Scalar.maxsi v969 v970
  let c0_i32_136 : BitVec 32 := 0#32
  let c2048_i32_137 : BitVec 32 := 2048#32
  let v288 : BitVec 32 := Scalar.addi c0_i32_136 c2048_i32_137
  let c2048_i32_138 : BitVec 32 := 2048#32
  let v289 : BitVec 1 := Scalar.cmpi .sle v288 c2048_i32_138
  let c4_i32_140 : BitVec 32 := 4#32
  let v293 : BitVec 1 := Scalar.cmpi .slt v292 c4_i32_140
  let v294 : BitVec 1 := Scalar.andi v289 v293
  let c0_i32_141 : BitVec 32 := 0#32
  let v295 : BitVec 32 := Scalar.select v294 v288 c0_i32_141
  let c1024_i32_142 : BitVec 32 := 1024#32
  let v296 : BitVec 32 := Scalar.addi v295 c1024_i32_142
  let c2048_i32_143 : BitVec 32 := 2048#32
  let v297 : BitVec 1 := Scalar.cmpi .sle v296 c2048_i32_143
  let c4_i32_145 : BitVec 32 := 4#32
  let v301 : BitVec 1 := Scalar.cmpi .slt v300 c4_i32_145
  let v302 : BitVec 1 := Scalar.andi v297 v301
  let v303 : BitVec 32 := Scalar.select v302 v296 v295
  let c512_i32_146 : BitVec 32 := 512#32
  let v304 : BitVec 32 := Scalar.addi v303 c512_i32_146
  let c2048_i32_147 : BitVec 32 := 2048#32
  let v305 : BitVec 1 := Scalar.cmpi .sle v304 c2048_i32_147
  let c4_i32_149 : BitVec 32 := 4#32
  let v309 : BitVec 1 := Scalar.cmpi .slt v308 c4_i32_149
  let v310 : BitVec 1 := Scalar.andi v305 v309
  let v311 : BitVec 32 := Scalar.select v310 v304 v303
  let c256_i32_150 : BitVec 32 := 256#32
  let v312 : BitVec 32 := Scalar.addi v311 c256_i32_150
  let c2048_i32_151 : BitVec 32 := 2048#32
  let v313 : BitVec 1 := Scalar.cmpi .sle v312 c2048_i32_151
  let c4_i32_153 : BitVec 32 := 4#32
  let v317 : BitVec 1 := Scalar.cmpi .slt v316 c4_i32_153
  let v318 : BitVec 1 := Scalar.andi v313 v317
  let v319 : BitVec 32 := Scalar.select v318 v312 v311
  let c128_i32_154 : BitVec 32 := 128#32
  let v320 : BitVec 32 := Scalar.addi v319 c128_i32_154
  let c2048_i32_155 : BitVec 32 := 2048#32
  let v321 : BitVec 1 := Scalar.cmpi .sle v320 c2048_i32_155
  let c4_i32_157 : BitVec 32 := 4#32
  let v325 : BitVec 1 := Scalar.cmpi .slt v324 c4_i32_157
  let v326 : BitVec 1 := Scalar.andi v321 v325
  let v327 : BitVec 32 := Scalar.select v326 v320 v319
  let c64_i32_158 : BitVec 32 := 64#32
  let v328 : BitVec 32 := Scalar.addi v327 c64_i32_158
  let c2048_i32_159 : BitVec 32 := 2048#32
  let v329 : BitVec 1 := Scalar.cmpi .sle v328 c2048_i32_159
  let c4_i32_161 : BitVec 32 := 4#32
  let v333 : BitVec 1 := Scalar.cmpi .slt v332 c4_i32_161
  let v334 : BitVec 1 := Scalar.andi v329 v333
  let v335 : BitVec 32 := Scalar.select v334 v328 v327
  let c32_i32_162 : BitVec 32 := 32#32
  let v336 : BitVec 32 := Scalar.addi v335 c32_i32_162
  let c2048_i32_163 : BitVec 32 := 2048#32
  let v337 : BitVec 1 := Scalar.cmpi .sle v336 c2048_i32_163
  let c4_i32_165 : BitVec 32 := 4#32
  let v341 : BitVec 1 := Scalar.cmpi .slt v340 c4_i32_165
  let v342 : BitVec 1 := Scalar.andi v337 v341
  let v343 : BitVec 32 := Scalar.select v342 v336 v335
  let c16_i32_166 : BitVec 32 := 16#32
  let v344 : BitVec 32 := Scalar.addi v343 c16_i32_166
  let c2048_i32_167 : BitVec 32 := 2048#32
  let v345 : BitVec 1 := Scalar.cmpi .sle v344 c2048_i32_167
  let c4_i32_169 : BitVec 32 := 4#32
  let v349 : BitVec 1 := Scalar.cmpi .slt v348 c4_i32_169
  let v350 : BitVec 1 := Scalar.andi v345 v349
  let v351 : BitVec 32 := Scalar.select v350 v344 v343
  let c8_i32_170 : BitVec 32 := 8#32
  let v352 : BitVec 32 := Scalar.addi v351 c8_i32_170
  let c2048_i32_171 : BitVec 32 := 2048#32
  let v353 : BitVec 1 := Scalar.cmpi .sle v352 c2048_i32_171
  let c4_i32_173 : BitVec 32 := 4#32
  let v357 : BitVec 1 := Scalar.cmpi .slt v356 c4_i32_173
  let v358 : BitVec 1 := Scalar.andi v353 v357
  let v359 : BitVec 32 := Scalar.select v358 v352 v351
  let c4_i32_174 : BitVec 32 := 4#32
  let v360 : BitVec 32 := Scalar.addi v359 c4_i32_174
  let c2048_i32_175 : BitVec 32 := 2048#32
  let v361 : BitVec 1 := Scalar.cmpi .sle v360 c2048_i32_175
  let c4_i32_177 : BitVec 32 := 4#32
  let v365 : BitVec 1 := Scalar.cmpi .slt v364 c4_i32_177
  let v366 : BitVec 1 := Scalar.andi v361 v365
  let v367 : BitVec 32 := Scalar.select v366 v360 v359
  let c2_i32_178 : BitVec 32 := 2#32
  let v368 : BitVec 32 := Scalar.addi v367 c2_i32_178
  let c2048_i32_179 : BitVec 32 := 2048#32
  let v369 : BitVec 1 := Scalar.cmpi .sle v368 c2048_i32_179
  let c4_i32_181 : BitVec 32 := 4#32
  let v373 : BitVec 1 := Scalar.cmpi .slt v372 c4_i32_181
  let v374 : BitVec 1 := Scalar.andi v369 v373
  let v375 : BitVec 32 := Scalar.select v374 v368 v367
  let c1_i32_182 : BitVec 32 := 1#32
  let v376 : BitVec 32 := Scalar.addi v375 c1_i32_182
  let c2048_i32_183 : BitVec 32 := 2048#32
  let v377 : BitVec 1 := Scalar.cmpi .sle v376 c2048_i32_183
  let c4_i32_185 : BitVec 32 := 4#32
  let v381 : BitVec 1 := Scalar.cmpi .slt v380 c4_i32_185
  let v382 : BitVec 1 := Scalar.andi v377 v381
  let v383 : BitVec 32 := Scalar.select v382 v376 v375
  let v675 : BitVec 32 := Scalar.subi v383 v287
  let c0_i32_358 : BitVec 32 := 0#32
  let v732 : BitVec 1 := Scalar.cmpi .sgt v287 c0_i32_358
  let v733 : BitVec 32 := Scalar.extui v732
  let c0_i32_359 : BitVec 32 := 0#32
  let v734 : BitVec 1 := Scalar.cmpi .slt v287 c0_i32_359
  let v735 : BitVec 32 := Scalar.extui v734
  let v736 : BitVec 32 := Scalar.subi v733 v735
  let c8_i32_357 : BitVec 32 := 8#32
  let c0_i32_360 : BitVec 32 := 0#32
  let v737 : BitVec 1 := Scalar.cmpi .sgt c8_i32_357 c0_i32_360
  let v738 : BitVec 32 := Scalar.extui v737
  let c0_i32_361 : BitVec 32 := 0#32
  let v739 : BitVec 1 := Scalar.cmpi .slt c8_i32_357 c0_i32_361
  let v740 : BitVec 32 := Scalar.extui v739
  let v741 : BitVec 32 := Scalar.subi v738 v740
  let v742 : BitVec 1 := Scalar.cmpi .ne v736 v741
  let v743 : BitVec 32 := Scalar.remsi v287 c8_i32_357
  let c0_i32_362 : BitVec 32 := 0#32
  let v744 : BitVec 1 := Scalar.cmpi .ne v743 c0_i32_362
  let v745 : BitVec 1 := Scalar.andi v742 v744
  let v731 : BitVec 32 := Scalar.divsi v287 c8_i32_357
  let c1_i32_363 : BitVec 32 := 1#32
  let v746 : BitVec 32 := Scalar.subi v731 c1_i32_363
  let v747 : BitVec 32 := Scalar.select v745 v746 v731
  let c8_i32_396 : BitVec 32 := 8#32
  let v822 : BitVec 32 := Scalar.muli v747 c8_i32_396
  let v823 : BitVec 32 := Scalar.subi v287 v822
  let v972 : BitVec 32 := Scalar.addi v675 v823
  let v973 : BitVec 32 := Scalar.maxsi v971 v972
  let c0_i32_186 : BitVec 32 := 0#32
  let c2048_i32_187 : BitVec 32 := 2048#32
  let v384 : BitVec 32 := Scalar.addi c0_i32_186 c2048_i32_187
  let c2048_i32_188 : BitVec 32 := 2048#32
  let v385 : BitVec 1 := Scalar.cmpi .sle v384 c2048_i32_188
  let c5_i32 : BitVec 32 := 5#32
  let v389 : BitVec 1 := Scalar.cmpi .slt v388 c5_i32
  let v390 : BitVec 1 := Scalar.andi v385 v389
  let c0_i32_190 : BitVec 32 := 0#32
  let v391 : BitVec 32 := Scalar.select v390 v384 c0_i32_190
  let c1024_i32_191 : BitVec 32 := 1024#32
  let v392 : BitVec 32 := Scalar.addi v391 c1024_i32_191
  let c2048_i32_192 : BitVec 32 := 2048#32
  let v393 : BitVec 1 := Scalar.cmpi .sle v392 c2048_i32_192
  let c5_i32_194 : BitVec 32 := 5#32
  let v397 : BitVec 1 := Scalar.cmpi .slt v396 c5_i32_194
  let v398 : BitVec 1 := Scalar.andi v393 v397
  let v399 : BitVec 32 := Scalar.select v398 v392 v391
  let c512_i32_195 : BitVec 32 := 512#32
  let v400 : BitVec 32 := Scalar.addi v399 c512_i32_195
  let c2048_i32_196 : BitVec 32 := 2048#32
  let v401 : BitVec 1 := Scalar.cmpi .sle v400 c2048_i32_196
  let c5_i32_198 : BitVec 32 := 5#32
  let v405 : BitVec 1 := Scalar.cmpi .slt v404 c5_i32_198
  let v406 : BitVec 1 := Scalar.andi v401 v405
  let v407 : BitVec 32 := Scalar.select v406 v400 v399
  let c256_i32_199 : BitVec 32 := 256#32
  let v408 : BitVec 32 := Scalar.addi v407 c256_i32_199
  let c2048_i32_200 : BitVec 32 := 2048#32
  let v409 : BitVec 1 := Scalar.cmpi .sle v408 c2048_i32_200
  let c5_i32_202 : BitVec 32 := 5#32
  let v413 : BitVec 1 := Scalar.cmpi .slt v412 c5_i32_202
  let v414 : BitVec 1 := Scalar.andi v409 v413
  let v415 : BitVec 32 := Scalar.select v414 v408 v407
  let c128_i32_203 : BitVec 32 := 128#32
  let v416 : BitVec 32 := Scalar.addi v415 c128_i32_203
  let c2048_i32_204 : BitVec 32 := 2048#32
  let v417 : BitVec 1 := Scalar.cmpi .sle v416 c2048_i32_204
  let c5_i32_206 : BitVec 32 := 5#32
  let v421 : BitVec 1 := Scalar.cmpi .slt v420 c5_i32_206
  let v422 : BitVec 1 := Scalar.andi v417 v421
  let v423 : BitVec 32 := Scalar.select v422 v416 v415
  let c64_i32_207 : BitVec 32 := 64#32
  let v424 : BitVec 32 := Scalar.addi v423 c64_i32_207
  let c2048_i32_208 : BitVec 32 := 2048#32
  let v425 : BitVec 1 := Scalar.cmpi .sle v424 c2048_i32_208
  let c5_i32_210 : BitVec 32 := 5#32
  let v429 : BitVec 1 := Scalar.cmpi .slt v428 c5_i32_210
  let v430 : BitVec 1 := Scalar.andi v425 v429
  let v431 : BitVec 32 := Scalar.select v430 v424 v423
  let c32_i32_211 : BitVec 32 := 32#32
  let v432 : BitVec 32 := Scalar.addi v431 c32_i32_211
  let c2048_i32_212 : BitVec 32 := 2048#32
  let v433 : BitVec 1 := Scalar.cmpi .sle v432 c2048_i32_212
  let c5_i32_214 : BitVec 32 := 5#32
  let v437 : BitVec 1 := Scalar.cmpi .slt v436 c5_i32_214
  let v438 : BitVec 1 := Scalar.andi v433 v437
  let v439 : BitVec 32 := Scalar.select v438 v432 v431
  let c16_i32_215 : BitVec 32 := 16#32
  let v440 : BitVec 32 := Scalar.addi v439 c16_i32_215
  let c2048_i32_216 : BitVec 32 := 2048#32
  let v441 : BitVec 1 := Scalar.cmpi .sle v440 c2048_i32_216
  let c5_i32_218 : BitVec 32 := 5#32
  let v445 : BitVec 1 := Scalar.cmpi .slt v444 c5_i32_218
  let v446 : BitVec 1 := Scalar.andi v441 v445
  let v447 : BitVec 32 := Scalar.select v446 v440 v439
  let c8_i32_219 : BitVec 32 := 8#32
  let v448 : BitVec 32 := Scalar.addi v447 c8_i32_219
  let c2048_i32_220 : BitVec 32 := 2048#32
  let v449 : BitVec 1 := Scalar.cmpi .sle v448 c2048_i32_220
  let c5_i32_222 : BitVec 32 := 5#32
  let v453 : BitVec 1 := Scalar.cmpi .slt v452 c5_i32_222
  let v454 : BitVec 1 := Scalar.andi v449 v453
  let v455 : BitVec 32 := Scalar.select v454 v448 v447
  let c4_i32_223 : BitVec 32 := 4#32
  let v456 : BitVec 32 := Scalar.addi v455 c4_i32_223
  let c2048_i32_224 : BitVec 32 := 2048#32
  let v457 : BitVec 1 := Scalar.cmpi .sle v456 c2048_i32_224
  let c5_i32_226 : BitVec 32 := 5#32
  let v461 : BitVec 1 := Scalar.cmpi .slt v460 c5_i32_226
  let v462 : BitVec 1 := Scalar.andi v457 v461
  let v463 : BitVec 32 := Scalar.select v462 v456 v455
  let c2_i32_227 : BitVec 32 := 2#32
  let v464 : BitVec 32 := Scalar.addi v463 c2_i32_227
  let c2048_i32_228 : BitVec 32 := 2048#32
  let v465 : BitVec 1 := Scalar.cmpi .sle v464 c2048_i32_228
  let c5_i32_230 : BitVec 32 := 5#32
  let v469 : BitVec 1 := Scalar.cmpi .slt v468 c5_i32_230
  let v470 : BitVec 1 := Scalar.andi v465 v469
  let v471 : BitVec 32 := Scalar.select v470 v464 v463
  let c1_i32_231 : BitVec 32 := 1#32
  let v472 : BitVec 32 := Scalar.addi v471 c1_i32_231
  let c2048_i32_232 : BitVec 32 := 2048#32
  let v473 : BitVec 1 := Scalar.cmpi .sle v472 c2048_i32_232
  let c5_i32_234 : BitVec 32 := 5#32
  let v477 : BitVec 1 := Scalar.cmpi .slt v476 c5_i32_234
  let v478 : BitVec 1 := Scalar.andi v473 v477
  let v479 : BitVec 32 := Scalar.select v478 v472 v471
  let v676 : BitVec 32 := Scalar.subi v479 v383
  let c0_i32_365 : BitVec 32 := 0#32
  let v749 : BitVec 1 := Scalar.cmpi .sgt v383 c0_i32_365
  let v750 : BitVec 32 := Scalar.extui v749
  let c0_i32_366 : BitVec 32 := 0#32
  let v751 : BitVec 1 := Scalar.cmpi .slt v383 c0_i32_366
  let v752 : BitVec 32 := Scalar.extui v751
  let v753 : BitVec 32 := Scalar.subi v750 v752
  let c8_i32_364 : BitVec 32 := 8#32
  let c0_i32_367 : BitVec 32 := 0#32
  let v754 : BitVec 1 := Scalar.cmpi .sgt c8_i32_364 c0_i32_367
  let v755 : BitVec 32 := Scalar.extui v754
  let c0_i32_368 : BitVec 32 := 0#32
  let v756 : BitVec 1 := Scalar.cmpi .slt c8_i32_364 c0_i32_368
  let v757 : BitVec 32 := Scalar.extui v756
  let v758 : BitVec 32 := Scalar.subi v755 v757
  let v759 : BitVec 1 := Scalar.cmpi .ne v753 v758
  let v760 : BitVec 32 := Scalar.remsi v383 c8_i32_364
  let c0_i32_369 : BitVec 32 := 0#32
  let v761 : BitVec 1 := Scalar.cmpi .ne v760 c0_i32_369
  let v762 : BitVec 1 := Scalar.andi v759 v761
  let v748 : BitVec 32 := Scalar.divsi v383 c8_i32_364
  let c1_i32_370 : BitVec 32 := 1#32
  let v763 : BitVec 32 := Scalar.subi v748 c1_i32_370
  let v764 : BitVec 32 := Scalar.select v762 v763 v748
  let c8_i32_397 : BitVec 32 := 8#32
  let v824 : BitVec 32 := Scalar.muli v764 c8_i32_397
  let v825 : BitVec 32 := Scalar.subi v383 v824
  let v974 : BitVec 32 := Scalar.addi v676 v825
  let v975 : BitVec 32 := Scalar.maxsi v973 v974
  let c0_i32_235 : BitVec 32 := 0#32
  let c2048_i32_236 : BitVec 32 := 2048#32
  let v480 : BitVec 32 := Scalar.addi c0_i32_235 c2048_i32_236
  let c2048_i32_237 : BitVec 32 := 2048#32
  let v481 : BitVec 1 := Scalar.cmpi .sle v480 c2048_i32_237
  let c6_i32 : BitVec 32 := 6#32
  let v485 : BitVec 1 := Scalar.cmpi .slt v484 c6_i32
  let v486 : BitVec 1 := Scalar.andi v481 v485
  let c0_i32_239 : BitVec 32 := 0#32
  let v487 : BitVec 32 := Scalar.select v486 v480 c0_i32_239
  let c1024_i32_240 : BitVec 32 := 1024#32
  let v488 : BitVec 32 := Scalar.addi v487 c1024_i32_240
  let c2048_i32_241 : BitVec 32 := 2048#32
  let v489 : BitVec 1 := Scalar.cmpi .sle v488 c2048_i32_241
  let c6_i32_243 : BitVec 32 := 6#32
  let v493 : BitVec 1 := Scalar.cmpi .slt v492 c6_i32_243
  let v494 : BitVec 1 := Scalar.andi v489 v493
  let v495 : BitVec 32 := Scalar.select v494 v488 v487
  let c512_i32_244 : BitVec 32 := 512#32
  let v496 : BitVec 32 := Scalar.addi v495 c512_i32_244
  let c2048_i32_245 : BitVec 32 := 2048#32
  let v497 : BitVec 1 := Scalar.cmpi .sle v496 c2048_i32_245
  let c6_i32_247 : BitVec 32 := 6#32
  let v501 : BitVec 1 := Scalar.cmpi .slt v500 c6_i32_247
  let v502 : BitVec 1 := Scalar.andi v497 v501
  let v503 : BitVec 32 := Scalar.select v502 v496 v495
  let c256_i32_248 : BitVec 32 := 256#32
  let v504 : BitVec 32 := Scalar.addi v503 c256_i32_248
  let c2048_i32_249 : BitVec 32 := 2048#32
  let v505 : BitVec 1 := Scalar.cmpi .sle v504 c2048_i32_249
  let c6_i32_251 : BitVec 32 := 6#32
  let v509 : BitVec 1 := Scalar.cmpi .slt v508 c6_i32_251
  let v510 : BitVec 1 := Scalar.andi v505 v509
  let v511 : BitVec 32 := Scalar.select v510 v504 v503
  let c128_i32_252 : BitVec 32 := 128#32
  let v512 : BitVec 32 := Scalar.addi v511 c128_i32_252
  let c2048_i32_253 : BitVec 32 := 2048#32
  let v513 : BitVec 1 := Scalar.cmpi .sle v512 c2048_i32_253
  let c6_i32_255 : BitVec 32 := 6#32
  let v517 : BitVec 1 := Scalar.cmpi .slt v516 c6_i32_255
  let v518 : BitVec 1 := Scalar.andi v513 v517
  let v519 : BitVec 32 := Scalar.select v518 v512 v511
  let c64_i32_256 : BitVec 32 := 64#32
  let v520 : BitVec 32 := Scalar.addi v519 c64_i32_256
  let c2048_i32_257 : BitVec 32 := 2048#32
  let v521 : BitVec 1 := Scalar.cmpi .sle v520 c2048_i32_257
  let c6_i32_259 : BitVec 32 := 6#32
  let v525 : BitVec 1 := Scalar.cmpi .slt v524 c6_i32_259
  let v526 : BitVec 1 := Scalar.andi v521 v525
  let v527 : BitVec 32 := Scalar.select v526 v520 v519
  let c32_i32_260 : BitVec 32 := 32#32
  let v528 : BitVec 32 := Scalar.addi v527 c32_i32_260
  let c2048_i32_261 : BitVec 32 := 2048#32
  let v529 : BitVec 1 := Scalar.cmpi .sle v528 c2048_i32_261
  let c6_i32_263 : BitVec 32 := 6#32
  let v533 : BitVec 1 := Scalar.cmpi .slt v532 c6_i32_263
  let v534 : BitVec 1 := Scalar.andi v529 v533
  let v535 : BitVec 32 := Scalar.select v534 v528 v527
  let c16_i32_264 : BitVec 32 := 16#32
  let v536 : BitVec 32 := Scalar.addi v535 c16_i32_264
  let c2048_i32_265 : BitVec 32 := 2048#32
  let v537 : BitVec 1 := Scalar.cmpi .sle v536 c2048_i32_265
  let c6_i32_267 : BitVec 32 := 6#32
  let v541 : BitVec 1 := Scalar.cmpi .slt v540 c6_i32_267
  let v542 : BitVec 1 := Scalar.andi v537 v541
  let v543 : BitVec 32 := Scalar.select v542 v536 v535
  let c8_i32_268 : BitVec 32 := 8#32
  let v544 : BitVec 32 := Scalar.addi v543 c8_i32_268
  let c2048_i32_269 : BitVec 32 := 2048#32
  let v545 : BitVec 1 := Scalar.cmpi .sle v544 c2048_i32_269
  let c6_i32_271 : BitVec 32 := 6#32
  let v549 : BitVec 1 := Scalar.cmpi .slt v548 c6_i32_271
  let v550 : BitVec 1 := Scalar.andi v545 v549
  let v551 : BitVec 32 := Scalar.select v550 v544 v543
  let c4_i32_272 : BitVec 32 := 4#32
  let v552 : BitVec 32 := Scalar.addi v551 c4_i32_272
  let c2048_i32_273 : BitVec 32 := 2048#32
  let v553 : BitVec 1 := Scalar.cmpi .sle v552 c2048_i32_273
  let c6_i32_275 : BitVec 32 := 6#32
  let v557 : BitVec 1 := Scalar.cmpi .slt v556 c6_i32_275
  let v558 : BitVec 1 := Scalar.andi v553 v557
  let v559 : BitVec 32 := Scalar.select v558 v552 v551
  let c2_i32_276 : BitVec 32 := 2#32
  let v560 : BitVec 32 := Scalar.addi v559 c2_i32_276
  let c2048_i32_277 : BitVec 32 := 2048#32
  let v561 : BitVec 1 := Scalar.cmpi .sle v560 c2048_i32_277
  let c6_i32_279 : BitVec 32 := 6#32
  let v565 : BitVec 1 := Scalar.cmpi .slt v564 c6_i32_279
  let v566 : BitVec 1 := Scalar.andi v561 v565
  let v567 : BitVec 32 := Scalar.select v566 v560 v559
  let c1_i32_280 : BitVec 32 := 1#32
  let v568 : BitVec 32 := Scalar.addi v567 c1_i32_280
  let c2048_i32_281 : BitVec 32 := 2048#32
  let v569 : BitVec 1 := Scalar.cmpi .sle v568 c2048_i32_281
  let c6_i32_283 : BitVec 32 := 6#32
  let v573 : BitVec 1 := Scalar.cmpi .slt v572 c6_i32_283
  let v574 : BitVec 1 := Scalar.andi v569 v573
  let v575 : BitVec 32 := Scalar.select v574 v568 v567
  let v677 : BitVec 32 := Scalar.subi v575 v479
  let c0_i32_372 : BitVec 32 := 0#32
  let v766 : BitVec 1 := Scalar.cmpi .sgt v479 c0_i32_372
  let v767 : BitVec 32 := Scalar.extui v766
  let c0_i32_373 : BitVec 32 := 0#32
  let v768 : BitVec 1 := Scalar.cmpi .slt v479 c0_i32_373
  let v769 : BitVec 32 := Scalar.extui v768
  let v770 : BitVec 32 := Scalar.subi v767 v769
  let c8_i32_371 : BitVec 32 := 8#32
  let c0_i32_374 : BitVec 32 := 0#32
  let v771 : BitVec 1 := Scalar.cmpi .sgt c8_i32_371 c0_i32_374
  let v772 : BitVec 32 := Scalar.extui v771
  let c0_i32_375 : BitVec 32 := 0#32
  let v773 : BitVec 1 := Scalar.cmpi .slt c8_i32_371 c0_i32_375
  let v774 : BitVec 32 := Scalar.extui v773
  let v775 : BitVec 32 := Scalar.subi v772 v774
  let v776 : BitVec 1 := Scalar.cmpi .ne v770 v775
  let v777 : BitVec 32 := Scalar.remsi v479 c8_i32_371
  let c0_i32_376 : BitVec 32 := 0#32
  let v778 : BitVec 1 := Scalar.cmpi .ne v777 c0_i32_376
  let v779 : BitVec 1 := Scalar.andi v776 v778
  let v765 : BitVec 32 := Scalar.divsi v479 c8_i32_371
  let c1_i32_377 : BitVec 32 := 1#32
  let v780 : BitVec 32 := Scalar.subi v765 c1_i32_377
  let v781 : BitVec 32 := Scalar.select v779 v780 v765
  let c8_i32_398 : BitVec 32 := 8#32
  let v826 : BitVec 32 := Scalar.muli v781 c8_i32_398
  let v827 : BitVec 32 := Scalar.subi v479 v826
  let v976 : BitVec 32 := Scalar.addi v677 v827
  let v977 : BitVec 32 := Scalar.maxsi v975 v976
  let c0_i32_284 : BitVec 32 := 0#32
  let c2048_i32_285 : BitVec 32 := 2048#32
  let v576 : BitVec 32 := Scalar.addi c0_i32_284 c2048_i32_285
  let c2048_i32_286 : BitVec 32 := 2048#32
  let v577 : BitVec 1 := Scalar.cmpi .sle v576 c2048_i32_286
  let c7_i32 : BitVec 32 := 7#32
  let v581 : BitVec 1 := Scalar.cmpi .slt v580 c7_i32
  let v582 : BitVec 1 := Scalar.andi v577 v581
  let c0_i32_288 : BitVec 32 := 0#32
  let v583 : BitVec 32 := Scalar.select v582 v576 c0_i32_288
  let c1024_i32_289 : BitVec 32 := 1024#32
  let v584 : BitVec 32 := Scalar.addi v583 c1024_i32_289
  let c2048_i32_290 : BitVec 32 := 2048#32
  let v585 : BitVec 1 := Scalar.cmpi .sle v584 c2048_i32_290
  let c7_i32_292 : BitVec 32 := 7#32
  let v589 : BitVec 1 := Scalar.cmpi .slt v588 c7_i32_292
  let v590 : BitVec 1 := Scalar.andi v585 v589
  let v591 : BitVec 32 := Scalar.select v590 v584 v583
  let c512_i32_293 : BitVec 32 := 512#32
  let v592 : BitVec 32 := Scalar.addi v591 c512_i32_293
  let c2048_i32_294 : BitVec 32 := 2048#32
  let v593 : BitVec 1 := Scalar.cmpi .sle v592 c2048_i32_294
  let c7_i32_296 : BitVec 32 := 7#32
  let v597 : BitVec 1 := Scalar.cmpi .slt v596 c7_i32_296
  let v598 : BitVec 1 := Scalar.andi v593 v597
  let v599 : BitVec 32 := Scalar.select v598 v592 v591
  let c256_i32_297 : BitVec 32 := 256#32
  let v600 : BitVec 32 := Scalar.addi v599 c256_i32_297
  let c2048_i32_298 : BitVec 32 := 2048#32
  let v601 : BitVec 1 := Scalar.cmpi .sle v600 c2048_i32_298
  let c7_i32_300 : BitVec 32 := 7#32
  let v605 : BitVec 1 := Scalar.cmpi .slt v604 c7_i32_300
  let v606 : BitVec 1 := Scalar.andi v601 v605
  let v607 : BitVec 32 := Scalar.select v606 v600 v599
  let c128_i32_301 : BitVec 32 := 128#32
  let v608 : BitVec 32 := Scalar.addi v607 c128_i32_301
  let c2048_i32_302 : BitVec 32 := 2048#32
  let v609 : BitVec 1 := Scalar.cmpi .sle v608 c2048_i32_302
  let c7_i32_304 : BitVec 32 := 7#32
  let v613 : BitVec 1 := Scalar.cmpi .slt v612 c7_i32_304
  let v614 : BitVec 1 := Scalar.andi v609 v613
  let v615 : BitVec 32 := Scalar.select v614 v608 v607
  let c64_i32_305 : BitVec 32 := 64#32
  let v616 : BitVec 32 := Scalar.addi v615 c64_i32_305
  let c2048_i32_306 : BitVec 32 := 2048#32
  let v617 : BitVec 1 := Scalar.cmpi .sle v616 c2048_i32_306
  let c7_i32_308 : BitVec 32 := 7#32
  let v621 : BitVec 1 := Scalar.cmpi .slt v620 c7_i32_308
  let v622 : BitVec 1 := Scalar.andi v617 v621
  let v623 : BitVec 32 := Scalar.select v622 v616 v615
  let c32_i32_309 : BitVec 32 := 32#32
  let v624 : BitVec 32 := Scalar.addi v623 c32_i32_309
  let c2048_i32_310 : BitVec 32 := 2048#32
  let v625 : BitVec 1 := Scalar.cmpi .sle v624 c2048_i32_310
  let c7_i32_312 : BitVec 32 := 7#32
  let v629 : BitVec 1 := Scalar.cmpi .slt v628 c7_i32_312
  let v630 : BitVec 1 := Scalar.andi v625 v629
  let v631 : BitVec 32 := Scalar.select v630 v624 v623
  let c16_i32_313 : BitVec 32 := 16#32
  let v632 : BitVec 32 := Scalar.addi v631 c16_i32_313
  let c2048_i32_314 : BitVec 32 := 2048#32
  let v633 : BitVec 1 := Scalar.cmpi .sle v632 c2048_i32_314
  let c7_i32_316 : BitVec 32 := 7#32
  let v637 : BitVec 1 := Scalar.cmpi .slt v636 c7_i32_316
  let v638 : BitVec 1 := Scalar.andi v633 v637
  let v639 : BitVec 32 := Scalar.select v638 v632 v631
  let c8_i32_317 : BitVec 32 := 8#32
  let v640 : BitVec 32 := Scalar.addi v639 c8_i32_317
  let c2048_i32_318 : BitVec 32 := 2048#32
  let v641 : BitVec 1 := Scalar.cmpi .sle v640 c2048_i32_318
  let c7_i32_320 : BitVec 32 := 7#32
  let v645 : BitVec 1 := Scalar.cmpi .slt v644 c7_i32_320
  let v646 : BitVec 1 := Scalar.andi v641 v645
  let v647 : BitVec 32 := Scalar.select v646 v640 v639
  let c4_i32_321 : BitVec 32 := 4#32
  let v648 : BitVec 32 := Scalar.addi v647 c4_i32_321
  let c2048_i32_322 : BitVec 32 := 2048#32
  let v649 : BitVec 1 := Scalar.cmpi .sle v648 c2048_i32_322
  let c7_i32_324 : BitVec 32 := 7#32
  let v653 : BitVec 1 := Scalar.cmpi .slt v652 c7_i32_324
  let v654 : BitVec 1 := Scalar.andi v649 v653
  let v655 : BitVec 32 := Scalar.select v654 v648 v647
  let c2_i32_325 : BitVec 32 := 2#32
  let v656 : BitVec 32 := Scalar.addi v655 c2_i32_325
  let c2048_i32_326 : BitVec 32 := 2048#32
  let v657 : BitVec 1 := Scalar.cmpi .sle v656 c2048_i32_326
  let c7_i32_328 : BitVec 32 := 7#32
  let v661 : BitVec 1 := Scalar.cmpi .slt v660 c7_i32_328
  let v662 : BitVec 1 := Scalar.andi v657 v661
  let v663 : BitVec 32 := Scalar.select v662 v656 v655
  let c1_i32_329 : BitVec 32 := 1#32
  let v664 : BitVec 32 := Scalar.addi v663 c1_i32_329
  let c2048_i32_330 : BitVec 32 := 2048#32
  let v665 : BitVec 1 := Scalar.cmpi .sle v664 c2048_i32_330
  let c7_i32_332 : BitVec 32 := 7#32
  let v669 : BitVec 1 := Scalar.cmpi .slt v668 c7_i32_332
  let v670 : BitVec 1 := Scalar.andi v665 v669
  let v671 : BitVec 32 := Scalar.select v670 v664 v663
  let v678 : BitVec 32 := Scalar.subi v671 v575
  let c0_i32_379 : BitVec 32 := 0#32
  let v783 : BitVec 1 := Scalar.cmpi .sgt v575 c0_i32_379
  let v784 : BitVec 32 := Scalar.extui v783
  let c0_i32_380 : BitVec 32 := 0#32
  let v785 : BitVec 1 := Scalar.cmpi .slt v575 c0_i32_380
  let v786 : BitVec 32 := Scalar.extui v785
  let v787 : BitVec 32 := Scalar.subi v784 v786
  let c8_i32_378 : BitVec 32 := 8#32
  let c0_i32_381 : BitVec 32 := 0#32
  let v788 : BitVec 1 := Scalar.cmpi .sgt c8_i32_378 c0_i32_381
  let v789 : BitVec 32 := Scalar.extui v788
  let c0_i32_382 : BitVec 32 := 0#32
  let v790 : BitVec 1 := Scalar.cmpi .slt c8_i32_378 c0_i32_382
  let v791 : BitVec 32 := Scalar.extui v790
  let v792 : BitVec 32 := Scalar.subi v789 v791
  let v793 : BitVec 1 := Scalar.cmpi .ne v787 v792
  let v794 : BitVec 32 := Scalar.remsi v575 c8_i32_378
  let c0_i32_383 : BitVec 32 := 0#32
  let v795 : BitVec 1 := Scalar.cmpi .ne v794 c0_i32_383
  let v796 : BitVec 1 := Scalar.andi v793 v795
  let v782 : BitVec 32 := Scalar.divsi v575 c8_i32_378
  let c1_i32_384 : BitVec 32 := 1#32
  let v797 : BitVec 32 := Scalar.subi v782 c1_i32_384
  let v798 : BitVec 32 := Scalar.select v796 v797 v782
  let c8_i32_399 : BitVec 32 := 8#32
  let v828 : BitVec 32 := Scalar.muli v798 c8_i32_399
  let v829 : BitVec 32 := Scalar.subi v575 v828
  let v978 : BitVec 32 := Scalar.addi v678 v829
  let v979 : BitVec 32 := Scalar.maxsi v977 v978
  let c2048_i32_334 : BitVec 32 := 2048#32
  let v679 : BitVec 32 := Scalar.subi c2048_i32_334 v671
  let c0_i32_386 : BitVec 32 := 0#32
  let v800 : BitVec 1 := Scalar.cmpi .sgt v671 c0_i32_386
  let v801 : BitVec 32 := Scalar.extui v800
  let c0_i32_387 : BitVec 32 := 0#32
  let v802 : BitVec 1 := Scalar.cmpi .slt v671 c0_i32_387
  let v803 : BitVec 32 := Scalar.extui v802
  let v804 : BitVec 32 := Scalar.subi v801 v803
  let c8_i32_385 : BitVec 32 := 8#32
  let c0_i32_388 : BitVec 32 := 0#32
  let v805 : BitVec 1 := Scalar.cmpi .sgt c8_i32_385 c0_i32_388
  let v806 : BitVec 32 := Scalar.extui v805
  let c0_i32_389 : BitVec 32 := 0#32
  let v807 : BitVec 1 := Scalar.cmpi .slt c8_i32_385 c0_i32_389
  let v808 : BitVec 32 := Scalar.extui v807
  let v809 : BitVec 32 := Scalar.subi v806 v808
  let v810 : BitVec 1 := Scalar.cmpi .ne v804 v809
  let v811 : BitVec 32 := Scalar.remsi v671 c8_i32_385
  let c0_i32_390 : BitVec 32 := 0#32
  let v812 : BitVec 1 := Scalar.cmpi .ne v811 c0_i32_390
  let v813 : BitVec 1 := Scalar.andi v810 v812
  let v799 : BitVec 32 := Scalar.divsi v671 c8_i32_385
  let c1_i32_391 : BitVec 32 := 1#32
  let v814 : BitVec 32 := Scalar.subi v799 c1_i32_391
  let v815 : BitVec 32 := Scalar.select v813 v814 v799
  let c8_i32_400 : BitVec 32 := 8#32
  let v830 : BitVec 32 := Scalar.muli v815 c8_i32_400
  let v831 : BitVec 32 := Scalar.subi v671 v830
  let v980 : BitVec 32 := Scalar.addi v679 v831
  let v981 : BitVec 32 := Scalar.maxsi v979 v980
  let c4_i32_486 : BitVec 32 := 4#32
  let v992 : BitVec 32 := Scalar.addi v981 c4_i32_486
  let c0_i32_488 : BitVec 32 := 0#32
  let v994 : BitVec 1 := Scalar.cmpi .sgt v992 c0_i32_488
  let v995 : BitVec 32 := Scalar.extui v994
  let c0_i32_489 : BitVec 32 := 0#32
  let v996 : BitVec 1 := Scalar.cmpi .slt v992 c0_i32_489
  let v997 : BitVec 32 := Scalar.extui v996
  let v998 : BitVec 32 := Scalar.subi v995 v997
  let c4_i32_487 : BitVec 32 := 4#32
  let c0_i32_490 : BitVec 32 := 0#32
  let v999 : BitVec 1 := Scalar.cmpi .sgt c4_i32_487 c0_i32_490
  let v1000 : BitVec 32 := Scalar.extui v999
  let c0_i32_491 : BitVec 32 := 0#32
  let v1001 : BitVec 1 := Scalar.cmpi .slt c4_i32_487 c0_i32_491
  let v1002 : BitVec 32 := Scalar.extui v1001
  let v1003 : BitVec 32 := Scalar.subi v1000 v1002
  let v1004 : BitVec 1 := Scalar.cmpi .ne v998 v1003
  let v1005 : BitVec 32 := Scalar.remsi v992 c4_i32_487
  let c0_i32_492 : BitVec 32 := 0#32
  let v1006 : BitVec 1 := Scalar.cmpi .ne v1005 c0_i32_492
  let v1007 : BitVec 1 := Scalar.andi v1004 v1006
  let v993 : BitVec 32 := Scalar.divsi v992 c4_i32_487
  let c1_i32_493 : BitVec 32 := 1#32
  let v1008 : BitVec 32 := Scalar.subi v993 c1_i32_493
  let v1009 : BitVec 32 := Scalar.select v1007 v1008 v993
  let v1010 : BitVec 32 := Scalar.subi v1009 c0_i32_494
  let c1_i32_495 : BitVec 32 := 1#32
  let v1012 : BitVec 32 := Scalar.divsi v1010 c1_i32_495
  let v1013 : BitVec 32 := Scalar.muli v1012 c1_i32_495
  let v1014 : BitVec 32 := Scalar.addi c0_i32_494 v1013
  let c1_i32_497 : BitVec 32 := 1#32
  let arg17 : BitVec 32 := Scf.iv v1014 c1_i32_497 k0_t2
  let v1176 : BitVec 32 := Scalar.muli c4_i32_561 arg17
  let v1177 : BitVec 32 := Scalar.addi v1176 c0_i32_562
  let c1_i32_579 : BitVec 32 := 1#32
  let v1246 : BitVec 32 := Scalar.subi v1177 c1_i32_579
  let c0_i32_580 : BitVec 32 := 0#32
  let v1247 : BitVec 32 := Scalar.maxsi v1246 c0_i32_580
  let v1248 : Index := Scalar.indexCast v1247
  let c0_581 : Index := 0#32
  let c0_582 : Index := 0#32
  ![v1248.toNat, 0, 0]
def k0_off97 : Fin 2 → Nat :=
  let c0_i32_335 : BitVec 32 := 0#32
  let c0_i32_337 : BitVec 32 := 0#32
  let v681 : BitVec 1 := Scalar.cmpi .sgt c0_i32_335 c0_i32_337
  let v682 : BitVec 32 := Scalar.extui v681
  let c0_i32_338 : BitVec 32 := 0#32
  let v683 : BitVec 1 := Scalar.cmpi .slt c0_i32_335 c0_i32_338
  let v684 : BitVec 32 := Scalar.extui v683
  let v685 : BitVec 32 := Scalar.subi v682 v684
  let c8_i32_336 : BitVec 32 := 8#32
  let c0_i32_339 : BitVec 32 := 0#32
  let v686 : BitVec 1 := Scalar.cmpi .sgt c8_i32_336 c0_i32_339
  let v687 : BitVec 32 := Scalar.extui v686
  let c0_i32_340 : BitVec 32 := 0#32
  let v688 : BitVec 1 := Scalar.cmpi .slt c8_i32_336 c0_i32_340
  let v689 : BitVec 32 := Scalar.extui v688
  let v690 : BitVec 32 := Scalar.subi v687 v689
  let v691 : BitVec 1 := Scalar.cmpi .ne v685 v690
  let v692 : BitVec 32 := Scalar.remsi c0_i32_335 c8_i32_336
  let c0_i32_341 : BitVec 32 := 0#32
  let v693 : BitVec 1 := Scalar.cmpi .ne v692 c0_i32_341
  let v694 : BitVec 1 := Scalar.andi v691 v693
  let v680 : BitVec 32 := Scalar.divsi c0_i32_335 c8_i32_336
  let c1_i32_342 : BitVec 32 := 1#32
  let v695 : BitVec 32 := Scalar.subi v680 c1_i32_342
  let v696 : BitVec 32 := Scalar.select v694 v695 v680
  let c8_i32_498 : BitVec 32 := 8#32
  let v1024 : BitVec 32 := Scalar.muli v696 c8_i32_498
  let v1025 : Index := Scalar.indexCast v1024
  let c0_499 : Index := 0#32
  ![v1025.toNat, 0]
def k0_off98 (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) : Fin 2 → Nat :=
  let c0_i32 : BitVec 32 := 0#32
  let c2048_i32 : BitVec 32 := 2048#32
  let v0 : BitVec 32 := Scalar.addi c0_i32 c2048_i32
  let c2048_i32_0 : BitVec 32 := 2048#32
  let v1 : BitVec 1 := Scalar.cmpi .sle v0 c2048_i32_0
  let c1_i32_1 : BitVec 32 := 1#32
  let v5 : BitVec 1 := Scalar.cmpi .slt v4 c1_i32_1
  let v6 : BitVec 1 := Scalar.andi v1 v5
  let c0_i32_2 : BitVec 32 := 0#32
  let v7 : BitVec 32 := Scalar.select v6 v0 c0_i32_2
  let c1024_i32 : BitVec 32 := 1024#32
  let v8 : BitVec 32 := Scalar.addi v7 c1024_i32
  let c2048_i32_3 : BitVec 32 := 2048#32
  let v9 : BitVec 1 := Scalar.cmpi .sle v8 c2048_i32_3
  let c1_i32_5 : BitVec 32 := 1#32
  let v13 : BitVec 1 := Scalar.cmpi .slt v12 c1_i32_5
  let v14 : BitVec 1 := Scalar.andi v9 v13
  let v15 : BitVec 32 := Scalar.select v14 v8 v7
  let c512_i32 : BitVec 32 := 512#32
  let v16 : BitVec 32 := Scalar.addi v15 c512_i32
  let c2048_i32_6 : BitVec 32 := 2048#32
  let v17 : BitVec 1 := Scalar.cmpi .sle v16 c2048_i32_6
  let c1_i32_8 : BitVec 32 := 1#32
  let v21 : BitVec 1 := Scalar.cmpi .slt v20 c1_i32_8
  let v22 : BitVec 1 := Scalar.andi v17 v21
  let v23 : BitVec 32 := Scalar.select v22 v16 v15
  let c256_i32 : BitVec 32 := 256#32
  let v24 : BitVec 32 := Scalar.addi v23 c256_i32
  let c2048_i32_9 : BitVec 32 := 2048#32
  let v25 : BitVec 1 := Scalar.cmpi .sle v24 c2048_i32_9
  let c1_i32_11 : BitVec 32 := 1#32
  let v29 : BitVec 1 := Scalar.cmpi .slt v28 c1_i32_11
  let v30 : BitVec 1 := Scalar.andi v25 v29
  let v31 : BitVec 32 := Scalar.select v30 v24 v23
  let c128_i32 : BitVec 32 := 128#32
  let v32 : BitVec 32 := Scalar.addi v31 c128_i32
  let c2048_i32_12 : BitVec 32 := 2048#32
  let v33 : BitVec 1 := Scalar.cmpi .sle v32 c2048_i32_12
  let c1_i32_14 : BitVec 32 := 1#32
  let v37 : BitVec 1 := Scalar.cmpi .slt v36 c1_i32_14
  let v38 : BitVec 1 := Scalar.andi v33 v37
  let v39 : BitVec 32 := Scalar.select v38 v32 v31
  let c64_i32 : BitVec 32 := 64#32
  let v40 : BitVec 32 := Scalar.addi v39 c64_i32
  let c2048_i32_15 : BitVec 32 := 2048#32
  let v41 : BitVec 1 := Scalar.cmpi .sle v40 c2048_i32_15
  let c1_i32_17 : BitVec 32 := 1#32
  let v45 : BitVec 1 := Scalar.cmpi .slt v44 c1_i32_17
  let v46 : BitVec 1 := Scalar.andi v41 v45
  let v47 : BitVec 32 := Scalar.select v46 v40 v39
  let c32_i32 : BitVec 32 := 32#32
  let v48 : BitVec 32 := Scalar.addi v47 c32_i32
  let c2048_i32_18 : BitVec 32 := 2048#32
  let v49 : BitVec 1 := Scalar.cmpi .sle v48 c2048_i32_18
  let c1_i32_20 : BitVec 32 := 1#32
  let v53 : BitVec 1 := Scalar.cmpi .slt v52 c1_i32_20
  let v54 : BitVec 1 := Scalar.andi v49 v53
  let v55 : BitVec 32 := Scalar.select v54 v48 v47
  let c16_i32 : BitVec 32 := 16#32
  let v56 : BitVec 32 := Scalar.addi v55 c16_i32
  let c2048_i32_21 : BitVec 32 := 2048#32
  let v57 : BitVec 1 := Scalar.cmpi .sle v56 c2048_i32_21
  let c1_i32_23 : BitVec 32 := 1#32
  let v61 : BitVec 1 := Scalar.cmpi .slt v60 c1_i32_23
  let v62 : BitVec 1 := Scalar.andi v57 v61
  let v63 : BitVec 32 := Scalar.select v62 v56 v55
  let c8_i32 : BitVec 32 := 8#32
  let v64 : BitVec 32 := Scalar.addi v63 c8_i32
  let c2048_i32_24 : BitVec 32 := 2048#32
  let v65 : BitVec 1 := Scalar.cmpi .sle v64 c2048_i32_24
  let c1_i32_26 : BitVec 32 := 1#32
  let v69 : BitVec 1 := Scalar.cmpi .slt v68 c1_i32_26
  let v70 : BitVec 1 := Scalar.andi v65 v69
  let v71 : BitVec 32 := Scalar.select v70 v64 v63
  let c4_i32 : BitVec 32 := 4#32
  let v72 : BitVec 32 := Scalar.addi v71 c4_i32
  let c2048_i32_27 : BitVec 32 := 2048#32
  let v73 : BitVec 1 := Scalar.cmpi .sle v72 c2048_i32_27
  let c1_i32_29 : BitVec 32 := 1#32
  let v77 : BitVec 1 := Scalar.cmpi .slt v76 c1_i32_29
  let v78 : BitVec 1 := Scalar.andi v73 v77
  let v79 : BitVec 32 := Scalar.select v78 v72 v71
  let c2_i32 : BitVec 32 := 2#32
  let v80 : BitVec 32 := Scalar.addi v79 c2_i32
  let c2048_i32_30 : BitVec 32 := 2048#32
  let v81 : BitVec 1 := Scalar.cmpi .sle v80 c2048_i32_30
  let c1_i32_32 : BitVec 32 := 1#32
  let v85 : BitVec 1 := Scalar.cmpi .slt v84 c1_i32_32
  let v86 : BitVec 1 := Scalar.andi v81 v85
  let v87 : BitVec 32 := Scalar.select v86 v80 v79
  let c1_i32_33 : BitVec 32 := 1#32
  let v88 : BitVec 32 := Scalar.addi v87 c1_i32_33
  let c2048_i32_34 : BitVec 32 := 2048#32
  let v89 : BitVec 1 := Scalar.cmpi .sle v88 c2048_i32_34
  let c1_i32_36 : BitVec 32 := 1#32
  let v93 : BitVec 1 := Scalar.cmpi .slt v92 c1_i32_36
  let v94 : BitVec 1 := Scalar.andi v89 v93
  let v95 : BitVec 32 := Scalar.select v94 v88 v87
  let c0_i32_344 : BitVec 32 := 0#32
  let v698 : BitVec 1 := Scalar.cmpi .sgt v95 c0_i32_344
  let v699 : BitVec 32 := Scalar.extui v698
  let c0_i32_345 : BitVec 32 := 0#32
  let v700 : BitVec 1 := Scalar.cmpi .slt v95 c0_i32_345
  let v701 : BitVec 32 := Scalar.extui v700
  let v702 : BitVec 32 := Scalar.subi v699 v701
  let c8_i32_343 : BitVec 32 := 8#32
  let c0_i32_346 : BitVec 32 := 0#32
  let v703 : BitVec 1 := Scalar.cmpi .sgt c8_i32_343 c0_i32_346
  let v704 : BitVec 32 := Scalar.extui v703
  let c0_i32_347 : BitVec 32 := 0#32
  let v705 : BitVec 1 := Scalar.cmpi .slt c8_i32_343 c0_i32_347
  let v706 : BitVec 32 := Scalar.extui v705
  let v707 : BitVec 32 := Scalar.subi v704 v706
  let v708 : BitVec 1 := Scalar.cmpi .ne v702 v707
  let v709 : BitVec 32 := Scalar.remsi v95 c8_i32_343
  let c0_i32_348 : BitVec 32 := 0#32
  let v710 : BitVec 1 := Scalar.cmpi .ne v709 c0_i32_348
  let v711 : BitVec 1 := Scalar.andi v708 v710
  let v697 : BitVec 32 := Scalar.divsi v95 c8_i32_343
  let c1_i32_349 : BitVec 32 := 1#32
  let v712 : BitVec 32 := Scalar.subi v697 c1_i32_349
  let v713 : BitVec 32 := Scalar.select v711 v712 v697
  let c8_i32_505 : BitVec 32 := 8#32
  let v1043 : BitVec 32 := Scalar.muli v713 c8_i32_505
  let v1044 : Index := Scalar.indexCast v1043
  let c0_506 : Index := 0#32
  ![v1044.toNat, 0]

def k0_chk78 (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) : Prop :=
  (∀ a, (k0_off86 v4 v12 v20 v28 v36 v44 v52 v60 v68 v76 v84 v92) a + S520x384.size a ≤ S2560x384.size a) ∧
  (∀ a, (k0_off98 v4 v12 v20 v28 v36 v44 v52 v60 v68 v76 v84 v92) a + S520x128.size a ≤ S2576x128.size a)
theorem k0_off86_inb : ∀ (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (k0_hw78 : k0_chk78 v4 v12 v20 v28 v36 v44 v52 v60 v68 v76 v84 v92), ∀ a, (k0_off86 v4 v12 v20 v28 v36 v44 v52 v60 v68 v76 v84 v92) a + S520x384.size a ≤ S2560x384.size a := fun v4 v12 v20 v28 v36 v44 v52 v60 v68 v76 v84 v92 k0_hw78 => k0_hw78.1
theorem k0_off98_inb : ∀ (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (k0_hw78 : k0_chk78 v4 v12 v20 v28 v36 v44 v52 v60 v68 v76 v84 v92), ∀ a, (k0_off98 v4 v12 v20 v28 v36 v44 v52 v60 v68 v76 v84 v92) a + S520x128.size a ≤ S2576x128.size a := fun v4 v12 v20 v28 v36 v44 v52 v60 v68 v76 v84 v92 k0_hw78 => k0_hw78.2

def k0_off99 (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) : Fin 2 → Nat :=
  let c0_i32_37 : BitVec 32 := 0#32
  let c2048_i32_38 : BitVec 32 := 2048#32
  let v96 : BitVec 32 := Scalar.addi c0_i32_37 c2048_i32_38
  let c2048_i32_39 : BitVec 32 := 2048#32
  let v97 : BitVec 1 := Scalar.cmpi .sle v96 c2048_i32_39
  let c2_i32_41 : BitVec 32 := 2#32
  let v101 : BitVec 1 := Scalar.cmpi .slt v100 c2_i32_41
  let v102 : BitVec 1 := Scalar.andi v97 v101
  let c0_i32_42 : BitVec 32 := 0#32
  let v103 : BitVec 32 := Scalar.select v102 v96 c0_i32_42
  let c1024_i32_43 : BitVec 32 := 1024#32
  let v104 : BitVec 32 := Scalar.addi v103 c1024_i32_43
  let c2048_i32_44 : BitVec 32 := 2048#32
  let v105 : BitVec 1 := Scalar.cmpi .sle v104 c2048_i32_44
  let c2_i32_46 : BitVec 32 := 2#32
  let v109 : BitVec 1 := Scalar.cmpi .slt v108 c2_i32_46
  let v110 : BitVec 1 := Scalar.andi v105 v109
  let v111 : BitVec 32 := Scalar.select v110 v104 v103
  let c512_i32_47 : BitVec 32 := 512#32
  let v112 : BitVec 32 := Scalar.addi v111 c512_i32_47
  let c2048_i32_48 : BitVec 32 := 2048#32
  let v113 : BitVec 1 := Scalar.cmpi .sle v112 c2048_i32_48
  let c2_i32_50 : BitVec 32 := 2#32
  let v117 : BitVec 1 := Scalar.cmpi .slt v116 c2_i32_50
  let v118 : BitVec 1 := Scalar.andi v113 v117
  let v119 : BitVec 32 := Scalar.select v118 v112 v111
  let c256_i32_51 : BitVec 32 := 256#32
  let v120 : BitVec 32 := Scalar.addi v119 c256_i32_51
  let c2048_i32_52 : BitVec 32 := 2048#32
  let v121 : BitVec 1 := Scalar.cmpi .sle v120 c2048_i32_52
  let c2_i32_54 : BitVec 32 := 2#32
  let v125 : BitVec 1 := Scalar.cmpi .slt v124 c2_i32_54
  let v126 : BitVec 1 := Scalar.andi v121 v125
  let v127 : BitVec 32 := Scalar.select v126 v120 v119
  let c128_i32_55 : BitVec 32 := 128#32
  let v128 : BitVec 32 := Scalar.addi v127 c128_i32_55
  let c2048_i32_56 : BitVec 32 := 2048#32
  let v129 : BitVec 1 := Scalar.cmpi .sle v128 c2048_i32_56
  let c2_i32_58 : BitVec 32 := 2#32
  let v133 : BitVec 1 := Scalar.cmpi .slt v132 c2_i32_58
  let v134 : BitVec 1 := Scalar.andi v129 v133
  let v135 : BitVec 32 := Scalar.select v134 v128 v127
  let c64_i32_59 : BitVec 32 := 64#32
  let v136 : BitVec 32 := Scalar.addi v135 c64_i32_59
  let c2048_i32_60 : BitVec 32 := 2048#32
  let v137 : BitVec 1 := Scalar.cmpi .sle v136 c2048_i32_60
  let c2_i32_62 : BitVec 32 := 2#32
  let v141 : BitVec 1 := Scalar.cmpi .slt v140 c2_i32_62
  let v142 : BitVec 1 := Scalar.andi v137 v141
  let v143 : BitVec 32 := Scalar.select v142 v136 v135
  let c32_i32_63 : BitVec 32 := 32#32
  let v144 : BitVec 32 := Scalar.addi v143 c32_i32_63
  let c2048_i32_64 : BitVec 32 := 2048#32
  let v145 : BitVec 1 := Scalar.cmpi .sle v144 c2048_i32_64
  let c2_i32_66 : BitVec 32 := 2#32
  let v149 : BitVec 1 := Scalar.cmpi .slt v148 c2_i32_66
  let v150 : BitVec 1 := Scalar.andi v145 v149
  let v151 : BitVec 32 := Scalar.select v150 v144 v143
  let c16_i32_67 : BitVec 32 := 16#32
  let v152 : BitVec 32 := Scalar.addi v151 c16_i32_67
  let c2048_i32_68 : BitVec 32 := 2048#32
  let v153 : BitVec 1 := Scalar.cmpi .sle v152 c2048_i32_68
  let c2_i32_70 : BitVec 32 := 2#32
  let v157 : BitVec 1 := Scalar.cmpi .slt v156 c2_i32_70
  let v158 : BitVec 1 := Scalar.andi v153 v157
  let v159 : BitVec 32 := Scalar.select v158 v152 v151
  let c8_i32_71 : BitVec 32 := 8#32
  let v160 : BitVec 32 := Scalar.addi v159 c8_i32_71
  let c2048_i32_72 : BitVec 32 := 2048#32
  let v161 : BitVec 1 := Scalar.cmpi .sle v160 c2048_i32_72
  let c2_i32_74 : BitVec 32 := 2#32
  let v165 : BitVec 1 := Scalar.cmpi .slt v164 c2_i32_74
  let v166 : BitVec 1 := Scalar.andi v161 v165
  let v167 : BitVec 32 := Scalar.select v166 v160 v159
  let c4_i32_75 : BitVec 32 := 4#32
  let v168 : BitVec 32 := Scalar.addi v167 c4_i32_75
  let c2048_i32_76 : BitVec 32 := 2048#32
  let v169 : BitVec 1 := Scalar.cmpi .sle v168 c2048_i32_76
  let c2_i32_78 : BitVec 32 := 2#32
  let v173 : BitVec 1 := Scalar.cmpi .slt v172 c2_i32_78
  let v174 : BitVec 1 := Scalar.andi v169 v173
  let v175 : BitVec 32 := Scalar.select v174 v168 v167
  let c2_i32_79 : BitVec 32 := 2#32
  let v176 : BitVec 32 := Scalar.addi v175 c2_i32_79
  let c2048_i32_80 : BitVec 32 := 2048#32
  let v177 : BitVec 1 := Scalar.cmpi .sle v176 c2048_i32_80
  let c2_i32_82 : BitVec 32 := 2#32
  let v181 : BitVec 1 := Scalar.cmpi .slt v180 c2_i32_82
  let v182 : BitVec 1 := Scalar.andi v177 v181
  let v183 : BitVec 32 := Scalar.select v182 v176 v175
  let c1_i32_83 : BitVec 32 := 1#32
  let v184 : BitVec 32 := Scalar.addi v183 c1_i32_83
  let c2048_i32_84 : BitVec 32 := 2048#32
  let v185 : BitVec 1 := Scalar.cmpi .sle v184 c2048_i32_84
  let c2_i32_86 : BitVec 32 := 2#32
  let v189 : BitVec 1 := Scalar.cmpi .slt v188 c2_i32_86
  let v190 : BitVec 1 := Scalar.andi v185 v189
  let v191 : BitVec 32 := Scalar.select v190 v184 v183
  let c0_i32_351 : BitVec 32 := 0#32
  let v715 : BitVec 1 := Scalar.cmpi .sgt v191 c0_i32_351
  let v716 : BitVec 32 := Scalar.extui v715
  let c0_i32_352 : BitVec 32 := 0#32
  let v717 : BitVec 1 := Scalar.cmpi .slt v191 c0_i32_352
  let v718 : BitVec 32 := Scalar.extui v717
  let v719 : BitVec 32 := Scalar.subi v716 v718
  let c8_i32_350 : BitVec 32 := 8#32
  let c0_i32_353 : BitVec 32 := 0#32
  let v720 : BitVec 1 := Scalar.cmpi .sgt c8_i32_350 c0_i32_353
  let v721 : BitVec 32 := Scalar.extui v720
  let c0_i32_354 : BitVec 32 := 0#32
  let v722 : BitVec 1 := Scalar.cmpi .slt c8_i32_350 c0_i32_354
  let v723 : BitVec 32 := Scalar.extui v722
  let v724 : BitVec 32 := Scalar.subi v721 v723
  let v725 : BitVec 1 := Scalar.cmpi .ne v719 v724
  let v726 : BitVec 32 := Scalar.remsi v191 c8_i32_350
  let c0_i32_355 : BitVec 32 := 0#32
  let v727 : BitVec 1 := Scalar.cmpi .ne v726 c0_i32_355
  let v728 : BitVec 1 := Scalar.andi v725 v727
  let v714 : BitVec 32 := Scalar.divsi v191 c8_i32_350
  let c1_i32_356 : BitVec 32 := 1#32
  let v729 : BitVec 32 := Scalar.subi v714 c1_i32_356
  let v730 : BitVec 32 := Scalar.select v728 v729 v714
  let c8_i32_512 : BitVec 32 := 8#32
  let v1062 : BitVec 32 := Scalar.muli v730 c8_i32_512
  let v1063 : Index := Scalar.indexCast v1062
  let c0_513 : Index := 0#32
  ![v1063.toNat, 0]

def k0_chk79 (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) : Prop :=
  (∀ a, (k0_off87 v100 v108 v116 v124 v132 v140 v148 v156 v164 v172 v180 v188) a + S520x384.size a ≤ S2560x384.size a) ∧
  (∀ a, (k0_off99 v100 v108 v116 v124 v132 v140 v148 v156 v164 v172 v180 v188) a + S520x128.size a ≤ S2576x128.size a)
theorem k0_off87_inb : ∀ (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (k0_hw79 : k0_chk79 v100 v108 v116 v124 v132 v140 v148 v156 v164 v172 v180 v188), ∀ a, (k0_off87 v100 v108 v116 v124 v132 v140 v148 v156 v164 v172 v180 v188) a + S520x384.size a ≤ S2560x384.size a := fun v100 v108 v116 v124 v132 v140 v148 v156 v164 v172 v180 v188 k0_hw79 => k0_hw79.1
theorem k0_off99_inb : ∀ (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (k0_hw79 : k0_chk79 v100 v108 v116 v124 v132 v140 v148 v156 v164 v172 v180 v188), ∀ a, (k0_off99 v100 v108 v116 v124 v132 v140 v148 v156 v164 v172 v180 v188) a + S520x128.size a ≤ S2576x128.size a := fun v100 v108 v116 v124 v132 v140 v148 v156 v164 v172 v180 v188 k0_hw79 => k0_hw79.2

def k0_off100 (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) : Fin 2 → Nat :=
  let c0_i32_87 : BitVec 32 := 0#32
  let c2048_i32_88 : BitVec 32 := 2048#32
  let v192 : BitVec 32 := Scalar.addi c0_i32_87 c2048_i32_88
  let c2048_i32_89 : BitVec 32 := 2048#32
  let v193 : BitVec 1 := Scalar.cmpi .sle v192 c2048_i32_89
  let c3_i32 : BitVec 32 := 3#32
  let v197 : BitVec 1 := Scalar.cmpi .slt v196 c3_i32
  let v198 : BitVec 1 := Scalar.andi v193 v197
  let c0_i32_91 : BitVec 32 := 0#32
  let v199 : BitVec 32 := Scalar.select v198 v192 c0_i32_91
  let c1024_i32_92 : BitVec 32 := 1024#32
  let v200 : BitVec 32 := Scalar.addi v199 c1024_i32_92
  let c2048_i32_93 : BitVec 32 := 2048#32
  let v201 : BitVec 1 := Scalar.cmpi .sle v200 c2048_i32_93
  let c3_i32_95 : BitVec 32 := 3#32
  let v205 : BitVec 1 := Scalar.cmpi .slt v204 c3_i32_95
  let v206 : BitVec 1 := Scalar.andi v201 v205
  let v207 : BitVec 32 := Scalar.select v206 v200 v199
  let c512_i32_96 : BitVec 32 := 512#32
  let v208 : BitVec 32 := Scalar.addi v207 c512_i32_96
  let c2048_i32_97 : BitVec 32 := 2048#32
  let v209 : BitVec 1 := Scalar.cmpi .sle v208 c2048_i32_97
  let c3_i32_99 : BitVec 32 := 3#32
  let v213 : BitVec 1 := Scalar.cmpi .slt v212 c3_i32_99
  let v214 : BitVec 1 := Scalar.andi v209 v213
  let v215 : BitVec 32 := Scalar.select v214 v208 v207
  let c256_i32_100 : BitVec 32 := 256#32
  let v216 : BitVec 32 := Scalar.addi v215 c256_i32_100
  let c2048_i32_101 : BitVec 32 := 2048#32
  let v217 : BitVec 1 := Scalar.cmpi .sle v216 c2048_i32_101
  let c3_i32_103 : BitVec 32 := 3#32
  let v221 : BitVec 1 := Scalar.cmpi .slt v220 c3_i32_103
  let v222 : BitVec 1 := Scalar.andi v217 v221
  let v223 : BitVec 32 := Scalar.select v222 v216 v215
  let c128_i32_104 : BitVec 32 := 128#32
  let v224 : BitVec 32 := Scalar.addi v223 c128_i32_104
  let c2048_i32_105 : BitVec 32 := 2048#32
  let v225 : BitVec 1 := Scalar.cmpi .sle v224 c2048_i32_105
  let c3_i32_107 : BitVec 32 := 3#32
  let v229 : BitVec 1 := Scalar.cmpi .slt v228 c3_i32_107
  let v230 : BitVec 1 := Scalar.andi v225 v229
  let v231 : BitVec 32 := Scalar.select v230 v224 v223
  let c64_i32_108 : BitVec 32 := 64#32
  let v232 : BitVec 32 := Scalar.addi v231 c64_i32_108
  let c2048_i32_109 : BitVec 32 := 2048#32
  let v233 : BitVec 1 := Scalar.cmpi .sle v232 c2048_i32_109
  let c3_i32_111 : BitVec 32 := 3#32
  let v237 : BitVec 1 := Scalar.cmpi .slt v236 c3_i32_111
  let v238 : BitVec 1 := Scalar.andi v233 v237
  let v239 : BitVec 32 := Scalar.select v238 v232 v231
  let c32_i32_112 : BitVec 32 := 32#32
  let v240 : BitVec 32 := Scalar.addi v239 c32_i32_112
  let c2048_i32_113 : BitVec 32 := 2048#32
  let v241 : BitVec 1 := Scalar.cmpi .sle v240 c2048_i32_113
  let c3_i32_115 : BitVec 32 := 3#32
  let v245 : BitVec 1 := Scalar.cmpi .slt v244 c3_i32_115
  let v246 : BitVec 1 := Scalar.andi v241 v245
  let v247 : BitVec 32 := Scalar.select v246 v240 v239
  let c16_i32_116 : BitVec 32 := 16#32
  let v248 : BitVec 32 := Scalar.addi v247 c16_i32_116
  let c2048_i32_117 : BitVec 32 := 2048#32
  let v249 : BitVec 1 := Scalar.cmpi .sle v248 c2048_i32_117
  let c3_i32_119 : BitVec 32 := 3#32
  let v253 : BitVec 1 := Scalar.cmpi .slt v252 c3_i32_119
  let v254 : BitVec 1 := Scalar.andi v249 v253
  let v255 : BitVec 32 := Scalar.select v254 v248 v247
  let c8_i32_120 : BitVec 32 := 8#32
  let v256 : BitVec 32 := Scalar.addi v255 c8_i32_120
  let c2048_i32_121 : BitVec 32 := 2048#32
  let v257 : BitVec 1 := Scalar.cmpi .sle v256 c2048_i32_121
  let c3_i32_123 : BitVec 32 := 3#32
  let v261 : BitVec 1 := Scalar.cmpi .slt v260 c3_i32_123
  let v262 : BitVec 1 := Scalar.andi v257 v261
  let v263 : BitVec 32 := Scalar.select v262 v256 v255
  let c4_i32_124 : BitVec 32 := 4#32
  let v264 : BitVec 32 := Scalar.addi v263 c4_i32_124
  let c2048_i32_125 : BitVec 32 := 2048#32
  let v265 : BitVec 1 := Scalar.cmpi .sle v264 c2048_i32_125
  let c3_i32_127 : BitVec 32 := 3#32
  let v269 : BitVec 1 := Scalar.cmpi .slt v268 c3_i32_127
  let v270 : BitVec 1 := Scalar.andi v265 v269
  let v271 : BitVec 32 := Scalar.select v270 v264 v263
  let c2_i32_128 : BitVec 32 := 2#32
  let v272 : BitVec 32 := Scalar.addi v271 c2_i32_128
  let c2048_i32_129 : BitVec 32 := 2048#32
  let v273 : BitVec 1 := Scalar.cmpi .sle v272 c2048_i32_129
  let c3_i32_131 : BitVec 32 := 3#32
  let v277 : BitVec 1 := Scalar.cmpi .slt v276 c3_i32_131
  let v278 : BitVec 1 := Scalar.andi v273 v277
  let v279 : BitVec 32 := Scalar.select v278 v272 v271
  let c1_i32_132 : BitVec 32 := 1#32
  let v280 : BitVec 32 := Scalar.addi v279 c1_i32_132
  let c2048_i32_133 : BitVec 32 := 2048#32
  let v281 : BitVec 1 := Scalar.cmpi .sle v280 c2048_i32_133
  let c3_i32_135 : BitVec 32 := 3#32
  let v285 : BitVec 1 := Scalar.cmpi .slt v284 c3_i32_135
  let v286 : BitVec 1 := Scalar.andi v281 v285
  let v287 : BitVec 32 := Scalar.select v286 v280 v279
  let c0_i32_358 : BitVec 32 := 0#32
  let v732 : BitVec 1 := Scalar.cmpi .sgt v287 c0_i32_358
  let v733 : BitVec 32 := Scalar.extui v732
  let c0_i32_359 : BitVec 32 := 0#32
  let v734 : BitVec 1 := Scalar.cmpi .slt v287 c0_i32_359
  let v735 : BitVec 32 := Scalar.extui v734
  let v736 : BitVec 32 := Scalar.subi v733 v735
  let c8_i32_357 : BitVec 32 := 8#32
  let c0_i32_360 : BitVec 32 := 0#32
  let v737 : BitVec 1 := Scalar.cmpi .sgt c8_i32_357 c0_i32_360
  let v738 : BitVec 32 := Scalar.extui v737
  let c0_i32_361 : BitVec 32 := 0#32
  let v739 : BitVec 1 := Scalar.cmpi .slt c8_i32_357 c0_i32_361
  let v740 : BitVec 32 := Scalar.extui v739
  let v741 : BitVec 32 := Scalar.subi v738 v740
  let v742 : BitVec 1 := Scalar.cmpi .ne v736 v741
  let v743 : BitVec 32 := Scalar.remsi v287 c8_i32_357
  let c0_i32_362 : BitVec 32 := 0#32
  let v744 : BitVec 1 := Scalar.cmpi .ne v743 c0_i32_362
  let v745 : BitVec 1 := Scalar.andi v742 v744
  let v731 : BitVec 32 := Scalar.divsi v287 c8_i32_357
  let c1_i32_363 : BitVec 32 := 1#32
  let v746 : BitVec 32 := Scalar.subi v731 c1_i32_363
  let v747 : BitVec 32 := Scalar.select v745 v746 v731
  let c8_i32_519 : BitVec 32 := 8#32
  let v1081 : BitVec 32 := Scalar.muli v747 c8_i32_519
  let v1082 : Index := Scalar.indexCast v1081
  let c0_520 : Index := 0#32
  ![v1082.toNat, 0]

def k0_chk80 (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) : Prop :=
  (∀ a, (k0_off88 v196 v204 v212 v220 v228 v236 v244 v252 v260 v268 v276 v284) a + S520x384.size a ≤ S2560x384.size a) ∧
  (∀ a, (k0_off100 v196 v204 v212 v220 v228 v236 v244 v252 v260 v268 v276 v284) a + S520x128.size a ≤ S2576x128.size a)
theorem k0_off88_inb : ∀ (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (k0_hw80 : k0_chk80 v196 v204 v212 v220 v228 v236 v244 v252 v260 v268 v276 v284), ∀ a, (k0_off88 v196 v204 v212 v220 v228 v236 v244 v252 v260 v268 v276 v284) a + S520x384.size a ≤ S2560x384.size a := fun v196 v204 v212 v220 v228 v236 v244 v252 v260 v268 v276 v284 k0_hw80 => k0_hw80.1
theorem k0_off100_inb : ∀ (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (k0_hw80 : k0_chk80 v196 v204 v212 v220 v228 v236 v244 v252 v260 v268 v276 v284), ∀ a, (k0_off100 v196 v204 v212 v220 v228 v236 v244 v252 v260 v268 v276 v284) a + S520x128.size a ≤ S2576x128.size a := fun v196 v204 v212 v220 v228 v236 v244 v252 v260 v268 v276 v284 k0_hw80 => k0_hw80.2

def k0_off101 (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) : Fin 2 → Nat :=
  let c0_i32_136 : BitVec 32 := 0#32
  let c2048_i32_137 : BitVec 32 := 2048#32
  let v288 : BitVec 32 := Scalar.addi c0_i32_136 c2048_i32_137
  let c2048_i32_138 : BitVec 32 := 2048#32
  let v289 : BitVec 1 := Scalar.cmpi .sle v288 c2048_i32_138
  let c4_i32_140 : BitVec 32 := 4#32
  let v293 : BitVec 1 := Scalar.cmpi .slt v292 c4_i32_140
  let v294 : BitVec 1 := Scalar.andi v289 v293
  let c0_i32_141 : BitVec 32 := 0#32
  let v295 : BitVec 32 := Scalar.select v294 v288 c0_i32_141
  let c1024_i32_142 : BitVec 32 := 1024#32
  let v296 : BitVec 32 := Scalar.addi v295 c1024_i32_142
  let c2048_i32_143 : BitVec 32 := 2048#32
  let v297 : BitVec 1 := Scalar.cmpi .sle v296 c2048_i32_143
  let c4_i32_145 : BitVec 32 := 4#32
  let v301 : BitVec 1 := Scalar.cmpi .slt v300 c4_i32_145
  let v302 : BitVec 1 := Scalar.andi v297 v301
  let v303 : BitVec 32 := Scalar.select v302 v296 v295
  let c512_i32_146 : BitVec 32 := 512#32
  let v304 : BitVec 32 := Scalar.addi v303 c512_i32_146
  let c2048_i32_147 : BitVec 32 := 2048#32
  let v305 : BitVec 1 := Scalar.cmpi .sle v304 c2048_i32_147
  let c4_i32_149 : BitVec 32 := 4#32
  let v309 : BitVec 1 := Scalar.cmpi .slt v308 c4_i32_149
  let v310 : BitVec 1 := Scalar.andi v305 v309
  let v311 : BitVec 32 := Scalar.select v310 v304 v303
  let c256_i32_150 : BitVec 32 := 256#32
  let v312 : BitVec 32 := Scalar.addi v311 c256_i32_150
  let c2048_i32_151 : BitVec 32 := 2048#32
  let v313 : BitVec 1 := Scalar.cmpi .sle v312 c2048_i32_151
  let c4_i32_153 : BitVec 32 := 4#32
  let v317 : BitVec 1 := Scalar.cmpi .slt v316 c4_i32_153
  let v318 : BitVec 1 := Scalar.andi v313 v317
  let v319 : BitVec 32 := Scalar.select v318 v312 v311
  let c128_i32_154 : BitVec 32 := 128#32
  let v320 : BitVec 32 := Scalar.addi v319 c128_i32_154
  let c2048_i32_155 : BitVec 32 := 2048#32
  let v321 : BitVec 1 := Scalar.cmpi .sle v320 c2048_i32_155
  let c4_i32_157 : BitVec 32 := 4#32
  let v325 : BitVec 1 := Scalar.cmpi .slt v324 c4_i32_157
  let v326 : BitVec 1 := Scalar.andi v321 v325
  let v327 : BitVec 32 := Scalar.select v326 v320 v319
  let c64_i32_158 : BitVec 32 := 64#32
  let v328 : BitVec 32 := Scalar.addi v327 c64_i32_158
  let c2048_i32_159 : BitVec 32 := 2048#32
  let v329 : BitVec 1 := Scalar.cmpi .sle v328 c2048_i32_159
  let c4_i32_161 : BitVec 32 := 4#32
  let v333 : BitVec 1 := Scalar.cmpi .slt v332 c4_i32_161
  let v334 : BitVec 1 := Scalar.andi v329 v333
  let v335 : BitVec 32 := Scalar.select v334 v328 v327
  let c32_i32_162 : BitVec 32 := 32#32
  let v336 : BitVec 32 := Scalar.addi v335 c32_i32_162
  let c2048_i32_163 : BitVec 32 := 2048#32
  let v337 : BitVec 1 := Scalar.cmpi .sle v336 c2048_i32_163
  let c4_i32_165 : BitVec 32 := 4#32
  let v341 : BitVec 1 := Scalar.cmpi .slt v340 c4_i32_165
  let v342 : BitVec 1 := Scalar.andi v337 v341
  let v343 : BitVec 32 := Scalar.select v342 v336 v335
  let c16_i32_166 : BitVec 32 := 16#32
  let v344 : BitVec 32 := Scalar.addi v343 c16_i32_166
  let c2048_i32_167 : BitVec 32 := 2048#32
  let v345 : BitVec 1 := Scalar.cmpi .sle v344 c2048_i32_167
  let c4_i32_169 : BitVec 32 := 4#32
  let v349 : BitVec 1 := Scalar.cmpi .slt v348 c4_i32_169
  let v350 : BitVec 1 := Scalar.andi v345 v349
  let v351 : BitVec 32 := Scalar.select v350 v344 v343
  let c8_i32_170 : BitVec 32 := 8#32
  let v352 : BitVec 32 := Scalar.addi v351 c8_i32_170
  let c2048_i32_171 : BitVec 32 := 2048#32
  let v353 : BitVec 1 := Scalar.cmpi .sle v352 c2048_i32_171
  let c4_i32_173 : BitVec 32 := 4#32
  let v357 : BitVec 1 := Scalar.cmpi .slt v356 c4_i32_173
  let v358 : BitVec 1 := Scalar.andi v353 v357
  let v359 : BitVec 32 := Scalar.select v358 v352 v351
  let c4_i32_174 : BitVec 32 := 4#32
  let v360 : BitVec 32 := Scalar.addi v359 c4_i32_174
  let c2048_i32_175 : BitVec 32 := 2048#32
  let v361 : BitVec 1 := Scalar.cmpi .sle v360 c2048_i32_175
  let c4_i32_177 : BitVec 32 := 4#32
  let v365 : BitVec 1 := Scalar.cmpi .slt v364 c4_i32_177
  let v366 : BitVec 1 := Scalar.andi v361 v365
  let v367 : BitVec 32 := Scalar.select v366 v360 v359
  let c2_i32_178 : BitVec 32 := 2#32
  let v368 : BitVec 32 := Scalar.addi v367 c2_i32_178
  let c2048_i32_179 : BitVec 32 := 2048#32
  let v369 : BitVec 1 := Scalar.cmpi .sle v368 c2048_i32_179
  let c4_i32_181 : BitVec 32 := 4#32
  let v373 : BitVec 1 := Scalar.cmpi .slt v372 c4_i32_181
  let v374 : BitVec 1 := Scalar.andi v369 v373
  let v375 : BitVec 32 := Scalar.select v374 v368 v367
  let c1_i32_182 : BitVec 32 := 1#32
  let v376 : BitVec 32 := Scalar.addi v375 c1_i32_182
  let c2048_i32_183 : BitVec 32 := 2048#32
  let v377 : BitVec 1 := Scalar.cmpi .sle v376 c2048_i32_183
  let c4_i32_185 : BitVec 32 := 4#32
  let v381 : BitVec 1 := Scalar.cmpi .slt v380 c4_i32_185
  let v382 : BitVec 1 := Scalar.andi v377 v381
  let v383 : BitVec 32 := Scalar.select v382 v376 v375
  let c0_i32_365 : BitVec 32 := 0#32
  let v749 : BitVec 1 := Scalar.cmpi .sgt v383 c0_i32_365
  let v750 : BitVec 32 := Scalar.extui v749
  let c0_i32_366 : BitVec 32 := 0#32
  let v751 : BitVec 1 := Scalar.cmpi .slt v383 c0_i32_366
  let v752 : BitVec 32 := Scalar.extui v751
  let v753 : BitVec 32 := Scalar.subi v750 v752
  let c8_i32_364 : BitVec 32 := 8#32
  let c0_i32_367 : BitVec 32 := 0#32
  let v754 : BitVec 1 := Scalar.cmpi .sgt c8_i32_364 c0_i32_367
  let v755 : BitVec 32 := Scalar.extui v754
  let c0_i32_368 : BitVec 32 := 0#32
  let v756 : BitVec 1 := Scalar.cmpi .slt c8_i32_364 c0_i32_368
  let v757 : BitVec 32 := Scalar.extui v756
  let v758 : BitVec 32 := Scalar.subi v755 v757
  let v759 : BitVec 1 := Scalar.cmpi .ne v753 v758
  let v760 : BitVec 32 := Scalar.remsi v383 c8_i32_364
  let c0_i32_369 : BitVec 32 := 0#32
  let v761 : BitVec 1 := Scalar.cmpi .ne v760 c0_i32_369
  let v762 : BitVec 1 := Scalar.andi v759 v761
  let v748 : BitVec 32 := Scalar.divsi v383 c8_i32_364
  let c1_i32_370 : BitVec 32 := 1#32
  let v763 : BitVec 32 := Scalar.subi v748 c1_i32_370
  let v764 : BitVec 32 := Scalar.select v762 v763 v748
  let c8_i32_526 : BitVec 32 := 8#32
  let v1100 : BitVec 32 := Scalar.muli v764 c8_i32_526
  let v1101 : Index := Scalar.indexCast v1100
  let c0_527 : Index := 0#32
  ![v1101.toNat, 0]

def k0_chk81 (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) : Prop :=
  (∀ a, (k0_off89 v292 v300 v308 v316 v324 v332 v340 v348 v356 v364 v372 v380) a + S520x384.size a ≤ S2560x384.size a) ∧
  (∀ a, (k0_off101 v292 v300 v308 v316 v324 v332 v340 v348 v356 v364 v372 v380) a + S520x128.size a ≤ S2576x128.size a)
theorem k0_off89_inb : ∀ (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (k0_hw81 : k0_chk81 v292 v300 v308 v316 v324 v332 v340 v348 v356 v364 v372 v380), ∀ a, (k0_off89 v292 v300 v308 v316 v324 v332 v340 v348 v356 v364 v372 v380) a + S520x384.size a ≤ S2560x384.size a := fun v292 v300 v308 v316 v324 v332 v340 v348 v356 v364 v372 v380 k0_hw81 => k0_hw81.1
theorem k0_off101_inb : ∀ (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (k0_hw81 : k0_chk81 v292 v300 v308 v316 v324 v332 v340 v348 v356 v364 v372 v380), ∀ a, (k0_off101 v292 v300 v308 v316 v324 v332 v340 v348 v356 v364 v372 v380) a + S520x128.size a ≤ S2576x128.size a := fun v292 v300 v308 v316 v324 v332 v340 v348 v356 v364 v372 v380 k0_hw81 => k0_hw81.2

def k0_off102 (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) : Fin 2 → Nat :=
  let c0_i32_186 : BitVec 32 := 0#32
  let c2048_i32_187 : BitVec 32 := 2048#32
  let v384 : BitVec 32 := Scalar.addi c0_i32_186 c2048_i32_187
  let c2048_i32_188 : BitVec 32 := 2048#32
  let v385 : BitVec 1 := Scalar.cmpi .sle v384 c2048_i32_188
  let c5_i32 : BitVec 32 := 5#32
  let v389 : BitVec 1 := Scalar.cmpi .slt v388 c5_i32
  let v390 : BitVec 1 := Scalar.andi v385 v389
  let c0_i32_190 : BitVec 32 := 0#32
  let v391 : BitVec 32 := Scalar.select v390 v384 c0_i32_190
  let c1024_i32_191 : BitVec 32 := 1024#32
  let v392 : BitVec 32 := Scalar.addi v391 c1024_i32_191
  let c2048_i32_192 : BitVec 32 := 2048#32
  let v393 : BitVec 1 := Scalar.cmpi .sle v392 c2048_i32_192
  let c5_i32_194 : BitVec 32 := 5#32
  let v397 : BitVec 1 := Scalar.cmpi .slt v396 c5_i32_194
  let v398 : BitVec 1 := Scalar.andi v393 v397
  let v399 : BitVec 32 := Scalar.select v398 v392 v391
  let c512_i32_195 : BitVec 32 := 512#32
  let v400 : BitVec 32 := Scalar.addi v399 c512_i32_195
  let c2048_i32_196 : BitVec 32 := 2048#32
  let v401 : BitVec 1 := Scalar.cmpi .sle v400 c2048_i32_196
  let c5_i32_198 : BitVec 32 := 5#32
  let v405 : BitVec 1 := Scalar.cmpi .slt v404 c5_i32_198
  let v406 : BitVec 1 := Scalar.andi v401 v405
  let v407 : BitVec 32 := Scalar.select v406 v400 v399
  let c256_i32_199 : BitVec 32 := 256#32
  let v408 : BitVec 32 := Scalar.addi v407 c256_i32_199
  let c2048_i32_200 : BitVec 32 := 2048#32
  let v409 : BitVec 1 := Scalar.cmpi .sle v408 c2048_i32_200
  let c5_i32_202 : BitVec 32 := 5#32
  let v413 : BitVec 1 := Scalar.cmpi .slt v412 c5_i32_202
  let v414 : BitVec 1 := Scalar.andi v409 v413
  let v415 : BitVec 32 := Scalar.select v414 v408 v407
  let c128_i32_203 : BitVec 32 := 128#32
  let v416 : BitVec 32 := Scalar.addi v415 c128_i32_203
  let c2048_i32_204 : BitVec 32 := 2048#32
  let v417 : BitVec 1 := Scalar.cmpi .sle v416 c2048_i32_204
  let c5_i32_206 : BitVec 32 := 5#32
  let v421 : BitVec 1 := Scalar.cmpi .slt v420 c5_i32_206
  let v422 : BitVec 1 := Scalar.andi v417 v421
  let v423 : BitVec 32 := Scalar.select v422 v416 v415
  let c64_i32_207 : BitVec 32 := 64#32
  let v424 : BitVec 32 := Scalar.addi v423 c64_i32_207
  let c2048_i32_208 : BitVec 32 := 2048#32
  let v425 : BitVec 1 := Scalar.cmpi .sle v424 c2048_i32_208
  let c5_i32_210 : BitVec 32 := 5#32
  let v429 : BitVec 1 := Scalar.cmpi .slt v428 c5_i32_210
  let v430 : BitVec 1 := Scalar.andi v425 v429
  let v431 : BitVec 32 := Scalar.select v430 v424 v423
  let c32_i32_211 : BitVec 32 := 32#32
  let v432 : BitVec 32 := Scalar.addi v431 c32_i32_211
  let c2048_i32_212 : BitVec 32 := 2048#32
  let v433 : BitVec 1 := Scalar.cmpi .sle v432 c2048_i32_212
  let c5_i32_214 : BitVec 32 := 5#32
  let v437 : BitVec 1 := Scalar.cmpi .slt v436 c5_i32_214
  let v438 : BitVec 1 := Scalar.andi v433 v437
  let v439 : BitVec 32 := Scalar.select v438 v432 v431
  let c16_i32_215 : BitVec 32 := 16#32
  let v440 : BitVec 32 := Scalar.addi v439 c16_i32_215
  let c2048_i32_216 : BitVec 32 := 2048#32
  let v441 : BitVec 1 := Scalar.cmpi .sle v440 c2048_i32_216
  let c5_i32_218 : BitVec 32 := 5#32
  let v445 : BitVec 1 := Scalar.cmpi .slt v444 c5_i32_218
  let v446 : BitVec 1 := Scalar.andi v441 v445
  let v447 : BitVec 32 := Scalar.select v446 v440 v439
  let c8_i32_219 : BitVec 32 := 8#32
  let v448 : BitVec 32 := Scalar.addi v447 c8_i32_219
  let c2048_i32_220 : BitVec 32 := 2048#32
  let v449 : BitVec 1 := Scalar.cmpi .sle v448 c2048_i32_220
  let c5_i32_222 : BitVec 32 := 5#32
  let v453 : BitVec 1 := Scalar.cmpi .slt v452 c5_i32_222
  let v454 : BitVec 1 := Scalar.andi v449 v453
  let v455 : BitVec 32 := Scalar.select v454 v448 v447
  let c4_i32_223 : BitVec 32 := 4#32
  let v456 : BitVec 32 := Scalar.addi v455 c4_i32_223
  let c2048_i32_224 : BitVec 32 := 2048#32
  let v457 : BitVec 1 := Scalar.cmpi .sle v456 c2048_i32_224
  let c5_i32_226 : BitVec 32 := 5#32
  let v461 : BitVec 1 := Scalar.cmpi .slt v460 c5_i32_226
  let v462 : BitVec 1 := Scalar.andi v457 v461
  let v463 : BitVec 32 := Scalar.select v462 v456 v455
  let c2_i32_227 : BitVec 32 := 2#32
  let v464 : BitVec 32 := Scalar.addi v463 c2_i32_227
  let c2048_i32_228 : BitVec 32 := 2048#32
  let v465 : BitVec 1 := Scalar.cmpi .sle v464 c2048_i32_228
  let c5_i32_230 : BitVec 32 := 5#32
  let v469 : BitVec 1 := Scalar.cmpi .slt v468 c5_i32_230
  let v470 : BitVec 1 := Scalar.andi v465 v469
  let v471 : BitVec 32 := Scalar.select v470 v464 v463
  let c1_i32_231 : BitVec 32 := 1#32
  let v472 : BitVec 32 := Scalar.addi v471 c1_i32_231
  let c2048_i32_232 : BitVec 32 := 2048#32
  let v473 : BitVec 1 := Scalar.cmpi .sle v472 c2048_i32_232
  let c5_i32_234 : BitVec 32 := 5#32
  let v477 : BitVec 1 := Scalar.cmpi .slt v476 c5_i32_234
  let v478 : BitVec 1 := Scalar.andi v473 v477
  let v479 : BitVec 32 := Scalar.select v478 v472 v471
  let c0_i32_372 : BitVec 32 := 0#32
  let v766 : BitVec 1 := Scalar.cmpi .sgt v479 c0_i32_372
  let v767 : BitVec 32 := Scalar.extui v766
  let c0_i32_373 : BitVec 32 := 0#32
  let v768 : BitVec 1 := Scalar.cmpi .slt v479 c0_i32_373
  let v769 : BitVec 32 := Scalar.extui v768
  let v770 : BitVec 32 := Scalar.subi v767 v769
  let c8_i32_371 : BitVec 32 := 8#32
  let c0_i32_374 : BitVec 32 := 0#32
  let v771 : BitVec 1 := Scalar.cmpi .sgt c8_i32_371 c0_i32_374
  let v772 : BitVec 32 := Scalar.extui v771
  let c0_i32_375 : BitVec 32 := 0#32
  let v773 : BitVec 1 := Scalar.cmpi .slt c8_i32_371 c0_i32_375
  let v774 : BitVec 32 := Scalar.extui v773
  let v775 : BitVec 32 := Scalar.subi v772 v774
  let v776 : BitVec 1 := Scalar.cmpi .ne v770 v775
  let v777 : BitVec 32 := Scalar.remsi v479 c8_i32_371
  let c0_i32_376 : BitVec 32 := 0#32
  let v778 : BitVec 1 := Scalar.cmpi .ne v777 c0_i32_376
  let v779 : BitVec 1 := Scalar.andi v776 v778
  let v765 : BitVec 32 := Scalar.divsi v479 c8_i32_371
  let c1_i32_377 : BitVec 32 := 1#32
  let v780 : BitVec 32 := Scalar.subi v765 c1_i32_377
  let v781 : BitVec 32 := Scalar.select v779 v780 v765
  let c8_i32_533 : BitVec 32 := 8#32
  let v1119 : BitVec 32 := Scalar.muli v781 c8_i32_533
  let v1120 : Index := Scalar.indexCast v1119
  let c0_534 : Index := 0#32
  ![v1120.toNat, 0]

def k0_chk82 (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) : Prop :=
  (∀ a, (k0_off90 v388 v396 v404 v412 v420 v428 v436 v444 v452 v460 v468 v476) a + S520x384.size a ≤ S2560x384.size a) ∧
  (∀ a, (k0_off102 v388 v396 v404 v412 v420 v428 v436 v444 v452 v460 v468 v476) a + S520x128.size a ≤ S2576x128.size a)
theorem k0_off90_inb : ∀ (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (k0_hw82 : k0_chk82 v388 v396 v404 v412 v420 v428 v436 v444 v452 v460 v468 v476), ∀ a, (k0_off90 v388 v396 v404 v412 v420 v428 v436 v444 v452 v460 v468 v476) a + S520x384.size a ≤ S2560x384.size a := fun v388 v396 v404 v412 v420 v428 v436 v444 v452 v460 v468 v476 k0_hw82 => k0_hw82.1
theorem k0_off102_inb : ∀ (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (k0_hw82 : k0_chk82 v388 v396 v404 v412 v420 v428 v436 v444 v452 v460 v468 v476), ∀ a, (k0_off102 v388 v396 v404 v412 v420 v428 v436 v444 v452 v460 v468 v476) a + S520x128.size a ≤ S2576x128.size a := fun v388 v396 v404 v412 v420 v428 v436 v444 v452 v460 v468 v476 k0_hw82 => k0_hw82.2

def k0_off103 (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) : Fin 2 → Nat :=
  let c0_i32_235 : BitVec 32 := 0#32
  let c2048_i32_236 : BitVec 32 := 2048#32
  let v480 : BitVec 32 := Scalar.addi c0_i32_235 c2048_i32_236
  let c2048_i32_237 : BitVec 32 := 2048#32
  let v481 : BitVec 1 := Scalar.cmpi .sle v480 c2048_i32_237
  let c6_i32 : BitVec 32 := 6#32
  let v485 : BitVec 1 := Scalar.cmpi .slt v484 c6_i32
  let v486 : BitVec 1 := Scalar.andi v481 v485
  let c0_i32_239 : BitVec 32 := 0#32
  let v487 : BitVec 32 := Scalar.select v486 v480 c0_i32_239
  let c1024_i32_240 : BitVec 32 := 1024#32
  let v488 : BitVec 32 := Scalar.addi v487 c1024_i32_240
  let c2048_i32_241 : BitVec 32 := 2048#32
  let v489 : BitVec 1 := Scalar.cmpi .sle v488 c2048_i32_241
  let c6_i32_243 : BitVec 32 := 6#32
  let v493 : BitVec 1 := Scalar.cmpi .slt v492 c6_i32_243
  let v494 : BitVec 1 := Scalar.andi v489 v493
  let v495 : BitVec 32 := Scalar.select v494 v488 v487
  let c512_i32_244 : BitVec 32 := 512#32
  let v496 : BitVec 32 := Scalar.addi v495 c512_i32_244
  let c2048_i32_245 : BitVec 32 := 2048#32
  let v497 : BitVec 1 := Scalar.cmpi .sle v496 c2048_i32_245
  let c6_i32_247 : BitVec 32 := 6#32
  let v501 : BitVec 1 := Scalar.cmpi .slt v500 c6_i32_247
  let v502 : BitVec 1 := Scalar.andi v497 v501
  let v503 : BitVec 32 := Scalar.select v502 v496 v495
  let c256_i32_248 : BitVec 32 := 256#32
  let v504 : BitVec 32 := Scalar.addi v503 c256_i32_248
  let c2048_i32_249 : BitVec 32 := 2048#32
  let v505 : BitVec 1 := Scalar.cmpi .sle v504 c2048_i32_249
  let c6_i32_251 : BitVec 32 := 6#32
  let v509 : BitVec 1 := Scalar.cmpi .slt v508 c6_i32_251
  let v510 : BitVec 1 := Scalar.andi v505 v509
  let v511 : BitVec 32 := Scalar.select v510 v504 v503
  let c128_i32_252 : BitVec 32 := 128#32
  let v512 : BitVec 32 := Scalar.addi v511 c128_i32_252
  let c2048_i32_253 : BitVec 32 := 2048#32
  let v513 : BitVec 1 := Scalar.cmpi .sle v512 c2048_i32_253
  let c6_i32_255 : BitVec 32 := 6#32
  let v517 : BitVec 1 := Scalar.cmpi .slt v516 c6_i32_255
  let v518 : BitVec 1 := Scalar.andi v513 v517
  let v519 : BitVec 32 := Scalar.select v518 v512 v511
  let c64_i32_256 : BitVec 32 := 64#32
  let v520 : BitVec 32 := Scalar.addi v519 c64_i32_256
  let c2048_i32_257 : BitVec 32 := 2048#32
  let v521 : BitVec 1 := Scalar.cmpi .sle v520 c2048_i32_257
  let c6_i32_259 : BitVec 32 := 6#32
  let v525 : BitVec 1 := Scalar.cmpi .slt v524 c6_i32_259
  let v526 : BitVec 1 := Scalar.andi v521 v525
  let v527 : BitVec 32 := Scalar.select v526 v520 v519
  let c32_i32_260 : BitVec 32 := 32#32
  let v528 : BitVec 32 := Scalar.addi v527 c32_i32_260
  let c2048_i32_261 : BitVec 32 := 2048#32
  let v529 : BitVec 1 := Scalar.cmpi .sle v528 c2048_i32_261
  let c6_i32_263 : BitVec 32 := 6#32
  let v533 : BitVec 1 := Scalar.cmpi .slt v532 c6_i32_263
  let v534 : BitVec 1 := Scalar.andi v529 v533
  let v535 : BitVec 32 := Scalar.select v534 v528 v527
  let c16_i32_264 : BitVec 32 := 16#32
  let v536 : BitVec 32 := Scalar.addi v535 c16_i32_264
  let c2048_i32_265 : BitVec 32 := 2048#32
  let v537 : BitVec 1 := Scalar.cmpi .sle v536 c2048_i32_265
  let c6_i32_267 : BitVec 32 := 6#32
  let v541 : BitVec 1 := Scalar.cmpi .slt v540 c6_i32_267
  let v542 : BitVec 1 := Scalar.andi v537 v541
  let v543 : BitVec 32 := Scalar.select v542 v536 v535
  let c8_i32_268 : BitVec 32 := 8#32
  let v544 : BitVec 32 := Scalar.addi v543 c8_i32_268
  let c2048_i32_269 : BitVec 32 := 2048#32
  let v545 : BitVec 1 := Scalar.cmpi .sle v544 c2048_i32_269
  let c6_i32_271 : BitVec 32 := 6#32
  let v549 : BitVec 1 := Scalar.cmpi .slt v548 c6_i32_271
  let v550 : BitVec 1 := Scalar.andi v545 v549
  let v551 : BitVec 32 := Scalar.select v550 v544 v543
  let c4_i32_272 : BitVec 32 := 4#32
  let v552 : BitVec 32 := Scalar.addi v551 c4_i32_272
  let c2048_i32_273 : BitVec 32 := 2048#32
  let v553 : BitVec 1 := Scalar.cmpi .sle v552 c2048_i32_273
  let c6_i32_275 : BitVec 32 := 6#32
  let v557 : BitVec 1 := Scalar.cmpi .slt v556 c6_i32_275
  let v558 : BitVec 1 := Scalar.andi v553 v557
  let v559 : BitVec 32 := Scalar.select v558 v552 v551
  let c2_i32_276 : BitVec 32 := 2#32
  let v560 : BitVec 32 := Scalar.addi v559 c2_i32_276
  let c2048_i32_277 : BitVec 32 := 2048#32
  let v561 : BitVec 1 := Scalar.cmpi .sle v560 c2048_i32_277
  let c6_i32_279 : BitVec 32 := 6#32
  let v565 : BitVec 1 := Scalar.cmpi .slt v564 c6_i32_279
  let v566 : BitVec 1 := Scalar.andi v561 v565
  let v567 : BitVec 32 := Scalar.select v566 v560 v559
  let c1_i32_280 : BitVec 32 := 1#32
  let v568 : BitVec 32 := Scalar.addi v567 c1_i32_280
  let c2048_i32_281 : BitVec 32 := 2048#32
  let v569 : BitVec 1 := Scalar.cmpi .sle v568 c2048_i32_281
  let c6_i32_283 : BitVec 32 := 6#32
  let v573 : BitVec 1 := Scalar.cmpi .slt v572 c6_i32_283
  let v574 : BitVec 1 := Scalar.andi v569 v573
  let v575 : BitVec 32 := Scalar.select v574 v568 v567
  let c0_i32_379 : BitVec 32 := 0#32
  let v783 : BitVec 1 := Scalar.cmpi .sgt v575 c0_i32_379
  let v784 : BitVec 32 := Scalar.extui v783
  let c0_i32_380 : BitVec 32 := 0#32
  let v785 : BitVec 1 := Scalar.cmpi .slt v575 c0_i32_380
  let v786 : BitVec 32 := Scalar.extui v785
  let v787 : BitVec 32 := Scalar.subi v784 v786
  let c8_i32_378 : BitVec 32 := 8#32
  let c0_i32_381 : BitVec 32 := 0#32
  let v788 : BitVec 1 := Scalar.cmpi .sgt c8_i32_378 c0_i32_381
  let v789 : BitVec 32 := Scalar.extui v788
  let c0_i32_382 : BitVec 32 := 0#32
  let v790 : BitVec 1 := Scalar.cmpi .slt c8_i32_378 c0_i32_382
  let v791 : BitVec 32 := Scalar.extui v790
  let v792 : BitVec 32 := Scalar.subi v789 v791
  let v793 : BitVec 1 := Scalar.cmpi .ne v787 v792
  let v794 : BitVec 32 := Scalar.remsi v575 c8_i32_378
  let c0_i32_383 : BitVec 32 := 0#32
  let v795 : BitVec 1 := Scalar.cmpi .ne v794 c0_i32_383
  let v796 : BitVec 1 := Scalar.andi v793 v795
  let v782 : BitVec 32 := Scalar.divsi v575 c8_i32_378
  let c1_i32_384 : BitVec 32 := 1#32
  let v797 : BitVec 32 := Scalar.subi v782 c1_i32_384
  let v798 : BitVec 32 := Scalar.select v796 v797 v782
  let c8_i32_540 : BitVec 32 := 8#32
  let v1138 : BitVec 32 := Scalar.muli v798 c8_i32_540
  let v1139 : Index := Scalar.indexCast v1138
  let c0_541 : Index := 0#32
  ![v1139.toNat, 0]

def k0_chk83 (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) : Prop :=
  (∀ a, (k0_off91 v484 v492 v500 v508 v516 v524 v532 v540 v548 v556 v564 v572) a + S520x384.size a ≤ S2560x384.size a) ∧
  (∀ a, (k0_off103 v484 v492 v500 v508 v516 v524 v532 v540 v548 v556 v564 v572) a + S520x128.size a ≤ S2576x128.size a)
theorem k0_off91_inb : ∀ (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (k0_hw83 : k0_chk83 v484 v492 v500 v508 v516 v524 v532 v540 v548 v556 v564 v572), ∀ a, (k0_off91 v484 v492 v500 v508 v516 v524 v532 v540 v548 v556 v564 v572) a + S520x384.size a ≤ S2560x384.size a := fun v484 v492 v500 v508 v516 v524 v532 v540 v548 v556 v564 v572 k0_hw83 => k0_hw83.1
theorem k0_off103_inb : ∀ (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (k0_hw83 : k0_chk83 v484 v492 v500 v508 v516 v524 v532 v540 v548 v556 v564 v572), ∀ a, (k0_off103 v484 v492 v500 v508 v516 v524 v532 v540 v548 v556 v564 v572) a + S520x128.size a ≤ S2576x128.size a := fun v484 v492 v500 v508 v516 v524 v532 v540 v548 v556 v564 v572 k0_hw83 => k0_hw83.2

def k0_off104 (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) : Fin 2 → Nat :=
  let c0_i32_284 : BitVec 32 := 0#32
  let c2048_i32_285 : BitVec 32 := 2048#32
  let v576 : BitVec 32 := Scalar.addi c0_i32_284 c2048_i32_285
  let c2048_i32_286 : BitVec 32 := 2048#32
  let v577 : BitVec 1 := Scalar.cmpi .sle v576 c2048_i32_286
  let c7_i32 : BitVec 32 := 7#32
  let v581 : BitVec 1 := Scalar.cmpi .slt v580 c7_i32
  let v582 : BitVec 1 := Scalar.andi v577 v581
  let c0_i32_288 : BitVec 32 := 0#32
  let v583 : BitVec 32 := Scalar.select v582 v576 c0_i32_288
  let c1024_i32_289 : BitVec 32 := 1024#32
  let v584 : BitVec 32 := Scalar.addi v583 c1024_i32_289
  let c2048_i32_290 : BitVec 32 := 2048#32
  let v585 : BitVec 1 := Scalar.cmpi .sle v584 c2048_i32_290
  let c7_i32_292 : BitVec 32 := 7#32
  let v589 : BitVec 1 := Scalar.cmpi .slt v588 c7_i32_292
  let v590 : BitVec 1 := Scalar.andi v585 v589
  let v591 : BitVec 32 := Scalar.select v590 v584 v583
  let c512_i32_293 : BitVec 32 := 512#32
  let v592 : BitVec 32 := Scalar.addi v591 c512_i32_293
  let c2048_i32_294 : BitVec 32 := 2048#32
  let v593 : BitVec 1 := Scalar.cmpi .sle v592 c2048_i32_294
  let c7_i32_296 : BitVec 32 := 7#32
  let v597 : BitVec 1 := Scalar.cmpi .slt v596 c7_i32_296
  let v598 : BitVec 1 := Scalar.andi v593 v597
  let v599 : BitVec 32 := Scalar.select v598 v592 v591
  let c256_i32_297 : BitVec 32 := 256#32
  let v600 : BitVec 32 := Scalar.addi v599 c256_i32_297
  let c2048_i32_298 : BitVec 32 := 2048#32
  let v601 : BitVec 1 := Scalar.cmpi .sle v600 c2048_i32_298
  let c7_i32_300 : BitVec 32 := 7#32
  let v605 : BitVec 1 := Scalar.cmpi .slt v604 c7_i32_300
  let v606 : BitVec 1 := Scalar.andi v601 v605
  let v607 : BitVec 32 := Scalar.select v606 v600 v599
  let c128_i32_301 : BitVec 32 := 128#32
  let v608 : BitVec 32 := Scalar.addi v607 c128_i32_301
  let c2048_i32_302 : BitVec 32 := 2048#32
  let v609 : BitVec 1 := Scalar.cmpi .sle v608 c2048_i32_302
  let c7_i32_304 : BitVec 32 := 7#32
  let v613 : BitVec 1 := Scalar.cmpi .slt v612 c7_i32_304
  let v614 : BitVec 1 := Scalar.andi v609 v613
  let v615 : BitVec 32 := Scalar.select v614 v608 v607
  let c64_i32_305 : BitVec 32 := 64#32
  let v616 : BitVec 32 := Scalar.addi v615 c64_i32_305
  let c2048_i32_306 : BitVec 32 := 2048#32
  let v617 : BitVec 1 := Scalar.cmpi .sle v616 c2048_i32_306
  let c7_i32_308 : BitVec 32 := 7#32
  let v621 : BitVec 1 := Scalar.cmpi .slt v620 c7_i32_308
  let v622 : BitVec 1 := Scalar.andi v617 v621
  let v623 : BitVec 32 := Scalar.select v622 v616 v615
  let c32_i32_309 : BitVec 32 := 32#32
  let v624 : BitVec 32 := Scalar.addi v623 c32_i32_309
  let c2048_i32_310 : BitVec 32 := 2048#32
  let v625 : BitVec 1 := Scalar.cmpi .sle v624 c2048_i32_310
  let c7_i32_312 : BitVec 32 := 7#32
  let v629 : BitVec 1 := Scalar.cmpi .slt v628 c7_i32_312
  let v630 : BitVec 1 := Scalar.andi v625 v629
  let v631 : BitVec 32 := Scalar.select v630 v624 v623
  let c16_i32_313 : BitVec 32 := 16#32
  let v632 : BitVec 32 := Scalar.addi v631 c16_i32_313
  let c2048_i32_314 : BitVec 32 := 2048#32
  let v633 : BitVec 1 := Scalar.cmpi .sle v632 c2048_i32_314
  let c7_i32_316 : BitVec 32 := 7#32
  let v637 : BitVec 1 := Scalar.cmpi .slt v636 c7_i32_316
  let v638 : BitVec 1 := Scalar.andi v633 v637
  let v639 : BitVec 32 := Scalar.select v638 v632 v631
  let c8_i32_317 : BitVec 32 := 8#32
  let v640 : BitVec 32 := Scalar.addi v639 c8_i32_317
  let c2048_i32_318 : BitVec 32 := 2048#32
  let v641 : BitVec 1 := Scalar.cmpi .sle v640 c2048_i32_318
  let c7_i32_320 : BitVec 32 := 7#32
  let v645 : BitVec 1 := Scalar.cmpi .slt v644 c7_i32_320
  let v646 : BitVec 1 := Scalar.andi v641 v645
  let v647 : BitVec 32 := Scalar.select v646 v640 v639
  let c4_i32_321 : BitVec 32 := 4#32
  let v648 : BitVec 32 := Scalar.addi v647 c4_i32_321
  let c2048_i32_322 : BitVec 32 := 2048#32
  let v649 : BitVec 1 := Scalar.cmpi .sle v648 c2048_i32_322
  let c7_i32_324 : BitVec 32 := 7#32
  let v653 : BitVec 1 := Scalar.cmpi .slt v652 c7_i32_324
  let v654 : BitVec 1 := Scalar.andi v649 v653
  let v655 : BitVec 32 := Scalar.select v654 v648 v647
  let c2_i32_325 : BitVec 32 := 2#32
  let v656 : BitVec 32 := Scalar.addi v655 c2_i32_325
  let c2048_i32_326 : BitVec 32 := 2048#32
  let v657 : BitVec 1 := Scalar.cmpi .sle v656 c2048_i32_326
  let c7_i32_328 : BitVec 32 := 7#32
  let v661 : BitVec 1 := Scalar.cmpi .slt v660 c7_i32_328
  let v662 : BitVec 1 := Scalar.andi v657 v661
  let v663 : BitVec 32 := Scalar.select v662 v656 v655
  let c1_i32_329 : BitVec 32 := 1#32
  let v664 : BitVec 32 := Scalar.addi v663 c1_i32_329
  let c2048_i32_330 : BitVec 32 := 2048#32
  let v665 : BitVec 1 := Scalar.cmpi .sle v664 c2048_i32_330
  let c7_i32_332 : BitVec 32 := 7#32
  let v669 : BitVec 1 := Scalar.cmpi .slt v668 c7_i32_332
  let v670 : BitVec 1 := Scalar.andi v665 v669
  let v671 : BitVec 32 := Scalar.select v670 v664 v663
  let c0_i32_386 : BitVec 32 := 0#32
  let v800 : BitVec 1 := Scalar.cmpi .sgt v671 c0_i32_386
  let v801 : BitVec 32 := Scalar.extui v800
  let c0_i32_387 : BitVec 32 := 0#32
  let v802 : BitVec 1 := Scalar.cmpi .slt v671 c0_i32_387
  let v803 : BitVec 32 := Scalar.extui v802
  let v804 : BitVec 32 := Scalar.subi v801 v803
  let c8_i32_385 : BitVec 32 := 8#32
  let c0_i32_388 : BitVec 32 := 0#32
  let v805 : BitVec 1 := Scalar.cmpi .sgt c8_i32_385 c0_i32_388
  let v806 : BitVec 32 := Scalar.extui v805
  let c0_i32_389 : BitVec 32 := 0#32
  let v807 : BitVec 1 := Scalar.cmpi .slt c8_i32_385 c0_i32_389
  let v808 : BitVec 32 := Scalar.extui v807
  let v809 : BitVec 32 := Scalar.subi v806 v808
  let v810 : BitVec 1 := Scalar.cmpi .ne v804 v809
  let v811 : BitVec 32 := Scalar.remsi v671 c8_i32_385
  let c0_i32_390 : BitVec 32 := 0#32
  let v812 : BitVec 1 := Scalar.cmpi .ne v811 c0_i32_390
  let v813 : BitVec 1 := Scalar.andi v810 v812
  let v799 : BitVec 32 := Scalar.divsi v671 c8_i32_385
  let c1_i32_391 : BitVec 32 := 1#32
  let v814 : BitVec 32 := Scalar.subi v799 c1_i32_391
  let v815 : BitVec 32 := Scalar.select v813 v814 v799
  let c8_i32_547 : BitVec 32 := 8#32
  let v1157 : BitVec 32 := Scalar.muli v815 c8_i32_547
  let v1158 : Index := Scalar.indexCast v1157
  let c0_548 : Index := 0#32
  ![v1158.toNat, 0]

def k0_chk84 (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) : Prop :=
  (∀ a, (k0_off92 v580 v588 v596 v604 v612 v620 v628 v636 v644 v652 v660 v668) a + S520x384.size a ≤ S2560x384.size a) ∧
  ((k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).OK) ∧
  (∀ k0_t1 : Fin (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips, ∀ (r : Fin 4), ∀ a, (k0_off93 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_t1 (BitVec.ofNat 32 r.val)) a + S1x8x384.size a ≤ S528x8x384.size a) ∧
  (∀ k0_t1 : Fin (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips, ∀ (r : Fin 4), ∀ a, (k0_off94 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_t1 (BitVec.ofNat 32 r.val)) a + S1x8x128.size a ≤ S528x8x128.size a) ∧
  ((k0_t2_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).OK) ∧
  (∀ k0_t2 : Fin (k0_t2_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips, ∀ (r : Fin 4), ∀ a, (k0_off95 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_t2 (BitVec.ofNat 32 r.val)) a + S1x8x384.size a ≤ S528x8x384.size a) ∧
  (∀ k0_t2 : Fin (k0_t2_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips, ∀ (r : Fin 4), ∀ a, (k0_off96 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_t2 (BitVec.ofNat 32 r.val)) a + S1x8x128.size a ≤ S528x8x128.size a) ∧
  (∀ a, (k0_off104 v580 v588 v596 v604 v612 v620 v628 v636 v644 v652 v660 v668) a + S520x128.size a ≤ S2576x128.size a)
theorem k0_off92_inb : ∀ (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) (k0_hw84 : k0_chk84 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668), ∀ a, (k0_off92 v580 v588 v596 v604 v612 v620 v628 v636 v644 v652 v660 v668) a + S520x384.size a ≤ S2560x384.size a := fun v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_hw84 => k0_hw84.1
theorem k0_t1_ok : ∀ (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) (k0_hw84 : k0_chk84 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668), (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).OK := fun v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_hw84 => k0_hw84.2.1
theorem k0_off93_inb : ∀ (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) (k0_hw84 : k0_chk84 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668) (k0_t1 : Fin (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips), ∀ (r : Fin 4), ∀ a, (k0_off93 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_t1 (BitVec.ofNat 32 r.val)) a + S1x8x384.size a ≤ S528x8x384.size a := fun v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_hw84 k0_t1 r => k0_hw84.2.2.1 k0_t1 r
theorem k0_off94_inb : ∀ (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) (k0_hw84 : k0_chk84 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668) (k0_t1 : Fin (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips), ∀ (r : Fin 4), ∀ a, (k0_off94 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_t1 (BitVec.ofNat 32 r.val)) a + S1x8x128.size a ≤ S528x8x128.size a := fun v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_hw84 k0_t1 r => k0_hw84.2.2.2.1 k0_t1 r
theorem k0_t2_ok : ∀ (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) (k0_hw84 : k0_chk84 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668), (k0_t2_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).OK := fun v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_hw84 => k0_hw84.2.2.2.2.1
theorem k0_off95_inb : ∀ (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) (k0_hw84 : k0_chk84 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668) (k0_t2 : Fin (k0_t2_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips), ∀ (r : Fin 4), ∀ a, (k0_off95 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_t2 (BitVec.ofNat 32 r.val)) a + S1x8x384.size a ≤ S528x8x384.size a := fun v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_hw84 k0_t2 r => k0_hw84.2.2.2.2.2.1 k0_t2 r
theorem k0_off96_inb : ∀ (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) (k0_hw84 : k0_chk84 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668) (k0_t2 : Fin (k0_t2_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips), ∀ (r : Fin 4), ∀ a, (k0_off96 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_t2 (BitVec.ofNat 32 r.val)) a + S1x8x128.size a ≤ S528x8x128.size a := fun v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_hw84 k0_t2 r => k0_hw84.2.2.2.2.2.2.1 k0_t2 r
theorem k0_off104_inb : ∀ (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) (k0_hw84 : k0_chk84 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668), ∀ a, (k0_off104 v580 v588 v596 v604 v612 v620 v628 v636 v644 v652 v660 v668) a + S520x128.size a ≤ S2576x128.size a := fun v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_hw84 => k0_hw84.2.2.2.2.2.2.2

abbrev stage0_0 : Fin 1 → Memref sig .tc .smem S2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1922 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2048x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S2048x4x256 : Shape := ⟨3, ![2048, 4, 256]⟩
abbrev S2x32768 : Shape := ⟨2, ![2, 32768]⟩
abbrev S32768x4 : Shape := ⟨2, ![32768, 4]⟩
abbrev S2048x2 : Shape := ⟨2, ![2048, 2]⟩
abbrev S128x512 : Shape := ⟨2, ![128, 512]⟩
abbrev S128 : Shape := ⟨1, ![128]⟩
abbrev S384x128 : Shape := ⟨2, ![384, 128]⟩
abbrev S384 : Shape := ⟨1, ![384]⟩
abbrev S2x128 : Shape := ⟨2, ![2, 128]⟩
abbrev S2 : Shape := ⟨1, ![2]⟩
abbrev S2048x1 : Shape := ⟨2, ![2048, 1]⟩
abbrev S2048 : Shape := ⟨1, ![2048]⟩
abbrev S2048x1x256 : Shape := ⟨3, ![2048, 1, 256]⟩
abbrev S2048x256 : Shape := ⟨2, ![2048, 256]⟩
abbrev S_ : Shape := ⟨0, ![]⟩
abbrev S2048x512 : Shape := ⟨2, ![2048, 512]⟩
abbrev S512x128 : Shape := ⟨2, ![512, 128]⟩
abbrev S2048x128 : Shape := ⟨2, ![2048, 128]⟩
abbrev S1x128 : Shape := ⟨2, ![1, 128]⟩
abbrev S8 : Shape := ⟨1, ![8]⟩
abbrev S1 : Shape := ⟨1, ![1]⟩
abbrev S7 : Shape := ⟨1, ![7]⟩
abbrev S8x512x128 : Shape := ⟨3, ![8, 512, 128]⟩
abbrev S512x8x128 : Shape := ⟨3, ![512, 8, 128]⟩
abbrev S8x128 : Shape := ⟨2, ![8, 128]⟩
abbrev S1x8x128 : Shape := ⟨3, ![1, 8, 128]⟩
abbrev S128x384 : Shape := ⟨2, ![128, 384]⟩
abbrev S8x384 : Shape := ⟨2, ![8, 384]⟩
abbrev S1x384 : Shape := ⟨2, ![1, 384]⟩
abbrev S128x2 : Shape := ⟨2, ![128, 2]⟩
abbrev S1x2 : Shape := ⟨2, ![1, 2]⟩

abbrev nBuf : Space → Nat
  | .hbm => 283
  | .vmem => 0
  | .smem => 0
  | _ => 0

abbrev hbmTy0_0 (i : Nat) : BufTy := match i % 128 with
  | 0 => ⟨S2048x4x256, .f32⟩
  | 1 => ⟨S2x32768, .i32⟩
  | 2 => ⟨S32768x4, .f32⟩
  | 3 => ⟨S2048x2, .i32⟩
  | 4 => ⟨S128x512, .f32⟩
  | 5 => ⟨S128, .f32⟩
  | 6 => ⟨S128, .f32⟩
  | 7 => ⟨S128, .f32⟩
  | 8 => ⟨S384x128, .f32⟩
  | 9 => ⟨S384x128, .f32⟩
  | 10 => ⟨S384, .f32⟩
  | 11 => ⟨S384, .f32⟩
  | 12 => ⟨S384x128, .f32⟩
  | 13 => ⟨S384x128, .f32⟩
  | 14 => ⟨S384, .f32⟩
  | 15 => ⟨S384, .f32⟩
  | 16 => ⟨S2x128, .f32⟩
  | 17 => ⟨S2, .f32⟩
  | 18 => ⟨S2048x1, .i32⟩
  | 19 => ⟨S2048, .i32⟩
  | 20 => ⟨S2048x1x256, .f32⟩
  | 21 => ⟨S2048x256, .f32⟩
  | 22 => ⟨S2048x1x256, .f32⟩
  | 23 => ⟨S2048x256, .f32⟩
  | 24 => ⟨S2048x1x256, .f32⟩
  | 25 => ⟨S2048x256, .f32⟩
  | 26 => ⟨S2048x1x256, .f32⟩
  | 27 => ⟨S2048x256, .f32⟩
  | 28 => ⟨S2048x256, .f32⟩
  | 29 => ⟨S_, .f32⟩
  | 30 => ⟨S2048, .f32⟩
  | 31 => ⟨S2048x256, .f32⟩
  | 32 => ⟨S_, .f32⟩
  | 33 => ⟨S2048, .f32⟩
  | 34 => ⟨S2048, .f32⟩
  | 35 => ⟨S_, .f32⟩
  | 36 => ⟨S2048, .f32⟩
  | 37 => ⟨S2048, .f32⟩
  | 38 => ⟨S2048x256, .f32⟩
  | 39 => ⟨S_, .f32⟩
  | 40 => ⟨S2048, .f32⟩
  | 41 => ⟨S2048, .f32⟩
  | 42 => ⟨S_, .f32⟩
  | 43 => ⟨S2048, .f32⟩
  | 44 => ⟨S2048, .f32⟩
  | 45 => ⟨S2048, .f32⟩
  | 46 => ⟨S2048, .f32⟩
  | 47 => ⟨S2048x1, .f32⟩
  | 48 => ⟨S2048x256, .f32⟩
  | 49 => ⟨S2048x256, .f32⟩
  | 50 => ⟨S2048x512, .f32⟩
  | 51 => ⟨S512x128, .f32⟩
  | 52 => ⟨S2048x128, .f32⟩
  | 53 => ⟨S1x128, .f32⟩
  | 54 => ⟨S2048x128, .f32⟩
  | 55 => ⟨S2048x128, .f32⟩
  | 56 => ⟨S_, .f32⟩
  | 57 => ⟨S2048x128, .f32⟩
  | 58 => ⟨S2048x128, .f32⟩
  | 59 => ⟨S1x128, .f32⟩
  | 60 => ⟨S2048x128, .f32⟩
  | 61 => ⟨S2048x128, .f32⟩
  | 62 => ⟨S1x128, .f32⟩
  | 63 => ⟨S2048x128, .f32⟩
  | 64 => ⟨S2048x128, .f32⟩
  | 65 => ⟨S_, .f32⟩
  | 66 => ⟨S2048x128, .f32⟩
  | 67 => ⟨S2048x128, .f32⟩
  | 68 => ⟨S_, .i32⟩
  | 69 => ⟨S8, .i32⟩
  | 70 => ⟨S_, .i32⟩
  | 71 => ⟨S_, .i32⟩
  | 72 => ⟨S2048, .i32⟩
  | 73 => ⟨S2048, .i32⟩
  | 74 => ⟨S_, .i32⟩
  | 75 => ⟨S2048, .i32⟩
  | 76 => ⟨S2048, .i1⟩
  | 77 => ⟨S_, .i32⟩
  | 78 => ⟨S2048, .i32⟩
  | 79 => ⟨S2048, .i32⟩
  | 80 => ⟨S2048, .i32⟩
  | 81 => ⟨S2048x1, .i32⟩
  | 82 => ⟨S_, .i32⟩
  | 83 => ⟨S2048, .i32⟩
  | 84 => ⟨S8, .i32⟩
  | 85 => ⟨S_, .i32⟩
  | 86 => ⟨S1, .i32⟩
  | 87 => ⟨S_, .i32⟩
  | 88 => ⟨S_, .i32⟩
  | 89 => ⟨S8, .i32⟩
  | 90 => ⟨S7, .i32⟩
  | 91 => ⟨S8, .i32⟩
  | 92 => ⟨S2048, .i32⟩
  | 93 => ⟨S_, .i32⟩
  | 94 => ⟨S2048, .i32⟩
  | 95 => ⟨S2048, .i1⟩
  | 96 => ⟨S_, .i32⟩
  | 97 => ⟨S2048, .i32⟩
  | 98 => ⟨S2048, .i32⟩
  | 99 => ⟨S2048, .i32⟩
  | 100 => ⟨S2048x1, .i32⟩
  | 101 => ⟨S2048, .i32⟩
  | 102 => ⟨S2048, .i32⟩
  | 103 => ⟨S_, .f32⟩
  | 104 => ⟨S8x512x128, .f32⟩
  | 105 => ⟨S_, .i32⟩
  | 106 => ⟨S2048, .i32⟩
  | 107 => ⟨S2048, .i1⟩
  | 108 => ⟨S_, .i32⟩
  | 109 => ⟨S2048, .i32⟩
  | 110 => ⟨S2048, .i32⟩
  | 111 => ⟨S2048, .i32⟩
  | 112 => ⟨S_, .i32⟩
  | 113 => ⟨S2048, .i32⟩
  | 114 => ⟨S2048, .i1⟩
  | 115 => ⟨S_, .i32⟩
  | 116 => ⟨S2048, .i32⟩
  | 117 => ⟨S2048, .i32⟩
  | 118 => ⟨S2048, .i32⟩
  | 119 => ⟨S2048x1, .i32⟩
  | 120 => ⟨S2048x1, .i32⟩
  | 121 => ⟨S2048x2, .i32⟩
  | 122 => ⟨S8x512x128, .f32⟩
  | 123 => ⟨S512x8x128, .f32⟩
  | 124 => ⟨S_, .f32⟩
  | 125 => ⟨S8x128, .f32⟩
  | 126 => ⟨S_, .f32⟩
  | 127 => ⟨S512x8x128, .f32⟩
  | _ => ⟨S2048x4x256, .f32⟩

abbrev hbmTy0_1 (i : Nat) : BufTy := match i % 128 with
  | 0 => ⟨S_, .i32⟩
  | 1 => ⟨S512x8x128, .f32⟩
  | 2 => ⟨S384x128, .f32⟩
  | 3 => ⟨S384, .f32⟩
  | 4 => ⟨S384x128, .f32⟩
  | 5 => ⟨S384, .f32⟩
  | 6 => ⟨S_, .i32⟩
  | 7 => ⟨S8x128, .f32⟩
  | 8 => ⟨S512x8x128, .f32⟩
  | 9 => ⟨S_, .i32⟩
  | 10 => ⟨S_, .i1⟩
  | 11 => ⟨S_, .i32⟩
  | 12 => ⟨S_, .i32⟩
  | 13 => ⟨S1x8x128, .f32⟩
  | 14 => ⟨S8x128, .f32⟩
  | 15 => ⟨S128x384, .f32⟩
  | 16 => ⟨S8x384, .f32⟩
  | 17 => ⟨S1x384, .f32⟩
  | 18 => ⟨S8x384, .f32⟩
  | 19 => ⟨S8x384, .f32⟩
  | 20 => ⟨S128x384, .f32⟩
  | 21 => ⟨S8x384, .f32⟩
  | 22 => ⟨S1x384, .f32⟩
  | 23 => ⟨S8x384, .f32⟩
  | 24 => ⟨S8x384, .f32⟩
  | 25 => ⟨S8x128, .f32⟩
  | 26 => ⟨S8x128, .f32⟩
  | 27 => ⟨S8x128, .f32⟩
  | 28 => ⟨S8x128, .f32⟩
  | 29 => ⟨S8x128, .f32⟩
  | 30 => ⟨S8x128, .f32⟩
  | 31 => ⟨S8x128, .f32⟩
  | 32 => ⟨S8x128, .f32⟩
  | 33 => ⟨S8x128, .f32⟩
  | 34 => ⟨S_, .f32⟩
  | 35 => ⟨S8x128, .f32⟩
  | 36 => ⟨S8x128, .f32⟩
  | 37 => ⟨S_, .f32⟩
  | 38 => ⟨S8x128, .f32⟩
  | 39 => ⟨S8x128, .f32⟩
  | 40 => ⟨S8x128, .f32⟩
  | 41 => ⟨S8x128, .f32⟩
  | 42 => ⟨S8x128, .f32⟩
  | 43 => ⟨S_, .f32⟩
  | 44 => ⟨S8x128, .f32⟩
  | 45 => ⟨S8x128, .f32⟩
  | 46 => ⟨S_, .f32⟩
  | 47 => ⟨S8x128, .f32⟩
  | 48 => ⟨S8x128, .f32⟩
  | 49 => ⟨S8x128, .f32⟩
  | 50 => ⟨S8x128, .f32⟩
  | 51 => ⟨S8x128, .f32⟩
  | 52 => ⟨S_, .f32⟩
  | 53 => ⟨S8x128, .f32⟩
  | 54 => ⟨S8x128, .f32⟩
  | 55 => ⟨S8x128, .f32⟩
  | 56 => ⟨S8x128, .f32⟩
  | 57 => ⟨S8x128, .f32⟩
  | 58 => ⟨S1x8x128, .f32⟩
  | 59 => ⟨S_, .i32⟩
  | 60 => ⟨S_, .i32⟩
  | 61 => ⟨S512x8x128, .f32⟩
  | 62 => ⟨S_, .i32⟩
  | 63 => ⟨S_, .i32⟩
  | 64 => ⟨S_, .f32⟩
  | 65 => ⟨S8x128, .f32⟩
  | 66 => ⟨S_, .f32⟩
  | 67 => ⟨S512x8x128, .f32⟩
  | 68 => ⟨S_, .i32⟩
  | 69 => ⟨S512x8x128, .f32⟩
  | 70 => ⟨S384x128, .f32⟩
  | 71 => ⟨S384, .f32⟩
  | 72 => ⟨S384x128, .f32⟩
  | 73 => ⟨S384, .f32⟩
  | 74 => ⟨S_, .i32⟩
  | 75 => ⟨S8x128, .f32⟩
  | 76 => ⟨S512x8x128, .f32⟩
  | 77 => ⟨S_, .i32⟩
  | 78 => ⟨S_, .i1⟩
  | 79 => ⟨S_, .i32⟩
  | 80 => ⟨S_, .i32⟩
  | 81 => ⟨S1x8x128, .f32⟩
  | 82 => ⟨S8x128, .f32⟩
  | 83 => ⟨S128x384, .f32⟩
  | 84 => ⟨S8x384, .f32⟩
  | 85 => ⟨S1x384, .f32⟩
  | 86 => ⟨S8x384, .f32⟩
  | 87 => ⟨S8x384, .f32⟩
  | 88 => ⟨S128x384, .f32⟩
  | 89 => ⟨S8x384, .f32⟩
  | 90 => ⟨S1x384, .f32⟩
  | 91 => ⟨S8x384, .f32⟩
  | 92 => ⟨S8x384, .f32⟩
  | 93 => ⟨S8x128, .f32⟩
  | 94 => ⟨S8x128, .f32⟩
  | 95 => ⟨S8x128, .f32⟩
  | 96 => ⟨S8x128, .f32⟩
  | 97 => ⟨S8x128, .f32⟩
  | 98 => ⟨S8x128, .f32⟩
  | 99 => ⟨S8x128, .f32⟩
  | 100 => ⟨S8x128, .f32⟩
  | 101 => ⟨S8x128, .f32⟩
  | 102 => ⟨S_, .f32⟩
  | 103 => ⟨S8x128, .f32⟩
  | 104 => ⟨S8x128, .f32⟩
  | 105 => ⟨S_, .f32⟩
  | 106 => ⟨S8x128, .f32⟩
  | 107 => ⟨S8x128, .f32⟩
  | 108 => ⟨S8x128, .f32⟩
  | 109 => ⟨S8x128, .f32⟩
  | 110 => ⟨S8x128, .f32⟩
  | 111 => ⟨S_, .f32⟩
  | 112 => ⟨S8x128, .f32⟩
  | 113 => ⟨S8x128, .f32⟩
  | 114 => ⟨S_, .f32⟩
  | 115 => ⟨S8x128, .f32⟩
  | 116 => ⟨S8x128, .f32⟩
  | 117 => ⟨S8x128, .f32⟩
  | 118 => ⟨S8x128, .f32⟩
  | 119 => ⟨S8x128, .f32⟩
  | 120 => ⟨S_, .f32⟩
  | 121 => ⟨S8x128, .f32⟩
  | 122 => ⟨S8x128, .f32⟩
  | 123 => ⟨S8x128, .f32⟩
  | 124 => ⟨S8x128, .f32⟩
  | 125 => ⟨S8x128, .f32⟩
  | 126 => ⟨S1x8x128, .f32⟩
  | 127 => ⟨S_, .i32⟩
  | _ => ⟨S2048x4x256, .f32⟩

abbrev hbmTy0_2 (i : Nat) : BufTy := match i % 128 with
  | 0 => ⟨S_, .i32⟩
  | 1 => ⟨S512x8x128, .f32⟩
  | 2 => ⟨S_, .i32⟩
  | 3 => ⟨S_, .i32⟩
  | 4 => ⟨S_, .i32⟩
  | 5 => ⟨S2048, .i32⟩
  | 6 => ⟨S2048, .i1⟩
  | 7 => ⟨S_, .i32⟩
  | 8 => ⟨S2048, .i32⟩
  | 9 => ⟨S2048, .i32⟩
  | 10 => ⟨S2048, .i32⟩
  | 11 => ⟨S_, .i32⟩
  | 12 => ⟨S2048, .i32⟩
  | 13 => ⟨S2048, .i1⟩
  | 14 => ⟨S_, .i32⟩
  | 15 => ⟨S2048, .i32⟩
  | 16 => ⟨S2048, .i32⟩
  | 17 => ⟨S2048, .i32⟩
  | 18 => ⟨S2048x1, .i32⟩
  | 19 => ⟨S2048x1, .i32⟩
  | 20 => ⟨S2048x2, .i32⟩
  | 21 => ⟨S2048x128, .f32⟩
  | 22 => ⟨S128x2, .f32⟩
  | 23 => ⟨S2048x2, .f32⟩
  | 24 => ⟨S1x2, .f32⟩
  | 25 => ⟨S2048x2, .f32⟩
  | 26 => ⟨S2048x2, .f32⟩
  | _ => ⟨S2048x4x256, .f32⟩

abbrev hbmTy (i : Nat) : BufTy := match i / 128 with
  | 0 => hbmTy0_0 i
  | 1 => hbmTy0_1 i
  | 2 => hbmTy0_2 i
  | _ => ⟨S2048x4x256, .f32⟩

abbrev bufTy : (tb : Table) → Fin (tcTables nBuf tb) → BufTy
  | .hbm, ⟨i, _⟩ => hbmTy i
  | _, _ => ⟨S2048x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_v12 : Ref sig .tc := ⟨.hbm, 34, rfl⟩
abbrev main_cst_0 : Ref sig .tc := ⟨.hbm, 35, rfl⟩
abbrev main_v13 : Ref sig .tc := ⟨.hbm, 36, rfl⟩
abbrev main_v14 : Ref sig .tc := ⟨.hbm, 37, rfl⟩
abbrev main_call1_v0 : Ref sig .tc := ⟨.hbm, 38, rfl⟩
abbrev main_call1_cst : Ref sig .tc := ⟨.hbm, 39, rfl⟩
abbrev main_call1_v1 : Ref sig .tc := ⟨.hbm, 40, rfl⟩
abbrev main_v15 : Ref sig .tc := ⟨.hbm, 41, rfl⟩
abbrev main_cst_1 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_2 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_call2_cst : Ref sig .tc := ⟨.hbm, 65, rfl⟩
abbrev main_call2_v0 : Ref sig .tc := ⟨.hbm, 66, rfl⟩
abbrev main_v37 : Ref sig .tc := ⟨.hbm, 67, rfl⟩
abbrev main_c : Ref sig .tc := ⟨.hbm, 68, rfl⟩
abbrev main_v38 : Ref sig .tc := ⟨.hbm, 69, rfl⟩
abbrev main_c_3 : Ref sig .tc := ⟨.hbm, 70, rfl⟩
abbrev main_call3_v0 : Ref sig .tc := ⟨.hbm, 71, rfl⟩
abbrev main_call3_v1 : Ref sig .tc := ⟨.hbm, 72, rfl⟩
abbrev main_v39 : Ref sig .tc := ⟨.hbm, 73, rfl⟩
abbrev main_c_4 : Ref sig .tc := ⟨.hbm, 74, rfl⟩
abbrev main_v40 : Ref sig .tc := ⟨.hbm, 75, rfl⟩
abbrev main_v41 : Ref sig .tc := ⟨.hbm, 76, rfl⟩
abbrev main_c_5 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_c_6 : Ref sig .tc := ⟨.hbm, 82, rfl⟩
abbrev main_v46 : Ref sig .tc := ⟨.hbm, 83, rfl⟩
abbrev main_v47 : Ref sig .tc := ⟨.hbm, 84, rfl⟩
abbrev main_c_7 : Ref sig .tc := ⟨.hbm, 85, rfl⟩
abbrev main_v48 : Ref sig .tc := ⟨.hbm, 86, rfl⟩
abbrev main_call4_call0_c : Ref sig .tc := ⟨.hbm, 87, rfl⟩
abbrev main_call4_call0_v0 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_c_8 : Ref sig .tc := ⟨.hbm, 93, rfl⟩
abbrev main_v53 : Ref sig .tc := ⟨.hbm, 94, rfl⟩
abbrev main_v54 : Ref sig .tc := ⟨.hbm, 95, rfl⟩
abbrev main_c_9 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_10 : Ref sig .tc := ⟨.hbm, 103, rfl⟩
abbrev main_v61 : Ref sig .tc := ⟨.hbm, 104, rfl⟩
abbrev main_c_11 : Ref sig .tc := ⟨.hbm, 105, rfl⟩
abbrev main_v62 : Ref sig .tc := ⟨.hbm, 106, rfl⟩
abbrev main_v63 : Ref sig .tc := ⟨.hbm, 107, rfl⟩
abbrev main_c_12 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_c_13 : Ref sig .tc := ⟨.hbm, 112, rfl⟩
abbrev main_v67 : Ref sig .tc := ⟨.hbm, 113, rfl⟩
abbrev main_v68 : Ref sig .tc := ⟨.hbm, 114, rfl⟩
abbrev main_c_14 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_cst_15 : Ref sig .tc := ⟨.hbm, 124, rfl⟩
abbrev main_v77 : Ref sig .tc := ⟨.hbm, 125, rfl⟩
abbrev main_cst_16 : Ref sig .tc := ⟨.hbm, 126, rfl⟩
abbrev main_v78 : Ref sig .tc := ⟨.hbm, 127, rfl⟩
abbrev main_c_17 : Ref sig .tc := ⟨.hbm, 128, rfl⟩
abbrev main_v79_0 : Ref sig .tc := ⟨.hbm, 129, rfl⟩
abbrev main_v79_1 : Ref sig .tc := ⟨.hbm, 130, rfl⟩
abbrev main_v79_2 : Ref sig .tc := ⟨.hbm, 131, rfl⟩
abbrev main_v79_3 : Ref sig .tc := ⟨.hbm, 132, rfl⟩
abbrev main_v79_4 : Ref sig .tc := ⟨.hbm, 133, rfl⟩
abbrev main_v79_5 : Ref sig .tc := ⟨.hbm, 134, rfl⟩
abbrev main_v79_6 : Ref sig .tc := ⟨.hbm, 135, rfl⟩
abbrev main_v79_7 : Ref sig .tc := ⟨.hbm, 136, rfl⟩
abbrev main_while0c_c_32 : Ref sig .tc := ⟨.hbm, 137, rfl⟩
abbrev main_while0c_v102 : Ref sig .tc := ⟨.hbm, 138, rfl⟩
abbrev main_while0b_call5_c : Ref sig .tc := ⟨.hbm, 139, rfl⟩
abbrev main_while0b_call5_c_0 : Ref sig .tc := ⟨.hbm, 140, rfl⟩
abbrev main_while0b_call5_v0 : Ref sig .tc := ⟨.hbm, 141, rfl⟩
abbrev main_while0b_v102 : Ref sig .tc := ⟨.hbm, 142, rfl⟩
abbrev main_while0b_v103 : Ref sig .tc := ⟨.hbm, 143, rfl⟩
abbrev main_while0b_v104 : Ref sig .tc := ⟨.hbm, 144, rfl⟩
abbrev main_while0b_v105 : Ref sig .tc := ⟨.hbm, 145, rfl⟩
abbrev main_while0b_v106 : Ref sig .tc := ⟨.hbm, 146, rfl⟩
abbrev main_while0b_v107 : Ref sig .tc := ⟨.hbm, 147, rfl⟩
abbrev main_while0b_v108 : Ref sig .tc := ⟨.hbm, 148, rfl⟩
abbrev main_while0b_v109 : Ref sig .tc := ⟨.hbm, 149, rfl⟩
abbrev main_while0b_v110 : Ref sig .tc := ⟨.hbm, 150, rfl⟩
abbrev main_while0b_v111 : Ref sig .tc := ⟨.hbm, 151, rfl⟩
abbrev main_while0b_v112 : Ref sig .tc := ⟨.hbm, 152, rfl⟩
abbrev main_while0b_v113 : Ref sig .tc := ⟨.hbm, 153, rfl⟩
abbrev main_while0b_v114 : Ref sig .tc := ⟨.hbm, 154, rfl⟩
abbrev main_while0b_v115 : Ref sig .tc := ⟨.hbm, 155, rfl⟩
abbrev main_while0b_v116 : Ref sig .tc := ⟨.hbm, 156, rfl⟩
abbrev main_while0b_v117 : Ref sig .tc := ⟨.hbm, 157, rfl⟩
abbrev main_while0b_v118 : Ref sig .tc := ⟨.hbm, 158, rfl⟩
abbrev main_while0b_v119 : Ref sig .tc := ⟨.hbm, 159, rfl⟩
abbrev main_while0b_v120 : Ref sig .tc := ⟨.hbm, 160, rfl⟩
abbrev main_while0b_v121 : Ref sig .tc := ⟨.hbm, 161, rfl⟩
abbrev main_while0b_cst_32 : Ref sig .tc := ⟨.hbm, 162, rfl⟩
abbrev main_while0b_v122 : Ref sig .tc := ⟨.hbm, 163, rfl⟩
abbrev main_while0b_v123 : Ref sig .tc := ⟨.hbm, 164, rfl⟩
abbrev main_while0b_cst_33 : Ref sig .tc := ⟨.hbm, 165, rfl⟩
abbrev main_while0b_v124 : Ref sig .tc := ⟨.hbm, 166, rfl⟩
abbrev main_while0b_v125 : Ref sig .tc := ⟨.hbm, 167, rfl⟩
abbrev main_while0b_v126 : Ref sig .tc := ⟨.hbm, 168, rfl⟩
abbrev main_while0b_v127 : Ref sig .tc := ⟨.hbm, 169, rfl⟩
abbrev main_while0b_v128 : Ref sig .tc := ⟨.hbm, 170, rfl⟩
abbrev main_while0b_cst_34 : Ref sig .tc := ⟨.hbm, 171, rfl⟩
abbrev main_while0b_v129 : Ref sig .tc := ⟨.hbm, 172, rfl⟩
abbrev main_while0b_v130 : Ref sig .tc := ⟨.hbm, 173, rfl⟩
abbrev main_while0b_cst_35 : Ref sig .tc := ⟨.hbm, 174, rfl⟩
abbrev main_while0b_v131 : Ref sig .tc := ⟨.hbm, 175, rfl⟩
abbrev main_while0b_v132 : Ref sig .tc := ⟨.hbm, 176, rfl⟩
abbrev main_while0b_v133 : Ref sig .tc := ⟨.hbm, 177, rfl⟩
abbrev main_while0b_v134 : Ref sig .tc := ⟨.hbm, 178, rfl⟩
abbrev main_while0b_v135 : Ref sig .tc := ⟨.hbm, 179, rfl⟩
abbrev main_while0b_cst_36 : Ref sig .tc := ⟨.hbm, 180, rfl⟩
abbrev main_while0b_v136 : Ref sig .tc := ⟨.hbm, 181, rfl⟩
abbrev main_while0b_v137 : Ref sig .tc := ⟨.hbm, 182, rfl⟩
abbrev main_while0b_v138 : Ref sig .tc := ⟨.hbm, 183, rfl⟩
abbrev main_while0b_v139 : Ref sig .tc := ⟨.hbm, 184, rfl⟩
abbrev main_while0b_v140 : Ref sig .tc := ⟨.hbm, 185, rfl⟩
abbrev main_while0b_call6_v0 : Ref sig .tc := ⟨.hbm, 186, rfl⟩
abbrev main_while0b_call6_c : Ref sig .tc := ⟨.hbm, 187, rfl⟩
abbrev main_while0b_call6_c_0 : Ref sig .tc := ⟨.hbm, 188, rfl⟩
abbrev main_while0b_v141 : Ref sig .tc := ⟨.hbm, 189, rfl⟩
abbrev main_while0b_c_37 : Ref sig .tc := ⟨.hbm, 190, rfl⟩
abbrev main_while0b_v142 : Ref sig .tc := ⟨.hbm, 191, rfl⟩
abbrev main_cst_18 : Ref sig .tc := ⟨.hbm, 192, rfl⟩
abbrev main_v80 : Ref sig .tc := ⟨.hbm, 193, rfl⟩
abbrev main_cst_19 : Ref sig .tc := ⟨.hbm, 194, rfl⟩
abbrev main_v81 : Ref sig .tc := ⟨.hbm, 195, rfl⟩
abbrev main_c_20 : Ref sig .tc := ⟨.hbm, 196, rfl⟩
abbrev main_v82_0 : Ref sig .tc := ⟨.hbm, 197, rfl⟩
abbrev main_v82_1 : Ref sig .tc := ⟨.hbm, 198, rfl⟩
abbrev main_v82_2 : Ref sig .tc := ⟨.hbm, 199, rfl⟩
abbrev main_v82_3 : Ref sig .tc := ⟨.hbm, 200, rfl⟩
abbrev main_v82_4 : Ref sig .tc := ⟨.hbm, 201, rfl⟩
abbrev main_v82_5 : Ref sig .tc := ⟨.hbm, 202, rfl⟩
abbrev main_v82_6 : Ref sig .tc := ⟨.hbm, 203, rfl⟩
abbrev main_v82_7 : Ref sig .tc := ⟨.hbm, 204, rfl⟩
abbrev main_while1c_c_32 : Ref sig .tc := ⟨.hbm, 205, rfl⟩
abbrev main_while1c_v102 : Ref sig .tc := ⟨.hbm, 206, rfl⟩
abbrev main_while1b_call7_c : Ref sig .tc := ⟨.hbm, 207, rfl⟩
abbrev main_while1b_call7_c_0 : Ref sig .tc := ⟨.hbm, 208, rfl⟩
abbrev main_while1b_call7_v0 : Ref sig .tc := ⟨.hbm, 209, rfl⟩
abbrev main_while1b_v102 : Ref sig .tc := ⟨.hbm, 210, rfl⟩
abbrev main_while1b_v103 : Ref sig .tc := ⟨.hbm, 211, rfl⟩
abbrev main_while1b_v104 : Ref sig .tc := ⟨.hbm, 212, rfl⟩
abbrev main_while1b_v105 : Ref sig .tc := ⟨.hbm, 213, rfl⟩
abbrev main_while1b_v106 : Ref sig .tc := ⟨.hbm, 214, rfl⟩
abbrev main_while1b_v107 : Ref sig .tc := ⟨.hbm, 215, rfl⟩
abbrev main_while1b_v108 : Ref sig .tc := ⟨.hbm, 216, rfl⟩
abbrev main_while1b_v109 : Ref sig .tc := ⟨.hbm, 217, rfl⟩
abbrev main_while1b_v110 : Ref sig .tc := ⟨.hbm, 218, rfl⟩
abbrev main_while1b_v111 : Ref sig .tc := ⟨.hbm, 219, rfl⟩
abbrev main_while1b_v112 : Ref sig .tc := ⟨.hbm, 220, rfl⟩
abbrev main_while1b_v113 : Ref sig .tc := ⟨.hbm, 221, rfl⟩
abbrev main_while1b_v114 : Ref sig .tc := ⟨.hbm, 222, rfl⟩
abbrev main_while1b_v115 : Ref sig .tc := ⟨.hbm, 223, rfl⟩
abbrev main_while1b_v116 : Ref sig .tc := ⟨.hbm, 224, rfl⟩
abbrev main_while1b_v117 : Ref sig .tc := ⟨.hbm, 225, rfl⟩
abbrev main_while1b_v118 : Ref sig .tc := ⟨.hbm, 226, rfl⟩
abbrev main_while1b_v119 : Ref sig .tc := ⟨.hbm, 227, rfl⟩
abbrev main_while1b_v120 : Ref sig .tc := ⟨.hbm, 228, rfl⟩
abbrev main_while1b_v121 : Ref sig .tc := ⟨.hbm, 229, rfl⟩
abbrev main_while1b_cst_32 : Ref sig .tc := ⟨.hbm, 230, rfl⟩
abbrev main_while1b_v122 : Ref sig .tc := ⟨.hbm, 231, rfl⟩
abbrev main_while1b_v123 : Ref sig .tc := ⟨.hbm, 232, rfl⟩
abbrev main_while1b_cst_33 : Ref sig .tc := ⟨.hbm, 233, rfl⟩
abbrev main_while1b_v124 : Ref sig .tc := ⟨.hbm, 234, rfl⟩
abbrev main_while1b_v125 : Ref sig .tc := ⟨.hbm, 235, rfl⟩
abbrev main_while1b_v126 : Ref sig .tc := ⟨.hbm, 236, rfl⟩
abbrev main_while1b_v127 : Ref sig .tc := ⟨.hbm, 237, rfl⟩
abbrev main_while1b_v128 : Ref sig .tc := ⟨.hbm, 238, rfl⟩
abbrev main_while1b_cst_34 : Ref sig .tc := ⟨.hbm, 239, rfl⟩
abbrev main_while1b_v129 : Ref sig .tc := ⟨.hbm, 240, rfl⟩
abbrev main_while1b_v130 : Ref sig .tc := ⟨.hbm, 241, rfl⟩
abbrev main_while1b_cst_35 : Ref sig .tc := ⟨.hbm, 242, rfl⟩
abbrev main_while1b_v131 : Ref sig .tc := ⟨.hbm, 243, rfl⟩
abbrev main_while1b_v132 : Ref sig .tc := ⟨.hbm, 244, rfl⟩
abbrev main_while1b_v133 : Ref sig .tc := ⟨.hbm, 245, rfl⟩
abbrev main_while1b_v134 : Ref sig .tc := ⟨.hbm, 246, rfl⟩
abbrev main_while1b_v135 : Ref sig .tc := ⟨.hbm, 247, rfl⟩
abbrev main_while1b_cst_36 : Ref sig .tc := ⟨.hbm, 248, rfl⟩
abbrev main_while1b_v136 : Ref sig .tc := ⟨.hbm, 249, rfl⟩
abbrev main_while1b_v137 : Ref sig .tc := ⟨.hbm, 250, rfl⟩
abbrev main_while1b_v138 : Ref sig .tc := ⟨.hbm, 251, rfl⟩
abbrev main_while1b_v139 : Ref sig .tc := ⟨.hbm, 252, rfl⟩
abbrev main_while1b_v140 : Ref sig .tc := ⟨.hbm, 253, rfl⟩
abbrev main_while1b_call8_v0 : Ref sig .tc := ⟨.hbm, 254, rfl⟩
abbrev main_while1b_call8_c : Ref sig .tc := ⟨.hbm, 255, rfl⟩
abbrev main_while1b_call8_c_0 : Ref sig .tc := ⟨.hbm, 256, rfl⟩
abbrev main_while1b_v141 : Ref sig .tc := ⟨.hbm, 257, rfl⟩
abbrev main_while1b_c_37 : Ref sig .tc := ⟨.hbm, 258, rfl⟩
abbrev main_while1b_v142 : Ref sig .tc := ⟨.hbm, 259, rfl⟩
abbrev main_c_21 : Ref sig .tc := ⟨.hbm, 260, rfl⟩
abbrev main_v83 : Ref sig .tc := ⟨.hbm, 261, rfl⟩
abbrev main_v84 : Ref sig .tc := ⟨.hbm, 262, rfl⟩
abbrev main_c_22 : Ref sig .tc := ⟨.hbm, 263, rfl⟩
abbrev main_v85 : Ref sig .tc := ⟨.hbm, 264, rfl⟩
abbrev main_v86 : Ref sig .tc := ⟨.hbm, 265, rfl⟩
abbrev main_v87 : Ref sig .tc := ⟨.hbm, 266, rfl⟩
abbrev main_c_23 : Ref sig .tc := ⟨.hbm, 267, rfl⟩
abbrev main_v88 : Ref sig .tc := ⟨.hbm, 268, rfl⟩
abbrev main_v89 : Ref sig .tc := ⟨.hbm, 269, rfl⟩
abbrev main_c_24 : Ref sig .tc := ⟨.hbm, 270, rfl⟩
abbrev main_v90 : Ref sig .tc := ⟨.hbm, 271, rfl⟩
abbrev main_v91 : Ref sig .tc := ⟨.hbm, 272, rfl⟩
abbrev main_v92 : Ref sig .tc := ⟨.hbm, 273, rfl⟩
abbrev main_v93 : Ref sig .tc := ⟨.hbm, 274, rfl⟩
abbrev main_v94 : Ref sig .tc := ⟨.hbm, 275, rfl⟩
abbrev main_v95 : Ref sig .tc := ⟨.hbm, 276, rfl⟩
abbrev main_v96 : Ref sig .tc := ⟨.hbm, 277, rfl⟩
abbrev main_v97 : Ref sig .tc := ⟨.hbm, 278, rfl⟩
abbrev main_v98 : Ref sig .tc := ⟨.hbm, 279, rfl⟩
abbrev main_v99 : Ref sig .tc := ⟨.hbm, 280, rfl⟩
abbrev main_v100 : Ref sig .tc := ⟨.hbm, 281, rfl⟩
abbrev main_v101 : Ref sig .tc := ⟨.hbm, 282, rfl⟩

abbrev nD : Nat := 1
abbrev τ : Topo := Topo.v7x

variable {F : FTy → Type} [FloatOps F]

abbrev main_while0_count : Scf.Loop 32 := ⟨0#32, 512#32, 1#32⟩

abbrev main_while1_count : Scf.Loop 32 := ⟨0#32, 512#32, 1#32⟩
-- ==== Proof.Words.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents type of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The step of the search at number `k`: half of the last one's, from 2048 on. -/
def stp (k : ℕ) : BitVec 32 := BitVec.ofNat 32 (2048 >>> k)

/-- The position of the search for `e` after `k` steps, given the words `w` that it has read. -/
def posW (w : ℕ → BitVec 32) (e : ℕ) : ℕ → BitVec 32
  | 0 => 0#32
  | k + 1 => Scalar.select (Scalar.andi (Scalar.cmpi .sle (Scalar.addi (posW w e k) (stp k)) 2048#32) (Scalar.cmpi .slt (w k) (BitVec.ofNat 32 e)))
      (Scalar.addi (posW w e k) (stp k)) (posW w e k)

/-- The index of the word that step `k` reads. -/
def ofs (w : ℕ → BitVec 32) (e k : ℕ) : ℕ :=
  (Scalar.indexCast (Scalar.subi (Scalar.addi (posW w e k) (stp k)) 1#32)).toNat

/-- Words `w e k` are what the searches for `e = 1 … 7` read, in bounds, in the word array `ent`; and what the program
assumes of all of them (its slabs and its loop stay inside the scratch arrays) holds. -/
structure Good (ent : ℕ → BitVec 32) (w : ℕ → ℕ → BitVec 32) : Prop where
  inb : ∀ e k, 1 ≤ e → e ≤ 7 → k < 12 → ofs (w e) e k + 1 ≤ 2048
  val : ∀ e k, 1 ≤ e → e ≤ 7 → k < 12 → ent (ofs (w e) e k) = w e k
  c78 : k0_chk78 (w 1 0) (w 1 1) (w 1 2) (w 1 3) (w 1 4) (w 1 5) (w 1 6) (w 1 7) (w 1 8) (w 1 9) (w 1 10) (w 1 11)
  c79 : k0_chk79 (w 2 0) (w 2 1) (w 2 2) (w 2 3) (w 2 4) (w 2 5) (w 2 6) (w 2 7) (w 2 8) (w 2 9) (w 2 10) (w 2 11)
  c80 : k0_chk80 (w 3 0) (w 3 1) (w 3 2) (w 3 3) (w 3 4) (w 3 5) (w 3 6) (w 3 7) (w 3 8) (w 3 9) (w 3 10) (w 3 11)
  c81 : k0_chk81 (w 4 0) (w 4 1) (w 4 2) (w 4 3) (w 4 4) (w 4 5) (w 4 6) (w 4 7) (w 4 8) (w 4 9) (w 4 10) (w 4 11)
  c82 : k0_chk82 (w 5 0) (w 5 1) (w 5 2) (w 5 3) (w 5 4) (w 5 5) (w 5 6) (w 5 7) (w 5 8) (w 5 9) (w 5 10) (w 5 11)
  c83 : k0_chk83 (w 6 0) (w 6 1) (w 6 2) (w 6 3) (w 6 4) (w 6 5) (w 6 6) (w 6 7) (w 6 8) (w 6 9) (w 6 10) (w 6 11)
  c84 : k0_chk84 (w 1 0) (w 1 1) (w 1 2) (w 1 3) (w 1 4) (w 1 5) (w 1 6) (w 1 7) (w 1 8) (w 1 9) (w 1 10) (w 1 11) (w 2 0) (w 2 1) (w 2 2) (w 2 3) (w 2 4) (w 2 5) (w 2 6) (w 2 7) (w 2 8) (w 2 9) (w 2 10) (w 2 11) (w 3 0) (w 3 1) (w 3 2) (w 3 3) (w 3 4) (w 3 5) (w 3 6) (w 3 7) (w 3 8) (w 3 9) (w 3 10) (w 3 11) (w 4 0) (w 4 1) (w 4 2) (w 4 3) (w 4 4) (w 4 5) (w 4 6) (w 4 7) (w 4 8) (w 4 9) (w 4 10) (w 4 11) (w 5 0) (w 5 1) (w 5 2) (w 5 3) (w 5 4) (w 5 5) (w 5 6) (w 5 7) (w 5 8) (w 5 9) (w 5 10) (w 5 11) (w 6 0) (w 6 1) (w 6 2) (w 6 3) (w 6 4) (w 6 5) (w 6 6) (w 6 7) (w 6 8) (w 6 9) (w 6 10) (w 6 11) (w 7 0) (w 7 1) (w 7 2) (w 7 3) (w 7 4) (w 7 5) (w 7 6) (w 7 7) (w 7 8) (w 7 9) (w 7 10) (w 7 11)

/-- A one-word rectangle at a place below 2048 lies inside the word array. -/
theorem inb_word {n : ℕ} (h : n + 1 ≤ 2048) : ∀ a, (![n] : Fin 1 → ℕ) a + S1.size a ≤ S2048.size a := by
  intro a
  match a with
  | ⟨0, _⟩ => exact h

/-- A word of the array at offset `n`, read through the scalar memory. -/
theorem read_word {c : Dev nD} {M : Memref sig .tc .smem S2048 .i32} {f : Bf (F := F) c M} {ent : ℕ → BitVec 32}
    (hf : M.view.read (Elt F) f = fun i => ent (i 0).val) {off : Fin 1 → ℕ} (inb : ∀ a, off a + S1.size a ≤ S2048.size a) {n : ℕ} (hoff : off = ![n])
    (x : (Rect.unit (s := S2048) off S1.size inb).shape.Idx) :
    (M.access (Rect.unit (s := S2048) off S1.size inb)).read (Elt F) f x = ent n := by
  subst hoff
  have h := congrFun hf ((Rect.unit (s := S2048) ![n] S1.size inb).emb x)
  refine Eq.trans ?_ (h.trans ?_)
  · rfl
  · congr 1
    have hx : (x 0).val = 0 := by have := (x 0).isLt; simp [Rect.unit] at this; omega
    simp [Rect.emb, Rect.unit, hx]

/-- A word of the array is read, and what is assumed of it holds: the program goes on at its value. -/
theorem wp_word {c : Dev nD} {M : Memref sig .tc .smem S2048 .i32} {f : Bf (F := F) c M} {ent : ℕ → BitVec 32}
    (hf : M.view.read (Elt F) f = fun i => ent (i 0).val) {off : Fin 1 → ℕ} {inb : ∀ a, off a + S1.size a ≤ S2048.size a}
    {h1 : (Rect.unit (s := S2048) off S1.size inb).shape.numel = 1} {hp : EltTy.packing .i32 = 1}
    {C : BitVec 32 → Prop} {d : ∀ v, Decidable (C v)} {α : Type} {k : ∀ v : BitVec 32, PLift (C v) → Prog (TpuEff nD τ sig (Elt F) Λ₀ .tc) α}
    {Q : α → sProp 𝕄} {n : ℕ} {v : BitVec 32} (hoff : off = ![n]) (hv : ent n = v) (hC : C v) :
    pt c M f ⊢ iprop((pt c M f -∗ wp frame (wpE (defs₀ (F := F)) Variants.none c none) Set.univ (k v ⟨hC⟩) Q)
      -∗ wp frame (wpE (defs₀ (F := F)) Variants.none c none) Set.univ
          (smemLoad M (Rect.unit (s := S2048) off S1.size inb) h1 hp >>= fun v => Prog.lift (TpuEff.assume (C v) (d v)) >>= fun h => k v h) Q) := by
  subst hv
  iintro Hpt Hk
  unfold smemLoad
  rw [smemLoadElt_bind]
  iapply (wp_smemLoadElt_named Variants.none (c : Thread nD τ) none Set.univ) $$ Hpt
  iintro Hpt %w %hw
  rw [read_word hf inb hoff] at hw
  subst hw
  iapply (wp_assume Variants.none (c : Thread nD τ) none Set.univ hC)
  iapply Hk; iexact Hpt

/-- A word of the array is read, nothing assumed of it yet. -/
theorem wp_word_last {c : Dev nD} {M : Memref sig .tc .smem S2048 .i32} {f : Bf (F := F) c M} {ent : ℕ → BitVec 32}
    (hf : M.view.read (Elt F) f = fun i => ent (i 0).val) {off : Fin 1 → ℕ} {inb : ∀ a, off a + S1.size a ≤ S2048.size a}
    {h1 : (Rect.unit (s := S2048) off S1.size inb).shape.numel = 1} {hp : EltTy.packing .i32 = 1}
    {α : Type} {k : BitVec 32 → Prog (TpuEff nD τ sig (Elt F) Λ₀ .tc) α}
    {Q : α → sProp 𝕄} {n : ℕ} {v : BitVec 32} (hoff : off = ![n]) (hv : ent n = v) :
    pt c M f ⊢ iprop((pt c M f -∗ wp frame (wpE (defs₀ (F := F)) Variants.none c none) Set.univ (k v) Q)
      -∗ wp frame (wpE (defs₀ (F := F)) Variants.none c none) Set.univ (smemLoad M (Rect.unit (s := S2048) off S1.size inb) h1 hp >>= k) Q) := by
  subst hv
  iintro Hpt Hk
  unfold smemLoad
  rw [smemLoadElt_bind]
  iapply (wp_smemLoadElt_named Variants.none (c : Thread nD τ) none Set.univ) $$ Hpt
  iintro Hpt %w %hw
  rw [read_word hf inb hoff] at hw
  subst hw
  iapply Hk; iexact Hpt

/-- What the program assumes, and holds. -/
theorem wp_assumed {c : Dev nD} {C : Prop} {d : Decidable C} {α : Type} {k : PLift C → Prog (TpuEff nD τ sig (Elt F) Λ₀ .tc) α}
    {Q : α → sProp 𝕄} (hC : C) :
    wp frame (wpE (defs₀ (F := F)) Variants.none c none) Set.univ (k ⟨hC⟩) Q
      ⊢ wp frame (wpE (defs₀ (F := F)) Variants.none c none) Set.univ (Prog.lift (TpuEff.assume C d) >>= k) Q :=
  wp_assume Variants.none (c : Thread nD τ) none Set.univ hC

/-- A program that is over: its value meets what follows. -/
theorem wp_done {c : Dev nD} {α : Type} {a : α} {Q : α → sProp 𝕄} :
    Q a ⊢ wp frame (wpE (defs₀ (F := F)) Variants.none c none) Set.univ (Prog.ret a) Q := by
  rw [wp_ret]
  iintro H
  imodintro
  iexact H

/-- The same, the value given in another form. -/
theorem wp_done_eq {c : Dev nD} {α : Type} {a b : α} {Q : α → sProp 𝕄} (h : b = a) :
    Q a ⊢ wp frame (wpE (defs₀ (F := F)) Variants.none c none) Set.univ (Prog.ret b) Q := by
  subst h; exact wp_done

end Cert.KernelIdeal.Hand
end
-- ==== Proof.Offsets.lean ====
module

public import proofs.«01_k».proof.Proof.Words

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! The offsets of the slabs and the bounds of the loop, from the seven positions that the searches end at. -/

/-- The sign of a word. -/
def sgn (a : BitVec 32) : BitVec 32 := Scalar.subi (Scalar.extui (Scalar.cmpi .sgt a 0#32)) (Scalar.extui (Scalar.cmpi .slt a 0#32))

/-- Division of words that rounds down. -/
def fdiv (a d : BitVec 32) : BitVec 32 :=
  Scalar.select (Scalar.andi (Scalar.cmpi .ne (sgn a) (sgn d)) (Scalar.cmpi .ne (Scalar.remsi a d) 0#32)) (Scalar.subi (Scalar.divsi a d) 1#32) (Scalar.divsi a d)

/-- Where the slab of a segment that starts at `a` starts. -/
def slab (a : BitVec 32) : ℕ := (Scalar.indexCast (Scalar.muli (fdiv a 8#32) 8#32)).toNat

/-- How far into its slab a segment that starts at `a` starts. -/
def lead (a : BitVec 32) : BitVec 32 := Scalar.subi a (Scalar.muli (fdiv a 8#32) 8#32)

/-- How long the loop goes, for segments with the boundaries `a 0`, …, `a 7`. -/
def lastW (a : ℕ → BitVec 32) : BitVec 32 :=
  Scalar.maxsi (Scalar.maxsi (Scalar.maxsi (Scalar.maxsi (Scalar.maxsi (Scalar.maxsi (Scalar.maxsi
    (Scalar.addi (Scalar.subi (a 1) (a 0)) (lead (a 0))) (Scalar.addi (Scalar.subi (a 2) (a 1)) (lead (a 1))))
    (Scalar.addi (Scalar.subi (a 3) (a 2)) (lead (a 2)))) (Scalar.addi (Scalar.subi (a 4) (a 3)) (lead (a 3))))
    (Scalar.addi (Scalar.subi (a 5) (a 4)) (lead (a 4)))) (Scalar.addi (Scalar.subi (a 6) (a 5)) (lead (a 5))))
    (Scalar.addi (Scalar.subi (a 7) (a 6)) (lead (a 6)))) (Scalar.addi (Scalar.subi 2048#32 (a 7)) (lead (a 7)))

/-- How many trips of four the loop makes. -/
def tripsW (a : ℕ → BitVec 32) : BitVec 32 := Scalar.subi (fdiv (Scalar.addi (lastW a) 4#32) 4#32) 0#32

/-- The loop. -/
def loopA (a : ℕ → BitVec 32) : Scf.Loop 32 := ⟨0#32, Scalar.addi 0#32 (Scalar.muli (Scalar.divsi (tripsW a) 1#32) 1#32), 1#32⟩

/-- What is left over of the loop: nothing. -/
def loopB (a : ℕ → BitVec 32) : Scf.Loop 32 :=
  ⟨Scalar.addi 0#32 (Scalar.muli (Scalar.divsi (tripsW a) 1#32) 1#32), Scalar.addi 0#32 (tripsW a), 1#32⟩

/-- The boundaries of the segments, from the words read. -/
def bnd (w : ℕ → ℕ → BitVec 32) : ℕ → BitVec 32
  | 0 => 0#32
  | e + 1 => posW (w (e + 1)) (e + 1) 12

variable (w : ℕ → ℕ → BitVec 32)
theorem off86_w : k0_off86 (w 1 0) (w 1 1) (w 1 2) (w 1 3) (w 1 4) (w 1 5) (w 1 6) (w 1 7) (w 1 8) (w 1 9) (w 1 10) (w 1 11) = ![slab (bnd w 1), 0] := rfl
theorem off87_w : k0_off87 (w 2 0) (w 2 1) (w 2 2) (w 2 3) (w 2 4) (w 2 5) (w 2 6) (w 2 7) (w 2 8) (w 2 9) (w 2 10) (w 2 11) = ![slab (bnd w 2), 0] := rfl
theorem off88_w : k0_off88 (w 3 0) (w 3 1) (w 3 2) (w 3 3) (w 3 4) (w 3 5) (w 3 6) (w 3 7) (w 3 8) (w 3 9) (w 3 10) (w 3 11) = ![slab (bnd w 3), 0] := rfl
theorem off89_w : k0_off89 (w 4 0) (w 4 1) (w 4 2) (w 4 3) (w 4 4) (w 4 5) (w 4 6) (w 4 7) (w 4 8) (w 4 9) (w 4 10) (w 4 11) = ![slab (bnd w 4), 0] := rfl
theorem off90_w : k0_off90 (w 5 0) (w 5 1) (w 5 2) (w 5 3) (w 5 4) (w 5 5) (w 5 6) (w 5 7) (w 5 8) (w 5 9) (w 5 10) (w 5 11) = ![slab (bnd w 5), 0] := rfl
theorem off91_w : k0_off91 (w 6 0) (w 6 1) (w 6 2) (w 6 3) (w 6 4) (w 6 5) (w 6 6) (w 6 7) (w 6 8) (w 6 9) (w 6 10) (w 6 11) = ![slab (bnd w 6), 0] := rfl
theorem off92_w : k0_off92 (w 7 0) (w 7 1) (w 7 2) (w 7 3) (w 7 4) (w 7 5) (w 7 6) (w 7 7) (w 7 8) (w 7 9) (w 7 10) (w 7 11) = ![slab (bnd w 7), 0] := rfl
theorem off98_w : k0_off98 (w 1 0) (w 1 1) (w 1 2) (w 1 3) (w 1 4) (w 1 5) (w 1 6) (w 1 7) (w 1 8) (w 1 9) (w 1 10) (w 1 11) = ![slab (bnd w 1), 0] := rfl
theorem off99_w : k0_off99 (w 2 0) (w 2 1) (w 2 2) (w 2 3) (w 2 4) (w 2 5) (w 2 6) (w 2 7) (w 2 8) (w 2 9) (w 2 10) (w 2 11) = ![slab (bnd w 2), 0] := rfl
theorem off100_w : k0_off100 (w 3 0) (w 3 1) (w 3 2) (w 3 3) (w 3 4) (w 3 5) (w 3 6) (w 3 7) (w 3 8) (w 3 9) (w 3 10) (w 3 11) = ![slab (bnd w 3), 0] := rfl
theorem off101_w : k0_off101 (w 4 0) (w 4 1) (w 4 2) (w 4 3) (w 4 4) (w 4 5) (w 4 6) (w 4 7) (w 4 8) (w 4 9) (w 4 10) (w 4 11) = ![slab (bnd w 4), 0] := rfl
theorem off102_w : k0_off102 (w 5 0) (w 5 1) (w 5 2) (w 5 3) (w 5 4) (w 5 5) (w 5 6) (w 5 7) (w 5 8) (w 5 9) (w 5 10) (w 5 11) = ![slab (bnd w 5), 0] := rfl
theorem off103_w : k0_off103 (w 6 0) (w 6 1) (w 6 2) (w 6 3) (w 6 4) (w 6 5) (w 6 6) (w 6 7) (w 6 8) (w 6 9) (w 6 10) (w 6 11) = ![slab (bnd w 6), 0] := rfl
theorem off104_w : k0_off104 (w 7 0) (w 7 1) (w 7 2) (w 7 3) (w 7 4) (w 7 5) (w 7 6) (w 7 7) (w 7 8) (w 7 9) (w 7 10) (w 7 11) = ![slab (bnd w 7), 0] := rfl
set_option maxRecDepth 65536 in
theorem loopA_w : k0_t1_loop (w 1 0) (w 1 1) (w 1 2) (w 1 3) (w 1 4) (w 1 5) (w 1 6) (w 1 7) (w 1 8) (w 1 9) (w 1 10) (w 1 11) (w 2 0) (w 2 1) (w 2 2) (w 2 3) (w 2 4) (w 2 5) (w 2 6) (w 2 7) (w 2 8) (w 2 9) (w 2 10) (w 2 11) (w 3 0) (w 3 1) (w 3 2) (w 3 3) (w 3 4) (w 3 5) (w 3 6) (w 3 7) (w 3 8) (w 3 9) (w 3 10) (w 3 11) (w 4 0) (w 4 1) (w 4 2) (w 4 3) (w 4 4) (w 4 5) (w 4 6) (w 4 7) (w 4 8) (w 4 9) (w 4 10) (w 4 11) (w 5 0) (w 5 1) (w 5 2) (w 5 3) (w 5 4) (w 5 5) (w 5 6) (w 5 7) (w 5 8) (w 5 9) (w 5 10) (w 5 11) (w 6 0) (w 6 1) (w 6 2) (w 6 3) (w 6 4) (w 6 5) (w 6 6) (w 6 7) (w 6 8) (w 6 9) (w 6 10) (w 6 11) (w 7 0) (w 7 1) (w 7 2) (w 7 3) (w 7 4) (w 7 5) (w 7 6) (w 7 7) (w 7 8) (w 7 9) (w 7 10) (w 7 11) = loopA (bnd w) := rfl
set_option maxRecDepth 65536 in
theorem loopB_w : k0_t2_loop (w 1 0) (w 1 1) (w 1 2) (w 1 3) (w 1 4) (w 1 5) (w 1 6) (w 1 7) (w 1 8) (w 1 9) (w 1 10) (w 1 11) (w 2 0) (w 2 1) (w 2 2) (w 2 3) (w 2 4) (w 2 5) (w 2 6) (w 2 7) (w 2 8) (w 2 9) (w 2 10) (w 2 11) (w 3 0) (w 3 1) (w 3 2) (w 3 3) (w 3 4) (w 3 5) (w 3 6) (w 3 7) (w 3 8) (w 3 9) (w 3 10) (w 3 11) (w 4 0) (w 4 1) (w 4 2) (w 4 3) (w 4 4) (w 4 5) (w 4 6) (w 4 7) (w 4 8) (w 4 9) (w 4 10) (w 4 11) (w 5 0) (w 5 1) (w 5 2) (w 5 3) (w 5 4) (w 5 5) (w 5 6) (w 5 7) (w 5 8) (w 5 9) (w 5 10) (w 5 11) (w 6 0) (w 6 1) (w 6 2) (w 6 3) (w 6 4) (w 6 5) (w 6 6) (w 6 7) (w 6 8) (w 6 9) (w 6 10) (w 6 11) (w 7 0) (w 7 1) (w 7 2) (w 7 3) (w 7 4) (w 7 5) (w 7 6) (w 7 7) (w 7 8) (w 7 9) (w 7 10) (w 7 11) = loopB (bnd w) := rfl

end Cert.KernelIdeal.Hand
end
-- ==== Proof.Ints.lean ====
module

public import proofs.«01_k».proof.Proof.Offsets
public import Idealize.ShloMosaic.Lib.LoopRemainder
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! The integers of the program: what its divisions and its seven searches are, for segments that fit. -/

theorem natOf {n : ℕ} (h : n < 2 ^ 31) : (BitVec.ofNat 32 n).toNat = n := by
  rw [BitVec.toNat_ofNat, Nat.mod_eq_of_lt (by omega)]

theorem msbOf {n : ℕ} (h : n < 2 ^ 31) : (BitVec.ofNat 32 n).msb = false := by
  rw [BitVec.msb_eq_false_iff_two_mul_lt, natOf h]
  omega

theorem noCorner {s d : ℕ} (hd : 0 < d) (hd' : d < 2 ^ 31) : ¬ IntOp.SDivCorner (BitVec.ofNat 32 s) (BitVec.ofNat 32 d) := by
  rintro (h | ⟨-, h⟩)
  · have := congrArg BitVec.toNat h
    rw [natOf hd'] at this
    exact absurd this (by simp; omega)
  · have := congrArg BitVec.msb h
    rw [msbOf hd'] at this
    exact absurd this (by decide)

theorem divsi_ofNat {s d : ℕ} (hs : s < 2 ^ 31) (hd : 0 < d) (hd' : d < 2 ^ 31) :
    Scalar.divsi (BitVec.ofNat 32 s) (BitVec.ofNat 32 d) = BitVec.ofNat 32 (s / d) := by
  show (if IntOp.SDivCorner _ _ then _ else _) = _
  rw [if_neg (noCorner hd hd'), BitVec.sdiv_eq, msbOf hs, msbOf hd']
  apply BitVec.eq_of_toNat_eq
  show (BitVec.ofNat 32 s / BitVec.ofNat 32 d).toNat = _
  have : s / d ≤ s := Nat.div_le_self _ _
  rw [BitVec.toNat_udiv, natOf hs, natOf hd', natOf (by omega)]

theorem sgn_pos {s : ℕ} (h0 : 0 < s) (h : s < 2 ^ 31) : sgn (BitVec.ofNat 32 s) = 1#32 := by
  have e1 : Scalar.cmpi .sgt (BitVec.ofNat 32 s) 0#32 = 1#1 := by
    show IntOp.cmpi .sgt (BitVec.ofNat 32 s) (BitVec.ofNat 32 0) = _
    rw [WordCmp.cmpi_sgt_ofNat h (by omega), decide_eq_true h0]
    rfl
  have e2 : Scalar.cmpi .slt (BitVec.ofNat 32 s) 0#32 = 0#1 := by
    show IntOp.cmpi .slt (BitVec.ofNat 32 s) (BitVec.ofNat 32 0) = _
    rw [WordCmp.cmpi_slt_ofNat h (by omega), decide_eq_false (by omega)]
    rfl
  rw [sgn, e1, e2]
  rfl

theorem fdiv_ofNat {s d : ℕ} (hs : s < 2 ^ 31) (hd : 0 < d) (hd' : d < 2 ^ 31) :
    fdiv (BitVec.ofNat 32 s) (BitVec.ofNat 32 d) = BitVec.ofNat 32 (s / d) := by
  rw [fdiv, divsi_ofNat hs hd hd', Scalar.select, if_neg]
  rcases Nat.eq_zero_or_pos s with rfl | h
  · have e : Scalar.remsi (BitVec.ofNat 32 0) (BitVec.ofNat 32 d) = 0#32 := by
      show (if IntOp.SDivCorner _ _ then _ else _) = _
      rw [if_neg (noCorner hd hd'), BitVec.srem_eq, msbOf hd']
      show BitVec.ofNat 32 0 % BitVec.ofNat 32 d = 0#32
      exact BitVec.zero_umod
    rw [e]
    show ¬ (_ &&& (0#1) = 1#1)
    rw [BitVec.and_zero]
    decide
  · rw [sgn_pos h hs, sgn_pos hd hd']
    show ¬ ((0#1) &&& _ = 1#1)
    rw [BitVec.zero_and]
    decide

theorem slab_ofNat {s : ℕ} (hs : s ≤ 2048) : slab (BitVec.ofNat 32 s) = s / 8 * 8 := by
  rw [slab, fdiv_ofNat (d := 8) (by omega) (by omega) (by omega)]
  show (BitVec.ofNat 32 (s / 8) * BitVec.ofNat 32 8).toNat = _
  rw [← BitVec.ofNat_mul, natOf (by omega)]

theorem lead_ofNat {s : ℕ} (hs : s ≤ 2048) : lead (BitVec.ofNat 32 s) = BitVec.ofNat 32 (s % 8) := by
  rw [lead, fdiv_ofNat (d := 8) (by omega) (by omega) (by omega)]
  show BitVec.ofNat 32 s - BitVec.ofNat 32 (s / 8) * BitVec.ofNat 32 8 = _
  rw [← BitVec.ofNat_mul]
  conv_lhs => rw [show s = s % 8 + s / 8 * 8 by omega, BitVec.ofNat_add]
  rw [show (s % 8 + s / 8 * 8) / 8 * 8 = s / 8 * 8 by omega]
  exact BitVec.add_sub_cancel _ _

theorem subi_ofNat {a b : ℕ} (h : b ≤ a) : Scalar.subi (BitVec.ofNat 32 a) (BitVec.ofNat 32 b) = BitVec.ofNat 32 (a - b) := by
  show BitVec.ofNat 32 a - BitVec.ofNat 32 b = _
  conv_lhs => rw [show a = (a - b) + b by omega, BitVec.ofNat_add]
  exact BitVec.add_sub_cancel _ _

theorem addi_ofNat (a b : ℕ) : Scalar.addi (BitVec.ofNat 32 a) (BitVec.ofNat 32 b) = BitVec.ofNat 32 (a + b) := (BitVec.ofNat_add _ _).symm

theorem maxsi_ofNat {a b : ℕ} (ha : a < 2 ^ 31) (hb : b < 2 ^ 31) :
    Scalar.maxsi (BitVec.ofNat 32 a) (BitVec.ofNat 32 b) = BitVec.ofNat 32 (max a b) := by
  show (if (BitVec.ofNat 32 b).slt (BitVec.ofNat 32 a) then _ else _) = _
  have e : (BitVec.ofNat 32 b).slt (BitVec.ofNat 32 a) = decide (b < a) := by
    rw [BitVec.slt, BitVec.toInt_eq_toNat_of_lt (by rw [natOf hb]; omega), BitVec.toInt_eq_toNat_of_lt (by rw [natOf ha]; omega), natOf ha, natOf hb]
    simp
  rw [e]
  by_cases h : b < a
  · rw [decide_eq_true h, if_pos rfl, max_eq_left (by omega)]
  · rw [decide_eq_false h, if_neg (by decide), max_eq_right (by omega)]

/-- What the claim asks of the segment ids: ids 0 to 7 in order, the last one 7, and no segment longer than 512. -/
structure Segs (ent : ℕ → BitVec 32) : Prop where
  le7 : ∀ i, i < 2048 → (ent i).toNat ≤ 7
  last : (ent 2047).toNat = 7
  mono : ∀ i j, i ≤ j → j < 2048 → (ent i).toNat ≤ (ent j).toNat
  gap : ∀ i, i + 512 < 2048 → (ent i).toNat < (ent (i + 512)).toNat

/-- The search for `e`, in whole numbers. -/
def pos (ent : ℕ → BitVec 32) (e : ℕ) : ℕ → ℕ
  | 0 => 0
  | k + 1 => if pos ent e k + 2048 >>> k ≤ 2048 ∧ (ent (pos ent e k + 2048 >>> k - 1)).toNat < e then pos ent e k + 2048 >>> k else pos ent e k

/-- The word that step `k` of the search for `e` reads. -/
def rd (ent : ℕ → BitVec 32) (e k : ℕ) : BitVec 32 := ent (pos ent e k + 2048 >>> k - 1)

variable {ent : ℕ → BitVec 32}

theorem shr_succ (k : ℕ) (hk : k < 11) : 2048 >>> k = 2 * (2048 >>> (k + 1)) ∧ 1 ≤ 2048 >>> (k + 1) := by
  have : ∀ k < 11, (2048 >>> k : ℕ) = 2 * (2048 >>> (k + 1)) ∧ (1 : ℕ) ≤ 2048 >>> (k + 1) := by decide
  exact this k hk

/-- After `k + 1` steps: everything before the position is below `e`; what lies a step further is not. -/
theorem pos_inv (h : Segs ent) {e : ℕ} (he : e ≤ 7) : ∀ k, k < 12 → pos ent e (k + 1) + 2048 >>> k ≤ 2048 ∧
    (∀ i, i < pos ent e (k + 1) → (ent i).toNat < e) ∧ ∀ i, pos ent e (k + 1) + 2048 >>> k - 1 ≤ i → i < 2048 → e ≤ (ent i).toNat := by
  intro k
  induction k with
  | zero =>
    intro _
    have e1 : pos ent e 1 = 0 := by
      show (if (0 + 2048 : ℕ) ≤ 2048 ∧ (ent 2047).toNat < e then _ else _) = 0
      rw [if_neg (by rw [h.last]; omega)]
      rfl
    rw [e1]
    refine ⟨by decide, fun i hi => absurd hi (by omega), fun i hi hi' => ?_⟩
    have : i = 2047 := by
      have : (2048 >>> 0 : ℕ) = 2048 := rfl
      omega
    rw [this, h.last]
    exact he
  | succ k ih =>
    intro hk
    obtain ⟨h1, h2, h3⟩ := ih (by omega)
    obtain ⟨s1, s2⟩ := shr_succ k (by omega)
    have es : pos ent e (k + 2) = if pos ent e (k + 1) + 2048 >>> (k + 1) ≤ 2048 ∧ (ent (pos ent e (k + 1) + 2048 >>> (k + 1) - 1)).toNat < e then
      pos ent e (k + 1) + 2048 >>> (k + 1) else pos ent e (k + 1) := rfl
    show pos ent e (k + 2) + _ ≤ _ ∧ _
    rw [es]
    generalize pos ent e (k + 1) = p at *
    generalize 2048 >>> (k + 1) = s at *
    generalize 2048 >>> k = s' at *
    subst s1
    split
    · next hc =>
      refine ⟨by omega, fun i hi => ?_, fun i hi hi' => h3 i (by omega) hi'⟩
      have := h.mono i (p + s - 1) (by omega) (by omega)
      omega
    · next hc =>
      refine ⟨by omega, h2, fun i hi hi' => ?_⟩
      have := h.mono (p + s - 1) i (by omega) hi'
      have : ¬ (ent (p + s - 1)).toNat < e := fun hlt => hc ⟨by omega, hlt⟩
      omega

theorem pos_le (h : Segs ent) {e k : ℕ} (he : e ≤ 7) (hk : k < 12) : pos ent e k + 2048 >>> k ≤ 2048 ∧ 1 ≤ 2048 >>> k := by
  rcases k with _ | k
  · exact ⟨le_rfl, by decide⟩
  · have := (pos_inv h he k (by omega)).1
    have := shr_succ k (by omega)
    omega

theorem posW_eq (h : Segs ent) {e : ℕ} (he : e ≤ 7) : ∀ k, k ≤ 12 → posW (rd ent e) e k = BitVec.ofNat 32 (pos ent e k) := by
  intro k
  induction k with
  | zero => intro _; rfl
  | succ k ih =>
    intro hk
    have hp := pos_le h he (show k < 12 by omega)
    have hr : (rd ent e k).toNat ≤ 7 := h.le7 _ (by omega)
    show Scalar.select (Scalar.andi (Scalar.cmpi .sle (Scalar.addi (posW (rd ent e) e k) (stp k)) 2048#32) (Scalar.cmpi .slt (rd ent e k) (BitVec.ofNat 32 e)))
      (Scalar.addi (posW (rd ent e) e k) (stp k)) (posW (rd ent e) e k) = _
    rw [ih (by omega), stp, addi_ofNat]
    have c1 : Scalar.cmpi .sle (BitVec.ofNat 32 (pos ent e k + 2048 >>> k)) 2048#32 = 1#1 := by
      show IntOp.cmpi .sle _ (BitVec.ofNat 32 2048) = _
      rw [WordCmp.cmpi_sle_ofNat (by omega) (by omega), decide_eq_true hp.1]
      rfl
    have c2 : Scalar.cmpi .slt (rd ent e k) (BitVec.ofNat 32 e) = BitVec.ofBool (decide ((rd ent e k).toNat < e)) := by
      show IntOp.cmpi .slt _ _ = _
      rw [WordCmp.cmpi_slt_of_lt (by omega) (by rw [natOf (by omega)]; omega), natOf (by omega)]
    rw [c1, c2]
    have es : pos ent e (k + 1) = if pos ent e k + 2048 >>> k ≤ 2048 ∧ (ent (pos ent e k + 2048 >>> k - 1)).toNat < e then
      pos ent e k + 2048 >>> k else pos ent e k := rfl
    by_cases hc : (rd ent e k).toNat < e
    · rw [es, if_pos ⟨hp.1, hc⟩, decide_eq_true hc]
      rfl
    · rw [es, if_neg (fun hh => hc hh.2), decide_eq_false hc]
      rfl

/-- Where segment `e` starts; segment 8 would start at the end. -/
def seg (ent : ℕ → BitVec 32) (e : ℕ) : ℕ := if e = 0 then 0 else if e ≤ 7 then pos ent e 12 else 2048

theorem seg_spec (h : Segs ent) (e : ℕ) : seg ent e ≤ 2048 ∧ ∀ i, i < 2048 → (i < seg ent e ↔ (ent i).toNat < e) := by
  unfold seg
  split
  · next h0 => subst h0; exact ⟨by omega, fun i hi => by omega⟩
  split
  · next h7 =>
    obtain ⟨h1, h2, h3⟩ := pos_inv h h7 11 (by omega)
    have e1 : (2048 >>> 11 : ℕ) = 1 := rfl
    have e2 : (11 + 1 : ℕ) = 12 := rfl
    rw [e1, e2] at h1 h3
    refine ⟨by omega, fun i hi => ⟨h2 i, fun hlt => ?_⟩⟩
    by_contra hc
    have := h3 i (by omega) hi
    omega
  · exact ⟨le_rfl, fun i hi => ⟨fun _ => by have := h.le7 i hi; omega, fun _ => hi⟩⟩

theorem seg_mono (h : Segs ent) (e : ℕ) : seg ent e ≤ seg ent (e + 1) ∧ seg ent (e + 1) ≤ seg ent e + 512 := by
  have h1 := seg_spec h e
  have h2 := seg_spec h (e + 1)
  constructor
  · by_contra hc
    have := (h1.2 (seg ent (e + 1)) (by omega)).mp (by omega)
    have := (h2.2 (seg ent (e + 1)) (by omega)).mpr (by omega)
    omega
  · by_contra hc
    have a := (h2.2 (seg ent e + 512) (by omega)).mp (by omega)
    have b := h.gap (seg ent e) (by omega)
    have := (h1.2 (seg ent e) (by omega)).mpr (by omega)
    omega

theorem bnd_rd (h : Segs ent) {e : ℕ} (he : e ≤ 7) : bnd (rd ent) e = BitVec.ofNat 32 (seg ent e) := by
  rcases e with _ | e
  · rfl
  · show posW (rd ent (e + 1)) (e + 1) 12 = _
    rw [posW_eq h he 12 le_rfl, seg, if_neg (by omega), if_pos he]

/-- How far segment `e` reaches into its slab. -/
def reach (s : ℕ → ℕ) (e : ℕ) : ℕ := s (e + 1) - s e + s e % 8

/-- How long the longest reach is. -/
def longest (s : ℕ → ℕ) : ℕ :=
  max (max (max (max (max (max (max (reach s 0) (reach s 1)) (reach s 2)) (reach s 3)) (reach s 4)) (reach s 5)) (reach s 6)) (reach s 7)

/-- Boundaries of segments that fit: at most 512 apart, the last at 2048. -/
structure Fits (s : ℕ → ℕ) : Prop where
  le : ∀ e, s e ≤ 2048
  mono : ∀ e, s e ≤ s (e + 1) ∧ s (e + 1) ≤ s e + 512
  s0 : s 0 = 0
  s8 : s 8 = 2048
  lt : ∀ e, e ≤ 7 → s e ≤ 2047

theorem fits_seg (h : Segs ent) : Fits (seg ent) := ⟨fun e => (seg_spec h e).1, seg_mono h, rfl, rfl, fun e he => by
  have := (seg_spec h e).2 2047 (by omega)
  rw [h.last] at this
  omega⟩

variable {s : ℕ → ℕ}

theorem reach_le (hs : Fits s) (e : ℕ) : reach s e ≤ 519 := by
  have := hs.mono e
  unfold reach
  omega

theorem longest_le (hs : Fits s) : longest s ≤ 519 := by
  unfold longest
  simp only [max_le_iff]
  exact ⟨⟨⟨⟨⟨⟨⟨reach_le hs 0, reach_le hs 1⟩, reach_le hs 2⟩, reach_le hs 3⟩, reach_le hs 4⟩, reach_le hs 5⟩, reach_le hs 6⟩, reach_le hs 7⟩

theorem reach_le_longest (e : ℕ) (he : e ≤ 7) : reach s e ≤ longest s := by
  unfold longest
  have : e = 0 ∨ e = 1 ∨ e = 2 ∨ e = 3 ∨ e = 4 ∨ e = 5 ∨ e = 6 ∨ e = 7 := by omega
  rcases this with rfl | rfl | rfl | rfl | rfl | rfl | rfl | rfl <;> omega

theorem lastW_eq (hs : Fits s) {a : ℕ → BitVec 32} (ha : ∀ e, e ≤ 7 → a e = BitVec.ofNat 32 (s e)) : lastW a = BitVec.ofNat 32 (longest s) := by
  have step : ∀ e, e ≤ 7 → Scalar.addi (Scalar.subi (BitVec.ofNat 32 (s (e + 1))) (BitVec.ofNat 32 (s e))) (lead (BitVec.ofNat 32 (s e))) = BitVec.ofNat 32 (reach s e) := by
    intro e _
    rw [lead_ofNat (hs.le e), subi_ofNat (hs.mono e).1, addi_ofNat]
    rfl
  have h7 : Scalar.addi (Scalar.subi 2048#32 (BitVec.ofNat 32 (s 7))) (lead (BitVec.ofNat 32 (s 7))) = BitVec.ofNat 32 (reach s 7) := by
    rw [← step 7 le_rfl, hs.s8]
  have r := reach_le hs
  unfold lastW longest
  rw [ha 0 (by omega), ha 1 (by omega), ha 2 (by omega), ha 3 (by omega), ha 4 (by omega), ha 5 (by omega), ha 6 (by omega), ha 7 (by omega),
    step 0 (by omega), step 1 (by omega), step 2 (by omega), step 3 (by omega), step 4 (by omega), step 5 (by omega), step 6 (by omega), h7]
  have := r 0; have := r 1; have := r 2; have := r 3; have := r 4; have := r 5; have := r 6; have := r 7
  rw [maxsi_ofNat, maxsi_ofNat, maxsi_ofNat, maxsi_ofNat, maxsi_ofNat, maxsi_ofNat, maxsi_ofNat] <;> omega

/-- How many trips the loop makes. -/
def tripsN (s : ℕ → ℕ) : ℕ := (longest s + 4) / 4

theorem tripsN_le (hs : Fits s) : tripsN s ≤ 130 := by
  have := longest_le hs
  unfold tripsN
  omega

theorem tripsW_eq (hs : Fits s) {a : ℕ → BitVec 32} (ha : ∀ e, e ≤ 7 → a e = BitVec.ofNat 32 (s e)) : tripsW a = BitVec.ofNat 32 (tripsN s) := by
  have := longest_le hs
  rw [tripsW, lastW_eq hs ha, addi_ofNat, fdiv_ofNat (d := 4) (by omega) (by omega) (by omega), subi_ofNat (b := 0) (by omega)]
  rfl

theorem loopA_ub (hs : Fits s) {a : ℕ → BitVec 32} (ha : ∀ e, e ≤ 7 → a e = BitVec.ofNat 32 (s e)) :
    Scalar.addi 0#32 (Scalar.muli (Scalar.divsi (tripsW a) 1#32) 1#32) = BitVec.ofNat 32 (tripsN s) := by
  rw [Scalar.muli_divsi_one, tripsW_eq hs ha]
  exact BitVec.zero_add _

theorem loopA_trips (hs : Fits s) {a : ℕ → BitVec 32} (ha : ∀ e, e ≤ 7 → a e = BitVec.ofNat 32 (s e)) : (loopA a).trips = tripsN s := by
  have := tripsN_le hs
  show Scf.trips 0#32 (Scalar.addi 0#32 (Scalar.muli (Scalar.divsi (tripsW a) 1#32) 1#32)) 1#32 = _
  rw [loopA_ub hs ha, Scf.trips, BitVec.toInt_eq_toNat_of_lt (by rw [natOf (by omega)]; omega), natOf (by omega)]
  have e1 : (1#32 : BitVec 32).toInt = 1 := by decide
  have e0 : (0#32 : BitVec 32).toInt = 0 := by decide
  rw [e1, e0]
  omega

theorem loopA_ok (hs : Fits s) {a : ℕ → BitVec 32} (ha : ∀ e, e ≤ 7 → a e = BitVec.ofNat 32 (s e)) : (loopA a).OK := by
  have := tripsN_le hs
  have e1 : (1#32 : BitVec 32).toInt = 1 := by decide
  have e0 : (0#32 : BitVec 32).toInt = 0 := by decide
  refine ⟨by show 0 < (1#32 : BitVec 32).toInt; rw [e1]; omega, ?_⟩
  show (0#32 : BitVec 32).toInt + (loopA a).trips * (1#32 : BitVec 32).toInt < _
  rw [loopA_trips hs ha, e1, e0]
  omega

theorem loopB_trips (a : ℕ → BitVec 32) : (loopB a).trips = 0 := Scf.rem_trips 0#32 (tripsW a)

theorem loopB_ok (hs : Fits s) {a : ℕ → BitVec 32} (ha : ∀ e, e ≤ 7 → a e = BitVec.ofNat 32 (s e)) : (loopB a).OK := by
  have := tripsN_le hs
  have e1 : (1#32 : BitVec 32).toInt = 1 := by decide
  refine ⟨by show 0 < (1#32 : BitVec 32).toInt; rw [e1]; omega, ?_⟩
  show (Scalar.addi 0#32 (Scalar.muli (Scalar.divsi (tripsW a) 1#32) 1#32)).toInt + (loopB a).trips * (1#32 : BitVec 32).toInt < _
  rw [loopB_trips, loopA_ub hs ha, BitVec.toInt_eq_toNat_of_lt (by rw [natOf (by omega)]; omega), natOf (by omega), e1]
  omega

end Cert.KernelIdeal.Hand
end
-- ==== Proof.Arrays.lean ====
module

public import Idealize.ShloMosaic.Lib.VecWindow
public import proofs.«01_k».proof.Proof.Words

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! Scratch arrays held as the arrays that are read through them: loads read windows, stores put them. -/

/-- Memref `M` held whole on core `c`, its buffer read through it as the array `A`. -/
def ar (c : Dev nD) {sp : Space} {S : Shape} {e : EltTy} (M : Memref sig .tc sp S e) (A : S.Idx → Elt F e) : sProp 𝕄 :=
  iprop(∃ f : Bf (F := F) c M, pt c M f ∗ ⌜M.view.read (Elt F) f = A⌝)

theorem ar_intro {c : Dev nD} {sp : Space} {S : Shape} {e : EltTy} {M : Memref sig .tc sp S e} {A : S.Idx → Elt F e} {f : Bf (F := F) c M}
    (h : M.view.read (Elt F) f = A) : pt c M f ⊢ ar c M A := by
  iintro H
  unfold ar
  iexists f
  isplitl [H]
  · iexact H
  · ipureintro; exact h

/-- A load of a window: the program goes on at that window of the array. -/
theorem wp_ld {c : Dev nD} {cs : CoreSpace} {S : Shape} {e : EltTy} {M : Memref sig .tc cs S e} {A : S.Idx → Elt F e}
    {off off' size : Fin S.rank → ℕ} {inb : ∀ a, off a + size a ≤ S.size a} {hl : M.view.LoadsAt (Rect.unit (s := S) off size inb).toLoadRect}
    {α : Type} {k : ((Rect.unit (s := S) off size inb).shape.Idx → Elt F e) → Prog (TpuEff nD τ sig (Elt F) Λ₀ .tc) α} {Q : α → sProp 𝕄}
    (h : off = off') (inb' : ∀ a, off' a + size a ≤ S.size a) :
    ar c M A ⊢ iprop((ar c M A -∗ wp frame (wpE (defs₀ (F := F)) Variants.none c none) Set.univ (k (VecWindow.window A off' size inb')) Q)
      -∗ wp frame (wpE (defs₀ (F := F)) Variants.none c none) Set.univ
          (Prog.lift (.load M (Rect.unit (s := S) off size inb).toLoadRect hl) >>= k) Q) := by
  subst h
  iintro Ha Hk
  unfold ar
  icases Ha with ⟨%f, Hf, %hf⟩
  subst hf
  iapply (wp_load Variants.none (c : Thread nD τ) none Set.univ (Finset.subset_univ _)) $$ Hf
  iintro Hf
  iapply Hk
  iexists f
  isplitl [Hf]
  · iexact Hf
  · ipureintro; rfl

/-- A store of a window: the array has the payload there. -/
theorem wp_st {c : Dev nD} {cs : CoreSpace} {S : Shape} {e : EltTy} {M : Memref sig .tc cs S e} {A : S.Idx → Elt F e}
    {off off' size : Fin S.rank → ℕ} {inb : ∀ a, off a + size a ≤ S.size a} {w : (Rect.unit (s := S) off size inb).shape.Idx → Elt F e}
    {hx : (M.access (Rect.unit (s := S) off size inb)).Stores Finset.univ} {hm}
    {α : Type} {k : PUnit → Prog (TpuEff nD τ sig (Elt F) Λ₀ .tc) α} {Q : α → sProp 𝕄}
    (h : off = off') :
    ar c M A ⊢ iprop((ar c M (VecWindow.put A off' size w) -∗ wp frame (wpE (defs₀ (F := F)) Variants.none c none) Set.univ (k ⟨⟩) Q)
      -∗ wp frame (wpE (defs₀ (F := F)) Variants.none c none) Set.univ
          (Prog.lift (.store M (Rect.unit (s := S) off size inb) w Finset.univ hx hm) >>= k) Q) := by
  subst h
  iintro Ha Hk
  unfold ar
  icases Ha with ⟨%f, Hf, %hf⟩
  subst hf
  iapply (wp_store (m := M) (r := Rect.unit (s := S) off size inb) (f := f) (S := Finset.univ) Variants.none (c : Thread nD τ) none Set.univ (Finset.subset_univ _)) $$ Hf
  iintro Hf
  iapply Hk
  iexists ((M.access (Rect.unit (s := S) off size inb)).write (Elt F) f w Finset.univ)
  isplitl [Hf]
  · iexact Hf
  · ipureintro
    exact View.read_writes_cons_put M.view f inb w [] rfl

/-- A load of the whole array. -/
theorem wp_ld_full {c : Dev nD} {cs : CoreSpace} {S : Shape} {e : EltTy} {M : Memref sig .tc cs S e} {A : S.Idx → Elt F e}
    {off : Fin S.rank → ℕ} {inb : ∀ a, off a + S.size a ≤ S.size a} {hl : M.view.LoadsAt (Rect.unit (s := S) off S.size inb).toLoadRect}
    {α : Type} {k : (S.Idx → Elt F e) → Prog (TpuEff nD τ sig (Elt F) Λ₀ .tc) α} {Q : α → sProp 𝕄} :
    ar c M A ⊢ iprop((ar c M A -∗ wp frame (wpE (defs₀ (F := F)) Variants.none c none) Set.univ (k A) Q)
      -∗ wp frame (wpE (defs₀ (F := F)) Variants.none c none) Set.univ
          (Prog.lift (.load M (Rect.unit (s := S) off S.size inb).toLoadRect hl) >>= k) Q) := by
  have h : VecWindow.window A off S.size inb = A := funext fun y => congrArg A (Rect.emb_unit_full inb y)
  have := wp_ld (F := F) (c := c) (M := M) (A := A) (hl := hl) (k := k) (Q := Q) rfl inb
  rw [h] at this
  exact this

/-- A store of the whole array. -/
theorem wp_st_full {c : Dev nD} {cs : CoreSpace} {S : Shape} {e : EltTy} {M : Memref sig .tc cs S e} {A : S.Idx → Elt F e}
    {off : Fin S.rank → ℕ} {inb : ∀ a, off a + S.size a ≤ S.size a} {w : S.Idx → Elt F e}
    {hx : (M.access (Rect.unit (s := S) off S.size inb)).Stores Finset.univ} {hm}
    {α : Type} {k : PUnit → Prog (TpuEff nD τ sig (Elt F) Λ₀ .tc) α} {Q : α → sProp 𝕄} :
    ar c M A ⊢ iprop((ar c M w -∗ wp frame (wpE (defs₀ (F := F)) Variants.none c none) Set.univ (k ⟨⟩) Q)
      -∗ wp frame (wpE (defs₀ (F := F)) Variants.none c none) Set.univ
          (Prog.lift (.store M (Rect.unit (s := S) off S.size inb) w Finset.univ hx hm) >>= k) Q) := by
  have h : VecWindow.put A off S.size w = w := by
    have h0 : ∀ a, off a = 0 := fun a => by have := inb a; omega
    funext y
    have hc : ∀ a, off a ≤ (y a).val ∧ (y a).val < off a + S.size a := fun a => ⟨by rw [h0]; omega, by rw [h0, Nat.zero_add]; exact (y a).isLt⟩
    refine (dif_pos hc).trans (congrArg w (funext fun a => Fin.ext ?_))
    show (y a).val - off a = (y a).val
    rw [h0]; omega
  have := wp_st (F := F) (c := c) (M := M) (A := A) (w := w) (hx := hx) (hm := hm) (k := k) (Q := Q) rfl
  rw [h] at this
  exact this

/-- A part of a program, then the rest. -/
theorem wp_seq {c : Dev nD} {α β : Type} {p : Prog (TpuEff nD τ sig (Elt F) Λ₀ .tc) α} {k : α → Prog (TpuEff nD τ sig (Elt F) Λ₀ .tc) β} {Q : β → sProp 𝕄} :
    wp frame (wpE (defs₀ (F := F)) Variants.none c none) Set.univ p
        (fun a => wp frame (wpE (defs₀ (F := F)) Variants.none c none) Set.univ (k a) Q)
      ⊢ wp frame (wpE (defs₀ (F := F)) Variants.none c none) Set.univ (p >>= k) Q := by
  iintro H
  rw [wp_bind]
  iexact H

end Cert.KernelIdeal.Hand
end
-- ==== Proof.TripParts.lean ====
module

public import proofs.«01_k».proof.Proof.Arrays

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! The parts of one trip of the loop, run over the arrays they read and write. -/

variable {c : Dev nD} (arg0 : Memref sig .tc .smem S2048 .i32) (harg0 : arg0.IsWhole) (arg1 : Memref sig .tc .vmem S2048x4x256 .f32) (harg1 : arg1.IsWhole) (arg2 : Memref sig .tc .vmem S1x1922 .f32) (harg2 : arg2.IsWhole) (arg3 : Memref sig .tc .vmem S128x512 .f32) (harg3 : arg3.IsWhole) (arg4 : Memref sig .tc .vmem S384x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384x128 .f32) (harg7 : arg7.IsWhole) (arg8 : Memref sig .tc .vmem S2x128 .f32) (harg8 : arg8.IsWhole) (arg9 : Memref sig .tc .vmem S2048x2 .f32) (harg9 : arg9.IsWhole) (arg10 : Memref sig .tc .vmem S2560x384 .f32) (harg10 : arg10.IsWhole) (arg11 : Memref sig .tc .vmem S528x8x384 .f32) (harg11 : arg11.IsWhole) (arg12 : Memref sig .tc .vmem S528x8x128 .f32) (harg12 : arg12.IsWhole) (arg13 : Memref sig .tc .vmem S2576x128 .f32) (harg13 : arg13.IsWhole) (arg14 : Memref sig .tc .vmem S128x384 .bf16) (harg14 : arg14.IsWhole) (arg15 : Memref sig .tc .vmem S128x384 .bf16) (harg15 : arg15.IsWhole) (arg16 : Memref sig .tc .vmem S128x384 .bf16) (harg16 : arg16.IsWhole)

theorem part1_spec (v4 : Elt F .i32) (v12 : Elt F .i32) (v20 : Elt F .i32) (v28 : Elt F .i32) (v36 : Elt F .i32) (v44 : Elt F .i32) (v52 : Elt F .i32) (v60 : Elt F .i32) (v68 : Elt F .i32) (v76 : Elt F .i32) (v84 : Elt F .i32) (v92 : Elt F .i32) (v100 : Elt F .i32) (v108 : Elt F .i32) (v116 : Elt F .i32) (v124 : Elt F .i32) (v132 : Elt F .i32) (v140 : Elt F .i32) (v148 : Elt F .i32) (v156 : Elt F .i32) (v164 : Elt F .i32) (v172 : Elt F .i32) (v180 : Elt F .i32) (v188 : Elt F .i32) (v196 : Elt F .i32) (v204 : Elt F .i32) (v212 : Elt F .i32) (v220 : Elt F .i32) (v228 : Elt F .i32) (v236 : Elt F .i32) (v244 : Elt F .i32) (v252 : Elt F .i32) (v260 : Elt F .i32) (v268 : Elt F .i32) (v276 : Elt F .i32) (v284 : Elt F .i32) (v292 : Elt F .i32) (v300 : Elt F .i32) (v308 : Elt F .i32) (v316 : Elt F .i32) (v324 : Elt F .i32) (v332 : Elt F .i32) (v340 : Elt F .i32) (v348 : Elt F .i32) (v356 : Elt F .i32) (v364 : Elt F .i32) (v372 : Elt F .i32) (v380 : Elt F .i32) (v388 : Elt F .i32) (v396 : Elt F .i32) (v404 : Elt F .i32) (v412 : Elt F .i32) (v420 : Elt F .i32) (v428 : Elt F .i32) (v436 : Elt F .i32) (v444 : Elt F .i32) (v452 : Elt F .i32) (v460 : Elt F .i32) (v468 : Elt F .i32) (v476 : Elt F .i32) (v484 : Elt F .i32) (v492 : Elt F .i32) (v500 : Elt F .i32) (v508 : Elt F .i32) (v516 : Elt F .i32) (v524 : Elt F .i32) (v532 : Elt F .i32) (v540 : Elt F .i32) (v548 : Elt F .i32) (v556 : Elt F .i32) (v564 : Elt F .i32) (v572 : Elt F .i32) (v580 : Elt F .i32) (v588 : Elt F .i32) (v596 : Elt F .i32) (v604 : Elt F .i32) (v612 : Elt F .i32) (v620 : Elt F .i32) (v628 : Elt F .i32) (v636 : Elt F .i32) (v644 : Elt F .i32) (v652 : Elt F .i32) (v660 : Elt F .i32) (v668 : Elt F .i32) (k0_hw84 : k0_chk84 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668) (v884 : FVec F S1x384 .f32) (v886 : FVec F S1x384 .f32) (v990 : IVec S8x1 32) (c0_i32_494 : BitVec 32) (c1_i32_496 : BitVec 32) (k0_t1 : Fin (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips) (arg18 : FVec F S8x128 .f32) (arg19 : FVec F S8x128 .f32) (arg20 : FVec F S8x128 .f32) {A11 : S528x8x384.Idx → Elt F .f32} {A14 : S128x384.Idx → Elt F .bf16} {A15 : S128x384.Idx → Elt F .bf16} {A16 : S128x384.Idx → Elt F .bf16}
    {o0 : ℕ} (ho0 : k0_off93 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_t1 0#32 = ![o0, 0, 0]) (hb0 : ∀ a, (![o0, 0, 0] : Fin 3 → ℕ) a + S1x8x384.size a ≤ S528x8x384.size a) {Q : _ → sProp 𝕄} :
    ⊢ iprop(ar c arg11 A11 -∗ ar c arg14 A14 -∗ ar c arg15 A15 -∗ ar c arg16 A16 -∗ (ar c arg11 A11 -∗ ar c arg14 A14 -∗ ar c arg15 A15 -∗ ar c arg16 A16 -∗ Q ⟨(Scf.iv c0_i32_494 c1_i32_496 k0_t1), (Scalar.addi (Scalar.muli 4#32 (Scf.iv c0_i32_494 c1_i32_496 k0_t1)) 0#32), k0_pay3 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 v884 v990 c0_i32_494 c1_i32_496 k0_t1 arg18 (VecWindow.window (s := S528x8x384) A11 ![o0, 0, 0] S1x8x384.size hb0) A14, k0_pay4 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 v990 c0_i32_494 c1_i32_496 k0_t1, k0_pay5 v886 arg20 A15, k0_pay6 arg19, A16⟩)
      -∗ wp frame (wpE (defs₀ (F := F)) Variants.none c none) Set.univ (k0_part1 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_hw84 v884 v886 v990 c0_i32_494 c1_i32_496 k0_t1 arg18 arg19 arg20) Q) := by
  iintro H11 H14 H15 H16 Hk
  rw [k0_part1_eq_skeleton]
  unfold k0_part1_skel
  iapply (wp_ld ho0 hb0) $$ H11; iintro H11
  iapply wp_ld_full $$ H14; iintro H14
  iapply wp_ld_full $$ H15; iintro H15
  iapply wp_ld_full $$ H16; iintro H16
  iapply wp_done
  iapply Hk $$ H11 H14 H15 H16

theorem part2_spec (v4 : Elt F .i32) (v12 : Elt F .i32) (v20 : Elt F .i32) (v28 : Elt F .i32) (v36 : Elt F .i32) (v44 : Elt F .i32) (v52 : Elt F .i32) (v60 : Elt F .i32) (v68 : Elt F .i32) (v76 : Elt F .i32) (v84 : Elt F .i32) (v92 : Elt F .i32) (v100 : Elt F .i32) (v108 : Elt F .i32) (v116 : Elt F .i32) (v124 : Elt F .i32) (v132 : Elt F .i32) (v140 : Elt F .i32) (v148 : Elt F .i32) (v156 : Elt F .i32) (v164 : Elt F .i32) (v172 : Elt F .i32) (v180 : Elt F .i32) (v188 : Elt F .i32) (v196 : Elt F .i32) (v204 : Elt F .i32) (v212 : Elt F .i32) (v220 : Elt F .i32) (v228 : Elt F .i32) (v236 : Elt F .i32) (v244 : Elt F .i32) (v252 : Elt F .i32) (v260 : Elt F .i32) (v268 : Elt F .i32) (v276 : Elt F .i32) (v284 : Elt F .i32) (v292 : Elt F .i32) (v300 : Elt F .i32) (v308 : Elt F .i32) (v316 : Elt F .i32) (v324 : Elt F .i32) (v332 : Elt F .i32) (v340 : Elt F .i32) (v348 : Elt F .i32) (v356 : Elt F .i32) (v364 : Elt F .i32) (v372 : Elt F .i32) (v380 : Elt F .i32) (v388 : Elt F .i32) (v396 : Elt F .i32) (v404 : Elt F .i32) (v412 : Elt F .i32) (v420 : Elt F .i32) (v428 : Elt F .i32) (v436 : Elt F .i32) (v444 : Elt F .i32) (v452 : Elt F .i32) (v460 : Elt F .i32) (v468 : Elt F .i32) (v476 : Elt F .i32) (v484 : Elt F .i32) (v492 : Elt F .i32) (v500 : Elt F .i32) (v508 : Elt F .i32) (v516 : Elt F .i32) (v524 : Elt F .i32) (v532 : Elt F .i32) (v540 : Elt F .i32) (v548 : Elt F .i32) (v556 : Elt F .i32) (v564 : Elt F .i32) (v572 : Elt F .i32) (v580 : Elt F .i32) (v588 : Elt F .i32) (v596 : Elt F .i32) (v604 : Elt F .i32) (v612 : Elt F .i32) (v620 : Elt F .i32) (v628 : Elt F .i32) (v636 : Elt F .i32) (v644 : Elt F .i32) (v652 : Elt F .i32) (v660 : Elt F .i32) (v668 : Elt F .i32) (k0_hw84 : k0_chk84 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668) (v884 : FVec F S1x384 .f32) (v888 : FVec F S1x384 .f32) (v990 : IVec S8x1 32) (k0_t1 : Fin (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips) (arg19 : FVec F S8x128 .f32) (arg17 : BitVec 32) (v1177 : BitVec 32) (v1209 : FVec F S8x128 .f32) (v1212 : IVec S8x1 1) (v1217 : FVec F S8x384 .f32) (v1218 : FVec F S8x128 .bf16) (v1219 : Vec F S128x384 .bf16) {A12 : S528x8x128.Idx → Elt F .f32} {A11 : S528x8x384.Idx → Elt F .f32} {A14 : S128x384.Idx → Elt F .bf16}
    {o0 : ℕ} (ho0 : k0_off94 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_t1 0#32 = ![o0, 0, 0]) (hb0 : ∀ a, (![o0, 0, 0] : Fin 3 → ℕ) a + S1x8x128.size a ≤ S528x8x128.size a)
    {o1 : ℕ} (ho1 : k0_off93 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_t1 1#32 = ![o1, 0, 0]) (hb1 : ∀ a, (![o1, 0, 0] : Fin 3 → ℕ) a + S1x8x384.size a ≤ S528x8x384.size a) {Q : _ → sProp 𝕄} :
    ⊢ iprop(ar c arg12 A12 -∗ ar c arg11 A11 -∗ ar c arg14 A14 -∗ (ar c arg12 (VecWindow.put (s := S528x8x128) A12 ![o0, 0, 0] S1x8x128.size (k0_pay8 v888 arg19 v1212 v1217 v1218 v1219)) -∗ ar c arg11 A11 -∗ ar c arg14 A14 -∗ Q ⟨k0_pay7 v888 arg19 v1212 v1217 v1218 v1219, (Scalar.addi (Scalar.muli 4#32 arg17) 1#32), k0_pay9 v990 arg17, k0_pay10 (VecWindow.window (s := S528x8x384) A11 ![o1, 0, 0] S1x8x384.size hb1), k0_pay11 v884 v1209 A14, k0_pay12 (VecWindow.window (s := S528x8x384) A11 ![o1, 0, 0] S1x8x384.size hb1)⟩)
      -∗ wp frame (wpE (defs₀ (F := F)) Variants.none c none) Set.univ (k0_part2 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_hw84 v884 v888 v990 k0_t1 arg19 arg17 v1177 v1209 v1212 v1217 v1218 v1219) Q) := by
  iintro H12 H11 H14 Hk
  rw [k0_part2_eq_skeleton]
  unfold k0_part2_skel
  iapply (wp_ld ho0 hb0) $$ H12; iintro H12
  iapply (wp_st ho0) $$ H12; iintro H12
  iapply (wp_ld ho1 hb1) $$ H11; iintro H11
  iapply wp_ld_full $$ H14; iintro H14
  iapply wp_done
  iapply Hk $$ H12 H11 H14

theorem part3_spec (v886 : FVec F S1x384 .f32) (v888 : FVec F S1x384 .f32) (v990 : IVec S8x1 32) (v1209 : FVec F S8x128 .f32) (v1244 : FVec F S8x128 .f32) (v1253 : BitVec 32) (v1255 : IVec S8x1 1) (v1258 : FVec F S8x384 .f32) (v1263 : FVec F S8x384 .f32) (v1264 : FVec F S8x128 .f32) {A15 : S128x384.Idx → Elt F .bf16} {A16 : S128x384.Idx → Elt F .bf16} {Q : _ → sProp 𝕄} :
    ⊢ iprop(ar c arg15 A15 -∗ ar c arg16 A16 -∗ (ar c arg15 A15 -∗ ar c arg16 A16 -∗ Q ⟨k0_pay13 v1209 v1255 v1258 v1263 v1264, k0_pay14 v990 v1253, k0_pay17 v886 v888 v1209 v1244 A15 A16, k0_pay18 v886 v888 v1209 v1244 A15 A16⟩)
      -∗ wp frame (wpE (defs₀ (F := F)) Variants.none c none) Set.univ (k0_part3 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v886 v888 v990 v1209 v1244 v1253 v1255 v1258 v1263 v1264) Q) := by
  iintro H15 H16 Hk
  rw [k0_part3_eq_skeleton]
  unfold k0_part3_skel
  iapply wp_ld_full $$ H15; iintro H15
  iapply wp_ld_full $$ H16; iintro H16
  iapply wp_done
  iapply Hk $$ H15 H16

theorem part4_spec (v4 : Elt F .i32) (v12 : Elt F .i32) (v20 : Elt F .i32) (v28 : Elt F .i32) (v36 : Elt F .i32) (v44 : Elt F .i32) (v52 : Elt F .i32) (v60 : Elt F .i32) (v68 : Elt F .i32) (v76 : Elt F .i32) (v84 : Elt F .i32) (v92 : Elt F .i32) (v100 : Elt F .i32) (v108 : Elt F .i32) (v116 : Elt F .i32) (v124 : Elt F .i32) (v132 : Elt F .i32) (v140 : Elt F .i32) (v148 : Elt F .i32) (v156 : Elt F .i32) (v164 : Elt F .i32) (v172 : Elt F .i32) (v180 : Elt F .i32) (v188 : Elt F .i32) (v196 : Elt F .i32) (v204 : Elt F .i32) (v212 : Elt F .i32) (v220 : Elt F .i32) (v228 : Elt F .i32) (v236 : Elt F .i32) (v244 : Elt F .i32) (v252 : Elt F .i32) (v260 : Elt F .i32) (v268 : Elt F .i32) (v276 : Elt F .i32) (v284 : Elt F .i32) (v292 : Elt F .i32) (v300 : Elt F .i32) (v308 : Elt F .i32) (v316 : Elt F .i32) (v324 : Elt F .i32) (v332 : Elt F .i32) (v340 : Elt F .i32) (v348 : Elt F .i32) (v356 : Elt F .i32) (v364 : Elt F .i32) (v372 : Elt F .i32) (v380 : Elt F .i32) (v388 : Elt F .i32) (v396 : Elt F .i32) (v404 : Elt F .i32) (v412 : Elt F .i32) (v420 : Elt F .i32) (v428 : Elt F .i32) (v436 : Elt F .i32) (v444 : Elt F .i32) (v452 : Elt F .i32) (v460 : Elt F .i32) (v468 : Elt F .i32) (v476 : Elt F .i32) (v484 : Elt F .i32) (v492 : Elt F .i32) (v500 : Elt F .i32) (v508 : Elt F .i32) (v516 : Elt F .i32) (v524 : Elt F .i32) (v532 : Elt F .i32) (v540 : Elt F .i32) (v548 : Elt F .i32) (v556 : Elt F .i32) (v564 : Elt F .i32) (v572 : Elt F .i32) (v580 : Elt F .i32) (v588 : Elt F .i32) (v596 : Elt F .i32) (v604 : Elt F .i32) (v612 : Elt F .i32) (v620 : Elt F .i32) (v628 : Elt F .i32) (v636 : Elt F .i32) (v644 : Elt F .i32) (v652 : Elt F .i32) (v660 : Elt F .i32) (v668 : Elt F .i32) (k0_hw84 : k0_chk84 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668) (v884 : FVec F S1x384 .f32) (v990 : IVec S8x1 32) (k0_t1 : Fin (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips) (arg17 : BitVec 32) (v1244 : FVec F S8x128 .f32) (v1253 : BitVec 32) (v1285 : FVec F S8x128 .f32) (v1288 : IVec S8x1 1) (v1306 : FVec F S8x128 .f32) (v1314 : FVec F S8x128 .f32) {A12 : S528x8x128.Idx → Elt F .f32} {A11 : S528x8x384.Idx → Elt F .f32} {A14 : S128x384.Idx → Elt F .bf16}
    {o0 : ℕ} (ho0 : k0_off94 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_t1 1#32 = ![o0, 0, 0]) (hb0 : ∀ a, (![o0, 0, 0] : Fin 3 → ℕ) a + S1x8x128.size a ≤ S528x8x128.size a)
    {o1 : ℕ} (ho1 : k0_off93 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_t1 2#32 = ![o1, 0, 0]) (hb1 : ∀ a, (![o1, 0, 0] : Fin 3 → ℕ) a + S1x8x384.size a ≤ S528x8x384.size a) {Q : _ → sProp 𝕄} :
    ⊢ iprop(ar c arg12 A12 -∗ ar c arg11 A11 -∗ ar c arg14 A14 -∗ (ar c arg12 (VecWindow.put (s := S528x8x128) A12 ![o0, 0, 0] S1x8x128.size (k0_pay20 v1244 v1288 v1306 v1314)) -∗ ar c arg11 A11 -∗ ar c arg14 A14 -∗ Q ⟨k0_pay19 v1244 v1288 v1306 v1314, (Scalar.addi (Scalar.muli 4#32 arg17) 2#32), k0_pay21 v884 v1285 (VecWindow.window (s := S528x8x384) A11 ![o1, 0, 0] S1x8x384.size hb1) A14, (Scalar.ofBits .f32 0x00000000#32), k0_pay22 v990 arg17⟩)
      -∗ wp frame (wpE (defs₀ (F := F)) Variants.none c none) Set.univ (k0_part4 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_hw84 v884 v990 k0_t1 arg17 v1244 v1253 v1285 v1288 v1306 v1314) Q) := by
  iintro H12 H11 H14 Hk
  rw [k0_part4_eq_skeleton]
  unfold k0_part4_skel
  iapply (wp_ld ho0 hb0) $$ H12; iintro H12
  iapply (wp_st ho0) $$ H12; iintro H12
  iapply (wp_ld ho1 hb1) $$ H11; iintro H11
  iapply wp_ld_full $$ H14; iintro H14
  iapply wp_done
  iapply Hk $$ H12 H11 H14

theorem part5_spec (v4 : Elt F .i32) (v12 : Elt F .i32) (v20 : Elt F .i32) (v28 : Elt F .i32) (v36 : Elt F .i32) (v44 : Elt F .i32) (v52 : Elt F .i32) (v60 : Elt F .i32) (v68 : Elt F .i32) (v76 : Elt F .i32) (v84 : Elt F .i32) (v92 : Elt F .i32) (v100 : Elt F .i32) (v108 : Elt F .i32) (v116 : Elt F .i32) (v124 : Elt F .i32) (v132 : Elt F .i32) (v140 : Elt F .i32) (v148 : Elt F .i32) (v156 : Elt F .i32) (v164 : Elt F .i32) (v172 : Elt F .i32) (v180 : Elt F .i32) (v188 : Elt F .i32) (v196 : Elt F .i32) (v204 : Elt F .i32) (v212 : Elt F .i32) (v220 : Elt F .i32) (v228 : Elt F .i32) (v236 : Elt F .i32) (v244 : Elt F .i32) (v252 : Elt F .i32) (v260 : Elt F .i32) (v268 : Elt F .i32) (v276 : Elt F .i32) (v284 : Elt F .i32) (v292 : Elt F .i32) (v300 : Elt F .i32) (v308 : Elt F .i32) (v316 : Elt F .i32) (v324 : Elt F .i32) (v332 : Elt F .i32) (v340 : Elt F .i32) (v348 : Elt F .i32) (v356 : Elt F .i32) (v364 : Elt F .i32) (v372 : Elt F .i32) (v380 : Elt F .i32) (v388 : Elt F .i32) (v396 : Elt F .i32) (v404 : Elt F .i32) (v412 : Elt F .i32) (v420 : Elt F .i32) (v428 : Elt F .i32) (v436 : Elt F .i32) (v444 : Elt F .i32) (v452 : Elt F .i32) (v460 : Elt F .i32) (v468 : Elt F .i32) (v476 : Elt F .i32) (v484 : Elt F .i32) (v492 : Elt F .i32) (v500 : Elt F .i32) (v508 : Elt F .i32) (v516 : Elt F .i32) (v524 : Elt F .i32) (v532 : Elt F .i32) (v540 : Elt F .i32) (v548 : Elt F .i32) (v556 : Elt F .i32) (v564 : Elt F .i32) (v572 : Elt F .i32) (v580 : Elt F .i32) (v588 : Elt F .i32) (v596 : Elt F .i32) (v604 : Elt F .i32) (v612 : Elt F .i32) (v620 : Elt F .i32) (v628 : Elt F .i32) (v636 : Elt F .i32) (v644 : Elt F .i32) (v652 : Elt F .i32) (v660 : Elt F .i32) (v668 : Elt F .i32) (k0_hw84 : k0_chk84 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668) (v886 : FVec F S1x384 .f32) (v888 : FVec F S1x384 .f32) (v990 : IVec S8x1 32) (k0_t1 : Fin (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips) (arg17 : BitVec 32) (v1285 : FVec F S8x128 .f32) (v1320 : FVec F S8x128 .f32) (v1329 : BitVec 32) (v1357 : FVec F S8x128 .f32) (cst_613 : F .f32) (v1359 : IVec S8x128 1) {A15 : S128x384.Idx → Elt F .bf16} {A16 : S128x384.Idx → Elt F .bf16} {A12 : S528x8x128.Idx → Elt F .f32}
    {o0 : ℕ} (ho0 : k0_off94 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_t1 2#32 = ![o0, 0, 0]) (hb0 : ∀ a, (![o0, 0, 0] : Fin 3 → ℕ) a + S1x8x128.size a ≤ S528x8x128.size a) {Q : _ → sProp 𝕄} :
    ⊢ iprop(ar c arg15 A15 -∗ ar c arg16 A16 -∗ ar c arg12 A12 -∗ (ar c arg15 A15 -∗ ar c arg16 A16 -∗ ar c arg12 (VecWindow.put (s := S528x8x128) A12 ![o0, 0, 0] S1x8x128.size (k0_pay25 v886 v888 v990 v1285 v1320 v1329 A15 A16)) -∗ Q ⟨k0_pay23 v1357 cst_613 v1359, k0_pay24 v886 v888 v990 v1285 v1320 v1329 A15 A16, (Scalar.muli 4#32 arg17)⟩)
      -∗ wp frame (wpE (defs₀ (F := F)) Variants.none c none) Set.univ (k0_part5 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_hw84 v886 v888 v990 k0_t1 arg17 v1285 v1320 v1329 v1357 cst_613 v1359) Q) := by
  iintro H15 H16 H12 Hk
  rw [k0_part5_eq_skeleton]
  unfold k0_part5_skel
  iapply wp_ld_full $$ H15; iintro H15
  iapply wp_ld_full $$ H16; iintro H16
  iapply (wp_ld ho0 hb0) $$ H12; iintro H12
  iapply (wp_st ho0) $$ H12; iintro H12
  iapply wp_done
  iapply Hk $$ H15 H16 H12

theorem part6_spec (v4 : Elt F .i32) (v12 : Elt F .i32) (v20 : Elt F .i32) (v28 : Elt F .i32) (v36 : Elt F .i32) (v44 : Elt F .i32) (v52 : Elt F .i32) (v60 : Elt F .i32) (v68 : Elt F .i32) (v76 : Elt F .i32) (v84 : Elt F .i32) (v92 : Elt F .i32) (v100 : Elt F .i32) (v108 : Elt F .i32) (v116 : Elt F .i32) (v124 : Elt F .i32) (v132 : Elt F .i32) (v140 : Elt F .i32) (v148 : Elt F .i32) (v156 : Elt F .i32) (v164 : Elt F .i32) (v172 : Elt F .i32) (v180 : Elt F .i32) (v188 : Elt F .i32) (v196 : Elt F .i32) (v204 : Elt F .i32) (v212 : Elt F .i32) (v220 : Elt F .i32) (v228 : Elt F .i32) (v236 : Elt F .i32) (v244 : Elt F .i32) (v252 : Elt F .i32) (v260 : Elt F .i32) (v268 : Elt F .i32) (v276 : Elt F .i32) (v284 : Elt F .i32) (v292 : Elt F .i32) (v300 : Elt F .i32) (v308 : Elt F .i32) (v316 : Elt F .i32) (v324 : Elt F .i32) (v332 : Elt F .i32) (v340 : Elt F .i32) (v348 : Elt F .i32) (v356 : Elt F .i32) (v364 : Elt F .i32) (v372 : Elt F .i32) (v380 : Elt F .i32) (v388 : Elt F .i32) (v396 : Elt F .i32) (v404 : Elt F .i32) (v412 : Elt F .i32) (v420 : Elt F .i32) (v428 : Elt F .i32) (v436 : Elt F .i32) (v444 : Elt F .i32) (v452 : Elt F .i32) (v460 : Elt F .i32) (v468 : Elt F .i32) (v476 : Elt F .i32) (v484 : Elt F .i32) (v492 : Elt F .i32) (v500 : Elt F .i32) (v508 : Elt F .i32) (v516 : Elt F .i32) (v524 : Elt F .i32) (v532 : Elt F .i32) (v540 : Elt F .i32) (v548 : Elt F .i32) (v556 : Elt F .i32) (v564 : Elt F .i32) (v572 : Elt F .i32) (v580 : Elt F .i32) (v588 : Elt F .i32) (v596 : Elt F .i32) (v604 : Elt F .i32) (v612 : Elt F .i32) (v620 : Elt F .i32) (v628 : Elt F .i32) (v636 : Elt F .i32) (v644 : Elt F .i32) (v652 : Elt F .i32) (v660 : Elt F .i32) (v668 : Elt F .i32) (k0_hw84 : k0_chk84 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668) (v884 : FVec F S1x384 .f32) (v886 : FVec F S1x384 .f32) (v888 : FVec F S1x384 .f32) (v990 : IVec S8x1 32) (k0_t1 : Fin (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips) (v1361 : FVec F S8x128 .f32) (v1396 : FVec F S8x128 .f32) (v1404 : BitVec 32) {A11 : S528x8x384.Idx → Elt F .f32} {A14 : S128x384.Idx → Elt F .bf16} {A15 : S128x384.Idx → Elt F .bf16} {A16 : S128x384.Idx → Elt F .bf16}
    {o0 : ℕ} (ho0 : k0_off93 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_t1 3#32 = ![o0, 0, 0]) (hb0 : ∀ a, (![o0, 0, 0] : Fin 3 → ℕ) a + S1x8x384.size a ≤ S528x8x384.size a) {Q : _ → sProp 𝕄} :
    ⊢ iprop(ar c arg11 A11 -∗ ar c arg14 A14 -∗ ar c arg15 A15 -∗ ar c arg16 A16 -∗ (ar c arg11 A11 -∗ ar c arg14 A14 -∗ ar c arg15 A15 -∗ ar c arg16 A16 -∗ Q ⟨(Scalar.addi v1404 3#32), k0_pay26 v884 v990 v1361 v1404 (VecWindow.window (s := S528x8x384) A11 ![o0, 0, 0] S1x8x384.size hb0) A14, k0_pay27 v990 v1404, k0_pay28 v886 v1361 A15, k0_pay29 v1396 A16, k0_pay30 v888⟩)
      -∗ wp frame (wpE (defs₀ (F := F)) Variants.none c none) Set.univ (k0_part6 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_hw84 v884 v886 v888 v990 k0_t1 v1361 v1396 v1404) Q) := by
  iintro H11 H14 H15 H16 Hk
  rw [k0_part6_eq_skeleton]
  unfold k0_part6_skel
  iapply (wp_ld ho0 hb0) $$ H11; iintro H11
  iapply wp_ld_full $$ H14; iintro H14
  iapply wp_ld_full $$ H15; iintro H15
  iapply wp_ld_full $$ H16; iintro H16
  iapply wp_done
  iapply Hk $$ H11 H14 H15 H16

end Cert.KernelIdeal.Hand
end
-- ==== Proof.Steps.lean ====
module

public import proofs.«01_k».proof.Proof.TripParts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! The loop of the program as a function: one time of it, and what the pieces of its text are of that. -/

/-- A gate's linear part: rows times a matrix, plus a bias. -/
def lin (b : FVec F S1x384 .f32) (W : Vec F S128x384 .bf16) (h : FVec F S8x128 .f32) : FVec F S8x384 .f32 :=
  addf (matmul dot_S8x128_S128x384_S8x384_1_0_0_1_n_n none (truncf .bf16 h bitsLt_bf16_f32) W (constant S8x384 .f32 0x00000000#32))
    (broadcastTo S8x384 b broadcasts_S1x384_S8x384)

/-- A gated recurrent cell on its two linear parts and its state. -/
def gates (gi gh : FVec F S8x384 .f32) (h : FVec F S8x128 .f32) : FVec F S8x128 .f32 :=
  let z := logistic (addf (extractStridedSlice S8x128 ![0, 128] gi slices_S8x384_o0_128_S8x128) (extractStridedSlice S8x128 ![0, 128] gh slices_S8x384_o0_128_S8x128))
  addf (mulf (subf (broadcast S8x128 (Scalar.ofBits .f32 0x3F800000#32)) z)
      (tanh (addf (extractStridedSlice S8x128 ![0, 256] gi slices_S8x384_o0_256_S8x128)
        (mulf (logistic (addf (extractStridedSlice S8x128 ![0, 0] gi slices_S8x384_o0_0_S8x128) (extractStridedSlice S8x128 ![0, 0] gh slices_S8x384_o0_0_S8x128)))
          (extractStridedSlice S8x128 ![0, 256] gh slices_S8x384_o0_256_S8x128)))))
    (mulf z h)

/-- Which of the eight rows have started at time `tw`. -/
def keep (tw : BitVec 32) (rv : IVec S8x1 32) : IVec S8x1 1 := cmpi .sge (broadcast S8x1 tw) rv

/-- A row that has not started is zero. -/
def maskK (m : IVec S8x1 1) (v : FVec F S8x128 .f32) : FVec F S8x128 .f32 :=
  select (broadcastTo S8x128 (shapeCast S8x1 m shapeCasts_S8x1_S8x1) broadcasts_S8x1_S8x128) v (broadcast S8x128 (Scalar.ofBits .f32 0x00000000#32))

/-- A step of the first layer. -/
def stepA (b : FVec F S1x384 .f32) (W : Vec F S128x384 .bf16) (rv : IVec S8x1 32) (tw : BitVec 32) (x : Vec F S1x8x384 .f32) (h : FVec F S8x128 .f32) :
    FVec F S8x128 .f32 :=
  maskK (keep tw rv) (gates (shapeCast S8x384 x shapeCasts_S1x8x384_S8x384) (lin b W h) h)

/-- A step of the second layer. -/
def stepB (bi : FVec F S1x384 .f32) (Wi : Vec F S128x384 .bf16) (bh : FVec F S1x384 .f32) (Wh : Vec F S128x384 .bf16) (rv : IVec S8x1 32) (tw : BitVec 32)
    (y h : FVec F S8x128 .f32) : FVec F S8x128 .f32 :=
  maskK (keep (Scalar.subi tw 1#32) rv) (gates (lin bi Wi y) (lin bh Wh h) h)

/-- A state as the row of the history that it is stored as. -/
def row (h : FVec F S8x128 .f32) : FVec F S1x8x128 .f32 :=
  shapeCast S1x8x128 (shapeCast S1x8x128 h shapeCasts_S8x128_S1x8x128) shapeCasts_S1x8x128_S1x8x128

/-- Row `t` of the packed inputs. -/
def inRow (P : Vec F S528x8x384 .f32) (t : ℕ) : Vec F S1x8x384 .f32 :=
  if h : ∀ a, (![t, 0, 0] : Fin 3 → ℕ) a + S1x8x384.size a ≤ S528x8x384.size a then VecWindow.window (s := S528x8x384) P ![t, 0, 0] S1x8x384.size h
  else broadcast S1x8x384 (Scalar.ofBits .f32 0x00000000#32)

/-- What the loop reads and never writes: the packed inputs, the three matrices, the three biases, the rows' starts. -/
structure Fixed (F : FTy → Type) where
  P : Vec F S528x8x384 .f32
  W0 : Vec F S128x384 .bf16
  W1 : Vec F S128x384 .bf16
  W2 : Vec F S128x384 .bf16
  b0 : FVec F S1x384 .f32
  b1 : FVec F S1x384 .f32
  b2 : FVec F S1x384 .f32
  rv : IVec S8x1 32

/-- What the loop carries: the two layers' states, the first layer's last output, and the history. -/
structure St (F : FTy → Type) where
  h0 : FVec F S8x128 .f32
  h1 : FVec F S8x128 .f32
  y : FVec F S8x128 .f32
  H : Vec F S528x8x128 .f32

/-- Time `t` of the loop. -/
def step (c : Fixed F) (t : ℕ) (s : St F) : St F where
  h0 := stepA c.b0 c.W0 c.rv (BitVec.ofNat 32 t) (inRow c.P t) s.h0
  h1 := stepB c.b1 c.W1 c.b2 c.W2 c.rv (BitVec.ofNat 32 t) s.y s.h1
  y := stepA c.b0 c.W0 c.rv (BitVec.ofNat 32 t) (inRow c.P t) s.h0
  H := VecWindow.put (s := S528x8x128) s.H ![t - 1, 0, 0] S1x8x128.size (row (stepB c.b1 c.W1 c.b2 c.W2 c.rv (BitVec.ofNat 32 t) s.y s.h1))

/-- The first `n` times of the loop. -/
def steps (c : Fixed F) (s : St F) : ℕ → St F
  | 0 => s
  | n + 1 => step c n (steps c s n)

theorem pay3_eq (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) (b : FVec F S1x384 .f32) (rv : IVec S8x1 32) (k : Fin (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips) (h : FVec F S8x128 .f32) (x : Vec F S1x8x384 .f32) (W : Vec F S128x384 .bf16) :
    k0_pay3 (F := F) v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 b rv 0#32 1#32 k h x W = stepA b W rv (Scalar.addi (Scalar.muli 4#32 (Scf.iv 0#32 1#32 k)) 0#32) x h := rfl
theorem pay4_eq (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) (rv : IVec S8x1 32) (k : Fin (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips) :
    k0_pay4 (F := F) v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 rv 0#32 1#32 k = keep (Scalar.subi (Scalar.addi (Scalar.muli 4#32 (Scf.iv 0#32 1#32 k)) 0#32) 1#32) rv := rfl
theorem pay7_eq (bi bh : FVec F S1x384 .f32) (h y : FVec F S8x128 .f32) (rv : IVec S8x1 32) (tw : BitVec 32) (Wi W : Vec F S128x384 .bf16) :
    k0_pay7 bh h (keep (Scalar.subi tw 1#32) rv) (k0_pay5 bi y Wi) (k0_pay6 h) W = stepB bi Wi bh W rv tw y h := rfl
theorem pay8_eq (bi bh : FVec F S1x384 .f32) (h y : FVec F S8x128 .f32) (rv : IVec S8x1 32) (tw : BitVec 32) (Wi W : Vec F S128x384 .bf16) :
    k0_pay8 bh h (keep (Scalar.subi tw 1#32) rv) (k0_pay5 bi y Wi) (k0_pay6 h) W = row (stepB bi Wi bh W rv tw y h) := rfl
theorem pay13_eq (b : FVec F S1x384 .f32) (h : FVec F S8x128 .f32) (rv : IVec S8x1 32) (a : BitVec 32) (x : Vec F S1x8x384 .f32) (W : Vec F S128x384 .bf16) :
    k0_pay13 h (k0_pay9 rv a) (k0_pay10 x) (k0_pay11 b h W) (k0_pay12 x) = stepA b W rv (Scalar.addi (Scalar.muli 4#32 a) 1#32) x h := rfl
theorem pay19_eq (bi bh : FVec F S1x384 .f32) (h y : FVec F S8x128 .f32) (rv : IVec S8x1 32) (tw : BitVec 32) (Wi W : Vec F S128x384 .bf16) :
    k0_pay19 h (k0_pay14 rv tw) (k0_pay17 bi bh y h Wi W) (k0_pay18 bi bh y h Wi W) = stepB bi Wi bh W rv tw y h := rfl
theorem pay20_eq (bi bh : FVec F S1x384 .f32) (h y : FVec F S8x128 .f32) (rv : IVec S8x1 32) (tw : BitVec 32) (Wi W : Vec F S128x384 .bf16) :
    k0_pay20 h (k0_pay14 rv tw) (k0_pay17 bi bh y h Wi W) (k0_pay18 bi bh y h Wi W) = row (stepB bi Wi bh W rv tw y h) := rfl
theorem pay23_eq (b : FVec F S1x384 .f32) (h : FVec F S8x128 .f32) (rv : IVec S8x1 32) (a : BitVec 32) (x : Vec F S1x8x384 .f32) (W : Vec F S128x384 .bf16) :
    k0_pay23 (k0_pay21 b h x W) (Scalar.ofBits .f32 0x00000000#32) (k0_pay22 rv a) = stepA b W rv (Scalar.addi (Scalar.muli 4#32 a) 2#32) x h := rfl
theorem pay24_eq (bi bh : FVec F S1x384 .f32) (h y : FVec F S8x128 .f32) (rv : IVec S8x1 32) (tw : BitVec 32) (Wi W : Vec F S128x384 .bf16) :
    k0_pay24 bi bh rv y h tw Wi W = stepB bi Wi bh W rv tw y h := rfl
theorem pay25_eq (bi bh : FVec F S1x384 .f32) (h y : FVec F S8x128 .f32) (rv : IVec S8x1 32) (tw : BitVec 32) (Wi W : Vec F S128x384 .bf16) :
    k0_pay25 bi bh rv y h tw Wi W = row (stepB bi Wi bh W rv tw y h) := rfl
theorem pay26_eq (b : FVec F S1x384 .f32) (h : FVec F S8x128 .f32) (rv : IVec S8x1 32) (a : BitVec 32) (x : Vec F S1x8x384 .f32) (W : Vec F S128x384 .bf16) :
    k0_pay26 b rv h a x W = stepA b W rv (Scalar.addi a 3#32) x h := rfl
theorem pay86_eq (bi bh : FVec F S1x384 .f32) (h y : FVec F S8x128 .f32) (rv : IVec S8x1 32) (a : BitVec 32) (Wi W : Vec F S128x384 .bf16) :
    k0_pay86 h (k0_pay27 rv a) (k0_pay28 bi y Wi) (k0_pay29 h W) (k0_pay30 bh) = stepB bi Wi bh W rv (Scalar.addi a 3#32) y h := rfl
theorem pay87_eq (bi bh : FVec F S1x384 .f32) (h y : FVec F S8x128 .f32) (rv : IVec S8x1 32) (a : BitVec 32) (Wi W : Vec F S128x384 .bf16) :
    k0_pay87 h (k0_pay27 rv a) (k0_pay28 bi y Wi) (k0_pay29 h W) (k0_pay30 bh) = row (stepB bi Wi bh W rv (Scalar.addi a 3#32) y h) := rfl

end Cert.KernelIdeal.Hand
end
-- ==== Proof.Trip.lean ====
module

public import proofs.«01_k».proof.Proof.Steps

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! One trip of the loop runs four times of it. -/

theorem tw_eq (k r : ℕ) : Scalar.addi (Scalar.muli 4#32 (Scf.iv 0#32 1#32 k)) (BitVec.ofNat 32 r) = BitVec.ofNat 32 (4 * k + r) := by
  rw [Scf.iv, BitVec.zero_add, BitVec.mul_one, BitVec.ofNat_add, BitVec.ofNat_mul]
  rfl

theorem inRow_eq {P : Vec F S528x8x384 .f32} {t : ℕ} (h : ∀ a, (![t, 0, 0] : Fin 3 → ℕ) a + S1x8x384.size a ≤ S528x8x384.size a) :
    VecWindow.window (s := S528x8x384) P ![t, 0, 0] S1x8x384.size h = inRow P t := (dif_pos h).symm

theorem inbP {t : ℕ} (h : t < 528) : ∀ a, (![t, 0, 0] : Fin 3 → ℕ) a + S1x8x384.size a ≤ S528x8x384.size a := by
  intro a
  fin_cases a
  · show t + 1 ≤ 528
    omega
  · show 0 + 8 ≤ 8
    omega
  · show 0 + 384 ≤ 384
    omega

theorem inbH {t : ℕ} (h : t < 528) : ∀ a, (![t, 0, 0] : Fin 3 → ℕ) a + S1x8x128.size a ≤ S528x8x128.size a := by
  intro a
  fin_cases a
  · show t + 1 ≤ 528
    omega
  · show 0 + 8 ≤ 8
    omega
  · show 0 + 128 ≤ 128
    omega

theorem off93_eq (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) (k : Fin (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips) {r : ℕ} (h : 4 * k.val + r < 528) :
    k0_off93 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k (BitVec.ofNat 32 r) = ![4 * k.val + r, 0, 0] := by
  show ![(Scalar.addi (Scalar.muli 4#32 (Scf.iv 0#32 1#32 k.val)) (BitVec.ofNat 32 r)).toNat, 0, 0] = _
  rw [tw_eq, BitVec.toNat_ofNat, Nat.mod_eq_of_lt (by omega)]

theorem off94_eq (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) (k : Fin (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips) {r : ℕ} (h : 4 * k.val + r < 528) :
    k0_off94 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k (BitVec.ofNat 32 r) = ![4 * k.val + r - 1, 0, 0] := by
  show ![(Scalar.maxsi (Scalar.subi (Scalar.addi (Scalar.muli 4#32 (Scf.iv 0#32 1#32 k.val)) (BitVec.ofNat 32 r)) 1#32) 0#32).toNat, 0, 0] = _
  rw [tw_eq]
  generalize 4 * k.val + r = t at h ⊢
  congr 1
  show (Scalar.maxsi (BitVec.ofNat 32 t - 1#32) 0#32).toNat = t - 1
  rcases t with _ | t
  · decide
  · have e : BitVec.ofNat 32 (t + 1) - 1#32 = BitVec.ofNat 32 t := by
      rw [BitVec.ofNat_add]
      exact BitVec.add_sub_cancel _ _
    rw [e]
    show (if (0#32).slt (BitVec.ofNat 32 t) then BitVec.ofNat 32 t else 0#32).toNat = _
    have h1 : (BitVec.ofNat 32 t).toNat = t := by
      rw [BitVec.toNat_ofNat, Nat.mod_eq_of_lt (by omega)]
    split
    · exact h1
    · next hn =>
      have : (BitVec.ofNat 32 t).toInt = t := by
        rw [BitVec.toInt_eq_toNat_of_lt (by omega), h1]
      rw [BitVec.slt, this] at hn
      have : t = 0 := by simpa using hn
      subst this
      rfl

variable {c : Dev nD} (arg0 : Memref sig .tc .smem S2048 .i32) (harg0 : arg0.IsWhole) (arg1 : Memref sig .tc .vmem S2048x4x256 .f32) (harg1 : arg1.IsWhole) (arg2 : Memref sig .tc .vmem S1x1922 .f32) (harg2 : arg2.IsWhole) (arg3 : Memref sig .tc .vmem S128x512 .f32) (harg3 : arg3.IsWhole) (arg4 : Memref sig .tc .vmem S384x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384x128 .f32) (harg7 : arg7.IsWhole) (arg8 : Memref sig .tc .vmem S2x128 .f32) (harg8 : arg8.IsWhole) (arg9 : Memref sig .tc .vmem S2048x2 .f32) (harg9 : arg9.IsWhole) (arg10 : Memref sig .tc .vmem S2560x384 .f32) (harg10 : arg10.IsWhole) (arg11 : Memref sig .tc .vmem S528x8x384 .f32) (harg11 : arg11.IsWhole) (arg12 : Memref sig .tc .vmem S528x8x128 .f32) (harg12 : arg12.IsWhole) (arg13 : Memref sig .tc .vmem S2576x128 .f32) (harg13 : arg13.IsWhole) (arg14 : Memref sig .tc .vmem S128x384 .bf16) (harg14 : arg14.IsWhole) (arg15 : Memref sig .tc .vmem S128x384 .bf16) (harg15 : arg15.IsWhole) (arg16 : Memref sig .tc .vmem S128x384 .bf16) (harg16 : arg16.IsWhole)

set_option maxHeartbeats 4000000 in
theorem trip_spec (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) {k0_hw84 : k0_chk84 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668} (v672 : BitVec 32) (v673 : BitVec 32) (v696 : BitVec 32) (v817 : BitVec 32) (v819 : BitVec 32) (v884 : FVec F S1x384 .f32) (v886 : FVec F S1x384 .f32) (v888 : FVec F S1x384 .f32) (v990 : IVec S8x1 32) (v991 : FVec F S8x128 .f32) (v992 : BitVec 32) (c4_i32_487 : BitVec 32) (v993 : BitVec 32) (v998 : BitVec 32) (k : Fin (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips) (hk : 4 * k.val + 4 ≤ 528) {P : Vec F S528x8x384 .f32} {H : Vec F S528x8x128 .f32}
    {W0 W1 W2 : Vec F S128x384 .bf16} (h0 h1 y : FVec F S8x128 .f32) {Q : _ → sProp 𝕄} :
    ⊢ iprop(ar c arg11 P -∗ ar c arg14 W0 -∗ ar c arg15 W1 -∗ ar c arg16 W2 -∗ ar c arg12 H -∗ (ar c arg11 P -∗ ar c arg14 W0 -∗ ar c arg15 W1 -∗ ar c arg16 W2 -∗ ar c arg12 (step ⟨P, W0, W1, W2, v884, v886, v888, v990⟩ (4 * k.val + 3) (step ⟨P, W0, W1, W2, v884, v886, v888, v990⟩ (4 * k.val + 2) (step ⟨P, W0, W1, W2, v884, v886, v888, v990⟩ (4 * k.val + 1) (step ⟨P, W0, W1, W2, v884, v886, v888, v990⟩ (4 * k.val + 0) (⟨h0, h1, y, H⟩ : St F))))).H -∗ Q ((step ⟨P, W0, W1, W2, v884, v886, v888, v990⟩ (4 * k.val + 3) (step ⟨P, W0, W1, W2, v884, v886, v888, v990⟩ (4 * k.val + 2) (step ⟨P, W0, W1, W2, v884, v886, v888, v990⟩ (4 * k.val + 1) (step ⟨P, W0, W1, W2, v884, v886, v888, v990⟩ (4 * k.val + 0) (⟨h0, h1, y, H⟩ : St F))))).h0, (step ⟨P, W0, W1, W2, v884, v886, v888, v990⟩ (4 * k.val + 3) (step ⟨P, W0, W1, W2, v884, v886, v888, v990⟩ (4 * k.val + 2) (step ⟨P, W0, W1, W2, v884, v886, v888, v990⟩ (4 * k.val + 1) (step ⟨P, W0, W1, W2, v884, v886, v888, v990⟩ (4 * k.val + 0) (⟨h0, h1, y, H⟩ : St F))))).h1, (step ⟨P, W0, W1, W2, v884, v886, v888, v990⟩ (4 * k.val + 3) (step ⟨P, W0, W1, W2, v884, v886, v888, v990⟩ (4 * k.val + 2) (step ⟨P, W0, W1, W2, v884, v886, v888, v990⟩ (4 * k.val + 1) (step ⟨P, W0, W1, W2, v884, v886, v888, v990⟩ (4 * k.val + 0) (⟨h0, h1, y, H⟩ : St F))))).y)) -∗
        wp frame (wpE defs₀ Variants.none c none) Set.univ (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_hw84 v672 v673 v696 v817 v819 v884 v886 v888 v990 v991 v992 c4_i32_487 v993 v998 k (h0, h1, y)) Q) := by
  have b0 := tw_eq k.val 0
  have b1 := tw_eq k.val 1
  have b2 := tw_eq k.val 2
  have b3 := tw_eq k.val 3
  iintro H11 H14 H15 H16 H12 Hk
  unfold k0_t1_body
  iapply wp_seq
  iapply (part1_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ho0 := off93_eq (r := 0) v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k (by omega)) (hb0 := inbP (by omega))) $$ H11 H14 H15 H16
  iintro H11 H14 H15 H16
  rw [pay3_eq, pay4_eq, inRow_eq, b0]
  iapply wp_seq
  iapply (part2_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ho0 := off94_eq (r := 0) v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k (by omega)) (hb0 := inbH (by omega)) (ho1 := off93_eq (r := 1) v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k (by omega)) (hb1 := inbP (by omega))) $$ H12 H11 H14
  iintro H12 H11 H14
  rw [pay7_eq, pay8_eq, inRow_eq]
  iapply wp_seq
  iapply (part3_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _) $$ H15 H16
  iintro H15 H16
  rw [pay13_eq]
  iapply wp_seq
  iapply (part4_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ho0 := off94_eq (r := 1) v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k (by omega)) (hb0 := inbH (by omega)) (ho1 := off93_eq (r := 2) v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k (by omega)) (hb1 := inbP (by omega))) $$ H12 H11 H14
  iintro H12 H11 H14
  rw [pay19_eq, pay20_eq, inRow_eq]
  iapply wp_seq
  iapply (part5_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ho0 := off94_eq (r := 2) v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k (by omega)) (hb0 := inbH (by omega))) $$ H15 H16 H12
  iintro H15 H16 H12
  rw [pay23_eq, pay24_eq, pay25_eq]
  iapply wp_seq
  iapply (part6_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ho0 := off93_eq (r := 3) v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k (by omega)) (hb0 := inbP (by omega))) $$ H11 H14 H15 H16
  iintro H11 H14 H15 H16
  rw [inRow_eq, pay26_eq]
  iapply (wp_ld (off94_eq (r := 3) v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k (by omega)) (inbH (by omega))) $$ H12; iintro H12
  iapply (wp_st (off94_eq (r := 3) v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k (by omega))) $$ H12; iintro H12
  rw [pay86_eq, pay87_eq, b1, b2, b3]
  iapply wp_done
  dsimp only [step]
  iapply Hk $$ H11 H14 H15 H16 H12

end Cert.KernelIdeal.Hand
end
-- ==== Proof.Fit.lean ====
module

public import proofs.«01_k».proof.Proof.Ints
public import proofs.«01_k».proof.Proof.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! What the program assumes of the words that its searches read holds, for segments that fit. -/

variable {ent : ℕ → BitVec 32}

/-- Where the slab of segment `e` starts. -/
def start (s : ℕ → ℕ) (e : ℕ) : ℕ := s e / 8 * 8

theorem inbG {s : ℕ → ℕ} (hs : Fits s) {e : ℕ} (he : e ≤ 7) : ∀ a, (![start s e, 0] : Fin 2 → ℕ) a + S520x384.size a ≤ S2560x384.size a := by
  have := hs.lt e he
  intro a
  fin_cases a
  · show start s e + 520 ≤ 2560
    unfold start
    omega
  · show 0 + 384 ≤ 384
    omega

theorem inbT {s : ℕ → ℕ} (hs : Fits s) (e : ℕ) : ∀ a, (![start s e, 0] : Fin 2 → ℕ) a + S520x128.size a ≤ S2576x128.size a := by
  have := hs.le e
  intro a
  fin_cases a
  · show start s e + 520 ≤ 2576
    unfold start
    omega
  · show 0 + 128 ≤ 128
    omega

theorem slab_rd (h : Segs ent) {e : ℕ} (he : e ≤ 7) : slab (bnd (rd ent) e) = start (seg ent) e := by
  rw [bnd_rd h he, slab_ofNat (seg_spec h e).1]
  rfl

theorem off86_rd (h : Segs ent) : k0_off86 (rd ent 1 0) (rd ent 1 1) (rd ent 1 2) (rd ent 1 3) (rd ent 1 4) (rd ent 1 5) (rd ent 1 6) (rd ent 1 7) (rd ent 1 8) (rd ent 1 9) (rd ent 1 10) (rd ent 1 11) = ![start (seg ent) 1, 0] := by
  rw [off86_w (rd ent), slab_rd h (by omega)]
theorem off87_rd (h : Segs ent) : k0_off87 (rd ent 2 0) (rd ent 2 1) (rd ent 2 2) (rd ent 2 3) (rd ent 2 4) (rd ent 2 5) (rd ent 2 6) (rd ent 2 7) (rd ent 2 8) (rd ent 2 9) (rd ent 2 10) (rd ent 2 11) = ![start (seg ent) 2, 0] := by
  rw [off87_w (rd ent), slab_rd h (by omega)]
theorem off88_rd (h : Segs ent) : k0_off88 (rd ent 3 0) (rd ent 3 1) (rd ent 3 2) (rd ent 3 3) (rd ent 3 4) (rd ent 3 5) (rd ent 3 6) (rd ent 3 7) (rd ent 3 8) (rd ent 3 9) (rd ent 3 10) (rd ent 3 11) = ![start (seg ent) 3, 0] := by
  rw [off88_w (rd ent), slab_rd h (by omega)]
theorem off89_rd (h : Segs ent) : k0_off89 (rd ent 4 0) (rd ent 4 1) (rd ent 4 2) (rd ent 4 3) (rd ent 4 4) (rd ent 4 5) (rd ent 4 6) (rd ent 4 7) (rd ent 4 8) (rd ent 4 9) (rd ent 4 10) (rd ent 4 11) = ![start (seg ent) 4, 0] := by
  rw [off89_w (rd ent), slab_rd h (by omega)]
theorem off90_rd (h : Segs ent) : k0_off90 (rd ent 5 0) (rd ent 5 1) (rd ent 5 2) (rd ent 5 3) (rd ent 5 4) (rd ent 5 5) (rd ent 5 6) (rd ent 5 7) (rd ent 5 8) (rd ent 5 9) (rd ent 5 10) (rd ent 5 11) = ![start (seg ent) 5, 0] := by
  rw [off90_w (rd ent), slab_rd h (by omega)]
theorem off91_rd (h : Segs ent) : k0_off91 (rd ent 6 0) (rd ent 6 1) (rd ent 6 2) (rd ent 6 3) (rd ent 6 4) (rd ent 6 5) (rd ent 6 6) (rd ent 6 7) (rd ent 6 8) (rd ent 6 9) (rd ent 6 10) (rd ent 6 11) = ![start (seg ent) 6, 0] := by
  rw [off91_w (rd ent), slab_rd h (by omega)]
theorem off92_rd (h : Segs ent) : k0_off92 (rd ent 7 0) (rd ent 7 1) (rd ent 7 2) (rd ent 7 3) (rd ent 7 4) (rd ent 7 5) (rd ent 7 6) (rd ent 7 7) (rd ent 7 8) (rd ent 7 9) (rd ent 7 10) (rd ent 7 11) = ![start (seg ent) 7, 0] := by
  rw [off92_w (rd ent), slab_rd h (by omega)]
theorem off98_rd (h : Segs ent) : k0_off98 (rd ent 1 0) (rd ent 1 1) (rd ent 1 2) (rd ent 1 3) (rd ent 1 4) (rd ent 1 5) (rd ent 1 6) (rd ent 1 7) (rd ent 1 8) (rd ent 1 9) (rd ent 1 10) (rd ent 1 11) = ![start (seg ent) 1, 0] := by
  rw [off98_w (rd ent), slab_rd h (by omega)]
theorem off99_rd (h : Segs ent) : k0_off99 (rd ent 2 0) (rd ent 2 1) (rd ent 2 2) (rd ent 2 3) (rd ent 2 4) (rd ent 2 5) (rd ent 2 6) (rd ent 2 7) (rd ent 2 8) (rd ent 2 9) (rd ent 2 10) (rd ent 2 11) = ![start (seg ent) 2, 0] := by
  rw [off99_w (rd ent), slab_rd h (by omega)]
theorem off100_rd (h : Segs ent) : k0_off100 (rd ent 3 0) (rd ent 3 1) (rd ent 3 2) (rd ent 3 3) (rd ent 3 4) (rd ent 3 5) (rd ent 3 6) (rd ent 3 7) (rd ent 3 8) (rd ent 3 9) (rd ent 3 10) (rd ent 3 11) = ![start (seg ent) 3, 0] := by
  rw [off100_w (rd ent), slab_rd h (by omega)]
theorem off101_rd (h : Segs ent) : k0_off101 (rd ent 4 0) (rd ent 4 1) (rd ent 4 2) (rd ent 4 3) (rd ent 4 4) (rd ent 4 5) (rd ent 4 6) (rd ent 4 7) (rd ent 4 8) (rd ent 4 9) (rd ent 4 10) (rd ent 4 11) = ![start (seg ent) 4, 0] := by
  rw [off101_w (rd ent), slab_rd h (by omega)]
theorem off102_rd (h : Segs ent) : k0_off102 (rd ent 5 0) (rd ent 5 1) (rd ent 5 2) (rd ent 5 3) (rd ent 5 4) (rd ent 5 5) (rd ent 5 6) (rd ent 5 7) (rd ent 5 8) (rd ent 5 9) (rd ent 5 10) (rd ent 5 11) = ![start (seg ent) 5, 0] := by
  rw [off102_w (rd ent), slab_rd h (by omega)]
theorem off103_rd (h : Segs ent) : k0_off103 (rd ent 6 0) (rd ent 6 1) (rd ent 6 2) (rd ent 6 3) (rd ent 6 4) (rd ent 6 5) (rd ent 6 6) (rd ent 6 7) (rd ent 6 8) (rd ent 6 9) (rd ent 6 10) (rd ent 6 11) = ![start (seg ent) 6, 0] := by
  rw [off103_w (rd ent), slab_rd h (by omega)]
theorem off104_rd (h : Segs ent) : k0_off104 (rd ent 7 0) (rd ent 7 1) (rd ent 7 2) (rd ent 7 3) (rd ent 7 4) (rd ent 7 5) (rd ent 7 6) (rd ent 7 7) (rd ent 7 8) (rd ent 7 9) (rd ent 7 10) (rd ent 7 11) = ![start (seg ent) 7, 0] := by
  rw [off104_w (rd ent), slab_rd h (by omega)]

theorem trips_rd (h : Segs ent) : (k0_t1_loop (rd ent 1 0) (rd ent 1 1) (rd ent 1 2) (rd ent 1 3) (rd ent 1 4) (rd ent 1 5) (rd ent 1 6) (rd ent 1 7) (rd ent 1 8) (rd ent 1 9) (rd ent 1 10) (rd ent 1 11) (rd ent 2 0) (rd ent 2 1) (rd ent 2 2) (rd ent 2 3) (rd ent 2 4) (rd ent 2 5) (rd ent 2 6) (rd ent 2 7) (rd ent 2 8) (rd ent 2 9) (rd ent 2 10) (rd ent 2 11) (rd ent 3 0) (rd ent 3 1) (rd ent 3 2) (rd ent 3 3) (rd ent 3 4) (rd ent 3 5) (rd ent 3 6) (rd ent 3 7) (rd ent 3 8) (rd ent 3 9) (rd ent 3 10) (rd ent 3 11) (rd ent 4 0) (rd ent 4 1) (rd ent 4 2) (rd ent 4 3) (rd ent 4 4) (rd ent 4 5) (rd ent 4 6) (rd ent 4 7) (rd ent 4 8) (rd ent 4 9) (rd ent 4 10) (rd ent 4 11) (rd ent 5 0) (rd ent 5 1) (rd ent 5 2) (rd ent 5 3) (rd ent 5 4) (rd ent 5 5) (rd ent 5 6) (rd ent 5 7) (rd ent 5 8) (rd ent 5 9) (rd ent 5 10) (rd ent 5 11) (rd ent 6 0) (rd ent 6 1) (rd ent 6 2) (rd ent 6 3) (rd ent 6 4) (rd ent 6 5) (rd ent 6 6) (rd ent 6 7) (rd ent 6 8) (rd ent 6 9) (rd ent 6 10) (rd ent 6 11) (rd ent 7 0) (rd ent 7 1) (rd ent 7 2) (rd ent 7 3) (rd ent 7 4) (rd ent 7 5) (rd ent 7 6) (rd ent 7 7) (rd ent 7 8) (rd ent 7 9) (rd ent 7 10) (rd ent 7 11)).trips = tripsN (seg ent) := by
  rw [loopA_w (rd ent)]
  exact loopA_trips (fits_seg h) fun e he => bnd_rd h he

theorem trips2_rd : (k0_t2_loop (rd ent 1 0) (rd ent 1 1) (rd ent 1 2) (rd ent 1 3) (rd ent 1 4) (rd ent 1 5) (rd ent 1 6) (rd ent 1 7) (rd ent 1 8) (rd ent 1 9) (rd ent 1 10) (rd ent 1 11) (rd ent 2 0) (rd ent 2 1) (rd ent 2 2) (rd ent 2 3) (rd ent 2 4) (rd ent 2 5) (rd ent 2 6) (rd ent 2 7) (rd ent 2 8) (rd ent 2 9) (rd ent 2 10) (rd ent 2 11) (rd ent 3 0) (rd ent 3 1) (rd ent 3 2) (rd ent 3 3) (rd ent 3 4) (rd ent 3 5) (rd ent 3 6) (rd ent 3 7) (rd ent 3 8) (rd ent 3 9) (rd ent 3 10) (rd ent 3 11) (rd ent 4 0) (rd ent 4 1) (rd ent 4 2) (rd ent 4 3) (rd ent 4 4) (rd ent 4 5) (rd ent 4 6) (rd ent 4 7) (rd ent 4 8) (rd ent 4 9) (rd ent 4 10) (rd ent 4 11) (rd ent 5 0) (rd ent 5 1) (rd ent 5 2) (rd ent 5 3) (rd ent 5 4) (rd ent 5 5) (rd ent 5 6) (rd ent 5 7) (rd ent 5 8) (rd ent 5 9) (rd ent 5 10) (rd ent 5 11) (rd ent 6 0) (rd ent 6 1) (rd ent 6 2) (rd ent 6 3) (rd ent 6 4) (rd ent 6 5) (rd ent 6 6) (rd ent 6 7) (rd ent 6 8) (rd ent 6 9) (rd ent 6 10) (rd ent 6 11) (rd ent 7 0) (rd ent 7 1) (rd ent 7 2) (rd ent 7 3) (rd ent 7 4) (rd ent 7 5) (rd ent 7 6) (rd ent 7 7) (rd ent 7 8) (rd ent 7 9) (rd ent 7 10) (rd ent 7 11)).trips = 0 := by
  rw [loopB_w (rd ent)]
  exact loopB_trips _

set_option maxHeartbeats 4000000 in
theorem good (h : Segs ent) : Good ent (rd ent) where
  inb := by
    intro e k _ he hk
    have hp := pos_le h he hk
    show (Scalar.indexCast (Scalar.subi (Scalar.addi (posW (rd ent e) e k) (stp k)) 1#32)).toNat + 1 ≤ 2048
    rw [posW_eq h he k (by omega), stp, addi_ofNat, show (1#32 : BitVec 32) = BitVec.ofNat 32 1 from rfl, subi_ofNat (by omega)]
    show (BitVec.ofNat 32 (pos ent e k + 2048 >>> k - 1)).toNat + 1 ≤ 2048
    rw [natOf (by omega)]
    omega
  val := by
    intro e k _ he hk
    have hp := pos_le h he hk
    show ent (Scalar.indexCast (Scalar.subi (Scalar.addi (posW (rd ent e) e k) (stp k)) 1#32)).toNat = _
    rw [posW_eq h he k (by omega), stp, addi_ofNat, show (1#32 : BitVec 32) = BitVec.ofNat 32 1 from rfl, subi_ofNat (by omega)]
    show ent (BitVec.ofNat 32 (pos ent e k + 2048 >>> k - 1)).toNat = _
    rw [natOf (by omega)]
    rfl
  c78 := by
    refine ⟨?_, ?_⟩
    · rw [off86_rd h]; exact inbG (fits_seg h) (e := 1) (by omega)
    · rw [off98_rd h]; exact inbT (fits_seg h) 1
  c79 := by
    refine ⟨?_, ?_⟩
    · rw [off87_rd h]; exact inbG (fits_seg h) (e := 2) (by omega)
    · rw [off99_rd h]; exact inbT (fits_seg h) 2
  c80 := by
    refine ⟨?_, ?_⟩
    · rw [off88_rd h]; exact inbG (fits_seg h) (e := 3) (by omega)
    · rw [off100_rd h]; exact inbT (fits_seg h) 3
  c81 := by
    refine ⟨?_, ?_⟩
    · rw [off89_rd h]; exact inbG (fits_seg h) (e := 4) (by omega)
    · rw [off101_rd h]; exact inbT (fits_seg h) 4
  c82 := by
    refine ⟨?_, ?_⟩
    · rw [off90_rd h]; exact inbG (fits_seg h) (e := 5) (by omega)
    · rw [off102_rd h]; exact inbT (fits_seg h) 5
  c83 := by
    refine ⟨?_, ?_⟩
    · rw [off91_rd h]; exact inbG (fits_seg h) (e := 6) (by omega)
    · rw [off103_rd h]; exact inbT (fits_seg h) 6
  c84 := by
    have ht := trips_rd h
    have h2 := trips2_rd (ent := ent)
    have hn := tripsN_le (fits_seg h)
    refine ⟨?_, ?_, ?_, ?_, ?_, ?_, ?_, ?_⟩
    · rw [off92_rd h]; exact inbG (fits_seg h) (e := 7) (by omega)
    · rw [loopA_w (rd ent)]; exact loopA_ok (fits_seg h) fun e he => bnd_rd h he
    · intro k r
      have := k.isLt
      have := r.isLt
      rw [off93_eq (rd ent 1 0) (rd ent 1 1) (rd ent 1 2) (rd ent 1 3) (rd ent 1 4) (rd ent 1 5) (rd ent 1 6) (rd ent 1 7) (rd ent 1 8) (rd ent 1 9) (rd ent 1 10) (rd ent 1 11) (rd ent 2 0) (rd ent 2 1) (rd ent 2 2) (rd ent 2 3) (rd ent 2 4) (rd ent 2 5) (rd ent 2 6) (rd ent 2 7) (rd ent 2 8) (rd ent 2 9) (rd ent 2 10) (rd ent 2 11) (rd ent 3 0) (rd ent 3 1) (rd ent 3 2) (rd ent 3 3) (rd ent 3 4) (rd ent 3 5) (rd ent 3 6) (rd ent 3 7) (rd ent 3 8) (rd ent 3 9) (rd ent 3 10) (rd ent 3 11) (rd ent 4 0) (rd ent 4 1) (rd ent 4 2) (rd ent 4 3) (rd ent 4 4) (rd ent 4 5) (rd ent 4 6) (rd ent 4 7) (rd ent 4 8) (rd ent 4 9) (rd ent 4 10) (rd ent 4 11) (rd ent 5 0) (rd ent 5 1) (rd ent 5 2) (rd ent 5 3) (rd ent 5 4) (rd ent 5 5) (rd ent 5 6) (rd ent 5 7) (rd ent 5 8) (rd ent 5 9) (rd ent 5 10) (rd ent 5 11) (rd ent 6 0) (rd ent 6 1) (rd ent 6 2) (rd ent 6 3) (rd ent 6 4) (rd ent 6 5) (rd ent 6 6) (rd ent 6 7) (rd ent 6 8) (rd ent 6 9) (rd ent 6 10) (rd ent 6 11) (rd ent 7 0) (rd ent 7 1) (rd ent 7 2) (rd ent 7 3) (rd ent 7 4) (rd ent 7 5) (rd ent 7 6) (rd ent 7 7) (rd ent 7 8) (rd ent 7 9) (rd ent 7 10) (rd ent 7 11) k (r := r.val) (by omega)]
      exact inbP (by omega)
    · intro k r
      have := k.isLt
      have := r.isLt
      rw [off94_eq (rd ent 1 0) (rd ent 1 1) (rd ent 1 2) (rd ent 1 3) (rd ent 1 4) (rd ent 1 5) (rd ent 1 6) (rd ent 1 7) (rd ent 1 8) (rd ent 1 9) (rd ent 1 10) (rd ent 1 11) (rd ent 2 0) (rd ent 2 1) (rd ent 2 2) (rd ent 2 3) (rd ent 2 4) (rd ent 2 5) (rd ent 2 6) (rd ent 2 7) (rd ent 2 8) (rd ent 2 9) (rd ent 2 10) (rd ent 2 11) (rd ent 3 0) (rd ent 3 1) (rd ent 3 2) (rd ent 3 3) (rd ent 3 4) (rd ent 3 5) (rd ent 3 6) (rd ent 3 7) (rd ent 3 8) (rd ent 3 9) (rd ent 3 10) (rd ent 3 11) (rd ent 4 0) (rd ent 4 1) (rd ent 4 2) (rd ent 4 3) (rd ent 4 4) (rd ent 4 5) (rd ent 4 6) (rd ent 4 7) (rd ent 4 8) (rd ent 4 9) (rd ent 4 10) (rd ent 4 11) (rd ent 5 0) (rd ent 5 1) (rd ent 5 2) (rd ent 5 3) (rd ent 5 4) (rd ent 5 5) (rd ent 5 6) (rd ent 5 7) (rd ent 5 8) (rd ent 5 9) (rd ent 5 10) (rd ent 5 11) (rd ent 6 0) (rd ent 6 1) (rd ent 6 2) (rd ent 6 3) (rd ent 6 4) (rd ent 6 5) (rd ent 6 6) (rd ent 6 7) (rd ent 6 8) (rd ent 6 9) (rd ent 6 10) (rd ent 6 11) (rd ent 7 0) (rd ent 7 1) (rd ent 7 2) (rd ent 7 3) (rd ent 7 4) (rd ent 7 5) (rd ent 7 6) (rd ent 7 7) (rd ent 7 8) (rd ent 7 9) (rd ent 7 10) (rd ent 7 11) k (r := r.val) (by omega)]
      exact inbH (by omega)
    · rw [loopB_w (rd ent)]; exact loopB_ok (fits_seg h) fun e he => bnd_rd h he
    · intro k
      exact absurd k.isLt (by omega)
    · intro k
      exact absurd k.isLt (by omega)
    · rw [off104_rd h]; exact inbT (fits_seg h) 7

end Cert.KernelIdeal.Hand
end
-- ==== Proof.Parts.lean ====
module

public import proofs.«01_k».proof.Proof.Arrays

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! The parts of the program before and after its loop, run over the arrays they read and write. -/

variable {c : Dev nD} (arg0 : Memref sig .tc .smem S2048 .i32) (harg0 : arg0.IsWhole) (arg1 : Memref sig .tc .vmem S2048x4x256 .f32) (harg1 : arg1.IsWhole) (arg2 : Memref sig .tc .vmem S1x1922 .f32) (harg2 : arg2.IsWhole) (arg3 : Memref sig .tc .vmem S128x512 .f32) (harg3 : arg3.IsWhole) (arg4 : Memref sig .tc .vmem S384x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384x128 .f32) (harg7 : arg7.IsWhole) (arg8 : Memref sig .tc .vmem S2x128 .f32) (harg8 : arg8.IsWhole) (arg9 : Memref sig .tc .vmem S2048x2 .f32) (harg9 : arg9.IsWhole) (arg10 : Memref sig .tc .vmem S2560x384 .f32) (harg10 : arg10.IsWhole) (arg11 : Memref sig .tc .vmem S528x8x384 .f32) (harg11 : arg11.IsWhole) (arg12 : Memref sig .tc .vmem S528x8x128 .f32) (harg12 : arg12.IsWhole) (arg13 : Memref sig .tc .vmem S2576x128 .f32) (harg13 : arg13.IsWhole) (arg14 : Memref sig .tc .vmem S128x384 .bf16) (harg14 : arg14.IsWhole) (arg15 : Memref sig .tc .vmem S128x384 .bf16) (harg15 : arg15.IsWhole) (arg16 : Memref sig .tc .vmem S128x384 .bf16) (harg16 : arg16.IsWhole)

/-- The first slab starts at row 0. -/
theorem off85_eq : k0_off85 = ![0, 0] := rfl
theorem inb85 : ∀ a, (![0, 0] : Fin 2 → ℕ) a + S520x384.size a ≤ S2560x384.size a := k0_off85_inb
theorem off97_eq : k0_off97 = ![0, 0] := rfl
theorem inb97 : ∀ a, (![0, 0] : Fin 2 → ℕ) a + S520x128.size a ≤ S2576x128.size a := k0_off97_inb

theorem part32_spec (v95 : BitVec 32) (v191 : BitVec 32) (v287 : BitVec 32) (v680 : BitVec 32) (v694 : BitVec 1) (v695 : BitVec 32)  {Q : _ → sProp 𝕄} :
    ⊢ iprop((Q ⟨(Scalar.select v694 v695 v680), (Scalar.select (Scalar.andi (Scalar.cmpi .ne (Scalar.subi (Scalar.extui (Scalar.cmpi .sgt v95 0#32)) (Scalar.extui (Scalar.cmpi .slt v95 0#32))) (Scalar.subi (Scalar.extui (Scalar.cmpi .sgt 8#32 0#32)) (Scalar.extui (Scalar.cmpi .slt 8#32 0#32)))) (Scalar.cmpi .ne (Scalar.remsi v95 8#32) 0#32)) (Scalar.subi (Scalar.divsi v95 8#32) 1#32) (Scalar.divsi v95 8#32)), (Scalar.select (Scalar.andi (Scalar.cmpi .ne (Scalar.subi (Scalar.extui (Scalar.cmpi .sgt v191 0#32)) (Scalar.extui (Scalar.cmpi .slt v191 0#32))) (Scalar.subi (Scalar.extui (Scalar.cmpi .sgt 8#32 0#32)) (Scalar.extui (Scalar.cmpi .slt 8#32 0#32)))) (Scalar.cmpi .ne (Scalar.remsi v191 8#32) 0#32)) (Scalar.subi (Scalar.divsi v191 8#32) 1#32) (Scalar.divsi v191 8#32)), 8#32, (Scalar.divsi v287 8#32), (Scalar.subi (Scalar.extui (Scalar.cmpi .sgt v287 0#32)) (Scalar.extui (Scalar.cmpi .slt v287 0#32))), (Scalar.cmpi .sgt 8#32 0#32)⟩)
      -∗ wp frame (wpE (defs₀ (F := F)) Variants.none c none) Set.univ (k0_part32 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v95 v191 v287 v680 v694 v695) Q) := by
  iintro  Hk
  rw [k0_part32_eq_skeleton]
  unfold k0_part32_skel
  iapply wp_done
  iexact Hk

theorem part33_spec (v287 : BitVec 32) (v383 : BitVec 32) (v479 : BitVec 32) (c8_i32_357 : BitVec 32) (v731 : BitVec 32) (v736 : BitVec 32) (v737 : BitVec 1)  {Q : _ → sProp 𝕄} :
    ⊢ iprop((Q ⟨(Scalar.select (Scalar.andi (Scalar.cmpi .ne v736 (Scalar.subi (Scalar.extui v737) (Scalar.extui (Scalar.cmpi .slt c8_i32_357 0#32)))) (Scalar.cmpi .ne (Scalar.remsi v287 c8_i32_357) 0#32)) (Scalar.subi v731 1#32) v731), (Scalar.select (Scalar.andi (Scalar.cmpi .ne (Scalar.subi (Scalar.extui (Scalar.cmpi .sgt v383 0#32)) (Scalar.extui (Scalar.cmpi .slt v383 0#32))) (Scalar.subi (Scalar.extui (Scalar.cmpi .sgt 8#32 0#32)) (Scalar.extui (Scalar.cmpi .slt 8#32 0#32)))) (Scalar.cmpi .ne (Scalar.remsi v383 8#32) 0#32)) (Scalar.subi (Scalar.divsi v383 8#32) 1#32) (Scalar.divsi v383 8#32)), (Scalar.divsi v479 8#32), (Scalar.andi (Scalar.cmpi .ne (Scalar.subi (Scalar.extui (Scalar.cmpi .sgt v479 0#32)) (Scalar.extui (Scalar.cmpi .slt v479 0#32))) (Scalar.subi (Scalar.extui (Scalar.cmpi .sgt 8#32 0#32)) (Scalar.extui (Scalar.cmpi .slt 8#32 0#32)))) (Scalar.cmpi .ne (Scalar.remsi v479 8#32) 0#32)), (Scalar.subi (Scalar.divsi v479 8#32) 1#32)⟩)
      -∗ wp frame (wpE (defs₀ (F := F)) Variants.none c none) Set.univ (k0_part33 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v287 v383 v479 c8_i32_357 v731 v736 v737) Q) := by
  iintro  Hk
  rw [k0_part33_eq_skeleton]
  unfold k0_part33_skel
  iapply wp_done
  iexact Hk

theorem part34_spec (v95 : BitVec 32) (v191 : BitVec 32) (v575 : BitVec 32) (v671 : BitVec 32) (v696 : BitVec 32) (v713 : BitVec 32) (v730 : BitVec 32) (v765 : BitVec 32) (v779 : BitVec 1) (v780 : BitVec 32)  {Q : _ → sProp 𝕄} :
    ⊢ iprop((Q ⟨(Scalar.select v779 v780 v765), (Scalar.select (Scalar.andi (Scalar.cmpi .ne (Scalar.subi (Scalar.extui (Scalar.cmpi .sgt v575 0#32)) (Scalar.extui (Scalar.cmpi .slt v575 0#32))) (Scalar.subi (Scalar.extui (Scalar.cmpi .sgt 8#32 0#32)) (Scalar.extui (Scalar.cmpi .slt 8#32 0#32)))) (Scalar.cmpi .ne (Scalar.remsi v575 8#32) 0#32)) (Scalar.subi (Scalar.divsi v575 8#32) 1#32) (Scalar.divsi v575 8#32)), (Scalar.select (Scalar.andi (Scalar.cmpi .ne (Scalar.subi (Scalar.extui (Scalar.cmpi .sgt v671 0#32)) (Scalar.extui (Scalar.cmpi .slt v671 0#32))) (Scalar.subi (Scalar.extui (Scalar.cmpi .sgt 8#32 0#32)) (Scalar.extui (Scalar.cmpi .slt 8#32 0#32)))) (Scalar.cmpi .ne (Scalar.remsi v671 8#32) 0#32)) (Scalar.subi (Scalar.divsi v671 8#32) 1#32) (Scalar.divsi v671 8#32)), (Scalar.subi 0#32 (Scalar.muli v696 8#32)), (Scalar.subi v95 (Scalar.muli v713 8#32)), (Scalar.subi v191 (Scalar.muli v730 8#32)), 8#32⟩)
      -∗ wp frame (wpE (defs₀ (F := F)) Variants.none c none) Set.univ (k0_part34 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v95 v191 v575 v671 v696 v713 v730 v765 v779 v780) Q) := by
  iintro  Hk
  rw [k0_part34_eq_skeleton]
  unfold k0_part34_skel
  iapply wp_done
  iexact Hk

theorem part35_spec (v287 : BitVec 32) (v383 : BitVec 32) (v479 : BitVec 32) (v575 : BitVec 32) (v671 : BitVec 32) (v747 : BitVec 32) (v764 : BitVec 32) (v781 : BitVec 32) (v798 : BitVec 32) (v815 : BitVec 32) (c8_i32_396 : BitVec 32) {A5 : S384x128.Idx → Elt F .f32} {A14 : S128x384.Idx → Elt F .bf16} {A6 : S384x128.Idx → Elt F .f32} {A15 : S128x384.Idx → Elt F .bf16} {A7 : S384x128.Idx → Elt F .f32} {A16 : S128x384.Idx → Elt F .bf16} {A1 : S2048x4x256.Idx → Elt F .f32} {Q : _ → sProp 𝕄} :
    ⊢ iprop(ar c arg5 A5 -∗ ar c arg14 A14 -∗ ar c arg6 A6 -∗ ar c arg15 A15 -∗ ar c arg7 A7 -∗ ar c arg16 A16 -∗ ar c arg1 A1 -∗ (ar c arg5 A5 -∗ ar c arg14 (k0_pay59 A5) -∗ ar c arg6 A6 -∗ ar c arg15 (k0_pay60 A6) -∗ ar c arg7 A7 -∗ ar c arg16 (k0_pay61 A7) -∗ ar c arg1 A1 -∗ Q ⟨(Scalar.subi v287 (Scalar.muli v747 c8_i32_396)), (Scalar.subi v383 (Scalar.muli v764 8#32)), (Scalar.subi v479 (Scalar.muli v781 8#32)), (Scalar.subi v575 (Scalar.muli v798 8#32)), (Scalar.subi v671 (Scalar.muli v815 8#32)), k0_pay62 (VecWindow.window (s := S2048x4x256) A1 ![0, 2, 0] S2048x1x256.size inb_S2048x4x256_S2048x1x256_0_2_0), k0_pay63 (VecWindow.window (s := S2048x4x256) A1 ![0, 3, 0] S2048x1x256.size inb_S2048x4x256_S2048x1x256_0_3_0), k0_pay64 (VecWindow.window (s := S2048x4x256) A1 ![0, 2, 0] S2048x1x256.size inb_S2048x4x256_S2048x1x256_0_2_0) (VecWindow.window (s := S2048x4x256) A1 ![0, 3, 0] S2048x1x256.size inb_S2048x4x256_S2048x1x256_0_3_0)⟩)
      -∗ wp frame (wpE (defs₀ (F := F)) Variants.none c none) Set.univ (k0_part35 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v287 v383 v479 v575 v671 v747 v764 v781 v798 v815 c8_i32_396) Q) := by
  iintro H5 H14 H6 H15 H7 H16 H1 Hk
  rw [k0_part35_eq_skeleton]
  unfold k0_part35_skel
  iapply wp_ld_full $$ H5; iintro H5
  iapply wp_ld_full $$ H14; iintro H14
  iapply wp_st_full $$ H14; iintro H14
  iapply wp_ld_full $$ H6; iintro H6
  iapply wp_ld_full $$ H15; iintro H15
  iapply wp_st_full $$ H15; iintro H15
  iapply wp_ld_full $$ H7; iintro H7
  iapply wp_ld_full $$ H16; iintro H16
  iapply wp_st_full $$ H16; iintro H16
  iapply (wp_ld rfl inb_S2048x4x256_S2048x1x256_0_2_0) $$ H1; iintro H1
  iapply (wp_ld rfl inb_S2048x4x256_S2048x1x256_0_3_0) $$ H1; iintro H1
  iapply wp_done
  iapply Hk $$ H5 H14 H6 H15 H7 H16 H1

theorem part36_spec (v851 : FVec F S2048x256 .f32) (v853 : FVec F S2048x256 .f32) (v855 : FVec F S2048 .f32) {A1 : S2048x4x256.Idx → Elt F .f32} {A2 : S1x1922.Idx → Elt F .f32} {Q : _ → sProp 𝕄} :
    ⊢ iprop(ar c arg1 A1 -∗ ar c arg2 A2 -∗ (ar c arg1 A1 -∗ ar c arg2 A2 -∗ Q ⟨k0_pay65 v851 v853 v855 (VecWindow.window (s := S2048x4x256) A1 ![0, 0, 0] S2048x1x256.size inb_S2048x4x256_S2048x1x256_0_0_0), k0_pay66 (VecWindow.window (s := S1x1922) A2 ![0, 0] S1x128.size inb_S1x1922_S1x128_0_0), k0_pay67 (VecWindow.window (s := S1x1922) A2 ![0, 128] S1x128.size inb_S1x1922_S1x128_0_128), k0_pay68 (VecWindow.window (s := S1x1922) A2 ![0, 256] S1x128.size inb_S1x1922_S1x128_0_256), k0_pay69 (VecWindow.window (s := S1x1922) A2 ![0, 384] S1x384.size inb_S1x1922_S1x384_0_384), k0_pay70 (VecWindow.window (s := S1x1922) A2 ![0, 768] S1x384.size inb_S1x1922_S1x384_0_768), k0_pay71 (VecWindow.window (s := S1x1922) A2 ![0, 1152] S1x384.size inb_S1x1922_S1x384_0_1152), k0_pay72 (VecWindow.window (s := S1x1922) A2 ![0, 1536] S1x384.size inb_S1x1922_S1x384_0_1536), k0_pay73 (VecWindow.window (s := S1x1922) A2 ![0, 1920] S1x2.size inb_S1x1922_S1x2_0_1920)⟩)
      -∗ wp frame (wpE (defs₀ (F := F)) Variants.none c none) Set.univ (k0_part36 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v851 v853 v855) Q) := by
  iintro H1 H2 Hk
  rw [k0_part36_eq_skeleton]
  unfold k0_part36_skel
  iapply (wp_ld rfl inb_S2048x4x256_S2048x1x256_0_0_0) $$ H1; iintro H1
  iapply (wp_ld rfl inb_S1x1922_S1x128_0_0) $$ H2; iintro H2
  iapply (wp_ld rfl inb_S1x1922_S1x128_0_128) $$ H2; iintro H2
  iapply (wp_ld rfl inb_S1x1922_S1x128_0_256) $$ H2; iintro H2
  iapply (wp_ld rfl inb_S1x1922_S1x384_0_384) $$ H2; iintro H2
  iapply (wp_ld rfl inb_S1x1922_S1x384_0_768) $$ H2; iintro H2
  iapply (wp_ld rfl inb_S1x1922_S1x384_0_1152) $$ H2; iintro H2
  iapply (wp_ld rfl inb_S1x1922_S1x384_0_1536) $$ H2; iintro H2
  iapply (wp_ld rfl inb_S1x1922_S1x2_0_1920) $$ H2; iintro H2
  iapply wp_done
  iapply Hk $$ H1 H2

theorem part37_spec (v696 : BitVec 32) (v874 : FVec F S2048x256 .f32) (v876 : FVec F S1x128 .f32) (v878 : FVec F S1x128 .f32) (v880 : FVec F S1x128 .f32) (v882 : FVec F S1x384 .f32) {A3 : S128x512.Idx → Elt F .f32} {A1 : S2048x4x256.Idx → Elt F .f32} {A4 : S384x128.Idx → Elt F .f32} {A10 : S2560x384.Idx → Elt F .f32} {A11 : S528x8x384.Idx → Elt F .f32} {Q : _ → sProp 𝕄} :
    ⊢ iprop(ar c arg3 A3 -∗ ar c arg1 A1 -∗ ar c arg4 A4 -∗ ar c arg10 A10 -∗ ar c arg11 A11 -∗ (ar c arg3 A3 -∗ ar c arg1 A1 -∗ ar c arg4 A4 -∗ ar c arg10 (VecWindow.put (s := S2560x384) (VecWindow.put (s := S2560x384) A10 ![0, 0] S2048x384.size (k0_pay74 v874 v876 v878 v880 v882 (VecWindow.window (s := S128x512) A3 ![0, 0] S128x256.size inb_S128x512_S128x256_0_0) (VecWindow.window (s := S2048x4x256) A1 ![0, 1, 0] S2048x1x256.size inb_S2048x4x256_S2048x1x256_0_1_0) (VecWindow.window (s := S128x512) A3 ![0, 256] S128x256.size inb_S128x512_S128x256_0_256) A4)) ![2048, 0] S512x384.size (k0_pay75 (F := F))) -∗ ar c arg11 (VecWindow.put (s := S528x8x384) A11 ![0, 0, 0] S520x1x384.size (k0_pay76 (VecWindow.window (s := S2560x384) (VecWindow.put (s := S2560x384) (VecWindow.put (s := S2560x384) A10 ![0, 0] S2048x384.size (k0_pay74 v874 v876 v878 v880 v882 (VecWindow.window (s := S128x512) A3 ![0, 0] S128x256.size inb_S128x512_S128x256_0_0) (VecWindow.window (s := S2048x4x256) A1 ![0, 1, 0] S2048x1x256.size inb_S2048x4x256_S2048x1x256_0_1_0) (VecWindow.window (s := S128x512) A3 ![0, 256] S128x256.size inb_S128x512_S128x256_0_256) A4)) ![2048, 0] S512x384.size (k0_pay75 (F := F))) ![0, 0] S520x384.size inb85))) -∗ Q (8#32))
      -∗ wp frame (wpE (defs₀ (F := F)) Variants.none c none) Set.univ (k0_part37 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v696 v874 v876 v878 v880 v882) Q) := by
  iintro H3 H1 H4 H10 H11 Hk
  rw [k0_part37_eq_skeleton]
  unfold k0_part37_skel
  iapply (wp_ld rfl inb_S128x512_S128x256_0_0) $$ H3; iintro H3
  iapply (wp_ld rfl inb_S2048x4x256_S2048x1x256_0_1_0) $$ H1; iintro H1
  iapply (wp_ld rfl inb_S128x512_S128x256_0_256) $$ H3; iintro H3
  iapply wp_ld_full $$ H4; iintro H4
  iapply (wp_ld rfl inb_S2560x384_S2048x384_0_0) $$ H10; iintro H10
  iapply (wp_st rfl) $$ H10; iintro H10
  iapply (wp_ld rfl inb_S2560x384_S512x384_2048_0) $$ H10; iintro H10
  iapply (wp_st rfl) $$ H10; iintro H10
  iapply (wp_ld off85_eq inb85) $$ H10; iintro H10
  iapply (wp_ld rfl inb_S528x8x384_S520x1x384_0_0_0) $$ H11; iintro H11
  iapply (wp_st rfl) $$ H11; iintro H11
  iapply wp_done
  iapply Hk $$ H3 H1 H4 H10 H11

theorem part38_spec (v4 : Elt F .i32) (v12 : Elt F .i32) (v20 : Elt F .i32) (v28 : Elt F .i32) (v36 : Elt F .i32) (v44 : Elt F .i32) (v52 : Elt F .i32) (v60 : Elt F .i32) (v68 : Elt F .i32) (v76 : Elt F .i32) (v84 : Elt F .i32) (v92 : Elt F .i32) (k0_hw78 : k0_chk78 v4 v12 v20 v28 v36 v44 v52 v60 v68 v76 v84 v92) (v100 : Elt F .i32) (v108 : Elt F .i32) (v116 : Elt F .i32) (v124 : Elt F .i32) (v132 : Elt F .i32) (v140 : Elt F .i32) (v148 : Elt F .i32) (v156 : Elt F .i32) (v164 : Elt F .i32) (v172 : Elt F .i32) (v180 : Elt F .i32) (v188 : Elt F .i32) (k0_hw79 : k0_chk79 v100 v108 v116 v124 v132 v140 v148 v156 v164 v172 v180 v188) (v196 : Elt F .i32) (v204 : Elt F .i32) (v212 : Elt F .i32) (v220 : Elt F .i32) (v228 : Elt F .i32) (v236 : Elt F .i32) (v244 : Elt F .i32) (v252 : Elt F .i32) (v260 : Elt F .i32) (v268 : Elt F .i32) (v276 : Elt F .i32) (v284 : Elt F .i32) (k0_hw80 : k0_chk80 v196 v204 v212 v220 v228 v236 v244 v252 v260 v268 v276 v284) (v292 : Elt F .i32) (v300 : Elt F .i32) (v308 : Elt F .i32) (v316 : Elt F .i32) (v324 : Elt F .i32) (v332 : Elt F .i32) (v340 : Elt F .i32) (v348 : Elt F .i32) (v356 : Elt F .i32) (v364 : Elt F .i32) (v372 : Elt F .i32) (v380 : Elt F .i32) (k0_hw81 : k0_chk81 v292 v300 v308 v316 v324 v332 v340 v348 v356 v364 v372 v380) (v388 : Elt F .i32) (v396 : Elt F .i32) (v404 : Elt F .i32) (v412 : Elt F .i32) (v420 : Elt F .i32) (v428 : Elt F .i32) (v436 : Elt F .i32) (v444 : Elt F .i32) (v452 : Elt F .i32) (v460 : Elt F .i32) (v468 : Elt F .i32) (v476 : Elt F .i32) (k0_hw82 : k0_chk82 v388 v396 v404 v412 v420 v428 v436 v444 v452 v460 v468 v476) (v713 : BitVec 32) (v730 : BitVec 32) (v747 : BitVec 32) (v764 : BitVec 32) (v781 : BitVec 32) (c8_i32_454 : BitVec 32) {A10 : S2560x384.Idx → Elt F .f32} {A11 : S528x8x384.Idx → Elt F .f32}
    {o0 : ℕ} (ho0 : k0_off86 v4 v12 v20 v28 v36 v44 v52 v60 v68 v76 v84 v92 = ![o0, 0]) (hb0 : ∀ a, (![o0, 0] : Fin 2 → ℕ) a + S520x384.size a ≤ S2560x384.size a)
    {o1 : ℕ} (ho1 : k0_off87 v100 v108 v116 v124 v132 v140 v148 v156 v164 v172 v180 v188 = ![o1, 0]) (hb1 : ∀ a, (![o1, 0] : Fin 2 → ℕ) a + S520x384.size a ≤ S2560x384.size a)
    {o2 : ℕ} (ho2 : k0_off88 v196 v204 v212 v220 v228 v236 v244 v252 v260 v268 v276 v284 = ![o2, 0]) (hb2 : ∀ a, (![o2, 0] : Fin 2 → ℕ) a + S520x384.size a ≤ S2560x384.size a)
    {o3 : ℕ} (ho3 : k0_off89 v292 v300 v308 v316 v324 v332 v340 v348 v356 v364 v372 v380 = ![o3, 0]) (hb3 : ∀ a, (![o3, 0] : Fin 2 → ℕ) a + S520x384.size a ≤ S2560x384.size a)
    {o4 : ℕ} (ho4 : k0_off90 v388 v396 v404 v412 v420 v428 v436 v444 v452 v460 v468 v476 = ![o4, 0]) (hb4 : ∀ a, (![o4, 0] : Fin 2 → ℕ) a + S520x384.size a ≤ S2560x384.size a) {Q : _ → sProp 𝕄} :
    ⊢ iprop(ar c arg10 A10 -∗ ar c arg11 A11 -∗ (ar c arg10 A10 -∗ ar c arg11 (VecWindow.put (s := S528x8x384) (VecWindow.put (s := S528x8x384) (VecWindow.put (s := S528x8x384) (VecWindow.put (s := S528x8x384) (VecWindow.put (s := S528x8x384) A11 ![0, 1, 0] S520x1x384.size (k0_pay77 (VecWindow.window (s := S2560x384) A10 ![o0, 0] S520x384.size hb0))) ![0, 2, 0] S520x1x384.size (k0_pay78 (VecWindow.window (s := S2560x384) A10 ![o1, 0] S520x384.size hb1))) ![0, 3, 0] S520x1x384.size (k0_pay79 (VecWindow.window (s := S2560x384) A10 ![o2, 0] S520x384.size hb2))) ![0, 4, 0] S520x1x384.size (k0_pay80 (VecWindow.window (s := S2560x384) A10 ![o3, 0] S520x384.size hb3))) ![0, 5, 0] S520x1x384.size (k0_pay81 (VecWindow.window (s := S2560x384) A10 ![o4, 0] S520x384.size hb4))) -∗ Q (8#32))
      -∗ wp frame (wpE (defs₀ (F := F)) Variants.none c none) Set.univ (k0_part38 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v12 v20 v28 v36 v44 v52 v60 v68 v76 v84 v92 k0_hw78 v100 v108 v116 v124 v132 v140 v148 v156 v164 v172 v180 v188 k0_hw79 v196 v204 v212 v220 v228 v236 v244 v252 v260 v268 v276 v284 k0_hw80 v292 v300 v308 v316 v324 v332 v340 v348 v356 v364 v372 v380 k0_hw81 v388 v396 v404 v412 v420 v428 v436 v444 v452 v460 v468 v476 k0_hw82 v713 v730 v747 v764 v781 c8_i32_454) Q) := by
  iintro H10 H11 Hk
  rw [k0_part38_eq_skeleton]
  unfold k0_part38_skel
  iapply (wp_ld ho0 hb0) $$ H10; iintro H10
  iapply (wp_ld rfl inb_S528x8x384_S520x1x384_0_1_0) $$ H11; iintro H11
  iapply (wp_st rfl) $$ H11; iintro H11
  iapply (wp_ld ho1 hb1) $$ H10; iintro H10
  iapply (wp_ld rfl inb_S528x8x384_S520x1x384_0_2_0) $$ H11; iintro H11
  iapply (wp_st rfl) $$ H11; iintro H11
  iapply (wp_ld ho2 hb2) $$ H10; iintro H10
  iapply (wp_ld rfl inb_S528x8x384_S520x1x384_0_3_0) $$ H11; iintro H11
  iapply (wp_st rfl) $$ H11; iintro H11
  iapply (wp_ld ho3 hb3) $$ H10; iintro H10
  iapply (wp_ld rfl inb_S528x8x384_S520x1x384_0_4_0) $$ H11; iintro H11
  iapply (wp_st rfl) $$ H11; iintro H11
  iapply (wp_ld ho4 hb4) $$ H10; iintro H10
  iapply (wp_ld rfl inb_S528x8x384_S520x1x384_0_5_0) $$ H11; iintro H11
  iapply (wp_st rfl) $$ H11; iintro H11
  iapply wp_done
  iapply Hk $$ H10 H11

theorem part39_spec (v4 : Elt F .i32) (v12 : Elt F .i32) (v20 : Elt F .i32) (v28 : Elt F .i32) (v36 : Elt F .i32) (v44 : Elt F .i32) (v52 : Elt F .i32) (v60 : Elt F .i32) (v68 : Elt F .i32) (v76 : Elt F .i32) (v84 : Elt F .i32) (v92 : Elt F .i32) (v100 : Elt F .i32) (v108 : Elt F .i32) (v116 : Elt F .i32) (v124 : Elt F .i32) (v132 : Elt F .i32) (v140 : Elt F .i32) (v148 : Elt F .i32) (v156 : Elt F .i32) (v164 : Elt F .i32) (v172 : Elt F .i32) (v180 : Elt F .i32) (v188 : Elt F .i32) (v196 : Elt F .i32) (v204 : Elt F .i32) (v212 : Elt F .i32) (v220 : Elt F .i32) (v228 : Elt F .i32) (v236 : Elt F .i32) (v244 : Elt F .i32) (v252 : Elt F .i32) (v260 : Elt F .i32) (v268 : Elt F .i32) (v276 : Elt F .i32) (v284 : Elt F .i32) (v292 : Elt F .i32) (v300 : Elt F .i32) (v308 : Elt F .i32) (v316 : Elt F .i32) (v324 : Elt F .i32) (v332 : Elt F .i32) (v340 : Elt F .i32) (v348 : Elt F .i32) (v356 : Elt F .i32) (v364 : Elt F .i32) (v372 : Elt F .i32) (v380 : Elt F .i32) (v388 : Elt F .i32) (v396 : Elt F .i32) (v404 : Elt F .i32) (v412 : Elt F .i32) (v420 : Elt F .i32) (v428 : Elt F .i32) (v436 : Elt F .i32) (v444 : Elt F .i32) (v452 : Elt F .i32) (v460 : Elt F .i32) (v468 : Elt F .i32) (v476 : Elt F .i32) (v484 : Elt F .i32) (v492 : Elt F .i32) (v500 : Elt F .i32) (v508 : Elt F .i32) (v516 : Elt F .i32) (v524 : Elt F .i32) (v532 : Elt F .i32) (v540 : Elt F .i32) (v548 : Elt F .i32) (v556 : Elt F .i32) (v564 : Elt F .i32) (v572 : Elt F .i32) (k0_hw83 : k0_chk83 v484 v492 v500 v508 v516 v524 v532 v540 v548 v556 v564 v572) (v580 : Elt F .i32) (v588 : Elt F .i32) (v596 : Elt F .i32) (v604 : Elt F .i32) (v612 : Elt F .i32) (v620 : Elt F .i32) (v628 : Elt F .i32) (v636 : Elt F .i32) (v644 : Elt F .i32) (v652 : Elt F .i32) (v660 : Elt F .i32) (v668 : Elt F .i32) (k0_hw84 : k0_chk84 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668) (v672 : BitVec 32) (v673 : BitVec 32) (v674 : BitVec 32) (v675 : BitVec 32) (v676 : BitVec 32) (v677 : BitVec 32) (v678 : BitVec 32) (v679 : BitVec 32) (v798 : BitVec 32) (v815 : BitVec 32) (v817 : BitVec 32) (v819 : BitVec 32) (v821 : BitVec 32) (v823 : BitVec 32) (v825 : BitVec 32) (v827 : BitVec 32) (v829 : BitVec 32) (v831 : BitVec 32) (c8_i32_477 : BitVec 32) {A10 : S2560x384.Idx → Elt F .f32} {A11 : S528x8x384.Idx → Elt F .f32}
    {o0 : ℕ} (ho0 : k0_off91 v484 v492 v500 v508 v516 v524 v532 v540 v548 v556 v564 v572 = ![o0, 0]) (hb0 : ∀ a, (![o0, 0] : Fin 2 → ℕ) a + S520x384.size a ≤ S2560x384.size a)
    {o1 : ℕ} (ho1 : k0_off92 v580 v588 v596 v604 v612 v620 v628 v636 v644 v652 v660 v668 = ![o1, 0]) (hb1 : ∀ a, (![o1, 0] : Fin 2 → ℕ) a + S520x384.size a ≤ S2560x384.size a) {Q : _ → sProp 𝕄} :
    ⊢ iprop(ar c arg10 A10 -∗ ar c arg11 A11 -∗ (ar c arg10 A10 -∗ ar c arg11 (VecWindow.put (s := S528x8x384) (VecWindow.put (s := S528x8x384) A11 ![0, 6, 0] S520x1x384.size (k0_pay82 (VecWindow.window (s := S2560x384) A10 ![o0, 0] S520x384.size hb0))) ![0, 7, 0] S520x1x384.size (k0_pay83 (VecWindow.window (s := S2560x384) A10 ![o1, 0] S520x384.size hb1))) -∗ Q ⟨k0_pay84 v817 v819 v821 v823 v825 v827 v829 v831, k0_pay85 (F := F), (Scalar.addi (Scalar.maxsi (Scalar.maxsi (Scalar.maxsi (Scalar.maxsi (Scalar.maxsi (Scalar.maxsi (Scalar.maxsi (Scalar.addi v672 v817) (Scalar.addi v673 v819)) (Scalar.addi v674 v821)) (Scalar.addi v675 v823)) (Scalar.addi v676 v825)) (Scalar.addi v677 v827)) (Scalar.addi v678 v829)) (Scalar.addi v679 v831)) 4#32), 4#32, (Scalar.divsi (Scalar.addi (Scalar.maxsi (Scalar.maxsi (Scalar.maxsi (Scalar.maxsi (Scalar.maxsi (Scalar.maxsi (Scalar.maxsi (Scalar.addi v672 v817) (Scalar.addi v673 v819)) (Scalar.addi v674 v821)) (Scalar.addi v675 v823)) (Scalar.addi v676 v825)) (Scalar.addi v677 v827)) (Scalar.addi v678 v829)) (Scalar.addi v679 v831)) 4#32) 4#32), (Scalar.subi (Scalar.extui (Scalar.cmpi .sgt (Scalar.addi (Scalar.maxsi (Scalar.maxsi (Scalar.maxsi (Scalar.maxsi (Scalar.maxsi (Scalar.maxsi (Scalar.maxsi (Scalar.addi v672 v817) (Scalar.addi v673 v819)) (Scalar.addi v674 v821)) (Scalar.addi v675 v823)) (Scalar.addi v676 v825)) (Scalar.addi v677 v827)) (Scalar.addi v678 v829)) (Scalar.addi v679 v831)) 4#32) 0#32)) (Scalar.extui (Scalar.cmpi .slt (Scalar.addi (Scalar.maxsi (Scalar.maxsi (Scalar.maxsi (Scalar.maxsi (Scalar.maxsi (Scalar.maxsi (Scalar.maxsi (Scalar.addi v672 v817) (Scalar.addi v673 v819)) (Scalar.addi v674 v821)) (Scalar.addi v675 v823)) (Scalar.addi v676 v825)) (Scalar.addi v677 v827)) (Scalar.addi v678 v829)) (Scalar.addi v679 v831)) 4#32) 0#32)))⟩)
      -∗ wp frame (wpE (defs₀ (F := F)) Variants.none c none) Set.univ (k0_part39 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 k0_hw83 v580 v588 v596 v604 v612 v620 v628 v636 v644 v652 v660 v668 k0_hw84 v672 v673 v674 v675 v676 v677 v678 v679 v798 v815 v817 v819 v821 v823 v825 v827 v829 v831 c8_i32_477) Q) := by
  iintro H10 H11 Hk
  rw [k0_part39_eq_skeleton]
  unfold k0_part39_skel
  iapply (wp_ld ho0 hb0) $$ H10; iintro H10
  iapply (wp_ld rfl inb_S528x8x384_S520x1x384_0_6_0) $$ H11; iintro H11
  iapply (wp_st rfl) $$ H11; iintro H11
  iapply (wp_ld ho1 hb1) $$ H10; iintro H10
  iapply (wp_ld rfl inb_S528x8x384_S520x1x384_0_7_0) $$ H11; iintro H11
  iapply (wp_st rfl) $$ H11; iintro H11
  iapply wp_done
  iapply Hk $$ H10 H11

theorem part41_spec (v4 : Elt F .i32) (v12 : Elt F .i32) (v20 : Elt F .i32) (v28 : Elt F .i32) (v36 : Elt F .i32) (v44 : Elt F .i32) (v52 : Elt F .i32) (v60 : Elt F .i32) (v68 : Elt F .i32) (v76 : Elt F .i32) (v84 : Elt F .i32) (v92 : Elt F .i32) (k0_hw78 : k0_chk78 v4 v12 v20 v28 v36 v44 v52 v60 v68 v76 v84 v92) (v100 : Elt F .i32) (v108 : Elt F .i32) (v116 : Elt F .i32) (v124 : Elt F .i32) (v132 : Elt F .i32) (v140 : Elt F .i32) (v148 : Elt F .i32) (v156 : Elt F .i32) (v164 : Elt F .i32) (v172 : Elt F .i32) (v180 : Elt F .i32) (v188 : Elt F .i32) (k0_hw79 : k0_chk79 v100 v108 v116 v124 v132 v140 v148 v156 v164 v172 v180 v188) (v196 : Elt F .i32) (v204 : Elt F .i32) (v212 : Elt F .i32) (v220 : Elt F .i32) (v228 : Elt F .i32) (v236 : Elt F .i32) (v244 : Elt F .i32) (v252 : Elt F .i32) (v260 : Elt F .i32) (v268 : Elt F .i32) (v276 : Elt F .i32) (v284 : Elt F .i32) (k0_hw80 : k0_chk80 v196 v204 v212 v220 v228 v236 v244 v252 v260 v268 v276 v284) (v674 : BitVec 32) (v675 : BitVec 32) (v713 : BitVec 32) (v730 : BitVec 32) (v747 : BitVec 32) (v821 : BitVec 32) (v823 : BitVec 32) (v1017 : IVec S520x1 32) (v1042 : IVec S520x1 1) {A13 : S2576x128.Idx → Elt F .f32} {A12 : S528x8x128.Idx → Elt F .f32}
    {o0 : ℕ} (ho0 : k0_off98 v4 v12 v20 v28 v36 v44 v52 v60 v68 v76 v84 v92 = ![o0, 0]) (hb0 : ∀ a, (![o0, 0] : Fin 2 → ℕ) a + S520x128.size a ≤ S2576x128.size a)
    {o1 : ℕ} (ho1 : k0_off99 v100 v108 v116 v124 v132 v140 v148 v156 v164 v172 v180 v188 = ![o1, 0]) (hb1 : ∀ a, (![o1, 0] : Fin 2 → ℕ) a + S520x128.size a ≤ S2576x128.size a)
    {o2 : ℕ} (ho2 : k0_off100 v196 v204 v212 v220 v228 v236 v244 v252 v260 v268 v276 v284 = ![o2, 0]) (hb2 : ∀ a, (![o2, 0] : Fin 2 → ℕ) a + S520x128.size a ≤ S2576x128.size a) {Q : _ → sProp 𝕄} :
    ⊢ iprop(ar c arg13 A13 -∗ ar c arg12 A12 -∗ (ar c arg13 (VecWindow.put (s := S2576x128) (VecWindow.put (s := S2576x128) A13 ![o0, 0] S520x128.size (k0_pay92 v1042 (VecWindow.window (s := S2576x128) A13 ![o0, 0] S520x128.size hb0) (VecWindow.window (s := S528x8x128) A12 ![0, 1, 0] S520x1x128.size inb_S528x8x128_S520x1x128_0_1_0))) ![o1, 0] S520x128.size (k0_pay93 v674 v821 v1017 (VecWindow.window (s := S2576x128) (VecWindow.put (s := S2576x128) A13 ![o0, 0] S520x128.size (k0_pay92 v1042 (VecWindow.window (s := S2576x128) A13 ![o0, 0] S520x128.size hb0) (VecWindow.window (s := S528x8x128) A12 ![0, 1, 0] S520x1x128.size inb_S528x8x128_S520x1x128_0_1_0))) ![o1, 0] S520x128.size hb1) (VecWindow.window (s := S528x8x128) A12 ![0, 2, 0] S520x1x128.size inb_S528x8x128_S520x1x128_0_2_0))) -∗ ar c arg12 A12 -∗ Q ⟨k0_pay94 v675 v823 v1017, (VecWindow.window (s := S2576x128) (VecWindow.put (s := S2576x128) (VecWindow.put (s := S2576x128) A13 ![o0, 0] S520x128.size (k0_pay92 v1042 (VecWindow.window (s := S2576x128) A13 ![o0, 0] S520x128.size hb0) (VecWindow.window (s := S528x8x128) A12 ![0, 1, 0] S520x1x128.size inb_S528x8x128_S520x1x128_0_1_0))) ![o1, 0] S520x128.size (k0_pay93 v674 v821 v1017 (VecWindow.window (s := S2576x128) (VecWindow.put (s := S2576x128) A13 ![o0, 0] S520x128.size (k0_pay92 v1042 (VecWindow.window (s := S2576x128) A13 ![o0, 0] S520x128.size hb0) (VecWindow.window (s := S528x8x128) A12 ![0, 1, 0] S520x1x128.size inb_S528x8x128_S520x1x128_0_1_0))) ![o1, 0] S520x128.size hb1) (VecWindow.window (s := S528x8x128) A12 ![0, 2, 0] S520x1x128.size inb_S528x8x128_S520x1x128_0_2_0))) ![o2, 0] S520x128.size hb2)⟩)
      -∗ wp frame (wpE (defs₀ (F := F)) Variants.none c none) Set.univ (k0_part41 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v12 v20 v28 v36 v44 v52 v60 v68 v76 v84 v92 k0_hw78 v100 v108 v116 v124 v132 v140 v148 v156 v164 v172 v180 v188 k0_hw79 v196 v204 v212 v220 v228 v236 v244 v252 v260 v268 v276 v284 k0_hw80 v674 v675 v713 v730 v747 v821 v823 v1017 v1042) Q) := by
  iintro H13 H12 Hk
  rw [k0_part41_eq_skeleton]
  unfold k0_part41_skel
  iapply (wp_ld ho0 hb0) $$ H13; iintro H13
  iapply (wp_ld rfl inb_S528x8x128_S520x1x128_0_1_0) $$ H12; iintro H12
  iapply (wp_ld ho0 hb0) $$ H13; iintro H13
  iapply (wp_st ho0) $$ H13; iintro H13
  iapply (wp_ld ho1 hb1) $$ H13; iintro H13
  iapply (wp_ld rfl inb_S528x8x128_S520x1x128_0_2_0) $$ H12; iintro H12
  iapply (wp_ld ho1 hb1) $$ H13; iintro H13
  iapply (wp_st ho1) $$ H13; iintro H13
  iapply (wp_ld ho2 hb2) $$ H13; iintro H13
  iapply wp_done
  iapply Hk $$ H13 H12

theorem part42_spec (v196 : Elt F .i32) (v204 : Elt F .i32) (v212 : Elt F .i32) (v220 : Elt F .i32) (v228 : Elt F .i32) (v236 : Elt F .i32) (v244 : Elt F .i32) (v252 : Elt F .i32) (v260 : Elt F .i32) (v268 : Elt F .i32) (v276 : Elt F .i32) (v284 : Elt F .i32) (k0_hw80 : k0_chk80 v196 v204 v212 v220 v228 v236 v244 v252 v260 v268 v276 v284) (v292 : Elt F .i32) (v300 : Elt F .i32) (v308 : Elt F .i32) (v316 : Elt F .i32) (v324 : Elt F .i32) (v332 : Elt F .i32) (v340 : Elt F .i32) (v348 : Elt F .i32) (v356 : Elt F .i32) (v364 : Elt F .i32) (v372 : Elt F .i32) (v380 : Elt F .i32) (k0_hw81 : k0_chk81 v292 v300 v308 v316 v324 v332 v340 v348 v356 v364 v372 v380) (v388 : Elt F .i32) (v396 : Elt F .i32) (v404 : Elt F .i32) (v412 : Elt F .i32) (v420 : Elt F .i32) (v428 : Elt F .i32) (v436 : Elt F .i32) (v444 : Elt F .i32) (v452 : Elt F .i32) (v460 : Elt F .i32) (v468 : Elt F .i32) (v476 : Elt F .i32) (k0_hw82 : k0_chk82 v388 v396 v404 v412 v420 v428 v436 v444 v452 v460 v468 v476) (v676 : BitVec 32) (v677 : BitVec 32) (v747 : BitVec 32) (v764 : BitVec 32) (v781 : BitVec 32) (v825 : BitVec 32) (v827 : BitVec 32) (v1017 : IVec S520x1 32) (v1080 : IVec S520x1 1) (v1083 : Vec F S520x128 .f32) {A12 : S528x8x128.Idx → Elt F .f32} {A13 : S2576x128.Idx → Elt F .f32}
    {o0 : ℕ} (ho0 : k0_off100 v196 v204 v212 v220 v228 v236 v244 v252 v260 v268 v276 v284 = ![o0, 0]) (hb0 : ∀ a, (![o0, 0] : Fin 2 → ℕ) a + S520x128.size a ≤ S2576x128.size a)
    {o1 : ℕ} (ho1 : k0_off101 v292 v300 v308 v316 v324 v332 v340 v348 v356 v364 v372 v380 = ![o1, 0]) (hb1 : ∀ a, (![o1, 0] : Fin 2 → ℕ) a + S520x128.size a ≤ S2576x128.size a)
    {o2 : ℕ} (ho2 : k0_off102 v388 v396 v404 v412 v420 v428 v436 v444 v452 v460 v468 v476 = ![o2, 0]) (hb2 : ∀ a, (![o2, 0] : Fin 2 → ℕ) a + S520x128.size a ≤ S2576x128.size a) {Q : _ → sProp 𝕄} :
    ⊢ iprop(ar c arg12 A12 -∗ ar c arg13 A13 -∗ (ar c arg12 A12 -∗ ar c arg13 (VecWindow.put (s := S2576x128) (VecWindow.put (s := S2576x128) A13 ![o0, 0] S520x128.size (k0_pay95 v1080 v1083 (VecWindow.window (s := S528x8x128) A12 ![0, 3, 0] S520x1x128.size inb_S528x8x128_S520x1x128_0_3_0))) ![o1, 0] S520x128.size (k0_pay96 v676 v825 v1017 (VecWindow.window (s := S2576x128) (VecWindow.put (s := S2576x128) A13 ![o0, 0] S520x128.size (k0_pay95 v1080 v1083 (VecWindow.window (s := S528x8x128) A12 ![0, 3, 0] S520x1x128.size inb_S528x8x128_S520x1x128_0_3_0))) ![o1, 0] S520x128.size hb1) (VecWindow.window (s := S528x8x128) A12 ![0, 4, 0] S520x1x128.size inb_S528x8x128_S520x1x128_0_4_0))) -∗ Q ⟨(VecWindow.window (s := S2576x128) (VecWindow.put (s := S2576x128) (VecWindow.put (s := S2576x128) A13 ![o0, 0] S520x128.size (k0_pay95 v1080 v1083 (VecWindow.window (s := S528x8x128) A12 ![0, 3, 0] S520x1x128.size inb_S528x8x128_S520x1x128_0_3_0))) ![o1, 0] S520x128.size (k0_pay96 v676 v825 v1017 (VecWindow.window (s := S2576x128) (VecWindow.put (s := S2576x128) A13 ![o0, 0] S520x128.size (k0_pay95 v1080 v1083 (VecWindow.window (s := S528x8x128) A12 ![0, 3, 0] S520x1x128.size inb_S528x8x128_S520x1x128_0_3_0))) ![o1, 0] S520x128.size hb1) (VecWindow.window (s := S528x8x128) A12 ![0, 4, 0] S520x1x128.size inb_S528x8x128_S520x1x128_0_4_0))) ![o2, 0] S520x128.size hb2), k0_pay97 (VecWindow.window (s := S528x8x128) A12 ![0, 5, 0] S520x1x128.size inb_S528x8x128_S520x1x128_0_5_0), k0_pay98 v677 v827 v1017⟩)
      -∗ wp frame (wpE (defs₀ (F := F)) Variants.none c none) Set.univ (k0_part42 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v196 v204 v212 v220 v228 v236 v244 v252 v260 v268 v276 v284 k0_hw80 v292 v300 v308 v316 v324 v332 v340 v348 v356 v364 v372 v380 k0_hw81 v388 v396 v404 v412 v420 v428 v436 v444 v452 v460 v468 v476 k0_hw82 v676 v677 v747 v764 v781 v825 v827 v1017 v1080 v1083) Q) := by
  iintro H12 H13 Hk
  rw [k0_part42_eq_skeleton]
  unfold k0_part42_skel
  iapply (wp_ld rfl inb_S528x8x128_S520x1x128_0_3_0) $$ H12; iintro H12
  iapply (wp_ld ho0 hb0) $$ H13; iintro H13
  iapply (wp_st ho0) $$ H13; iintro H13
  iapply (wp_ld ho1 hb1) $$ H13; iintro H13
  iapply (wp_ld rfl inb_S528x8x128_S520x1x128_0_4_0) $$ H12; iintro H12
  iapply (wp_ld ho1 hb1) $$ H13; iintro H13
  iapply (wp_st ho1) $$ H13; iintro H13
  iapply (wp_ld ho2 hb2) $$ H13; iintro H13
  iapply (wp_ld rfl inb_S528x8x128_S520x1x128_0_5_0) $$ H12; iintro H12
  iapply wp_done
  iapply Hk $$ H12 H13

theorem part43_spec (v4 : Elt F .i32) (v12 : Elt F .i32) (v20 : Elt F .i32) (v28 : Elt F .i32) (v36 : Elt F .i32) (v44 : Elt F .i32) (v52 : Elt F .i32) (v60 : Elt F .i32) (v68 : Elt F .i32) (v76 : Elt F .i32) (v84 : Elt F .i32) (v92 : Elt F .i32) (v100 : Elt F .i32) (v108 : Elt F .i32) (v116 : Elt F .i32) (v124 : Elt F .i32) (v132 : Elt F .i32) (v140 : Elt F .i32) (v148 : Elt F .i32) (v156 : Elt F .i32) (v164 : Elt F .i32) (v172 : Elt F .i32) (v180 : Elt F .i32) (v188 : Elt F .i32) (v196 : Elt F .i32) (v204 : Elt F .i32) (v212 : Elt F .i32) (v220 : Elt F .i32) (v228 : Elt F .i32) (v236 : Elt F .i32) (v244 : Elt F .i32) (v252 : Elt F .i32) (v260 : Elt F .i32) (v268 : Elt F .i32) (v276 : Elt F .i32) (v284 : Elt F .i32) (v292 : Elt F .i32) (v300 : Elt F .i32) (v308 : Elt F .i32) (v316 : Elt F .i32) (v324 : Elt F .i32) (v332 : Elt F .i32) (v340 : Elt F .i32) (v348 : Elt F .i32) (v356 : Elt F .i32) (v364 : Elt F .i32) (v372 : Elt F .i32) (v380 : Elt F .i32) (v388 : Elt F .i32) (v396 : Elt F .i32) (v404 : Elt F .i32) (v412 : Elt F .i32) (v420 : Elt F .i32) (v428 : Elt F .i32) (v436 : Elt F .i32) (v444 : Elt F .i32) (v452 : Elt F .i32) (v460 : Elt F .i32) (v468 : Elt F .i32) (v476 : Elt F .i32) (k0_hw82 : k0_chk82 v388 v396 v404 v412 v420 v428 v436 v444 v452 v460 v468 v476) (v484 : Elt F .i32) (v492 : Elt F .i32) (v500 : Elt F .i32) (v508 : Elt F .i32) (v516 : Elt F .i32) (v524 : Elt F .i32) (v532 : Elt F .i32) (v540 : Elt F .i32) (v548 : Elt F .i32) (v556 : Elt F .i32) (v564 : Elt F .i32) (v572 : Elt F .i32) (k0_hw83 : k0_chk83 v484 v492 v500 v508 v516 v524 v532 v540 v548 v556 v564 v572) (v580 : Elt F .i32) (v588 : Elt F .i32) (v596 : Elt F .i32) (v604 : Elt F .i32) (v612 : Elt F .i32) (v620 : Elt F .i32) (v628 : Elt F .i32) (v636 : Elt F .i32) (v644 : Elt F .i32) (v652 : Elt F .i32) (v660 : Elt F .i32) (v668 : Elt F .i32) (k0_hw84 : k0_chk84 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668) (v678 : BitVec 32) (v679 : BitVec 32) (v781 : BitVec 32) (v798 : BitVec 32) (v815 : BitVec 32) (v829 : BitVec 32) (v831 : BitVec 32) (v1017 : IVec S520x1 32) (v1121 : Vec F S520x128 .f32) (v1123 : FVec F S520x128 .f32) (v1125 : IVec S520x128 1) {A13 : S2576x128.Idx → Elt F .f32} {A12 : S528x8x128.Idx → Elt F .f32}
    {o0 : ℕ} (ho0 : k0_off102 v388 v396 v404 v412 v420 v428 v436 v444 v452 v460 v468 v476 = ![o0, 0]) (hb0 : ∀ a, (![o0, 0] : Fin 2 → ℕ) a + S520x128.size a ≤ S2576x128.size a)
    {o1 : ℕ} (ho1 : k0_off103 v484 v492 v500 v508 v516 v524 v532 v540 v548 v556 v564 v572 = ![o1, 0]) (hb1 : ∀ a, (![o1, 0] : Fin 2 → ℕ) a + S520x128.size a ≤ S2576x128.size a)
    {o2 : ℕ} (ho2 : k0_off104 v580 v588 v596 v604 v612 v620 v628 v636 v644 v652 v660 v668 = ![o2, 0]) (hb2 : ∀ a, (![o2, 0] : Fin 2 → ℕ) a + S520x128.size a ≤ S2576x128.size a) {Q : _ → sProp 𝕄} :
    ⊢ iprop(ar c arg13 A13 -∗ ar c arg12 A12 -∗ (ar c arg13 (VecWindow.put (s := S2576x128) (VecWindow.put (s := S2576x128) A13 ![o0, 0] S520x128.size (k0_pay99 v1121 v1123 v1125)) ![o1, 0] S520x128.size (k0_pay100 v678 v829 v1017 (VecWindow.window (s := S2576x128) (VecWindow.put (s := S2576x128) A13 ![o0, 0] S520x128.size (k0_pay99 v1121 v1123 v1125)) ![o1, 0] S520x128.size hb1) (VecWindow.window (s := S528x8x128) A12 ![0, 6, 0] S520x1x128.size inb_S528x8x128_S520x1x128_0_6_0))) -∗ ar c arg12 A12 -∗ Q ⟨k0_pay101 v679 v831 v1017 (VecWindow.window (s := S2576x128) (VecWindow.put (s := S2576x128) (VecWindow.put (s := S2576x128) A13 ![o0, 0] S520x128.size (k0_pay99 v1121 v1123 v1125)) ![o1, 0] S520x128.size (k0_pay100 v678 v829 v1017 (VecWindow.window (s := S2576x128) (VecWindow.put (s := S2576x128) A13 ![o0, 0] S520x128.size (k0_pay99 v1121 v1123 v1125)) ![o1, 0] S520x128.size hb1) (VecWindow.window (s := S528x8x128) A12 ![0, 6, 0] S520x1x128.size inb_S528x8x128_S520x1x128_0_6_0))) ![o2, 0] S520x128.size hb2) (VecWindow.window (s := S528x8x128) A12 ![0, 7, 0] S520x1x128.size inb_S528x8x128_S520x1x128_0_7_0), (VecWindow.window (s := S2576x128) (VecWindow.put (s := S2576x128) (VecWindow.put (s := S2576x128) A13 ![o0, 0] S520x128.size (k0_pay99 v1121 v1123 v1125)) ![o1, 0] S520x128.size (k0_pay100 v678 v829 v1017 (VecWindow.window (s := S2576x128) (VecWindow.put (s := S2576x128) A13 ![o0, 0] S520x128.size (k0_pay99 v1121 v1123 v1125)) ![o1, 0] S520x128.size hb1) (VecWindow.window (s := S528x8x128) A12 ![0, 6, 0] S520x1x128.size inb_S528x8x128_S520x1x128_0_6_0))) ![o2, 0] S520x128.size hb2)⟩)
      -∗ wp frame (wpE (defs₀ (F := F)) Variants.none c none) Set.univ (k0_part43 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 k0_hw82 v484 v492 v500 v508 v516 v524 v532 v540 v548 v556 v564 v572 k0_hw83 v580 v588 v596 v604 v612 v620 v628 v636 v644 v652 v660 v668 k0_hw84 v678 v679 v781 v798 v815 v829 v831 v1017 v1121 v1123 v1125) Q) := by
  iintro H13 H12 Hk
  rw [k0_part43_eq_skeleton]
  unfold k0_part43_skel
  iapply (wp_ld ho0 hb0) $$ H13; iintro H13
  iapply (wp_st ho0) $$ H13; iintro H13
  iapply (wp_ld ho1 hb1) $$ H13; iintro H13
  iapply (wp_ld rfl inb_S528x8x128_S520x1x128_0_6_0) $$ H12; iintro H12
  iapply (wp_ld ho1 hb1) $$ H13; iintro H13
  iapply (wp_st ho1) $$ H13; iintro H13
  iapply (wp_ld ho2 hb2) $$ H13; iintro H13
  iapply (wp_ld rfl inb_S528x8x128_S520x1x128_0_7_0) $$ H12; iintro H12
  iapply (wp_ld ho2 hb2) $$ H13; iintro H13
  iapply wp_done
  iapply Hk $$ H13 H12

end Cert.KernelIdeal.Hand
end
-- ==== Proof.Loop.lean ====
module

public import proofs.«01_k».proof.Proof.Trip
public import proofs.«01_k».proof.Proof.Parts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! The loop, and the part of the program that holds it. -/

section
variable {σ β : Type} {p : Dev nD}
/-- A counted loop, by an invariant. -/
theorem wp_loop (L : Scf.Loop 32) (hok : L.OK) (init : σ) (body : Fin L.trips → σ → Prog (TpuEff nD τ sig (Elt F) Λ₀ .tc) σ) (I : ℕ → σ → sProp 𝕄)
    (hbody : ∀ (k : Fin L.trips) (acc : σ), I k acc ⊢ wp frame (wpE (defs₀ (F := F)) Variants.none p none) Set.univ (body k acc) (I (k.val + 1))) {Q : σ → sProp 𝕄} :
    I 0 init ⊢ iprop((∀ acc, I L.trips acc -∗ Q acc) -∗ wp frame (wpE (defs₀ (F := F)) Variants.none p none) Set.univ (L.for hok init body) Q) := by
  iintro HI HK
  iapply (Scf.wp_for frame (wpE (defs₀ (F := F)) Variants.none p none) Set.univ L.lb L.ub L.st hok init body I hbody)
  isplitl [HI] <;> iassumption

/-- A loop of no trips. -/
theorem wp_loop0 (L : Scf.Loop 32) (hok : L.OK) (init : σ) (body : Fin L.trips → σ → Prog (TpuEff nD τ sig (Elt F) Λ₀ .tc) σ)
    (h0 : L.trips = 0) {Q : σ → sProp 𝕄} :
    Q init ⊢ wp frame (wpE (defs₀ (F := F)) Variants.none p none) Set.univ (L.for hok init body) Q := by
  iintro HQ
  iapply (wp_loop L hok init body (fun _ acc => iprop(⌜acc = init⌝ ∗ Q init)) (fun k => absurd k.isLt (by omega))) $$ [HQ]
  · isplitr
    · ipureintro; rfl
    · iexact HQ
  · iintro %acc ⟨%e, HQ⟩
    rw [e]
    iexact HQ
end

variable {c : Dev nD} (arg0 : Memref sig .tc .smem S2048 .i32) (harg0 : arg0.IsWhole) (arg1 : Memref sig .tc .vmem S2048x4x256 .f32) (harg1 : arg1.IsWhole) (arg2 : Memref sig .tc .vmem S1x1922 .f32) (harg2 : arg2.IsWhole) (arg3 : Memref sig .tc .vmem S128x512 .f32) (harg3 : arg3.IsWhole) (arg4 : Memref sig .tc .vmem S384x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384x128 .f32) (harg7 : arg7.IsWhole) (arg8 : Memref sig .tc .vmem S2x128 .f32) (harg8 : arg8.IsWhole) (arg9 : Memref sig .tc .vmem S2048x2 .f32) (harg9 : arg9.IsWhole) (arg10 : Memref sig .tc .vmem S2560x384 .f32) (harg10 : arg10.IsWhole) (arg11 : Memref sig .tc .vmem S528x8x384 .f32) (harg11 : arg11.IsWhole) (arg12 : Memref sig .tc .vmem S528x8x128 .f32) (harg12 : arg12.IsWhole) (arg13 : Memref sig .tc .vmem S2576x128 .f32) (harg13 : arg13.IsWhole) (arg14 : Memref sig .tc .vmem S128x384 .bf16) (harg14 : arg14.IsWhole) (arg15 : Memref sig .tc .vmem S128x384 .bf16) (harg15 : arg15.IsWhole) (arg16 : Memref sig .tc .vmem S128x384 .bf16) (harg16 : arg16.IsWhole)

set_option maxHeartbeats 4000000 in
theorem loop_spec (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) {k0_hw84 : k0_chk84 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668} (v672 : BitVec 32) (v673 : BitVec 32) (v696 : BitVec 32) (v817 : BitVec 32) (v819 : BitVec 32) (v884 : FVec F S1x384 .f32) (v886 : FVec F S1x384 .f32) (v888 : FVec F S1x384 .f32) (v990 : IVec S8x1 32) (v991 : FVec F S8x128 .f32) (v992 : BitVec 32) (c4_i32_487 : BitVec 32) (v993 : BitVec 32) (v998 : BitVec 32) {P : Vec F S528x8x384 .f32} {H : Vec F S528x8x128 .f32} {W0 W1 W2 : Vec F S128x384 .bf16} (s : FVec F S8x128 .f32)
    (ht : 4 * (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips ≤ 528) {Q : _ → sProp 𝕄} :
    ⊢ iprop(ar c arg11 P -∗ ar c arg14 W0 -∗ ar c arg15 W1 -∗ ar c arg16 W2 -∗ ar c arg12 H -∗ (∀ acc, ar c arg11 P -∗ ar c arg14 W0 -∗ ar c arg15 W1 -∗ ar c arg16 W2 -∗ ar c arg12 (steps (⟨P, W0, W1, W2, v884, v886, v888, v990⟩ : Fixed F) ⟨s, s, s, H⟩ (4 * (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips)).H -∗ Q acc) -∗
        wp frame (wpE (defs₀ (F := F)) Variants.none c none) Set.univ
          (Scf.Loop.for (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668) (k0_t1_ok v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_hw84) (s, s, s) (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_hw84 v672 v673 v696 v817 v819 v884 v886 v888 v990 v991 v992 c4_i32_487 v993 v998)) Q) := by
  iintro H11 H14 H15 H16 H12 Hk
  iapply (wp_loop (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668) (k0_t1_ok v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_hw84) (s, s, s) (k0_t1_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_hw84 v672 v673 v696 v817 v819 v884 v886 v888 v990 v991 v992 c4_i32_487 v993 v998)
    (fun n acc => iprop(ar c arg11 P ∗ ar c arg14 W0 ∗ ar c arg15 W1 ∗ ar c arg16 W2 ∗ ar c arg12 (steps (⟨P, W0, W1, W2, v884, v886, v888, v990⟩ : Fixed F) ⟨s, s, s, H⟩ (4 * n)).H ∗
      ⌜acc = ((steps (⟨P, W0, W1, W2, v884, v886, v888, v990⟩ : Fixed F) ⟨s, s, s, H⟩ (4 * n)).h0, (steps (⟨P, W0, W1, W2, v884, v886, v888, v990⟩ : Fixed F) ⟨s, s, s, H⟩ (4 * n)).h1, (steps (⟨P, W0, W1, W2, v884, v886, v888, v990⟩ : Fixed F) ⟨s, s, s, H⟩ (4 * n)).y)⌝)) ?_) $$ [H11 H14 H15 H16 H12]
  · intro k acc
    iintro ⟨H11, H14, H15, H16, H12, %e⟩
    subst e
    iapply (trip_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 v672 v673 v696 v817 v819 v884 v886 v888 v990 v991 v992 c4_i32_487 v993 v998 k (by have := k.isLt; omega) (steps (⟨P, W0, W1, W2, v884, v886, v888, v990⟩ : Fixed F) ⟨s, s, s, H⟩ (4 * k.val)).h0 (steps (⟨P, W0, W1, W2, v884, v886, v888, v990⟩ : Fixed F) ⟨s, s, s, H⟩ (4 * k.val)).h1
      (steps (⟨P, W0, W1, W2, v884, v886, v888, v990⟩ : Fixed F) ⟨s, s, s, H⟩ (4 * k.val)).y) $$ H11 H14 H15 H16 H12
    iintro H11 H14 H15 H16 H12
    isplitl [H11]; · iexact H11
    isplitl [H14]; · iexact H14
    isplitl [H15]; · iexact H15
    isplitl [H16]; · iexact H16
    isplitl [H12]; · iexact H12
    ipureintro; rfl
  · isplitl [H11]; · iexact H11
    isplitl [H14]; · iexact H14
    isplitl [H15]; · iexact H15
    isplitl [H16]; · iexact H16
    isplitl [H12]; · iexact H12
    ipureintro; rfl
  · iintro %acc ⟨H11, H14, H15, H16, H12, %e⟩
    iapply Hk $$ H11 H14 H15 H16 H12

set_option maxHeartbeats 4000000 in
theorem part40_spec (v4 : BitVec 32) (v12 : BitVec 32) (v20 : BitVec 32) (v28 : BitVec 32) (v36 : BitVec 32) (v44 : BitVec 32) (v52 : BitVec 32) (v60 : BitVec 32) (v68 : BitVec 32) (v76 : BitVec 32) (v84 : BitVec 32) (v92 : BitVec 32) (v100 : BitVec 32) (v108 : BitVec 32) (v116 : BitVec 32) (v124 : BitVec 32) (v132 : BitVec 32) (v140 : BitVec 32) (v148 : BitVec 32) (v156 : BitVec 32) (v164 : BitVec 32) (v172 : BitVec 32) (v180 : BitVec 32) (v188 : BitVec 32) (v196 : BitVec 32) (v204 : BitVec 32) (v212 : BitVec 32) (v220 : BitVec 32) (v228 : BitVec 32) (v236 : BitVec 32) (v244 : BitVec 32) (v252 : BitVec 32) (v260 : BitVec 32) (v268 : BitVec 32) (v276 : BitVec 32) (v284 : BitVec 32) (v292 : BitVec 32) (v300 : BitVec 32) (v308 : BitVec 32) (v316 : BitVec 32) (v324 : BitVec 32) (v332 : BitVec 32) (v340 : BitVec 32) (v348 : BitVec 32) (v356 : BitVec 32) (v364 : BitVec 32) (v372 : BitVec 32) (v380 : BitVec 32) (v388 : BitVec 32) (v396 : BitVec 32) (v404 : BitVec 32) (v412 : BitVec 32) (v420 : BitVec 32) (v428 : BitVec 32) (v436 : BitVec 32) (v444 : BitVec 32) (v452 : BitVec 32) (v460 : BitVec 32) (v468 : BitVec 32) (v476 : BitVec 32) (v484 : BitVec 32) (v492 : BitVec 32) (v500 : BitVec 32) (v508 : BitVec 32) (v516 : BitVec 32) (v524 : BitVec 32) (v532 : BitVec 32) (v540 : BitVec 32) (v548 : BitVec 32) (v556 : BitVec 32) (v564 : BitVec 32) (v572 : BitVec 32) (v580 : BitVec 32) (v588 : BitVec 32) (v596 : BitVec 32) (v604 : BitVec 32) (v612 : BitVec 32) (v620 : BitVec 32) (v628 : BitVec 32) (v636 : BitVec 32) (v644 : BitVec 32) (v652 : BitVec 32) (v660 : BitVec 32) (v668 : BitVec 32) {k0_hw84 : k0_chk84 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668} (v672 : BitVec 32) (v673 : BitVec 32) (v696 : BitVec 32) (v817 : BitVec 32) (v819 : BitVec 32) (v884 : FVec F S1x384 .f32) (v886 : FVec F S1x384 .f32) (v888 : FVec F S1x384 .f32) (v990 : IVec S8x1 32) (v991 : FVec F S8x128 .f32) (v992 : BitVec 32) (c4_i32_487 : BitVec 32) (v993 : BitVec 32) (v998 : BitVec 32) {P : Vec F S528x8x384 .f32} {H : Vec F S528x8x128 .f32} {W0 W1 W2 : Vec F S128x384 .bf16} {A13 : S2576x128.Idx → Elt F .f32} {n : ℕ}
    (ht1 : (k0_t1_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips = n) (hn : 4 * n ≤ 528) (ht2 : (k0_t2_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668).trips = 0) {Q : _ → sProp 𝕄} :
    ⊢ iprop(ar c arg11 P -∗ ar c arg14 W0 -∗ ar c arg15 W1 -∗ ar c arg16 W2 -∗ ar c arg12 H -∗ ar c arg13 A13 -∗
      (ar c arg11 P -∗ ar c arg14 W0 -∗ ar c arg15 W1 -∗ ar c arg16 W2 -∗ ar c arg12 (steps (⟨P, W0, W1, W2, v884, v886, v888, v990⟩ : Fixed F) ⟨v991, v991, v991, H⟩ (4 * n)).H -∗
        ar c arg13 (VecWindow.put (s := S2576x128) A13 ![0, 0] S520x128.size (k0_pay90 v672 v817 (VecWindow.window (s := S2576x128) A13 ![0, 0] S520x128.size inb97)
          (VecWindow.window (s := S528x8x128) (steps (⟨P, W0, W1, W2, v884, v886, v888, v990⟩ : Fixed F) ⟨v991, v991, v991, H⟩ (4 * n)).H ![0, 0, 0] S520x1x128.size inb_S528x8x128_S520x1x128_0_0_0))) -∗
        Q ⟨iota .tc S520x1 32 [0] iota_S520x1_d0_w32, k0_pay91 v673 v819⟩) -∗
        wp frame (wpE (defs₀ (F := F)) Variants.none c none) Set.univ (k0_part40 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 k0_hw84 v672 v673 v696 v817 v819 v884 v886 v888 v990 v991 v992 c4_i32_487 v993 v998) Q) := by
  iintro H11 H14 H15 H16 H12 H13 Hk
  rw [k0_part40_eq_skeleton]
  unfold k0_part40_skel
  iapply wp_seq
  iapply (loop_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668 v672 v673 v696 v817 v819 v884 v886 v888 v990 v991 v992 c4_i32_487 v993 v998 v991 (by omega)) $$ H11 H14 H15 H16 H12
  iintro %acc H11 H14 H15 H16 H12
  iapply wp_seq
  iapply (wp_loop0 (k0_t2_loop v4 v12 v20 v28 v36 v44 v52 v60 v68 v76 v84 v92 v100 v108 v116 v124 v132 v140 v148 v156 v164 v172 v180 v188 v196 v204 v212 v220 v228 v236 v244 v252 v260 v268 v276 v284 v292 v300 v308 v316 v324 v332 v340 v348 v356 v364 v372 v380 v388 v396 v404 v412 v420 v428 v436 v444 v452 v460 v468 v476 v484 v492 v500 v508 v516 v524 v532 v540 v548 v556 v564 v572 v580 v588 v596 v604 v612 v620 v628 v636 v644 v652 v660 v668) _ _ _ ht2)
  rw [ht1]
  iapply (wp_ld off97_eq inb97) $$ H13; iintro H13
  iapply (wp_ld rfl inb_S528x8x128_S520x1x128_0_0_0) $$ H12; iintro H12
  iapply (wp_ld off97_eq inb97) $$ H13; iintro H13
  iapply (wp_st off97_eq) $$ H13; iintro H13
  iapply wp_done
  iapply Hk $$ H11 H14 H15 H16 H12 H13

end Cert.KernelIdeal.Hand
end
-- ==== Proof.Whole.lean ====
module

public import proofs.«01_k».proof.Proof.Fit
public import proofs.«01_k».proof.Proof.Loop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! The program as a function of its arrays: what each scratch array holds, and what the last product writes. -/

/-- A slab of the input products, from row `o`. -/
def rdG (G : Vec F S2560x384 .f32) (o : ℕ) : Vec F S520x384 .f32 :=
  if h : ∀ a, (![o, 0] : Fin 2 → ℕ) a + S520x384.size a ≤ S2560x384.size a then VecWindow.window (s := S2560x384) G ![o, 0] S520x384.size h
  else broadcast S520x384 (Scalar.ofBits .f32 0x00000000#32)

theorem rdG_eq {G : Vec F S2560x384 .f32} {o : ℕ} (h : ∀ a, (![o, 0] : Fin 2 → ℕ) a + S520x384.size a ≤ S2560x384.size a) :
    VecWindow.window (s := S2560x384) G ![o, 0] S520x384.size h = rdG G o := (dif_pos h).symm

/-- A slab of the output rows, from row `o`. -/
def rdT (T : Vec F S2576x128 .f32) (o : ℕ) : Vec F S520x128 .f32 :=
  if h : ∀ a, (![o, 0] : Fin 2 → ℕ) a + S520x128.size a ≤ S2576x128.size a then VecWindow.window (s := S2576x128) T ![o, 0] S520x128.size h
  else broadcast S520x128 (Scalar.ofBits .f32 0x00000000#32)

theorem rdT_eq {T : Vec F S2576x128 .f32} {o : ℕ} (h : ∀ a, (![o, 0] : Fin 2 → ℕ) a + S520x128.size a ≤ S2576x128.size a) :
    VecWindow.window (s := S2576x128) T ![o, 0] S520x128.size h = rdT T o := (dif_pos h).symm

/-- Segment `e`'s column of the history. -/
def rdH (H : Vec F S528x8x128 .f32) (e : ℕ) : Vec F S520x1x128 .f32 :=
  if h : ∀ a, (![0, e, 0] : Fin 3 → ℕ) a + S520x1x128.size a ≤ S528x8x128.size a then VecWindow.window (s := S528x8x128) H ![0, e, 0] S520x1x128.size h
  else broadcast S520x1x128 (Scalar.ofBits .f32 0x00000000#32)

theorem rdH_eq {H : Vec F S528x8x128 .f32} {e : ℕ} (h : ∀ a, (![0, e, 0] : Fin 3 → ℕ) a + S520x1x128.size a ≤ S528x8x128.size a) :
    VecWindow.window (s := S528x8x128) H ![0, e, 0] S520x1x128.size h = rdH H e := (dif_pos h).symm

/-- A slab as a column of the packed inputs. -/
def inSlab (w : Vec F S520x384 .f32) : FVec F S520x1x384 .f32 := shapeCast S520x1x384 w shapeCasts_S520x384_S520x1x384

/-- The rows from `a`, `n` of them. -/
def span (a n : BitVec 32) : IVec S520x1 1 :=
  andi (cmpi .sge (iota .tc S520x1 32 [0] iota_S520x1_d0_w32) (broadcast S520x1 a))
    (cmpi .slt (iota .tc S520x1 32 [0] iota_S520x1_d0_w32) (broadcast S520x1 (Scalar.addi a n)))

/-- A column of the history where the mask is set, the old rows elsewhere. -/
def merge (m : IVec S520x1 1) (old : Vec F S520x128 .f32) (h : Vec F S520x1x128 .f32) : FVec F S520x128 .f32 :=
  shapeCast S520x128 (select (broadcastTo S520x128 (shapeCast S520x1 m shapeCasts_S520x1_S520x1) broadcasts_S520x1_S520x128)
    (shapeCast S520x128 h shapeCasts_S520x1x128_S520x128) old) shapeCasts_S520x128_S520x128

/-- The input products of all tokens, with zeros behind them. -/
def products (A1 : Vec F S2048x4x256 .f32) (A2 : Vec F S1x1922 .f32) (A3 : Vec F S128x512 .f32) (A4 : Vec F S384x128 .f32) (A10 : Vec F S2560x384 .f32) :
    Vec F S2560x384 .f32 :=
  VecWindow.put (s := S2560x384) (VecWindow.put (s := S2560x384) A10 ![0, 0] S2048x384.size (k0_pay74 (k0_pay65 (k0_pay62 (VecWindow.window (s := S2048x4x256) A1 ![0, 2, 0] S2048x1x256.size inb_S2048x4x256_S2048x1x256_0_2_0)) (k0_pay63 (VecWindow.window (s := S2048x4x256) A1 ![0, 3, 0] S2048x1x256.size inb_S2048x4x256_S2048x1x256_0_3_0)) (k0_pay64 (VecWindow.window (s := S2048x4x256) A1 ![0, 2, 0] S2048x1x256.size inb_S2048x4x256_S2048x1x256_0_2_0) (VecWindow.window (s := S2048x4x256) A1 ![0, 3, 0] S2048x1x256.size inb_S2048x4x256_S2048x1x256_0_3_0)) (VecWindow.window (s := S2048x4x256) A1 ![0, 0, 0] S2048x1x256.size inb_S2048x4x256_S2048x1x256_0_0_0)) (k0_pay66 (VecWindow.window (s := S1x1922) A2 ![0, 0] S1x128.size inb_S1x1922_S1x128_0_0)) (k0_pay67 (VecWindow.window (s := S1x1922) A2 ![0, 128] S1x128.size inb_S1x1922_S1x128_0_128)) (k0_pay68 (VecWindow.window (s := S1x1922) A2 ![0, 256] S1x128.size inb_S1x1922_S1x128_0_256)) (k0_pay69 (VecWindow.window (s := S1x1922) A2 ![0, 384] S1x384.size inb_S1x1922_S1x384_0_384)) (VecWindow.window (s := S128x512) A3 ![0, 0] S128x256.size inb_S128x512_S128x256_0_0) (VecWindow.window (s := S2048x4x256) A1 ![0, 1, 0] S2048x1x256.size inb_S2048x4x256_S2048x1x256_0_1_0) (VecWindow.window (s := S128x512) A3 ![0, 256] S128x256.size inb_S128x512_S128x256_0_256) A4)) ![2048, 0] S512x384.size (k0_pay75 (F := F))

/-- The first `n` segments packed side by side. -/
def packTo (s : ℕ → ℕ) (G : Vec F S2560x384 .f32) (P : Vec F S528x8x384 .f32) : ℕ → Vec F S528x8x384 .f32
  | 0 => P
  | n + 1 => VecWindow.put (s := S528x8x384) (packTo s G P n) ![0, n, 0] S520x1x384.size (inSlab (rdG G (start s n)))

/-- How far into its slab each of the eight segments starts. -/
def starts (a : ℕ → BitVec 32) : IVec S8x1 32 := k0_pay84 (lead (a 0)) (lead (a 1)) (lead (a 2)) (lead (a 3)) (lead (a 4)) (lead (a 5)) (lead (a 6)) (lead (a 7))

/-- The length of segment `e`. -/
def len (a : ℕ → BitVec 32) (e : ℕ) : BitVec 32 := if e = 7 then Scalar.subi 2048#32 (a 7) else Scalar.subi (a (e + 1)) (a e)

/-- The first `n` segments unpacked from the history. -/
def unpackTo (a : ℕ → BitVec 32) (s : ℕ → ℕ) (H : Vec F S528x8x128 .f32) (T : Vec F S2576x128 .f32) : ℕ → Vec F S2576x128 .f32
  | 0 => T
  | n + 1 => VecWindow.put (s := S2576x128) (unpackTo a s H T n) ![start s n, 0] S520x128.size
      (merge (span (lead (a n)) (len a n)) (rdT (unpackTo a s H T n) (start s n)) (rdH H n))

/-- What the loop reads. -/
def fixed (a : ℕ → BitVec 32) (A2 : Vec F S1x1922 .f32) (A5 A6 A7 : Vec F S384x128 .f32) (P : Vec F S528x8x384 .f32) : Fixed F where
  P := P
  W0 := k0_pay59 A5
  W1 := k0_pay60 A6
  W2 := k0_pay61 A7
  b0 := k0_pay70 (VecWindow.window (s := S1x1922) A2 ![0, 768] S1x384.size inb_S1x1922_S1x384_0_768)
  b1 := k0_pay71 (VecWindow.window (s := S1x1922) A2 ![0, 1152] S1x384.size inb_S1x1922_S1x384_0_1152)
  b2 := k0_pay72 (VecWindow.window (s := S1x1922) A2 ![0, 1536] S1x384.size inb_S1x1922_S1x384_0_1536)
  rv := starts a

/-- The history that the loop leaves. -/
def history (a : ℕ → BitVec 32) (A2 : Vec F S1x1922 .f32) (A5 A6 A7 : Vec F S384x128 .f32) (P : Vec F S528x8x384 .f32) (n : ℕ) (H : Vec F S528x8x128 .f32) :
    Vec F S528x8x128 .f32 :=
  (steps (fixed a A2 A5 A6 A7 P) ⟨k0_pay85 (F := F), k0_pay85 (F := F), k0_pay85 (F := F), H⟩ (4 * n)).H

/-- The last product. -/
def logits (A2 : Vec F S1x1922 .f32) (A8 : Vec F S2x128 .f32) (T : Vec F S2576x128 .f32) : FVec F S2048x2 .f32 :=
  addf (matmul dot_S2048x128_S2x128_S2048x2_1_1_0_0_n_n none (VecWindow.window (s := S2576x128) T ![0, 0] S2048x128.size inb_S2576x128_S2048x128_0_0) A8
      (constant S2048x2 .f32 0x00000000#32))
    (broadcastTo S2048x2 (k0_pay73 (VecWindow.window (s := S1x1922) A2 ![0, 1920] S1x2.size inb_S1x1922_S1x2_0_1920)) broadcasts_S1x2_S2048x2)

theorem sgn_fold (x : BitVec 32) : Scalar.subi (Scalar.extui (Scalar.cmpi .sgt x 0#32)) (Scalar.extui (Scalar.cmpi .slt x 0#32)) = sgn x := rfl
theorem fdiv_fold (x d : BitVec 32) : Scalar.select (Scalar.andi (Scalar.cmpi .ne (sgn x) (sgn d)) (Scalar.cmpi .ne (Scalar.remsi x d) 0#32))
    (Scalar.subi (Scalar.divsi x d) 1#32) (Scalar.divsi x d) = fdiv x d := rfl
theorem lead_fold (x : BitVec 32) : Scalar.subi x (Scalar.muli (fdiv x 8#32) 8#32) = lead x := rfl

theorem pay90_eq (n a : BitVec 32) (old : Vec F S520x128 .f32) (h : Vec F S520x1x128 .f32) : k0_pay90 n a old h = merge (span a n) old h := rfl
theorem pay91_eq (n a : BitVec 32) : k0_pay91 n a = span a n := rfl
theorem pay92_eq (m : IVec S520x1 1) (old : Vec F S520x128 .f32) (h : Vec F S520x1x128 .f32) : k0_pay92 m old h = merge m old h := rfl
theorem pay93_eq (n a : BitVec 32) (old : Vec F S520x128 .f32) (h : Vec F S520x1x128 .f32) :
    k0_pay93 n a (iota .tc S520x1 32 [0] iota_S520x1_d0_w32) old h = merge (span a n) old h := rfl
theorem pay94_eq (n a : BitVec 32) : k0_pay94 n a (iota .tc S520x1 32 [0] iota_S520x1_d0_w32) = span a n := rfl
theorem pay95_eq (m : IVec S520x1 1) (old : Vec F S520x128 .f32) (h : Vec F S520x1x128 .f32) : k0_pay95 m old h = merge m old h := rfl
theorem pay96_eq (n a : BitVec 32) (old : Vec F S520x128 .f32) (h : Vec F S520x1x128 .f32) :
    k0_pay96 n a (iota .tc S520x1 32 [0] iota_S520x1_d0_w32) old h = merge (span a n) old h := rfl
theorem pay99_eq (n a : BitVec 32) (old : Vec F S520x128 .f32) (h : Vec F S520x1x128 .f32) :
    k0_pay99 old (k0_pay97 h) (k0_pay98 n a (iota .tc S520x1 32 [0] iota_S520x1_d0_w32)) = merge (span a n) old h := rfl
theorem pay100_eq (n a : BitVec 32) (old : Vec F S520x128 .f32) (h : Vec F S520x1x128 .f32) :
    k0_pay100 n a (iota .tc S520x1 32 [0] iota_S520x1_d0_w32) old h = merge (span a n) old h := rfl
theorem pay101_eq (n a : BitVec 32) (old : Vec F S520x128 .f32) (h : Vec F S520x1x128 .f32) :
    shapeCast S520x128 (k0_pay101 n a (iota .tc S520x1 32 [0] iota_S520x1_d0_w32) old h) shapeCasts_S520x128_S520x128 = merge (span a n) old h := rfl

theorem logits_fold (A2 : Vec F S1x1922 .f32) (A8 : Vec F S2x128 .f32) (T : Vec F S2576x128 .f32) :
    addf (matmul dot_S2048x128_S2x128_S2048x2_1_1_0_0_n_n none (VecWindow.window (s := S2576x128) T ![0, 0] S2048x128.size inb_S2576x128_S2048x128_0_0) A8
        (constant S2048x2 .f32 0x00000000#32))
      (broadcastTo S2048x2 (k0_pay73 (VecWindow.window (s := S1x1922) A2 ![0, 1920] S1x2.size inb_S1x1922_S1x2_0_1920)) broadcasts_S1x2_S2048x2) =
      logits A2 A8 T := rfl

theorem products_fold (A1 : Vec F S2048x4x256 .f32) (A2 : Vec F S1x1922 .f32) (A3 : Vec F S128x512 .f32) (A4 : Vec F S384x128 .f32) (A10 : Vec F S2560x384 .f32) :
    VecWindow.put (s := S2560x384) (VecWindow.put (s := S2560x384) A10 ![0, 0] S2048x384.size (k0_pay74 (k0_pay65 (k0_pay62 (VecWindow.window (s := S2048x4x256) A1 ![0, 2, 0] S2048x1x256.size inb_S2048x4x256_S2048x1x256_0_2_0)) (k0_pay63 (VecWindow.window (s := S2048x4x256) A1 ![0, 3, 0] S2048x1x256.size inb_S2048x4x256_S2048x1x256_0_3_0)) (k0_pay64 (VecWindow.window (s := S2048x4x256) A1 ![0, 2, 0] S2048x1x256.size inb_S2048x4x256_S2048x1x256_0_2_0) (VecWindow.window (s := S2048x4x256) A1 ![0, 3, 0] S2048x1x256.size inb_S2048x4x256_S2048x1x256_0_3_0)) (VecWindow.window (s := S2048x4x256) A1 ![0, 0, 0] S2048x1x256.size inb_S2048x4x256_S2048x1x256_0_0_0)) (k0_pay66 (VecWindow.window (s := S1x1922) A2 ![0, 0] S1x128.size inb_S1x1922_S1x128_0_0)) (k0_pay67 (VecWindow.window (s := S1x1922) A2 ![0, 128] S1x128.size inb_S1x1922_S1x128_0_128)) (k0_pay68 (VecWindow.window (s := S1x1922) A2 ![0, 256] S1x128.size inb_S1x1922_S1x128_0_256)) (k0_pay69 (VecWindow.window (s := S1x1922) A2 ![0, 384] S1x384.size inb_S1x1922_S1x384_0_384)) (VecWindow.window (s := S128x512) A3 ![0, 0] S128x256.size inb_S128x512_S128x256_0_0) (VecWindow.window (s := S2048x4x256) A1 ![0, 1, 0] S2048x1x256.size inb_S2048x4x256_S2048x1x256_0_1_0) (VecWindow.window (s := S128x512) A3 ![0, 256] S128x256.size inb_S128x512_S128x256_0_256) A4)) ![2048, 0] S512x384.size (k0_pay75 (F := F)) =
      products A1 A2 A3 A4 A10 := rfl

theorem pack_fold (n : ℕ) {s : ℕ → ℕ} {G : Vec F S2560x384 .f32} {P : Vec F S528x8x384 .f32} {o : ℕ} (h : start s n = o) :
    VecWindow.put (s := S528x8x384) (packTo s G P n) ![0, n, 0] S520x1x384.size (inSlab (rdG G o)) = packTo s G P (n + 1) := by
  subst h
  rfl

theorem unpack_fold (n : ℕ) {a : ℕ → BitVec 32} {s : ℕ → ℕ} {H : Vec F S528x8x128 .f32} {T : Vec F S2576x128 .f32} {x y : BitVec 32} {o : ℕ} (hx : a n = x)
    (hy : len a n = y) (h : start s n = o) :
    VecWindow.put (s := S2576x128) (unpackTo a s H T n) ![o, 0] S520x128.size (merge (span (lead x) y) (rdT (unpackTo a s H T n) o) (rdH H n)) =
      unpackTo a s H T (n + 1) := by
  subst hx hy h
  rfl

theorem pay76_eq (w : Vec F S520x384 .f32) : k0_pay76 w = inSlab w := rfl
theorem pay77_eq (w : Vec F S520x384 .f32) : k0_pay77 w = inSlab w := rfl
theorem pay78_eq (w : Vec F S520x384 .f32) : k0_pay78 w = inSlab w := rfl
theorem pay79_eq (w : Vec F S520x384 .f32) : k0_pay79 w = inSlab w := rfl
theorem pay80_eq (w : Vec F S520x384 .f32) : k0_pay80 w = inSlab w := rfl
theorem pay81_eq (w : Vec F S520x384 .f32) : k0_pay81 w = inSlab w := rfl
theorem pay82_eq (w : Vec F S520x384 .f32) : k0_pay82 w = inSlab w := rfl
theorem pay83_eq (w : Vec F S520x384 .f32) : k0_pay83 w = inSlab w := rfl

end Cert.KernelIdeal.Hand
end
-- ==== Proof.Clean.lean ====
module

public import proofs.«01_k».proof.Proof.Whole
public import Idealize.ShloMosaic.Lib.PointwiseCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! What the program writes does not depend on what its scratch arrays held: every row that a later step reads was written before.
    Each array is described by its entries, up to the answer as a function of the inputs. -/

section
variable {s : Shape} {α : Type}

theorem put_in (x : s.Idx → α) (off size : Fin s.rank → ℕ) (w : ((a : Fin s.rank) → Fin (size a)) → α) (y : s.Idx) (z : (a : Fin s.rank) → Fin (size a))
    (h : ∀ a, (y a).val = off a + (z a).val) : VecWindow.put x off size w y = w z := by
  have hi : ∀ a, off a ≤ (y a).val ∧ (y a).val < off a + size a := fun a => by
    have := h a
    have := (z a).isLt
    omega
  unfold VecWindow.put
  rw [dif_pos hi]
  refine congrArg w (funext fun a => Fin.ext ?_)
  show (y a).val - off a = (z a).val
  rw [h a]
  omega

theorem put_out (x : s.Idx → α) (off size : Fin s.rank → ℕ) (w : ((a : Fin s.rank) → Fin (size a)) → α) (y : s.Idx) (a : Fin s.rank)
    (h : (y a).val < off a ∨ off a + size a ≤ (y a).val) : VecWindow.put x off size w y = x y := by
  unfold VecWindow.put
  rw [dif_neg]
  intro hi
  have := hi a
  omega

theorem window_at (x : s.Idx → α) (off size : Fin s.rank → ℕ) (inb : ∀ a, off a + size a ≤ s.size a) (y : (a : Fin s.rank) → Fin (size a)) (z : s.Idx)
    (h : ∀ a, (z a).val = off a + (y a).val) : VecWindow.window x off size inb y = x z := by
  unfold VecWindow.window
  refine congrArg x (funext fun a => Fin.ext ?_)
  rw [h a]
  show off a + 1 * (y a).val = _
  omega
end

/-! The input products. -/

/-- The input products of the tokens. -/
def prod (A1 : Vec F S2048x4x256 .f32) (A2 : Vec F S1x1922 .f32) (A3 : Vec F S128x512 .f32) (A4 : Vec F S384x128 .f32) : Vec F S2048x384 .f32 :=
  k0_pay74 (k0_pay65 (k0_pay62 (VecWindow.window (s := S2048x4x256) A1 ![0, 2, 0] S2048x1x256.size inb_S2048x4x256_S2048x1x256_0_2_0)) (k0_pay63 (VecWindow.window (s := S2048x4x256) A1 ![0, 3, 0] S2048x1x256.size inb_S2048x4x256_S2048x1x256_0_3_0)) (k0_pay64 (VecWindow.window (s := S2048x4x256) A1 ![0, 2, 0] S2048x1x256.size inb_S2048x4x256_S2048x1x256_0_2_0) (VecWindow.window (s := S2048x4x256) A1 ![0, 3, 0] S2048x1x256.size inb_S2048x4x256_S2048x1x256_0_3_0)) (VecWindow.window (s := S2048x4x256) A1 ![0, 0, 0] S2048x1x256.size inb_S2048x4x256_S2048x1x256_0_0_0)) (k0_pay66 (VecWindow.window (s := S1x1922) A2 ![0, 0] S1x128.size inb_S1x1922_S1x128_0_0)) (k0_pay67 (VecWindow.window (s := S1x1922) A2 ![0, 128] S1x128.size inb_S1x1922_S1x128_0_128)) (k0_pay68 (VecWindow.window (s := S1x1922) A2 ![0, 256] S1x128.size inb_S1x1922_S1x128_0_256)) (k0_pay69 (VecWindow.window (s := S1x1922) A2 ![0, 384] S1x384.size inb_S1x1922_S1x384_0_384)) (VecWindow.window (s := S128x512) A3 ![0, 0] S128x256.size inb_S128x512_S128x256_0_0) (VecWindow.window (s := S2048x4x256) A1 ![0, 1, 0] S2048x1x256.size inb_S2048x4x256_S2048x1x256_0_1_0) (VecWindow.window (s := S128x512) A3 ![0, 256] S128x256.size inb_S128x512_S128x256_0_256) A4

/-- Row `i` of the input products, zero behind the last token. -/
def gin (A1 : Vec F S2048x4x256 .f32) (A2 : Vec F S1x1922 .f32) (A3 : Vec F S128x512 .f32) (A4 : Vec F S384x128 .f32) (i : ℕ) (j : Fin 384) : Elt F .f32 :=
  if h : i < 2048 then prod A1 A2 A3 A4 (ix2 ⟨i, h⟩ j) else Scalar.ofBits .f32 0x00000000#32

variable {A1 : Vec F S2048x4x256 .f32} {A2 : Vec F S1x1922 .f32} {A3 : Vec F S128x512 .f32} {A4 A5 A6 A7 : Vec F S384x128 .f32} {A8 : Vec F S2x128 .f32}

theorem products_at {A10 : Vec F S2560x384 .f32} (i : Fin 2560) (j : Fin 384) : products A1 A2 A3 A4 A10 (ix2 i j) = gin A1 A2 A3 A4 i.val j := by
  unfold products gin
  by_cases h : i.val < 2048
  · rw [dif_pos h, put_out (a := 0) (h := Or.inl h)]
    exact put_in (s := S2560x384) _ _ S2048x384.size _ (ix2 i j) (ix2 (n0 := 2048) (n1 := 384) ⟨i.val, h⟩ j) (Fin.forall_fin_two.2 ⟨(Nat.zero_add _).symm, (Nat.zero_add _).symm⟩)
  · rw [dif_neg h]
    exact put_in (s := S2560x384) _ _ S512x384.size _ (ix2 i j) (ix2 (n0 := 512) (n1 := 384) ⟨i.val - 2048, by have := i.isLt; omega⟩ j)
      (Fin.forall_fin_two.2 ⟨by show i.val = 2048 + (i.val - 2048); omega, (Nat.zero_add _).symm⟩)

/-! The packed inputs. -/

theorem rdG_at {s : ℕ → ℕ} (hs : Fits s) {e : ℕ} (he : e ≤ 7) {A10 : Vec F S2560x384 .f32} (t : Fin 520) (j : Fin 384) :
    rdG (products A1 A2 A3 A4 A10) (start s e) (ix2 t j) = gin A1 A2 A3 A4 (start s e + t.val) j := by
  have hb : start s e + 520 ≤ 2560 := inbG hs he 0
  have ht := t.isLt
  rw [← rdG_eq (inbG hs he), window_at (s := S2560x384) (z := ix2 (⟨start s e + t.val, by omega⟩ : Fin 2560) j)
    (h := Fin.forall_fin_two.2 ⟨rfl, (Nat.zero_add _).symm⟩), products_at]

theorem inSlab_at (w : Vec F S520x384 .f32) (t : Fin 520) (u : Fin 1) (j : Fin 384) : inSlab w (ix3 t u j) = w (ix2 t j) := by
  unfold inSlab
  pointwise

theorem packTo_at {s : ℕ → ℕ} (hs : Fits s) {A10 : Vec F S2560x384 .f32} {P : Vec F S528x8x384 .f32} (t : Fin 528) (ht : t.val < 520) (e : Fin 8) (j : Fin 384) :
    ∀ n, e.val < n → n ≤ 8 → packTo s (products A1 A2 A3 A4 A10) P n (ix3 t e j) = gin A1 A2 A3 A4 (start s e.val + t.val) j
  | 0, h, _ => absurd h (Nat.not_lt_zero _)
  | n + 1, h, hn => by
    show VecWindow.put (s := S528x8x384) _ _ _ _ _ = _
    rcases Nat.lt_or_ge e.val n with he | he
    · rw [put_out (a := 1) (h := Or.inl he)]
      exact packTo_at hs t ht e j n he (by omega)
    · obtain rfl : n = e.val := by omega
      rw [put_in (s := S528x8x384) (size := S520x1x384.size) (z := ix3 (n0 := 520) (n1 := 1) (n2 := 384) ⟨t.val, ht⟩ 0 j)
        (h := by
          intro a
          fin_cases a
          · exact (Nat.zero_add _).symm
          · rfl
          · exact (Nat.zero_add _).symm), inSlab_at, rdG_at hs (by omega)]

/-- Row `t` of the packed inputs: each segment's row `t` past the start of its slab. -/
def packed (A1 : Vec F S2048x4x256 .f32) (A2 : Vec F S1x1922 .f32) (A3 : Vec F S128x512 .f32) (A4 : Vec F S384x128 .f32) (s : ℕ → ℕ) (t : ℕ) : Vec F S1x8x384 .f32 :=
  fun y => gin A1 A2 A3 A4 (start s (y 1).val + t) (y 2)

theorem inRow_packTo {s : ℕ → ℕ} (hs : Fits s) {A10 : Vec F S2560x384 .f32} {P : Vec F S528x8x384 .f32} {t : ℕ} (ht : t < 520) :
    inRow (packTo s (products A1 A2 A3 A4 A10) P 8) t = packed A1 A2 A3 A4 s t := by
  have hb := inbP (t := t) (by omega)
  funext y
  obtain ⟨u, e, j, rfl⟩ : ∃ (u : Fin 1) (e : Fin 8) (j : Fin 384), y = ix3 u e j := ⟨y 0, y 1, y 2, eq_ix3 y⟩
  rw [← inRow_eq hb, window_at (s := S528x8x384) (z := ix3 (⟨t, by omega⟩ : Fin 528) e j)
    (h := by
      intro a
      fin_cases a
      · show t = t + u.val
        omega
      · exact (Nat.zero_add _).symm
      · exact (Nat.zero_add _).symm), packTo_at hs _ ht e j 8 e.isLt le_rfl]
  rfl

/-! The loop. -/

/-- The two layers' states before time `n`, over input rows `x`. -/
def chain (c : Fixed F) (x : ℕ → Vec F S1x8x384 .f32) : ℕ → FVec F S8x128 .f32 × FVec F S8x128 .f32
  | 0 => (k0_pay85 (F := F), k0_pay85 (F := F))
  | n + 1 => (stepA c.b0 c.W0 c.rv (BitVec.ofNat 32 n) (x n) (chain c x n).1, stepB c.b1 c.W1 c.b2 c.W2 c.rv (BitVec.ofNat 32 n) (chain c x n).1 (chain c x n).2)

/-- The loop's start: no state, an array for the history. -/
def init (H : Vec F S528x8x128 .f32) : St F := ⟨k0_pay85 (F := F), k0_pay85 (F := F), k0_pay85 (F := F), H⟩

theorem steps_chain {c : Fixed F} {x : ℕ → Vec F S1x8x384 .f32} (hx : ∀ t, t < 520 → inRow c.P t = x t) {H : Vec F S528x8x128 .f32} :
    ∀ n, n ≤ 520 → (steps c (init H) n).h0 = (chain c x n).1 ∧ (steps c (init H) n).y = (chain c x n).1 ∧ (steps c (init H) n).h1 = (chain c x n).2
  | 0, _ => ⟨rfl, rfl, rfl⟩
  | n + 1, hn => by
    obtain ⟨h0, hy, h1⟩ := steps_chain hx (H := H) n (by omega)
    simp only [steps, step, chain, h0, hy, h1, hx n (by omega)]
    exact ⟨trivial, trivial, trivial⟩

theorem row_at (h : FVec F S8x128 .f32) (u : Fin 1) (e : Fin 8) (k : Fin 128) : row h (ix3 u e k) = h (ix2 e k) := by
  unfold row
  pointwise

theorem steps_hist {c : Fixed F} {x : ℕ → Vec F S1x8x384 .f32} (hx : ∀ t, t < 520 → inRow c.P t = x t) {H : Vec F S528x8x128 .f32} (j : Fin 528) (e : Fin 8)
    (k : Fin 128) : ∀ n, n ≤ 520 → j.val + 1 < n → (steps c (init H) n).H (ix3 j e k) = (chain c x (j.val + 2)).2 (ix2 e k)
  | 0, _, h => absurd h (Nat.not_lt_zero _)
  | n + 1, hn, h => by
    show VecWindow.put (s := S528x8x128) _ _ _ _ _ = _
    rcases Nat.lt_or_ge (j.val + 1) n with hj | hj
    · rw [put_out (a := 0) (h := Or.inl (show j.val < n - 1 by omega))]
      exact steps_hist hx j e k n (by omega) hj
    · obtain rfl : n = j.val + 1 := by omega
      obtain ⟨h0, hy, h1⟩ := steps_chain hx (H := H) (j.val + 1) (by omega)
      rw [put_in (s := S528x8x128) (size := S1x8x128.size) (z := ix3 (n0 := 1) (n1 := 8) (n2 := 128) 0 e k)
        (h := by
          intro a
          fin_cases a
          · rfl
          · exact (Nat.zero_add _).symm
          · exact (Nat.zero_add _).symm), row_at, hy, h1]
      rfl

/-! The tokens' rows. -/

theorem span_at {a n : ℕ} (ha : a < 2048) (hn : n ≤ 2048) (r : Fin 520) (u : Fin 1) :
    span (BitVec.ofNat 32 a) (BitVec.ofNat 32 n) (ix2 r u) = BitVec.ofBool (decide (a ≤ r.val ∧ r.val < a + n)) := by
  have hr := r.isLt
  have hi : iota .tc S520x1 32 [0] iota_S520x1_d0_w32 (ix2 r u) = BitVec.ofNat 32 r.val := by
    show BitVec.ofNat 32 (0 * 520 + r.val) = _
    rw [Nat.zero_mul, Nat.zero_add]
  show IntOp.andi (IntOp.cmpi .sge (iota .tc S520x1 32 [0] iota_S520x1_d0_w32 (ix2 r u)) (BitVec.ofNat 32 a))
    (IntOp.cmpi .slt (iota .tc S520x1 32 [0] iota_S520x1_d0_w32 (ix2 r u)) (Scalar.addi (BitVec.ofNat 32 a) (BitVec.ofNat 32 n))) = _
  rw [hi, addi_ofNat, WordCmp.cmpi_sge_ofNat (by omega) (by omega), WordCmp.cmpi_slt_ofNat (by omega) (by omega)]
  by_cases h1 : a ≤ r.val <;> by_cases h2 : r.val < a + n <;> simp [h1, h2, IntOp.andi]

theorem merge_at (m : IVec S520x1 1) (old : Vec F S520x128 .f32) (h : Vec F S520x1x128 .f32) (r : Fin 520) (k : Fin 128) :
    merge m old h (ix2 r k) = Scalar.select (m (ix2 r 0)) (h (ix3 r 0 k)) (old (ix2 r k)) := by
  unfold merge
  pointwise

theorem rdT_at {s : ℕ → ℕ} (hs : Fits s) (e : ℕ) {T : Vec F S2576x128 .f32} (r : Fin 520) (k : Fin 128) (i : Fin 2576) (hi : i.val = start s e + r.val) :
    rdT T (start s e) (ix2 r k) = T (ix2 i k) := by
  rw [← rdT_eq (inbT hs e), window_at (s := S2576x128) (off := ![start s e, 0]) (size := S520x128.size) (y := ix2 r k) (z := ix2 i k) (h := Fin.forall_fin_two.2 ⟨hi, (Nat.zero_add _).symm⟩)]

theorem inbC (e : Fin 8) : ∀ a, (![0, e.val, 0] : Fin 3 → ℕ) a + S520x1x128.size a ≤ S528x8x128.size a := by
  have := e.isLt
  intro a
  fin_cases a
  · show 0 + 520 ≤ 528
    omega
  · show e.val + 1 ≤ 8
    omega
  · show 0 + 128 ≤ 128
    omega

theorem rdH_at {H : Vec F S528x8x128 .f32} (e : Fin 8) (r : Fin 520) (u : Fin 1) (k : Fin 128) (j : Fin 528) (hj : j.val = r.val) :
    rdH H e.val (ix3 r u k) = H (ix3 j e k) := by
  rw [← rdH_eq (inbC e), window_at (s := S528x8x128) (z := ix3 j e k)
    (h := by
      intro a
      fin_cases a
      · show j.val = 0 + r.val
        omega
      · show e.val = e.val + u.val
        omega
      · exact (Nat.zero_add _).symm)]

theorem len_ofNat {s : ℕ → ℕ} (hs : Fits s) {a : ℕ → BitVec 32} (ha : ∀ e, e ≤ 7 → a e = BitVec.ofNat 32 (s e)) {e : ℕ} (he : e ≤ 7) :
    len a e = BitVec.ofNat 32 (s (e + 1) - s e) := by
  have := hs.mono e
  unfold len
  by_cases h : e = 7
  · subst h
    rw [if_pos rfl, ha 7 le_rfl, show (7 + 1 : ℕ) = 8 from rfl, hs.s8]
    exact subi_ofNat (hs.le 7)
  · rw [if_neg h, ha e he, ha (e + 1) (by omega)]
    exact subi_ofNat this.1

theorem mono_le {s : ℕ → ℕ} (hs : Fits s) {e : ℕ} : ∀ {n : ℕ}, e < n → s (e + 1) ≤ s n
  | 0, h => absurd h (Nat.not_lt_zero _)
  | n + 1, h => by
    rcases Nat.lt_or_ge e n with he | he
    · exact (mono_le hs he).trans (hs.mono n).1
    · obtain rfl : n = e := by omega
      exact le_rfl

theorem unpackTo_at {s : ℕ → ℕ} (hs : Fits s) {a : ℕ → BitVec 32} (ha : ∀ e, e ≤ 7 → a e = BitVec.ofNat 32 (s e)) {H : Vec F S528x8x128 .f32}
    {T : Vec F S2576x128 .f32} (i : Fin 2576) (k : Fin 128) (e : Fin 8) (h1 : s e.val ≤ i.val) (h2 : i.val < s (e.val + 1)) (j : Fin 528)
    (hj : j.val = i.val - start s e.val) : ∀ n, e.val < n → n ≤ 8 → unpackTo a s H T n (ix2 i k) = H (ix3 j e k)
  | 0, h, _ => absurd h (Nat.not_lt_zero _)
  | n + 1, h, hn => by
    have hm := hs.mono n
    have hl := hs.le n
    have hlt := hs.lt n (by omega)
    have hst : start s n = s n / 8 * 8 := rfl
    have hse : start s e.val = s e.val / 8 * 8 := rfl
    show VecWindow.put (s := S2576x128) _ _ _ _ _ = _
    by_cases hr : start s n ≤ i.val ∧ i.val < start s n + 520
    · rw [put_in (s := S2576x128) (size := S520x128.size) (z := ix2 (n0 := 520) (n1 := 128) ⟨i.val - start s n, by omega⟩ k)
        (h := Fin.forall_fin_two.2 ⟨by show i.val = start s n + (i.val - start s n); omega, (Nat.zero_add _).symm⟩), merge_at, ha n (by omega), lead_ofNat hl,
        len_ofNat hs ha (by omega), span_at (by omega) (by omega)]
      rcases Nat.lt_or_ge e.val n with he | he
      · have hmono : s (e.val + 1) ≤ s n := mono_le hs he
        have : ¬ (s n % 8 ≤ i.val - start s n ∧ i.val - start s n < s n % 8 + (s (n + 1) - s n)) := by omega
        rw [show decide _ = false from decide_eq_false this]
        refine (if_neg (by decide)).trans ?_
        rw [rdT_at hs n _ k i (by show i.val = start s n + (i.val - start s n); omega)]
        exact unpackTo_at hs ha i k e h1 h2 j hj n he (by omega)
      · obtain rfl : n = e.val := by omega
        have : s e.val % 8 ≤ i.val - start s e.val ∧ i.val - start s e.val < s e.val % 8 + (s (e.val + 1) - s e.val) := by omega
        rw [show decide _ = true from decide_eq_true this]
        refine (if_pos (by decide)).trans ?_
        exact rdH_at e _ _ k j hj
    · rcases Nat.lt_or_ge e.val n with he | he
      · rw [put_out (a := 0) (h := by show i.val < start s n ∨ start s n + 520 ≤ i.val; omega)]
        exact unpackTo_at hs ha i k e h1 h2 j hj n he (by omega)
      · obtain rfl : n = e.val := by omega
        omega

/-! The answer. -/

/-- The loop's constants, over the words' segments. -/
def consts (ent : ℕ → BitVec 32) (A2 : Vec F S1x1922 .f32) (A5 A6 A7 : Vec F S384x128 .f32) : Fixed F :=
  fixed (fun e => BitVec.ofNat 32 (seg ent e)) A2 A5 A6 A7 (broadcast S528x8x384 (Scalar.ofBits .f32 0x00000000#32))

/-- A token's row: the second layer's state where the token's time has passed. -/
def tokens (ent : ℕ → BitVec 32) (A1 : Vec F S2048x4x256 .f32) (A2 : Vec F S1x1922 .f32) (A3 : Vec F S128x512 .f32) (A4 A5 A6 A7 : Vec F S384x128 .f32) :
    Vec F S2048x128 .f32 := fun y =>
  (chain (consts ent A2 A5 A6 A7) (packed A1 A2 A3 A4 (seg ent)) ((y 0).val - start (seg ent) ((ent (y 0).val).toNat) + 2)).2
    (ix2 (⟨(ent (y 0).val).toNat % 8, Nat.mod_lt _ (by decide)⟩ : Fin 8) (y 1))

/-- The answer. -/
def answer (ent : ℕ → BitVec 32) (A1 : Vec F S2048x4x256 .f32) (A2 : Vec F S1x1922 .f32) (A3 : Vec F S128x512 .f32) (A4 A5 A6 A7 : Vec F S384x128 .f32)
    (A8 : Vec F S2x128 .f32) : FVec F S2048x2 .f32 :=
  addf (matmul dot_S2048x128_S2x128_S2048x2_1_1_0_0_n_n none (tokens ent A1 A2 A3 A4 A5 A6 A7) A8 (constant S2048x2 .f32 0x00000000#32))
    (broadcastTo S2048x2 (k0_pay73 (VecWindow.window (s := S1x1922) A2 ![0, 1920] S1x2.size inb_S1x1922_S1x2_0_1920)) broadcasts_S1x2_S2048x2)

theorem chain_congr {c d : Fixed F} {x : ℕ → Vec F S1x8x384 .f32} (h0 : c.W0 = d.W0) (h1 : c.W1 = d.W1) (h2 : c.W2 = d.W2) (g0 : c.b0 = d.b0) (g1 : c.b1 = d.b1)
    (g2 : c.b2 = d.b2) (hr : c.rv = d.rv) : ∀ n, chain c x n = chain d x n
  | 0 => rfl
  | n + 1 => by
    simp only [chain, chain_congr h0 h1 h2 g0 g1 g2 hr n, h0, h1, h2, g0, g1, g2, hr]

variable {ent : ℕ → BitVec 32}

theorem starts_rd (h : Segs ent) : starts (bnd (rd ent)) = starts (fun e => BitVec.ofNat 32 (seg ent e)) := by
  unfold starts
  simp only [bnd_rd h (Nat.zero_le 7), bnd_rd h (show 1 ≤ 7 by decide), bnd_rd h (show 2 ≤ 7 by decide), bnd_rd h (show 3 ≤ 7 by decide),
    bnd_rd h (show 4 ≤ 7 by decide), bnd_rd h (show 5 ≤ 7 by decide), bnd_rd h (show 6 ≤ 7 by decide), bnd_rd h (show 7 ≤ 7 by decide)]

theorem history_eq (a : ℕ → BitVec 32) (P : Vec F S528x8x384 .f32) (n : ℕ) (H : Vec F S528x8x128 .f32) :
    history a A2 A5 A6 A7 P n H = (steps (fixed a A2 A5 A6 A7 P) (init H) (4 * n)).H := rfl

theorem tokens_at (h : Segs ent) {A10 : Vec F S2560x384 .f32} {A11 : Vec F S528x8x384 .f32} {A12 : Vec F S528x8x128 .f32} {A13 : Vec F S2576x128 .f32}
    (i : Fin 2048) (k : Fin 128) (i' : Fin 2576) (hi : i'.val = i.val) :
    unpackTo (bnd (rd ent)) (seg ent) (history (bnd (rd ent)) A2 A5 A6 A7 (packTo (seg ent) (products A1 A2 A3 A4 A10) A11 8) (tripsN (seg ent)) A12) A13 8
      (ix2 i' k) = tokens ent A1 A2 A3 A4 A5 A6 A7 (ix2 i k) := by
  have hs := fits_seg h
  have hi2 := i.isLt
  have he := h.le7 i.val hi2
  obtain ⟨e, hE⟩ : ∃ e : Fin 8, (ent i.val).toNat = e.val := ⟨⟨(ent i.val).toNat, by omega⟩, rfl⟩
  have hlo := ((seg_spec h e.val).2 i.val hi2).not.2 (by omega)
  have hhi := ((seg_spec h (e.val + 1)).2 i.val hi2).2 (by omega)
  have hr := reach_le_longest (s := seg ent) e.val (by omega)
  have hlg := longest_le hs
  have hst : start (seg ent) e.val = seg ent e.val / 8 * 8 := rfl
  have hre : reach (seg ent) e.val = seg ent (e.val + 1) - seg ent e.val + seg ent e.val % 8 := rfl
  have htr : tripsN (seg ent) = (longest (seg ent) + 4) / 4 := rfl
  have hb : i.val - start (seg ent) e.val < reach (seg ent) e.val := by omega
  have hj : i.val - start (seg ent) e.val < 528 := by omega
  rw [unpackTo_at hs (fun e he => bnd_rd h he) i' k e (by omega) (by omega) ⟨_, hj⟩ (by rw [hi]) 8 e.isLt le_rfl]
  have hx : ∀ t, t < 520 → inRow (fixed (bnd (rd ent)) A2 A5 A6 A7 (packTo (seg ent) (products A1 A2 A3 A4 A10) A11 8)).P t = packed A1 A2 A3 A4 (seg ent) t :=
    fun t ht => inRow_packTo hs ht
  rw [history_eq, steps_hist hx ⟨_, hj⟩ e k (4 * tripsN (seg ent)) (by omega) (by show i.val - start (seg ent) e.val + 1 < _; omega)]
  have hm : (⟨(ent i.val).toNat % 8, Nat.mod_lt _ (by decide)⟩ : Fin 8) = e := Fin.ext (by show (ent i.val).toNat % 8 = e.val; omega)
  show _ = (chain (consts ent A2 A5 A6 A7) (packed A1 A2 A3 A4 (seg ent)) (i.val - start (seg ent) (ent i.val).toNat + 2)).2
    (ix2 (⟨(ent i.val).toNat % 8, Nat.mod_lt _ (by decide)⟩ : Fin 8) k)
  rw [hm, hE]
  have hc := chain_congr (c := fixed (bnd (rd ent)) A2 A5 A6 A7 (packTo (seg ent) (products A1 A2 A3 A4 A10) A11 8)) (d := consts ent A2 A5 A6 A7)
    (x := packed A1 A2 A3 A4 (seg ent)) rfl rfl rfl rfl rfl rfl (starts_rd h) (i.val - start (seg ent) e.val + 2)
  exact congrArg (fun p : FVec F S8x128 .f32 × FVec F S8x128 .f32 => p.2 (ix2 (n0 := 8) (n1 := 128) e k)) hc

theorem logits_eq (h : Segs ent) {A10 : Vec F S2560x384 .f32} {A11 : Vec F S528x8x384 .f32} {A12 : Vec F S528x8x128 .f32} {A13 : Vec F S2576x128 .f32} :
    logits A2 A8 (unpackTo (bnd (rd ent)) (seg ent) (history (bnd (rd ent)) A2 A5 A6 A7 (packTo (seg ent) (products A1 A2 A3 A4 A10) A11 8) (tripsN (seg ent)) A12) A13 8)
      = answer ent A1 A2 A3 A4 A5 A6 A7 A8 := by
  have hw : VecWindow.window (s := S2576x128) (unpackTo (bnd (rd ent)) (seg ent) (history (bnd (rd ent)) A2 A5 A6 A7
      (packTo (seg ent) (products A1 A2 A3 A4 A10) A11 8) (tripsN (seg ent)) A12) A13 8) ![0, 0] S2048x128.size inb_S2576x128_S2048x128_0_0
      = tokens ent A1 A2 A3 A4 A5 A6 A7 := by
    funext y
    obtain ⟨i, k, rfl⟩ : ∃ (i : Fin 2048) (k : Fin 128), y = ix2 i k := ⟨y 0, y 1, eq_ix2 y⟩
    have := i.isLt
    rw [window_at (s := S2576x128) (z := ix2 (⟨i.val, by omega⟩ : Fin 2576) k) (h := Fin.forall_fin_two.2 ⟨(Nat.zero_add _).symm, (Nat.zero_add _).symm⟩)]
    exact tokens_at h i k _ rfl
  unfold logits answer
  rw [hw]

end Cert.KernelIdeal.Hand
end
-- ==== Proof.Search.lean ====
module

public import proofs.«01_k».proof.Proof.Words

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! The parts of the program that search the sorted word array, each run over the words `w` that it reads. -/

variable {c : Dev nD} (arg0 : Memref sig .tc .smem S2048 .i32) (harg0 : arg0.IsWhole) (arg1 : Memref sig .tc .vmem S2048x4x256 .f32) (harg1 : arg1.IsWhole) (arg2 : Memref sig .tc .vmem S1x1922 .f32) (harg2 : arg2.IsWhole) (arg3 : Memref sig .tc .vmem S128x512 .f32) (harg3 : arg3.IsWhole) (arg4 : Memref sig .tc .vmem S384x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384x128 .f32) (harg7 : arg7.IsWhole) (arg8 : Memref sig .tc .vmem S2x128 .f32) (harg8 : arg8.IsWhole) (arg9 : Memref sig .tc .vmem S2048x2 .f32) (harg9 : arg9.IsWhole) (arg10 : Memref sig .tc .vmem S2560x384 .f32) (harg10 : arg10.IsWhole) (arg11 : Memref sig .tc .vmem S528x8x384 .f32) (harg11 : arg11.IsWhole) (arg12 : Memref sig .tc .vmem S528x8x128 .f32) (harg12 : arg12.IsWhole) (arg13 : Memref sig .tc .vmem S2576x128 .f32) (harg13 : arg13.IsWhole) (arg14 : Memref sig .tc .vmem S128x384 .bf16) (harg14 : arg14.IsWhole) (arg15 : Memref sig .tc .vmem S128x384 .bf16) (harg15 : arg15.IsWhole) (arg16 : Memref sig .tc .vmem S128x384 .bf16) (harg16 : arg16.IsWhole)

theorem part13_spec {f : Bf (F := F) c arg0} {ent : ℕ → BitVec 32} (hf : arg0.view.read (Elt F) f = fun i => ent (i 0).val)
    {w : ℕ → ℕ → BitVec 32} (G : Good ent w) {Q} :
    pt c arg0 f ⊢ iprop((pt c arg0 f -∗ Q ⟨(w 1 0), (w 1 1), (w 1 2), (w 1 3), (inb_word (G.inb 1 4 (by decide) (by decide) (by decide))), (posW (w 1) 1 4), (Scalar.addi (posW (w 1) 1 4) 128#32), (Scalar.cmpi .sle (Scalar.addi (posW (w 1) 1 4) 128#32) 2048#32), (Scalar.subi (Scalar.addi (posW (w 1) 1 4) 128#32) 1#32)⟩)
      -∗ wp frame (wpE (defs₀ (F := F)) Variants.none c none) Set.univ (k0_part13 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 ) Q) := by
  iintro H0 Hk
  unfold k0_part13
  iapply (wp_word hf rfl (G.val 1 0 (by decide) (by decide) (by decide)) (inb_word (G.inb 1 1 (by decide) (by decide) (by decide)))) $$ H0
  iintro H0
  iapply (wp_word hf rfl (G.val 1 1 (by decide) (by decide) (by decide)) (inb_word (G.inb 1 2 (by decide) (by decide) (by decide)))) $$ H0
  iintro H0
  iapply (wp_word hf rfl (G.val 1 2 (by decide) (by decide) (by decide)) (inb_word (G.inb 1 3 (by decide) (by decide) (by decide)))) $$ H0
  iintro H0
  iapply (wp_word hf rfl (G.val 1 3 (by decide) (by decide) (by decide)) (inb_word (G.inb 1 4 (by decide) (by decide) (by decide)))) $$ H0
  iintro H0
  iapply (wp_done_eq (a := ⟨(w 1 0), (w 1 1), (w 1 2), (w 1 3), (inb_word (G.inb 1 4 (by decide) (by decide) (by decide))), (posW (w 1) 1 4), (Scalar.addi (posW (w 1) 1 4) 128#32), (Scalar.cmpi .sle (Scalar.addi (posW (w 1) 1 4) 128#32) 2048#32), (Scalar.subi (Scalar.addi (posW (w 1) 1 4) 128#32) 1#32)⟩) (by congr 1))
  iapply Hk; iexact H0

theorem part14_spec {f : Bf (F := F) c arg0} {ent : ℕ → BitVec 32} (hf : arg0.view.read (Elt F) f = fun i => ent (i 0).val)
    {w : ℕ → ℕ → BitVec 32} (G : Good ent w) {Q} :
    pt c arg0 f ⊢ iprop((pt c arg0 f -∗ Q ⟨(w 1 4), (w 1 5), (w 1 6), (w 1 7), (w 1 8), (inb_word (G.inb 1 9 (by decide) (by decide) (by decide))), (posW (w 1) 1 9), 4#32⟩)
      -∗ wp frame (wpE (defs₀ (F := F)) Variants.none c none) Set.univ (k0_part14 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (w 1 0) (w 1 1) (w 1 2) (w 1 3) (inb_word (G.inb 1 4 (by decide) (by decide) (by decide))) (posW (w 1) 1 4) (Scalar.addi (posW (w 1) 1 4) 128#32) (Scalar.cmpi .sle (Scalar.addi (posW (w 1) 1 4) 128#32) 2048#32) (Scalar.subi (Scalar.addi (posW (w 1) 1 4) 128#32) 1#32)) Q) := by
  iintro H0 Hk
  unfold k0_part14
  iapply (wp_word hf rfl (G.val 1 4 (by decide) (by decide) (by decide)) (inb_word (G.inb 1 5 (by decide) (by decide) (by decide)))) $$ H0
  iintro H0
  iapply (wp_word hf rfl (G.val 1 5 (by decide) (by decide) (by decide)) (inb_word (G.inb 1 6 (by decide) (by decide) (by decide)))) $$ H0
  iintro H0
  iapply (wp_word hf rfl (G.val 1 6 (by decide) (by decide) (by decide)) (inb_word (G.inb 1 7 (by decide) (by decide) (by decide)))) $$ H0
  iintro H0
  iapply (wp_word hf rfl (G.val 1 7 (by decide) (by decide) (by decide)) (inb_word (G.inb 1 8 (by decide) (by decide) (by decide)))) $$ H0
  iintro H0
  iapply (wp_word hf rfl (G.val 1 8 (by decide) (by decide) (by decide)) (inb_word (G.inb 1 9 (by decide) (by decide) (by decide)))) $$ H0
  iintro H0
  iapply (wp_done_eq (a := ⟨(w 1 4), (w 1 5), (w 1 6), (w 1 7), (w 1 8), (inb_word (G.inb 1 9 (by decide) (by decide) (by decide))), (posW (w 1) 1 9), 4#32⟩) (by congr 1))
  iapply Hk; iexact H0

theorem part15_spec {f : Bf (F := F) c arg0} {ent : ℕ → BitVec 32} (hf : arg0.view.read (Elt F) f = fun i => ent (i 0).val)
    {w : ℕ → ℕ → BitVec 32} (G : Good ent w) {Q} :
    pt c arg0 f ⊢ iprop((pt c arg0 f -∗ Q ⟨(w 1 9), (w 1 10), (w 1 11), G.c78, (posW (w 1) 1 12), (w 2 0), (inb_word (G.inb 2 1 (by decide) (by decide) (by decide))), (posW (w 2) 2 1), (Scalar.addi (posW (w 2) 2 1) 1024#32), (Scalar.cmpi .sle (Scalar.addi (posW (w 2) 2 1) 1024#32) 2048#32)⟩)
      -∗ wp frame (wpE (defs₀ (F := F)) Variants.none c none) Set.univ (k0_part15 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (w 1 0) (w 1 1) (w 1 2) (w 1 3) (w 1 4) (w 1 5) (w 1 6) (w 1 7) (w 1 8) (inb_word (G.inb 1 9 (by decide) (by decide) (by decide))) (posW (w 1) 1 9) 4#32) Q) := by
  iintro H0 Hk
  unfold k0_part15
  iapply (wp_word hf rfl (G.val 1 9 (by decide) (by decide) (by decide)) (inb_word (G.inb 1 10 (by decide) (by decide) (by decide)))) $$ H0
  iintro H0
  iapply (wp_word hf rfl (G.val 1 10 (by decide) (by decide) (by decide)) (inb_word (G.inb 1 11 (by decide) (by decide) (by decide)))) $$ H0
  iintro H0
  iapply (wp_word hf rfl (G.val 1 11 (by decide) (by decide) (by decide)) G.c78) $$ H0
  iintro H0
  iapply (wp_word hf rfl (G.val 2 0 (by decide) (by decide) (by decide)) (inb_word (G.inb 2 1 (by decide) (by decide) (by decide)))) $$ H0
  iintro H0
  iapply (wp_done_eq (a := ⟨(w 1 9), (w 1 10), (w 1 11), G.c78, (posW (w 1) 1 12), (w 2 0), (inb_word (G.inb 2 1 (by decide) (by decide) (by decide))), (posW (w 2) 2 1), (Scalar.addi (posW (w 2) 2 1) 1024#32), (Scalar.cmpi .sle (Scalar.addi (posW (w 2) 2 1) 1024#32) 2048#32)⟩) (by congr 1))
  iapply Hk; iexact H0

theorem part16_spec {f : Bf (F := F) c arg0} {ent : ℕ → BitVec 32} (hf : arg0.view.read (Elt F) f = fun i => ent (i 0).val)
    {w : ℕ → ℕ → BitVec 32} (G : Good ent w) {Q} :
    pt c arg0 f ⊢ iprop((pt c arg0 f -∗ Q ⟨(w 2 1), (w 2 2), (w 2 3), (w 2 4), (w 2 5), (inb_word (G.inb 2 6 (by decide) (by decide) (by decide))), (posW (w 2) 2 6), (Scalar.addi (posW (w 2) 2 6) 32#32)⟩)
      -∗ wp frame (wpE (defs₀ (F := F)) Variants.none c none) Set.univ (k0_part16 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (w 2 0) (inb_word (G.inb 2 1 (by decide) (by decide) (by decide))) (posW (w 2) 2 1) (Scalar.addi (posW (w 2) 2 1) 1024#32) (Scalar.cmpi .sle (Scalar.addi (posW (w 2) 2 1) 1024#32) 2048#32)) Q) := by
  iintro H0 Hk
  unfold k0_part16
  iapply (wp_word hf rfl (G.val 2 1 (by decide) (by decide) (by decide)) (inb_word (G.inb 2 2 (by decide) (by decide) (by decide)))) $$ H0
  iintro H0
  iapply (wp_word hf rfl (G.val 2 2 (by decide) (by decide) (by decide)) (inb_word (G.inb 2 3 (by decide) (by decide) (by decide)))) $$ H0
  iintro H0
  iapply (wp_word hf rfl (G.val 2 3 (by decide) (by decide) (by decide)) (inb_word (G.inb 2 4 (by decide) (by decide) (by decide)))) $$ H0
  iintro H0
  iapply (wp_word hf rfl (G.val 2 4 (by decide) (by decide) (by decide)) (inb_word (G.inb 2 5 (by decide) (by decide) (by decide)))) $$ H0
  iintro H0
  iapply (wp_word hf rfl (G.val 2 5 (by decide) (by decide) (by decide)) (inb_word (G.inb 2 6 (by decide) (by decide) (by decide)))) $$ H0
  iintro H0
  iapply (wp_done_eq (a := ⟨(w 2 1), (w 2 2), (w 2 3), (w 2 4), (w 2 5), (inb_word (G.inb 2 6 (by decide) (by decide) (by decide))), (posW (w 2) 2 6), (Scalar.addi (posW (w 2) 2 6) 32#32)⟩) (by congr 1))
  iapply Hk; iexact H0

theorem part17_spec {f : Bf (F := F) c arg0} {ent : ℕ → BitVec 32} (hf : arg0.view.read (Elt F) f = fun i => ent (i 0).val)
    {w : ℕ → ℕ → BitVec 32} (G : Good ent w) {Q} :
    pt c arg0 f ⊢ iprop((pt c arg0 f -∗ Q ⟨(w 2 6), (w 2 7), (w 2 8), (w 2 9), (posW (w 2) 2 10), (Scalar.addi (posW (w 2) 2 10) 2#32), (Scalar.cmpi .sle (Scalar.addi (posW (w 2) 2 10) 2#32) 2048#32), (w 2 10), (inb_word (G.inb 2 11 (by decide) (by decide) (by decide))), 2#32⟩)
      -∗ wp frame (wpE (defs₀ (F := F)) Variants.none c none) Set.univ (k0_part17 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (w 2 0) (w 2 1) (w 2 2) (w 2 3) (w 2 4) (w 2 5) (inb_word (G.inb 2 6 (by decide) (by decide) (by decide))) (posW (w 2) 2 6) (Scalar.addi (posW (w 2) 2 6) 32#32)) Q) := by
  iintro H0 Hk
  unfold k0_part17
  iapply (wp_word hf rfl (G.val 2 6 (by decide) (by decide) (by decide)) (inb_word (G.inb 2 7 (by decide) (by decide) (by decide)))) $$ H0
  iintro H0
  iapply (wp_word hf rfl (G.val 2 7 (by decide) (by decide) (by decide)) (inb_word (G.inb 2 8 (by decide) (by decide) (by decide)))) $$ H0
  iintro H0
  iapply (wp_word hf rfl (G.val 2 8 (by decide) (by decide) (by decide)) (inb_word (G.inb 2 9 (by decide) (by decide) (by decide)))) $$ H0
  iintro H0
  iapply (wp_word hf rfl (G.val 2 9 (by decide) (by decide) (by decide)) (inb_word (G.inb 2 10 (by decide) (by decide) (by decide)))) $$ H0
  iintro H0
  iapply (wp_word hf rfl (G.val 2 10 (by decide) (by decide) (by decide)) (inb_word (G.inb 2 11 (by decide) (by decide) (by decide)))) $$ H0
  iintro H0
  iapply (wp_done_eq (a := ⟨(w 2 6), (w 2 7), (w 2 8), (w 2 9), (posW (w 2) 2 10), (Scalar.addi (posW (w 2) 2 10) 2#32), (Scalar.cmpi .sle (Scalar.addi (posW (w 2) 2 10) 2#32) 2048#32), (w 2 10), (inb_word (G.inb 2 11 (by decide) (by decide) (by decide))), 2#32⟩) (by congr 1))
  iapply Hk; iexact H0

theorem part18_spec {f : Bf (F := F) c arg0} {ent : ℕ → BitVec 32} (hf : arg0.view.read (Elt F) f = fun i => ent (i 0).val)
    {w : ℕ → ℕ → BitVec 32} (G : Good ent w) {Q} :
    pt c arg0 f ⊢ iprop((pt c arg0 f -∗ Q ⟨(w 2 11), G.c79, (posW (w 2) 2 12), (w 3 0), (w 3 1), (w 3 2), (inb_word (G.inb 3 3 (by decide) (by decide) (by decide))), (posW (w 3) 3 3), (Scalar.addi (posW (w 3) 3 3) 256#32), 2048#32⟩)
      -∗ wp frame (wpE (defs₀ (F := F)) Variants.none c none) Set.univ (k0_part18 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (w 2 0) (w 2 1) (w 2 2) (w 2 3) (w 2 4) (w 2 5) (w 2 6) (w 2 7) (w 2 8) (w 2 9) (posW (w 2) 2 10) (Scalar.addi (posW (w 2) 2 10) 2#32) (Scalar.cmpi .sle (Scalar.addi (posW (w 2) 2 10) 2#32) 2048#32) (w 2 10) (inb_word (G.inb 2 11 (by decide) (by decide) (by decide))) 2#32) Q) := by
  iintro H0 Hk
  unfold k0_part18
  iapply (wp_word hf rfl (G.val 2 11 (by decide) (by decide) (by decide)) G.c79) $$ H0
  iintro H0
  iapply (wp_word hf rfl (G.val 3 0 (by decide) (by decide) (by decide)) (inb_word (G.inb 3 1 (by decide) (by decide) (by decide)))) $$ H0
  iintro H0
  iapply (wp_word hf rfl (G.val 3 1 (by decide) (by decide) (by decide)) (inb_word (G.inb 3 2 (by decide) (by decide) (by decide)))) $$ H0
  iintro H0
  iapply (wp_word hf rfl (G.val 3 2 (by decide) (by decide) (by decide)) (inb_word (G.inb 3 3 (by decide) (by decide) (by decide)))) $$ H0
  iintro H0
  iapply (wp_done_eq (a := ⟨(w 2 11), G.c79, (posW (w 2) 2 12), (w 3 0), (w 3 1), (w 3 2), (inb_word (G.inb 3 3 (by decide) (by decide) (by decide))), (posW (w 3) 3 3), (Scalar.addi (posW (w 3) 3 3) 256#32), 2048#32⟩) (by congr 1))
  iapply Hk; iexact H0

theorem part19_spec {f : Bf (F := F) c arg0} {ent : ℕ → BitVec 32} (hf : arg0.view.read (Elt F) f = fun i => ent (i 0).val)
    {w : ℕ → ℕ → BitVec 32} (G : Good ent w) {Q} :
    pt c arg0 f ⊢ iprop((pt c arg0 f -∗ Q ⟨(w 3 3), (w 3 4), (w 3 5), (w 3 6), (posW (w 3) 3 7), (Scalar.addi (posW (w 3) 3 7) 16#32), (Scalar.cmpi .sle (Scalar.addi (posW (w 3) 3 7) 16#32) 2048#32), (w 3 7), (inb_word (G.inb 3 8 (by decide) (by decide) (by decide))), (Scalar.cmpi .slt (w 3 7) 3#32)⟩)
      -∗ wp frame (wpE (defs₀ (F := F)) Variants.none c none) Set.univ (k0_part19 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (w 3 0) (w 3 1) (w 3 2) (inb_word (G.inb 3 3 (by decide) (by decide) (by decide))) (posW (w 3) 3 3) (Scalar.addi (posW (w 3) 3 3) 256#32) 2048#32) Q) := by
  iintro H0 Hk
  unfold k0_part19
  iapply (wp_word hf rfl (G.val 3 3 (by decide) (by decide) (by decide)) (inb_word (G.inb 3 4 (by decide) (by decide) (by decide)))) $$ H0
  iintro H0
  iapply (wp_word hf rfl (G.val 3 4 (by decide) (by decide) (by decide)) (inb_word (G.inb 3 5 (by decide) (by decide) (by decide)))) $$ H0
  iintro H0
  iapply (wp_word hf rfl (G.val 3 5 (by decide) (by decide) (by decide)) (inb_word (G.inb 3 6 (by decide) (by decide) (by decide)))) $$ H0
  iintro H0
  iapply (wp_word hf rfl (G.val 3 6 (by decide) (by decide) (by decide)) (inb_word (G.inb 3 7 (by decide) (by decide) (by decide)))) $$ H0
  iintro H0
  iapply (wp_word hf rfl (G.val 3 7 (by decide) (by decide) (by decide)) (inb_word (G.inb 3 8 (by decide) (by decide) (by decide)))) $$ H0
  iintro H0
  iapply (wp_done_eq (a := ⟨(w 3 3), (w 3 4), (w 3 5), (w 3 6), (posW (w 3) 3 7), (Scalar.addi (posW (w 3) 3 7) 16#32), (Scalar.cmpi .sle (Scalar.addi (posW (w 3) 3 7) 16#32) 2048#32), (w 3 7), (inb_word (G.inb 3 8 (by decide) (by decide) (by decide))), (Scalar.cmpi .slt (w 3 7) 3#32)⟩) (by congr 1))
  iapply Hk; iexact H0

theorem part20_spec {f : Bf (F := F) c arg0} {ent : ℕ → BitVec 32} (hf : arg0.view.read (Elt F) f = fun i => ent (i 0).val)
    {w : ℕ → ℕ → BitVec 32} (G : Good ent w) {Q} :
    pt c arg0 f ⊢ iprop((pt c arg0 f -∗ Q ⟨(w 3 8), (w 3 9), (w 3 10), (w 3 11), G.c80, (posW (w 3) 3 12), (Scalar.addi 0#32 2048#32), (Scalar.cmpi .sle (Scalar.addi 0#32 2048#32) 2048#32), 1#32⟩)
      -∗ wp frame (wpE (defs₀ (F := F)) Variants.none c none) Set.univ (k0_part20 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (w 3 0) (w 3 1) (w 3 2) (w 3 3) (w 3 4) (w 3 5) (w 3 6) (posW (w 3) 3 7) (Scalar.addi (posW (w 3) 3 7) 16#32) (Scalar.cmpi .sle (Scalar.addi (posW (w 3) 3 7) 16#32) 2048#32) (w 3 7) (inb_word (G.inb 3 8 (by decide) (by decide) (by decide))) (Scalar.cmpi .slt (w 3 7) 3#32)) Q) := by
  iintro H0 Hk
  unfold k0_part20
  iapply (wp_word hf rfl (G.val 3 8 (by decide) (by decide) (by decide)) (inb_word (G.inb 3 9 (by decide) (by decide) (by decide)))) $$ H0
  iintro H0
  iapply (wp_word hf rfl (G.val 3 9 (by decide) (by decide) (by decide)) (inb_word (G.inb 3 10 (by decide) (by decide) (by decide)))) $$ H0
  iintro H0
  iapply (wp_word hf rfl (G.val 3 10 (by decide) (by decide) (by decide)) (inb_word (G.inb 3 11 (by decide) (by decide) (by decide)))) $$ H0
  iintro H0
  iapply (wp_word hf rfl (G.val 3 11 (by decide) (by decide) (by decide)) G.c80) $$ H0
  iintro H0
  iapply (wp_done_eq (a := ⟨(w 3 8), (w 3 9), (w 3 10), (w 3 11), G.c80, (posW (w 3) 3 12), (Scalar.addi 0#32 2048#32), (Scalar.cmpi .sle (Scalar.addi 0#32 2048#32) 2048#32), 1#32⟩) (by congr 1))
  iapply Hk; iexact H0

theorem part21_spec {f : Bf (F := F) c arg0} {ent : ℕ → BitVec 32} (hf : arg0.view.read (Elt F) f = fun i => ent (i 0).val)
    {w : ℕ → ℕ → BitVec 32} (G : Good ent w) {Q} :
    pt c arg0 f ⊢ iprop((pt c arg0 f -∗ Q ⟨(w 4 0), (w 4 1), (w 4 2), (w 4 3), (posW (w 4) 4 4), (Scalar.addi (posW (w 4) 4 4) 128#32), (w 4 4), (inb_word (G.inb 4 5 (by decide) (by decide) (by decide))), (Scalar.andi (Scalar.cmpi .sle (Scalar.addi (posW (w 4) 4 4) 128#32) 2048#32) (Scalar.cmpi .slt (w 4 4) 4#32))⟩)
      -∗ wp frame (wpE (defs₀ (F := F)) Variants.none c none) Set.univ (k0_part21 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.addi 0#32 2048#32) (Scalar.cmpi .sle (Scalar.addi 0#32 2048#32) 2048#32) 1#32) Q) := by
  iintro H0 Hk
  unfold k0_part21
  iapply (wp_word hf rfl (G.val 4 0 (by decide) (by decide) (by decide)) (inb_word (G.inb 4 1 (by decide) (by decide) (by decide)))) $$ H0
  iintro H0
  iapply (wp_word hf rfl (G.val 4 1 (by decide) (by decide) (by decide)) (inb_word (G.inb 4 2 (by decide) (by decide) (by decide)))) $$ H0
  iintro H0
  iapply (wp_word hf rfl (G.val 4 2 (by decide) (by decide) (by decide)) (inb_word (G.inb 4 3 (by decide) (by decide) (by decide)))) $$ H0
  iintro H0
  iapply (wp_word hf rfl (G.val 4 3 (by decide) (by decide) (by decide)) (inb_word (G.inb 4 4 (by decide) (by decide) (by decide)))) $$ H0
  iintro H0
  iapply (wp_word hf rfl (G.val 4 4 (by decide) (by decide) (by decide)) (inb_word (G.inb 4 5 (by decide) (by decide) (by decide)))) $$ H0
  iintro H0
  iapply (wp_done_eq (a := ⟨(w 4 0), (w 4 1), (w 4 2), (w 4 3), (posW (w 4) 4 4), (Scalar.addi (posW (w 4) 4 4) 128#32), (w 4 4), (inb_word (G.inb 4 5 (by decide) (by decide) (by decide))), (Scalar.andi (Scalar.cmpi .sle (Scalar.addi (posW (w 4) 4 4) 128#32) 2048#32) (Scalar.cmpi .slt (w 4 4) 4#32))⟩) (by congr 1))
  iapply Hk; iexact H0

theorem part22_spec {f : Bf (F := F) c arg0} {ent : ℕ → BitVec 32} (hf : arg0.view.read (Elt F) f = fun i => ent (i 0).val)
    {w : ℕ → ℕ → BitVec 32} (G : Good ent w) {Q} :
    pt c arg0 f ⊢ iprop((pt c arg0 f -∗ Q ⟨(w 4 5), (w 4 6), (w 4 7), (w 4 8), (inb_word (G.inb 4 9 (by decide) (by decide) (by decide))), (posW (w 4) 4 9), (Scalar.addi (posW (w 4) 4 9) 4#32), (Scalar.cmpi .sle (Scalar.addi (posW (w 4) 4 9) 4#32) 2048#32)⟩)
      -∗ wp frame (wpE (defs₀ (F := F)) Variants.none c none) Set.univ (k0_part22 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (w 4 0) (w 4 1) (w 4 2) (w 4 3) (posW (w 4) 4 4) (Scalar.addi (posW (w 4) 4 4) 128#32) (w 4 4) (inb_word (G.inb 4 5 (by decide) (by decide) (by decide))) (Scalar.andi (Scalar.cmpi .sle (Scalar.addi (posW (w 4) 4 4) 128#32) 2048#32) (Scalar.cmpi .slt (w 4 4) 4#32))) Q) := by
  iintro H0 Hk
  unfold k0_part22
  iapply (wp_word hf rfl (G.val 4 5 (by decide) (by decide) (by decide)) (inb_word (G.inb 4 6 (by decide) (by decide) (by decide)))) $$ H0
  iintro H0
  iapply (wp_word hf rfl (G.val 4 6 (by decide) (by decide) (by decide)) (inb_word (G.inb 4 7 (by decide) (by decide) (by decide)))) $$ H0
  iintro H0
  iapply (wp_word hf rfl (G.val 4 7 (by decide) (by decide) (by decide)) (inb_word (G.inb 4 8 (by decide) (by decide) (by decide)))) $$ H0
  iintro H0
  iapply (wp_word hf rfl (G.val 4 8 (by decide) (by decide) (by decide)) (inb_word (G.inb 4 9 (by decide) (by decide) (by decide)))) $$ H0
  iintro H0
  iapply (wp_done_eq (a := ⟨(w 4 5), (w 4 6), (w 4 7), (w 4 8), (inb_word (G.inb 4 9 (by decide) (by decide) (by decide))), (posW (w 4) 4 9), (Scalar.addi (posW (w 4) 4 9) 4#32), (Scalar.cmpi .sle (Scalar.addi (posW (w 4) 4 9) 4#32) 2048#32)⟩) (by congr 1))
  iapply Hk; iexact H0

theorem part23_spec {f : Bf (F := F) c arg0} {ent : ℕ → BitVec 32} (hf : arg0.view.read (Elt F) f = fun i => ent (i 0).val)
    {w : ℕ → ℕ → BitVec 32} (G : Good ent w) {Q} :
    pt c arg0 f ⊢ iprop((pt c arg0 f -∗ Q ⟨(w 4 9), (w 4 10), (w 4 11), G.c81, (posW (w 4) 4 12), (w 5 0), (w 5 1), (inb_word (G.inb 5 2 (by decide) (by decide) (by decide))), (posW (w 5) 5 2)⟩)
      -∗ wp frame (wpE (defs₀ (F := F)) Variants.none c none) Set.univ (k0_part23 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (w 4 0) (w 4 1) (w 4 2) (w 4 3) (w 4 4) (w 4 5) (w 4 6) (w 4 7) (w 4 8) (inb_word (G.inb 4 9 (by decide) (by decide) (by decide))) (posW (w 4) 4 9) (Scalar.addi (posW (w 4) 4 9) 4#32) (Scalar.cmpi .sle (Scalar.addi (posW (w 4) 4 9) 4#32) 2048#32)) Q) := by
  iintro H0 Hk
  unfold k0_part23
  iapply (wp_word hf rfl (G.val 4 9 (by decide) (by decide) (by decide)) (inb_word (G.inb 4 10 (by decide) (by decide) (by decide)))) $$ H0
  iintro H0
  iapply (wp_word hf rfl (G.val 4 10 (by decide) (by decide) (by decide)) (inb_word (G.inb 4 11 (by decide) (by decide) (by decide)))) $$ H0
  iintro H0
  iapply (wp_word hf rfl (G.val 4 11 (by decide) (by decide) (by decide)) G.c81) $$ H0
  iintro H0
  iapply (wp_word hf rfl (G.val 5 0 (by decide) (by decide) (by decide)) (inb_word (G.inb 5 1 (by decide) (by decide) (by decide)))) $$ H0
  iintro H0
  iapply (wp_word hf rfl (G.val 5 1 (by decide) (by decide) (by decide)) (inb_word (G.inb 5 2 (by decide) (by decide) (by decide)))) $$ H0
  iintro H0
  iapply (wp_done_eq (a := ⟨(w 4 9), (w 4 10), (w 4 11), G.c81, (posW (w 4) 4 12), (w 5 0), (w 5 1), (inb_word (G.inb 5 2 (by decide) (by decide) (by decide))), (posW (w 5) 5 2)⟩) (by congr 1))
  iapply Hk; iexact H0

theorem part24_spec {f : Bf (F := F) c arg0} {ent : ℕ → BitVec 32} (hf : arg0.view.read (Elt F) f = fun i => ent (i 0).val)
    {w : ℕ → ℕ → BitVec 32} (G : Good ent w) {Q} :
    pt c arg0 f ⊢ iprop((pt c arg0 f -∗ Q ⟨(w 5 2), (w 5 3), (w 5 4), (w 5 5), (posW (w 5) 5 6), (Scalar.addi (posW (w 5) 5 6) 32#32), (Scalar.cmpi .sle (Scalar.addi (posW (w 5) 5 6) 32#32) 2048#32), (w 5 6)⟩)
      -∗ wp frame (wpE (defs₀ (F := F)) Variants.none c none) Set.univ (k0_part24 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (w 5 0) (w 5 1) (inb_word (G.inb 5 2 (by decide) (by decide) (by decide))) (posW (w 5) 5 2)) Q) := by
  iintro H0 Hk
  unfold k0_part24
  iapply (wp_word hf rfl (G.val 5 2 (by decide) (by decide) (by decide)) (inb_word (G.inb 5 3 (by decide) (by decide) (by decide)))) $$ H0
  iintro H0
  iapply (wp_word hf rfl (G.val 5 3 (by decide) (by decide) (by decide)) (inb_word (G.inb 5 4 (by decide) (by decide) (by decide)))) $$ H0
  iintro H0
  iapply (wp_word hf rfl (G.val 5 4 (by decide) (by decide) (by decide)) (inb_word (G.inb 5 5 (by decide) (by decide) (by decide)))) $$ H0
  iintro H0
  iapply (wp_word hf rfl (G.val 5 5 (by decide) (by decide) (by decide)) (inb_word (G.inb 5 6 (by decide) (by decide) (by decide)))) $$ H0
  iintro H0
  iapply (wp_word_last hf rfl (G.val 5 6 (by decide) (by decide) (by decide))) $$ H0
  iintro H0
  iapply (wp_done_eq (a := ⟨(w 5 2), (w 5 3), (w 5 4), (w 5 5), (posW (w 5) 5 6), (Scalar.addi (posW (w 5) 5 6) 32#32), (Scalar.cmpi .sle (Scalar.addi (posW (w 5) 5 6) 32#32) 2048#32), (w 5 6)⟩) (by congr 1))
  iapply Hk; iexact H0

theorem part25_spec {f : Bf (F := F) c arg0} {ent : ℕ → BitVec 32} (hf : arg0.view.read (Elt F) f = fun i => ent (i 0).val)
    {w : ℕ → ℕ → BitVec 32} (G : Good ent w) {Q} :
    pt c arg0 f ⊢ iprop((pt c arg0 f -∗ Q ⟨(w 5 7), (w 5 8), (w 5 9), (w 5 10), (inb_word (G.inb 5 11 (by decide) (by decide) (by decide))), (posW (w 5) 5 11), (Scalar.addi (posW (w 5) 5 11) 1#32), 2048#32⟩)
      -∗ wp frame (wpE (defs₀ (F := F)) Variants.none c none) Set.univ (k0_part25 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (w 5 0) (w 5 1) (w 5 2) (w 5 3) (w 5 4) (w 5 5) (posW (w 5) 5 6) (Scalar.addi (posW (w 5) 5 6) 32#32) (Scalar.cmpi .sle (Scalar.addi (posW (w 5) 5 6) 32#32) 2048#32) (w 5 6)) Q) := by
  iintro H0 Hk
  unfold k0_part25
  iapply (wp_assumed (inb_word (G.inb 5 7 (by decide) (by decide) (by decide))))
  iapply (wp_word hf rfl (G.val 5 7 (by decide) (by decide) (by decide)) (inb_word (G.inb 5 8 (by decide) (by decide) (by decide)))) $$ H0
  iintro H0
  iapply (wp_word hf rfl (G.val 5 8 (by decide) (by decide) (by decide)) (inb_word (G.inb 5 9 (by decide) (by decide) (by decide)))) $$ H0
  iintro H0
  iapply (wp_word hf rfl (G.val 5 9 (by decide) (by decide) (by decide)) (inb_word (G.inb 5 10 (by decide) (by decide) (by decide)))) $$ H0
  iintro H0
  iapply (wp_word hf rfl (G.val 5 10 (by decide) (by decide) (by decide)) (inb_word (G.inb 5 11 (by decide) (by decide) (by decide)))) $$ H0
  iintro H0
  iapply (wp_done_eq (a := ⟨(w 5 7), (w 5 8), (w 5 9), (w 5 10), (inb_word (G.inb 5 11 (by decide) (by decide) (by decide))), (posW (w 5) 5 11), (Scalar.addi (posW (w 5) 5 11) 1#32), 2048#32⟩) (by congr 1))
  iapply Hk; iexact H0

theorem part26_spec {f : Bf (F := F) c arg0} {ent : ℕ → BitVec 32} (hf : arg0.view.read (Elt F) f = fun i => ent (i 0).val)
    {w : ℕ → ℕ → BitVec 32} (G : Good ent w) {Q} :
    pt c arg0 f ⊢ iprop((pt c arg0 f -∗ Q ⟨(w 5 11), G.c82, (posW (w 5) 5 12), (w 6 0), (w 6 1), (w 6 2), (posW (w 6) 6 3), (Scalar.addi (posW (w 6) 6 3) 256#32), (Scalar.cmpi .sle (Scalar.addi (posW (w 6) 6 3) 256#32) 2048#32), (w 6 3), (inb_word (G.inb 6 4 (by decide) (by decide) (by decide)))⟩)
      -∗ wp frame (wpE (defs₀ (F := F)) Variants.none c none) Set.univ (k0_part26 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (w 5 0) (w 5 1) (w 5 2) (w 5 3) (w 5 4) (w 5 5) (w 5 6) (w 5 7) (w 5 8) (w 5 9) (w 5 10) (inb_word (G.inb 5 11 (by decide) (by decide) (by decide))) (posW (w 5) 5 11) (Scalar.addi (posW (w 5) 5 11) 1#32) 2048#32) Q) := by
  iintro H0 Hk
  unfold k0_part26
  iapply (wp_word hf rfl (G.val 5 11 (by decide) (by decide) (by decide)) G.c82) $$ H0
  iintro H0
  iapply (wp_word hf rfl (G.val 6 0 (by decide) (by decide) (by decide)) (inb_word (G.inb 6 1 (by decide) (by decide) (by decide)))) $$ H0
  iintro H0
  iapply (wp_word hf rfl (G.val 6 1 (by decide) (by decide) (by decide)) (inb_word (G.inb 6 2 (by decide) (by decide) (by decide)))) $$ H0
  iintro H0
  iapply (wp_word hf rfl (G.val 6 2 (by decide) (by decide) (by decide)) (inb_word (G.inb 6 3 (by decide) (by decide) (by decide)))) $$ H0
  iintro H0
  iapply (wp_word hf rfl (G.val 6 3 (by decide) (by decide) (by decide)) (inb_word (G.inb 6 4 (by decide) (by decide) (by decide)))) $$ H0
  iintro H0
  iapply (wp_done_eq (a := ⟨(w 5 11), G.c82, (posW (w 5) 5 12), (w 6 0), (w 6 1), (w 6 2), (posW (w 6) 6 3), (Scalar.addi (posW (w 6) 6 3) 256#32), (Scalar.cmpi .sle (Scalar.addi (posW (w 6) 6 3) 256#32) 2048#32), (w 6 3), (inb_word (G.inb 6 4 (by decide) (by decide) (by decide)))⟩) (by congr 1))
  iapply Hk; iexact H0

theorem part27_spec {f : Bf (F := F) c arg0} {ent : ℕ → BitVec 32} (hf : arg0.view.read (Elt F) f = fun i => ent (i 0).val)
    {w : ℕ → ℕ → BitVec 32} (G : Good ent w) {Q} :
    pt c arg0 f ⊢ iprop((pt c arg0 f -∗ Q ⟨(w 6 4), (w 6 5), (w 6 6), (w 6 7), (inb_word (G.inb 6 8 (by decide) (by decide) (by decide))), (posW (w 6) 6 8), (Scalar.addi (posW (w 6) 6 8) 8#32), (Scalar.cmpi .sle (Scalar.addi (posW (w 6) 6 8) 8#32) 2048#32)⟩)
      -∗ wp frame (wpE (defs₀ (F := F)) Variants.none c none) Set.univ (k0_part27 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (w 6 0) (w 6 1) (w 6 2) (posW (w 6) 6 3) (Scalar.addi (posW (w 6) 6 3) 256#32) (Scalar.cmpi .sle (Scalar.addi (posW (w 6) 6 3) 256#32) 2048#32) (w 6 3) (inb_word (G.inb 6 4 (by decide) (by decide) (by decide)))) Q) := by
  iintro H0 Hk
  unfold k0_part27
  iapply (wp_word hf rfl (G.val 6 4 (by decide) (by decide) (by decide)) (inb_word (G.inb 6 5 (by decide) (by decide) (by decide)))) $$ H0
  iintro H0
  iapply (wp_word hf rfl (G.val 6 5 (by decide) (by decide) (by decide)) (inb_word (G.inb 6 6 (by decide) (by decide) (by decide)))) $$ H0
  iintro H0
  iapply (wp_word hf rfl (G.val 6 6 (by decide) (by decide) (by decide)) (inb_word (G.inb 6 7 (by decide) (by decide) (by decide)))) $$ H0
  iintro H0
  iapply (wp_word hf rfl (G.val 6 7 (by decide) (by decide) (by decide)) (inb_word (G.inb 6 8 (by decide) (by decide) (by decide)))) $$ H0
  iintro H0
  iapply (wp_done_eq (a := ⟨(w 6 4), (w 6 5), (w 6 6), (w 6 7), (inb_word (G.inb 6 8 (by decide) (by decide) (by decide))), (posW (w 6) 6 8), (Scalar.addi (posW (w 6) 6 8) 8#32), (Scalar.cmpi .sle (Scalar.addi (posW (w 6) 6 8) 8#32) 2048#32)⟩) (by congr 1))
  iapply Hk; iexact H0

theorem part28_spec {f : Bf (F := F) c arg0} {ent : ℕ → BitVec 32} (hf : arg0.view.read (Elt F) f = fun i => ent (i 0).val)
    {w : ℕ → ℕ → BitVec 32} (G : Good ent w) {Q} :
    pt c arg0 f ⊢ iprop((pt c arg0 f -∗ Q ⟨(w 6 8), (w 6 9), (w 6 10), (w 6 11), G.c83, (posW (w 6) 6 12), (Scalar.addi 0#32 2048#32), (Scalar.cmpi .sle (Scalar.addi 0#32 2048#32) 2048#32), (w 7 0), (inb_word (G.inb 7 1 (by decide) (by decide) (by decide))), (Scalar.cmpi .slt (w 7 0) 7#32)⟩)
      -∗ wp frame (wpE (defs₀ (F := F)) Variants.none c none) Set.univ (k0_part28 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (w 6 0) (w 6 1) (w 6 2) (w 6 3) (w 6 4) (w 6 5) (w 6 6) (w 6 7) (inb_word (G.inb 6 8 (by decide) (by decide) (by decide))) (posW (w 6) 6 8) (Scalar.addi (posW (w 6) 6 8) 8#32) (Scalar.cmpi .sle (Scalar.addi (posW (w 6) 6 8) 8#32) 2048#32)) Q) := by
  iintro H0 Hk
  unfold k0_part28
  iapply (wp_word hf rfl (G.val 6 8 (by decide) (by decide) (by decide)) (inb_word (G.inb 6 9 (by decide) (by decide) (by decide)))) $$ H0
  iintro H0
  iapply (wp_word hf rfl (G.val 6 9 (by decide) (by decide) (by decide)) (inb_word (G.inb 6 10 (by decide) (by decide) (by decide)))) $$ H0
  iintro H0
  iapply (wp_word hf rfl (G.val 6 10 (by decide) (by decide) (by decide)) (inb_word (G.inb 6 11 (by decide) (by decide) (by decide)))) $$ H0
  iintro H0
  iapply (wp_word hf rfl (G.val 6 11 (by decide) (by decide) (by decide)) G.c83) $$ H0
  iintro H0
  iapply (wp_word hf rfl (G.val 7 0 (by decide) (by decide) (by decide)) (inb_word (G.inb 7 1 (by decide) (by decide) (by decide)))) $$ H0
  iintro H0
  iapply (wp_done_eq (a := ⟨(w 6 8), (w 6 9), (w 6 10), (w 6 11), G.c83, (posW (w 6) 6 12), (Scalar.addi 0#32 2048#32), (Scalar.cmpi .sle (Scalar.addi 0#32 2048#32) 2048#32), (w 7 0), (inb_word (G.inb 7 1 (by decide) (by decide) (by decide))), (Scalar.cmpi .slt (w 7 0) 7#32)⟩) (by congr 1))
  iapply Hk; iexact H0

theorem part29_spec {f : Bf (F := F) c arg0} {ent : ℕ → BitVec 32} (hf : arg0.view.read (Elt F) f = fun i => ent (i 0).val)
    {w : ℕ → ℕ → BitVec 32} (G : Good ent w) {Q} :
    pt c arg0 f ⊢ iprop((pt c arg0 f -∗ Q ⟨(w 7 1), (w 7 2), (w 7 3), (w 7 4), (inb_word (G.inb 7 5 (by decide) (by decide) (by decide))), (posW (w 7) 7 5), (Scalar.addi (posW (w 7) 7 5) 64#32), (Scalar.cmpi .sle (Scalar.addi (posW (w 7) 7 5) 64#32) 2048#32), 1#32⟩)
      -∗ wp frame (wpE (defs₀ (F := F)) Variants.none c none) Set.univ (k0_part29 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (Scalar.addi 0#32 2048#32) (Scalar.cmpi .sle (Scalar.addi 0#32 2048#32) 2048#32) (w 7 0) (inb_word (G.inb 7 1 (by decide) (by decide) (by decide))) (Scalar.cmpi .slt (w 7 0) 7#32)) Q) := by
  iintro H0 Hk
  unfold k0_part29
  iapply (wp_word hf rfl (G.val 7 1 (by decide) (by decide) (by decide)) (inb_word (G.inb 7 2 (by decide) (by decide) (by decide)))) $$ H0
  iintro H0
  iapply (wp_word hf rfl (G.val 7 2 (by decide) (by decide) (by decide)) (inb_word (G.inb 7 3 (by decide) (by decide) (by decide)))) $$ H0
  iintro H0
  iapply (wp_word hf rfl (G.val 7 3 (by decide) (by decide) (by decide)) (inb_word (G.inb 7 4 (by decide) (by decide) (by decide)))) $$ H0
  iintro H0
  iapply (wp_word hf rfl (G.val 7 4 (by decide) (by decide) (by decide)) (inb_word (G.inb 7 5 (by decide) (by decide) (by decide)))) $$ H0
  iintro H0
  iapply (wp_done_eq (a := ⟨(w 7 1), (w 7 2), (w 7 3), (w 7 4), (inb_word (G.inb 7 5 (by decide) (by decide) (by decide))), (posW (w 7) 7 5), (Scalar.addi (posW (w 7) 7 5) 64#32), (Scalar.cmpi .sle (Scalar.addi (posW (w 7) 7 5) 64#32) 2048#32), 1#32⟩) (by congr 1))
  iapply Hk; iexact H0

theorem part30_spec {f : Bf (F := F) c arg0} {ent : ℕ → BitVec 32} (hf : arg0.view.read (Elt F) f = fun i => ent (i 0).val)
    {w : ℕ → ℕ → BitVec 32} (G : Good ent w) {Q} :
    pt c arg0 f ⊢ iprop((pt c arg0 f -∗ Q ⟨(w 7 5), (w 7 6), (w 7 7), (w 7 8), (w 7 9), (inb_word (G.inb 7 10 (by decide) (by decide) (by decide))), (posW (w 7) 7 10)⟩)
      -∗ wp frame (wpE (defs₀ (F := F)) Variants.none c none) Set.univ (k0_part30 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (w 7 0) (w 7 1) (w 7 2) (w 7 3) (w 7 4) (inb_word (G.inb 7 5 (by decide) (by decide) (by decide))) (posW (w 7) 7 5) (Scalar.addi (posW (w 7) 7 5) 64#32) (Scalar.cmpi .sle (Scalar.addi (posW (w 7) 7 5) 64#32) 2048#32) 1#32) Q) := by
  iintro H0 Hk
  unfold k0_part30
  iapply (wp_word hf rfl (G.val 7 5 (by decide) (by decide) (by decide)) (inb_word (G.inb 7 6 (by decide) (by decide) (by decide)))) $$ H0
  iintro H0
  iapply (wp_word hf rfl (G.val 7 6 (by decide) (by decide) (by decide)) (inb_word (G.inb 7 7 (by decide) (by decide) (by decide)))) $$ H0
  iintro H0
  iapply (wp_word hf rfl (G.val 7 7 (by decide) (by decide) (by decide)) (inb_word (G.inb 7 8 (by decide) (by decide) (by decide)))) $$ H0
  iintro H0
  iapply (wp_word hf rfl (G.val 7 8 (by decide) (by decide) (by decide)) (inb_word (G.inb 7 9 (by decide) (by decide) (by decide)))) $$ H0
  iintro H0
  iapply (wp_word hf rfl (G.val 7 9 (by decide) (by decide) (by decide)) (inb_word (G.inb 7 10 (by decide) (by decide) (by decide)))) $$ H0
  iintro H0
  iapply (wp_done_eq (a := ⟨(w 7 5), (w 7 6), (w 7 7), (w 7 8), (w 7 9), (inb_word (G.inb 7 10 (by decide) (by decide) (by decide))), (posW (w 7) 7 10)⟩) (by congr 1))
  iapply Hk; iexact H0

theorem part31_spec {f : Bf (F := F) c arg0} {ent : ℕ → BitVec 32} (hf : arg0.view.read (Elt F) f = fun i => ent (i 0).val)
    {w : ℕ → ℕ → BitVec 32} (G : Good ent w) {Q} :
    pt c arg0 f ⊢ iprop((pt c arg0 f -∗ Q ⟨(w 7 10), (w 7 11), G.c84, (posW (w 7) 7 12), (Scalar.subi (posW (w 1) 1 12) 0#32), (Scalar.subi (posW (w 2) 2 12) (posW (w 1) 1 12)), (Scalar.subi (posW (w 3) 3 12) (posW (w 2) 2 12)), (Scalar.subi (posW (w 4) 4 12) (posW (w 3) 3 12)), (Scalar.subi (posW (w 5) 5 12) (posW (w 4) 4 12)), (Scalar.subi (posW (w 6) 6 12) (posW (w 5) 5 12)), (Scalar.subi (posW (w 7) 7 12) (posW (w 6) 6 12)), (Scalar.subi 2048#32 (posW (w 7) 7 12)), (Scalar.divsi 0#32 8#32), (Scalar.andi (Scalar.cmpi .ne (Scalar.subi (Scalar.extui (Scalar.cmpi .sgt 0#32 0#32)) (Scalar.extui (Scalar.cmpi .slt 0#32 0#32))) (Scalar.subi (Scalar.extui (Scalar.cmpi .sgt 8#32 0#32)) (Scalar.extui (Scalar.cmpi .slt 8#32 0#32)))) (Scalar.cmpi .ne (Scalar.remsi 0#32 8#32) 0#32)), (Scalar.subi (Scalar.divsi 0#32 8#32) 1#32)⟩)
      -∗ wp frame (wpE (defs₀ (F := F)) Variants.none c none) Set.univ (k0_part31 (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (w 1 0) (w 1 1) (w 1 2) (w 1 3) (w 1 4) (w 1 5) (w 1 6) (w 1 7) (w 1 8) (w 1 9) (w 1 10) (w 1 11) (posW (w 1) 1 12) (w 2 0) (w 2 1) (w 2 2) (w 2 3) (w 2 4) (w 2 5) (w 2 6) (w 2 7) (w 2 8) (w 2 9) (w 2 10) (w 2 11) (posW (w 2) 2 12) (w 3 0) (w 3 1) (w 3 2) (w 3 3) (w 3 4) (w 3 5) (w 3 6) (w 3 7) (w 3 8) (w 3 9) (w 3 10) (w 3 11) (posW (w 3) 3 12) (w 4 0) (w 4 1) (w 4 2) (w 4 3) (w 4 4) (w 4 5) (w 4 6) (w 4 7) (w 4 8) (w 4 9) (w 4 10) (w 4 11) (posW (w 4) 4 12) (w 5 0) (w 5 1) (w 5 2) (w 5 3) (w 5 4) (w 5 5) (w 5 6) (w 5 7) (w 5 8) (w 5 9) (w 5 10) (w 5 11) (posW (w 5) 5 12) (w 6 0) (w 6 1) (w 6 2) (w 6 3) (w 6 4) (w 6 5) (w 6 6) (w 6 7) (w 6 8) (w 6 9) (w 6 10) (w 6 11) (posW (w 6) 6 12) (w 7 0) (w 7 1) (w 7 2) (w 7 3) (w 7 4) (w 7 5) (w 7 6) (w 7 7) (w 7 8) (w 7 9) (inb_word (G.inb 7 10 (by decide) (by decide) (by decide))) (posW (w 7) 7 10)) Q) := by
  iintro H0 Hk
  unfold k0_part31
  iapply (wp_word hf rfl (G.val 7 10 (by decide) (by decide) (by decide)) (inb_word (G.inb 7 11 (by decide) (by decide) (by decide)))) $$ H0
  iintro H0
  iapply (wp_word hf rfl (G.val 7 11 (by decide) (by decide) (by decide)) G.c84) $$ H0
  iintro H0
  iapply (wp_done_eq (a := ⟨(w 7 10), (w 7 11), G.c84, (posW (w 7) 7 12), (Scalar.subi (posW (w 1) 1 12) 0#32), (Scalar.subi (posW (w 2) 2 12) (posW (w 1) 1 12)), (Scalar.subi (posW (w 3) 3 12) (posW (w 2) 2 12)), (Scalar.subi (posW (w 4) 4 12) (posW (w 3) 3 12)), (Scalar.subi (posW (w 5) 5 12) (posW (w 4) 4 12)), (Scalar.subi (posW (w 6) 6 12) (posW (w 5) 5 12)), (Scalar.subi (posW (w 7) 7 12) (posW (w 6) 6 12)), (Scalar.subi 2048#32 (posW (w 7) 7 12)), (Scalar.divsi 0#32 8#32), (Scalar.andi (Scalar.cmpi .ne (Scalar.subi (Scalar.extui (Scalar.cmpi .sgt 0#32 0#32)) (Scalar.extui (Scalar.cmpi .slt 0#32 0#32))) (Scalar.subi (Scalar.extui (Scalar.cmpi .sgt 8#32 0#32)) (Scalar.extui (Scalar.cmpi .slt 8#32 0#32)))) (Scalar.cmpi .ne (Scalar.remsi 0#32 8#32) 0#32)), (Scalar.subi (Scalar.divsi 0#32 8#32) 1#32)⟩) (by congr 1))
  iapply Hk; iexact H0

end Cert.KernelIdeal.Hand
end
-- ==== Proof.Body.lean ====
module

public import proofs.«01_k».proof.Proof.Whole
public import proofs.«01_k».proof.Proof.Search

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! The program, run from whole arrays: what it leaves in each. -/

variable {c : Dev nD} (arg0 : Memref sig .tc .smem S2048 .i32) (harg0 : arg0.IsWhole) (arg1 : Memref sig .tc .vmem S2048x4x256 .f32) (harg1 : arg1.IsWhole) (arg2 : Memref sig .tc .vmem S1x1922 .f32) (harg2 : arg2.IsWhole) (arg3 : Memref sig .tc .vmem S128x512 .f32) (harg3 : arg3.IsWhole) (arg4 : Memref sig .tc .vmem S384x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384x128 .f32) (harg7 : arg7.IsWhole) (arg8 : Memref sig .tc .vmem S2x128 .f32) (harg8 : arg8.IsWhole) (arg9 : Memref sig .tc .vmem S2048x2 .f32) (harg9 : arg9.IsWhole) (arg10 : Memref sig .tc .vmem S2560x384 .f32) (harg10 : arg10.IsWhole) (arg11 : Memref sig .tc .vmem S528x8x384 .f32) (harg11 : arg11.IsWhole) (arg12 : Memref sig .tc .vmem S528x8x128 .f32) (harg12 : arg12.IsWhole) (arg13 : Memref sig .tc .vmem S2576x128 .f32) (harg13 : arg13.IsWhole) (arg14 : Memref sig .tc .vmem S128x384 .bf16) (harg14 : arg14.IsWhole) (arg15 : Memref sig .tc .vmem S128x384 .bf16) (harg15 : arg15.IsWhole) (arg16 : Memref sig .tc .vmem S128x384 .bf16) (harg16 : arg16.IsWhole)

set_option maxHeartbeats 8000000 in
/-- One run of the program over segments that fit: its inputs are as they were, its output is the last product. -/
theorem body_spec {f : Bf (F := F) c arg0} {ent : ℕ → BitVec 32} (hf : arg0.view.read (Elt F) f = fun i => ent (i 0).val) (h : Segs ent)
    {A1 : Vec F S2048x4x256 .f32} {A2 : Vec F S1x1922 .f32} {A3 : Vec F S128x512 .f32} {A4 A5 A6 A7 : Vec F S384x128 .f32} {A8 : Vec F S2x128 .f32}
    {A9 : Vec F S2048x2 .f32} {A10 : Vec F S2560x384 .f32} {A11 : Vec F S528x8x384 .f32} {A12 : Vec F S528x8x128 .f32} {A13 : Vec F S2576x128 .f32}
    {A14 A15 A16 : Vec F S128x384 .bf16} {Q : _ → sProp 𝕄} :
    ⊢ iprop(pt c arg0 f -∗ ar c arg1 A1 -∗ ar c arg2 A2 -∗ ar c arg3 A3 -∗ ar c arg4 A4 -∗ ar c arg5 A5 -∗ ar c arg6 A6 -∗ ar c arg7 A7 -∗ ar c arg8 A8 -∗ ar c arg9 A9 -∗ ar c arg10 A10 -∗ ar c arg11 A11 -∗ ar c arg12 A12 -∗ ar c arg13 A13 -∗ ar c arg14 A14 -∗ ar c arg15 A15 -∗ ar c arg16 A16 -∗ (pt c arg0 f -∗ ar c arg1 A1 -∗ ar c arg2 A2 -∗ ar c arg3 A3 -∗ ar c arg4 A4 -∗ ar c arg5 A5 -∗ ar c arg6 A6 -∗ ar c arg7 A7 -∗ ar c arg8 A8 -∗ ar c arg9 (logits A2 A8 (unpackTo (bnd (rd ent)) (seg ent) (history (bnd (rd ent)) A2 A5 A6 A7 (packTo (seg ent) (products A1 A2 A3 A4 A10) A11 8) (tripsN (seg ent)) A12) A13 8)) -∗ ar c arg10 (products A1 A2 A3 A4 A10) -∗ ar c arg11 (packTo (seg ent) (products A1 A2 A3 A4 A10) A11 8) -∗ ar c arg12 (history (bnd (rd ent)) A2 A5 A6 A7 (packTo (seg ent) (products A1 A2 A3 A4 A10) A11 8) (tripsN (seg ent)) A12) -∗ ar c arg13 (unpackTo (bnd (rd ent)) (seg ent) (history (bnd (rd ent)) A2 A5 A6 A7 (packTo (seg ent) (products A1 A2 A3 A4 A10) A11 8) (tripsN (seg ent)) A12) A13 8) -∗ ar c arg14 (k0_pay59 A5) -∗ ar c arg15 (k0_pay60 A6) -∗ ar c arg16 (k0_pay61 A7) -∗ Q ⟨⟩) -∗
      wp frame (wpE (defs₀ (F := F)) Variants.none c none) Set.univ (cc0__graph_rnn_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q) := by
  have G := good h
  have hs := fits_seg h
  have ht := trips_rd h
  have hn := tripsN_le hs
  iintro H0 H1 H2 H3 H4 H5 H6 H7 H8 H9 H10 H11 H12 H13 H14 H15 H16 Hk
  unfold cc0__graph_rnn_kernel
  have b1 : posW (rd ent 1) 1 12 = bnd (rd ent) 1 := rfl
  have b2 : posW (rd ent 2) 2 12 = bnd (rd ent) 2 := rfl
  have b3 : posW (rd ent 3) 3 12 = bnd (rd ent) 3 := rfl
  have b4 : posW (rd ent 4) 4 12 = bnd (rd ent) 4 := rfl
  have b5 : posW (rd ent 5) 5 12 = bnd (rd ent) 5 := rfl
  have b6 : posW (rd ent 6) 6 12 = bnd (rd ent) 6 := rfl
  have b7 : posW (rd ent 7) 7 12 = bnd (rd ent) 7 := rfl
  have z0 : start (seg ent) 0 = 0 := by unfold start; rw [hs.s0]
  have pk0 : VecWindow.put (s := S528x8x384) A11 ![0, 0, 0] S520x1x384.size (inSlab (rdG (products A1 A2 A3 A4 A10) 0)) = packTo (seg ent) (products A1 A2 A3 A4 A10) A11 1 :=
    pack_fold 0 (s := seg ent) (G := (products A1 A2 A3 A4 A10)) (P := A11) (o := 0) z0
  have uf0 : VecWindow.put (s := S2576x128) A13 ![0, 0] S520x128.size (merge (span (lead 0#32) (Scalar.subi (bnd (rd ent) 1) 0#32)) (rdT A13 0) (rdH (history (bnd (rd ent)) A2 A5 A6 A7 (packTo (seg ent) (products A1 A2 A3 A4 A10) A11 8) (tripsN (seg ent)) A12) 0)) =
      unpackTo (bnd (rd ent)) (seg ent) (history (bnd (rd ent)) A2 A5 A6 A7 (packTo (seg ent) (products A1 A2 A3 A4 A10) A11 8) (tripsN (seg ent)) A12) A13 1 :=
    unpack_fold 0 (a := bnd (rd ent)) (s := seg ent) (H := (history (bnd (rd ent)) A2 A5 A6 A7 (packTo (seg ent) (products A1 A2 A3 A4 A10) A11 8) (tripsN (seg ent)) A12)) (T := A13) (x := 0#32) (y := Scalar.subi (bnd (rd ent) 1) 0#32) (o := 0) rfl rfl z0
  have hfold : (steps (⟨(packTo (seg ent) (products A1 A2 A3 A4 A10) A11 8), k0_pay59 A5, k0_pay60 A6, k0_pay61 A7, k0_pay70 (VecWindow.window (s := S1x1922) A2 ![0, 768] S1x384.size inb_S1x1922_S1x384_0_768), k0_pay71 (VecWindow.window (s := S1x1922) A2 ![0, 1152] S1x384.size inb_S1x1922_S1x384_0_1152), k0_pay72 (VecWindow.window (s := S1x1922) A2 ![0, 1536] S1x384.size inb_S1x1922_S1x384_0_1536), k0_pay84 (lead 0#32) (lead (bnd (rd ent) 1)) (lead (bnd (rd ent) 2)) (lead (bnd (rd ent) 3)) (lead (bnd (rd ent) 4)) (lead (bnd (rd ent) 5)) (lead (bnd (rd ent) 6)) (lead (bnd (rd ent) 7))⟩ : Fixed F) ⟨k0_pay85 (F := F), k0_pay85 (F := F), k0_pay85 (F := F), A12⟩ (4 * tripsN (seg ent))).H = (history (bnd (rd ent)) A2 A5 A6 A7 (packTo (seg ent) (products A1 A2 A3 A4 A10) A11 8) (tripsN (seg ent)) A12) := rfl
  iapply wp_seq
  iapply (part13_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf G) $$ H0
  iintro H0
  iapply wp_seq
  iapply (part14_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf G) $$ H0
  iintro H0
  iapply wp_seq
  iapply (part15_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf G) $$ H0
  iintro H0
  iapply wp_seq
  iapply (part16_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf G) $$ H0
  iintro H0
  iapply wp_seq
  iapply (part17_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf G) $$ H0
  iintro H0
  iapply wp_seq
  iapply (part18_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf G) $$ H0
  iintro H0
  iapply wp_seq
  iapply (part19_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf G) $$ H0
  iintro H0
  iapply wp_seq
  iapply (part20_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf G) $$ H0
  iintro H0
  iapply wp_seq
  iapply (part21_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf G) $$ H0
  iintro H0
  iapply wp_seq
  iapply (part22_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf G) $$ H0
  iintro H0
  iapply wp_seq
  iapply (part23_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf G) $$ H0
  iintro H0
  iapply wp_seq
  iapply (part24_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf G) $$ H0
  iintro H0
  iapply wp_seq
  iapply (part25_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf G) $$ H0
  iintro H0
  iapply wp_seq
  iapply (part26_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf G) $$ H0
  iintro H0
  iapply wp_seq
  iapply (part27_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf G) $$ H0
  iintro H0
  iapply wp_seq
  iapply (part28_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf G) $$ H0
  iintro H0
  iapply wp_seq
  iapply (part29_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf G) $$ H0
  iintro H0
  iapply wp_seq
  iapply (part30_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf G) $$ H0
  iintro H0
  iapply wp_seq
  iapply (part31_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf G) $$ H0
  iintro H0
  simp only [b1, b2, b3, b4, b5, b6, b7]
  iapply wp_seq
  iapply (part32_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _)
  simp only [sgn_fold, fdiv_fold]
  iapply wp_seq
  iapply (part33_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _)
  simp only [sgn_fold, fdiv_fold]
  iapply wp_seq
  iapply (part34_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _)
  simp only [sgn_fold, fdiv_fold, lead_fold]
  iapply wp_seq
  iapply (part35_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _) $$ H5 H14 H6 H15 H7 H16 H1
  iintro H5 H14 H6 H15 H7 H16 H1
  simp only [sgn_fold, fdiv_fold, lead_fold]
  iapply wp_seq
  iapply (part36_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _) $$ H1 H2
  iintro H1 H2
  iapply wp_seq
  iapply (part37_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _) $$ H3 H1 H4 H10 H11
  iintro H3 H1 H4 H10 H11
  rw [products_fold, rdG_eq, pay76_eq, pk0]
  iapply wp_seq
  iapply (part38_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ho0 := off86_rd h) (hb0 := inbG hs (e := 1) (by omega)) (ho1 := off87_rd h) (hb1 := inbG hs (e := 2) (by omega)) (ho2 := off88_rd h) (hb2 := inbG hs (e := 3) (by omega)) (ho3 := off89_rd h) (hb3 := inbG hs (e := 4) (by omega)) (ho4 := off90_rd h) (hb4 := inbG hs (e := 5) (by omega))) $$ H10 H11
  iintro H10 H11
  rw [rdG_eq (inbG hs (e := 1) (by omega)), pay77_eq, pack_fold 1 rfl]
  rw [rdG_eq (inbG hs (e := 2) (by omega)), pay78_eq, pack_fold 2 rfl]
  rw [rdG_eq (inbG hs (e := 3) (by omega)), pay79_eq, pack_fold 3 rfl]
  rw [rdG_eq (inbG hs (e := 4) (by omega)), pay80_eq, pack_fold 4 rfl]
  rw [rdG_eq (inbG hs (e := 5) (by omega)), pay81_eq, pack_fold 5 rfl]
  iapply wp_seq
  iapply (part39_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ho0 := off91_rd h) (hb0 := inbG hs (e := 6) (by omega)) (ho1 := off92_rd h) (hb1 := inbG hs (e := 7) (by omega))) $$ H10 H11
  iintro H10 H11
  rw [rdG_eq (inbG hs (e := 6) (by omega)), pay82_eq, pack_fold 6 rfl]
  rw [rdG_eq (inbG hs (e := 7) (by omega)), pay83_eq, pack_fold 7 rfl]
  iapply wp_seq
  iapply (part40_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ht1 := ht) (hn := by omega) (ht2 := trips2_rd)) $$ H11 H14 H15 H16 H12 H13
  iintro H11 H14 H15 H16 H12 H13
  rw [hfold, rdT_eq inb97, rdH_eq, pay90_eq, uf0, pay91_eq]
  iapply wp_seq
  iapply (part41_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _ _ _ _ _ _ _ _ _ _ _ _ _ _ _ _ _ _ _ _ _ _ _ _ _ _ _ _ _ _ _ _ _ (ho0 := off98_rd h) (hb0 := inbT hs 1) (ho1 := off99_rd h) (hb1 := inbT hs 2) (ho2 := off100_rd h) (hb2 := inbT hs 3)) $$ H13 H12
  iintro H13 H12
  rw [rdT_eq (inbT hs 1), rdH_eq, pay92_eq, unpack_fold 1 (y := Scalar.subi (bnd (rd ent) 2) (bnd (rd ent) 1)) rfl rfl rfl]
  rw [rdT_eq (inbT hs 2), rdH_eq, pay93_eq, unpack_fold 2 (y := Scalar.subi (bnd (rd ent) 3) (bnd (rd ent) 2)) rfl rfl rfl]
  rw [rdT_eq (inbT hs 3), pay94_eq]
  iapply wp_seq
  iapply (part42_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _ _ _ _ _ _ _ _ _ _ _ _ _ _ _ _ _ _ _ _ _ _ _ _ _ _ _ _ _ _ _ _ _ _ (ho0 := off100_rd h) (hb0 := inbT hs 3) (ho1 := off101_rd h) (hb1 := inbT hs 4) (ho2 := off102_rd h) (hb2 := inbT hs 5)) $$ H12 H13
  iintro H12 H13
  rw [rdH_eq, pay95_eq, unpack_fold 3 (y := Scalar.subi (bnd (rd ent) 4) (bnd (rd ent) 3)) rfl rfl rfl]
  rw [rdT_eq (inbT hs 4), rdH_eq, pay96_eq, unpack_fold 4 (y := Scalar.subi (bnd (rd ent) 5) (bnd (rd ent) 4)) rfl rfl rfl]
  rw [rdT_eq (inbT hs 5), rdH_eq]
  iapply wp_seq
  iapply (part43_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ho0 := off102_rd h) (hb0 := inbT hs 5) (ho1 := off103_rd h) (hb1 := inbT hs 6) (ho2 := off104_rd h) (hb2 := inbT hs 7)) $$ H13 H12
  iintro H13 H12
  rw [pay99_eq, unpack_fold 5 (y := Scalar.subi (bnd (rd ent) 6) (bnd (rd ent) 5)) rfl rfl rfl]
  rw [rdT_eq (inbT hs 6), rdH_eq, pay100_eq, unpack_fold 6 (y := Scalar.subi (bnd (rd ent) 7) (bnd (rd ent) 6)) rfl rfl rfl]
  rw [rdT_eq (inbT hs 7), rdH_eq]
  iapply (wp_st (off104_rd h)) $$ H13; iintro H13
  rw [pay101_eq, unpack_fold 7 (y := Scalar.subi 2048#32 (bnd (rd ent) 7)) rfl rfl rfl]
  iapply (wp_ld rfl inb_S2576x128_S2048x128_0_0) $$ H13; iintro H13
  iapply wp_ld_full $$ H8; iintro H8
  iapply wp_ld_full $$ H9; iintro H9
  iapply wp_st_full $$ H9; iintro H9
  rw [logits_fold]
  iapply wp_done
  iapply Hk $$ H0 H1 H2 H3 H4 H5 H6 H7 H8 H9 H10 H11 H12 H13 H14 H15 H16

end Cert.KernelIdeal.Hand
end
-- ==== Proof.Launch.lean ====
module

public import proofs.«01_k».proof.Proof.Clean
public import proofs.«01_k».proof.Proof.Body
public import proofs.«01_k».proof.Proof.Gen.KernelIdeal.Frame
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The list of segment numbers, read off the block of them. -/
def entOf (x : S2048.Idx → BitVec 32) (i : ℕ) : BitVec 32 := if h : i < 2048 then x (ix1 (n0 := 2048) ⟨i, h⟩) else 0#32

theorem entOf_eq (x : S2048.Idx → BitVec 32) : x = fun i => entOf x (i 0).val := by
  funext i
  have h : (i 0).val < 2048 := (i 0).isLt
  unfold entOf
  rw [dif_pos h]
  exact congrArg x (eq_ix1 i)

theorem owns_pt {c : Dev nD} {sp : Space} {S : Shape} {e : EltTy} {M : Memref sig .tc sp S e} {A : S.Idx → Elt F e} (h : M.IsWhole) :
    (owns (c : Thread nD τ) M fullShare A : sProp 𝕄) ⊢ iprop(∃ f : Bf (F := F) c M, ⌜M.view.read (Elt F) f = A⌝ ∗ pt c M f) := by
  unfold owns
  rw [h.set_eq_univ]

theorem pt_owns {c : Dev nD} {sp : Space} {S : Shape} {e : EltTy} {M : Memref sig .tc sp S e} {A : S.Idx → Elt F e} (h : M.IsWhole)
    {f : Bf (F := F) c M} (hf : M.view.read (Elt F) f = A) : pt c M f ⊢ (owns (c : Thread nD τ) M fullShare A : sProp 𝕄) := by
  unfold owns
  rw [h.set_eq_univ]
  iintro H
  iexists f
  isplitr
  · ipureintro; exact hf
  · iexact H

theorem owns_ar {c : Dev nD} {sp : Space} {S : Shape} {e : EltTy} {M : Memref sig .tc sp S e} {A : S.Idx → Elt F e} (h : M.IsWhole) :
    (owns (c : Thread nD τ) M fullShare A : sProp 𝕄) ⊢ ar c M A := by
  iintro H
  ihave H := (owns_pt h) $$ H
  icases H with ⟨%f, %hf, H⟩
  iapply (ar_intro hf)
  iexact H

theorem ar_owns {c : Dev nD} {sp : Space} {S : Shape} {e : EltTy} {M : Memref sig .tc sp S e} {A : S.Idx → Elt F e} (h : M.IsWhole) :
    ar c M A ⊢ (owns (c : Thread nD τ) M fullShare A : sProp 𝕄) := by
  unfold ar
  iintro ⟨%f, H, %hf⟩
  iapply (pt_owns h hf)
  iexact H

theorem scratch_in {c : Dev nD} (b : Ref sig .tc) :
    iprop(∃ f : Buf (Elt F) ((c : Thread nD τ).loc b), ((c : Thread nD τ).loc b) ↦{fullShare} f) ⊢ (iprop(∃ A, ar c (Memref.whole b) A) : sProp 𝕄) := by
  iintro ⟨%f, H⟩
  iexists _
  iapply (ar_intro (M := Memref.whole b) (f := f) rfl)
  iexact H

theorem scratch_out {c : Dev nD} (b : Ref sig .tc) {A : b.ty.shape.Idx → Elt F b.ty.elt} :
    ar c (Memref.whole b) A ⊢ (iprop(∃ f : Buf (Elt F) ((c : Thread nD τ).loc b), ((c : Thread nD τ).loc b) ↦{fullShare} f) : sProp 𝕄) := by
  unfold ar
  iintro ⟨%f, H, %hf⟩
  iexists f
  iexact H

/-- The body on whole memories: from the inputs at the contents `x0 … x8`, whose segment numbers are laid out as
    `Segs` says, and the rest at anything, it leaves the inputs as they were and the result at `answer` of them. -/
theorem kernel_spec {c : Dev nD} (arg0 : Memref sig .tc .smem S2048 .i32) (harg0 : arg0.IsWhole) (arg1 : Memref sig .tc .vmem S2048x4x256 .f32) (harg1 : arg1.IsWhole) (arg2 : Memref sig .tc .vmem S1x1922 .f32) (harg2 : arg2.IsWhole) (arg3 : Memref sig .tc .vmem S128x512 .f32) (harg3 : arg3.IsWhole) (arg4 : Memref sig .tc .vmem S384x128 .f32) (harg4 : arg4.IsWhole) (arg5 : Memref sig .tc .vmem S384x128 .f32) (harg5 : arg5.IsWhole) (arg6 : Memref sig .tc .vmem S384x128 .f32) (harg6 : arg6.IsWhole) (arg7 : Memref sig .tc .vmem S384x128 .f32) (harg7 : arg7.IsWhole) (arg8 : Memref sig .tc .vmem S2x128 .f32) (harg8 : arg8.IsWhole) (arg9 : Memref sig .tc .vmem S2048x2 .f32) (harg9 : arg9.IsWhole) (arg10 : Memref sig .tc .vmem S2560x384 .f32) (harg10 : arg10.IsWhole) (arg11 : Memref sig .tc .vmem S528x8x384 .f32) (harg11 : arg11.IsWhole) (arg12 : Memref sig .tc .vmem S528x8x128 .f32) (harg12 : arg12.IsWhole) (arg13 : Memref sig .tc .vmem S2576x128 .f32) (harg13 : arg13.IsWhole) (arg14 : Memref sig .tc .vmem S128x384 .bf16) (harg14 : arg14.IsWhole) (arg15 : Memref sig .tc .vmem S128x384 .bf16) (harg15 : arg15.IsWhole) (arg16 : Memref sig .tc .vmem S128x384 .bf16) (harg16 : arg16.IsWhole) {x0 : Vec F S2048 .i32} {x1 : Vec F S2048x4x256 .f32} {x2 : Vec F S1x1922 .f32} {x3 : Vec F S128x512 .f32} {x4 : Vec F S384x128 .f32} {x5 : Vec F S384x128 .f32} {x6 : Vec F S384x128 .f32} {x7 : Vec F S384x128 .f32} {x8 : Vec F S2x128 .f32} (h : Segs (entOf x0)) {K : PUnit → sProp 𝕄} :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ A, ar c arg10 A) ∗ (∃ A, ar c arg11 A) ∗ (∃ A, ar c arg12 A) ∗ (∃ A, ar c arg13 A) ∗ (∃ A, ar c arg14 A) ∗ (∃ A, ar c arg15 A) ∗ (∃ A, ar c arg16 A)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (answer (entOf x0) x1 x2 x3 x4 x5 x6 x7 x8) ∗ (∃ A, ar c arg10 A) ∗ (∃ A, ar c arg11 A) ∗ (∃ A, ar c arg12 A) ∗ (∃ A, ar c arg13 A) ∗ (∃ A, ar c arg14 A) ∗ (∃ A, ar c arg15 A) ∗ (∃ A, ar c arg16 A)) -∗ K ⟨⟩))
      ⊢ wp frame (wpE (defs₀ (F := F)) Variants.none c none) Set.univ (cc0__graph_rnn_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  iintro ⟨H0, H1, H2, H3, H4, H5, H6, H7, H8, ⟨%d9, H9⟩, ⟨%A10, H10⟩, ⟨%A11, H11⟩, ⟨%A12, H12⟩, ⟨%A13, H13⟩, ⟨%A14, H14⟩, ⟨%A15, H15⟩, ⟨%A16, H16⟩, Hk⟩
  ihave H0 := (owns_pt harg0) $$ H0
  icases H0 with ⟨%f, %hf, H0⟩
  have hf' : arg0.view.read (Elt F) f = fun i => entOf x0 (i 0).val := hf.trans (entOf_eq x0)
  ihave H1 := (owns_ar harg1) $$ H1
  ihave H2 := (owns_ar harg2) $$ H2
  ihave H3 := (owns_ar harg3) $$ H3
  ihave H4 := (owns_ar harg4) $$ H4
  ihave H5 := (owns_ar harg5) $$ H5
  ihave H6 := (owns_ar harg6) $$ H6
  ihave H7 := (owns_ar harg7) $$ H7
  ihave H8 := (owns_ar harg8) $$ H8
  ihave H9 := (owns_ar harg9) $$ H9
  iapply (body_spec arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hf' h) $$ H0 H1 H2 H3 H4 H5 H6 H7 H8 H9 H10 H11 H12 H13 H14 H15 H16
  iintro H0 H1 H2 H3 H4 H5 H6 H7 H8 H9 H10 H11 H12 H13 H14 H15 H16
  rw [logits_eq h]
  iapply Hk
  isplitl [H0]
  · iapply (pt_owns harg0 hf); iexact H0
  isplitl [H1]
  · iapply (ar_owns harg1); iexact H1
  isplitl [H2]
  · iapply (ar_owns harg2); iexact H2
  isplitl [H3]
  · iapply (ar_owns harg3); iexact H3
  isplitl [H4]
  · iapply (ar_owns harg4); iexact H4
  isplitl [H5]
  · iapply (ar_owns harg5); iexact H5
  isplitl [H6]
  · iapply (ar_owns harg6); iexact H6
  isplitl [H7]
  · iapply (ar_owns harg7); iexact H7
  isplitl [H8]
  · iapply (ar_owns harg8); iexact H8
  isplitl [H9]
  · iapply (ar_owns harg9); iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  iexists _; iexact H16

variable (m : (ℓ : Loc nD τ sig) → Buf (Elt F) ℓ) (ρ : Dev nD → PrngReg)

/-- The proof data of the one launch on core `c`: the arrays as the launch finds them; after the body each input's
    staging memory at its block and the result's at `answer` of the blocks; the scratch and the generator register at
    anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => answer (entOf (iblk m c 0 t)) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = answer (entOf (iblk m c 0 t)) (iblk m c 1 t) (iblk m c 2 t) (iblk m c 3 t) (iblk m c 4 t) (iblk m c 5 t) (iblk m c 6 t) (iblk m c 7 t) (iblk m c 8 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at the point, the windows one by one, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t))

/-- What the launch asks of the segment numbers, on every core. -/
def SegsOK : Prop := ∀ (c : Dev nD) (t : Fin cfg0.N), Segs (entOf (iblk m c 0 t))

theorem sound_body (h : SegsOK m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9]
  unfold Pipeline.ΦA
  rw [scopedRest0_eq]
  iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave S0 := (scratch_in cc0_scratch0) $$ S0
  ihave S1 := (scratch_in cc0_scratch1) $$ S1
  ihave S2 := (scratch_in cc0_scratch2) $$ S2
  ihave S3 := (scratch_in cc0_scratch3) $$ S3
  ihave S4 := (scratch_in cc0_scratch4) $$ S4
  ihave S5 := (scratch_in cc0_scratch5) $$ S5
  ihave S6 := (scratch_in cc0_scratch6) $$ S6
  iapply (kernel_spec (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0) (win0_7.stage (cfg0.slots t 7)) (hstage0_7 0) (win0_8.stage (cfg0.slots t 8)) (hstage0_8 0) (win0_9.stage (cfg0.slots t 9)) (hstage0_9 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (h c t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, H8, H9, ⟨%B0, S0⟩, ⟨%B1, S1⟩, ⟨%B2, S2⟩, ⟨%B3, S3⟩, ⟨%B4, S4⟩, ⟨%B5, S5⟩, ⟨%B6, S6⟩⟩
  isplitl [S0 S1 S2 S3 S4 S5 S6 Hg]
  · isplitl [S0 S1 S2 S3 S4 S5 S6]
    · isplitl [S0]; · iapply (scratch_out cc0_scratch0); iexact S0
      isplitl [S1]; · iapply (scratch_out cc0_scratch1); iexact S1
      isplitl [S2]; · iapply (scratch_out cc0_scratch2); iexact S2
      isplitl [S3]; · iapply (scratch_out cc0_scratch3); iexact S3
      isplitl [S4]; · iapply (scratch_out cc0_scratch4); iexact S4
      isplitl [S5]; · iapply (scratch_out cc0_scratch5); iexact S5
      iapply (scratch_out cc0_scratch6); iexact S6
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin cfg0.N) : defs₀ (F := F) .tc cfg0.body (cfg0.bodyArgs t (cfg0.slots t)) = bodyAt0 t := by
  unfold defs₀; rw [Defs.onTc_tc]

theorem body_obligation (h : SegsOK m) (c : Dev nD) : BodyObligation (dats (F := F) m 0 c) (defs₀ (F := F)) Variants.none () Set.univ := fun t => by
  rw [bigSep_W0, bigSep_W0, defs₀_row]
  exact triple_restated (sound_body m h c t) rfl .rfl fun _ => .rfl

set_option backward.isDefEq.respectTransparency.types false in
/-- The launch: every run ends, the arrays at what the proof data says of them, every counter at zero. -/
theorem run_quiescent (h : SegsOK m) : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m h c).loose) (hshare := fun c => (dats m 0 c).share_full fun _ => rfl)
    (howed := fun _ _ => rfl) (V := V m) (hmain := hmain m Variants.none) (hA := A_eq m) (hΦ := fun _ _ => rfl)

/-- The frame: every run ends, the argument arrays unchanged, every counter at zero. -/
theorem frame_run (h : SegsOK m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (frame_of m ρ (dats m) (A_eq m) ((θ_run defs _ _).mono (fun _ h => h.1) (run_quiescent m ρ h)))
    ((θ_run defs _ _).mono (fun _ h => h.2) (run_quiescent m ρ h))

end Cert.KernelIdeal.Hand

end
-- ==== Proof.Decode.lean ====
module

public import proofs.«01_k».proof.Proof.Launch
public import proofs.«01_k».proof.Proof.Gen.Pre_segments_fit
public import Idealize.ShloMosaic.Lib.PointwiseCore
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem of_one (p : Bool) (h : BitVec.ofBool p = 1#1) : p = true := by cases p <;> revert h <;> decide

/-- What the four tests of `segments_fit` say of the list of segment numbers. -/
theorem segs_of {x : S2048.Idx → BitVec 32} (h0 : ∀ i : Fin 2048, (0#32).sle (x (ix1 i)) = true) (h1 : x (ix1 (n0 := 2048) ⟨2047, by decide⟩) = 7#32)
    (h2 : ∀ i : Fin 2047, (x (ix1 (n0 := 2048) ⟨i.val, by omega⟩)).sle (x (ix1 (n0 := 2048) ⟨1 + i.val, by omega⟩)) = true)
    (h3 : ∀ i : Fin 1536, (x (ix1 (n0 := 2048) ⟨i.val, by omega⟩)).slt (x (ix1 (n0 := 2048) ⟨512 + i.val, by omega⟩)) = true) : Segs (entOf x) := by
  have at_ : ∀ i (hi : i < 2048), entOf x i = x (ix1 (n0 := 2048) ⟨i, hi⟩) := fun i hi => dif_pos hi
  have small : ∀ i : Fin 2048, (x (ix1 i)).toNat < 2 ^ 31 := by
    intro i
    have := h0 i
    simp only [BitVec.sle, decide_eq_true_eq, BitVec.toInt, BitVec.toNat_ofNat] at this
    have := (x (ix1 i)).isLt
    split_ifs at * <;> omega
  have step : ∀ i, i + 1 < 2048 → (entOf x i).toNat ≤ (entOf x (i + 1)).toNat := by
    intro i hi
    rw [at_ i (by omega), at_ (i + 1) hi]
    have a := h2 ⟨i, by omega⟩
    have b := small ⟨i, by omega⟩
    have d := small ⟨1 + i, by omega⟩
    have e : (⟨i + 1, hi⟩ : Fin 2048) = ⟨1 + i, by omega⟩ := Fin.ext (by show i + 1 = 1 + i; omega)
    rw [e]
    simp only [BitVec.sle, decide_eq_true_eq, BitVec.toInt] at a
    split_ifs at a <;> omega
  have mono : ∀ i j, i ≤ j → j < 2048 → (entOf x i).toNat ≤ (entOf x j).toNat := by
    intro i j hij
    induction j, hij using Nat.le_induction with
    | base => intro _; exact le_refl _
    | succ j hj ih => intro h; exact (ih (by omega)).trans (step j h)
  have last : (entOf x 2047).toNat = 7 := by rw [at_ 2047 (by decide), h1]; rfl
  refine ⟨fun i hi => last ▸ mono i 2047 (by omega) (by decide), last, mono, fun i hi => ?_⟩
  rw [at_ i (by omega), at_ (i + 512) hi]
  have a := h3 ⟨i, by omega⟩
  have b := small ⟨i, by omega⟩
  have d := small ⟨512 + i, by omega⟩
  have e : (⟨i + 512, hi⟩ : Fin 2048) = ⟨512 + i, by omega⟩ := Fin.ext (by show i + 512 = 512 + i; omega)
  rw [e]
  simp only [BitVec.slt, decide_eq_true_eq, BitVec.toInt] at a
  split_ifs at a <;> omega

/-- The second column of the table of node types. -/
def typeCol (a : S2048x2.Idx → BitVec 32) : S2048.Idx → BitVec 32 := fun i => a (ix2 (n0 := 2048) (n1 := 2) (i 0) 1)

theorem col_eq (a : S2048x2.Idx → BitVec 32) (h1 : S2048x2.Slices ![0, 1] S2048x1) (h2 : S2048x1.ShapeCasts S2048) :
    shapeCast S2048 (extractStridedSlice S2048x1 ![0, 1] a h1) h2 = typeCol a := by
  funext y
  obtain ⟨i, rfl⟩ : ∃ i : Fin 2048, y = ix1 i := ⟨y 0, eq_ix1 y⟩
  unfold typeCol
  pointwise

/-- The precondition, read at its words. -/
theorem segs_of_fn {a0 : FVec F Cert.Pre_segments_fit.S2048x4x256 .f32} {a1 : IVec Cert.Pre_segments_fit.S2x32768 32} {a2 : FVec F Cert.Pre_segments_fit.S32768x4 .f32} {a3 : IVec Cert.Pre_segments_fit.S2048x2 32} {a4 : FVec F Cert.Pre_segments_fit.S128x512 .f32} {a5 : FVec F Cert.Pre_segments_fit.S128 .f32} {a6 : FVec F Cert.Pre_segments_fit.S128 .f32} {a7 : FVec F Cert.Pre_segments_fit.S128 .f32} {a8 : FVec F Cert.Pre_segments_fit.S384x128 .f32} {a9 : FVec F Cert.Pre_segments_fit.S384x128 .f32} {a10 : FVec F Cert.Pre_segments_fit.S384 .f32} {a11 : FVec F Cert.Pre_segments_fit.S384 .f32} {a12 : FVec F Cert.Pre_segments_fit.S384x128 .f32} {a13 : FVec F Cert.Pre_segments_fit.S384x128 .f32} {a14 : FVec F Cert.Pre_segments_fit.S384 .f32} {a15 : FVec F Cert.Pre_segments_fit.S384 .f32} {a16 : FVec F Cert.Pre_segments_fit.S2x128 .f32} {a17 : FVec F Cert.Pre_segments_fit.S2 .f32} (h : (Cert.Pre_segments_fit.fn (F := F) a0 a1 a2 a3 a4 a5 a6 a7 a8 a9 a10 a11 a12 a13 a14 a15 a16 a17).1 = (fun _ => 1#1)
      ∧ (Cert.Pre_segments_fit.fn (F := F) a0 a1 a2 a3 a4 a5 a6 a7 a8 a9 a10 a11 a12 a13 a14 a15 a16 a17).2.1 = (fun _ => 1#1)
      ∧ (Cert.Pre_segments_fit.fn (F := F) a0 a1 a2 a3 a4 a5 a6 a7 a8 a9 a10 a11 a12 a13 a14 a15 a16 a17).2.2.1 = (fun _ => 1#1)
      ∧ (Cert.Pre_segments_fit.fn (F := F) a0 a1 a2 a3 a4 a5 a6 a7 a8 a9 a10 a11 a12 a13 a14 a15 a16 a17).2.2.2 = (fun _ => 1#1)) : Segs (entOf (typeCol a3)) := by
  obtain ⟨h0, h1, h2, h3⟩ := h
  simp only [Cert.Pre_segments_fit.fn] at h0 h1 h2 h3
  rw [col_eq] at h0 h1 h2 h3
  refine segs_of (fun i => ?_) ?_ (fun i => ?_) (fun i => ?_)
  · have e := of_one _ (congrFun h0 (ix1 i))
    revert e
    pointwise
    exact id
  · have e := of_one _ (congrFun h1 (ix1 0))
    revert e
    pointwise
    intro e
    simpa using e
  · have e := of_one _ (congrFun h2 (ix1 i))
    revert e
    pointwise
    exact id
  · have e := of_one _ (congrFun h3 (ix1 i))
    revert e
    pointwise
    exact id

variable (m : (ℓ : Loc nD τ sig) → Buf (Elt F) ℓ) (ρ : Dev nD → PrngReg)

theorem V_v3 (c : Dev nD) : V m c main_v3 = typeCol (m ((c : Thread nD τ).loc main_arg3)) := by
  show StableHlo.after hostOps0 _ (Proc.devRef .tc main_v3) = _
  after_results
  exact col_eq (m ((c : Thread nD τ).loc main_arg3)) _ _

/-- The biases, scales and shifts, one after another. -/
def joined (b5 b6 b7 : Vec F S128 .f32) (b10 b11 b14 b15 : Vec F S384 .f32) (b17 : Vec F S2 .f32) : Vec F S1x1922 .f32 :=
  broadcastInDim S1x1922 ![1] bcast_S1922_S1x1922_1 (concatenate S1922 0 [⟨S128, b5⟩, ⟨S128, b6⟩, ⟨S128, b7⟩, ⟨S384, b10⟩, ⟨S384, b11⟩, ⟨S384, b14⟩, ⟨S384, b15⟩, ⟨S2, b17⟩]
    concatenates_S128_S128_S128_S384_S384_S384_S384_S2_S1922_d0)

theorem V_v1 (c : Dev nD) : V m c main_v1 = joined (m ((c : Thread nD τ).loc main_arg5)) (m ((c : Thread nD τ).loc main_arg6)) (m ((c : Thread nD τ).loc main_arg7))
    (m ((c : Thread nD τ).loc main_arg10)) (m ((c : Thread nD τ).loc main_arg11)) (m ((c : Thread nD τ).loc main_arg14)) (m ((c : Thread nD τ).loc main_arg15)) (m ((c : Thread nD τ).loc main_arg17)) := by
  show StableHlo.after hostOps0 _ (Proc.devRef .tc main_v1) = _
  after_results
  rfl

theorem block_0 (c : Dev nD) (t : Fin cfg0.N) : iblk m c 0 t = typeCol (m ((c : Thread nD τ).loc main_arg3)) := by
  have h : iblk m c 0 t = V m c main_v3 := by
    funext i
    show V m c main_v3 _ = V m c main_v3 i
    exact congrArg _ (funext fun a => Fin.ext (Pipeline.Window.rect_emb_val_of_index_zero win0_0 t a rfl i))
  exact h.trans (V_v3 m c)

theorem block_1 (c : Dev nD) (t : Fin cfg0.N) : iblk m c 1 t = m ((c : Thread nD τ).loc main_arg0) := by
  have h : iblk m c 1 t = V m c main_arg0 := by
    funext i
    show V m c main_arg0 _ = V m c main_arg0 i
    exact congrArg _ (funext fun a => Fin.ext (Pipeline.Window.rect_emb_val_of_index_zero win0_1 t a rfl i))
  exact h.trans (V_main_arg0 m c)

theorem block_2 (c : Dev nD) (t : Fin cfg0.N) : iblk m c 2 t = V m c main_v1 := by
  have h : iblk m c 2 t = V m c main_v1 := by
    funext i
    show V m c main_v1 _ = V m c main_v1 i
    exact congrArg _ (funext fun a => Fin.ext (Pipeline.Window.rect_emb_val_of_index_zero win0_2 t a rfl i))
  exact h.trans (rfl)

theorem block_3 (c : Dev nD) (t : Fin cfg0.N) : iblk m c 3 t = m ((c : Thread nD τ).loc main_arg4) := by
  have h : iblk m c 3 t = V m c main_arg4 := by
    funext i
    show V m c main_arg4 _ = V m c main_arg4 i
    exact congrArg _ (funext fun a => Fin.ext (Pipeline.Window.rect_emb_val_of_index_zero win0_3 t a rfl i))
  exact h.trans (V_main_arg4 m c)

theorem block_4 (c : Dev nD) (t : Fin cfg0.N) : iblk m c 4 t = m ((c : Thread nD τ).loc main_arg8) := by
  have h : iblk m c 4 t = V m c main_arg8 := by
    funext i
    show V m c main_arg8 _ = V m c main_arg8 i
    exact congrArg _ (funext fun a => Fin.ext (Pipeline.Window.rect_emb_val_of_index_zero win0_4 t a rfl i))
  exact h.trans (V_main_arg8 m c)

theorem block_5 (c : Dev nD) (t : Fin cfg0.N) : iblk m c 5 t = m ((c : Thread nD τ).loc main_arg9) := by
  have h : iblk m c 5 t = V m c main_arg9 := by
    funext i
    show V m c main_arg9 _ = V m c main_arg9 i
    exact congrArg _ (funext fun a => Fin.ext (Pipeline.Window.rect_emb_val_of_index_zero win0_5 t a rfl i))
  exact h.trans (V_main_arg9 m c)

theorem block_6 (c : Dev nD) (t : Fin cfg0.N) : iblk m c 6 t = m ((c : Thread nD τ).loc main_arg12) := by
  have h : iblk m c 6 t = V m c main_arg12 := by
    funext i
    show V m c main_arg12 _ = V m c main_arg12 i
    exact congrArg _ (funext fun a => Fin.ext (Pipeline.Window.rect_emb_val_of_index_zero win0_6 t a rfl i))
  exact h.trans (V_main_arg12 m c)

theorem block_7 (c : Dev nD) (t : Fin cfg0.N) : iblk m c 7 t = m ((c : Thread nD τ).loc main_arg13) := by
  have h : iblk m c 7 t = V m c main_arg13 := by
    funext i
    show V m c main_arg13 _ = V m c main_arg13 i
    exact congrArg _ (funext fun a => Fin.ext (Pipeline.Window.rect_emb_val_of_index_zero win0_7 t a rfl i))
  exact h.trans (V_main_arg13 m c)

theorem block_8 (c : Dev nD) (t : Fin cfg0.N) : iblk m c 8 t = m ((c : Thread nD τ).loc main_arg16) := by
  have h : iblk m c 8 t = V m c main_arg16 := by
    funext i
    show V m c main_arg16 _ = V m c main_arg16 i
    exact congrArg _ (funext fun a => Fin.ext (Pipeline.Window.rect_emb_val_of_index_zero win0_8 t a rfl i))
  exact h.trans (V_main_arg16 m c)

theorem segsOK_of (h : ∀ c : Dev nD, Segs (entOf (typeCol (m ((c : Thread nD τ).loc main_arg3))))) : SegsOK m := fun c t => by
  rw [block_0]
  exact h c

/-- What the launch leaves in the result: `answer` of the argument arrays. -/
def result (c : Dev nD) : Vec F S2048x2 .f32 :=
  answer (entOf (typeCol (m ((c : Thread nD τ).loc main_arg3)))) (m ((c : Thread nD τ).loc main_arg0)) (V m c main_v1) (m ((c : Thread nD τ).loc main_arg4)) (m ((c : Thread nD τ).loc main_arg8)) (m ((c : Thread nD τ).loc main_arg9)) (m ((c : Thread nD τ).loc main_arg12)) (m ((c : Thread nD τ).loc main_arg13)) (m ((c : Thread nD τ).loc main_arg16))

theorem final_9 (c : Dev nD) : (dats m 0 c).arrAt 9 cfg0.N = result m c := by
  refine (dats m 0 c).arrAt_eq_of_after_last 9 t0_0 (by decide +kernel) (result m c) fun j => ?_
  rw [after0_9, block_0, block_1, block_2, block_3, block_4, block_5, block_6, block_7, block_8]
  rfl

/-- The run: every execution ends with the result array at `result`, the arguments as they were, every counter at zero. -/
theorem value_run (h : SegsOK m) : θ_run defs (onTc (τ := τ) (main (F := F))) ⟨m, fun _ => 0, ρ⟩ (fun r =>
    ∀ c : Dev nD, r.2.mem ((c.tc : Thread nD τ).loc main_v4) = result m c) :=
  (θ_run defs _ _).mono (fun _ h c => ((h.1 c).1 9).trans (final_9 m c)) (run_quiescent m ρ h)

end Cert.KernelIdeal.Hand

end
-- ==== Proof.Same.lean ====
/- The kernel as read at the bits and the kernel as read at the extended reals are the same text; what is proved of the
   one, at any floats, holds of the other. The frames of both. -/
module

public import proofs.«01_k».proof.Defs
public import proofs.«01_k».proof.Proof.Decode
public import proofs.«01_k».proof.Proof.Gen.Kernel
public import proofs.«01_k».proof.Proof.Gen.KernelIdeal

@[expose] public section

set_option maxRecDepth 100000

noncomputable section

namespace Cert.Proof

open Idealize.ShloMosaic Idealize.ShloMosaic.TcCoe Idealize.SL.Sem

variable {F : FTy → Type} [FloatOps F]

theorem same_main : Cert.Kernel.main (F := F) = Cert.KernelIdeal.main (F := F) := rfl

set_option maxHeartbeats 0 in
/-- The two kernel functions unfold to one term. -/
theorem same_kernel : @Cert.Kernel.cc0__graph_rnn_kernel F _ _ = @Cert.KernelIdeal.cc0__graph_rnn_kernel F _ _ := rfl

theorem same_bodies : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) =>
    show Cert.Kernel.cc0__graph_rnn_kernel _ _ _ _ _ _ _ _ _ _ _ _ _ _ _ _ _ _ _ _ _ _ _ _ _ _ _ _ _ _ _ _ _ _ = _
    rw [same_kernel]

theorem same_defs : Cert.Kernel.defs (F := F) = Cert.KernelIdeal.defs (F := F) :=
  congrArg (Pipeline.defs Cert.KernelIdeal.pcfgs) same_bodies

theorem frame_Kernel : Cert.quiescent_Kernel (hKernel := Cert.Kernel.Gen.facts) (hPre_segments_fit := Cert.Pre_segments_fit.Gen.facts) := fun m g h => by
  rw [same_defs, same_main]
  exact Cert.KernelIdeal.Hand.frame_run (F := Bits) m g (Cert.KernelIdeal.Hand.segsOK_of m fun c => Cert.KernelIdeal.Hand.segs_of_fn (h c))

theorem frame_KernelIdeal : Cert.quiescent_KernelIdeal (hKernelIdeal := Cert.KernelIdeal.Gen.facts) (hPre_segments_fit := Cert.Pre_segments_fit.Gen.facts) := fun m g h =>
  Cert.KernelIdeal.Hand.frame_run (F := Ideal) m g (Cert.KernelIdeal.Hand.segsOK_of m fun c => Cert.KernelIdeal.Hand.segs_of_fn (h c))

end Cert.Proof

end
-- ==== Proof.RefOps.lean ====
/-
  The reference as lists of host operations: the stretches before, between and after its two counted loops, the loops'
  tests and bodies (a call of a function of the program is the list of its operations at the call's buffers), and the
  equations that spell the program as these lists.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 100000

noncomputable section

namespace Cert.ReferenceIdeal.Hand

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The stretch before the first loop. -/
def pre0 : List (HloOp τ sig (Elt F)) :=
  [ StableHlo.unary main_arg3 main_v0 ((extractStridedSlice S2048x1 ![0, 1] · slices_S2048x2_S2048x1_0_1) : (⟨S2048x2, .i32⟩ : BufTy).Contents (Elt F) → (⟨S2048x1, .i32⟩ : BufTy).Contents (Elt F)),
    StableHlo.reshape main_v0 main_v1 (rfl : (.i32 : EltTy) = .i32) shapeCasts_S2048x1_S2048,
    StableHlo.unary main_arg0 main_v2 ((extractStridedSlice S2048x1x256 ![0, 0, 0] · slices_S2048x4x256_S2048x1x256_0_0_0) : (⟨S2048x4x256, .f32⟩ : BufTy).Contents (Elt F) → (⟨S2048x1x256, .f32⟩ : BufTy).Contents (Elt F)),
    StableHlo.reshape main_v2 main_v3 (rfl : (.f32 : EltTy) = .f32) shapeCasts_S2048x1x256_S2048x256,
    StableHlo.unary main_arg0 main_v4 ((extractStridedSlice S2048x1x256 ![0, 1, 0] · slices_S2048x4x256_S2048x1x256_0_1_0) : (⟨S2048x4x256, .f32⟩ : BufTy).Contents (Elt F) → (⟨S2048x1x256, .f32⟩ : BufTy).Contents (Elt F)),
    StableHlo.reshape main_v4 main_v5 (rfl : (.f32 : EltTy) = .f32) shapeCasts_S2048x1x256_S2048x256,
    StableHlo.unary main_arg0 main_v6 ((extractStridedSlice S2048x1x256 ![0, 2, 0] · slices_S2048x4x256_S2048x1x256_0_2_0) : (⟨S2048x4x256, .f32⟩ : BufTy).Contents (Elt F) → (⟨S2048x1x256, .f32⟩ : BufTy).Contents (Elt F)),
    StableHlo.reshape main_v6 main_v7 (rfl : (.f32 : EltTy) = .f32) shapeCasts_S2048x1x256_S2048x256,
    StableHlo.unary main_arg0 main_v8 ((extractStridedSlice S2048x1x256 ![0, 3, 0] · slices_S2048x4x256_S2048x1x256_0_3_0) : (⟨S2048x4x256, .f32⟩ : BufTy).Contents (Elt F) → (⟨S2048x1x256, .f32⟩ : BufTy).Contents (Elt F)),
    StableHlo.reshape main_v8 main_v9 (rfl : (.f32 : EltTy) = .f32) shapeCasts_S2048x1x256_S2048x256,
    StableHlo.binary main_v7 main_v9 main_v10 (mulf : (⟨S2048x256, .f32⟩ : BufTy).Contents (Elt F) → (⟨S2048x256, .f32⟩ : BufTy).Contents (Elt F) → (⟨S2048x256, .f32⟩ : BufTy).Contents (Elt F)),
    StableHlo.nullary main_cst (constant S_ .f32 0x00000000#32),
    StableHlo.binary main_v10 main_cst main_v11 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)) ]

theorem pre0_sub : (pre0 (F := F)).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.binary_bufs_sub .., StableHlo.nullary_bufs_sub .., StableHlo.binary_bufs_sub ..⟩

theorem pre0_fresh : (pre0 (F := F)).Forall fun op => op.fresh = ∅ := StableHlo.forall_fresh_of_map rfl

/-- What the operations of `pre0` write, in order. -/
abbrev pre0_W : List (Ref sig .tc) := [main_v0, main_v1, main_v2, main_v3, main_v4, main_v5, main_v6, main_v7, main_v8, main_v9, main_v10, main_cst, main_v11]

theorem pre0_writes : (pre0 (F := F)).Forall fun op => op.writes ⊆ (pre0_W.map (Proc.devRef (τ := τ) .tc)).toFinset :=
  StableHlo.forall_writes_sub_of_map rfl

/-- The stretch before the first loop (a call of a function of the program). -/
def pre1 : List (HloOp τ sig (Elt F)) :=
  [ StableHlo.binary main_v7 main_v7 main_call0_v0 (mulf : (⟨S2048x256, .f32⟩ : BufTy).Contents (Elt F) → (⟨S2048x256, .f32⟩ : BufTy).Contents (Elt F) → (⟨S2048x256, .f32⟩ : BufTy).Contents (Elt F)),
    StableHlo.nullary main_call0_cst (constant S_ .f32 0x00000000#32),
    StableHlo.binary main_call0_v0 main_call0_cst main_call0_v1 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_call0_v1 main_v12 (Host.sqrt : (⟨S2048, .f32⟩ : BufTy).Contents (Elt F) → (⟨S2048, .f32⟩ : BufTy).Contents (Elt F)) ]

theorem pre1_sub : (pre1 (F := F)).Forall fun op => op.bufs ⊆ StableHlo.tcRefs τ sig :=
  ⟨StableHlo.binary_bufs_sub .., StableHlo.nullary_bufs_sub .., StableHlo.binary_bufs_sub .., StableHlo.unary_bufs_sub ..⟩

theorem pre1_fresh : (pre1 (F := F)).Forall fun op => op.fresh = ∅ := StableHlo.forall_fresh_of_map rfl

/-- What the operations of `pre1` write, in order. -/
abbrev pre1_W : List (Ref sig .tc) := [main_call0_v0, main_call0_cst, main_call0_v1, main_v12]

theorem pre1_writes : (pre1 (F := F)).Forall fun op => op.writes ⊆ (pre1_W.map (Proc.devRef (τ := τ) .tc)).toFinset :=
  StableHlo.forall_writes_sub_of_map rfl

/-- The stretch before the first loop. -/
def pre2 : List (HloOp τ sig (Elt F)) :=
  [ StableHlo.nullary main_cst_0 (constant S_ .f32 0x322BCC77#32),
    StableHlo.unary main_cst_0 main_v13 (broadcastInDim S2048 ![] bcast_S_S2048 : (⟨S_, .f32⟩ : BufTy).Contents (Elt F) → (⟨S2048, .f32⟩ : BufTy).Contents (Elt F)),
    StableHlo.binary main_v12 main_v13 main_v14 (maximumf : (⟨S2048, .f32⟩ : BufTy).Contents (Elt F) → (⟨S2048, .f32⟩ : BufTy).Contents (Elt F) → (⟨S2048, .f32⟩ : BufTy).Contents (Elt F)) ]

theorem pre2_sub : (pre2 (F := F)).Forall fun op => op.bufs ⊆ StableHlo.tcRefs τ sig :=
  ⟨StableHlo.nullary_bufs_sub .., StableHlo.unary_bufs_sub .., StableHlo.binary_bufs_sub ..⟩

theorem pre2_fresh : (pre2 (F := F)).Forall fun op => op.fresh = ∅ := StableHlo.forall_fresh_of_map rfl

/-- What the operations of `pre2` write, in order. -/
abbrev pre2_W : List (Ref sig .tc) := [main_cst_0, main_v13, main_v14]

theorem pre2_writes : (pre2 (F := F)).Forall fun op => op.writes ⊆ (pre2_W.map (Proc.devRef (τ := τ) .tc)).toFinset :=
  StableHlo.forall_writes_sub_of_map rfl

/-- The stretch before the first loop (a call of a function of the program). -/
def pre3 : List (HloOp τ sig (Elt F)) :=
  [ StableHlo.binary main_v9 main_v9 main_call1_v0 (mulf : (⟨S2048x256, .f32⟩ : BufTy).Contents (Elt F) → (⟨S2048x256, .f32⟩ : BufTy).Contents (Elt F) → (⟨S2048x256, .f32⟩ : BufTy).Contents (Elt F)),
    StableHlo.nullary main_call1_cst (constant S_ .f32 0x00000000#32),
    StableHlo.binary main_call1_v0 main_call1_cst main_call1_v1 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_call1_v1 main_v15 (Host.sqrt : (⟨S2048, .f32⟩ : BufTy).Contents (Elt F) → (⟨S2048, .f32⟩ : BufTy).Contents (Elt F)) ]

theorem pre3_sub : (pre3 (F := F)).Forall fun op => op.bufs ⊆ StableHlo.tcRefs τ sig :=
  ⟨StableHlo.binary_bufs_sub .., StableHlo.nullary_bufs_sub .., StableHlo.binary_bufs_sub .., StableHlo.unary_bufs_sub ..⟩

theorem pre3_fresh : (pre3 (F := F)).Forall fun op => op.fresh = ∅ := StableHlo.forall_fresh_of_map rfl

/-- What the operations of `pre3` write, in order. -/
abbrev pre3_W : List (Ref sig .tc) := [main_call1_v0, main_call1_cst, main_call1_v1, main_v15]

theorem pre3_writes : (pre3 (F := F)).Forall fun op => op.writes ⊆ (pre3_W.map (Proc.devRef (τ := τ) .tc)).toFinset :=
  StableHlo.forall_writes_sub_of_map rfl

/-- The stretch before the first loop. -/
def pre4 : List (HloOp τ sig (Elt F)) :=
  ( StableHlo.nullary main_cst_1 (constant S_ .f32 0x322BCC77#32)
  :: StableHlo.unary main_cst_1 main_v16 (broadcastInDim S2048 ![] bcast_S_S2048 : (⟨S_, .f32⟩ : BufTy).Contents (Elt F) → (⟨S2048, .f32⟩ : BufTy).Contents (Elt F))
  :: StableHlo.binary main_v15 main_v16 main_v17 (maximumf : (⟨S2048, .f32⟩ : BufTy).Contents (Elt F) → (⟨S2048, .f32⟩ : BufTy).Contents (Elt F) → (⟨S2048, .f32⟩ : BufTy).Contents (Elt F))
  :: StableHlo.binary main_v14 main_v17 main_v18 (mulf : (⟨S2048, .f32⟩ : BufTy).Contents (Elt F) → (⟨S2048, .f32⟩ : BufTy).Contents (Elt F) → (⟨S2048, .f32⟩ : BufTy).Contents (Elt F))
  :: StableHlo.binary main_v11 main_v18 main_v19 (Host.divf : (⟨S2048, .f32⟩ : BufTy).Contents (Elt F) → (⟨S2048, .f32⟩ : BufTy).Contents (Elt F) → (⟨S2048, .f32⟩ : BufTy).Contents (Elt F))
  :: StableHlo.unary main_v19 main_v20 (broadcastInDim S2048x1 ![0] bcast_S2048_S2048x1_0 : (⟨S2048, .f32⟩ : BufTy).Contents (Elt F) → (⟨S2048x1, .f32⟩ : BufTy).Contents (Elt F))
  :: StableHlo.unary main_v20 main_v21 (broadcastInDim S2048x256 ![0, 1] bcast_S2048x1_S2048x256_0_1 : (⟨S2048x1, .f32⟩ : BufTy).Contents (Elt F) → (⟨S2048x256, .f32⟩ : BufTy).Contents (Elt F))
  :: StableHlo.binary main_v3 main_v21 main_v22 (mulf : (⟨S2048x256, .f32⟩ : BufTy).Contents (Elt F) → (⟨S2048x256, .f32⟩ : BufTy).Contents (Elt F) → (⟨S2048x256, .f32⟩ : BufTy).Contents (Elt F))
  :: StableHlo.binary main_v22 main_v5 main_v23 ((fun a b => concatenate S2048x512 1 [⟨S2048x256, a⟩, ⟨S2048x256, b⟩] concatenates_S2048x256_S2048x256_S2048x512_d1) : (⟨S2048x256, .f32⟩ : BufTy).Contents (Elt F) → (⟨S2048x256, .f32⟩ : BufTy).Contents (Elt F) → (⟨S2048x512, .f32⟩ : BufTy).Contents (Elt F))
  :: StableHlo.unary main_arg4 main_v24 ((transpose S512x128 [1, 0] · transposes_S128x512_S512x128_1_0) : (⟨S128x512, .f32⟩ : BufTy).Contents (Elt F) → (⟨S512x128, .f32⟩ : BufTy).Contents (Elt F))
  :: StableHlo.binary main_v23 main_v24 main_v25 ((fun l r => Host.dotGeneral dot_S2048x512_S512x128_S2048x128_1_0_0_1_n_n none l r) : (⟨S2048x512, .f32⟩ : BufTy).Contents (Elt F) → (⟨S512x128, .f32⟩ : BufTy).Contents (Elt F) → (⟨S2048x128, .f32⟩ : BufTy).Contents (Elt F))
  :: StableHlo.unary main_arg5 main_v26 (broadcastInDim S1x128 ![1] bcast_S128_S1x128_1 : (⟨S128, .f32⟩ : BufTy).Contents (Elt F) → (⟨S1x128, .f32⟩ : BufTy).Contents (Elt F))
  :: StableHlo.unary main_v26 main_v27 (broadcastInDim S2048x128 ![0, 1] bcast_S1x128_S2048x128_0_1 : (⟨S1x128, .f32⟩ : BufTy).Contents (Elt F) → (⟨S2048x128, .f32⟩ : BufTy).Contents (Elt F))
  :: StableHlo.binary main_v25 main_v27 main_v28 (addf : (⟨S2048x128, .f32⟩ : BufTy).Contents (Elt F) → (⟨S2048x128, .f32⟩ : BufTy).Contents (Elt F) → (⟨S2048x128, .f32⟩ : BufTy).Contents (Elt F))
  :: StableHlo.nullary main_cst_2 (constant S_ .f32 0x3F7FFFAC#32)
  :: StableHlo.unary main_cst_2 main_v29 (broadcastInDim S2048x128 ![] bcast_S_S2048x128 : (⟨S_, .f32⟩ : BufTy).Contents (Elt F) → (⟨S2048x128, .f32⟩ : BufTy).Contents (Elt F))
  :: StableHlo.binary main_v28 main_v29 main_v30 (mulf : (⟨S2048x128, .f32⟩ : BufTy).Contents (Elt F) → (⟨S2048x128, .f32⟩ : BufTy).Contents (Elt F) → (⟨S2048x128, .f32⟩ : BufTy).Contents (Elt F))
  :: StableHlo.unary main_arg6 main_v31 (broadcastInDim S1x128 ![1] bcast_S128_S1x128_1 : (⟨S128, .f32⟩ : BufTy).Contents (Elt F) → (⟨S1x128, .f32⟩ : BufTy).Contents (Elt F))
  :: StableHlo.unary main_v31 main_v32 (broadcastInDim S2048x128 ![0, 1] bcast_S1x128_S2048x128_0_1 : (⟨S1x128, .f32⟩ : BufTy).Contents (Elt F) → (⟨S2048x128, .f32⟩ : BufTy).Contents (Elt F))
  :: StableHlo.binary main_v30 main_v32 main_v33 (mulf : (⟨S2048x128, .f32⟩ : BufTy).Contents (Elt F) → (⟨S2048x128, .f32⟩ : BufTy).Contents (Elt F) → (⟨S2048x128, .f32⟩ : BufTy).Contents (Elt F))
  :: StableHlo.unary main_arg7 main_v34 (broadcastInDim S1x128 ![1] bcast_S128_S1x128_1 : (⟨S128, .f32⟩ : BufTy).Contents (Elt F) → (⟨S1x128, .f32⟩ : BufTy).Contents (Elt F))
  :: StableHlo.unary main_v34 main_v35 (broadcastInDim S2048x128 ![0, 1] bcast_S1x128_S2048x128_0_1 : (⟨S1x128, .f32⟩ : BufTy).Contents (Elt F) → (⟨S2048x128, .f32⟩ : BufTy).Contents (Elt F))
  :: StableHlo.binary main_v33 main_v35 main_v36 (addf : (⟨S2048x128, .f32⟩ : BufTy).Contents (Elt F) → (⟨S2048x128, .f32⟩ : BufTy).Contents (Elt F) → (⟨S2048x128, .f32⟩ : BufTy).Contents (Elt F))
  :: [] )

theorem pre4_sub : (pre4 (F := F)).Forall fun op => op.bufs ⊆ StableHlo.tcRefs τ sig :=
  ⟨StableHlo.nullary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

theorem pre4_fresh : (pre4 (F := F)).Forall fun op => op.fresh = ∅ := StableHlo.forall_fresh_of_map rfl

/-- What the operations of `pre4` write, in order. -/
abbrev pre4_W : List (Ref sig .tc) := [main_cst_1, main_v16, main_v17, main_v18, main_v19, main_v20, main_v21, main_v22, main_v23, main_v24, main_v25, main_v26, main_v27, main_v28, main_cst_2, main_v29, main_v30, main_v31, main_v32, main_v33, main_v34, main_v35, main_v36]

theorem pre4_writes : (pre4 (F := F)).Forall fun op => op.writes ⊆ (pre4_W.map (Proc.devRef (τ := τ) .tc)).toFinset :=
  StableHlo.forall_writes_sub_of_map rfl

/-- The stretch before the first loop (a call of a function of the program). -/
def pre5 : List (HloOp τ sig (Elt F)) :=
  [ StableHlo.nullary main_call2_cst (constant S_ .f32 0x00000000#32),
    StableHlo.unary main_call2_cst main_call2_v0 ((broadcastInDim S2048x128 ![] bcast_S_S2048x128) : (⟨S_, .f32⟩ : BufTy).Contents (Elt F) → (⟨S2048x128, .f32⟩ : BufTy).Contents (Elt F)),
    StableHlo.binary main_v36 main_call2_v0 main_v37 (maximumf : (⟨S2048x128, .f32⟩ : BufTy).Contents (Elt F) → (⟨S2048x128, .f32⟩ : BufTy).Contents (Elt F) → (⟨S2048x128, .f32⟩ : BufTy).Contents (Elt F)) ]

theorem pre5_sub : (pre5 (F := F)).Forall fun op => op.bufs ⊆ StableHlo.tcRefs τ sig :=
  ⟨StableHlo.nullary_bufs_sub .., StableHlo.unary_bufs_sub .., StableHlo.binary_bufs_sub ..⟩

theorem pre5_fresh : (pre5 (F := F)).Forall fun op => op.fresh = ∅ := StableHlo.forall_fresh_of_map rfl

/-- What the operations of `pre5` write, in order. -/
abbrev pre5_W : List (Ref sig .tc) := [main_call2_cst, main_call2_v0, main_v37]

theorem pre5_writes : (pre5 (F := F)).Forall fun op => op.writes ⊆ (pre5_W.map (Proc.devRef (τ := τ) .tc)).toFinset :=
  StableHlo.forall_writes_sub_of_map rfl

/-- The stretch before the first loop. -/
def pre6 : List (HloOp τ sig (Elt F)) :=
  [ StableHlo.nullary main_c (constantI S_ 32 0#32),
    StableHlo.unary main_c main_v38 (broadcastInDim S8 ![] bcast_S_S8 : (⟨S_, .i32⟩ : BufTy).Contents (Elt F) → (⟨S8, .i32⟩ : BufTy).Contents (Elt F)),
    StableHlo.nullary main_c_3 (constantI S_ 32 0#32) ]

theorem pre6_sub : (pre6 (F := F)).Forall fun op => op.bufs ⊆ StableHlo.tcRefs τ sig :=
  ⟨StableHlo.nullary_bufs_sub .., StableHlo.unary_bufs_sub .., StableHlo.nullary_bufs_sub ..⟩

theorem pre6_fresh : (pre6 (F := F)).Forall fun op => op.fresh = ∅ := StableHlo.forall_fresh_of_map rfl

/-- What the operations of `pre6` write, in order. -/
abbrev pre6_W : List (Ref sig .tc) := [main_c, main_v38, main_c_3]

theorem pre6_writes : (pre6 (F := F)).Forall fun op => op.writes ⊆ (pre6_W.map (Proc.devRef (τ := τ) .tc)).toFinset :=
  StableHlo.forall_writes_sub_of_map rfl

/-- The stretch before the first loop (a call of a function of the program). -/
def pre7 : List (HloOp τ sig (Elt F)) :=
  [ StableHlo.unary main_c_3 main_call3_v0 (id : (⟨S_, .i32⟩ : BufTy).Contents (Elt F) → (⟨S_, .i32⟩ : BufTy).Contents (Elt F)),
    StableHlo.unary main_call3_v0 main_call3_v1 ((broadcastInDim S2048 ![] bcast_S_S2048) : (⟨S_, .i32⟩ : BufTy).Contents (Elt F) → (⟨S2048, .i32⟩ : BufTy).Contents (Elt F)),
    StableHlo.binary main_call3_v1 main_v1 main_v39 (maxsi : (⟨S2048, .i32⟩ : BufTy).Contents (Elt F) → (⟨S2048, .i32⟩ : BufTy).Contents (Elt F) → (⟨S2048, .i32⟩ : BufTy).Contents (Elt F)) ]

theorem pre7_sub : (pre7 (F := F)).Forall fun op => op.bufs ⊆ StableHlo.tcRefs τ sig :=
  ⟨StableHlo.unary_bufs_sub .., StableHlo.unary_bufs_sub .., StableHlo.binary_bufs_sub ..⟩

theorem pre7_fresh : (pre7 (F := F)).Forall fun op => op.fresh = ∅ := StableHlo.forall_fresh_of_map rfl

/-- What the operations of `pre7` write, in order. -/
abbrev pre7_W : List (Ref sig .tc) := [main_call3_v0, main_call3_v1, main_v39]

theorem pre7_writes : (pre7 (F := F)).Forall fun op => op.writes ⊆ (pre7_W.map (Proc.devRef (τ := τ) .tc)).toFinset :=
  StableHlo.forall_writes_sub_of_map rfl

/-- The stretch before the first loop. -/
def pre8 : List (HloOp τ sig (Elt F)) :=
  [ StableHlo.nullary main_c_4 (constantI S_ 32 0#32),
    StableHlo.unary main_c_4 main_v40 (broadcastInDim S2048 ![] bcast_S_S2048 : (⟨S_, .i32⟩ : BufTy).Contents (Elt F) → (⟨S2048, .i32⟩ : BufTy).Contents (Elt F)),
    StableHlo.binary main_v39 main_v40 main_v41 (cmpi .slt : (⟨S2048, .i32⟩ : BufTy).Contents (Elt F) → (⟨S2048, .i32⟩ : BufTy).Contents (Elt F) → (⟨S2048, .i1⟩ : BufTy).Contents (Elt F)),
    StableHlo.nullary main_c_5 (constantI S_ 32 8#32),
    StableHlo.unary main_c_5 main_v42 (broadcastInDim S2048 ![] bcast_S_S2048 : (⟨S_, .i32⟩ : BufTy).Contents (Elt F) → (⟨S2048, .i32⟩ : BufTy).Contents (Elt F)),
    StableHlo.binary main_v39 main_v42 main_v43 (addi : (⟨S2048, .i32⟩ : BufTy).Contents (Elt F) → (⟨S2048, .i32⟩ : BufTy).Contents (Elt F) → (⟨S2048, .i32⟩ : BufTy).Contents (Elt F)),
    StableHlo.ternary main_v41 main_v43 main_v39 main_v44 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v44 main_v45 (broadcastInDim S2048x1 ![0] bcast_S2048_S2048x1_0 : (⟨S2048, .i32⟩ : BufTy).Contents (Elt F) → (⟨S2048x1, .i32⟩ : BufTy).Contents (Elt F)),
    StableHlo.nullary main_c_6 (constantI S_ 32 1#32),
    StableHlo.unary main_c_6 main_v46 (broadcastInDim S2048 ![] bcast_S_S2048 : (⟨S_, .i32⟩ : BufTy).Contents (Elt F) → (⟨S2048, .i32⟩ : BufTy).Contents (Elt F)),
    StableHlo.ternary main_v38 main_v45 main_v46 main_v47 ((fun x i u => Host.scatter scatter_S8_S2048x1_S2048_n_0_0_1 IntOp.addi x i u) : (⟨S8, .i32⟩ : BufTy).Contents (Elt F) → (⟨S2048x1, .i32⟩ : BufTy).Contents (Elt F) → (⟨S2048, .i32⟩ : BufTy).Contents (Elt F) → (⟨S8, .i32⟩ : BufTy).Contents (Elt F)),
    StableHlo.nullary main_c_7 (constantI S_ 32 0#32),
    StableHlo.unary main_c_7 main_v48 (broadcastInDim S1 ![] bcast_S_S1 : (⟨S_, .i32⟩ : BufTy).Contents (Elt F) → (⟨S1, .i32⟩ : BufTy).Contents (Elt F)) ]

theorem pre8_sub : (pre8 (F := F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.unary_bufs_sub ..⟩

theorem pre8_fresh : (pre8 (F := F)).Forall fun op => op.fresh = ∅ := StableHlo.forall_fresh_of_map rfl

/-- What the operations of `pre8` write, in order. -/
abbrev pre8_W : List (Ref sig .tc) := [main_c_4, main_v40, main_v41, main_c_5, main_v42, main_v43, main_v44, main_v45, main_c_6, main_v46, main_v47, main_c_7, main_v48]

theorem pre8_writes : (pre8 (F := F)).Forall fun op => op.writes ⊆ (pre8_W.map (Proc.devRef (τ := τ) .tc)).toFinset :=
  StableHlo.forall_writes_sub_of_map rfl

/-- The stretch before the first loop (a call of a function of the program). -/
def pre9 : List (HloOp τ sig (Elt F)) :=
  [ StableHlo.nullary main_call4_call0_c (constantI S_ 32 0#32),
    StableHlo.unary main_call4_call0_c main_call4_call0_v0 ((broadcastInDim S_ ![] bcast_S_S_) : (⟨S_, .i32⟩ : BufTy).Contents (Elt F) → (⟨S_, .i32⟩ : BufTy).Contents (Elt F)),
    StableHlo.binary main_v47 main_call4_call0_v0 main_v49 ((fun x v => Host.reduceWindow IntOp.addi ![8] ![1] ![7] ![0] x v reduceWindows_S8_S8_w8s1p7_0 h_S_) : (⟨S8, .i32⟩ : BufTy).Contents (Elt F) → (⟨S_, .i32⟩ : BufTy).Contents (Elt F) → (⟨S8, .i32⟩ : BufTy).Contents (Elt F)) ]

theorem pre9_sub : (pre9 (F := F)).Forall fun op => op.bufs ⊆ StableHlo.tcRefs τ sig :=
  ⟨StableHlo.nullary_bufs_sub .., StableHlo.unary_bufs_sub .., StableHlo.binary_bufs_sub ..⟩

theorem pre9_fresh : (pre9 (F := F)).Forall fun op => op.fresh = ∅ := StableHlo.forall_fresh_of_map rfl

/-- What the operations of `pre9` write, in order. -/
abbrev pre9_W : List (Ref sig .tc) := [main_call4_call0_c, main_call4_call0_v0, main_v49]

theorem pre9_writes : (pre9 (F := F)).Forall fun op => op.writes ⊆ (pre9_W.map (Proc.devRef (τ := τ) .tc)).toFinset :=
  StableHlo.forall_writes_sub_of_map rfl

/-- The stretch before the first loop. -/
def pre10 : List (HloOp τ sig (Elt F)) :=
  [ StableHlo.unary main_v49 main_v50 ((extractStridedSlice S7 ![0] · slices_S8_S7_0) : (⟨S8, .i32⟩ : BufTy).Contents (Elt F) → (⟨S7, .i32⟩ : BufTy).Contents (Elt F)),
    StableHlo.binary main_v48 main_v50 main_v51 ((fun a b => concatenate S8 0 [⟨S1, a⟩, ⟨S7, b⟩] concatenates_S1_S7_S8_d0) : (⟨S1, .i32⟩ : BufTy).Contents (Elt F) → (⟨S7, .i32⟩ : BufTy).Contents (Elt F) → (⟨S8, .i32⟩ : BufTy).Contents (Elt F)),
    StableHlo.nullary main_v52 (iotaInDim S2048 32 0),
    StableHlo.nullary main_c_8 (constantI S_ 32 0#32),
    StableHlo.unary main_c_8 main_v53 (broadcastInDim S2048 ![] bcast_S_S2048 : (⟨S_, .i32⟩ : BufTy).Contents (Elt F) → (⟨S2048, .i32⟩ : BufTy).Contents (Elt F)),
    StableHlo.binary main_v1 main_v53 main_v54 (cmpi .slt : (⟨S2048, .i32⟩ : BufTy).Contents (Elt F) → (⟨S2048, .i32⟩ : BufTy).Contents (Elt F) → (⟨S2048, .i1⟩ : BufTy).Contents (Elt F)),
    StableHlo.nullary main_c_9 (constantI S_ 32 8#32),
    StableHlo.unary main_c_9 main_v55 (broadcastInDim S2048 ![] bcast_S_S2048 : (⟨S_, .i32⟩ : BufTy).Contents (Elt F) → (⟨S2048, .i32⟩ : BufTy).Contents (Elt F)),
    StableHlo.binary main_v1 main_v55 main_v56 (addi : (⟨S2048, .i32⟩ : BufTy).Contents (Elt F) → (⟨S2048, .i32⟩ : BufTy).Contents (Elt F) → (⟨S2048, .i32⟩ : BufTy).Contents (Elt F)),
    StableHlo.ternary main_v54 main_v56 main_v1 main_v57 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    StableHlo.unary main_v57 main_v58 (broadcastInDim S2048x1 ![0] bcast_S2048_S2048x1_0 : (⟨S2048, .i32⟩ : BufTy).Contents (Elt F) → (⟨S2048x1, .i32⟩ : BufTy).Contents (Elt F)),
    StableHlo.binary main_v51 main_v58 main_v59 ((fun x i => Host.gather gather_S8_S2048x1_S2048_n_0_n_n_0_1_1 x i) : (⟨S8, .i32⟩ : BufTy).Contents (Elt F) → (⟨S2048x1, .i32⟩ : BufTy).Contents (Elt F) → (⟨S2048, .i32⟩ : BufTy).Contents (Elt F)),
    StableHlo.binary main_v52 main_v59 main_v60 (subi : (⟨S2048, .i32⟩ : BufTy).Contents (Elt F) → (⟨S2048, .i32⟩ : BufTy).Contents (Elt F) → (⟨S2048, .i32⟩ : BufTy).Contents (Elt F)) ]

theorem pre10_sub : (pre10 (F := F)).Forall fun op => op.bufs ⊆ StableHlo.tcRefs τ sig :=
  ⟨StableHlo.unary_bufs_sub .., StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

theorem pre10_fresh : (pre10 (F := F)).Forall fun op => op.fresh = ∅ := StableHlo.forall_fresh_of_map rfl

/-- What the operations of `pre10` write, in order. -/
abbrev pre10_W : List (Ref sig .tc) := [main_v50, main_v51, main_v52, main_c_8, main_v53, main_v54, main_c_9, main_v55, main_v56, main_v57, main_v58, main_v59, main_v60]

theorem pre10_writes : (pre10 (F := F)).Forall fun op => op.writes ⊆ (pre10_W.map (Proc.devRef (τ := τ) .tc)).toFinset :=
  StableHlo.forall_writes_sub_of_map rfl

/-- The stretch before the first loop. -/
def pre11 : List (HloOp τ sig (Elt F)) :=
  ( StableHlo.nullary main_cst_10 (constant S_ .f32 0x00000000#32)
  :: StableHlo.unary main_cst_10 main_v61 (broadcastInDim S8x512x128 ![] bcast_S_S8x512x128 : (⟨S_, .f32⟩ : BufTy).Contents (Elt F) → (⟨S8x512x128, .f32⟩ : BufTy).Contents (Elt F))
  :: StableHlo.nullary main_c_11 (constantI S_ 32 0#32)
  :: StableHlo.unary main_c_11 main_v62 (broadcastInDim S2048 ![] bcast_S_S2048 : (⟨S_, .i32⟩ : BufTy).Contents (Elt F) → (⟨S2048, .i32⟩ : BufTy).Contents (Elt F))
  :: StableHlo.binary main_v1 main_v62 main_v63 (cmpi .slt : (⟨S2048, .i32⟩ : BufTy).Contents (Elt F) → (⟨S2048, .i32⟩ : BufTy).Contents (Elt F) → (⟨S2048, .i1⟩ : BufTy).Contents (Elt F))
  :: StableHlo.nullary main_c_12 (constantI S_ 32 8#32)
  :: StableHlo.unary main_c_12 main_v64 (broadcastInDim S2048 ![] bcast_S_S2048 : (⟨S_, .i32⟩ : BufTy).Contents (Elt F) → (⟨S2048, .i32⟩ : BufTy).Contents (Elt F))
  :: StableHlo.binary main_v1 main_v64 main_v65 (addi : (⟨S2048, .i32⟩ : BufTy).Contents (Elt F) → (⟨S2048, .i32⟩ : BufTy).Contents (Elt F) → (⟨S2048, .i32⟩ : BufTy).Contents (Elt F))
  :: StableHlo.ternary main_v63 main_v65 main_v1 main_v66 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.nullary main_c_13 (constantI S_ 32 0#32)
  :: StableHlo.unary main_c_13 main_v67 (broadcastInDim S2048 ![] bcast_S_S2048 : (⟨S_, .i32⟩ : BufTy).Contents (Elt F) → (⟨S2048, .i32⟩ : BufTy).Contents (Elt F))
  :: StableHlo.binary main_v60 main_v67 main_v68 (cmpi .slt : (⟨S2048, .i32⟩ : BufTy).Contents (Elt F) → (⟨S2048, .i32⟩ : BufTy).Contents (Elt F) → (⟨S2048, .i1⟩ : BufTy).Contents (Elt F))
  :: StableHlo.nullary main_c_14 (constantI S_ 32 512#32)
  :: StableHlo.unary main_c_14 main_v69 (broadcastInDim S2048 ![] bcast_S_S2048 : (⟨S_, .i32⟩ : BufTy).Contents (Elt F) → (⟨S2048, .i32⟩ : BufTy).Contents (Elt F))
  :: StableHlo.binary main_v60 main_v69 main_v70 (addi : (⟨S2048, .i32⟩ : BufTy).Contents (Elt F) → (⟨S2048, .i32⟩ : BufTy).Contents (Elt F) → (⟨S2048, .i32⟩ : BufTy).Contents (Elt F))
  :: StableHlo.ternary main_v68 main_v70 main_v60 main_v71 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v66 main_v72 (broadcastInDim S2048x1 ![0] bcast_S2048_S2048x1_0 : (⟨S2048, .i32⟩ : BufTy).Contents (Elt F) → (⟨S2048x1, .i32⟩ : BufTy).Contents (Elt F))
  :: StableHlo.unary main_v71 main_v73 (broadcastInDim S2048x1 ![0] bcast_S2048_S2048x1_0 : (⟨S2048, .i32⟩ : BufTy).Contents (Elt F) → (⟨S2048x1, .i32⟩ : BufTy).Contents (Elt F))
  :: StableHlo.binary main_v72 main_v73 main_v74 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F))
  :: StableHlo.ternary main_v61 main_v74 main_v37 main_v75 ((fun x i u => Host.scatter scatter_S8x512x128_S2048x2_S2048x128_1_01_01_1 (fun _ b => b) x i u) : (⟨S8x512x128, .f32⟩ : BufTy).Contents (Elt F) → (⟨S2048x2, .i32⟩ : BufTy).Contents (Elt F) → (⟨S2048x128, .f32⟩ : BufTy).Contents (Elt F) → (⟨S8x512x128, .f32⟩ : BufTy).Contents (Elt F))
  :: StableHlo.unary main_v75 main_v76 ((transpose S512x8x128 [1, 0, 2] · transposes_S8x512x128_S512x8x128_1_0_2) : (⟨S8x512x128, .f32⟩ : BufTy).Contents (Elt F) → (⟨S512x8x128, .f32⟩ : BufTy).Contents (Elt F))
  :: StableHlo.nullary main_cst_15 (constant S_ .f32 0x00000000#32)
  :: StableHlo.unary main_cst_15 main_v77 (broadcastInDim S8x128 ![] bcast_S_S8x128 : (⟨S_, .f32⟩ : BufTy).Contents (Elt F) → (⟨S8x128, .f32⟩ : BufTy).Contents (Elt F))
  :: StableHlo.nullary main_cst_16 (constant S_ .f32 0x00000000#32)
  :: StableHlo.unary main_cst_16 main_v78 (broadcastInDim S512x8x128 ![] bcast_S_S512x8x128 : (⟨S_, .f32⟩ : BufTy).Contents (Elt F) → (⟨S512x8x128, .f32⟩ : BufTy).Contents (Elt F))
  :: StableHlo.nullary main_c_17 (constantI S_ 32 0#32)
  :: [] )

theorem pre11_sub : (pre11 (F := F)).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.unary_bufs_sub .., StableHlo.nullary_bufs_sub .., StableHlo.unary_bufs_sub .., StableHlo.nullary_bufs_sub .., StableHlo.unary_bufs_sub .., StableHlo.nullary_bufs_sub ..⟩

theorem pre11_fresh : (pre11 (F := F)).Forall fun op => op.fresh = ∅ := StableHlo.forall_fresh_of_map rfl

/-- What the operations of `pre11` write, in order. -/
abbrev pre11_W : List (Ref sig .tc) := [main_cst_10, main_v61, main_c_11, main_v62, main_v63, main_c_12, main_v64, main_v65, main_v66, main_c_13, main_v67, main_v68, main_c_14, main_v69, main_v70, main_v71, main_v72, main_v73, main_v74, main_v75, main_v76, main_cst_15, main_v77, main_cst_16, main_v78, main_c_17]

theorem pre11_writes : (pre11 (F := F)).Forall fun op => op.writes ⊆ (pre11_W.map (Proc.devRef (τ := τ) .tc)).toFinset :=
  StableHlo.forall_writes_sub_of_map rfl

/-- The stretch before the first loop. -/
def pre12 : List (HloOp τ sig (Elt F)) :=
  [ StableHlo.unary main_v76 main_v79_0 id,
    StableHlo.unary main_arg8 main_v79_1 id,
    StableHlo.unary main_arg10 main_v79_2 id,
    StableHlo.unary main_arg9 main_v79_3 id,
    StableHlo.unary main_arg11 main_v79_4 id,
    StableHlo.unary main_c_17 main_v79_5 id,
    StableHlo.unary main_v77 main_v79_6 id,
    StableHlo.unary main_v78 main_v79_7 id ]

theorem pre12_sub : (pre12 (F := F)).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem pre12_fresh : (pre12 (F := F)).Forall fun op => op.fresh = ∅ := StableHlo.forall_fresh_of_map rfl

/-- What the operations of `pre12` write, in order. -/
abbrev pre12_W : List (Ref sig .tc) := [main_v79_0, main_v79_1, main_v79_2, main_v79_3, main_v79_4, main_v79_5, main_v79_6, main_v79_7]

theorem pre12_writes : (pre12 (F := F)).Forall fun op => op.writes ⊆ (pre12_W.map (Proc.devRef (τ := τ) .tc)).toFinset :=
  StableHlo.forall_writes_sub_of_map rfl

/-- The stretch between the two loops. -/
def mid0 : List (HloOp τ sig (Elt F)) :=
  [ StableHlo.nullary main_cst_18 (constant S_ .f32 0x00000000#32),
    StableHlo.unary main_cst_18 main_v80 (broadcastInDim S8x128 ![] bcast_S_S8x128 : (⟨S_, .f32⟩ : BufTy).Contents (Elt F) → (⟨S8x128, .f32⟩ : BufTy).Contents (Elt F)),
    StableHlo.nullary main_cst_19 (constant S_ .f32 0x00000000#32),
    StableHlo.unary main_cst_19 main_v81 (broadcastInDim S512x8x128 ![] bcast_S_S512x8x128 : (⟨S_, .f32⟩ : BufTy).Contents (Elt F) → (⟨S512x8x128, .f32⟩ : BufTy).Contents (Elt F)),
    StableHlo.nullary main_c_20 (constantI S_ 32 0#32),
    StableHlo.unary main_v79_7 main_v82_0 id,
    StableHlo.unary main_arg12 main_v82_1 id,
    StableHlo.unary main_arg14 main_v82_2 id,
    StableHlo.unary main_arg13 main_v82_3 id,
    StableHlo.unary main_arg15 main_v82_4 id,
    StableHlo.unary main_c_20 main_v82_5 id,
    StableHlo.unary main_v80 main_v82_6 id ]

theorem mid0_sub : (mid0 (F := F)).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

theorem mid0_fresh : (mid0 (F := F)).Forall fun op => op.fresh = ∅ := StableHlo.forall_fresh_of_map rfl

/-- What the operations of `mid0` write, in order. -/
abbrev mid0_W : List (Ref sig .tc) := [main_cst_18, main_v80, main_cst_19, main_v81, main_c_20, main_v82_0, main_v82_1, main_v82_2, main_v82_3, main_v82_4, main_v82_5, main_v82_6]

theorem mid0_writes : (mid0 (F := F)).Forall fun op => op.writes ⊆ (mid0_W.map (Proc.devRef (τ := τ) .tc)).toFinset :=
  StableHlo.forall_writes_sub_of_map rfl

/-- The stretch between the two loops. -/
def mid1 : List (HloOp τ sig (Elt F)) :=
  [ StableHlo.unary main_v81 main_v82_7 id ]

theorem mid1_sub : (mid1 (F := F)).Forall fun op => op.bufs ⊆ StableHlo.tcRefs τ sig :=
  StableHlo.unary_bufs_sub ..

theorem mid1_fresh : (mid1 (F := F)).Forall fun op => op.fresh = ∅ := StableHlo.forall_fresh_of_map rfl

/-- What the operations of `mid1` write, in order. -/
abbrev mid1_W : List (Ref sig .tc) := [main_v82_7]

theorem mid1_writes : (mid1 (F := F)).Forall fun op => op.writes ⊆ (mid1_W.map (Proc.devRef (τ := τ) .tc)).toFinset :=
  StableHlo.forall_writes_sub_of_map rfl

/-- The stretch after the second loop. -/
def post0 : List (HloOp τ sig (Elt F)) :=
  ( StableHlo.nullary main_c_21 (constantI S_ 32 0#32)
  :: StableHlo.unary main_c_21 main_v83 (broadcastInDim S2048 ![] bcast_S_S2048 : (⟨S_, .i32⟩ : BufTy).Contents (Elt F) → (⟨S2048, .i32⟩ : BufTy).Contents (Elt F))
  :: StableHlo.binary main_v60 main_v83 main_v84 (cmpi .slt : (⟨S2048, .i32⟩ : BufTy).Contents (Elt F) → (⟨S2048, .i32⟩ : BufTy).Contents (Elt F) → (⟨S2048, .i1⟩ : BufTy).Contents (Elt F))
  :: StableHlo.nullary main_c_22 (constantI S_ 32 512#32)
  :: StableHlo.unary main_c_22 main_v85 (broadcastInDim S2048 ![] bcast_S_S2048 : (⟨S_, .i32⟩ : BufTy).Contents (Elt F) → (⟨S2048, .i32⟩ : BufTy).Contents (Elt F))
  :: StableHlo.binary main_v60 main_v85 main_v86 (addi : (⟨S2048, .i32⟩ : BufTy).Contents (Elt F) → (⟨S2048, .i32⟩ : BufTy).Contents (Elt F) → (⟨S2048, .i32⟩ : BufTy).Contents (Elt F))
  :: StableHlo.ternary main_v84 main_v86 main_v60 main_v87 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.nullary main_c_23 (constantI S_ 32 0#32)
  :: StableHlo.unary main_c_23 main_v88 (broadcastInDim S2048 ![] bcast_S_S2048 : (⟨S_, .i32⟩ : BufTy).Contents (Elt F) → (⟨S2048, .i32⟩ : BufTy).Contents (Elt F))
  :: StableHlo.binary main_v1 main_v88 main_v89 (cmpi .slt : (⟨S2048, .i32⟩ : BufTy).Contents (Elt F) → (⟨S2048, .i32⟩ : BufTy).Contents (Elt F) → (⟨S2048, .i1⟩ : BufTy).Contents (Elt F))
  :: StableHlo.nullary main_c_24 (constantI S_ 32 8#32)
  :: StableHlo.unary main_c_24 main_v90 (broadcastInDim S2048 ![] bcast_S_S2048 : (⟨S_, .i32⟩ : BufTy).Contents (Elt F) → (⟨S2048, .i32⟩ : BufTy).Contents (Elt F))
  :: StableHlo.binary main_v1 main_v90 main_v91 (addi : (⟨S2048, .i32⟩ : BufTy).Contents (Elt F) → (⟨S2048, .i32⟩ : BufTy).Contents (Elt F) → (⟨S2048, .i32⟩ : BufTy).Contents (Elt F))
  :: StableHlo.ternary main_v89 main_v91 main_v1 main_v92 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v87 main_v93 (broadcastInDim S2048x1 ![0] bcast_S2048_S2048x1_0 : (⟨S2048, .i32⟩ : BufTy).Contents (Elt F) → (⟨S2048x1, .i32⟩ : BufTy).Contents (Elt F))
  :: StableHlo.unary main_v92 main_v94 (broadcastInDim S2048x1 ![0] bcast_S2048_S2048x1_0 : (⟨S2048, .i32⟩ : BufTy).Contents (Elt F) → (⟨S2048x1, .i32⟩ : BufTy).Contents (Elt F))
  :: StableHlo.binary main_v93 main_v94 main_v95 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F))
  :: [] )

theorem post0_sub : (post0 (F := F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub ..⟩

theorem post0_fresh : (post0 (F := F)).Forall fun op => op.fresh = ∅ := StableHlo.forall_fresh_of_map rfl

/-- What the operations of `post0` write, in order. -/
abbrev post0_W : List (Ref sig .tc) := [main_c_21, main_v83, main_v84, main_c_22, main_v85, main_v86, main_v87, main_c_23, main_v88, main_v89, main_c_24, main_v90, main_v91, main_v92, main_v93, main_v94, main_v95]

theorem post0_writes : (post0 (F := F)).Forall fun op => op.writes ⊆ (post0_W.map (Proc.devRef (τ := τ) .tc)).toFinset :=
  StableHlo.forall_writes_sub_of_map rfl

/-- The stretch after the second loop. -/
def post1 : List (HloOp τ sig (Elt F)) :=
  [ StableHlo.binary main_v82_7 main_v95 main_v96 ((fun x i => Host.gather gather_S512x8x128_S2048x2_S2048x128_1_01_n_n_01_1_11128 x i) : (⟨S512x8x128, .f32⟩ : BufTy).Contents (Elt F) → (⟨S2048x2, .i32⟩ : BufTy).Contents (Elt F) → (⟨S2048x128, .f32⟩ : BufTy).Contents (Elt F)),
    StableHlo.unary main_arg16 main_v97 ((transpose S128x2 [1, 0] · transposes_S2x128_S128x2_1_0) : (⟨S2x128, .f32⟩ : BufTy).Contents (Elt F) → (⟨S128x2, .f32⟩ : BufTy).Contents (Elt F)),
    StableHlo.binary main_v96 main_v97 main_v98 ((fun l r => Host.dotGeneral dot_S2048x128_S128x2_S2048x2_1_0_0_1_n_n none l r) : (⟨S2048x128, .f32⟩ : BufTy).Contents (Elt F) → (⟨S128x2, .f32⟩ : BufTy).Contents (Elt F) → (⟨S2048x2, .f32⟩ : BufTy).Contents (Elt F)),
    StableHlo.unary main_arg17 main_v99 (broadcastInDim S1x2 ![1] bcast_S2_S1x2_1 : (⟨S2, .f32⟩ : BufTy).Contents (Elt F) → (⟨S1x2, .f32⟩ : BufTy).Contents (Elt F)),
    StableHlo.unary main_v99 main_v100 (broadcastInDim S2048x2 ![0, 1] bcast_S1x2_S2048x2_0_1 : (⟨S1x2, .f32⟩ : BufTy).Contents (Elt F) → (⟨S2048x2, .f32⟩ : BufTy).Contents (Elt F)),
    StableHlo.binary main_v98 main_v100 main_v101 (addf : (⟨S2048x2, .f32⟩ : BufTy).Contents (Elt F) → (⟨S2048x2, .f32⟩ : BufTy).Contents (Elt F) → (⟨S2048x2, .f32⟩ : BufTy).Contents (Elt F)) ]

theorem post1_sub : (post1 (F := F)).Forall fun op => op.bufs ⊆ StableHlo.tcRefs τ sig :=
  ⟨StableHlo.binary_bufs_sub .., StableHlo.unary_bufs_sub .., StableHlo.binary_bufs_sub .., StableHlo.unary_bufs_sub .., StableHlo.unary_bufs_sub .., StableHlo.binary_bufs_sub ..⟩

theorem post1_fresh : (post1 (F := F)).Forall fun op => op.fresh = ∅ := StableHlo.forall_fresh_of_map rfl

/-- What the operations of `post1` write, in order. -/
abbrev post1_W : List (Ref sig .tc) := [main_v96, main_v97, main_v98, main_v99, main_v100, main_v101]

theorem post1_writes : (post1 (F := F)).Forall fun op => op.writes ⊆ (post1_W.map (Proc.devRef (τ := τ) .tc)).toFinset :=
  StableHlo.forall_writes_sub_of_map rfl

/-- A stretch of the first loop's body (a call of a function of the program). -/
def first0 : List (HloOp τ sig (Elt F)) :=
  [ StableHlo.nullary main_while0b_call5_c (constantI S_ 32 0#32),
    StableHlo.nullary main_while0b_call5_c_0 (constantI S_ 32 0#32),
    StableHlo.TRef.unaryIndexed (.of main_v79_0 : StableHlo.TRef sig ⟨S512x8x128, .f32⟩) ![(.of main_v79_5 : StableHlo.TRef sig ⟨S_, .i32⟩), (.of main_while0b_call5_c : StableHlo.TRef sig ⟨S_, .i32⟩), (.of main_while0b_call5_c_0 : StableHlo.TRef sig ⟨S_, .i32⟩)] (.of main_while0b_call5_v0 : StableHlo.TRef sig ⟨S1x8x128, .f32⟩) (fun x i => Host.dynamicSlice S1x8x128 x (fun k => (i k (Shape.Idx.first h_S_)).toInt) sliceFits_S512x8x128_S1x8x128),
    StableHlo.reshape main_while0b_call5_v0 main_while0b_v102 (rfl : (.f32 : EltTy) = .f32) shapeCasts_S1x8x128_S8x128 ]

theorem first0_sub : (first0 (F := F)).Forall fun op => op.bufs ⊆ StableHlo.tcRefs τ sig :=
  ⟨StableHlo.nullary_bufs_sub .., StableHlo.nullary_bufs_sub .., StableHlo.unaryIndexed_bufs_sub .., StableHlo.reshape_bufs_sub ..⟩

theorem first0_fresh : (first0 (F := F)).Forall fun op => op.fresh = ∅ := StableHlo.forall_fresh_of_map rfl

/-- What the operations of `first0` write, in order. -/
abbrev first0_W : List (Ref sig .tc) := [main_while0b_call5_c, main_while0b_call5_c_0, main_while0b_call5_v0, main_while0b_v102]

theorem first0_writes : (first0 (F := F)).Forall fun op => op.writes ⊆ (first0_W.map (Proc.devRef (τ := τ) .tc)).toFinset :=
  StableHlo.forall_writes_sub_of_map rfl

/-- A stretch of the first loop's body. -/
def first1 : List (HloOp τ sig (Elt F)) :=
  ( StableHlo.unary main_v79_1 main_while0b_v103 ((transpose S128x384 [1, 0] · transposes_S384x128_S128x384_1_0) : (⟨S384x128, .f32⟩ : BufTy).Contents (Elt F) → (⟨S128x384, .f32⟩ : BufTy).Contents (Elt F))
  :: StableHlo.binary main_while0b_v102 main_while0b_v103 main_while0b_v104 ((fun l r => Host.dotGeneral dot_S8x128_S128x384_S8x384_1_0_0_1_n_n none l r) : (⟨S8x128, .f32⟩ : BufTy).Contents (Elt F) → (⟨S128x384, .f32⟩ : BufTy).Contents (Elt F) → (⟨S8x384, .f32⟩ : BufTy).Contents (Elt F))
  :: StableHlo.unary main_v79_2 main_while0b_v105 (broadcastInDim S1x384 ![1] bcast_S384_S1x384_1 : (⟨S384, .f32⟩ : BufTy).Contents (Elt F) → (⟨S1x384, .f32⟩ : BufTy).Contents (Elt F))
  :: StableHlo.unary main_while0b_v105 main_while0b_v106 (broadcastInDim S8x384 ![0, 1] bcast_S1x384_S8x384_0_1 : (⟨S1x384, .f32⟩ : BufTy).Contents (Elt F) → (⟨S8x384, .f32⟩ : BufTy).Contents (Elt F))
  :: StableHlo.binary main_while0b_v104 main_while0b_v106 main_while0b_v107 (addf : (⟨S8x384, .f32⟩ : BufTy).Contents (Elt F) → (⟨S8x384, .f32⟩ : BufTy).Contents (Elt F) → (⟨S8x384, .f32⟩ : BufTy).Contents (Elt F))
  :: StableHlo.unary main_v79_3 main_while0b_v108 ((transpose S128x384 [1, 0] · transposes_S384x128_S128x384_1_0) : (⟨S384x128, .f32⟩ : BufTy).Contents (Elt F) → (⟨S128x384, .f32⟩ : BufTy).Contents (Elt F))
  :: StableHlo.binary main_v79_6 main_while0b_v108 main_while0b_v109 ((fun l r => Host.dotGeneral dot_S8x128_S128x384_S8x384_1_0_0_1_n_n none l r) : (⟨S8x128, .f32⟩ : BufTy).Contents (Elt F) → (⟨S128x384, .f32⟩ : BufTy).Contents (Elt F) → (⟨S8x384, .f32⟩ : BufTy).Contents (Elt F))
  :: StableHlo.unary main_v79_4 main_while0b_v110 (broadcastInDim S1x384 ![1] bcast_S384_S1x384_1 : (⟨S384, .f32⟩ : BufTy).Contents (Elt F) → (⟨S1x384, .f32⟩ : BufTy).Contents (Elt F))
  :: StableHlo.unary main_while0b_v110 main_while0b_v111 (broadcastInDim S8x384 ![0, 1] bcast_S1x384_S8x384_0_1 : (⟨S1x384, .f32⟩ : BufTy).Contents (Elt F) → (⟨S8x384, .f32⟩ : BufTy).Contents (Elt F))
  :: StableHlo.binary main_while0b_v109 main_while0b_v111 main_while0b_v112 (addf : (⟨S8x384, .f32⟩ : BufTy).Contents (Elt F) → (⟨S8x384, .f32⟩ : BufTy).Contents (Elt F) → (⟨S8x384, .f32⟩ : BufTy).Contents (Elt F))
  :: StableHlo.unary main_while0b_v107 main_while0b_v113 ((extractStridedSlice S8x128 ![0, 0] · slices_S8x384_S8x128_0_0) : (⟨S8x384, .f32⟩ : BufTy).Contents (Elt F) → (⟨S8x128, .f32⟩ : BufTy).Contents (Elt F))
  :: StableHlo.unary main_while0b_v107 main_while0b_v114 ((extractStridedSlice S8x128 ![0, 128] · slices_S8x384_S8x128_0_128) : (⟨S8x384, .f32⟩ : BufTy).Contents (Elt F) → (⟨S8x128, .f32⟩ : BufTy).Contents (Elt F))
  :: StableHlo.unary main_while0b_v107 main_while0b_v115 ((extractStridedSlice S8x128 ![0, 256] · slices_S8x384_S8x128_0_256) : (⟨S8x384, .f32⟩ : BufTy).Contents (Elt F) → (⟨S8x128, .f32⟩ : BufTy).Contents (Elt F))
  :: StableHlo.unary main_while0b_v112 main_while0b_v116 ((extractStridedSlice S8x128 ![0, 0] · slices_S8x384_S8x128_0_0) : (⟨S8x384, .f32⟩ : BufTy).Contents (Elt F) → (⟨S8x128, .f32⟩ : BufTy).Contents (Elt F))
  :: StableHlo.unary main_while0b_v112 main_while0b_v117 ((extractStridedSlice S8x128 ![0, 128] · slices_S8x384_S8x128_0_128) : (⟨S8x384, .f32⟩ : BufTy).Contents (Elt F) → (⟨S8x128, .f32⟩ : BufTy).Contents (Elt F))
  :: StableHlo.unary main_while0b_v112 main_while0b_v118 ((extractStridedSlice S8x128 ![0, 256] · slices_S8x384_S8x128_0_256) : (⟨S8x384, .f32⟩ : BufTy).Contents (Elt F) → (⟨S8x128, .f32⟩ : BufTy).Contents (Elt F))
  :: StableHlo.binary main_while0b_v113 main_while0b_v116 main_while0b_v119 (addf : (⟨S8x128, .f32⟩ : BufTy).Contents (Elt F) → (⟨S8x128, .f32⟩ : BufTy).Contents (Elt F) → (⟨S8x128, .f32⟩ : BufTy).Contents (Elt F))
  :: StableHlo.unary main_while0b_v119 main_while0b_v120 (Host.negf : (⟨S8x128, .f32⟩ : BufTy).Contents (Elt F) → (⟨S8x128, .f32⟩ : BufTy).Contents (Elt F))
  :: StableHlo.unary main_while0b_v120 main_while0b_v121 (Host.exp : (⟨S8x128, .f32⟩ : BufTy).Contents (Elt F) → (⟨S8x128, .f32⟩ : BufTy).Contents (Elt F))
  :: StableHlo.nullary main_while0b_cst_32 (constant S_ .f32 0x3F800000#32)
  :: StableHlo.unary main_while0b_cst_32 main_while0b_v122 (broadcastInDim S8x128 ![] bcast_S_S8x128 : (⟨S_, .f32⟩ : BufTy).Contents (Elt F) → (⟨S8x128, .f32⟩ : BufTy).Contents (Elt F))
  :: StableHlo.binary main_while0b_v122 main_while0b_v121 main_while0b_v123 (addf : (⟨S8x128, .f32⟩ : BufTy).Contents (Elt F) → (⟨S8x128, .f32⟩ : BufTy).Contents (Elt F) → (⟨S8x128, .f32⟩ : BufTy).Contents (Elt F))
  :: StableHlo.nullary main_while0b_cst_33 (constant S_ .f32 0x3F800000#32)
  :: StableHlo.unary main_while0b_cst_33 main_while0b_v124 (broadcastInDim S8x128 ![] bcast_S_S8x128 : (⟨S_, .f32⟩ : BufTy).Contents (Elt F) → (⟨S8x128, .f32⟩ : BufTy).Contents (Elt F))
  :: StableHlo.binary main_while0b_v124 main_while0b_v123 main_while0b_v125 (Host.divf : (⟨S8x128, .f32⟩ : BufTy).Contents (Elt F) → (⟨S8x128, .f32⟩ : BufTy).Contents (Elt F) → (⟨S8x128, .f32⟩ : BufTy).Contents (Elt F))
  :: StableHlo.binary main_while0b_v114 main_while0b_v117 main_while0b_v126 (addf : (⟨S8x128, .f32⟩ : BufTy).Contents (Elt F) → (⟨S8x128, .f32⟩ : BufTy).Contents (Elt F) → (⟨S8x128, .f32⟩ : BufTy).Contents (Elt F))
  :: StableHlo.unary main_while0b_v126 main_while0b_v127 (Host.negf : (⟨S8x128, .f32⟩ : BufTy).Contents (Elt F) → (⟨S8x128, .f32⟩ : BufTy).Contents (Elt F))
  :: StableHlo.unary main_while0b_v127 main_while0b_v128 (Host.exp : (⟨S8x128, .f32⟩ : BufTy).Contents (Elt F) → (⟨S8x128, .f32⟩ : BufTy).Contents (Elt F))
  :: StableHlo.nullary main_while0b_cst_34 (constant S_ .f32 0x3F800000#32)
  :: StableHlo.unary main_while0b_cst_34 main_while0b_v129 (broadcastInDim S8x128 ![] bcast_S_S8x128 : (⟨S_, .f32⟩ : BufTy).Contents (Elt F) → (⟨S8x128, .f32⟩ : BufTy).Contents (Elt F))
  :: StableHlo.binary main_while0b_v129 main_while0b_v128 main_while0b_v130 (addf : (⟨S8x128, .f32⟩ : BufTy).Contents (Elt F) → (⟨S8x128, .f32⟩ : BufTy).Contents (Elt F) → (⟨S8x128, .f32⟩ : BufTy).Contents (Elt F))
  :: StableHlo.nullary main_while0b_cst_35 (constant S_ .f32 0x3F800000#32)
  :: StableHlo.unary main_while0b_cst_35 main_while0b_v131 (broadcastInDim S8x128 ![] bcast_S_S8x128 : (⟨S_, .f32⟩ : BufTy).Contents (Elt F) → (⟨S8x128, .f32⟩ : BufTy).Contents (Elt F))
  :: StableHlo.binary main_while0b_v131 main_while0b_v130 main_while0b_v132 (Host.divf : (⟨S8x128, .f32⟩ : BufTy).Contents (Elt F) → (⟨S8x128, .f32⟩ : BufTy).Contents (Elt F) → (⟨S8x128, .f32⟩ : BufTy).Contents (Elt F))
  :: StableHlo.binary main_while0b_v125 main_while0b_v118 main_while0b_v133 (mulf : (⟨S8x128, .f32⟩ : BufTy).Contents (Elt F) → (⟨S8x128, .f32⟩ : BufTy).Contents (Elt F) → (⟨S8x128, .f32⟩ : BufTy).Contents (Elt F))
  :: StableHlo.binary main_while0b_v115 main_while0b_v133 main_while0b_v134 (addf : (⟨S8x128, .f32⟩ : BufTy).Contents (Elt F) → (⟨S8x128, .f32⟩ : BufTy).Contents (Elt F) → (⟨S8x128, .f32⟩ : BufTy).Contents (Elt F))
  :: StableHlo.unary main_while0b_v134 main_while0b_v135 (Host.tanh : (⟨S8x128, .f32⟩ : BufTy).Contents (Elt F) → (⟨S8x128, .f32⟩ : BufTy).Contents (Elt F))
  :: StableHlo.nullary main_while0b_cst_36 (constant S_ .f32 0x3F800000#32)
  :: StableHlo.unary main_while0b_cst_36 main_while0b_v136 (broadcastInDim S8x128 ![] bcast_S_S8x128 : (⟨S_, .f32⟩ : BufTy).Contents (Elt F) → (⟨S8x128, .f32⟩ : BufTy).Contents (Elt F))
  :: StableHlo.binary main_while0b_v136 main_while0b_v132 main_while0b_v137 (subf : (⟨S8x128, .f32⟩ : BufTy).Contents (Elt F) → (⟨S8x128, .f32⟩ : BufTy).Contents (Elt F) → (⟨S8x128, .f32⟩ : BufTy).Contents (Elt F))
  :: StableHlo.binary main_while0b_v137 main_while0b_v135 main_while0b_v138 (mulf : (⟨S8x128, .f32⟩ : BufTy).Contents (Elt F) → (⟨S8x128, .f32⟩ : BufTy).Contents (Elt F) → (⟨S8x128, .f32⟩ : BufTy).Contents (Elt F))
  :: StableHlo.binary main_while0b_v132 main_v79_6 main_while0b_v139 (mulf : (⟨S8x128, .f32⟩ : BufTy).Contents (Elt F) → (⟨S8x128, .f32⟩ : BufTy).Contents (Elt F) → (⟨S8x128, .f32⟩ : BufTy).Contents (Elt F))
  :: StableHlo.binary main_while0b_v138 main_while0b_v139 main_while0b_v140 (addf : (⟨S8x128, .f32⟩ : BufTy).Contents (Elt F) → (⟨S8x128, .f32⟩ : BufTy).Contents (Elt F) → (⟨S8x128, .f32⟩ : BufTy).Contents (Elt F))
  :: [] )

theorem first1_sub : (first1 (F := F)).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩

theorem first1_fresh : (first1 (F := F)).Forall fun op => op.fresh = ∅ := StableHlo.forall_fresh_of_map rfl

/-- What the operations of `first1` write, in order. -/
abbrev first1_W : List (Ref sig .tc) := [main_while0b_v103, main_while0b_v104, main_while0b_v105, main_while0b_v106, main_while0b_v107, main_while0b_v108, main_while0b_v109, main_while0b_v110, main_while0b_v111, main_while0b_v112, main_while0b_v113, main_while0b_v114, main_while0b_v115, main_while0b_v116, main_while0b_v117, main_while0b_v118, main_while0b_v119, main_while0b_v120, main_while0b_v121, main_while0b_cst_32, main_while0b_v122, main_while0b_v123, main_while0b_cst_33, main_while0b_v124, main_while0b_v125, main_while0b_v126, main_while0b_v127, main_while0b_v128, main_while0b_cst_34, main_while0b_v129, main_while0b_v130, main_while0b_cst_35, main_while0b_v131, main_while0b_v132, main_while0b_v133, main_while0b_v134, main_while0b_v135, main_while0b_cst_36, main_while0b_v136, main_while0b_v137, main_while0b_v138, main_while0b_v139, main_while0b_v140]

theorem first1_writes : (first1 (F := F)).Forall fun op => op.writes ⊆ (first1_W.map (Proc.devRef (τ := τ) .tc)).toFinset :=
  StableHlo.forall_writes_sub_of_map rfl

/-- A stretch of the first loop's body (a call of a function of the program). -/
def first2 : List (HloOp τ sig (Elt F)) :=
  [ StableHlo.unary main_while0b_v140 main_while0b_call6_v0 ((broadcastInDim S1x8x128 ![1, 2] bcast_S8x128_S1x8x128_1_2) : (⟨S8x128, .f32⟩ : BufTy).Contents (Elt F) → (⟨S1x8x128, .f32⟩ : BufTy).Contents (Elt F)),
    StableHlo.nullary main_while0b_call6_c (constantI S_ 32 0#32),
    StableHlo.nullary main_while0b_call6_c_0 (constantI S_ 32 0#32),
    StableHlo.TRef.binaryIndexed (.of main_v79_7 : StableHlo.TRef sig ⟨S512x8x128, .f32⟩) (.of main_while0b_call6_v0 : StableHlo.TRef sig ⟨S1x8x128, .f32⟩) ![(.of main_v79_5 : StableHlo.TRef sig ⟨S_, .i32⟩), (.of main_while0b_call6_c : StableHlo.TRef sig ⟨S_, .i32⟩), (.of main_while0b_call6_c_0 : StableHlo.TRef sig ⟨S_, .i32⟩)] (.of main_while0b_v141 : StableHlo.TRef sig ⟨S512x8x128, .f32⟩) (fun x u i => Host.dynamicUpdateSlice x u (fun k => (i k (Shape.Idx.first h_S_)).toInt) updateFits_S512x8x128_S1x8x128) ]

theorem first2_sub : (first2 (F := F)).Forall fun op => op.bufs ⊆ StableHlo.tcRefs τ sig :=
  ⟨StableHlo.unary_bufs_sub .., StableHlo.nullary_bufs_sub .., StableHlo.nullary_bufs_sub .., StableHlo.binaryIndexed_bufs_sub ..⟩

theorem first2_fresh : (first2 (F := F)).Forall fun op => op.fresh = ∅ := StableHlo.forall_fresh_of_map rfl

/-- What the operations of `first2` write, in order. -/
abbrev first2_W : List (Ref sig .tc) := [main_while0b_call6_v0, main_while0b_call6_c, main_while0b_call6_c_0, main_while0b_v141]

theorem first2_writes : (first2 (F := F)).Forall fun op => op.writes ⊆ (first2_W.map (Proc.devRef (τ := τ) .tc)).toFinset :=
  StableHlo.forall_writes_sub_of_map rfl

/-- A stretch of the first loop's body. -/
def first3 : List (HloOp τ sig (Elt F)) :=
  [ StableHlo.nullary main_while0b_c_37 (constantI S_ 32 1#32),
    StableHlo.binary main_v79_5 main_while0b_c_37 main_while0b_v142 (addi : (⟨S_, .i32⟩ : BufTy).Contents (Elt F) → (⟨S_, .i32⟩ : BufTy).Contents (Elt F) → (⟨S_, .i32⟩ : BufTy).Contents (Elt F)),
    StableHlo.unary main_while0b_v142 main_v79_5 id,
    StableHlo.unary main_while0b_v140 main_v79_6 id,
    StableHlo.unary main_while0b_v141 main_v79_7 id ]

theorem first3_sub : (first3 (F := F)).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩

theorem first3_fresh : (first3 (F := F)).Forall fun op => op.fresh = ∅ := StableHlo.forall_fresh_of_map rfl

/-- What the operations of `first3` write, in order. -/
abbrev first3_W : List (Ref sig .tc) := [main_while0b_c_37, main_while0b_v142, main_v79_5, main_v79_6, main_v79_7]

theorem first3_writes : (first3 (F := F)).Forall fun op => op.writes ⊆ (first3_W.map (Proc.devRef (τ := τ) .tc)).toFinset :=
  StableHlo.forall_writes_sub_of_map rfl

/-- A stretch of the second loop's body (a call of a function of the program). -/
def second0 : List (HloOp τ sig (Elt F)) :=
  [ StableHlo.nullary main_while1b_call7_c (constantI S_ 32 0#32),
    StableHlo.nullary main_while1b_call7_c_0 (constantI S_ 32 0#32),
    StableHlo.TRef.unaryIndexed (.of main_v82_0 : StableHlo.TRef sig ⟨S512x8x128, .f32⟩) ![(.of main_v82_5 : StableHlo.TRef sig ⟨S_, .i32⟩), (.of main_while1b_call7_c : StableHlo.TRef sig ⟨S_, .i32⟩), (.of main_while1b_call7_c_0 : StableHlo.TRef sig ⟨S_, .i32⟩)] (.of main_while1b_call7_v0 : StableHlo.TRef sig ⟨S1x8x128, .f32⟩) (fun x i => Host.dynamicSlice S1x8x128 x (fun k => (i k (Shape.Idx.first h_S_)).toInt) sliceFits_S512x8x128_S1x8x128),
    StableHlo.reshape main_while1b_call7_v0 main_while1b_v102 (rfl : (.f32 : EltTy) = .f32) shapeCasts_S1x8x128_S8x128 ]

theorem second0_sub : (second0 (F := F)).Forall fun op => op.bufs ⊆ StableHlo.tcRefs τ sig :=
  ⟨StableHlo.nullary_bufs_sub .., StableHlo.nullary_bufs_sub .., StableHlo.unaryIndexed_bufs_sub .., StableHlo.reshape_bufs_sub ..⟩

theorem second0_fresh : (second0 (F := F)).Forall fun op => op.fresh = ∅ := StableHlo.forall_fresh_of_map rfl

/-- What the operations of `second0` write, in order. -/
abbrev second0_W : List (Ref sig .tc) := [main_while1b_call7_c, main_while1b_call7_c_0, main_while1b_call7_v0, main_while1b_v102]

theorem second0_writes : (second0 (F := F)).Forall fun op => op.writes ⊆ (second0_W.map (Proc.devRef (τ := τ) .tc)).toFinset :=
  StableHlo.forall_writes_sub_of_map rfl

/-- A stretch of the second loop's body. -/
def second1 : List (HloOp τ sig (Elt F)) :=
  ( StableHlo.unary main_v82_1 main_while1b_v103 ((transpose S128x384 [1, 0] · transposes_S384x128_S128x384_1_0) : (⟨S384x128, .f32⟩ : BufTy).Contents (Elt F) → (⟨S128x384, .f32⟩ : BufTy).Contents (Elt F))
  :: StableHlo.binary main_while1b_v102 main_while1b_v103 main_while1b_v104 ((fun l r => Host.dotGeneral dot_S8x128_S128x384_S8x384_1_0_0_1_n_n none l r) : (⟨S8x128, .f32⟩ : BufTy).Contents (Elt F) → (⟨S128x384, .f32⟩ : BufTy).Contents (Elt F) → (⟨S8x384, .f32⟩ : BufTy).Contents (Elt F))
  :: StableHlo.unary main_v82_2 main_while1b_v105 (broadcastInDim S1x384 ![1] bcast_S384_S1x384_1 : (⟨S384, .f32⟩ : BufTy).Contents (Elt F) → (⟨S1x384, .f32⟩ : BufTy).Contents (Elt F))
  :: StableHlo.unary main_while1b_v105 main_while1b_v106 (broadcastInDim S8x384 ![0, 1] bcast_S1x384_S8x384_0_1 : (⟨S1x384, .f32⟩ : BufTy).Contents (Elt F) → (⟨S8x384, .f32⟩ : BufTy).Contents (Elt F))
  :: StableHlo.binary main_while1b_v104 main_while1b_v106 main_while1b_v107 (addf : (⟨S8x384, .f32⟩ : BufTy).Contents (Elt F) → (⟨S8x384, .f32⟩ : BufTy).Contents (Elt F) → (⟨S8x384, .f32⟩ : BufTy).Contents (Elt F))
  :: StableHlo.unary main_v82_3 main_while1b_v108 ((transpose S128x384 [1, 0] · transposes_S384x128_S128x384_1_0) : (⟨S384x128, .f32⟩ : BufTy).Contents (Elt F) → (⟨S128x384, .f32⟩ : BufTy).Contents (Elt F))
  :: StableHlo.binary main_v82_6 main_while1b_v108 main_while1b_v109 ((fun l r => Host.dotGeneral dot_S8x128_S128x384_S8x384_1_0_0_1_n_n none l r) : (⟨S8x128, .f32⟩ : BufTy).Contents (Elt F) → (⟨S128x384, .f32⟩ : BufTy).Contents (Elt F) → (⟨S8x384, .f32⟩ : BufTy).Contents (Elt F))
  :: StableHlo.unary main_v82_4 main_while1b_v110 (broadcastInDim S1x384 ![1] bcast_S384_S1x384_1 : (⟨S384, .f32⟩ : BufTy).Contents (Elt F) → (⟨S1x384, .f32⟩ : BufTy).Contents (Elt F))
  :: StableHlo.unary main_while1b_v110 main_while1b_v111 (broadcastInDim S8x384 ![0, 1] bcast_S1x384_S8x384_0_1 : (⟨S1x384, .f32⟩ : BufTy).Contents (Elt F) → (⟨S8x384, .f32⟩ : BufTy).Contents (Elt F))
  :: StableHlo.binary main_while1b_v109 main_while1b_v111 main_while1b_v112 (addf : (⟨S8x384, .f32⟩ : BufTy).Contents (Elt F) → (⟨S8x384, .f32⟩ : BufTy).Contents (Elt F) → (⟨S8x384, .f32⟩ : BufTy).Contents (Elt F))
  :: StableHlo.unary main_while1b_v107 main_while1b_v113 ((extractStridedSlice S8x128 ![0, 0] · slices_S8x384_S8x128_0_0) : (⟨S8x384, .f32⟩ : BufTy).Contents (Elt F) → (⟨S8x128, .f32⟩ : BufTy).Contents (Elt F))
  :: StableHlo.unary main_while1b_v107 main_while1b_v114 ((extractStridedSlice S8x128 ![0, 128] · slices_S8x384_S8x128_0_128) : (⟨S8x384, .f32⟩ : BufTy).Contents (Elt F) → (⟨S8x128, .f32⟩ : BufTy).Contents (Elt F))
  :: StableHlo.unary main_while1b_v107 main_while1b_v115 ((extractStridedSlice S8x128 ![0, 256] · slices_S8x384_S8x128_0_256) : (⟨S8x384, .f32⟩ : BufTy).Contents (Elt F) → (⟨S8x128, .f32⟩ : BufTy).Contents (Elt F))
  :: StableHlo.unary main_while1b_v112 main_while1b_v116 ((extractStridedSlice S8x128 ![0, 0] · slices_S8x384_S8x128_0_0) : (⟨S8x384, .f32⟩ : BufTy).Contents (Elt F) → (⟨S8x128, .f32⟩ : BufTy).Contents (Elt F))
  :: StableHlo.unary main_while1b_v112 main_while1b_v117 ((extractStridedSlice S8x128 ![0, 128] · slices_S8x384_S8x128_0_128) : (⟨S8x384, .f32⟩ : BufTy).Contents (Elt F) → (⟨S8x128, .f32⟩ : BufTy).Contents (Elt F))
  :: StableHlo.unary main_while1b_v112 main_while1b_v118 ((extractStridedSlice S8x128 ![0, 256] · slices_S8x384_S8x128_0_256) : (⟨S8x384, .f32⟩ : BufTy).Contents (Elt F) → (⟨S8x128, .f32⟩ : BufTy).Contents (Elt F))
  :: StableHlo.binary main_while1b_v113 main_while1b_v116 main_while1b_v119 (addf : (⟨S8x128, .f32⟩ : BufTy).Contents (Elt F) → (⟨S8x128, .f32⟩ : BufTy).Contents (Elt F) → (⟨S8x128, .f32⟩ : BufTy).Contents (Elt F))
  :: StableHlo.unary main_while1b_v119 main_while1b_v120 (Host.negf : (⟨S8x128, .f32⟩ : BufTy).Contents (Elt F) → (⟨S8x128, .f32⟩ : BufTy).Contents (Elt F))
  :: StableHlo.unary main_while1b_v120 main_while1b_v121 (Host.exp : (⟨S8x128, .f32⟩ : BufTy).Contents (Elt F) → (⟨S8x128, .f32⟩ : BufTy).Contents (Elt F))
  :: StableHlo.nullary main_while1b_cst_32 (constant S_ .f32 0x3F800000#32)
  :: StableHlo.unary main_while1b_cst_32 main_while1b_v122 (broadcastInDim S8x128 ![] bcast_S_S8x128 : (⟨S_, .f32⟩ : BufTy).Contents (Elt F) → (⟨S8x128, .f32⟩ : BufTy).Contents (Elt F))
  :: StableHlo.binary main_while1b_v122 main_while1b_v121 main_while1b_v123 (addf : (⟨S8x128, .f32⟩ : BufTy).Contents (Elt F) → (⟨S8x128, .f32⟩ : BufTy).Contents (Elt F) → (⟨S8x128, .f32⟩ : BufTy).Contents (Elt F))
  :: StableHlo.nullary main_while1b_cst_33 (constant S_ .f32 0x3F800000#32)
  :: StableHlo.unary main_while1b_cst_33 main_while1b_v124 (broadcastInDim S8x128 ![] bcast_S_S8x128 : (⟨S_, .f32⟩ : BufTy).Contents (Elt F) → (⟨S8x128, .f32⟩ : BufTy).Contents (Elt F))
  :: StableHlo.binary main_while1b_v124 main_while1b_v123 main_while1b_v125 (Host.divf : (⟨S8x128, .f32⟩ : BufTy).Contents (Elt F) → (⟨S8x128, .f32⟩ : BufTy).Contents (Elt F) → (⟨S8x128, .f32⟩ : BufTy).Contents (Elt F))
  :: StableHlo.binary main_while1b_v114 main_while1b_v117 main_while1b_v126 (addf : (⟨S8x128, .f32⟩ : BufTy).Contents (Elt F) → (⟨S8x128, .f32⟩ : BufTy).Contents (Elt F) → (⟨S8x128, .f32⟩ : BufTy).Contents (Elt F))
  :: StableHlo.unary main_while1b_v126 main_while1b_v127 (Host.negf : (⟨S8x128, .f32⟩ : BufTy).Contents (Elt F) → (⟨S8x128, .f32⟩ : BufTy).Contents (Elt F))
  :: StableHlo.unary main_while1b_v127 main_while1b_v128 (Host.exp : (⟨S8x128, .f32⟩ : BufTy).Contents (Elt F) → (⟨S8x128, .f32⟩ : BufTy).Contents (Elt F))
  :: StableHlo.nullary main_while1b_cst_34 (constant S_ .f32 0x3F800000#32)
  :: StableHlo.unary main_while1b_cst_34 main_while1b_v129 (broadcastInDim S8x128 ![] bcast_S_S8x128 : (⟨S_, .f32⟩ : BufTy).Contents (Elt F) → (⟨S8x128, .f32⟩ : BufTy).Contents (Elt F))
  :: StableHlo.binary main_while1b_v129 main_while1b_v128 main_while1b_v130 (addf : (⟨S8x128, .f32⟩ : BufTy).Contents (Elt F) → (⟨S8x128, .f32⟩ : BufTy).Contents (Elt F) → (⟨S8x128, .f32⟩ : BufTy).Contents (Elt F))
  :: StableHlo.nullary main_while1b_cst_35 (constant S_ .f32 0x3F800000#32)
  :: StableHlo.unary main_while1b_cst_35 main_while1b_v131 (broadcastInDim S8x128 ![] bcast_S_S8x128 : (⟨S_, .f32⟩ : BufTy).Contents (Elt F) → (⟨S8x128, .f32⟩ : BufTy).Contents (Elt F))
  :: StableHlo.binary main_while1b_v131 main_while1b_v130 main_while1b_v132 (Host.divf : (⟨S8x128, .f32⟩ : BufTy).Contents (Elt F) → (⟨S8x128, .f32⟩ : BufTy).Contents (Elt F) → (⟨S8x128, .f32⟩ : BufTy).Contents (Elt F))
  :: StableHlo.binary main_while1b_v125 main_while1b_v118 main_while1b_v133 (mulf : (⟨S8x128, .f32⟩ : BufTy).Contents (Elt F) → (⟨S8x128, .f32⟩ : BufTy).Contents (Elt F) → (⟨S8x128, .f32⟩ : BufTy).Contents (Elt F))
  :: StableHlo.binary main_while1b_v115 main_while1b_v133 main_while1b_v134 (addf : (⟨S8x128, .f32⟩ : BufTy).Contents (Elt F) → (⟨S8x128, .f32⟩ : BufTy).Contents (Elt F) → (⟨S8x128, .f32⟩ : BufTy).Contents (Elt F))
  :: StableHlo.unary main_while1b_v134 main_while1b_v135 (Host.tanh : (⟨S8x128, .f32⟩ : BufTy).Contents (Elt F) → (⟨S8x128, .f32⟩ : BufTy).Contents (Elt F))
  :: StableHlo.nullary main_while1b_cst_36 (constant S_ .f32 0x3F800000#32)
  :: StableHlo.unary main_while1b_cst_36 main_while1b_v136 (broadcastInDim S8x128 ![] bcast_S_S8x128 : (⟨S_, .f32⟩ : BufTy).Contents (Elt F) → (⟨S8x128, .f32⟩ : BufTy).Contents (Elt F))
  :: StableHlo.binary main_while1b_v136 main_while1b_v132 main_while1b_v137 (subf : (⟨S8x128, .f32⟩ : BufTy).Contents (Elt F) → (⟨S8x128, .f32⟩ : BufTy).Contents (Elt F) → (⟨S8x128, .f32⟩ : BufTy).Contents (Elt F))
  :: StableHlo.binary main_while1b_v137 main_while1b_v135 main_while1b_v138 (mulf : (⟨S8x128, .f32⟩ : BufTy).Contents (Elt F) → (⟨S8x128, .f32⟩ : BufTy).Contents (Elt F) → (⟨S8x128, .f32⟩ : BufTy).Contents (Elt F))
  :: StableHlo.binary main_while1b_v132 main_v82_6 main_while1b_v139 (mulf : (⟨S8x128, .f32⟩ : BufTy).Contents (Elt F) → (⟨S8x128, .f32⟩ : BufTy).Contents (Elt F) → (⟨S8x128, .f32⟩ : BufTy).Contents (Elt F))
  :: StableHlo.binary main_while1b_v138 main_while1b_v139 main_while1b_v140 (addf : (⟨S8x128, .f32⟩ : BufTy).Contents (Elt F) → (⟨S8x128, .f32⟩ : BufTy).Contents (Elt F) → (⟨S8x128, .f32⟩ : BufTy).Contents (Elt F))
  :: [] )

theorem second1_sub : (second1 (F := F)).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩

theorem second1_fresh : (second1 (F := F)).Forall fun op => op.fresh = ∅ := StableHlo.forall_fresh_of_map rfl

/-- What the operations of `second1` write, in order. -/
abbrev second1_W : List (Ref sig .tc) := [main_while1b_v103, main_while1b_v104, main_while1b_v105, main_while1b_v106, main_while1b_v107, main_while1b_v108, main_while1b_v109, main_while1b_v110, main_while1b_v111, main_while1b_v112, main_while1b_v113, main_while1b_v114, main_while1b_v115, main_while1b_v116, main_while1b_v117, main_while1b_v118, main_while1b_v119, main_while1b_v120, main_while1b_v121, main_while1b_cst_32, main_while1b_v122, main_while1b_v123, main_while1b_cst_33, main_while1b_v124, main_while1b_v125, main_while1b_v126, main_while1b_v127, main_while1b_v128, main_while1b_cst_34, main_while1b_v129, main_while1b_v130, main_while1b_cst_35, main_while1b_v131, main_while1b_v132, main_while1b_v133, main_while1b_v134, main_while1b_v135, main_while1b_cst_36, main_while1b_v136, main_while1b_v137, main_while1b_v138, main_while1b_v139, main_while1b_v140]

theorem second1_writes : (second1 (F := F)).Forall fun op => op.writes ⊆ (second1_W.map (Proc.devRef (τ := τ) .tc)).toFinset :=
  StableHlo.forall_writes_sub_of_map rfl

/-- A stretch of the second loop's body (a call of a function of the program). -/
def second2 : List (HloOp τ sig (Elt F)) :=
  [ StableHlo.unary main_while1b_v140 main_while1b_call8_v0 ((broadcastInDim S1x8x128 ![1, 2] bcast_S8x128_S1x8x128_1_2) : (⟨S8x128, .f32⟩ : BufTy).Contents (Elt F) → (⟨S1x8x128, .f32⟩ : BufTy).Contents (Elt F)),
    StableHlo.nullary main_while1b_call8_c (constantI S_ 32 0#32),
    StableHlo.nullary main_while1b_call8_c_0 (constantI S_ 32 0#32),
    StableHlo.TRef.binaryIndexed (.of main_v82_7 : StableHlo.TRef sig ⟨S512x8x128, .f32⟩) (.of main_while1b_call8_v0 : StableHlo.TRef sig ⟨S1x8x128, .f32⟩) ![(.of main_v82_5 : StableHlo.TRef sig ⟨S_, .i32⟩), (.of main_while1b_call8_c : StableHlo.TRef sig ⟨S_, .i32⟩), (.of main_while1b_call8_c_0 : StableHlo.TRef sig ⟨S_, .i32⟩)] (.of main_while1b_v141 : StableHlo.TRef sig ⟨S512x8x128, .f32⟩) (fun x u i => Host.dynamicUpdateSlice x u (fun k => (i k (Shape.Idx.first h_S_)).toInt) updateFits_S512x8x128_S1x8x128) ]

theorem second2_sub : (second2 (F := F)).Forall fun op => op.bufs ⊆ StableHlo.tcRefs τ sig :=
  ⟨StableHlo.unary_bufs_sub .., StableHlo.nullary_bufs_sub .., StableHlo.nullary_bufs_sub .., StableHlo.binaryIndexed_bufs_sub ..⟩

theorem second2_fresh : (second2 (F := F)).Forall fun op => op.fresh = ∅ := StableHlo.forall_fresh_of_map rfl

/-- What the operations of `second2` write, in order. -/
abbrev second2_W : List (Ref sig .tc) := [main_while1b_call8_v0, main_while1b_call8_c, main_while1b_call8_c_0, main_while1b_v141]

theorem second2_writes : (second2 (F := F)).Forall fun op => op.writes ⊆ (second2_W.map (Proc.devRef (τ := τ) .tc)).toFinset :=
  StableHlo.forall_writes_sub_of_map rfl

/-- A stretch of the second loop's body. -/
def second3 : List (HloOp τ sig (Elt F)) :=
  [ StableHlo.nullary main_while1b_c_37 (constantI S_ 32 1#32),
    StableHlo.binary main_v82_5 main_while1b_c_37 main_while1b_v142 (addi : (⟨S_, .i32⟩ : BufTy).Contents (Elt F) → (⟨S_, .i32⟩ : BufTy).Contents (Elt F) → (⟨S_, .i32⟩ : BufTy).Contents (Elt F)),
    StableHlo.unary main_while1b_v142 main_v82_5 id,
    StableHlo.unary main_while1b_v140 main_v82_6 id,
    StableHlo.unary main_while1b_v141 main_v82_7 id ]

theorem second3_sub : (second3 (F := F)).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩

theorem second3_fresh : (second3 (F := F)).Forall fun op => op.fresh = ∅ := StableHlo.forall_fresh_of_map rfl

/-- What the operations of `second3` write, in order. -/
abbrev second3_W : List (Ref sig .tc) := [main_while1b_c_37, main_while1b_v142, main_v82_5, main_v82_6, main_v82_7]

theorem second3_writes : (second3 (F := F)).Forall fun op => op.writes ⊆ (second3_W.map (Proc.devRef (τ := τ) .tc)).toFinset :=
  StableHlo.forall_writes_sub_of_map rfl

/-- The test of the first loop: the bound, and the counter compared with it. -/
def firstCond : List (HloOp τ sig (Elt F)) :=
  [ StableHlo.nullary main_while0c_c_32 (constantI S_ 32 512#32),
    StableHlo.binary main_v79_5 main_while0c_c_32 main_while0c_v102 (cmpi .slt : (⟨S_, .i32⟩ : BufTy).Contents (Elt F) → (⟨S_, .i32⟩ : BufTy).Contents (Elt F) → (⟨S_, .i1⟩ : BufTy).Contents (Elt F)) ]

theorem firstCond_sub : (firstCond (F := F)).Forall fun op => op.bufs ⊆ StableHlo.tcRefs τ sig :=
  ⟨StableHlo.nullary_bufs_sub .., StableHlo.binary_bufs_sub ..⟩

theorem firstCond_fresh : (firstCond (F := F)).Forall fun op => op.fresh = ∅ := StableHlo.forall_fresh_of_map rfl

/-- What the operations of `firstCond` write, in order. -/
abbrev firstCond_W : List (Ref sig .tc) := [main_while0c_c_32, main_while0c_v102]

theorem firstCond_writes : (firstCond (F := F)).Forall fun op => op.writes ⊆ (firstCond_W.map (Proc.devRef (τ := τ) .tc)).toFinset :=
  StableHlo.forall_writes_sub_of_map rfl

/-- The test of the second loop: the bound, and the counter compared with it. -/
def secondCond : List (HloOp τ sig (Elt F)) :=
  [ StableHlo.nullary main_while1c_c_32 (constantI S_ 32 512#32),
    StableHlo.binary main_v82_5 main_while1c_c_32 main_while1c_v102 (cmpi .slt : (⟨S_, .i32⟩ : BufTy).Contents (Elt F) → (⟨S_, .i32⟩ : BufTy).Contents (Elt F) → (⟨S_, .i1⟩ : BufTy).Contents (Elt F)) ]

theorem secondCond_sub : (secondCond (F := F)).Forall fun op => op.bufs ⊆ StableHlo.tcRefs τ sig :=
  ⟨StableHlo.nullary_bufs_sub .., StableHlo.binary_bufs_sub ..⟩

theorem secondCond_fresh : (secondCond (F := F)).Forall fun op => op.fresh = ∅ := StableHlo.forall_fresh_of_map rfl

/-- What the operations of `secondCond` write, in order. -/
abbrev secondCond_W : List (Ref sig .tc) := [main_while1c_c_32, main_while1c_v102]

theorem secondCond_writes : (secondCond (F := F)).Forall fun op => op.writes ⊆ (secondCond_W.map (Proc.devRef (τ := τ) .tc)).toFinset :=
  StableHlo.forall_writes_sub_of_map rfl

/-- The stretches before the first loop. -/
abbrev preI : List (List (HloOp τ sig (Elt F))) := [pre0, pre1, pre2, pre3, pre4, pre5, pre6, pre7, pre8, pre9, pre10, pre11, pre12]

theorem preI_plain : StableHlo.Plain (preI (F := F)) :=
  .cons pre0_sub (hf := List.forall_iff_forall_mem.mp pre0_fresh) (.cons pre1_sub (hf := List.forall_iff_forall_mem.mp pre1_fresh) (.cons pre2_sub (hf := List.forall_iff_forall_mem.mp pre2_fresh) (.cons pre3_sub (hf := List.forall_iff_forall_mem.mp pre3_fresh) (.cons pre4_sub (hf := List.forall_iff_forall_mem.mp pre4_fresh) (.cons pre5_sub (hf := List.forall_iff_forall_mem.mp pre5_fresh) (.cons pre6_sub (hf := List.forall_iff_forall_mem.mp pre6_fresh) (.cons pre7_sub (hf := List.forall_iff_forall_mem.mp pre7_fresh) (.cons pre8_sub (hf := List.forall_iff_forall_mem.mp pre8_fresh) (.cons pre9_sub (hf := List.forall_iff_forall_mem.mp pre9_fresh) (.cons pre10_sub (hf := List.forall_iff_forall_mem.mp pre10_fresh) (.cons pre11_sub (hf := List.forall_iff_forall_mem.mp pre11_fresh) (.cons pre12_sub (hf := List.forall_iff_forall_mem.mp pre12_fresh) (.nil)))))))))))))

/-- The stretches between the loops. -/
abbrev midI : List (List (HloOp τ sig (Elt F))) := [mid0, mid1]

theorem midI_plain : StableHlo.Plain (midI (F := F)) :=
  .cons mid0_sub (hf := List.forall_iff_forall_mem.mp mid0_fresh) (.cons mid1_sub (hf := List.forall_iff_forall_mem.mp mid1_fresh) (.nil))

/-- The stretches after the second loop. -/
abbrev postI : List (List (HloOp τ sig (Elt F))) := [post0, post1]

theorem postI_plain : StableHlo.Plain (postI (F := F)) :=
  .cons post0_sub (hf := List.forall_iff_forall_mem.mp post0_fresh) (.cons post1_sub (hf := List.forall_iff_forall_mem.mp post1_fresh) (.nil))

/-- The stretches of the first loop's body. -/
abbrev firstI : List (List (HloOp τ sig (Elt F))) := [first0, first1, first2, first3]

theorem firstI_plain : StableHlo.Plain (firstI (F := F)) :=
  .cons first0_sub (hf := List.forall_iff_forall_mem.mp first0_fresh) (.cons first1_sub (hf := List.forall_iff_forall_mem.mp first1_fresh) (.cons first2_sub (hf := List.forall_iff_forall_mem.mp first2_fresh) (.cons first3_sub (hf := List.forall_iff_forall_mem.mp first3_fresh) (.nil))))

/-- The stretches of the second loop's body. -/
abbrev secondI : List (List (HloOp τ sig (Elt F))) := [second0, second1, second2, second3]

theorem secondI_plain : StableHlo.Plain (secondI (F := F)) :=
  .cons second0_sub (hf := List.forall_iff_forall_mem.mp second0_fresh) (.cons second1_sub (hf := List.forall_iff_forall_mem.mp second1_fresh) (.cons second2_sub (hf := List.forall_iff_forall_mem.mp second2_fresh) (.cons second3_sub (hf := List.forall_iff_forall_mem.mp second3_fresh) (.nil))))

set_option maxHeartbeats 4000000 in
theorem part0_chain (c : Dev nD) : main_part0 (F := F) c = Pipeline.chainK [StableHlo.seq pre0, StableHlo.seq pre1, StableHlo.seq pre2, StableHlo.seq pre3, StableHlo.seq pre4, StableHlo.seq pre5, StableHlo.seq pre6, StableHlo.seq pre7, StableHlo.seq pre8] (StableHlo.seq pre9) := by
  rewrite [StableHlo.chainK_seq_cons, Pipeline.chainK_cons, StableHlo.chainK_seq_cons, Pipeline.chainK_cons, StableHlo.chainK_seq_cons, Pipeline.chainK_cons, StableHlo.chainK_seq_cons, Pipeline.chainK_cons, StableHlo.chainK_seq_cons]
  chain_rfl

set_option maxHeartbeats 4000000 in
theorem part1_chain (c : Dev nD) : main_part1 (F := F) c = Pipeline.chainK [StableHlo.seq pre10, StableHlo.seq pre11, StableHlo.seq pre12, HostLoop.enter 0] (StableHlo.seq mid0) := by
  rewrite [StableHlo.chainK_seq_cons, StableHlo.chainK_seq_cons, StableHlo.chainK_seq_cons, Pipeline.chainK_cons]
  chain_rfl

set_option maxHeartbeats 4000000 in
theorem part2_chain (c : Dev nD) : main_part2 (F := F) c = Pipeline.chain [StableHlo.seq mid1, HostLoop.enter 1, StableHlo.seq post0, StableHlo.seq post1] := by
  rewrite [StableHlo.chain_seq_cons, Pipeline.chain_cons, StableHlo.chain_seq_cons, StableHlo.chain_seq_cons]
  chain_rfl

/-- The program: its stretches and its two loops, in order. -/
theorem main_chain (c : Dev nD) : main (F := F) c
    = Pipeline.chain ((preI.map fun ops => (StableHlo.seq ops : Prog _ PUnit)) ++ HostLoop.enter 0
      :: ((midI.map fun ops => (StableHlo.seq ops : Prog _ PUnit)) ++ HostLoop.enter 1
      :: (postI.map fun ops => (StableHlo.seq ops : Prog _ PUnit)))) :=
  have h := Pipeline.chain_of_window (part0_chain (F := F) c) (Pipeline.chain_of_window (part1_chain c) (part2_chain c))
  (show main (F := F) c = (main_part0 c >>= fun _ => main_part1 c >>= fun _ => main_part2 c) from rfl).trans h

set_option maxHeartbeats 4000000 in
theorem first_chain : main_while0_body (F := F) = Pipeline.chain (firstI.map fun ops => (StableHlo.seq ops : Prog _ PUnit)) := by
  show _ = Pipeline.chain [StableHlo.seq first0, StableHlo.seq first1, StableHlo.seq first2, StableHlo.seq first3]
  rewrite [Pipeline.chain_cons, StableHlo.chain_seq_cons, Pipeline.chain_cons, StableHlo.chain_seq_cons]
  chain_rfl

set_option maxHeartbeats 4000000 in
theorem second_chain : main_while1_body (F := F) = Pipeline.chain (secondI.map fun ops => (StableHlo.seq ops : Prog _ PUnit)) := by
  show _ = Pipeline.chain [StableHlo.seq second0, StableHlo.seq second1, StableHlo.seq second2, StableHlo.seq second3]
  rewrite [Pipeline.chain_cons, StableHlo.chain_seq_cons, Pipeline.chain_cons, StableHlo.chain_seq_cons]
  chain_rfl

end Cert.ReferenceIdeal.Hand

end
-- ==== Proof.RefRun.lean ====
/-
  The run of the reference: its two counted loops of 512 trips each, the stretches of host operations around them, and
  every buffer's contents at the end as a fold of those lists. The loops' tests are shown to stop at the 512th trip from
  the counter's value, which each trip moves one on.
-/
module

public import proofs.«01_k».proof.Proof.RefOps
public import Idealize.ShloMosaic.Lib.Quiescent
public import Idealize.ShloMosaic.Lib.Claim

@[expose] public section

set_option maxRecDepth 100000

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg Ticket)

variable {F : FTy → Type} [FloatOps F]

local notation "𝕄" => MT nD τ sig Unit (Elt F) ℕ (Option PUnit) ℕ

variable (m : (ℓ : Loc nD τ sig) → Buf (Elt F) ℓ) (ρ : Dev nD → PrngReg)

/-- Every buffer where the first loop is entered. -/
abbrev entry0 (c : Dev nD) : Valuation τ sig (Elt F) := afterL preI (launchContents m c)
/-- Every buffer before the `k`-th test of the first loop. -/
abbrev trip0 (k : ℕ) (c : Dev nD) : Valuation τ sig (Elt F) := atTrip firstCond firstI (entry0 m) k c
/-- Every buffer where the second loop is entered. -/
abbrev entry1 (c : Dev nD) : Valuation τ sig (Elt F) := afterL midI (after firstCond (trip0 m 512 c))
/-- Every buffer before the `k`-th test of the second loop. -/
abbrev trip1 (k : ℕ) (c : Dev nD) : Valuation τ sig (Elt F) := atTrip secondCond secondI (entry1 m) k c
/-- Every buffer at the end. -/
abbrev final (c : Dev nD) : Valuation τ sig (Elt F) := afterL postI (after secondCond (trip1 m 512 c))

/-- A list of operations leaves a reference it does not write. -/
theorem keep {ops : List (HloOp τ sig (Elt F))} {W : List (Ref sig .tc)}
    (h : ops.Forall fun op => op.writes ⊆ (W.map (Proc.devRef (τ := τ) .tc)).toFinset) (V : Valuation τ sig (Elt F))
    {b : Ref sig .tc} (hb : b ∉ W) : after ops V (Proc.devRef .tc b) = V (Proc.devRef .tc b) :=
  after_of_writes_sub ops V h hb

/-! ## The counter of the first loop -/

theorem first_step (V : Valuation τ sig (Elt F)) :
    after first3 V (Proc.devRef .tc main_v79_5) = addi (V (Proc.devRef .tc main_v79_5)) (constantI S_ 32 1#32) := by
  unfold first3
  after_results
  rfl

theorem first_start (c : Dev nD) : entry0 m c (Proc.devRef .tc main_v79_5) = fun _ => (0#32 : BitVec 32) := by
  show afterL preI _ (Proc.devRef .tc main_v79_5) = _
  simp only [afterL_cons, afterL_nil]
  unfold pre12
  after_results
  rfl

/-- Before the `k`-th test the counter is `k`. -/
theorem first_counter (c : Dev nD) : ∀ k, trip0 m k c (Proc.devRef .tc main_v79_5) = fun _ => Scf.iv 0#32 1#32 k
  | 0 => by rw [show trip0 m 0 c = entry0 m c from rfl, first_start, Scf.iv_zero]
  | k + 1 => by
    rw [show trip0 m (k + 1) c = afterL firstI (after firstCond (trip0 m k c)) from rfl]
    simp only [afterL_cons, afterL_nil]
    rw [first_step, keep first2_writes _ (by decide), keep first1_writes _ (by decide), keep first0_writes _ (by decide),
      keep firstCond_writes _ (by decide), first_counter c k, Scf.iv_succ]
    rfl

set_option backward.isDefEq.respectTransparency.types false in
/-- The test of the first loop reads one before the 512th trip and zero there. -/
theorem first_test : CondSpec (pcfgs (F := F)) defs₀ loops (main_while0_cond (F := F)) firstCond firstI (entry0 m) 512 := by
  intro k hk c bd
  have hctr := first_counter m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (trip0 m k c) main_v79_5 HostLoop.idx0)
        (HloOp.result _ (trip0 m k c) main_while0c_c_32 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  unfold firstCond
  rw [after_cons, after_cons, after_nil]; iexact Hh

/-! ## The counter of the second loop -/

theorem second_step (V : Valuation τ sig (Elt F)) :
    after second3 V (Proc.devRef .tc main_v82_5) = addi (V (Proc.devRef .tc main_v82_5)) (constantI S_ 32 1#32) := by
  unfold second3
  after_results
  rfl

theorem second_start (c : Dev nD) : entry1 m c (Proc.devRef .tc main_v82_5) = fun _ => (0#32 : BitVec 32) := by
  show afterL midI _ (Proc.devRef .tc main_v82_5) = _
  simp only [afterL_cons, afterL_nil]
  unfold mid0 mid1
  after_results
  rfl

/-- Before the `k`-th test the counter is `k`. -/
theorem second_counter (c : Dev nD) : ∀ k, trip1 m k c (Proc.devRef .tc main_v82_5) = fun _ => Scf.iv 0#32 1#32 k
  | 0 => by rw [show trip1 m 0 c = entry1 m c from rfl, second_start, Scf.iv_zero]
  | k + 1 => by
    rw [show trip1 m (k + 1) c = afterL secondI (after secondCond (trip1 m k c)) from rfl]
    simp only [afterL_cons, afterL_nil]
    rw [second_step, keep second2_writes _ (by decide), keep second1_writes _ (by decide), keep second0_writes _ (by decide),
      keep secondCond_writes _ (by decide), second_counter c k, Scf.iv_succ]
    rfl

set_option backward.isDefEq.respectTransparency.types false in
/-- The test of the second loop reads one before the 512th trip and zero there. -/
theorem second_test : CondSpec (pcfgs (F := F)) defs₀ loops (main_while1_cond (F := F)) secondCond secondI (entry1 m) 512 := by
  intro k hk c bd
  have hctr := second_counter m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (trip1 m k c) main_v82_5 HostLoop.idx0)
        (HloOp.result _ (trip1 m k c) main_while1c_c_32 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  unfold secondCond
  rw [after_cons, after_cons, after_nil]; iexact Hh

/-! ## The run -/

local notation "pc" => (pcfgs (F := F))

abbrev adm : (p : Fin 0) → (pc p).Adm := fun p => p.elim0
abbrev tickets : Fin 0 → Ticket (Ix := Unit) (Name := ℕ) (U := Option PUnit) (Lvl := ℕ) (nD := nD) (τ := τ) pc (adm (F := F)) :=
  fun j => j.elim0
abbrev levels : GSem nD τ sig → Finset Unit := fun _ => ∅
abbrev order : GSem nD τ sig → Unit → ℕ := fun _ _ => 0

theorem cells_injective : Function.Injective (Pipeline.cellOf (nD := nD) (τ := τ) (Pipeline.pin pc (adm (F := F)))) :=
  fun k => k.1.elim0

/-- What is carried unchanged beside the buffers. -/
abbrev rest (c : Dev nD) : sProp 𝕄 := iprop(∃ W, owes (c : Thread nD τ) (0 : CellTallies nD τ sig Unit) W)

/-- A test's specification with what is carried beside the buffers handed through. -/
theorem with_rest {cond : Prog (TpuEff nD τ sig (Elt F) (HostLoop.Sig (Pipeline.Sig Λ₀ (Fin 0) fun p => (pc p).Adm) 2) .tc) (Elt F .i1)}
    {condOps : List (HloOp τ sig (Elt F))} {bodyI : List (List (HloOp τ sig (Elt F)))} {W₀ : Dev nD → Valuation τ sig (Elt F)} {n : ℕ}
    (hcond : CondSpec pc defs₀ loops cond condOps bodyI W₀ n) :
    LoopCond pc defs₀ Variants.none loops (rest (F := F)) cond condOps bodyI W₀ n := fun k hk c bd => by
  have hc := hcond k hk c bd
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ rest (F := F) c)
        ⊢ iprop(⌜v = 1#1 ↔ k < n⌝ ∗ boundary (c : Thread nD τ) ∗ held (c : Thread nD τ) (ucRefs τ sig) (after condOps (atTrip condOps bodyI W₀ k c)) ∗ rest (F := F) c) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left hc).trans (wp_frame_r _ _ _)).trans (wp_mono _ _ _ hpost))
  iintro ⟨Hbd, Hh, HR⟩
  isplitl [Hbd Hh]; · isplitl [Hbd] <;> iassumption
  iexact HR

/-- The first loop as one segment. -/
abbrev loop0 : CSeg pc (adm (F := F)) defs₀ Variants.none levels order loops (tickets (F := F)) :=
  loopSeg _ _ _ _ _ _ _ _ 0 (main_while0_cond (F := F)) (main_while0_body (F := F)) rfl firstCond firstI firstI_plain first_chain 512
    (entry0 m) (rest (F := F)) (with_rest (first_test m))
/-- The second loop as one segment. -/
abbrev loop1 : CSeg pc (adm (F := F)) defs₀ Variants.none levels order loops (tickets (F := F)) :=
  loopSeg _ _ _ _ _ _ _ _ 1 (main_while1_cond (F := F)) (main_while1_body (F := F)) rfl secondCond secondI secondI_plain second_chain 512
    (entry1 m) (rest (F := F)) (with_rest (second_test m))

/-- The program's segments. -/
def segments : List (CSeg pc (adm (F := F)) defs₀ Variants.none levels order loops (tickets (F := F))) :=
  segsOf _ _ _ _ _ _ _ _ (rest (F := F)) preI preI_plain (launchContents m)
    ++ loop0 m
      :: (segsOf _ _ _ _ _ _ _ _ (rest (F := F)) midI midI_plain (fun c => after firstCond (trip0 m 512 c))
        ++ loop1 m
          :: segsOf _ _ _ _ _ _ _ _ (rest (F := F)) postI postI_plain (fun c => after secondCond (trip1 m 512 c)))

theorem segments_prog : (segments m).map CSeg.prog
    = (preI.map fun ops => (seq ops : Prog _ PUnit)) ++ HostLoop.enter 0
      :: ((midI.map fun ops => (seq ops : Prog _ PUnit)) ++ HostLoop.enter 1
      :: (postI.map fun ops => (seq ops : Prog _ PUnit))) := by
  unfold segments
  rw [List.map_append, List.map_cons, List.map_append, List.map_cons, segsOf_prog, segsOf_prog, segsOf_prog]
  rfl

theorem segments_chains :
    CSeg.Chains (fun c => iprop(held (c : Thread nD τ) (ucRefs τ sig) (launchContents m c) ∗ rest (F := F) c)) (segments m)
      (fun c => iprop(iprop(held (c : Thread nD τ) (ucRefs τ sig) (final m c)) ∗ ∃ W, owes (c : Thread nD τ) (0 : CellTallies nD τ sig Unit) W)) := by
  unfold segments
  exact CSeg.Chains.append (segsOf_chains _ _ _ _ _ _ _ _ (rest (F := F)) preI preI_plain _)
    ⟨fun _ => .rfl, CSeg.Chains.append (segsOf_chains _ _ _ _ _ _ _ _ (rest (F := F)) midI midI_plain _)
      ⟨fun _ => .rfl, segsOf_chains _ _ _ _ _ _ _ _ (rest (F := F)) postI postI_plain _⟩⟩

/-- From any memory with zero counters every weakly fair execution terminates with every buffer that holds a value of the
    program at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) :=
  Pipeline.θ_run_regions_loop_kit (Ix := Unit) (Name := ℕ) (U := Option PUnit) (Lvl := ℕ) (J := Fin 0) (P := Fin 0) (Val := Elt F)
    pc (adm (F := F)) cells_injective defs₀ Variants.none levels order loops (tickets (F := F)) m ρ main
    (segments m)
    (fun c Q => by
      rw [main_chain c]
      show wp _ _ _ (Pipeline.chain ((segments m).map CSeg.prog)) Q ⊢ _
      rw [segments_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ rest (F := F) c))
    (Tₙ := fun c => iprop(held (c : Thread nD τ) (ucRefs τ sig) (final m c)))
    (hch := segments_chains m)
    (hinit := by
      refine Pipeline.initEach levels order fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

/-! ## The arguments -/

/-- A reference no stretch writes holds at the end what it held at the start. -/
theorem final_keep (c : Dev nD) (b : Ref sig .tc)
    (h : b ∉ pre0_W ++ pre1_W ++ pre2_W ++ pre3_W ++ pre4_W ++ pre5_W ++ pre6_W ++ pre7_W ++ pre8_W ++ pre9_W ++ pre10_W ++ pre11_W ++ pre12_W
      ++ mid0_W ++ mid1_W ++ post0_W ++ post1_W ++ firstCond_W ++ secondCond_W ++ first0_W ++ first1_W ++ first2_W ++ first3_W
      ++ second0_W ++ second1_W ++ second2_W ++ second3_W) :
    final m c (Proc.devRef .tc b) = m ((c.tc : Thread nD τ).loc b) := by
  simp only [List.mem_append, not_or] at h
  obtain ⟨⟨⟨⟨⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, hm0⟩, hm1⟩, hp0⟩, hp1⟩, hc0⟩, hc1⟩,
    f0⟩, f1⟩, f2⟩, f3⟩, s0⟩, s1⟩, s2⟩, s3⟩ := h
  have e0 : entry0 m c (Proc.devRef .tc b) = m ((c.tc : Thread nD τ).loc b) := by
    simp only [afterL_cons, afterL_nil]
    rw [keep pre12_writes _ h12, keep pre11_writes _ h11, keep pre10_writes _ h10, keep pre9_writes _ h9, keep pre8_writes _ h8,
      keep pre7_writes _ h7, keep pre6_writes _ h6, keep pre5_writes _ h5, keep pre4_writes _ h4, keep pre3_writes _ h3,
      keep pre2_writes _ h2, keep pre1_writes _ h1, keep pre0_writes _ h0]
  have e1 : ∀ k, trip0 m k c (Proc.devRef .tc b) = m ((c.tc : Thread nD τ).loc b) := by
    intro k
    induction k with
    | zero => exact e0
    | succ k ih =>
      rw [show trip0 m (k + 1) c = afterL firstI (after firstCond (trip0 m k c)) from rfl]
      simp only [afterL_cons, afterL_nil]
      rw [keep first3_writes _ f3, keep first2_writes _ f2, keep first1_writes _ f1, keep first0_writes _ f0, keep firstCond_writes _ hc0, ih]
  have e2 : ∀ k, trip1 m k c (Proc.devRef .tc b) = m ((c.tc : Thread nD τ).loc b) := by
    intro k
    induction k with
    | zero =>
      show afterL midI (after firstCond (trip0 m 512 c)) (Proc.devRef .tc b) = _
      simp only [afterL_cons, afterL_nil]
      rw [keep mid1_writes _ hm1, keep mid0_writes _ hm0, keep firstCond_writes _ hc0, e1]
    | succ k ih =>
      rw [show trip1 m (k + 1) c = afterL secondI (after secondCond (trip1 m k c)) from rfl]
      simp only [afterL_cons, afterL_nil]
      rw [keep second3_writes _ s3, keep second2_writes _ s2, keep second1_writes _ s1, keep second0_writes _ s0, keep secondCond_writes _ hc1, ih]
  simp only [afterL_cons, afterL_nil]
  rw [keep post1_writes _ hp1, keep post0_writes _ hp0, keep secondCond_writes _ hc1, e2]

end Cert.ReferenceIdeal.Hand

end
-- ==== Proof.RefFrame.lean ====
/- The reference terminates with its arguments unchanged and every semaphore counter at zero. -/
module

public import proofs.«01_k».proof.Defs
public import proofs.«01_k».proof.Proof.RefRun
public import proofs.«01_k».proof.Proof.Gen.Pre_segments_fit

@[expose] public section

set_option maxRecDepth 100000

noncomputable section

namespace Cert.Proof

open Idealize.ShloMosaic Idealize.ShloMosaic.TcCoe Idealize.SL.Sem
open Cert.ReferenceIdeal Cert.ReferenceIdeal.Hand

theorem frame_ReferenceIdeal : Cert.quiescent_ReferenceIdeal (hReferenceIdeal := Cert.ReferenceIdeal.Gen.facts) := fun m g _ =>
  (θ_run _ _ _).mono (fun r h => by
    have k : ∀ (c : Dev nD) (b : Ref sig .tc), (Proc.devRef .tc b : DevRef τ sig).isScoped = false → _ →
        r.2.mem ((c.tc : Thread nD τ).loc b) = m ((c.tc : Thread nD τ).loc b) :=
      fun c b hs hb => (h c b hs).trans (final_keep m c b hb)
    refine ⟨fun c => ⟨k c _ rfl ?_, k c _ rfl ?_, k c _ rfl ?_, k c _ rfl ?_, k c _ rfl ?_, k c _ rfl ?_, k c _ rfl ?_, k c _ rfl ?_,
      k c _ rfl ?_, k c _ rfl ?_, k c _ rfl ?_, k c _ rfl ?_, k c _ rfl ?_, k c _ rfl ?_, k c _ rfl ?_, k c _ rfl ?_, k c _ rfl ?_,
      k c _ rfl ?_⟩, sem_eq_zero_of_no_sems rfl _⟩
    all_goals decide +kernel) (run_fold (F := Ideal) m g)

end Cert.Proof

end
-- ==== Proof.RefScan.lean ====
/-
  What the reference's two loops compute: a recurrent layer over 512 rows each. The state after `k` trips is the layer's
  state after `k` rows, and the history holds the states so far.
-/
module

public import proofs.«01_k».proof.Proof.RefRun
public import Idealize.ShloMosaic.Lib.StableHlo.RunClose
public import Idealize.ShloMosaic.Lib.PointwiseCore
public import Idealize.ShloMosaic.Lib.WordCmp
public import Idealize.ShloMosaic.Lib.DynamicIndex

@[expose] public section

set_option maxRecDepth 100000

noncomputable section

namespace Cert.ReferenceIdeal.Hand

open Cert.ReferenceIdeal Cert.ReferenceIdeal.Gen
open Idealize.ShloMosaic Idealize.ShloMosaic.TcCoe Idealize.ShloMosaic.Tactic
open Idealize.ShloMosaic.StableHlo

variable {F : FTy → Type} [FloatOps F]

/-! ## One row of a layer -/

/-- The products of eight rows with one weight array, the bias added. -/
def affine (W : Vec F S384x128 .f32) (b : Vec F S384 .f32) (x : Vec F S8x128 .f32) : Vec F S8x384 .f32 :=
  addf (Host.dotGeneral dot_S8x128_S128x384_S8x384_1_0_0_1_n_n none x (transpose S128x384 [1, 0] W transposes_S384x128_S128x384_1_0))
    (broadcastInDim S8x384 ![0, 1] bcast_S1x384_S8x384_0_1 (broadcastInDim S1x384 ![1] bcast_S384_S1x384_1 b))

/-- The word of one at every entry. -/
def ones : Vec F S8x128 .f32 := broadcastInDim S8x128 ![] bcast_S_S8x128 (constant S_ .f32 0x3F800000#32)

/-- The word of zero at every entry. -/
def zeros : Vec F S8x128 .f32 := broadcastInDim S8x128 ![] bcast_S_S8x128 (constant S_ .f32 0x00000000#32)

/-- The sigmoid, as the reference spells it. -/
def sigm (x : Vec F S8x128 .f32) : Vec F S8x128 .f32 := Host.divf ones (addf ones (Host.exp (Host.negf x)))

/-- One row of a layer: the new state from the row and the old state. -/
def cell (Wi Wh : Vec F S384x128 .f32) (bi bh : Vec F S384 .f32) (x h : Vec F S8x128 .f32) : Vec F S8x128 .f32 :=
  addf
    (mulf (subf ones (sigm (addf (extractStridedSlice S8x128 ![0, 128] (affine Wi bi x) slices_S8x384_S8x128_0_128)
        (extractStridedSlice S8x128 ![0, 128] (affine Wh bh h) slices_S8x384_S8x128_0_128))))
      (Host.tanh (addf (extractStridedSlice S8x128 ![0, 256] (affine Wi bi x) slices_S8x384_S8x128_0_256)
        (mulf (sigm (addf (extractStridedSlice S8x128 ![0, 0] (affine Wi bi x) slices_S8x384_S8x128_0_0)
            (extractStridedSlice S8x128 ![0, 0] (affine Wh bh h) slices_S8x384_S8x128_0_0)))
          (extractStridedSlice S8x128 ![0, 256] (affine Wh bh h) slices_S8x384_S8x128_0_256)))))
    (mulf (sigm (addf (extractStridedSlice S8x128 ![0, 128] (affine Wi bi x) slices_S8x384_S8x128_0_128)
        (extractStridedSlice S8x128 ![0, 128] (affine Wh bh h) slices_S8x384_S8x128_0_128))) h)

/-- Row `k` of the layer's input. -/
def rowOf (xs : Vec F S512x8x128 .f32) (k : ℕ) : Vec F S8x128 .f32 :=
  fun y => xs (ix3 (⟨k % 512, Nat.mod_lt _ (by decide)⟩ : Fin 512) (y 0) (y 1))

/-- The layer's state after `k` rows. -/
def scanned (Wi Wh : Vec F S384x128 .f32) (bi bh : Vec F S384 .f32) (xs : Vec F S512x8x128 .f32) : ℕ → Vec F S8x128 .f32
  | 0 => zeros
  | k + 1 => cell Wi Wh bi bh (rowOf xs k) (scanned Wi Wh bi bh xs k)

/-! ## One trip -/

theorem first_cell (V : Valuation τ sig (Elt F)) : after first1 V (Proc.devRef .tc main_while0b_v140)
    = cell (V (Proc.devRef .tc main_v79_1)) (V (Proc.devRef .tc main_v79_3)) (V (Proc.devRef .tc main_v79_2)) (V (Proc.devRef .tc main_v79_4))
      (V (Proc.devRef .tc main_while0b_v102)) (V (Proc.devRef .tc main_v79_6)) := by
  unfold first1
  after_results_simp
  all_goals rfl

theorem second_cell (V : Valuation τ sig (Elt F)) : after second1 V (Proc.devRef .tc main_while1b_v140)
    = cell (V (Proc.devRef .tc main_v82_1)) (V (Proc.devRef .tc main_v82_3)) (V (Proc.devRef .tc main_v82_2)) (V (Proc.devRef .tc main_v82_4))
      (V (Proc.devRef .tc main_while1b_v102)) (V (Proc.devRef .tc main_v82_6)) := by
  unfold second1
  after_results_simp
  all_goals rfl

/-- The word at a block's start along one axis of three. -/
def startAt (t : IVec S_ 32) : Fin 3 → Int := fun k =>
  BitVec.toInt ((![t, constantI S_ 32 0#32, constantI S_ 32 0#32] : Fin 3 → IVec S_ 32) k (Shape.Idx.first h_S_))

theorem first_row (V : Valuation τ sig (Elt F)) : after first0 V (Proc.devRef .tc main_while0b_v102)
    = shapeCast S8x128 (Host.dynamicSlice S1x8x128 (V (Proc.devRef .tc main_v79_0)) (startAt (V (Proc.devRef .tc main_v79_5))) updateFits_S512x8x128_S1x8x128)
      shapeCasts_S1x8x128_S8x128 := by
  unfold first0
  after_results_simp_entrywise
  all_goals rfl

theorem second_row (V : Valuation τ sig (Elt F)) : after second0 V (Proc.devRef .tc main_while1b_v102)
    = shapeCast S8x128 (Host.dynamicSlice S1x8x128 (V (Proc.devRef .tc main_v82_0)) (startAt (V (Proc.devRef .tc main_v82_5))) updateFits_S512x8x128_S1x8x128)
      shapeCasts_S1x8x128_S8x128 := by
  unfold second0
  after_results_simp_entrywise
  all_goals rfl

theorem first_store (V : Valuation τ sig (Elt F)) : after first2 V (Proc.devRef .tc main_while0b_v141)
    = Host.dynamicUpdateSlice (V (Proc.devRef .tc main_v79_7))
      (broadcastInDim S1x8x128 ![1, 2] bcast_S8x128_S1x8x128_1_2 (V (Proc.devRef .tc main_while0b_v140) : Vec F S8x128 .f32))
      (startAt (V (Proc.devRef .tc main_v79_5))) updateFits_S512x8x128_S1x8x128 := by
  unfold first2
  after_results_simp_entrywise
  all_goals rfl

theorem second_store (V : Valuation τ sig (Elt F)) : after second2 V (Proc.devRef .tc main_while1b_v141)
    = Host.dynamicUpdateSlice (V (Proc.devRef .tc main_v82_7))
      (broadcastInDim S1x8x128 ![1, 2] bcast_S8x128_S1x8x128_1_2 (V (Proc.devRef .tc main_while1b_v140) : Vec F S8x128 .f32))
      (startAt (V (Proc.devRef .tc main_v82_5))) updateFits_S512x8x128_S1x8x128 := by
  unfold second2
  after_results_simp_entrywise
  all_goals rfl

theorem startAt_eq {k : ℕ} (hk : k < 512) (a : Fin 3) : startAt (fun _ => Scf.iv 0#32 1#32 k) a = ((![k, 0, 0] : Fin 3 → ℕ) a : Int) := by
  have h : (Scf.iv 0#32 1#32 k).toInt = (k : Int) := by
    rw [show Scf.iv 0#32 1#32 k = BitVec.ofNat 32 k from by simp [Scf.iv, BitVec.ofNat_mul_ofNat]]
    exact toInt_ofNat_of_lt (by omega)
  fin_cases a
  · exact h
  · rfl
  · rfl

theorem fits_at {k : ℕ} (hk : k < 512) : S512x8x128.Slices (![k, 0, 0] : Fin 3 → ℕ) S1x8x128 :=
  ⟨rfl, fun a => by
    fin_cases a
    · show k + 1 ≤ 512
      omega
    · show 0 + 8 ≤ 8
      omega
    · show 0 + 128 ≤ 128
      omega⟩

theorem row_read (xs : Vec F S512x8x128 .f32) {k : ℕ} (hk : k < 512) :
    shapeCast S8x128 (Host.dynamicSlice S1x8x128 xs (startAt (fun _ => Scf.iv 0#32 1#32 k)) updateFits_S512x8x128_S1x8x128) shapeCasts_S1x8x128_S8x128
      = rowOf xs k := by
  rw [WordCmp.dynamicSlice_eq_extract S1x8x128 xs _ _ _ (fits_at hk) (startAt_eq hk)]
  funext y
  obtain ⟨e, j, rfl⟩ : ∃ (e : Fin 8) (j : Fin 128), y = ix2 e j := ⟨y 0, y 1, eq_ix2 y⟩
  pointwise [rowOf]
  refine congrArg xs (funext fun a => Fin.ext ?_)
  fin_cases a
  · exact (Nat.mod_eq_of_lt hk).symm
  · rfl
  · rfl

theorem row_write (ys : Vec F S512x8x128 .f32) (h : Vec F S8x128 .f32) {k : ℕ} (hk : k < 512) (t : ℕ) (ht : t < 512) :
    rowOf (Host.dynamicUpdateSlice ys (broadcastInDim S1x8x128 ![1, 2] bcast_S8x128_S1x8x128_1_2 h) (startAt (fun _ => Scf.iv 0#32 1#32 k))
      updateFits_S512x8x128_S1x8x128) t = if t = k then h else rowOf ys t := by
  rw [WordCmp.dynamicUpdateSlice_eq_update _ _ _ _ _ (fits_at hk) (startAt_eq hk)]
  funext y
  obtain ⟨e, j, rfl⟩ : ∃ (e : Fin 8) (j : Fin 128), y = ix2 e j := ⟨y 0, y 1, eq_ix2 y⟩
  have hm : t % 512 = t := Nat.mod_eq_of_lt ht
  unfold rowOf updateSlice
  by_cases hc : t = k
  · subst hc
    rw [if_pos rfl, dif_pos (fun a => by
      fin_cases a
      · show t ≤ t % 512 ∧ t % 512 < t + 1
        omega
      · exact ⟨Nat.zero_le _, by show e.val < 0 + 8; omega⟩
      · exact ⟨Nat.zero_le _, by show j.val < 0 + 128; omega⟩)]
    refine congrArg h (funext fun a => Fin.ext ?_)
    fin_cases a
    · rfl
    · rfl
  · rw [if_neg hc, dif_neg (fun hin => by
      have := hin 0
      have h2 : k ≤ t % 512 ∧ t % 512 < k + 1 := this
      omega)]

theorem first_carry (V : Valuation τ sig (Elt F)) :
    (after first3 V (Proc.devRef .tc main_v79_6) = V (Proc.devRef .tc main_while0b_v140)) ∧ (after first3 V (Proc.devRef .tc main_v79_7) = V (Proc.devRef .tc main_while0b_v141)) := by
  unfold first3
  constructor
  · after_results
    rfl
  · after_results
    rfl

theorem second_carry (V : Valuation τ sig (Elt F)) :
    (after second3 V (Proc.devRef .tc main_v82_6) = V (Proc.devRef .tc main_while1b_v140)) ∧ (after second3 V (Proc.devRef .tc main_v82_7) = V (Proc.devRef .tc main_while1b_v141)) := by
  unfold second3
  constructor
  · after_results
    rfl
  · after_results
    rfl

/-! ## All trips -/

variable (m : (ℓ : Loc nD τ sig) → Buf (Elt F) ℓ)

/-- A reference the first loop does not write holds what it held where the loop was entered. -/
theorem trip0_keep (c : Dev nD) (b : Ref sig .tc) (h : b ∉ firstCond_W ++ first0_W ++ first1_W ++ first2_W ++ first3_W) :
    ∀ k, trip0 m k c (Proc.devRef .tc b) = entry0 m c (Proc.devRef .tc b)
  | 0 => rfl
  | k + 1 => by
    have ih := trip0_keep c b h k
    simp only [List.mem_append, not_or] at h
    obtain ⟨⟨⟨⟨hc0, f0⟩, f1⟩, f2⟩, f3⟩ := h
    rw [show trip0 m (k + 1) c = afterL firstI (after firstCond (trip0 m k c)) from rfl]
    simp only [afterL_cons, afterL_nil] at ih ⊢
    rw [keep first3_writes _ f3, keep first2_writes _ f2, keep first1_writes _ f1, keep first0_writes _ f0, keep firstCond_writes _ hc0, ih]

/-- A reference the second loop does not write holds what it held where the loop was entered. -/
theorem trip1_keep (c : Dev nD) (b : Ref sig .tc) (h : b ∉ secondCond_W ++ second0_W ++ second1_W ++ second2_W ++ second3_W) :
    ∀ k, trip1 m k c (Proc.devRef .tc b) = entry1 m c (Proc.devRef .tc b)
  | 0 => rfl
  | k + 1 => by
    have ih := trip1_keep c b h k
    simp only [List.mem_append, not_or] at h
    obtain ⟨⟨⟨⟨hc0, f0⟩, f1⟩, f2⟩, f3⟩ := h
    rw [show trip1 m (k + 1) c = afterL secondI (after secondCond (trip1 m k c)) from rfl]
    simp only [afterL_cons, afterL_nil] at ih ⊢
    rw [keep second3_writes _ f3, keep second2_writes _ f2, keep second1_writes _ f1, keep second0_writes _ f0, keep secondCond_writes _ hc0, ih]

/-- The first layer's states, over what the first loop was entered with. -/
abbrev layer0 (c : Dev nD) : ℕ → Vec F S8x128 .f32 :=
  scanned (entry0 m c (Proc.devRef .tc main_v79_1)) (entry0 m c (Proc.devRef .tc main_v79_3)) (entry0 m c (Proc.devRef .tc main_v79_2))
    (entry0 m c (Proc.devRef .tc main_v79_4)) (entry0 m c (Proc.devRef .tc main_v79_0))

/-- The second layer's states, over what the second loop was entered with. -/
abbrev layer1 (c : Dev nD) : ℕ → Vec F S8x128 .f32 :=
  scanned (entry1 m c (Proc.devRef .tc main_v82_1)) (entry1 m c (Proc.devRef .tc main_v82_3)) (entry1 m c (Proc.devRef .tc main_v82_2))
    (entry1 m c (Proc.devRef .tc main_v82_4)) (entry1 m c (Proc.devRef .tc main_v82_0))

theorem trip0_state (c : Dev nD) (h0 : entry0 m c (Proc.devRef .tc main_v79_6) = (zeros : Vec F S8x128 .f32)) : ∀ k, k ≤ 512 →
    (trip0 m k c (Proc.devRef .tc main_v79_6) = layer0 m c k) ∧ ∀ t, t < k → rowOf (trip0 m k c (Proc.devRef .tc main_v79_7)) t = layer0 m c (t + 1)
  | 0, _ => ⟨h0, fun t ht => absurd ht (Nat.not_lt_zero _)⟩
  | k + 1, hk => by
    obtain ⟨hs, hh⟩ := trip0_state c h0 k (by omega)
    have hn : after first1 (after first0 (after firstCond (trip0 m k c))) (Proc.devRef .tc main_while0b_v140) = layer0 m c (k + 1) := by
      rw [first_cell, first_row, keep first0_writes _ (b := main_v79_1) (by decide), keep first0_writes _ (b := main_v79_2) (by decide),
        keep first0_writes _ (b := main_v79_3) (by decide), keep first0_writes _ (b := main_v79_4) (by decide), keep first0_writes _ (b := main_v79_6) (by decide),
        keep firstCond_writes _ (b := main_v79_0) (by decide), keep firstCond_writes _ (b := main_v79_1) (by decide),
        keep firstCond_writes _ (b := main_v79_2) (by decide), keep firstCond_writes _ (b := main_v79_3) (by decide),
        keep firstCond_writes _ (b := main_v79_4) (by decide), keep firstCond_writes _ (b := main_v79_5) (by decide),
        keep firstCond_writes _ (b := main_v79_6) (by decide), first_counter, hs, trip0_keep m c main_v79_0 (by decide), trip0_keep m c main_v79_1 (by decide),
        trip0_keep m c main_v79_2 (by decide), trip0_keep m c main_v79_3 (by decide), trip0_keep m c main_v79_4 (by decide)]
      exact congrArg (fun x : Vec F S8x128 .f32 => cell (entry0 m c (Proc.devRef .tc main_v79_1)) (entry0 m c (Proc.devRef .tc main_v79_3))
        (entry0 m c (Proc.devRef .tc main_v79_2)) (entry0 m c (Proc.devRef .tc main_v79_4)) x (layer0 m c k))
        (row_read (entry0 m c (Proc.devRef .tc main_v79_0)) (show k < 512 by omega))
    rw [show trip0 m (k + 1) c = after first3 (after first2 (after first1 (after first0 (after firstCond (trip0 m k c))))) from rfl]
    refine ⟨?_, fun t ht => ?_⟩
    · rw [(first_carry _).1, keep first2_writes _ (b := main_while0b_v140) (by decide), hn]
    · rw [(first_carry _).2, first_store, hn, keep first1_writes _ (b := main_v79_7) (by decide), keep first0_writes _ (b := main_v79_7) (by decide),
        keep firstCond_writes _ (b := main_v79_7) (by decide), keep first1_writes _ (b := main_v79_5) (by decide), keep first0_writes _ (b := main_v79_5) (by decide),
        keep firstCond_writes _ (b := main_v79_5) (by decide), first_counter]
      refine (row_write (trip0 m k c (Proc.devRef .tc main_v79_7)) (layer0 m c (k + 1)) (show k < 512 by omega) t (by omega)).trans ?_
      by_cases hc : t = k
      · rw [if_pos hc, hc]
      · rw [if_neg hc]
        exact hh t (by omega)

theorem trip1_state (c : Dev nD) (h0 : entry1 m c (Proc.devRef .tc main_v82_6) = (zeros : Vec F S8x128 .f32)) : ∀ k, k ≤ 512 →
    (trip1 m k c (Proc.devRef .tc main_v82_6) = layer1 m c k) ∧ ∀ t, t < k → rowOf (trip1 m k c (Proc.devRef .tc main_v82_7)) t = layer1 m c (t + 1)
  | 0, _ => ⟨h0, fun t ht => absurd ht (Nat.not_lt_zero _)⟩
  | k + 1, hk => by
    obtain ⟨hs, hh⟩ := trip1_state c h0 k (by omega)
    have hn : after second1 (after second0 (after secondCond (trip1 m k c))) (Proc.devRef .tc main_while1b_v140) = layer1 m c (k + 1) := by
      rw [second_cell, second_row, keep second0_writes _ (b := main_v82_1) (by decide), keep second0_writes _ (b := main_v82_2) (by decide),
        keep second0_writes _ (b := main_v82_3) (by decide), keep second0_writes _ (b := main_v82_4) (by decide), keep second0_writes _ (b := main_v82_6) (by decide),
        keep secondCond_writes _ (b := main_v82_0) (by decide), keep secondCond_writes _ (b := main_v82_1) (by decide),
        keep secondCond_writes _ (b := main_v82_2) (by decide), keep secondCond_writes _ (b := main_v82_3) (by decide),
        keep secondCond_writes _ (b := main_v82_4) (by decide), keep secondCond_writes _ (b := main_v82_5) (by decide),
        keep secondCond_writes _ (b := main_v82_6) (by decide), second_counter, hs, trip1_keep m c main_v82_0 (by decide), trip1_keep m c main_v82_1 (by decide),
        trip1_keep m c main_v82_2 (by decide), trip1_keep m c main_v82_3 (by decide), trip1_keep m c main_v82_4 (by decide)]
      exact congrArg (fun x : Vec F S8x128 .f32 => cell (entry1 m c (Proc.devRef .tc main_v82_1)) (entry1 m c (Proc.devRef .tc main_v82_3))
        (entry1 m c (Proc.devRef .tc main_v82_2)) (entry1 m c (Proc.devRef .tc main_v82_4)) x (layer1 m c k))
        (row_read (entry1 m c (Proc.devRef .tc main_v82_0)) (show k < 512 by omega))
    rw [show trip1 m (k + 1) c = after second3 (after second2 (after second1 (after second0 (after secondCond (trip1 m k c))))) from rfl]
    refine ⟨?_, fun t ht => ?_⟩
    · rw [(second_carry _).1, keep second2_writes _ (b := main_while1b_v140) (by decide), hn]
    · rw [(second_carry _).2, second_store, hn, keep second1_writes _ (b := main_v82_7) (by decide), keep second0_writes _ (b := main_v82_7) (by decide),
        keep secondCond_writes _ (b := main_v82_7) (by decide), keep second1_writes _ (b := main_v82_5) (by decide), keep second0_writes _ (b := main_v82_5) (by decide),
        keep secondCond_writes _ (b := main_v82_5) (by decide), second_counter]
      refine (row_write (trip1 m k c (Proc.devRef .tc main_v82_7)) (layer1 m c (k + 1)) (show k < 512 by omega) t (by omega)).trans ?_
      by_cases hc : t = k
      · rw [if_pos hc, hc]
      · rw [if_neg hc]
        exact hh t (by omega)

end Cert.ReferenceIdeal.Hand

end
-- ==== Proof.RefPos.lean ====
/-
  The reference's positions: how many rows each entity has, where its rows start, and each row's place among its entity's
  rows. Over a sorted entity column they are the whole numbers one expects.
-/
module

public import proofs.«01_k».proof.Proof.RefScan
public import proofs.«01_k».proof.Proof.Decode
public import Idealize.ShloMosaic.Lib.Routing.Ops
public import Idealize.ShloMosaic.Lib.Routing.OpsPair
public import Idealize.ShloMosaic.Lib.Routing.OpsSet

@[expose] public section

set_option maxRecDepth 100000

noncomputable section

namespace Cert.ReferenceIdeal.Hand

open Cert.ReferenceIdeal Cert.ReferenceIdeal.Gen
open Idealize.ShloMosaic Idealize.ShloMosaic.TcCoe Idealize.ShloMosaic.Tactic
open Idealize.ShloMosaic.StableHlo
open Cert.KernelIdeal.Hand (Segs seg seg_spec entOf typeCol)

variable {F : FTy → Type} [FloatOps F]

/-! ## The arrays of words -/

/-- One word at every row. -/
abbrev word (n : BitVec 32) : IVec S2048 32 := broadcastInDim S2048 ![] bcast_S_S2048 (constantI S_ 32 n)

/-- The reference's index: `n` more where the word is negative. -/
def wrap (n : BitVec 32) (x : IVec S2048 32) : IVec S2048 32 := select (cmpi .slt x (word 0#32)) (addi x (word n)) x

/-- How many rows each entity has. -/
def counts (x : IVec S2048 32) : IVec S8 32 :=
  Host.scatter scatter_S8_S2048x1_S2048_n_0_0_1 IntOp.addi (broadcastInDim S8 ![] bcast_S_S8 (constantI S_ 32 0#32))
    (broadcastInDim S2048x1 ![0] bcast_S2048_S2048x1_0 (wrap 8#32 (maxsi (word 0#32) x))) (word 1#32)

/-- The running sums of the counts. -/
def sums (x : IVec S2048 32) : IVec S8 32 :=
  Host.reduceWindow IntOp.addi ![8] ![1] ![7] ![0] (counts x) (broadcastInDim S_ ![] bcast_S_S_ (constantI S_ 32 0#32)) reduceWindows_S8_S8_w8s1p7_0 h_S_

/-- Where each entity's rows start. -/
def startsW (x : IVec S2048 32) : IVec S8 32 :=
  concatenate S8 0 [⟨S1, broadcastInDim S1 ![] bcast_S_S1 (constantI S_ 32 0#32)⟩, ⟨S7, extractStridedSlice S7 ![0] (sums x) slices_S8_S7_0⟩] concatenates_S1_S7_S8_d0

/-- Each row's place among its entity's rows. -/
def posW (x : IVec S2048 32) : IVec S2048 32 :=
  subi (iotaInDim S2048 32 0) (Host.gather gather_S8_S2048x1_S2048_n_0_n_n_0_1_1 (startsW x) (broadcastInDim S2048x1 ![0] bcast_S2048_S2048x1_0 (wrap 8#32 x)))

theorem run_ents (V : Valuation τ sig (Elt F)) : after pre0 V (Proc.devRef .tc main_v1) = fun y => typeCol (V (Proc.devRef .tc main_arg3)) y := by
  refine Eq.trans ?_ (Cert.KernelIdeal.Hand.col_eq _ slices_S2048x2_S2048x1_0_1 shapeCasts_S2048x1_S2048)
  unfold pre0
  after_results_simp
  all_goals rfl

theorem run_counts (V : Valuation τ sig (Elt F)) : after pre8 (after pre7 (after pre6 V)) (Proc.devRef .tc main_v47) = counts (V (Proc.devRef .tc main_v1)) := by
  unfold pre8
  after_results_simp
  unfold pre7
  after_results_simp
  unfold pre6
  after_results_simp
  all_goals rfl

theorem run_zero (V : Valuation τ sig (Elt F)) :
    after pre8 V (Proc.devRef .tc main_v48) = (broadcastInDim S1 ![] bcast_S_S1 (constantI S_ 32 0#32) : IVec S1 32) := by
  unfold pre8
  after_results_simp
  all_goals rfl

theorem run_sums (V : Valuation τ sig (Elt F)) : after pre9 V (Proc.devRef .tc main_v49)
    = Host.reduceWindow IntOp.addi ![8] ![1] ![7] ![0] (V (Proc.devRef .tc main_v47)) (broadcastInDim S_ ![] bcast_S_S_ (constantI S_ 32 0#32)) reduceWindows_S8_S8_w8s1p7_0 h_S_ := by
  unfold pre9
  after_results_simp
  all_goals rfl

theorem run_places (V : Valuation τ sig (Elt F)) : after pre10 V (Proc.devRef .tc main_v60)
    = subi (iotaInDim S2048 32 0) (Host.gather gather_S8_S2048x1_S2048_n_0_n_n_0_1_1
      (concatenate S8 0 [⟨S1, V (Proc.devRef .tc main_v48)⟩, ⟨S7, extractStridedSlice S7 ![0] (V (Proc.devRef .tc main_v49)) slices_S8_S7_0⟩] concatenates_S1_S7_S8_d0 : IVec S8 32)
      (broadcastInDim S2048x1 ![0] bcast_S2048_S2048x1_0 (wrap 8#32 (V (Proc.devRef .tc main_v1))))) := by
  unfold pre10
  after_results_simp
  all_goals rfl

/-- The positions after the integer stretches. -/
theorem run_pos (V : Valuation τ sig (Elt F)) :
    after pre10 (after pre9 (after pre8 (after pre7 (after pre6 V)))) (Proc.devRef .tc main_v60) = posW (V (Proc.devRef .tc main_v1)) := by
  rw [run_places, run_sums, run_counts, keep pre9_writes _ (b := main_v48) (by decide), run_zero, keep pre9_writes _ (b := main_v1) (by decide),
    keep pre8_writes _ (b := main_v1) (by decide), keep pre7_writes _ (b := main_v1) (by decide), keep pre6_writes _ (b := main_v1) (by decide)]
  rfl

/-! ## Their entries -/

theorem wrap_at (n : BitVec 32) (x : IVec S2048 32) (y : S2048.Idx) (h : 0 ≤ (x y).toInt) : wrap n x y = x y :=
  select_slt_zero_of_nonneg _ _ _ y h

/-- A count of hits as a fold of additions of one. -/
theorem fold_ones {ι : Type} (hit : ι → Prop) [DecidablePred hit] : ∀ (l : List ι) (z : ℕ),
    l.foldl (fun a n => if hit n then IntOp.addi a 1#32 else a) (BitVec.ofNat 32 z) = BitVec.ofNat 32 (z + l.countP (fun n => decide (hit n)))
  | [], z => rfl
  | n :: l, z => by
    rw [List.foldl_cons]
    by_cases h : hit n
    · rw [if_pos h, show IntOp.addi (BitVec.ofNat 32 z) 1#32 = BitVec.ofNat 32 (z + 1) from (BitVec.ofNat_add z 1).symm, fold_ones hit l (z + 1),
        List.countP_cons_of_pos (by simpa using h)]
      congr 1
      omega
    · rw [if_neg h, fold_ones hit l z, List.countP_cons_of_neg (by simpa using h)]

variable {ent : ℕ → BitVec 32}

theorem ent_toInt (h : Segs ent) {i : ℕ} (hi : i < 2048) : (ent i).toInt = ((ent i).toNat : Int) := by
  have := h.le7 i hi
  rw [BitVec.toInt_eq_toNat_cond, if_pos (by omega)]

theorem ent_ofNat (i : ℕ) : ent i = BitVec.ofNat 32 (ent i).toNat := by
  rw [BitVec.ofNat_toNat, BitVec.setWidth_eq]

/-- The number of rows of entity `e`. -/
theorem count_seg (h : Segs ent) (e : ℕ) : Nat.count (fun i => (ent i).toNat = e) 2048 = seg ent (e + 1) - seg ent e := by
  rw [Nat.count_eq_card_filter_range]
  have : (Finset.range 2048).filter (fun i => (ent i).toNat = e) = Finset.Ico (seg ent e) (seg ent (e + 1)) := by
    ext i
    simp only [Finset.mem_filter, Finset.mem_range, Finset.mem_Ico]
    constructor
    · rintro ⟨hi, he⟩
      have h1 := (seg_spec h e).2 i hi
      have h2 := (seg_spec h (e + 1)).2 i hi
      omega
    · rintro ⟨hl, hr⟩
      have hi : i < 2048 := hr.trans_le (seg_spec h (e + 1)).1
      have h1 := (seg_spec h e).2 i hi
      have h2 := (seg_spec h (e + 1)).2 i hi
      exact ⟨hi, by omega⟩
  rw [this, Nat.card_Ico]

theorem sum_seg (h : Segs ent) : ∀ n, ((List.range n).map fun e => seg ent (e + 1) - seg ent e).sum = seg ent n
  | 0 => rfl
  | n + 1 => by
    have := (Cert.KernelIdeal.Hand.fits_seg h).mono n
    rw [List.range_succ, List.map_append, List.sum_append, sum_seg h n]
    simp only [List.map_cons, List.map_nil, List.sum_cons, List.sum_nil]
    omega

/-! Where the scatters' updates land, and what the gather reads. -/

theorem hist_start (idx : IVec S2048x1 32) (i : Fin 2048) :
    scatter_S8_S2048x1_S2048_n_0_0_1.start (ix1 (n0 := 2048) i) idx 0 = (idx (ix2 (n0 := 2048) (n1 := 1) i 0)).toInt := by
  unfold ScatterDims.start
  rw [dif_pos (by decide)]
  refine congrArg (fun y => (idx y).toInt) (funext fun b => ?_)
  fin_cases b <;> rfl

theorem hist_lands (idx : IVec S2048x1 32) (i : Fin 2048) (e : Fin 8) :
    scatter_S8_S2048x1_S2048_n_0_0_1.resultIdx? (ix1 (n0 := 2048) i) idx = some (ix1 (n0 := 8) e) ↔ (idx (ix2 (n0 := 2048) (n1 := 1) i 0)).toInt = (e.val : Int) := by
  have hw : scatter_S8_S2048x1_S2048_n_0_0_1.window (ix1 (n0 := 2048) i) 0 = 0 := rfl
  refine (Routing.resultIdx?_ix1 (N := 8) scatter_S8_S2048x1_S2048_n_0_0_1 (ix1 (n0 := 2048) i) idx e).trans ?_
  rw [hist_start, hw]
  omega

theorem put_start (idx : IVec S2048x2 32) (i : Fin 2048) (k : Fin 128) (a : Fin 3) :
    scatter_S8x512x128_S2048x2_S2048x128_1_01_01_1.start (ix2 (n0 := 2048) (n1 := 128) i k) idx a + (scatter_S8x512x128_S2048x2_S2048x128_1_01_01_1.window (ix2 (n0 := 2048) (n1 := 128) i k) a : Int)
      = (![(idx (ix2 (n0 := 2048) (n1 := 2) i 0)).toInt, (idx (ix2 (n0 := 2048) (n1 := 2) i 1)).toInt, (k.val : Int)] : Fin 3 → Int) a := by
  unfold ScatterDims.start
  fin_cases a
  · rw [dif_pos (by decide)]
    refine (Int.add_zero _).trans (congrArg (fun y => (idx y).toInt) (funext fun b => ?_))
    fin_cases b <;> rfl
  · rw [dif_pos (by decide)]
    refine (Int.add_zero _).trans (congrArg (fun y => (idx y).toInt) (funext fun b => ?_))
    fin_cases b <;> rfl
  · rw [dif_neg (by decide)]
    exact Int.zero_add _

theorem put_lands (idx : IVec S2048x2 32) (i : Fin 2048) (k : Fin 128) (e : Fin 8) (t : Fin 512) (j : Fin 128) :
    scatter_S8x512x128_S2048x2_S2048x128_1_01_01_1.resultIdx? (ix2 (n0 := 2048) (n1 := 128) i k) idx = some (ix3 (n0 := 8) (n1 := 512) (n2 := 128) e t j)
      ↔ (idx (ix2 (n0 := 2048) (n1 := 2) i 0)).toInt = (e.val : Int) ∧ (idx (ix2 (n0 := 2048) (n1 := 2) i 1)).toInt = (t.val : Int) ∧ k = j := by
  rw [Routing.resultIdx?_eq_some]
  constructor
  · intro h
    have h0 := h 0
    have h1 := h 1
    have h2 := h 2
    rw [put_start] at h0 h1 h2
    exact ⟨h0, h1, Fin.ext (Int.ofNat.inj h2)⟩
  · rintro ⟨h0, h1, rfl⟩ a
    rw [put_start]
    fin_cases a
    · exact h0
    · exact h1
    · rfl

theorem take_at (x : FVec F S512x8x128 .f32) (idx : IVec S2048x2 32) (i : Fin 2048) (k : Fin 128) (t : Fin 512) (e : Fin 8)
    (ht : (idx (ix2 (n0 := 2048) (n1 := 2) i 0)).toInt = (t.val : Int)) (he : (idx (ix2 (n0 := 2048) (n1 := 2) i 1)).toInt = (e.val : Int)) :
    Host.gather gather_S512x8x128_S2048x2_S2048x128_1_01_n_n_01_1_11128 x idx (ix2 (n0 := 2048) (n1 := 128) i k) = x (ix3 (n0 := 512) (n1 := 8) (n2 := 128) t e k) := by
  have h0 : gather_S512x8x128_S2048x2_S2048x128_1_01_n_n_01_1_11128.start (ix2 (n0 := 2048) (n1 := 128) i k) idx 0 = t.val := by
    unfold GatherDims.start
    rw [dif_pos (by decide)]
    refine (congrArg (fun y => min (idx y).toInt.toNat 511) (a₂ := ix2 (n0 := 2048) (n1 := 2) i 0) (funext fun b => ?_)).trans ?_
    · fin_cases b <;> rfl
    · show min (idx (ix2 (n0 := 2048) (n1 := 2) i 0)).toInt.toNat 511 = t.val
      rw [ht]
      omega
  have h1 : gather_S512x8x128_S2048x2_S2048x128_1_01_n_n_01_1_11128.start (ix2 (n0 := 2048) (n1 := 128) i k) idx 1 = e.val := by
    unfold GatherDims.start
    rw [dif_pos (by decide)]
    refine (congrArg (fun y => min (idx y).toInt.toNat 7) (a₂ := ix2 (n0 := 2048) (n1 := 2) i 1) (funext fun b => ?_)).trans ?_
    · fin_cases b <;> rfl
    · show min (idx (ix2 (n0 := 2048) (n1 := 2) i 1)).toInt.toNat 7 = e.val
      rw [he]
      omega
  unfold Host.gather
  refine congrArg x (funext fun a => Fin.ext ?_)
  fin_cases a
  · exact (Nat.add_zero _).trans ((Nat.add_zero _).trans h0)
  · exact (Nat.add_zero _).trans ((Nat.add_zero _).trans h1)
  · exact (Nat.zero_add _).trans rfl

/-! The entries over a sorted column. -/

/-- The column as an array of words. -/
abbrev column (ent : ℕ → BitVec 32) : IVec S2048 32 := fun y => ent (y 0).val

theorem clipped (h : Segs ent) : maxsi (word 0#32) (column ent) = column ent := by
  funext y
  have hy : (y 0).val < 2048 := (y 0).isLt
  have hi := ent_toInt h hy
  show IntOp.maxsi 0#32 (ent (y 0).val) = ent (y 0).val
  unfold IntOp.maxsi
  rw [if_neg]
  rw [BitVec.slt, hi]
  simp

theorem wrapped (h : Segs ent) (n : BitVec 32) : wrap n (column ent) = column ent := by
  funext y
  have hy : (y 0).val < 2048 := (y 0).isLt
  exact wrap_at n _ y (by rw [show column ent y = ent (y 0).val from rfl, ent_toInt h hy]; omega)

theorem counts_at (h : Segs ent) (e : Fin 8) : counts (column ent) (ix1 (n0 := 8) e) = BitVec.ofNat 32 (seg ent (e.val + 1) - seg ent e.val) := by
  unfold counts
  rw [clipped h, wrapped h, Routing.scatter_at]
  have hhit : ∀ n : Fin S2048.numel, (scatter_S8_S2048x1_S2048_n_0_0_1.resultIdx? (S2048.rowMajor.symm n)
      (broadcastInDim S2048x1 ![0] bcast_S2048_S2048x1_0 (column ent)) = some (ix1 (n0 := 8) e)) ↔ (ent n.val).toNat = e.val := fun n => by
    have hn : n.val < 2048 := (n.cast (Routing.numel1 2048)).isLt
    rw [show S2048.rowMajor.symm n = ix1 (n0 := 2048) (n.cast (Routing.numel1 2048)) from Routing.symm1 (N := 2048) n, hist_lands]
    show (ent n.val).toInt = _ ↔ _
    rw [ent_toInt h hn]
    omega
  simp only [hhit]
  refine (fold_ones (fun n : Fin S2048.numel => (ent n.val).toNat = e.val) _ 0).trans ?_
  rw [Nat.zero_add, Routing.countP_finRange S2048.numel (fun i => (ent i).toNat = e.val), show S2048.numel = 2048 from Routing.numel1 2048, count_seg h]

theorem sums_at (h : Segs ent) (e : Fin 8) : sums (column ent) (ix1 (n0 := 8) e) = BitVec.ofNat 32 (seg ent (e.val + 1)) := by
  have := Routing.cumsum1 (N := 8) (Nm1 := 7) rfl (counts (column ent)) (fun e => seg ent (e + 1) - seg ent e) (counts_at h)
    (broadcastInDim S_ ![] bcast_S_S_ (constantI S_ 32 0#32)) rfl reduceWindows_S8_S8_w8s1p7_0 h_S_ e
  exact this.trans (by rw [sum_seg h])

theorem starts_at (h : Segs ent) (e : Fin 8) : startsW (column ent) (ix1 (n0 := 8) e) = BitVec.ofNat 32 (seg ent e.val) := by
  unfold startsW
  rcases Nat.eq_zero_or_pos e.val with he | he
  · obtain rfl : e = 0 := Fin.ext he
    pointwise
    rfl
  · have hs := sums_at h ⟨e.val - 1, by omega⟩
    rw [show (⟨e.val - 1, by omega⟩ : Fin 8).val + 1 = e.val from by show e.val - 1 + 1 = e.val; omega] at hs
    rw [← hs]
    pointwise
    rw [dif_neg (by omega)]

theorem pos_at (h : Segs ent) (i : Fin 2048) : posW (column ent) (ix1 (n0 := 2048) i) = BitVec.ofNat 32 (i.val - seg ent (ent i.val).toNat) := by
  have h7 := h.le7 i.val i.isLt
  have hlo := (seg_spec h (ent i.val).toNat).2 i.val i.isLt
  unfold posW
  rw [wrapped h]
  have hg := Routing.gather_take1 (N := 8) (n := 2048) gather_S8_S2048x1_S2048_n_0_n_n_0_1_1 rfl rfl rfl rfl (startsW (column ent))
    (broadcastInDim S2048x1 ![0] bcast_S2048_S2048x1_0 (column ent)) i ⟨(ent i.val).toNat, by omega⟩ (ent_ofNat i.val) (by decide)
  have hg := hg.trans (starts_at h ⟨(ent i.val).toNat, by omega⟩)
  show IntOp.subi (BitVec.ofNat 32 i.val) (Host.gather gather_S8_S2048x1_S2048_n_0_n_n_0_1_1 (startsW (column ent))
    (broadcastInDim S2048x1 ![0] bcast_S2048_S2048x1_0 (column ent)) (ix1 (n0 := 2048) i)) = _
  refine (congrArg (IntOp.subi (BitVec.ofNat 32 i.val)) hg).trans ?_
  exact Cert.KernelIdeal.Hand.subi_ofNat (by show seg ent (ent i.val).toNat ≤ i.val; omega)

theorem pos_wrapped (h : Segs ent) (i : Fin 2048) : wrap 512#32 (posW (column ent)) (ix1 (n0 := 2048) i) = BitVec.ofNat 32 (i.val - seg ent (ent i.val).toNat) := by
  have hp := pos_at h i
  have hi := i.isLt
  refine (wrap_at 512#32 _ _ ?_).trans hp
  rw [hp, toInt_ofNat_of_lt (by omega)]
  omega

/-! ## The padded input and the rows read back -/

/-- Two columns of words side by side. -/
def pairs (a b : IVec S2048 32) : IVec S2048x2 32 :=
  concatenate S2048x2 1 [⟨S2048x1, broadcastInDim S2048x1 ![0] bcast_S2048_S2048x1_0 a⟩, ⟨S2048x1, broadcastInDim S2048x1 ![0] bcast_S2048_S2048x1_0 b⟩] concatenates_S2048x1_S2048x1_S2048x2_d1

theorem pairs_fst (a b : IVec S2048 32) (i : Fin 2048) : pairs a b (ix2 (n0 := 2048) (n1 := 2) i 0) = a (ix1 (n0 := 2048) i) := by
  unfold pairs
  pointwise

theorem pairs_snd (a b : IVec S2048 32) (i : Fin 2048) : pairs a b (ix2 (n0 := 2048) (n1 := 2) i 1) = b (ix1 (n0 := 2048) i) := by
  unfold pairs
  pointwise

/-- The features laid out by time and entity, zero elsewhere. -/
def padded (ent pos : IVec S2048 32) (g : Vec F S2048x128 .f32) : Vec F S512x8x128 .f32 :=
  transpose S512x8x128 [1, 0, 2] (Host.scatter scatter_S8x512x128_S2048x2_S2048x128_1_01_01_1 (fun _ b => b)
    (broadcastInDim S8x512x128 ![] bcast_S_S8x512x128 (constant S_ .f32 0x00000000#32)) (pairs (wrap 8#32 ent) (wrap 512#32 pos)) g) transposes_S8x512x128_S512x8x128_1_0_2

theorem run_padded (V : Valuation τ sig (Elt F)) : after pre11 V (Proc.devRef .tc main_v76)
    = padded (V (Proc.devRef .tc main_v1)) (V (Proc.devRef .tc main_v60)) (V (Proc.devRef .tc main_v37)) := by
  unfold pre11
  after_results_simp
  all_goals rfl

theorem run_state (V : Valuation τ sig (Elt F)) : after pre11 V (Proc.devRef .tc main_v77) = (zeros : Vec F S8x128 .f32) := by
  unfold pre11
  after_results_simp
  all_goals rfl

theorem run_places2 (V : Valuation τ sig (Elt F)) : after post0 V (Proc.devRef .tc main_v95)
    = pairs (wrap 512#32 (V (Proc.devRef .tc main_v60))) (wrap 8#32 (V (Proc.devRef .tc main_v1))) := by
  unfold post0
  after_results_simp
  all_goals rfl

/-- The logits of the rows read back. -/
def logits (places : IVec S2048x2 32) (ys : Vec F S512x8x128 .f32) (W : Vec F S2x128 .f32) (b : Vec F S2 .f32) : Vec F S2048x2 .f32 :=
  addf (Host.dotGeneral dot_S2048x128_S128x2_S2048x2_1_0_0_1_n_n none (Host.gather gather_S512x8x128_S2048x2_S2048x128_1_01_n_n_01_1_11128 ys places)
      (transpose S128x2 [1, 0] W transposes_S2x128_S128x2_1_0))
    (broadcastInDim S2048x2 ![0, 1] bcast_S1x2_S2048x2_0_1 (broadcastInDim S1x2 ![1] bcast_S2_S1x2_1 b))

theorem run_logits (V : Valuation τ sig (Elt F)) : after post1 V (Proc.devRef .tc main_v101)
    = logits (V (Proc.devRef .tc main_v95)) (V (Proc.devRef .tc main_v82_7)) (V (Proc.devRef .tc main_arg16)) (V (Proc.devRef .tc main_arg17)) := by
  unfold post1
  after_results_simp
  all_goals rfl

theorem padded_at (h : Segs ent) (g : Vec F S2048x128 .f32) (i : Fin 2048) (k : Fin 128) (t : Fin 512) (e : Fin 8) (he : (ent i.val).toNat = e.val)
    (ht : i.val = seg ent e.val + t.val) :
    padded (column ent) (posW (column ent)) g (ix3 (n0 := 512) (n1 := 8) (n2 := 128) t e k) = g (ix2 (n0 := 2048) (n1 := 128) i k) := by
  have hplace : ∀ i' : Fin 2048, (pairs (wrap 8#32 (column ent)) (wrap 512#32 (posW (column ent))) (ix2 (n0 := 2048) (n1 := 2) i' 0)).toInt = ((ent i'.val).toNat : Int)
      ∧ (pairs (wrap 8#32 (column ent)) (wrap 512#32 (posW (column ent))) (ix2 (n0 := 2048) (n1 := 2) i' 1)).toInt = ((i'.val - seg ent (ent i'.val).toNat : ℕ) : Int) := fun i' => by
    have hi' := i'.isLt
    refine ⟨?_, ?_⟩
    · rw [pairs_fst, wrapped h]
      exact ent_toInt h hi'
    · rw [pairs_snd, pos_wrapped h, toInt_ofNat_of_lt (by omega)]
  have hsc : Host.scatter scatter_S8x512x128_S2048x2_S2048x128_1_01_01_1 (fun _ b => b)
      (broadcastInDim S8x512x128 ![] bcast_S_S8x512x128 (constant S_ .f32 0x00000000#32)) (pairs (wrap 8#32 (column ent)) (wrap 512#32 (posW (column ent)))) g
      (ix3 (n0 := 8) (n1 := 512) (n2 := 128) e t k) = g (ix2 (n0 := 2048) (n1 := 128) i k) := by
    refine Routing.scatter_set_hit _ _ _ _ _ _ (fun y hy => ?_) (ix2 (n0 := 2048) (n1 := 128) i k) ?_
    · obtain ⟨i', k', rfl⟩ : ∃ (i' : Fin 2048) (k' : Fin 128), y = ix2 i' k' := ⟨y 0, y 1, eq_ix2 y⟩
      obtain ⟨h1, h2, rfl⟩ := (put_lands _ i' k' e t k).1 hy
      rw [(hplace i').1] at h1
      rw [(hplace i').2] at h2
      have hlo := (seg_spec h (ent i'.val).toNat).2 i'.val i'.isLt
      have h1' : (ent i'.val).toNat = e.val := by omega
      rw [h1'] at h2 hlo
      obtain rfl : i' = i := Fin.ext (by omega)
      rfl
    · refine (put_lands _ i k e t k).2 ⟨?_, ?_, rfl⟩
      · rw [(hplace i).1, he]
      · rw [(hplace i).2, he]
        omega
  rw [← hsc]
  unfold padded
  pointwise

theorem read_back (h : Segs ent) (ys : Vec F S512x8x128 .f32) (i : Fin 2048) (k : Fin 128) (t : Fin 512) (e : Fin 8) (he : (ent i.val).toNat = e.val)
    (ht : i.val = seg ent e.val + t.val) :
    Host.gather gather_S512x8x128_S2048x2_S2048x128_1_01_n_n_01_1_11128 ys (pairs (wrap 512#32 (posW (column ent))) (wrap 8#32 (column ent)))
      (ix2 (n0 := 2048) (n1 := 128) i k) = ys (ix3 (n0 := 512) (n1 := 8) (n2 := 128) t e k) := by
  have hi := i.isLt
  refine take_at _ _ i k t e ?_ ?_
  · rw [pairs_fst, pos_wrapped h, toInt_ofNat_of_lt (by omega), he]
    omega
  · rw [pairs_snd, wrapped h]
    exact (ent_toInt h hi).trans (by rw [he])

end Cert.ReferenceIdeal.Hand

end
-- ==== Proof.RefFeats.lean ====
/-
  The reference's features as one expression of its arguments, and the values the two loops begin with.
-/
module

public import proofs.«01_k».proof.Proof.RefPos

@[expose] public section

set_option maxRecDepth 100000

noncomputable section

namespace Cert.ReferenceIdeal.Hand

open Cert.ReferenceIdeal Cert.ReferenceIdeal.Gen
open Idealize.ShloMosaic Idealize.ShloMosaic.TcCoe Idealize.ShloMosaic.Tactic
open Idealize.ShloMosaic.StableHlo

variable {F : FTy → Type} [FloatOps F]

/-- One slot of every token. -/
def slotR (x : Vec F S2048x4x256 .f32) (o : ℕ) (h : S2048x4x256.Slices ![0, o, 0] S2048x1x256) : Vec F S2048x256 .f32 :=
  shapeCast S2048x256 (extractStridedSlice S2048x1x256 ![0, o, 0] x h) shapeCasts_S2048x1x256_S2048x256

/-- The product sums of two arrays' rows. -/
def dots (a b : Vec F S2048x256 .f32) : Vec F S2048 .f32 :=
  Host.reduceAdd (mulf a b) (constant S_ .f32 0x00000000#32) reducesTo_S2048x256_S2048_d1 h_S_

/-- The lengths of an array's rows, from the word of `1e-8` up. -/
def norms (a : Vec F S2048x256 .f32) : Vec F S2048 .f32 :=
  maximumf (Host.sqrt (dots a a)) (broadcastInDim S2048 ![] bcast_S_S2048 (constant S_ .f32 0x322BCC77#32))

/-- One vector at every row. -/
def rows (b : Vec F S128 .f32) : Vec F S2048x128 .f32 :=
  broadcastInDim S2048x128 ![0, 1] bcast_S1x128_S2048x128_0_1 (broadcastInDim S1x128 ![1] bcast_S128_S1x128_1 b)

/-- The reference's features before the cut at zero, from the slots and the product sums. -/
def scaledR (s0 s1 : Vec F S2048x256 .f32) (d n2 n3 : Vec F S2048 .f32) (W : Vec F S128x512 .f32) (b γ β : Vec F S128 .f32) : Vec F S2048x128 .f32 :=
  addf (mulf (mulf (addf (Host.dotGeneral dot_S2048x512_S512x128_S2048x128_1_0_0_1_n_n none
      (concatenate S2048x512 1 [⟨S2048x256, mulf s0 (broadcastInDim S2048x256 ![0, 1] bcast_S2048x1_S2048x256_0_1 (broadcastInDim S2048x1 ![0] bcast_S2048_S2048x1_0
        (Host.divf d (mulf n2 n3))))⟩, ⟨S2048x256, s1⟩] concatenates_S2048x256_S2048x256_S2048x512_d1)
      (transpose S512x128 [1, 0] W transposes_S128x512_S512x128_1_0)) (rows b))
    (broadcastInDim S2048x128 ![] bcast_S_S2048x128 (constant S_ .f32 0x3F7FFFAC#32))) (rows γ)) (rows β)

/-- The reference's features. -/
def featsR (x : Vec F S2048x4x256 .f32) (W : Vec F S128x512 .f32) (b γ β : Vec F S128 .f32) : Vec F S2048x128 .f32 :=
  maximumf (scaledR (slotR x 0 slices_S2048x4x256_S2048x1x256_0_0_0) (slotR x 1 slices_S2048x4x256_S2048x1x256_0_1_0)
    (dots (slotR x 2 slices_S2048x4x256_S2048x1x256_0_2_0) (slotR x 3 slices_S2048x4x256_S2048x1x256_0_3_0))
    (norms (slotR x 2 slices_S2048x4x256_S2048x1x256_0_2_0)) (norms (slotR x 3 slices_S2048x4x256_S2048x1x256_0_3_0)) W b γ β)
    (broadcastInDim S2048x128 ![] bcast_S_S2048x128 (constant S_ .f32 0x00000000#32))

theorem run_slots (V : Valuation τ sig (Elt F)) :
    after pre0 V (Proc.devRef .tc main_v3) = slotR (V (Proc.devRef .tc main_arg0)) 0 slices_S2048x4x256_S2048x1x256_0_0_0
    ∧ after pre0 V (Proc.devRef .tc main_v5) = slotR (V (Proc.devRef .tc main_arg0)) 1 slices_S2048x4x256_S2048x1x256_0_1_0
    ∧ after pre0 V (Proc.devRef .tc main_v7) = slotR (V (Proc.devRef .tc main_arg0)) 2 slices_S2048x4x256_S2048x1x256_0_2_0
    ∧ after pre0 V (Proc.devRef .tc main_v9) = slotR (V (Proc.devRef .tc main_arg0)) 3 slices_S2048x4x256_S2048x1x256_0_3_0
    ∧ after pre0 V (Proc.devRef .tc main_v11) = dots (slotR (V (Proc.devRef .tc main_arg0)) 2 slices_S2048x4x256_S2048x1x256_0_2_0)
        (slotR (V (Proc.devRef .tc main_arg0)) 3 slices_S2048x4x256_S2048x1x256_0_3_0) := by
  unfold pre0
  refine ⟨?_, ?_, ?_, ?_, ?_⟩ <;> (after_results_simp; all_goals rfl)

theorem run_norm2 (V : Valuation τ sig (Elt F)) : after pre2 (after pre1 V) (Proc.devRef .tc main_v14) = norms (V (Proc.devRef .tc main_v7)) := by
  unfold pre2
  after_results_simp
  unfold pre1
  after_results_simp
  all_goals rfl

theorem run_norm3 (V : Valuation τ sig (Elt F)) : after pre3 V (Proc.devRef .tc main_v15)
    = (Host.sqrt (dots (V (Proc.devRef .tc main_v9)) (V (Proc.devRef .tc main_v9))) : Vec F S2048 .f32) := by
  unfold pre3
  after_results_simp
  all_goals rfl

theorem run_scaled (V : Valuation τ sig (Elt F)) : after pre4 V (Proc.devRef .tc main_v36)
    = scaledR (V (Proc.devRef .tc main_v3)) (V (Proc.devRef .tc main_v5)) (V (Proc.devRef .tc main_v11)) (V (Proc.devRef .tc main_v14))
      (maximumf (V (Proc.devRef .tc main_v15) : Vec F S2048 .f32) (broadcastInDim S2048 ![] bcast_S_S2048 (constant S_ .f32 0x322BCC77#32)))
      (V (Proc.devRef .tc main_arg4)) (V (Proc.devRef .tc main_arg5)) (V (Proc.devRef .tc main_arg6)) (V (Proc.devRef .tc main_arg7)) := by
  unfold pre4
  after_results_simp
  all_goals rfl

theorem run_cut (V : Valuation τ sig (Elt F)) : after pre5 V (Proc.devRef .tc main_v37)
    = (maximumf (V (Proc.devRef .tc main_v36) : Vec F S2048x128 .f32) (broadcastInDim S2048x128 ![] bcast_S_S2048x128 (constant S_ .f32 0x00000000#32)) : Vec F S2048x128 .f32) := by
  unfold pre5
  after_results_simp
  all_goals rfl

theorem run_feats (V : Valuation τ sig (Elt F)) : after pre5 (after pre4 (after pre3 (after pre2 (after pre1 (after pre0 V))))) (Proc.devRef .tc main_v37)
    = featsR (V (Proc.devRef .tc main_arg0)) (V (Proc.devRef .tc main_arg4)) (V (Proc.devRef .tc main_arg5)) (V (Proc.devRef .tc main_arg6)) (V (Proc.devRef .tc main_arg7)) := by
  obtain ⟨s0, s1, s2, s3, d⟩ := run_slots V
  rw [run_cut, run_scaled, run_norm3]
  simp only [keep pre3_writes _ (b := main_v3) (by decide), keep pre3_writes _ (b := main_v5) (by decide), keep pre3_writes _ (b := main_v11) (by decide),
    keep pre3_writes _ (b := main_v14) (by decide), keep pre3_writes _ (b := main_arg4) (by decide), keep pre3_writes _ (b := main_arg5) (by decide),
    keep pre3_writes _ (b := main_arg6) (by decide), keep pre3_writes _ (b := main_arg7) (by decide), run_norm2,
    keep pre2_writes _ (b := main_v3) (by decide), keep pre2_writes _ (b := main_v5) (by decide), keep pre2_writes _ (b := main_v9) (by decide), keep pre2_writes _ (b := main_v11) (by decide),
    keep pre2_writes _ (b := main_arg4) (by decide), keep pre2_writes _ (b := main_arg5) (by decide), keep pre2_writes _ (b := main_arg6) (by decide), keep pre2_writes _ (b := main_arg7) (by decide),
    keep pre1_writes _ (b := main_v3) (by decide), keep pre1_writes _ (b := main_v5) (by decide), keep pre1_writes _ (b := main_v9) (by decide), keep pre1_writes _ (b := main_v11) (by decide),
    keep pre1_writes _ (b := main_arg4) (by decide), keep pre1_writes _ (b := main_arg5) (by decide), keep pre1_writes _ (b := main_arg6) (by decide), keep pre1_writes _ (b := main_arg7) (by decide),
    s0, s1, s2, s3, d,
    keep pre0_writes _ (b := main_arg4) (by decide), keep pre0_writes _ (b := main_arg5) (by decide), keep pre0_writes _ (b := main_arg6) (by decide), keep pre0_writes _ (b := main_arg7) (by decide)]
  rfl

end Cert.ReferenceIdeal.Hand

end
-- ==== Proof.Cells.lean ====
/-
  One step of a recurrent layer, one row at a time, over the extended reals. The kernel's step and the reference's step are
  the same function of the row's input and the row's state.
-/
module

public import proofs.«01_k».proof.Proof.RefFeats
public import Idealize.ShloMosaic.Lib.Pointwise

@[expose] public section

set_option maxRecDepth 100000

noncomputable section

namespace Cert.Both

open Idealize.ShloMosaic Idealize.ShloMosaic.TcCoe Idealize.ShloMosaic.Tactic

/-- One row times a weight array, plus the bias. -/
def lin1 (W : Vec Ideal Cert.ReferenceIdeal.S384x128 .f32) (b : Fin 384 → EReal) (x : Fin 128 → EReal) (j : Fin 384) : EReal :=
  (∑ k : Fin 128, x k * W (ix2 (n0 := 384) (n1 := 128) j k)) + b j

/-- One row's new state from its two linear parts and its state. -/
def cell1 (gi gh : Fin 384 → EReal) (h : Fin 128 → EReal) (k : Fin 128) : EReal :=
  (1 - Ideal.logistic (gi ⟨128 + k.val, by omega⟩ + gh ⟨128 + k.val, by omega⟩))
      * Ideal.tanh (gi ⟨256 + k.val, by omega⟩ + Ideal.logistic (gi ⟨k.val, by omega⟩ + gh ⟨k.val, by omega⟩) * gh ⟨256 + k.val, by omega⟩)
    + Ideal.logistic (gi ⟨128 + k.val, by omega⟩ + gh ⟨128 + k.val, by omega⟩) * h k

section
open Cert.ReferenceIdeal Cert.ReferenceIdeal.Gen Cert.ReferenceIdeal.Hand

theorem affine_at (W : Vec Ideal S384x128 .f32) (b : Vec Ideal S384 .f32) (x : Vec Ideal S8x128 .f32) (e : Fin 8) (j : Fin 384) :
    affine W b x (ix2 (n0 := 8) (n1 := 384) e j) = lin1 W (fun j => b (ix1 (n0 := 384) j)) (fun k => x (ix2 (n0 := 8) (n1 := 128) e k)) j := by
  pointwise [affine, lin1]

theorem sigm_at (x : Vec Ideal S8x128 .f32) (e : Fin 8) (k : Fin 128) :
    sigm x (ix2 (n0 := 8) (n1 := 128) e k) = Ideal.logistic (x (ix2 (n0 := 8) (n1 := 128) e k)) := by
  pointwise [sigm, ones, Ideal.logistic]

theorem cell_at (Wi Wh : Vec Ideal S384x128 .f32) (bi bh : Vec Ideal S384 .f32) (x h : Vec Ideal S8x128 .f32) (e : Fin 8) (k : Fin 128) :
    cell Wi Wh bi bh x h (ix2 (n0 := 8) (n1 := 128) e k)
      = cell1 (lin1 Wi (fun j => bi (ix1 (n0 := 384) j)) (fun k => x (ix2 (n0 := 8) (n1 := 128) e k)))
          (lin1 Wh (fun j => bh (ix1 (n0 := 384) j)) (fun k => h (ix2 (n0 := 8) (n1 := 128) e k))) (fun k => h (ix2 (n0 := 8) (n1 := 128) e k)) k := by
  unfold cell cell1
  pointwise [sigm_at, affine_at, ones]
end

section
open Cert.KernelIdeal Cert.KernelIdeal.Gen Cert.KernelIdeal.Hand

theorem gates_at (gi gh : FVec Ideal S8x384 .f32) (h : FVec Ideal S8x128 .f32) (e : Fin 8) (k : Fin 128) :
    gates gi gh h (ix2 (n0 := 8) (n1 := 128) e k)
      = cell1 (fun j => gi (ix2 (n0 := 8) (n1 := 384) e j)) (fun j => gh (ix2 (n0 := 8) (n1 := 384) e j)) (fun k => h (ix2 (n0 := 8) (n1 := 128) e k)) k := by
  unfold gates cell1
  pointwise

theorem lin_at (b : FVec Ideal S1x384 .f32) (W : Vec Ideal S128x384 .bf16) (h : FVec Ideal S8x128 .f32) (e : Fin 8) (j : Fin 384) :
    lin b W h (ix2 (n0 := 8) (n1 := 384) e j) = (∑ k : Fin 128, h (ix2 (n0 := 8) (n1 := 128) e k) * W (ix2 (n0 := 128) (n1 := 384) k j)) + b (ix2 (n0 := 1) (n1 := 384) 0 j) := by
  pointwise [lin]
end

end Cert.Both

end
-- ==== Proof.Feats.lean ====
/-
  One token's features, over the extended reals: the first slot scaled by the cosine of two others, joined with the second
  slot, through a linear layer, a scaling and a cut at zero. The kernel and the reference compute the same function.
-/
module

public import proofs.«01_k».proof.Proof.Cells

@[expose] public section

set_option maxRecDepth 100000

noncomputable section

namespace Cert.Both

open Idealize.ShloMosaic Idealize.ShloMosaic.TcCoe Idealize.ShloMosaic.Tactic

/-- The product sum of two slots of one token. -/
def slots (x : Vec Ideal Cert.ReferenceIdeal.S2048x4x256 .f32) (i : Fin 2048) (p q : Fin 4) : EReal :=
  ∑ k : Fin 256, x (ix3 (n0 := 2048) (n1 := 4) (n2 := 256) i p k) * x (ix3 (n0 := 2048) (n1 := 4) (n2 := 256) i q k)

/-- The length of one slot of a token, from the word of `1e-8` up. -/
def norm (x : Vec Ideal Cert.ReferenceIdeal.S2048x4x256 .f32) (i : Fin 2048) (p : Fin 4) : EReal :=
  max (Ideal.sqrt (slots x i p p)) (Ideal.ofBits .f32 0x322BCC77#32)

/-- The cosine of the last two slots of a token. -/
def cosine (x : Vec Ideal Cert.ReferenceIdeal.S2048x4x256 .f32) (i : Fin 2048) : EReal :=
  Ideal.div (slots x i 2 3) (norm x i 2 * norm x i 3)

/-- One feature of one token. -/
def feat (x : Vec Ideal Cert.ReferenceIdeal.S2048x4x256 .f32) (W : Vec Ideal Cert.ReferenceIdeal.S128x512 .f32) (b γ β : Fin 128 → EReal) (i : Fin 2048) (c : Fin 128) : EReal :=
  max (((((∑ k : Fin 256, x (ix3 (n0 := 2048) (n1 := 4) (n2 := 256) i 0 k) * cosine x i * W (ix2 (n0 := 128) (n1 := 512) c ⟨k.val, by omega⟩))
      + ∑ k : Fin 256, x (ix3 (n0 := 2048) (n1 := 4) (n2 := 256) i 1 k) * W (ix2 (n0 := 128) (n1 := 512) c ⟨256 + k.val, by omega⟩)) + b c)
      * (γ c * Ideal.ofBits .f32 0x3F7FFFAC#32)) + β c) 0

section
open Cert.KernelIdeal Cert.KernelIdeal.Gen Cert.KernelIdeal.Hand

theorem slot_at (A : Vec Ideal S2048x4x256 .f32) (o : ℕ) (ho : o < 4) (h : ∀ a, (![0, o, 0] : Fin 3 → ℕ) a + S2048x1x256.size a ≤ S2048x4x256.size a) (i : Fin 2048) (k : Fin 256) :
    VecWindow.window (s := S2048x4x256) A ![0, o, 0] S2048x1x256.size h (ix3 (n0 := 2048) (n1 := 1) (n2 := 256) i 0 k) = A (ix3 (n0 := 2048) (n1 := 4) (n2 := 256) i ⟨o, ho⟩ k) :=
  window_at A _ _ h _ _ (fun a => by
    fin_cases a
    · exact (Nat.zero_add _).symm
    · rfl
    · exact (Nat.zero_add _).symm)

theorem bias_at (A : Vec Ideal S1x1922 .f32) (o n : ℕ) (h : ∀ a, (![0, o] : Fin 2 → ℕ) a + (![1, n] : Fin 2 → ℕ) a ≤ S1x1922.size a) (k : Fin n) (hk : o + k.val < 1922) :
    VecWindow.window (s := S1x1922) A ![0, o] ![1, n] h (ix2 (n0 := 1) (n1 := n) 0 k) = A (ix2 (n0 := 1) (n1 := 1922) 0 ⟨o + k.val, hk⟩) :=
  window_at A _ _ h _ _ (fun a => by
    fin_cases a
    · rfl
    · rfl)

theorem half_at (A : Vec Ideal S128x512 .f32) (o : ℕ) (h : ∀ a, (![0, o] : Fin 2 → ℕ) a + S128x256.size a ≤ S128x512.size a) (c : Fin 128) (k : Fin 256) (hk : o + k.val < 512) :
    VecWindow.window (s := S128x512) A ![0, o] S128x256.size h (ix2 (n0 := 128) (n1 := 256) c k) = A (ix2 (n0 := 128) (n1 := 512) c ⟨o + k.val, hk⟩) :=
  window_at A _ _ h _ _ (fun a => by
    fin_cases a
    · exact (Nat.zero_add _).symm
    · rfl)

theorem prod_at (A1 : Vec Ideal S2048x4x256 .f32) (A2 : Vec Ideal S1x1922 .f32) (A3 : Vec Ideal S128x512 .f32) (A4 : Vec Ideal S384x128 .f32) (i : Fin 2048) (j : Fin 384) :
    prod A1 A2 A3 A4 (ix2 (n0 := 2048) (n1 := 384) i j)
      = lin1 A4 (fun j => A2 (ix2 (n0 := 1) (n1 := 1922) 0 ⟨384 + j.val, by omega⟩))
          (feat A1 A3 (fun c => A2 (ix2 (n0 := 1) (n1 := 1922) 0 ⟨c.val, by omega⟩)) (fun c => A2 (ix2 (n0 := 1) (n1 := 1922) 0 ⟨128 + c.val, by omega⟩))
            (fun c => A2 (ix2 (n0 := 1) (n1 := 1922) 0 ⟨256 + c.val, by omega⟩)) i) j := by
  unfold prod k0_pay74 k0_pay65 k0_pay66 k0_pay67 k0_pay68 k0_pay69 k0_pay64 k0_pay62 k0_pay63
  pointwise [lin1, feat, cosine, norm, slots]
  have w0 := fun (h) (k : Fin 256) => slot_at A1 0 (by decide) h i k
  have w1 := fun (h) (k : Fin 256) => slot_at A1 1 (by decide) h i k
  have w2 := fun (h) (k : Fin 256) => slot_at A1 2 (by decide) h i k
  have w3 := fun (h) (k : Fin 256) => slot_at A1 3 (by decide) h i k
  have c0 := fun (h) (k : Fin 128) => bias_at A2 0 128 h k (by omega)
  have c1 := fun (h) (k : Fin 128) => bias_at A2 128 128 h k (by omega)
  have c2 := fun (h) (k : Fin 128) => bias_at A2 256 128 h k (by omega)
  have c3 := fun (h) (k : Fin 384) => bias_at A2 384 384 h k (by omega)
  have f0 := fun (h) (c : Fin 128) (k : Fin 256) => half_at A3 0 h c k (by omega)
  have f1 := fun (h) (c : Fin 128) (k : Fin 256) => half_at A3 256 h c k (by omega)
  simp only [Nat.zero_add] at c0 f0
  simp only [w0, w1, w2, w3, c0, c1, c2, c3, f0, f1]
  rfl
end

section
open Cert.ReferenceIdeal Cert.ReferenceIdeal.Gen Cert.ReferenceIdeal.Hand
open Idealize.ShloMosaic.StableHlo

theorem slotR_at (x : Vec Ideal S2048x4x256 .f32) (o : ℕ) (ho : o < 4) (h : S2048x4x256.Slices ![0, o, 0] S2048x1x256) (i : Fin 2048) (k : Fin 256) :
    slotR x o h (ix2 (n0 := 2048) (n1 := 256) i k) = x (ix3 (n0 := 2048) (n1 := 4) (n2 := 256) i ⟨o, ho⟩ k) := by
  pointwise [slotR]

theorem featsR_at (x : Vec Ideal S2048x4x256 .f32) (W : Vec Ideal S128x512 .f32) (b γ β : Vec Ideal S128 .f32) (i : Fin 2048) (c : Fin 128) :
    featsR x W b γ β (ix2 (n0 := 2048) (n1 := 128) i c)
      = feat x W (fun c => b (ix1 (n0 := 128) c)) (fun c => γ (ix1 (n0 := 128) c)) (fun c => β (ix1 (n0 := 128) c)) i c := by
  unfold featsR scaledR norms dots rows feat cosine norm slots
  pointwise
  have w0 := fun (k : Fin 256) => slotR_at x 0 (by decide) slices_S2048x4x256_S2048x1x256_0_0_0 i k
  have w1 := fun (k : Fin 256) => slotR_at x 1 (by decide) slices_S2048x4x256_S2048x1x256_0_1_0 i k
  have w2 := fun (k : Fin 256) => slotR_at x 2 (by decide) slices_S2048x4x256_S2048x1x256_0_2_0 i k
  have w3 := fun (k : Fin 256) => slotR_at x 3 (by decide) slices_S2048x4x256_S2048x1x256_0_3_0 i k
  simp only [w0, w1, w2, w3]
  rw [mul_assoc, mul_comm (Ideal.ofBits .f32 _)]
  rfl
end

end Cert.Both

end
-- ==== Proof.RefValue.lean ====
/-
  The reference's result as one expression of its arguments and of the second loop's history.
-/
module

public import proofs.«01_k».proof.Proof.RefFeats

@[expose] public section

set_option maxRecDepth 100000

noncomputable section

namespace Cert.ReferenceIdeal.Hand

open Cert.ReferenceIdeal Cert.ReferenceIdeal.Gen
open Idealize.ShloMosaic Idealize.ShloMosaic.TcCoe Idealize.ShloMosaic.Tactic
open Idealize.ShloMosaic.StableHlo
open Cert.KernelIdeal.Hand (typeCol)

variable {F : FTy → Type} [FloatOps F] (m : (ℓ : Loc nD τ sig) → Buf (Elt F) ℓ) (c : Dev nD)

/-- An argument's contents at the start. -/
abbrev arg (b : Ref sig .tc) : (Proc.devRef .tc b : DevRef τ sig).ty.Contents (Elt F) := launchContents m c (Proc.devRef .tc b)

/-- The entities of the rows. -/
abbrev entR : IVec S2048 32 := fun y => typeCol (arg m c main_arg3) y

/-- The contents after the features. -/
abbrev featEnd : Valuation τ sig (Elt F) := after pre5 (after pre4 (after pre3 (after pre2 (after pre1 (after pre0 (launchContents m c))))))
/-- The contents after the positions. -/
abbrev posEnd : Valuation τ sig (Elt F) := after pre10 (after pre9 (after pre8 (after pre7 (after pre6 (featEnd m c)))))

theorem featEnd_keep (b : Ref sig .tc) (h : b ∉ pre1_W ++ pre2_W ++ pre3_W ++ pre4_W ++ pre5_W) :
    featEnd m c (Proc.devRef .tc b) = after pre0 (launchContents m c) (Proc.devRef .tc b) := by
  simp only [List.mem_append, not_or] at h
  obtain ⟨⟨⟨⟨h1, h2⟩, h3⟩, h4⟩, h5⟩ := h
  show after pre5 (after pre4 (after pre3 (after pre2 (after pre1 (after pre0 (launchContents m c)))))) _ = _
  rw [keep pre5_writes _ h5, keep pre4_writes _ h4, keep pre3_writes _ h3, keep pre2_writes _ h2, keep pre1_writes _ h1]

theorem posEnd_keep (b : Ref sig .tc) (h : b ∉ pre6_W ++ pre7_W ++ pre8_W ++ pre9_W ++ pre10_W) :
    posEnd m c (Proc.devRef .tc b) = featEnd m c (Proc.devRef .tc b) := by
  simp only [List.mem_append, not_or] at h
  obtain ⟨⟨⟨⟨h6, h7⟩, h8⟩, h9⟩, h10⟩ := h
  show after pre10 (after pre9 (after pre8 (after pre7 (after pre6 (featEnd m c))))) _ = _
  rw [keep pre10_writes _ h10, keep pre9_writes _ h9, keep pre8_writes _ h8, keep pre7_writes _ h7, keep pre6_writes _ h6]

theorem featEnd_ents : featEnd m c (Proc.devRef .tc main_v1) = entR m c :=
  (featEnd_keep m c main_v1 (by decide)).trans (run_ents _)

theorem posEnd_ents : posEnd m c (Proc.devRef .tc main_v1) = entR m c :=
  (posEnd_keep m c main_v1 (by decide)).trans (featEnd_ents m c)

theorem posEnd_feats : posEnd m c (Proc.devRef .tc main_v37)
    = featsR (arg m c main_arg0) (arg m c main_arg4) (arg m c main_arg5) (arg m c main_arg6) (arg m c main_arg7) :=
  (posEnd_keep m c main_v37 (by decide)).trans (run_feats _)

theorem posEnd_pos : posEnd m c (Proc.devRef .tc main_v60) = posW (entR m c) :=
  (run_pos _).trans (congrArg posW (featEnd_ents m c))

/-- An argument is as it was until the first loop. -/
theorem posEnd_arg (b : Ref sig .tc) (h : b ∉ pre6_W ++ pre7_W ++ pre8_W ++ pre9_W ++ pre10_W) (h' : b ∉ pre1_W ++ pre2_W ++ pre3_W ++ pre4_W ++ pre5_W)
    (h0 : b ∉ pre0_W) : posEnd m c (Proc.devRef .tc b) = arg m c b :=
  (posEnd_keep m c b h).trans ((featEnd_keep m c b h').trans (keep pre0_writes _ h0))

theorem entry0_eq : entry0 m c = after pre12 (after pre11 (posEnd m c)) := rfl

theorem entry0_arg (b : Ref sig .tc) (h11 : b ∉ pre11_W) (h12 : b ∉ pre12_W) (h : b ∉ pre6_W ++ pre7_W ++ pre8_W ++ pre9_W ++ pre10_W)
    (h' : b ∉ pre1_W ++ pre2_W ++ pre3_W ++ pre4_W ++ pre5_W) (h0 : b ∉ pre0_W) : entry0 m c (Proc.devRef .tc b) = arg m c b := by
  rw [entry0_eq, keep pre12_writes _ h12, keep pre11_writes _ h11, posEnd_arg m c b h h' h0]

theorem entry0_kept (b : Ref sig .tc) (h11 : b ∉ pre11_W) (h12 : b ∉ pre12_W) : entry0 m c (Proc.devRef .tc b) = posEnd m c (Proc.devRef .tc b) := by
  rw [entry0_eq, keep pre12_writes _ h12, keep pre11_writes _ h11]

/-- What the copies before the first loop hold. -/
theorem run_first (V : Valuation τ sig (Elt F)) :
    after pre12 V (Proc.devRef .tc main_v79_0) = V (Proc.devRef .tc main_v76)
    ∧ after pre12 V (Proc.devRef .tc main_v79_1) = V (Proc.devRef .tc main_arg8)
    ∧ after pre12 V (Proc.devRef .tc main_v79_2) = V (Proc.devRef .tc main_arg10)
    ∧ after pre12 V (Proc.devRef .tc main_v79_3) = V (Proc.devRef .tc main_arg9)
    ∧ after pre12 V (Proc.devRef .tc main_v79_4) = V (Proc.devRef .tc main_arg11)
    ∧ after pre12 V (Proc.devRef .tc main_v79_6) = V (Proc.devRef .tc main_v77) := by
  unfold pre12
  refine ⟨?_, ?_, ?_, ?_, ?_, ?_⟩ <;> (after_results_simp; all_goals rfl)

/-- What the copies before the second loop hold. -/
theorem run_second (V : Valuation τ sig (Elt F)) :
    after mid0 V (Proc.devRef .tc main_v82_0) = V (Proc.devRef .tc main_v79_7)
    ∧ after mid0 V (Proc.devRef .tc main_v82_1) = V (Proc.devRef .tc main_arg12)
    ∧ after mid0 V (Proc.devRef .tc main_v82_2) = V (Proc.devRef .tc main_arg14)
    ∧ after mid0 V (Proc.devRef .tc main_v82_3) = V (Proc.devRef .tc main_arg13)
    ∧ after mid0 V (Proc.devRef .tc main_v82_4) = V (Proc.devRef .tc main_arg15)
    ∧ after mid0 V (Proc.devRef .tc main_v82_6) = (zeros : Vec F S8x128 .f32) := by
  unfold mid0
  refine ⟨?_, ?_, ?_, ?_, ?_, ?_⟩ <;> (after_results_simp; all_goals rfl)

theorem entry0_state : entry0 m c (Proc.devRef .tc main_v79_6) = (zeros : Vec F S8x128 .f32) := by
  rw [entry0_eq]
  exact (run_first (after pre11 (posEnd m c))).2.2.2.2.2.trans (run_state _)

/-- The first layer's states, from the features of the rows. -/
theorem layer0_eq : layer0 m c = scanned (arg m c main_arg8) (arg m c main_arg9) (arg m c main_arg10) (arg m c main_arg11)
    (padded (entR m c) (posW (entR m c))
      (featsR (arg m c main_arg0) (arg m c main_arg4) (arg m c main_arg5) (arg m c main_arg6) (arg m c main_arg7))) := by
  obtain ⟨c0, c1, c2, c3, c4, -⟩ := run_first (after pre11 (posEnd m c))
  have k : ∀ b, b ∉ pre11_W → after pre11 (posEnd m c) (Proc.devRef .tc b) = posEnd m c (Proc.devRef .tc b) := fun b hb => keep pre11_writes _ hb
  unfold layer0
  rw [entry0_eq, c0, c1, c2, c3, c4, run_padded, k main_arg8 (by decide), k main_arg9 (by decide), k main_arg10 (by decide), k main_arg11 (by decide),
    posEnd_ents, posEnd_pos, posEnd_feats, posEnd_arg m c main_arg8 (by decide) (by decide) (by decide), posEnd_arg m c main_arg9 (by decide) (by decide) (by decide),
    posEnd_arg m c main_arg10 (by decide) (by decide) (by decide), posEnd_arg m c main_arg11 (by decide) (by decide) (by decide)]

theorem entry1_eq : entry1 m c = after mid1 (after mid0 (after firstCond (trip0 m 512 c))) := rfl

theorem entry1_kept (b : Ref sig .tc) (h1 : b ∉ mid1_W) (h0 : b ∉ mid0_W) (hc : b ∉ firstCond_W)
    (h : b ∉ firstCond_W ++ first0_W ++ first1_W ++ first2_W ++ first3_W) : entry1 m c (Proc.devRef .tc b) = entry0 m c (Proc.devRef .tc b) := by
  rw [entry1_eq, keep mid1_writes _ h1, keep mid0_writes _ h0, keep firstCond_writes _ hc, trip0_keep m c b h]

theorem entry1_state : entry1 m c (Proc.devRef .tc main_v82_6) = (zeros : Vec F S8x128 .f32) := by
  rw [entry1_eq, keep mid1_writes _ (b := main_v82_6) (by decide)]
  exact (run_second _).2.2.2.2.2

theorem trip0_arg (b : Ref sig .tc) (hc : b ∉ firstCond_W)
    (h : b ∉ firstCond_W ++ first0_W ++ first1_W ++ first2_W ++ first3_W) : after firstCond (trip0 m 512 c) (Proc.devRef .tc b) = entry0 m c (Proc.devRef .tc b) := by
  rw [keep firstCond_writes _ hc, trip0_keep m c b h]

/-- The second layer's states, from the first layer's history. -/
theorem layer1_eq : layer1 m c = scanned (arg m c main_arg12) (arg m c main_arg13) (arg m c main_arg14) (arg m c main_arg15)
    (trip0 m 512 c (Proc.devRef .tc main_v79_7)) := by
  obtain ⟨c0, c1, c2, c3, c4, -⟩ := run_second (after firstCond (trip0 m 512 c))
  have k : ∀ b, b ∉ mid1_W → after mid1 (after mid0 (after firstCond (trip0 m 512 c))) (Proc.devRef .tc b)
      = after mid0 (after firstCond (trip0 m 512 c)) (Proc.devRef .tc b) := fun b hb => keep mid1_writes _ hb
  unfold layer1
  rw [entry1_eq, k main_v82_0 (by decide), k main_v82_1 (by decide), k main_v82_2 (by decide), k main_v82_3 (by decide), k main_v82_4 (by decide),
    c0, c1, c2, c3, c4, keep firstCond_writes _ (b := main_v79_7) (by decide),
    trip0_arg m c main_arg12 (by decide) (by decide), trip0_arg m c main_arg13 (by decide) (by decide),
    trip0_arg m c main_arg14 (by decide) (by decide), trip0_arg m c main_arg15 (by decide) (by decide),
    entry0_arg m c main_arg12 (by decide) (by decide) (by decide) (by decide) (by decide), entry0_arg m c main_arg13 (by decide) (by decide) (by decide) (by decide) (by decide),
    entry0_arg m c main_arg14 (by decide) (by decide) (by decide) (by decide) (by decide), entry0_arg m c main_arg15 (by decide) (by decide) (by decide) (by decide) (by decide)]

theorem late_kept (b : Ref sig .tc) (hc1 : b ∉ secondCond_W) (h2 : b ∉ secondCond_W ++ second0_W ++ second1_W ++ second2_W ++ second3_W)
    (h1 : b ∉ mid1_W) (h0 : b ∉ mid0_W) (hc : b ∉ firstCond_W) (h : b ∉ firstCond_W ++ first0_W ++ first1_W ++ first2_W ++ first3_W) :
    after secondCond (trip1 m 512 c) (Proc.devRef .tc b) = entry0 m c (Proc.devRef .tc b) := by
  rw [keep secondCond_writes _ hc1, trip1_keep m c b h2, entry1_kept m c b h1 h0 hc h]

/-- The result: the rows of the second layer's history at the rows' places, through the last linear layer. -/
theorem final_logits : final m c (Proc.devRef .tc main_v101)
    = logits (pairs (wrap 512#32 (posW (entR m c))) (wrap 8#32 (entR m c))) (trip1 m 512 c (Proc.devRef .tc main_v82_7))
        (arg m c main_arg16) (arg m c main_arg17) := by
  have e : final m c = after post1 (after post0 (after secondCond (trip1 m 512 c))) := rfl
  rw [e, run_logits, run_places2, keep post0_writes _ (b := main_v82_7) (by decide), keep post0_writes _ (b := main_arg16) (by decide),
    keep post0_writes _ (b := main_arg17) (by decide), keep secondCond_writes _ (b := main_v82_7) (by decide),
    late_kept m c main_v1 (by decide) (by decide) (by decide) (by decide) (by decide) (by decide),
    late_kept m c main_v60 (by decide) (by decide) (by decide) (by decide) (by decide) (by decide),
    late_kept m c main_arg16 (by decide) (by decide) (by decide) (by decide) (by decide) (by decide),
    late_kept m c main_arg17 (by decide) (by decide) (by decide) (by decide) (by decide) (by decide),
    entry0_kept m c main_v1 (by decide) (by decide), entry0_kept m c main_v60 (by decide) (by decide), posEnd_ents, posEnd_pos,
    entry0_arg m c main_arg16 (by decide) (by decide) (by decide) (by decide) (by decide), entry0_arg m c main_arg17 (by decide) (by decide) (by decide) (by decide) (by decide)]

end Cert.ReferenceIdeal.Hand

end
-- ==== Proof.RefRows.lean ====
/-
  The reference, one row at a time, over the extended reals: the history at a token's place holds the second layer's state
  after the rows of the token's entity up to the token.
-/
module

public import proofs.«01_k».proof.Proof.Feats
public import proofs.«01_k».proof.Proof.RefValue

@[expose] public section

set_option maxRecDepth 100000

noncomputable section

namespace Cert.Both

open Idealize.ShloMosaic Idealize.ShloMosaic.TcCoe Idealize.ShloMosaic.Tactic
open Cert.KernelIdeal.Hand (Segs seg seg_spec fits_seg entOf entOf_eq typeCol)

/-- One row's state after `k` inputs, from zero. -/
def state1 (gi : ℕ → Fin 384 → EReal) (W : Vec Ideal Cert.ReferenceIdeal.S384x128 .f32) (b : Fin 384 → EReal) : ℕ → Fin 128 → EReal
  | 0 => fun _ => 0
  | k + 1 => cell1 (gi k) (lin1 W b (state1 gi W b k)) (state1 gi W b k)

/-- The state depends on the inputs so far alone. -/
theorem state1_congr {gi gi' : ℕ → Fin 384 → EReal} {W : Vec Ideal Cert.ReferenceIdeal.S384x128 .f32} {b : Fin 384 → EReal} :
    ∀ k, (∀ t, t < k → gi t = gi' t) → state1 gi W b k = state1 gi' W b k
  | 0, _ => rfl
  | k + 1, h => by
    simp only [state1, h k (Nat.lt_succ_self k), state1_congr k fun t ht => h t (by omega)]

/-- A vector of 384 numbers as a function of its place. -/
abbrev vec (b : Vec Ideal Cert.ReferenceIdeal.S384 .f32) (j : Fin 384) : EReal := b (ix1 (n0 := 384) j)

/-- The first layer's state of entity `e` after `k` of its tokens, `f` the tokens' features. -/
def first1 (ent : ℕ → BitVec 32) (f : ℕ → Fin 128 → EReal) (Wi Wh : Vec Ideal Cert.ReferenceIdeal.S384x128 .f32) (bi bh : Fin 384 → EReal) (e : ℕ) : ℕ → Fin 128 → EReal :=
  state1 (fun t => lin1 Wi bi (f (seg ent e + t))) Wh bh

/-- The second layer's state after `k` states of the first. -/
def second1 (y : ℕ → Fin 128 → EReal) (Wi Wh : Vec Ideal Cert.ReferenceIdeal.S384x128 .f32) (bi bh : Fin 384 → EReal) : ℕ → Fin 128 → EReal :=
  state1 (fun t => lin1 Wi bi (y (t + 1))) Wh bh

section
open Cert.ReferenceIdeal Cert.ReferenceIdeal.Gen Cert.ReferenceIdeal.Hand

/-- One row of a layer's states. -/
theorem scanned_at (Wi Wh : Vec Ideal S384x128 .f32) (bi bh : Vec Ideal S384 .f32) (xs : Vec Ideal S512x8x128 .f32) (e : Fin 8) :
    ∀ k, (fun j => scanned Wi Wh bi bh xs k (ix2 (n0 := 8) (n1 := 128) e j))
      = state1 (fun t => lin1 Wi (vec bi) (fun j => rowOf xs t (ix2 (n0 := 8) (n1 := 128) e j))) Wh (vec bh) k
  | 0 => by
    funext j
    show (zeros : Vec Ideal S8x128 .f32) _ = 0
    pointwise [zeros]
  | k + 1 => by
    have ih := scanned_at Wi Wh bi bh xs e k
    funext j
    show cell Wi Wh bi bh (rowOf xs k) (scanned Wi Wh bi bh xs k) (ix2 (n0 := 8) (n1 := 128) e j) = _
    rw [cell_at, ih]
    rfl

variable (m : (ℓ : Loc nD τ sig) → Buf (Elt Ideal) ℓ) (c : Dev nD)

/-- The rows' entities by their places. -/
abbrev entsR : ℕ → BitVec 32 := entOf (typeCol (arg m c main_arg3))

theorem entR_eq : entR m c = column (entsR m c) := entOf_eq _

/-- The tokens' features by their places. -/
def featAt (f : Vec Ideal S2048x128 .f32) (i : ℕ) (k : Fin 128) : EReal := if h : i < 2048 then f (ix2 (n0 := 2048) (n1 := 128) ⟨i, h⟩ k) else 0

/-- The reference's features. -/
abbrev featsOf : Vec Ideal S2048x128 .f32 := featsR (arg m c main_arg0) (arg m c main_arg4) (arg m c main_arg5) (arg m c main_arg6) (arg m c main_arg7)

/-- The first layer's states of entity `e`. -/
abbrev firstOf (e : ℕ) : ℕ → Fin 128 → EReal :=
  first1 (entsR m c) (featAt (featsOf m c)) (arg m c main_arg8) (arg m c main_arg9) (vec (arg m c main_arg10)) (vec (arg m c main_arg11)) e

/-- The second layer's states of entity `e`. -/
abbrev secondOf (e : ℕ) : ℕ → Fin 128 → EReal :=
  second1 (firstOf m c e) (arg m c main_arg12) (arg m c main_arg13) (vec (arg m c main_arg14)) (vec (arg m c main_arg15))

variable {m c}

/-- The first layer, as long as the entity has tokens. -/
theorem layer0_at (h : Segs (entsR m c)) (e : Fin 8) (k : ℕ) (hk : k ≤ 512)
    (hin : ∀ t, t < k → seg (entsR m c) e.val + t < 2048 ∧ (entsR m c (seg (entsR m c) e.val + t)).toNat = e.val) :
    (fun j => layer0 m c k (ix2 (n0 := 8) (n1 := 128) e j)) = firstOf m c e.val k := by
  rw [layer0_eq, scanned_at]
  refine state1_congr k fun t ht => ?_
  obtain ⟨hlt, he⟩ := hin t ht
  refine congrArg (lin1 _ _) (funext fun j => ?_)
  show padded (entR m c) (posW (entR m c)) (featsOf m c) (ix3 (⟨t % 512, _⟩ : Fin 512) e j) = featAt (featsOf m c) (seg (entsR m c) e.val + t) j
  unfold featAt
  rw [dif_pos hlt, entR_eq]
  exact padded_at h (featsOf m c) ⟨_, hlt⟩ j ⟨t % 512, Nat.mod_lt _ (by decide)⟩ e he (by show _ = _ + t % 512; rw [Nat.mod_eq_of_lt (by omega)])

/-- The second layer. -/
theorem layer1_at (h : Segs (entsR m c)) (e : Fin 8) (k : ℕ) (hk : k ≤ 512)
    (hin : ∀ t, t < k → seg (entsR m c) e.val + t < 2048 ∧ (entsR m c (seg (entsR m c) e.val + t)).toNat = e.val) :
    (fun j => layer1 m c k (ix2 (n0 := 8) (n1 := 128) e j)) = secondOf m c e.val k := by
  rw [layer1_eq, scanned_at]
  refine state1_congr k fun t ht => ?_
  refine congrArg (lin1 _ _) ?_
  rw [(trip0_state m c (entry0_state m c) 512 le_rfl).2 t (by omega)]
  exact layer0_at h e (t + 1) (by omega) fun u hu => hin u (by omega)

/-- The history at a token's place. -/
theorem history_at (h : Segs (entsR m c)) (i : Fin 2048) (e : Fin 8) (he : (entsR m c i.val).toNat = e.val) (j : Fin 128) :
    Host.gather gather_S512x8x128_S2048x2_S2048x128_1_01_n_n_01_1_11128 (trip1 m 512 c (Proc.devRef .tc main_v82_7) : Vec Ideal S512x8x128 .f32)
        (pairs (wrap 512#32 (posW (entR m c))) (wrap 8#32 (entR m c))) (ix2 (n0 := 2048) (n1 := 128) i j)
      = secondOf m c e.val (i.val - seg (entsR m c) e.val + 1) j := by
  have hi := i.isLt
  have hs := seg_spec h e.val
  have hse : seg (entsR m c) e.val ≤ i.val := by
    have := (hs.2 i.val hi)
    omega
  have hgap : i.val < seg (entsR m c) e.val + 512 := by
    have h1 := ((fits_seg h).mono e.val).2
    have h2 := (seg_spec h (e.val + 1)).2 i.val hi
    omega
  rw [entR_eq, read_back h _ i j ⟨i.val - seg (entsR m c) e.val, by omega⟩ e he (by show _ = _ + (_ - _); omega)]
  have ht := (trip1_state m c (entry1_state m c) 512 le_rfl).2 (i.val - seg (entsR m c) e.val) (by omega)
  have hl := layer1_at h e (i.val - seg (entsR m c) e.val + 1) (by omega) fun t ht' => ⟨by omega, by
    have h1 := h.mono (seg (entsR m c) e.val + t) i.val (by omega) hi
    have h2 := hs.2 (seg (entsR m c) e.val + t) (by omega)
    omega⟩
  rw [← ht] at hl
  refine Eq.trans ?_ (congrFun hl j)
  show _ = (trip1 m 512 c (Proc.devRef .tc main_v82_7) : Vec Ideal S512x8x128 .f32) (ix3 (⟨(i.val - seg (entsR m c) e.val) % 512, _⟩ : Fin 512) e j)
  refine congrArg (trip1 m 512 c (Proc.devRef .tc main_v82_7) : Vec Ideal S512x8x128 .f32) ?_
  refine congrArg (fun t : Fin 512 => ix3 t e j) (Fin.ext ?_)
  show _ = (i.val - seg (entsR m c) e.val) % 512
  rw [Nat.mod_eq_of_lt (by omega)]

/-- The reference's result at a token and a class. -/
theorem reference_at (h : Segs (entsR m c)) (i : Fin 2048) (o : Fin 2) (e : Fin 8) (he : (entsR m c i.val).toNat = e.val) :
    (final m c (Proc.devRef .tc main_v101) : Vec Ideal S2048x2 .f32) (ix2 (n0 := 2048) (n1 := 2) i o)
      = (∑ k : Fin 128, secondOf m c e.val (i.val - seg (entsR m c) e.val + 1) k * (arg m c main_arg16 : Vec Ideal S2x128 .f32) (ix2 (n0 := 2) (n1 := 128) o k))
        + (arg m c main_arg17 : Vec Ideal S2 .f32) (ix1 (n0 := 2) o) := by
  rw [final_logits]
  unfold logits
  pointwise
  have hh := fun k => history_at h i e he k
  simp only [hh]
end

end Cert.Both

end
-- ==== Proof.KerRows.lean ====
/-
  The kernel's two chained layers, one row at a time, over the extended reals. Row `e` starts at time `r`, the first place of
  its segment past a multiple of eight; from there on it runs through the segment's tokens.
-/
module

public import proofs.«01_k».proof.Proof.RefRows
public import proofs.«01_k».proof.Proof.Clean

@[expose] public section

set_option maxRecDepth 100000

noncomputable section

namespace Cert.Both

open Cert.KernelIdeal Cert.KernelIdeal.Gen Cert.KernelIdeal.Hand
open Idealize.ShloMosaic Idealize.ShloMosaic.TcCoe Idealize.ShloMosaic.Tactic

theorem flip0_at (A : Vec Ideal S384x128 .f32) (k : Fin 128) (j : Fin 384) : k0_pay59 A (ix2 (n0 := 128) (n1 := 384) k j) = A (ix2 (n0 := 384) (n1 := 128) j k) := by
  unfold k0_pay59
  pointwise

theorem flip1_at (A : Vec Ideal S384x128 .f32) (k : Fin 128) (j : Fin 384) : k0_pay60 A (ix2 (n0 := 128) (n1 := 384) k j) = A (ix2 (n0 := 384) (n1 := 128) j k) := by
  unfold k0_pay60
  pointwise

theorem flip2_at (A : Vec Ideal S384x128 .f32) (k : Fin 128) (j : Fin 384) : k0_pay61 A (ix2 (n0 := 128) (n1 := 384) k j) = A (ix2 (n0 := 384) (n1 := 128) j k) := by
  unfold k0_pay61
  pointwise

theorem starts_at (a : ℕ → BitVec 32) (e : Fin 8) : starts a (ix2 (n0 := 8) (n1 := 1) e 0) = lead (a e.val) := by
  unfold starts k0_pay84
  fin_cases e <;> pointwise

/-- A row's mask lets through what has started. -/
theorem mask_at (tw : BitVec 32) (rv : IVec S8x1 32) (v : FVec Ideal S8x128 .f32) (e : Fin 8) (k : Fin 128) (p : Prop) [Decidable p]
    (hp : (rv (ix2 (n0 := 8) (n1 := 1) e 0)).toInt ≤ tw.toInt ↔ p) :
    maskK (keep tw rv) v (ix2 (n0 := 8) (n1 := 128) e k) = if p then v (ix2 (n0 := 8) (n1 := 128) e k) else 0 := by
  unfold maskK Cert.KernelIdeal.Hand.keep
  pointwise
  show (if BitVec.ofBool ((rv (ix2 (n0 := 8) (n1 := 1) e 0)).sle tw) = 1#1 then _ else _) = _
  rw [BitVec.sle_eq_decide]
  by_cases h : p
  · rw [if_pos h, decide_eq_true (hp.2 h)]
    rfl
  · rw [if_neg h, decide_eq_false (fun h' => h (hp.1 h'))]
    rfl

theorem earlier (n r : ℕ) (hn : n < 2 ^ 31) (hr : r < 2 ^ 31) : (BitVec.ofNat 32 r).toInt ≤ (BitVec.ofNat 32 n).toInt ↔ r ≤ n := by
  rw [toInt_ofNat_of_lt hr, toInt_ofNat_of_lt hn]
  omega

theorem earlier' (n r : ℕ) (hn : n < 2 ^ 31) (hr : r < 2 ^ 31) : (BitVec.ofNat 32 r).toInt ≤ (Scalar.subi (BitVec.ofNat 32 n) 1#32).toInt ↔ r + 1 ≤ n := by
  rcases Nat.eq_zero_or_pos n with rfl | h
  · rw [toInt_ofNat_of_lt hr, show (Scalar.subi (BitVec.ofNat 32 0) 1#32).toInt = -1 from by decide]
    omega
  · rw [subi_ofNat (b := 1) h, earlier (n - 1) r (by omega) hr]
    omega

section
variable {c : Fixed Ideal} {x : ℕ → Vec Ideal S1x8x384 .f32} {e : Fin 8} {r N : ℕ} {gi : ℕ → Fin 384 → EReal}
  {Wh0 Wi1 Wh1 : Vec Ideal S384x128 .f32} {bh0 bi1 bh1 : Fin 384 → EReal}

/-- The first layer's row. -/
theorem chain_first (hr : r < 8) (hN : N ≤ 1000) (hrv : c.rv (ix2 (n0 := 8) (n1 := 1) e 0) = BitVec.ofNat 32 r)
    (hW0 : ∀ k j, c.W0 (ix2 (n0 := 128) (n1 := 384) k j) = Wh0 (ix2 (n0 := 384) (n1 := 128) j k)) (hb0 : ∀ j, c.b0 (ix2 (n0 := 1) (n1 := 384) 0 j) = bh0 j)
    (hx : ∀ n, n < N → r ≤ n → ∀ j, x n (ix3 (n0 := 1) (n1 := 8) (n2 := 384) 0 e j) = gi (n - r) j) :
    ∀ n, n ≤ N → (fun k => (chain c x n).1 (ix2 (n0 := 8) (n1 := 128) e k)) = state1 gi Wh0 bh0 (n - r)
  | 0, _ => by
    rw [Nat.zero_sub]
    funext k
    show k0_pay85 (F := Ideal) (ix2 (n0 := 8) (n1 := 128) e k) = 0
    unfold k0_pay85
    pointwise
  | n + 1, hn => by
    have ih := chain_first hr hN hrv hW0 hb0 hx n (by omega)
    funext k
    show maskK (Cert.KernelIdeal.Hand.keep (BitVec.ofNat 32 n) c.rv) _ _ = _
    rw [mask_at _ _ _ e k (r ≤ n) (by rw [hrv]; exact earlier n r (by omega) (by omega))]
    by_cases h : r ≤ n
    · rw [if_pos h, gates_at, ih, show n + 1 - r = n - r + 1 by omega]
      have hg : (fun j => shapeCast S8x384 (x n) shapeCasts_S1x8x384_S8x384 (ix2 (n0 := 8) (n1 := 384) e j)) = gi (n - r) := funext fun j => by
        rw [← hx n (by omega) h j]
        pointwise
      have hl : (fun j => lin c.b0 c.W0 (chain c x n).1 (ix2 (n0 := 8) (n1 := 384) e j)) = lin1 Wh0 bh0 (state1 gi Wh0 bh0 (n - r)) := funext fun j => by
        rw [lin_at, hb0, ← ih]
        simp only [hW0]
        rfl
      rw [hg, hl]
      rfl
    · rw [if_neg h, show n + 1 - r = 0 by omega]
      rfl

/-- The second layer's row, one time later. -/
theorem chain_second (hr : r < 8) (hN : N ≤ 1000) (hrv : c.rv (ix2 (n0 := 8) (n1 := 1) e 0) = BitVec.ofNat 32 r)
    (hW0 : ∀ k j, c.W0 (ix2 (n0 := 128) (n1 := 384) k j) = Wh0 (ix2 (n0 := 384) (n1 := 128) j k)) (hb0 : ∀ j, c.b0 (ix2 (n0 := 1) (n1 := 384) 0 j) = bh0 j)
    (hW1 : ∀ k j, c.W1 (ix2 (n0 := 128) (n1 := 384) k j) = Wi1 (ix2 (n0 := 384) (n1 := 128) j k)) (hb1 : ∀ j, c.b1 (ix2 (n0 := 1) (n1 := 384) 0 j) = bi1 j)
    (hW2 : ∀ k j, c.W2 (ix2 (n0 := 128) (n1 := 384) k j) = Wh1 (ix2 (n0 := 384) (n1 := 128) j k)) (hb2 : ∀ j, c.b2 (ix2 (n0 := 1) (n1 := 384) 0 j) = bh1 j)
    (hx : ∀ n, n < N → r ≤ n → ∀ j, x n (ix3 (n0 := 1) (n1 := 8) (n2 := 384) 0 e j) = gi (n - r) j) :
    ∀ n, n ≤ N + 1 → (fun k => (chain c x n).2 (ix2 (n0 := 8) (n1 := 128) e k)) = second1 (state1 gi Wh0 bh0) Wi1 Wh1 bi1 bh1 (n - (r + 1))
  | 0, _ => by
    rw [Nat.zero_sub]
    funext k
    show k0_pay85 (F := Ideal) (ix2 (n0 := 8) (n1 := 128) e k) = 0
    unfold k0_pay85
    pointwise
  | n + 1, hn => by
    have ih := chain_second hr hN hrv hW0 hb0 hW1 hb1 hW2 hb2 hx n (by omega)
    have i0 := chain_first (gi := gi) hr hN hrv hW0 hb0 hx n (by omega)
    funext k
    show maskK (Cert.KernelIdeal.Hand.keep (Scalar.subi (BitVec.ofNat 32 n) 1#32) c.rv) _ _ = _
    rw [mask_at _ _ _ e k (r + 1 ≤ n) (by rw [hrv]; exact earlier' n r (by omega) (by omega))]
    by_cases h : r + 1 ≤ n
    · rw [if_pos h, gates_at, ih, show n + 1 - (r + 1) = n - (r + 1) + 1 by omega]
      have hg : (fun j => lin c.b1 c.W1 (chain c x n).1 (ix2 (n0 := 8) (n1 := 384) e j)) = lin1 Wi1 bi1 (state1 gi Wh0 bh0 (n - (r + 1) + 1)) := funext fun j => by
        rw [lin_at, hb1, show n - (r + 1) + 1 = n - r by omega, ← i0]
        simp only [hW1]
        rfl
      have hl : (fun j => lin c.b2 c.W2 (chain c x n).2 (ix2 (n0 := 8) (n1 := 384) e j))
          = lin1 Wh1 bh1 (second1 (state1 gi Wh0 bh0) Wi1 Wh1 bi1 bh1 (n - (r + 1))) := funext fun j => by
        rw [lin_at, hb2, ← ih]
        simp only [hW2]
        rfl
      rw [hg, hl]
      rfl
    · rw [if_neg h, show n + 1 - (r + 1) = 0 by omega]
      rfl
end

/-! ## The joined biases -/

section
variable (b5 b6 b7 : Vec Ideal S128 .f32) (b10 b11 b14 b15 : Vec Ideal S384 .f32) (b17 : Vec Ideal S2 .f32)

theorem joined_at (j : Fin 1922) : joined b5 b6 b7 b10 b11 b14 b15 b17 (ix2 (n0 := 1) (n1 := 1922) 0 j)
    = if h : j.val < 128 then b5 (ix1 (n0 := 128) ⟨j.val, h⟩)
      else if h : j.val - 128 < 128 then b6 (ix1 (n0 := 128) ⟨j.val - 128, h⟩)
      else if h : j.val - 128 - 128 < 128 then b7 (ix1 (n0 := 128) ⟨j.val - 128 - 128, h⟩)
      else if h : j.val - 128 - 128 - 128 < 384 then b10 (ix1 (n0 := 384) ⟨j.val - 128 - 128 - 128, h⟩)
      else if h : j.val - 128 - 128 - 128 - 384 < 384 then b11 (ix1 (n0 := 384) ⟨j.val - 128 - 128 - 128 - 384, h⟩)
      else if h : j.val - 128 - 128 - 128 - 384 - 384 < 384 then b14 (ix1 (n0 := 384) ⟨j.val - 128 - 128 - 128 - 384 - 384, h⟩)
      else if h : j.val - 128 - 128 - 128 - 384 - 384 - 384 < 384 then b15 (ix1 (n0 := 384) ⟨j.val - 128 - 128 - 128 - 384 - 384 - 384, h⟩)
      else b17 (ix1 (n0 := 2) ⟨j.val - 128 - 128 - 128 - 384 - 384 - 384 - 384, by have := j.isLt; omega⟩) := by
  unfold joined
  pointwise

/-! Its eight parts. -/

theorem joined_b5 (k : Fin 128) : joined b5 b6 b7 b10 b11 b14 b15 b17 (ix2 (n0 := 1) (n1 := 1922) 0 ⟨k.val, by omega⟩) = b5 (ix1 (n0 := 128) k) := by
  rw [joined_at]
  dsimp only
  rw [dif_pos (by omega)]

theorem joined_b6 (k : Fin 128) : joined b5 b6 b7 b10 b11 b14 b15 b17 (ix2 (n0 := 1) (n1 := 1922) 0 ⟨128 + k.val, by omega⟩) = b6 (ix1 (n0 := 128) k) := by
  rw [joined_at]
  dsimp only
  rw [dif_neg (by omega), dif_pos (by omega)]
  exact congrArg (fun i : Fin 128 => b6 (ix1 (n0 := 128) i)) (Fin.ext (by dsimp only; omega))

theorem joined_b7 (k : Fin 128) : joined b5 b6 b7 b10 b11 b14 b15 b17 (ix2 (n0 := 1) (n1 := 1922) 0 ⟨256 + k.val, by omega⟩) = b7 (ix1 (n0 := 128) k) := by
  rw [joined_at]
  dsimp only
  rw [dif_neg (by omega), dif_neg (by omega), dif_pos (by omega)]
  exact congrArg (fun i : Fin 128 => b7 (ix1 (n0 := 128) i)) (Fin.ext (by dsimp only; omega))

theorem joined_b10 (k : Fin 384) : joined b5 b6 b7 b10 b11 b14 b15 b17 (ix2 (n0 := 1) (n1 := 1922) 0 ⟨384 + k.val, by omega⟩) = b10 (ix1 (n0 := 384) k) := by
  rw [joined_at]
  dsimp only
  rw [dif_neg (by omega), dif_neg (by omega), dif_neg (by omega), dif_pos (by omega)]
  exact congrArg (fun i : Fin 384 => b10 (ix1 (n0 := 384) i)) (Fin.ext (by dsimp only; omega))

theorem joined_b11 (k : Fin 384) : joined b5 b6 b7 b10 b11 b14 b15 b17 (ix2 (n0 := 1) (n1 := 1922) 0 ⟨768 + k.val, by omega⟩) = b11 (ix1 (n0 := 384) k) := by
  rw [joined_at]
  dsimp only
  rw [dif_neg (by omega), dif_neg (by omega), dif_neg (by omega), dif_neg (by omega), dif_pos (by omega)]
  exact congrArg (fun i : Fin 384 => b11 (ix1 (n0 := 384) i)) (Fin.ext (by dsimp only; omega))

theorem joined_b14 (k : Fin 384) : joined b5 b6 b7 b10 b11 b14 b15 b17 (ix2 (n0 := 1) (n1 := 1922) 0 ⟨1152 + k.val, by omega⟩) = b14 (ix1 (n0 := 384) k) := by
  rw [joined_at]
  dsimp only
  rw [dif_neg (by omega), dif_neg (by omega), dif_neg (by omega), dif_neg (by omega), dif_neg (by omega), dif_pos (by omega)]
  exact congrArg (fun i : Fin 384 => b14 (ix1 (n0 := 384) i)) (Fin.ext (by dsimp only; omega))

theorem joined_b15 (k : Fin 384) : joined b5 b6 b7 b10 b11 b14 b15 b17 (ix2 (n0 := 1) (n1 := 1922) 0 ⟨1536 + k.val, by omega⟩) = b15 (ix1 (n0 := 384) k) := by
  rw [joined_at]
  dsimp only
  rw [dif_neg (by omega), dif_neg (by omega), dif_neg (by omega), dif_neg (by omega), dif_neg (by omega), dif_neg (by omega), dif_pos (by omega)]
  exact congrArg (fun i : Fin 384 => b15 (ix1 (n0 := 384) i)) (Fin.ext (by dsimp only; omega))

theorem joined_b17 (k : Fin 2) : joined b5 b6 b7 b10 b11 b14 b15 b17 (ix2 (n0 := 1) (n1 := 1922) 0 ⟨1920 + k.val, by omega⟩) = b17 (ix1 (n0 := 2) k) := by
  rw [joined_at]
  dsimp only
  rw [dif_neg (by omega), dif_neg (by omega), dif_neg (by omega), dif_neg (by omega), dif_neg (by omega), dif_neg (by omega), dif_neg (by omega)]
  exact congrArg (fun i : Fin 2 => b17 (ix1 (n0 := 2) i)) (Fin.ext (by dsimp only; omega))

end

/-! ## The answer -/

section
variable {ent : ℕ → BitVec 32} {A1 : Vec Ideal S2048x4x256 .f32} {A2 : Vec Ideal S1x1922 .f32} {A3 : Vec Ideal S128x512 .f32} {A4 A5 A6 A7 : Vec Ideal S384x128 .f32}
  {A8 : Vec Ideal S2x128 .f32}

theorem first_bias (A2 : Vec Ideal S1x1922 .f32) (j : Fin 384) :
    k0_pay70 (VecWindow.window (s := S1x1922) A2 ![0, 768] S1x384.size inb_S1x1922_S1x384_0_768) (ix2 (n0 := 1) (n1 := 384) 0 j)
      = A2 (ix2 (n0 := 1) (n1 := 1922) 0 ⟨768 + j.val, by omega⟩) := by
  have hb := bias_at A2 768 384 inb_S1x1922_S1x384_0_768 j (by omega)
  unfold k0_pay70
  pointwise
  exact hb

theorem second_bias (A2 : Vec Ideal S1x1922 .f32) (j : Fin 384) :
    k0_pay71 (VecWindow.window (s := S1x1922) A2 ![0, 1152] S1x384.size inb_S1x1922_S1x384_0_1152) (ix2 (n0 := 1) (n1 := 384) 0 j)
      = A2 (ix2 (n0 := 1) (n1 := 1922) 0 ⟨1152 + j.val, by omega⟩) := by
  have hb := bias_at A2 1152 384 inb_S1x1922_S1x384_0_1152 j (by omega)
  unfold k0_pay71
  pointwise
  exact hb

theorem third_bias (A2 : Vec Ideal S1x1922 .f32) (j : Fin 384) :
    k0_pay72 (VecWindow.window (s := S1x1922) A2 ![0, 1536] S1x384.size inb_S1x1922_S1x384_0_1536) (ix2 (n0 := 1) (n1 := 384) 0 j)
      = A2 (ix2 (n0 := 1) (n1 := 1922) 0 ⟨1536 + j.val, by omega⟩) := by
  have hb := bias_at A2 1536 384 inb_S1x1922_S1x384_0_1536 j (by omega)
  unfold k0_pay72
  pointwise
  exact hb

theorem tokens_chain (i : Fin 2048) (e : Fin 8) (he : (ent i.val).toNat = e.val) (k : Fin 128) :
    tokens ent A1 A2 A3 A4 A5 A6 A7 (ix2 (n0 := 2048) (n1 := 128) i k)
      = (chain (consts ent A2 A5 A6 A7) (packed A1 A2 A3 A4 (seg ent)) (i.val - start (seg ent) e.val + 2)).2 (ix2 (n0 := 8) (n1 := 128) e k) := by
  have hm : (⟨(ent i.val).toNat % 8, Nat.mod_lt _ (by decide)⟩ : Fin 8) = e := Fin.ext (by show _ % 8 = _; rw [he]; exact Nat.mod_eq_of_lt e.isLt)
  rw [← he]
  exact congrArg (fun u : Fin 8 => (chain (consts ent A2 A5 A6 A7) (packed A1 A2 A3 A4 (seg ent)) (i.val - start (seg ent) (ent i.val).toNat + 2)).2
    (ix2 (n0 := 8) (n1 := 128) u k)) hm

theorem consts_rv (h : Segs ent) (e : Fin 8) : (consts ent A2 A5 A6 A7).rv (ix2 (n0 := 8) (n1 := 1) e 0) = BitVec.ofNat 32 (seg ent e.val % 8) :=
  (starts_at (fun e => BitVec.ofNat 32 (seg ent e)) e).trans (lead_ofNat (seg_spec h e.val).1)

theorem consts_W0 (k : Fin 128) (j : Fin 384) : (consts ent A2 A5 A6 A7).W0 (ix2 (n0 := 128) (n1 := 384) k j) = A5 (ix2 (n0 := 384) (n1 := 128) j k) := flip0_at A5 k j
theorem consts_W1 (k : Fin 128) (j : Fin 384) : (consts ent A2 A5 A6 A7).W1 (ix2 (n0 := 128) (n1 := 384) k j) = A6 (ix2 (n0 := 384) (n1 := 128) j k) := flip1_at A6 k j
theorem consts_W2 (k : Fin 128) (j : Fin 384) : (consts ent A2 A5 A6 A7).W2 (ix2 (n0 := 128) (n1 := 384) k j) = A7 (ix2 (n0 := 384) (n1 := 128) j k) := flip2_at A7 k j
theorem consts_b0 (j : Fin 384) : (consts ent A2 A5 A6 A7).b0 (ix2 (n0 := 1) (n1 := 384) 0 j) = A2 (ix2 (n0 := 1) (n1 := 1922) 0 ⟨768 + j.val, by omega⟩) := first_bias A2 j
theorem consts_b1 (j : Fin 384) : (consts ent A2 A5 A6 A7).b1 (ix2 (n0 := 1) (n1 := 384) 0 j) = A2 (ix2 (n0 := 1) (n1 := 1922) 0 ⟨1152 + j.val, by omega⟩) := second_bias A2 j
theorem consts_b2 (j : Fin 384) : (consts ent A2 A5 A6 A7).b2 (ix2 (n0 := 1) (n1 := 384) 0 j) = A2 (ix2 (n0 := 1) (n1 := 1922) 0 ⟨1536 + j.val, by omega⟩) := third_bias A2 j

theorem start_add (e : ℕ) : start (seg ent) e + seg ent e % 8 = seg ent e := by
  unfold start
  omega

/-- A row of the packed inputs. -/
theorem packed_at (f : ℕ → Fin 128 → EReal) (bi0 : Fin 384 → EReal)
    (hf : ∀ (i : ℕ) (hi : i < 2048) (j : Fin 384), prod A1 A2 A3 A4 (ix2 (n0 := 2048) (n1 := 384) ⟨i, hi⟩ j) = lin1 A4 bi0 (f i) j)
    (e : Fin 8) (n : ℕ) (hp : start (seg ent) e.val + n < 2048) (hr : seg ent e.val % 8 ≤ n) (j : Fin 384) :
    packed A1 A2 A3 A4 (seg ent) n (ix3 (n0 := 1) (n1 := 8) (n2 := 384) 0 e j) = lin1 A4 bi0 (f (seg ent e.val + (n - seg ent e.val % 8))) j := by
  show gin A1 A2 A3 A4 (start (seg ent) e.val + n) j = _
  have := start_add (ent := ent) e.val
  unfold gin
  rw [dif_pos hp, hf _ hp, show seg ent e.val + (n - seg ent e.val % 8) = start (seg ent) e.val + n by omega]

/-- A token's row of the second layer. -/
theorem tokens_at (h : Segs ent) (f : ℕ → Fin 128 → EReal) (bi0 bh0 bi1 bh1 : Fin 384 → EReal)
    (hf : ∀ (i : ℕ) (hi : i < 2048) (j : Fin 384), prod A1 A2 A3 A4 (ix2 (n0 := 2048) (n1 := 384) ⟨i, hi⟩ j) = lin1 A4 bi0 (f i) j)
    (hb0 : ∀ j : Fin 384, A2 (ix2 (n0 := 1) (n1 := 1922) 0 ⟨768 + j.val, by omega⟩) = bh0 j)
    (hb1 : ∀ j : Fin 384, A2 (ix2 (n0 := 1) (n1 := 1922) 0 ⟨1152 + j.val, by omega⟩) = bi1 j)
    (hb2 : ∀ j : Fin 384, A2 (ix2 (n0 := 1) (n1 := 1922) 0 ⟨1536 + j.val, by omega⟩) = bh1 j)
    (i : Fin 2048) (e : Fin 8) (he : (ent i.val).toNat = e.val) (k : Fin 128) :
    tokens ent A1 A2 A3 A4 A5 A6 A7 (ix2 (n0 := 2048) (n1 := 128) i k)
      = second1 (first1 ent f A4 A5 bi0 bh0 e.val) A6 A7 bi1 bh1 (i.val - seg ent e.val + 1) k := by
  have hi := i.isLt
  have hs := seg_spec h e.val
  have hse : seg ent e.val ≤ i.val := by
    have := (hs.2 i.val hi)
    omega
  have hgap : i.val < seg ent e.val + 512 := by
    have h1 := ((fits_seg h).mono e.val).2
    have h2 := (seg_spec h (e.val + 1)).2 i.val hi
    omega
  have hst := start_add (ent := ent) e.val
  rw [tokens_chain i e he k]
  generalize hN : i.val - start (seg ent) e.val + 1 = N
  have hc := chain_second (gi := fun t => lin1 A4 bi0 (f (seg ent e.val + t))) (N := N) (Nat.mod_lt _ (by decide)) (by omega)
    (consts_rv (A2 := A2) (A5 := A5) (A6 := A6) (A7 := A7) h e) consts_W0 (fun j => (consts_b0 j).trans (hb0 j)) consts_W1 (fun j => (consts_b1 j).trans (hb1 j))
    consts_W2 (fun j => (consts_b2 j).trans (hb2 j)) (fun n hn hr j => packed_at f bi0 hf e n (by omega) hr j) (N + 1) le_rfl
  rw [show N + 1 - (seg ent e.val % 8 + 1) = i.val - seg ent e.val + 1 by omega] at hc
  rw [show i.val - start (seg ent) e.val + 2 = N + 1 by omega]
  exact congrFun hc k

/-- The answer at a token and a class. -/
theorem answer_at (i : Fin 2048) (o : Fin 2) :
    answer ent A1 A2 A3 A4 A5 A6 A7 A8 (ix2 (n0 := 2048) (n1 := 2) i o)
      = (∑ k : Fin 128, tokens ent A1 A2 A3 A4 A5 A6 A7 (ix2 (n0 := 2048) (n1 := 128) i k) * A8 (ix2 (n0 := 2) (n1 := 128) o k))
        + A2 (ix2 (n0 := 1) (n1 := 1922) 0 ⟨1920 + o.val, by omega⟩) := by
  have hb := fun (h) => bias_at A2 1920 2 h o (by omega)
  unfold answer k0_pay73
  pointwise
  exact congrArg _ (hb _)
end

end Cert.Both

end
-- ==== Proof.Values.lean ====
/- The kernel and the reference, from the same arguments, end with the same result over the extended reals. -/
module

public import proofs.«01_k».proof.Defs
public import proofs.«01_k».proof.Proof.KerRows
public import proofs.«01_k».proof.Proof.Same
public import proofs.«01_k».proof.Proof.RefFrame

@[expose] public section

set_option maxRecDepth 100000

noncomputable section

namespace Cert.Both

open Idealize.ShloMosaic Idealize.ShloMosaic.TcCoe Idealize.ShloMosaic.Tactic
open Cert.KernelIdeal.Hand (Segs seg entOf typeCol joined answer)
open Cert.ReferenceIdeal (S2048x4x256 S2048x2 S128x512 S128 S384x128 S384 S2x128 S2)

section
variable (a0 : Vec Ideal S2048x4x256 .f32) (a3 : IVec S2048x2 32) (a4 : Vec Ideal S128x512 .f32) (a5 a6 a7 : Vec Ideal S128 .f32) (a8 a9 : Vec Ideal S384x128 .f32)
  (a10 a11 : Vec Ideal S384 .f32) (a12 a13 : Vec Ideal S384x128 .f32) (a14 a15 : Vec Ideal S384 .f32) (a16 : Vec Ideal S2x128 .f32) (a17 : Vec Ideal S2 .f32)

/-- The result at a token and a class, from the arguments. -/
def outcome (i : Fin 2048) (o : Fin 2) : EReal :=
  (∑ k : Fin 128, second1 (first1 (entOf (typeCol a3)) (featAt (Cert.ReferenceIdeal.Hand.featsR a0 a4 a5 a6 a7)) a8 a9 (vec a10) (vec a11)
      (entOf (typeCol a3) i.val).toNat) a12 a13 (vec a14) (vec a15) (i.val - seg (entOf (typeCol a3)) (entOf (typeCol a3) i.val).toNat + 1) k
      * a16 (ix2 (n0 := 2) (n1 := 128) o k)) + a17 (ix1 (n0 := 2) o)

variable {a0 a3 a4 a5 a6 a7 a8 a9 a10 a11 a12 a13 a14 a15 a16 a17}

/-- The kernel's input products are the first layer's input part of the reference's features. -/
theorem products_eq (i : ℕ) (hi : i < 2048) (j : Fin 384) :
    Cert.KernelIdeal.Hand.prod a0 (joined a5 a6 a7 a10 a11 a14 a15 a17) a4 a8 (ix2 (n0 := 2048) (n1 := 384) ⟨i, hi⟩ j)
      = lin1 a8 (vec a10) (featAt (Cert.ReferenceIdeal.Hand.featsR a0 a4 a5 a6 a7) i) j := by
  rw [prod_at]
  have hb : (fun j : Fin 384 => joined a5 a6 a7 a10 a11 a14 a15 a17 (ix2 (n0 := 1) (n1 := 1922) 0 ⟨384 + j.val, by omega⟩)) = vec a10 :=
    funext fun j => joined_b10 a5 a6 a7 a10 a11 a14 a15 a17 j
  have h5 : (fun c : Fin 128 => joined a5 a6 a7 a10 a11 a14 a15 a17 (ix2 (n0 := 1) (n1 := 1922) 0 ⟨c.val, by omega⟩)) = fun c => a5 (ix1 (n0 := 128) c) :=
    funext fun c => joined_b5 a5 a6 a7 a10 a11 a14 a15 a17 c
  have h6 : (fun c : Fin 128 => joined a5 a6 a7 a10 a11 a14 a15 a17 (ix2 (n0 := 1) (n1 := 1922) 0 ⟨128 + c.val, by omega⟩)) = fun c => a6 (ix1 (n0 := 128) c) :=
    funext fun c => joined_b6 a5 a6 a7 a10 a11 a14 a15 a17 c
  have h7 : (fun c : Fin 128 => joined a5 a6 a7 a10 a11 a14 a15 a17 (ix2 (n0 := 1) (n1 := 1922) 0 ⟨256 + c.val, by omega⟩)) = fun c => a7 (ix1 (n0 := 128) c) :=
    funext fun c => joined_b7 a5 a6 a7 a10 a11 a14 a15 a17 c
  rw [hb, h5, h6, h7]
  refine congrArg (fun f => lin1 a8 (vec a10) f j) (funext fun c => ?_)
  unfold featAt
  rw [dif_pos hi, featsR_at]

/-- The kernel's answer. -/
theorem answer_outcome (h : Segs (entOf (typeCol a3))) (i : Fin 2048) (o : Fin 2) :
    answer (entOf (typeCol a3)) a0 (joined a5 a6 a7 a10 a11 a14 a15 a17) a4 a8 a9 a12 a13 a16 (ix2 (n0 := 2048) (n1 := 2) i o)
      = outcome a0 a3 a4 a5 a6 a7 a8 a9 a10 a11 a12 a13 a14 a15 a16 a17 i o := by
  have ht := fun k => tokens_at (A1 := a0) (A2 := joined a5 a6 a7 a10 a11 a14 a15 a17) (A3 := a4) (A4 := a8) (A5 := a9) (A6 := a12) (A7 := a13) h
    (featAt (Cert.ReferenceIdeal.Hand.featsR a0 a4 a5 a6 a7)) (vec a10) (vec a11) (vec a14) (vec a15) products_eq
    (fun j => joined_b11 a5 a6 a7 a10 a11 a14 a15 a17 j) (fun j => joined_b14 a5 a6 a7 a10 a11 a14 a15 a17 j) (fun j => joined_b15 a5 a6 a7 a10 a11 a14 a15 a17 j)
    i ⟨(entOf (typeCol a3) i.val).toNat, by have := h.le7 i.val i.isLt; omega⟩ rfl k
  rw [answer_at]
  simp only [ht]
  exact congrArg _ (joined_b17 a5 a6 a7 a10 a11 a14 a15 a17 o)
end

/-- The reference's result. -/
theorem reference_outcome (m : (ℓ : Loc Cert.ReferenceIdeal.nD Cert.ReferenceIdeal.τ Cert.ReferenceIdeal.sig) → Buf (Elt Ideal) ℓ) (c : Dev Cert.ReferenceIdeal.nD)
    (h : Segs (entsR m c)) (i : Fin 2048) (o : Fin 2) :
    (Cert.ReferenceIdeal.Hand.final m c (Proc.devRef .tc Cert.ReferenceIdeal.main_v101) : Vec Ideal S2048x2 .f32) (ix2 (n0 := 2048) (n1 := 2) i o)
      = outcome (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10))
          (m ((c.tc : Thread Cert.ReferenceIdeal.nD Cert.ReferenceIdeal.τ).loc Cert.ReferenceIdeal.main_arg11))
          (m ((c.tc : Thread Cert.ReferenceIdeal.nD Cert.ReferenceIdeal.τ).loc Cert.ReferenceIdeal.main_arg12))
          (m ((c.tc : Thread Cert.ReferenceIdeal.nD Cert.ReferenceIdeal.τ).loc Cert.ReferenceIdeal.main_arg13))
          (m ((c.tc : Thread Cert.ReferenceIdeal.nD Cert.ReferenceIdeal.τ).loc Cert.ReferenceIdeal.main_arg14))
          (m ((c.tc : Thread Cert.ReferenceIdeal.nD Cert.ReferenceIdeal.τ).loc Cert.ReferenceIdeal.main_arg15))
          (m ((c.tc : Thread Cert.ReferenceIdeal.nD Cert.ReferenceIdeal.τ).loc Cert.ReferenceIdeal.main_arg16))
          (m ((c.tc : Thread Cert.ReferenceIdeal.nD Cert.ReferenceIdeal.τ).loc Cert.ReferenceIdeal.main_arg17)) i o :=
  reference_at h i o ⟨(entsR m c i.val).toNat, by have := h.le7 i.val i.isLt; omega⟩ rfl

end Cert.Both

namespace Cert.Proof

open Idealize.ShloMosaic Idealize.ShloMosaic.TcCoe Idealize.ShloMosaic.Tactic Idealize.SL.Sem
open Cert.Both

/-- The two results are one array. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Cert.KernelIdeal.Hand.Segs (Cert.KernelIdeal.Hand.entOf (Cert.KernelIdeal.Hand.typeCol
      (m ((c.tc : Thread Cert.KernelIdeal.nD Cert.KernelIdeal.τ).loc Cert.KernelIdeal.main_arg3)))))
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (e15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (e16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (e17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) :
    (Cert.ReferenceIdeal.Hand.final m' c (Proc.devRef .tc Cert.ReferenceIdeal.main_v101) : Vec Ideal Cert.ReferenceIdeal.S2048x2 .f32)
      = Cert.KernelIdeal.Hand.result m c := by
  funext y
  obtain ⟨i, o, rfl⟩ : ∃ (i : Fin 2048) (o : Fin 2), y = ix2 (n0 := 2048) (n1 := 2) i o := ⟨y 0, y 1, eq_ix2 y⟩
  have h' : Cert.KernelIdeal.Hand.Segs (entsR m' c) := by
    show Cert.KernelIdeal.Hand.Segs (Cert.KernelIdeal.Hand.entOf (Cert.KernelIdeal.Hand.typeCol
      (m' ((c.tc : Thread Cert.ReferenceIdeal.nD Cert.ReferenceIdeal.τ).loc Cert.ReferenceIdeal.main_arg3))))
    rw [e3]
    exact h
  unfold Cert.KernelIdeal.Hand.result
  rw [reference_outcome m' c h', e0, e3, e4, e5, e6, e7, e8, e9, e10, e11, e12, e13, e14, e15, e16, e17, Cert.KernelIdeal.Hand.V_v1]
  exact (answer_outcome h i o).symm

theorem algebraic : Cert.algebraic_KernelIdeal_ReferenceIdeal (hKernelIdeal := Cert.KernelIdeal.Gen.facts) (hReferenceIdeal := Cert.ReferenceIdeal.Gen.facts)
    (hPre_segments_fit := Cert.Pre_segments_fit.Gen.facts) := fun m g m' g' hpre hargs => by
  have hs : ∀ c : Dev Cert.KernelIdeal.nD, Cert.KernelIdeal.Hand.Segs (Cert.KernelIdeal.Hand.entOf (Cert.KernelIdeal.Hand.typeCol
      (m ((c.tc : Thread Cert.KernelIdeal.nD Cert.KernelIdeal.τ).loc Cert.KernelIdeal.main_arg3)))) := fun c => Cert.KernelIdeal.Hand.segs_of_fn (hpre c)
  refine ⟨fun c => Cert.KernelIdeal.Hand.result m c, ?_, ?_⟩
  · exact (θ_run _ _ _).mono (fun r h c => ⟨h.1 c, h.2.1 c⟩)
      (θ_run_and (Cert.KernelIdeal.Hand.value_run m g (Cert.KernelIdeal.Hand.segsOK_of m hs)) (frame_KernelIdeal m g hpre))
  · refine (θ_run _ _ _).mono (fun r h c => ⟨?_, h.2.1 c⟩) (θ_run_and (Cert.ReferenceIdeal.Hand.run_fold (F := Ideal) m' g') (frame_ReferenceIdeal m' g' trivial))
    obtain ⟨e0, -, -, e3, e4, e5, e6, e7, e8, e9, e10, e11, e12, e13, e14, e15, e16, e17⟩ := hargs c
    exact (h.1 c _ rfl).trans (results_eq m m' c (hs c) e0 e3 e4 e5 e6 e7 e8 e9 e10 e11 e12 e13 e14 e15 e16 e17)

end Cert.Proof

end
-- ==== Proof.lean ====
module

public import proofs.«01_k».proof.Defs
public import proofs.«01_k».proof.Proof.Same
public import proofs.«01_k».proof.Proof.RefFrame
public import proofs.«01_k».proof.Proof.Values
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts, Cert.Pre_segments_fit.Gen.facts,
  frame_Kernel, frame_KernelIdeal, frame_ReferenceIdeal, fun m g _ => frame_ReferenceIdeal m g trivial, trivial, algebraic⟩

end Cert.Proof

end
